-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1RefIdeal (m : (ℓ : Loc Cert.Merge1RefIdeal.nD Cert.Merge1RefIdeal.τ Cert.Merge1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4)
      ∧ r.2.mem ((c.tc : Thread Cert.Merge1.nD Cert.Merge1.τ).loc Cert.Merge1.main_arg5) = m ((c.tc : Thread Cert.Merge1.nD Cert.Merge1.τ).loc Cert.Merge1.main_arg5)
      ∧ r.2.mem ((c.tc : Thread Cert.Merge1.nD Cert.Merge1.τ).loc Cert.Merge1.main_arg6) = m ((c.tc : Thread Cert.Merge1.nD Cert.Merge1.τ).loc Cert.Merge1.main_arg6)
      ∧ r.2.mem ((c.tc : Thread Cert.Merge1.nD Cert.Merge1.τ).loc Cert.Merge1.main_arg7) = m ((c.tc : Thread Cert.Merge1.nD Cert.Merge1.τ).loc Cert.Merge1.main_arg7)
      ∧ r.2.mem ((c.tc : Thread Cert.Merge1.nD Cert.Merge1.τ).loc Cert.Merge1.main_arg8) = m ((c.tc : Thread Cert.Merge1.nD Cert.Merge1.τ).loc Cert.Merge1.main_arg8)
      ∧ r.2.mem ((c.tc : Thread Cert.Merge1.nD Cert.Merge1.τ).loc Cert.Merge1.main_arg9) = m ((c.tc : Thread Cert.Merge1.nD Cert.Merge1.τ).loc Cert.Merge1.main_arg9)
      ∧ r.2.mem ((c.tc : Thread Cert.Merge1.nD Cert.Merge1.τ).loc Cert.Merge1.main_arg10) = m ((c.tc : Thread Cert.Merge1.nD Cert.Merge1.τ).loc Cert.Merge1.main_arg10)
      ∧ r.2.mem ((c.tc : Thread Cert.Merge1.nD Cert.Merge1.τ).loc Cert.Merge1.main_arg11) = m ((c.tc : Thread Cert.Merge1.nD Cert.Merge1.τ).loc Cert.Merge1.main_arg11)
      ∧ r.2.mem ((c.tc : Thread Cert.Merge1.nD Cert.Merge1.τ).loc Cert.Merge1.main_arg12) = m ((c.tc : Thread Cert.Merge1.nD Cert.Merge1.τ).loc Cert.Merge1.main_arg12)
      ∧ r.2.mem ((c.tc : Thread Cert.Merge1.nD Cert.Merge1.τ).loc Cert.Merge1.main_arg13) = m ((c.tc : Thread Cert.Merge1.nD Cert.Merge1.τ).loc Cert.Merge1.main_arg13))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
      ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
      ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
      ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7)
      ∧ r.2.mem ((c.tc : Thread Cert.Merge1Ideal.nD Cert.Merge1Ideal.τ).loc Cert.Merge1Ideal.main_arg8) = m ((c.tc : Thread Cert.Merge1Ideal.nD Cert.Merge1Ideal.τ).loc Cert.Merge1Ideal.main_arg8)
      ∧ r.2.mem ((c.tc : Thread Cert.Merge1Ideal.nD Cert.Merge1Ideal.τ).loc Cert.Merge1Ideal.main_arg9) = m ((c.tc : Thread Cert.Merge1Ideal.nD Cert.Merge1Ideal.τ).loc Cert.Merge1Ideal.main_arg9)
      ∧ r.2.mem ((c.tc : Thread Cert.Merge1Ideal.nD Cert.Merge1Ideal.τ).loc Cert.Merge1Ideal.main_arg10) = m ((c.tc : Thread Cert.Merge1Ideal.nD Cert.Merge1Ideal.τ).loc Cert.Merge1Ideal.main_arg10)
      ∧ r.2.mem ((c.tc : Thread Cert.Merge1Ideal.nD Cert.Merge1Ideal.τ).loc Cert.Merge1Ideal.main_arg11) = m ((c.tc : Thread Cert.Merge1Ideal.nD Cert.Merge1Ideal.τ).loc Cert.Merge1Ideal.main_arg11)
      ∧ r.2.mem ((c.tc : Thread Cert.Merge1Ideal.nD Cert.Merge1Ideal.τ).loc Cert.Merge1Ideal.main_arg12) = m ((c.tc : Thread Cert.Merge1Ideal.nD Cert.Merge1Ideal.τ).loc Cert.Merge1Ideal.main_arg12)
      ∧ r.2.mem ((c.tc : Thread Cert.Merge1Ideal.nD Cert.Merge1Ideal.τ).loc Cert.Merge1Ideal.main_arg13) = m ((c.tc : Thread Cert.Merge1Ideal.nD Cert.Merge1Ideal.τ).loc Cert.Merge1Ideal.main_arg13))
      ∧ r.2.sem = fun _ => 0)

def quiescent_Merge1RefIdeal [hMerge1RefIdeal : Cert.Merge1RefIdeal.Facts] : Prop :=
  ∀ (m : (ℓ : Loc Cert.Merge1RefIdeal.nD Cert.Merge1RefIdeal.τ Cert.Merge1RefIdeal.sig) → Buf (Elt Ideal) ℓ) (g : Dev Cert.Merge1RefIdeal.nD → PrngReg), Pre_Merge1RefIdeal m →
    θ_run (Cert.Merge1RefIdeal.defs (F := Ideal)) (onTc (τ := Cert.Merge1RefIdeal.τ) (Cert.Merge1RefIdeal.main (F := Ideal))) ⟨m, fun _ => 0, g⟩ (fun r => (∀ c : Dev Cert.Merge1RefIdeal.nD,
      r.2.mem ((c.tc : Thread Cert.Merge1RefIdeal.nD Cert.Merge1RefIdeal.τ).loc Cert.Merge1RefIdeal.main_arg0) = m ((c.tc : Thread Cert.Merge1RefIdeal.nD Cert.Merge1RefIdeal.τ).loc Cert.Merge1RefIdeal.main_arg0)
      ∧ r.2.mem ((c.tc : Thread Cert.Merge1RefIdeal.nD Cert.Merge1RefIdeal.τ).loc Cert.Merge1RefIdeal.main_arg1) = m ((c.tc : Thread Cert.Merge1RefIdeal.nD Cert.Merge1RefIdeal.τ).loc Cert.Merge1RefIdeal.main_arg1)
      ∧ r.2.mem ((c.tc : Thread Cert.Merge1RefIdeal.nD Cert.Merge1RefIdeal.τ).loc Cert.Merge1RefIdeal.main_arg2) = m ((c.tc : Thread Cert.Merge1RefIdeal.nD Cert.Merge1RefIdeal.τ).loc Cert.Merge1RefIdeal.main_arg2)
      ∧ r.2.mem ((c.tc : Thread Cert.Merge1RefIdeal.nD Cert.Merge1RefIdeal.τ).loc Cert.Merge1RefIdeal.main_arg3) = m ((c.tc : Thread Cert.Merge1RefIdeal.nD Cert.Merge1RefIdeal.τ).loc Cert.Merge1RefIdeal.main_arg3)
      ∧ r.2.mem ((c.tc : Thread Cert.Merge1RefIdeal.nD Cert.Merge1RefIdeal.τ).loc Cert.Merge1RefIdeal.main_arg4) = m ((c.tc : Thread Cert.Merge1RefIdeal.nD Cert.Merge1RefIdeal.τ).loc Cert.Merge1RefIdeal.main_arg4)
      ∧ r.2.mem ((c.tc : Thread Cert.Merge1RefIdeal.nD Cert.Merge1RefIdeal.τ).loc Cert.Merge1RefIdeal.main_arg5) = m ((c.tc : Thread Cert.Merge1RefIdeal.nD Cert.Merge1RefIdeal.τ).loc Cert.Merge1RefIdeal.main_arg5)
      ∧ r.2.mem ((c.tc : Thread Cert.Merge1RefIdeal.nD Cert.Merge1RefIdeal.τ).loc Cert.Merge1RefIdeal.main_arg6) = m ((c.tc : Thread Cert.Merge1RefIdeal.nD Cert.Merge1RefIdeal.τ).loc Cert.Merge1RefIdeal.main_arg6)
      ∧ r.2.mem ((c.tc : Thread Cert.Merge1RefIdeal.nD Cert.Merge1RefIdeal.τ).loc Cert.Merge1RefIdeal.main_arg7) = m ((c.tc : Thread Cert.Merge1RefIdeal.nD Cert.Merge1RefIdeal.τ).loc Cert.Merge1RefIdeal.main_arg7)
      ∧ r.2.mem ((c.tc : Thread Cert.Merge1RefIdeal.nD Cert.Merge1RefIdeal.τ).loc Cert.Merge1RefIdeal.main_arg8) = m ((c.tc : Thread Cert.Merge1RefIdeal.nD Cert.Merge1RefIdeal.τ).loc Cert.Merge1RefIdeal.main_arg8)
      ∧ r.2.mem ((c.tc : Thread Cert.Merge1RefIdeal.nD Cert.Merge1RefIdeal.τ).loc Cert.Merge1RefIdeal.main_arg9) = m ((c.tc : Thread Cert.Merge1RefIdeal.nD Cert.Merge1RefIdeal.τ).loc Cert.Merge1RefIdeal.main_arg9)
      ∧ r.2.mem ((c.tc : Thread Cert.Merge1RefIdeal.nD Cert.Merge1RefIdeal.τ).loc Cert.Merge1RefIdeal.main_arg10) = m ((c.tc : Thread Cert.Merge1RefIdeal.nD Cert.Merge1RefIdeal.τ).loc Cert.Merge1RefIdeal.main_arg10)
      ∧ r.2.mem ((c.tc : Thread Cert.Merge1RefIdeal.nD Cert.Merge1RefIdeal.τ).loc Cert.Merge1RefIdeal.main_arg11) = m ((c.tc : Thread Cert.Merge1RefIdeal.nD Cert.Merge1RefIdeal.τ).loc Cert.Merge1RefIdeal.main_arg11)
      ∧ r.2.mem ((c.tc : Thread Cert.Merge1RefIdeal.nD Cert.Merge1RefIdeal.τ).loc Cert.Merge1RefIdeal.main_arg12) = m ((c.tc : Thread Cert.Merge1RefIdeal.nD Cert.Merge1RefIdeal.τ).loc Cert.Merge1RefIdeal.main_arg12)
      ∧ r.2.mem ((c.tc : Thread Cert.Merge1RefIdeal.nD Cert.Merge1RefIdeal.τ).loc Cert.Merge1RefIdeal.main_arg13) = m ((c.tc : Thread Cert.Merge1RefIdeal.nD Cert.Merge1RefIdeal.τ).loc Cert.Merge1RefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v106) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Merge1_Merge1Ideal : Prop :=
  True

def algebraic_Merge1Ideal_Merge1RefIdeal [hMerge1Ideal : Cert.Merge1Ideal.Facts] [hMerge1RefIdeal : Cert.Merge1RefIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1RefIdeal.nD Cert.Merge1RefIdeal.τ Cert.Merge1RefIdeal.sig) → Buf (Elt Ideal) ℓ) (g' : Dev Cert.Merge1RefIdeal.nD → PrngReg), Pre_Merge1Ideal m →
    (∀ c : Dev Cert.Merge1Ideal.nD,
      m' ((c.tc : Thread Cert.Merge1RefIdeal.nD Cert.Merge1RefIdeal.τ).loc Cert.Merge1RefIdeal.main_arg0) = m ((c.tc : Thread Cert.Merge1Ideal.nD Cert.Merge1Ideal.τ).loc Cert.Merge1Ideal.main_arg0)
      ∧ m' ((c.tc : Thread Cert.Merge1RefIdeal.nD Cert.Merge1RefIdeal.τ).loc Cert.Merge1RefIdeal.main_arg1) = m ((c.tc : Thread Cert.Merge1Ideal.nD Cert.Merge1Ideal.τ).loc Cert.Merge1Ideal.main_arg1)
      ∧ m' ((c.tc : Thread Cert.Merge1RefIdeal.nD Cert.Merge1RefIdeal.τ).loc Cert.Merge1RefIdeal.main_arg2) = m ((c.tc : Thread Cert.Merge1Ideal.nD Cert.Merge1Ideal.τ).loc Cert.Merge1Ideal.main_arg2)
      ∧ m' ((c.tc : Thread Cert.Merge1RefIdeal.nD Cert.Merge1RefIdeal.τ).loc Cert.Merge1RefIdeal.main_arg3) = m ((c.tc : Thread Cert.Merge1Ideal.nD Cert.Merge1Ideal.τ).loc Cert.Merge1Ideal.main_arg3)
      ∧ m' ((c.tc : Thread Cert.Merge1RefIdeal.nD Cert.Merge1RefIdeal.τ).loc Cert.Merge1RefIdeal.main_arg4) = m ((c.tc : Thread Cert.Merge1Ideal.nD Cert.Merge1Ideal.τ).loc Cert.Merge1Ideal.main_arg4)
      ∧ m' ((c.tc : Thread Cert.Merge1RefIdeal.nD Cert.Merge1RefIdeal.τ).loc Cert.Merge1RefIdeal.main_arg5) = m ((c.tc : Thread Cert.Merge1Ideal.nD Cert.Merge1Ideal.τ).loc Cert.Merge1Ideal.main_arg5)
      ∧ m' ((c.tc : Thread Cert.Merge1RefIdeal.nD Cert.Merge1RefIdeal.τ).loc Cert.Merge1RefIdeal.main_arg6) = m ((c.tc : Thread Cert.Merge1Ideal.nD Cert.Merge1Ideal.τ).loc Cert.Merge1Ideal.main_arg6)
      ∧ m' ((c.tc : Thread Cert.Merge1RefIdeal.nD Cert.Merge1RefIdeal.τ).loc Cert.Merge1RefIdeal.main_arg7) = m ((c.tc : Thread Cert.Merge1Ideal.nD Cert.Merge1Ideal.τ).loc Cert.Merge1Ideal.main_arg7)
      ∧ m' ((c.tc : Thread Cert.Merge1RefIdeal.nD Cert.Merge1RefIdeal.τ).loc Cert.Merge1RefIdeal.main_arg8) = m ((c.tc : Thread Cert.Merge1Ideal.nD Cert.Merge1Ideal.τ).loc Cert.Merge1Ideal.main_arg8)
      ∧ m' ((c.tc : Thread Cert.Merge1RefIdeal.nD Cert.Merge1RefIdeal.τ).loc Cert.Merge1RefIdeal.main_arg9) = m ((c.tc : Thread Cert.Merge1Ideal.nD Cert.Merge1Ideal.τ).loc Cert.Merge1Ideal.main_arg9)
      ∧ m' ((c.tc : Thread Cert.Merge1RefIdeal.nD Cert.Merge1RefIdeal.τ).loc Cert.Merge1RefIdeal.main_arg10) = m ((c.tc : Thread Cert.Merge1Ideal.nD Cert.Merge1Ideal.τ).loc Cert.Merge1Ideal.main_arg10)
      ∧ m' ((c.tc : Thread Cert.Merge1RefIdeal.nD Cert.Merge1RefIdeal.τ).loc Cert.Merge1RefIdeal.main_arg11) = m ((c.tc : Thread Cert.Merge1Ideal.nD Cert.Merge1Ideal.τ).loc Cert.Merge1Ideal.main_arg11)
      ∧ m' ((c.tc : Thread Cert.Merge1RefIdeal.nD Cert.Merge1RefIdeal.τ).loc Cert.Merge1RefIdeal.main_arg12) = m ((c.tc : Thread Cert.Merge1Ideal.nD Cert.Merge1Ideal.τ).loc Cert.Merge1Ideal.main_arg12)
      ∧ m' ((c.tc : Thread Cert.Merge1RefIdeal.nD Cert.Merge1RefIdeal.τ).loc Cert.Merge1RefIdeal.main_arg13) = m ((c.tc : Thread Cert.Merge1Ideal.nD Cert.Merge1Ideal.τ).loc Cert.Merge1Ideal.main_arg13)) →
    ∃ (v0 : (c : Dev Cert.Merge1Ideal.nD) → Buf (Elt Ideal) ((c.tc : Thread Cert.Merge1Ideal.nD Cert.Merge1Ideal.τ).loc Cert.Merge1Ideal.main_v16)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v16) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
          ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
          ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
          ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7)
          ∧ r.2.mem ((c.tc : Thread Cert.Merge1Ideal.nD Cert.Merge1Ideal.τ).loc Cert.Merge1Ideal.main_arg8) = m ((c.tc : Thread Cert.Merge1Ideal.nD Cert.Merge1Ideal.τ).loc Cert.Merge1Ideal.main_arg8)
          ∧ r.2.mem ((c.tc : Thread Cert.Merge1Ideal.nD Cert.Merge1Ideal.τ).loc Cert.Merge1Ideal.main_arg9) = m ((c.tc : Thread Cert.Merge1Ideal.nD Cert.Merge1Ideal.τ).loc Cert.Merge1Ideal.main_arg9)
          ∧ r.2.mem ((c.tc : Thread Cert.Merge1Ideal.nD Cert.Merge1Ideal.τ).loc Cert.Merge1Ideal.main_arg10) = m ((c.tc : Thread Cert.Merge1Ideal.nD Cert.Merge1Ideal.τ).loc Cert.Merge1Ideal.main_arg10)
          ∧ r.2.mem ((c.tc : Thread Cert.Merge1Ideal.nD Cert.Merge1Ideal.τ).loc Cert.Merge1Ideal.main_arg11) = m ((c.tc : Thread Cert.Merge1Ideal.nD Cert.Merge1Ideal.τ).loc Cert.Merge1Ideal.main_arg11)
          ∧ r.2.mem ((c.tc : Thread Cert.Merge1Ideal.nD Cert.Merge1Ideal.τ).loc Cert.Merge1Ideal.main_arg12) = m ((c.tc : Thread Cert.Merge1Ideal.nD Cert.Merge1Ideal.τ).loc Cert.Merge1Ideal.main_arg12)
          ∧ r.2.mem ((c.tc : Thread Cert.Merge1Ideal.nD Cert.Merge1Ideal.τ).loc Cert.Merge1Ideal.main_arg13) = m ((c.tc : Thread Cert.Merge1Ideal.nD Cert.Merge1Ideal.τ).loc Cert.Merge1Ideal.main_arg13))
      ∧ θ_run (Cert.Merge1RefIdeal.defs (F := Ideal)) (onTc (τ := Cert.Merge1RefIdeal.τ) (Cert.Merge1RefIdeal.main (F := Ideal))) ⟨m', fun _ => 0, g'⟩ (fun r => ∀ c : Dev Cert.Merge1RefIdeal.nD,
          r.2.mem ((c.tc : Thread Cert.Merge1RefIdeal.nD Cert.Merge1RefIdeal.τ).loc Cert.Merge1RefIdeal.main_v93) = v0 c
          ∧ r.2.mem ((c.tc : Thread Cert.Merge1RefIdeal.nD Cert.Merge1RefIdeal.τ).loc Cert.Merge1RefIdeal.main_arg0) = m' ((c.tc : Thread Cert.Merge1RefIdeal.nD Cert.Merge1RefIdeal.τ).loc Cert.Merge1RefIdeal.main_arg0)
          ∧ r.2.mem ((c.tc : Thread Cert.Merge1RefIdeal.nD Cert.Merge1RefIdeal.τ).loc Cert.Merge1RefIdeal.main_arg1) = m' ((c.tc : Thread Cert.Merge1RefIdeal.nD Cert.Merge1RefIdeal.τ).loc Cert.Merge1RefIdeal.main_arg1)
          ∧ r.2.mem ((c.tc : Thread Cert.Merge1RefIdeal.nD Cert.Merge1RefIdeal.τ).loc Cert.Merge1RefIdeal.main_arg2) = m' ((c.tc : Thread Cert.Merge1RefIdeal.nD Cert.Merge1RefIdeal.τ).loc Cert.Merge1RefIdeal.main_arg2)
          ∧ r.2.mem ((c.tc : Thread Cert.Merge1RefIdeal.nD Cert.Merge1RefIdeal.τ).loc Cert.Merge1RefIdeal.main_arg3) = m' ((c.tc : Thread Cert.Merge1RefIdeal.nD Cert.Merge1RefIdeal.τ).loc Cert.Merge1RefIdeal.main_arg3)
          ∧ r.2.mem ((c.tc : Thread Cert.Merge1RefIdeal.nD Cert.Merge1RefIdeal.τ).loc Cert.Merge1RefIdeal.main_arg4) = m' ((c.tc : Thread Cert.Merge1RefIdeal.nD Cert.Merge1RefIdeal.τ).loc Cert.Merge1RefIdeal.main_arg4)
          ∧ r.2.mem ((c.tc : Thread Cert.Merge1RefIdeal.nD Cert.Merge1RefIdeal.τ).loc Cert.Merge1RefIdeal.main_arg5) = m' ((c.tc : Thread Cert.Merge1RefIdeal.nD Cert.Merge1RefIdeal.τ).loc Cert.Merge1RefIdeal.main_arg5)
          ∧ r.2.mem ((c.tc : Thread Cert.Merge1RefIdeal.nD Cert.Merge1RefIdeal.τ).loc Cert.Merge1RefIdeal.main_arg6) = m' ((c.tc : Thread Cert.Merge1RefIdeal.nD Cert.Merge1RefIdeal.τ).loc Cert.Merge1RefIdeal.main_arg6)
          ∧ r.2.mem ((c.tc : Thread Cert.Merge1RefIdeal.nD Cert.Merge1RefIdeal.τ).loc Cert.Merge1RefIdeal.main_arg7) = m' ((c.tc : Thread Cert.Merge1RefIdeal.nD Cert.Merge1RefIdeal.τ).loc Cert.Merge1RefIdeal.main_arg7)
          ∧ r.2.mem ((c.tc : Thread Cert.Merge1RefIdeal.nD Cert.Merge1RefIdeal.τ).loc Cert.Merge1RefIdeal.main_arg8) = m' ((c.tc : Thread Cert.Merge1RefIdeal.nD Cert.Merge1RefIdeal.τ).loc Cert.Merge1RefIdeal.main_arg8)
          ∧ r.2.mem ((c.tc : Thread Cert.Merge1RefIdeal.nD Cert.Merge1RefIdeal.τ).loc Cert.Merge1RefIdeal.main_arg9) = m' ((c.tc : Thread Cert.Merge1RefIdeal.nD Cert.Merge1RefIdeal.τ).loc Cert.Merge1RefIdeal.main_arg9)
          ∧ r.2.mem ((c.tc : Thread Cert.Merge1RefIdeal.nD Cert.Merge1RefIdeal.τ).loc Cert.Merge1RefIdeal.main_arg10) = m' ((c.tc : Thread Cert.Merge1RefIdeal.nD Cert.Merge1RefIdeal.τ).loc Cert.Merge1RefIdeal.main_arg10)
          ∧ r.2.mem ((c.tc : Thread Cert.Merge1RefIdeal.nD Cert.Merge1RefIdeal.τ).loc Cert.Merge1RefIdeal.main_arg11) = m' ((c.tc : Thread Cert.Merge1RefIdeal.nD Cert.Merge1RefIdeal.τ).loc Cert.Merge1RefIdeal.main_arg11)
          ∧ r.2.mem ((c.tc : Thread Cert.Merge1RefIdeal.nD Cert.Merge1RefIdeal.τ).loc Cert.Merge1RefIdeal.main_arg12) = m' ((c.tc : Thread Cert.Merge1RefIdeal.nD Cert.Merge1RefIdeal.τ).loc Cert.Merge1RefIdeal.main_arg12)
          ∧ r.2.mem ((c.tc : Thread Cert.Merge1RefIdeal.nD Cert.Merge1RefIdeal.τ).loc Cert.Merge1RefIdeal.main_arg13) = m' ((c.tc : Thread Cert.Merge1RefIdeal.nD Cert.Merge1RefIdeal.τ).loc Cert.Merge1RefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v20_0)) (v1 : (c : Dev Cert.ProjIdeal.nD) → Buf (Elt Ideal) ((c.tc : Thread Cert.ProjIdeal.nD Cert.ProjIdeal.τ).loc Cert.ProjIdeal.main_v20_1)) (v2 : (c : Dev Cert.ProjIdeal.nD) → Buf (Elt Ideal) ((c.tc : Thread Cert.ProjIdeal.nD Cert.ProjIdeal.τ).loc Cert.ProjIdeal.main_v20_2)) (v3 : (c : Dev Cert.ProjIdeal.nD) → Buf (Elt Ideal) ((c.tc : Thread Cert.ProjIdeal.nD Cert.ProjIdeal.τ).loc Cert.ProjIdeal.main_v20_3)) (v4 : (c : Dev Cert.ProjIdeal.nD) → Buf (Elt Ideal) ((c.tc : Thread Cert.ProjIdeal.nD Cert.ProjIdeal.τ).loc Cert.ProjIdeal.main_v20_4)) (v5 : (c : Dev Cert.ProjIdeal.nD) → Buf (Elt Ideal) ((c.tc : Thread Cert.ProjIdeal.nD Cert.ProjIdeal.τ).loc Cert.ProjIdeal.main_v20_5)) (v6 : (c : Dev Cert.ProjIdeal.nD) → Buf (Elt Ideal) ((c.tc : Thread Cert.ProjIdeal.nD Cert.ProjIdeal.τ).loc Cert.ProjIdeal.main_v20_6)) (v7 : (c : Dev Cert.ProjIdeal.nD) → Buf (Elt Ideal) ((c.tc : Thread Cert.ProjIdeal.nD Cert.ProjIdeal.τ).loc Cert.ProjIdeal.main_v20_7)) (v8 : (c : Dev Cert.ProjIdeal.nD) → Buf (Elt Ideal) ((c.tc : Thread Cert.ProjIdeal.nD Cert.ProjIdeal.τ).loc Cert.ProjIdeal.main_v20_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20_0) = v0 c
          ∧ r.2.mem ((c.tc : Thread Cert.ProjIdeal.nD Cert.ProjIdeal.τ).loc Cert.ProjIdeal.main_v20_1) = v1 c
          ∧ r.2.mem ((c.tc : Thread Cert.ProjIdeal.nD Cert.ProjIdeal.τ).loc Cert.ProjIdeal.main_v20_2) = v2 c
          ∧ r.2.mem ((c.tc : Thread Cert.ProjIdeal.nD Cert.ProjIdeal.τ).loc Cert.ProjIdeal.main_v20_3) = v3 c
          ∧ r.2.mem ((c.tc : Thread Cert.ProjIdeal.nD Cert.ProjIdeal.τ).loc Cert.ProjIdeal.main_v20_4) = v4 c
          ∧ r.2.mem ((c.tc : Thread Cert.ProjIdeal.nD Cert.ProjIdeal.τ).loc Cert.ProjIdeal.main_v20_5) = v5 c
          ∧ r.2.mem ((c.tc : Thread Cert.ProjIdeal.nD Cert.ProjIdeal.τ).loc Cert.ProjIdeal.main_v20_6) = v6 c
          ∧ r.2.mem ((c.tc : Thread Cert.ProjIdeal.nD Cert.ProjIdeal.τ).loc Cert.ProjIdeal.main_v20_7) = v7 c
          ∧ r.2.mem ((c.tc : Thread Cert.ProjIdeal.nD Cert.ProjIdeal.τ).loc Cert.ProjIdeal.main_v20_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v47) = v0 c
          ∧ r.2.mem ((c.tc : Thread Cert.ProjRefIdeal.nD Cert.ProjRefIdeal.τ).loc Cert.ProjRefIdeal.main_v49) = v1 c
          ∧ r.2.mem ((c.tc : Thread Cert.ProjRefIdeal.nD Cert.ProjRefIdeal.τ).loc Cert.ProjRefIdeal.main_v50) = v2 c
          ∧ r.2.mem ((c.tc : Thread Cert.ProjRefIdeal.nD Cert.ProjRefIdeal.τ).loc Cert.ProjRefIdeal.main_v52) = v3 c
          ∧ r.2.mem ((c.tc : Thread Cert.ProjRefIdeal.nD Cert.ProjRefIdeal.τ).loc Cert.ProjRefIdeal.main_v54) = v4 c
          ∧ r.2.mem ((c.tc : Thread Cert.ProjRefIdeal.nD Cert.ProjRefIdeal.τ).loc Cert.ProjRefIdeal.main_v57) = v5 c
          ∧ r.2.mem ((c.tc : Thread Cert.ProjRefIdeal.nD Cert.ProjRefIdeal.τ).loc Cert.ProjRefIdeal.main_v58) = v6 c
          ∧ r.2.mem ((c.tc : Thread Cert.ProjRefIdeal.nD Cert.ProjRefIdeal.τ).loc Cert.ProjRefIdeal.main_v66) = v7 c
          ∧ r.2.mem ((c.tc : Thread Cert.ProjRefIdeal.nD Cert.ProjRefIdeal.τ).loc Cert.ProjRefIdeal.main_v74) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hKernel : Cert.Kernel.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMerge1 : Cert.Merge1.Facts) (hMerge1Ideal : Cert.Merge1Ideal.Facts) (hMerge1RefIdeal : Cert.Merge1RefIdeal.Facts) (hProj : Cert.Proj.Facts) (hProjIdeal : Cert.ProjIdeal.Facts) (hProjRefIdeal : Cert.ProjRefIdeal.Facts),
    quiescent_Kernel (hKernel := hKernel)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Merge1 (hMerge1 := hMerge1)
    ∧ quiescent_Merge1Ideal (hMerge1Ideal := hMerge1Ideal)
    ∧ quiescent_Merge1RefIdeal (hMerge1RefIdeal := hMerge1RefIdeal)
    ∧ quiescent_Proj (hProj := hProj)
    ∧ quiescent_ProjIdeal (hProjIdeal := hProjIdeal)
    ∧ quiescent_ProjRefIdeal (hProjRefIdeal := hProjRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Merge1_Merge1Ideal
    ∧ algebraic_Merge1Ideal_Merge1RefIdeal (hMerge1Ideal := hMerge1Ideal) (hMerge1RefIdeal := hMerge1RefIdeal)
    ∧ preserves_Proj_ProjIdeal
    ∧ algebraic_ProjIdeal_ProjRefIdeal (hProjIdeal := hProjIdeal) (hProjRefIdeal := hProjRefIdeal)
-- ==== Kernel.lean ====
abbrev S32x8x128x2048 : Shape := ⟨4, ![32, 8, 128, 2048]⟩
abbrev S32x512x2048 : Shape := ⟨3, ![32, 512, 2048]⟩
abbrev S32x8x2048 : Shape := ⟨3, ![32, 8, 2048]⟩
abbrev S32x2048x64 : Shape := ⟨3, ![32, 2048, 64]⟩
abbrev S32x2048x128 : Shape := ⟨3, ![32, 2048, 128]⟩
abbrev S32x144x2048 : Shape := ⟨3, ![32, 144, 2048]⟩
abbrev S8x64x128 : Shape := ⟨3, ![8, 64, 128]⟩
abbrev S32x2048x512 : Shape := ⟨3, ![32, 2048, 512]⟩
abbrev S4x1x128x2048 : Shape := ⟨4, ![4, 1, 128, 2048]⟩
abbrev S4x512x256 : Shape := ⟨3, ![4, 512, 256]⟩
abbrev S4x8x256 : Shape := ⟨3, ![4, 8, 256]⟩
abbrev S4x2048x64 : Shape := ⟨3, ![4, 2048, 64]⟩
abbrev S4x2048x128 : Shape := ⟨3, ![4, 2048, 128]⟩
abbrev S4x144x2048 : Shape := ⟨3, ![4, 144, 2048]⟩
abbrev S4x256x512 : Shape := ⟨3, ![4, 256, 512]⟩
abbrev S2x4x8x32x8x256 : Shape := ⟨6, ![2, 4, 8, 32, 8, 256]⟩
abbrev S4x8x8x256 : Shape := ⟨4, ![4, 8, 8, 256]⟩
abbrev S4x1x2048 : Shape := ⟨3, ![4, 1, 2048]⟩
abbrev S1x256 : Shape := ⟨2, ![1, 256]⟩
abbrev S256x256 : Shape := ⟨2, ![256, 256]⟩
abbrev S8x256 : Shape := ⟨2, ![8, 256]⟩
abbrev S1x1x8x256 : Shape := ⟨4, ![1, 1, 8, 256]⟩
abbrev S1x1x256 : Shape := ⟨3, ![1, 1, 256]⟩
abbrev S1x1x1x1x8x256 : Shape := ⟨6, ![1, 1, 1, 1, 8, 256]⟩
abbrev S1x8x256 : Shape := ⟨3, ![1, 8, 256]⟩
abbrev S256 : Shape := ⟨1, ![256]⟩
abbrev S1 : Shape := ⟨1, ![1]⟩
abbrev S1x1x1 : Shape := ⟨3, ![1, 1, 1]⟩
abbrev S512x256 : Shape := ⟨2, ![512, 256]⟩
abbrev S1x512x128 : Shape := ⟨3, ![1, 512, 128]⟩
abbrev S512x128 : Shape := ⟨2, ![512, 128]⟩
abbrev S1x1x128x2048 : Shape := ⟨4, ![1, 1, 128, 2048]⟩
abbrev S128x2048 : Shape := ⟨2, ![128, 2048]⟩
abbrev S512x2048 : Shape := ⟨2, ![512, 2048]⟩
abbrev S1x1x2048 : Shape := ⟨3, ![1, 1, 2048]⟩
abbrev S1x2048 : Shape := ⟨2, ![1, 2048]⟩
abbrev S2048 : Shape := ⟨1, ![2048]⟩
abbrev S1x144x2048 : Shape := ⟨3, ![1, 144, 2048]⟩
abbrev S144x2048 : Shape := ⟨2, ![144, 2048]⟩
abbrev S1x144x512 : Shape := ⟨3, ![1, 144, 512]⟩
abbrev S144x512 : Shape := ⟨2, ![144, 512]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S1x256x128 : Shape := ⟨3, ![1, 256, 128]⟩
abbrev S256x128 : Shape := ⟨2, ![256, 128]⟩
abbrev S256x2048 : Shape := ⟨2, ![256, 2048]⟩
abbrev S1x144x256 : Shape := ⟨3, ![1, 144, 256]⟩
abbrev S144x256 : Shape := ⟨2, ![144, 256]⟩
abbrev S1x128x2048 : Shape := ⟨3, ![1, 128, 2048]⟩
abbrev S1x64x128 : Shape := ⟨3, ![1, 64, 128]⟩
abbrev S64x128 : Shape := ⟨2, ![64, 128]⟩
abbrev S128x256 : Shape := ⟨2, ![128, 256]⟩
abbrev S256x512 : Shape := ⟨2, ![256, 512]⟩
abbrev S1x256x512 : Shape := ⟨3, ![1, 256, 512]⟩

abbrev nBuf : Space → Nat
  | .hbm => 8
  | .vmem => 26
  | .smem => 0
  | _ => 0

abbrev bufTy : (tb : Table) → Fin (tcTables nBuf tb) → BufTy
  | .hbm, ⟨0, _⟩ => ⟨S32x8x128x2048, .bf16⟩
  | .hbm, ⟨1, _⟩ => ⟨S32x512x2048, .bf16⟩
  | .hbm, ⟨2, _⟩ => ⟨S32x8x2048, .f32⟩
  | .hbm, ⟨3, _⟩ => ⟨S32x2048x64, .bf16⟩
  | .hbm, ⟨4, _⟩ => ⟨S32x2048x128, .bf16⟩
  | .hbm, ⟨5, _⟩ => ⟨S32x144x2048, .bf16⟩
  | .hbm, ⟨6, _⟩ => ⟨S8x64x128, .bf16⟩
  | .hbm, ⟨7, _⟩ => ⟨S32x2048x512, .bf16⟩
  | .local _ .vmem, ⟨0, _⟩ => ⟨S4x1x128x2048, .bf16⟩
  | .local _ .vmem, ⟨1, _⟩ => ⟨S4x1x128x2048, .bf16⟩
  | .local _ .vmem, ⟨2, _⟩ => ⟨S4x512x256, .bf16⟩
  | .local _ .vmem, ⟨3, _⟩ => ⟨S4x512x256, .bf16⟩
  | .local _ .vmem, ⟨4, _⟩ => ⟨S4x8x256, .f32⟩
  | .local _ .vmem, ⟨5, _⟩ => ⟨S4x8x256, .f32⟩
  | .local _ .vmem, ⟨6, _⟩ => ⟨S4x512x256, .bf16⟩
  | .local _ .vmem, ⟨7, _⟩ => ⟨S4x512x256, .bf16⟩
  | .local _ .vmem, ⟨8, _⟩ => ⟨S4x8x256, .f32⟩
  | .local _ .vmem, ⟨9, _⟩ => ⟨S4x8x256, .f32⟩
  | .local _ .vmem, ⟨10, _⟩ => ⟨S4x2048x64, .bf16⟩
  | .local _ .vmem, ⟨11, _⟩ => ⟨S4x2048x64, .bf16⟩
  | .local _ .vmem, ⟨12, _⟩ => ⟨S4x2048x128, .bf16⟩
  | .local _ .vmem, ⟨13, _⟩ => ⟨S4x2048x128, .bf16⟩
  | .local _ .vmem, ⟨14, _⟩ => ⟨S4x144x2048, .bf16⟩
  | .local _ .vmem, ⟨15, _⟩ => ⟨S4x144x2048, .bf16⟩
  | .local _ .vmem, ⟨16, _⟩ => ⟨S8x64x128, .bf16⟩
  | .local _ .vmem, ⟨17, _⟩ => ⟨S4x256x512, .bf16⟩
  | .local _ .vmem, ⟨18, _⟩ => ⟨S4x256x512, .bf16⟩
  | .local _ .vmem, ⟨19, _⟩ => ⟨S2x4x8x32x8x256, .i32⟩
  | .local _ .vmem, ⟨20, _⟩ => ⟨S4x8x8x256, .i32⟩
  | .local _ .vmem, ⟨21, _⟩ => ⟨S4x8x8x256, .i32⟩
  | .local _ .vmem, ⟨22, _⟩ => ⟨S4x8x256, .i32⟩
  | .local _ .vmem, ⟨23, _⟩ => ⟨S4x8x256, .i32⟩
  | .local _ .vmem, ⟨24, _⟩ => ⟨S4x1x2048, .f32⟩
  | .local _ .vmem, ⟨25, _⟩ => ⟨S4x144x2048, .f32⟩
  | _, _ => ⟨S32x8x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨2, ![8, 8], ![false, false]⟩

def k0_cond2 (i : grid0.Coords) : BitVec 1 :=
  let arg1 : BitVec 32 := BitVec.ofNat 32 (i 1).val
  let c1_i32 : BitVec 32 := 1#32
  let v0 : BitVec 32 := Scalar.addi arg1 c1_i32
  let c2_i32_12 : BitVec 32 := 2#32
  let v42 : BitVec 1 := Scalar.cmpi .eq v0 c2_i32_12
  let v43 : BitVec 32 := Scalar.extui v42
  let c0_i32_13 : BitVec 32 := 0#32
  let v44 : BitVec 1 := Scalar.cmpi .ne v43 c0_i32_13
  v44

@[reducible] def k0_t1_loop : Scf.Loop 32 :=
  let c0_i32_300 : BitVec 32 := 0#32
  let c32_i32_301 : BitVec 32 := 32#32
  let v370 : BitVec 32 := Scalar.addi c0_i32_300 c32_i32_301
  let c1_i32_302 : BitVec 32 := 1#32
  ⟨c0_i32_300, v370, c1_i32_302⟩
def k0_off1 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v504 : Index := Scalar.indexCast v10
  let c0_464 : Index := 0#32
  let c0_465 : Index := 0#32
  let c0_i32_300 : BitVec 32 := 0#32
  let c1_i32_302 : BitVec 32 := 1#32
  let arg19 : BitVec 32 := Scf.iv c0_i32_300 c1_i32_302 k0_t1
  let v505 : Index := Scalar.indexCast arg19
  let c0_466 : Index := 0#32
  let c0_467 : Index := 0#32
  ![v504.toNat, 0, 0, v505.toNat, 0, 0]
def k0_off2 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v509 : Index := Scalar.indexCast v10
  let c0_468 : Index := 0#32
  let c1_469 : Index := 1#32
  let c0_i32_300 : BitVec 32 := 0#32
  let c1_i32_302 : BitVec 32 := 1#32
  let arg19 : BitVec 32 := Scf.iv c0_i32_300 c1_i32_302 k0_t1
  let v510 : Index := Scalar.indexCast arg19
  let c0_470 : Index := 0#32
  let c0_471 : Index := 0#32
  ![v509.toNat, 0, 1, v510.toNat, 0, 0]
def k0_off3 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v564 : Index := Scalar.indexCast v10
  let c1_515 : Index := 1#32
  let c0_516 : Index := 0#32
  let c0_i32_300 : BitVec 32 := 0#32
  let c1_i32_302 : BitVec 32 := 1#32
  let arg19 : BitVec 32 := Scf.iv c0_i32_300 c1_i32_302 k0_t1
  let v565 : Index := Scalar.indexCast arg19
  let c0_517 : Index := 0#32
  let c0_518 : Index := 0#32
  ![v564.toNat, 1, 0, v565.toNat, 0, 0]
def k0_off4 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v569 : Index := Scalar.indexCast v10
  let c1_519 : Index := 1#32
  let c1_520 : Index := 1#32
  let c0_i32_300 : BitVec 32 := 0#32
  let c1_i32_302 : BitVec 32 := 1#32
  let arg19 : BitVec 32 := Scf.iv c0_i32_300 c1_i32_302 k0_t1
  let v570 : Index := Scalar.indexCast arg19
  let c0_521 : Index := 0#32
  let c0_522 : Index := 0#32
  ![v569.toNat, 1, 1, v570.toNat, 0, 0]
def k0_off5 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v624 : Index := Scalar.indexCast v10
  let c2_566 : Index := 2#32
  let c0_567 : Index := 0#32
  let c0_i32_300 : BitVec 32 := 0#32
  let c1_i32_302 : BitVec 32 := 1#32
  let arg19 : BitVec 32 := Scf.iv c0_i32_300 c1_i32_302 k0_t1
  let v625 : Index := Scalar.indexCast arg19
  let c0_568 : Index := 0#32
  let c0_569 : Index := 0#32
  ![v624.toNat, 2, 0, v625.toNat, 0, 0]
def k0_off6 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v629 : Index := Scalar.indexCast v10
  let c2_570 : Index := 2#32
  let c1_571 : Index := 1#32
  let c0_i32_300 : BitVec 32 := 0#32
  let c1_i32_302 : BitVec 32 := 1#32
  let arg19 : BitVec 32 := Scf.iv c0_i32_300 c1_i32_302 k0_t1
  let v630 : Index := Scalar.indexCast arg19
  let c0_572 : Index := 0#32
  let c0_573 : Index := 0#32
  ![v629.toNat, 2, 1, v630.toNat, 0, 0]
def k0_off7 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v684 : Index := Scalar.indexCast v10
  let c3_617 : Index := 3#32
  let c0_618 : Index := 0#32
  let c0_i32_300 : BitVec 32 := 0#32
  let c1_i32_302 : BitVec 32 := 1#32
  let arg19 : BitVec 32 := Scf.iv c0_i32_300 c1_i32_302 k0_t1
  let v685 : Index := Scalar.indexCast arg19
  let c0_619 : Index := 0#32
  let c0_620 : Index := 0#32
  ![v684.toNat, 3, 0, v685.toNat, 0, 0]
def k0_off8 (i : grid0.Coords) (k0_t1 : Fin k0_t1_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v689 : Index := Scalar.indexCast v10
  let c3_621 : Index := 3#32
  let c1_622 : Index := 1#32
  let c0_i32_300 : BitVec 32 := 0#32
  let c1_i32_302 : BitVec 32 := 1#32
  let arg19 : BitVec 32 := Scf.iv c0_i32_300 c1_i32_302 k0_t1
  let v690 : Index := Scalar.indexCast arg19
  let c0_623 : Index := 0#32
  let c0_624 : Index := 0#32
  ![v689.toNat, 3, 1, v690.toNat, 0, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c3_i32_14 : BitVec 32 := 3#32
  let v45 : BitVec 1 := Scalar.cmpi .eq v0 c3_i32_14
  let v46 : BitVec 32 := Scalar.extui v45
  let c0_i32_15 : BitVec 32 := 0#32
  let v47 : BitVec 1 := Scalar.cmpi .ne v46 c0_i32_15
  v47

@[reducible] def k0_t2_loop : Scf.Loop 32 :=
  let c0_i32_340 : BitVec 32 := 0#32
  let c32_i32_341 : BitVec 32 := 32#32
  let v402 : BitVec 32 := Scalar.addi c0_i32_340 c32_i32_341
  let c1_i32_342 : BitVec 32 := 1#32
  ⟨c0_i32_340, v402, c1_i32_342⟩
def k0_off9 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v592 : Index := Scalar.indexCast v10
  let c0_572 : Index := 0#32
  let c0_573 : Index := 0#32
  let c0_i32_340 : BitVec 32 := 0#32
  let c1_i32_342 : BitVec 32 := 1#32
  let arg19 : BitVec 32 := Scf.iv c0_i32_340 c1_i32_342 k0_t2
  let v593 : Index := Scalar.indexCast arg19
  let c0_574 : Index := 0#32
  let c0_575 : Index := 0#32
  ![v592.toNat, 0, 0, v593.toNat, 0, 0]
def k0_off10 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v597 : Index := Scalar.indexCast v10
  let c0_576 : Index := 0#32
  let c1_577 : Index := 1#32
  let c0_i32_340 : BitVec 32 := 0#32
  let c1_i32_342 : BitVec 32 := 1#32
  let arg19 : BitVec 32 := Scf.iv c0_i32_340 c1_i32_342 k0_t2
  let v598 : Index := Scalar.indexCast arg19
  let c0_578 : Index := 0#32
  let c0_579 : Index := 0#32
  ![v597.toNat, 0, 1, v598.toNat, 0, 0]
def k0_off11 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v602 : Index := Scalar.indexCast v10
  let c0_580 : Index := 0#32
  let c2_581 : Index := 2#32
  let c0_i32_340 : BitVec 32 := 0#32
  let c1_i32_342 : BitVec 32 := 1#32
  let arg19 : BitVec 32 := Scf.iv c0_i32_340 c1_i32_342 k0_t2
  let v603 : Index := Scalar.indexCast arg19
  let c0_582 : Index := 0#32
  let c0_583 : Index := 0#32
  ![v602.toNat, 0, 2, v603.toNat, 0, 0]
def k0_off12 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v678 : Index := Scalar.indexCast v10
  let c1_647 : Index := 1#32
  let c0_648 : Index := 0#32
  let c0_i32_340 : BitVec 32 := 0#32
  let c1_i32_342 : BitVec 32 := 1#32
  let arg19 : BitVec 32 := Scf.iv c0_i32_340 c1_i32_342 k0_t2
  let v679 : Index := Scalar.indexCast arg19
  let c0_649 : Index := 0#32
  let c0_650 : Index := 0#32
  ![v678.toNat, 1, 0, v679.toNat, 0, 0]
def k0_off13 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v683 : Index := Scalar.indexCast v10
  let c1_651 : Index := 1#32
  let c1_652 : Index := 1#32
  let c0_i32_340 : BitVec 32 := 0#32
  let c1_i32_342 : BitVec 32 := 1#32
  let arg19 : BitVec 32 := Scf.iv c0_i32_340 c1_i32_342 k0_t2
  let v684 : Index := Scalar.indexCast arg19
  let c0_653 : Index := 0#32
  let c0_654 : Index := 0#32
  ![v683.toNat, 1, 1, v684.toNat, 0, 0]
def k0_off14 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v688 : Index := Scalar.indexCast v10
  let c1_655 : Index := 1#32
  let c2_656 : Index := 2#32
  let c0_i32_340 : BitVec 32 := 0#32
  let c1_i32_342 : BitVec 32 := 1#32
  let arg19 : BitVec 32 := Scf.iv c0_i32_340 c1_i32_342 k0_t2
  let v689 : Index := Scalar.indexCast arg19
  let c0_657 : Index := 0#32
  let c0_658 : Index := 0#32
  ![v688.toNat, 1, 2, v689.toNat, 0, 0]
def k0_off15 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v764 : Index := Scalar.indexCast v10
  let c2_722 : Index := 2#32
  let c0_723 : Index := 0#32
  let c0_i32_340 : BitVec 32 := 0#32
  let c1_i32_342 : BitVec 32 := 1#32
  let arg19 : BitVec 32 := Scf.iv c0_i32_340 c1_i32_342 k0_t2
  let v765 : Index := Scalar.indexCast arg19
  let c0_724 : Index := 0#32
  let c0_725 : Index := 0#32
  ![v764.toNat, 2, 0, v765.toNat, 0, 0]
def k0_off16 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v769 : Index := Scalar.indexCast v10
  let c2_726 : Index := 2#32
  let c1_727 : Index := 1#32
  let c0_i32_340 : BitVec 32 := 0#32
  let c1_i32_342 : BitVec 32 := 1#32
  let arg19 : BitVec 32 := Scf.iv c0_i32_340 c1_i32_342 k0_t2
  let v770 : Index := Scalar.indexCast arg19
  let c0_728 : Index := 0#32
  let c0_729 : Index := 0#32
  ![v769.toNat, 2, 1, v770.toNat, 0, 0]
def k0_off17 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v774 : Index := Scalar.indexCast v10
  let c2_730 : Index := 2#32
  let c2_731 : Index := 2#32
  let c0_i32_340 : BitVec 32 := 0#32
  let c1_i32_342 : BitVec 32 := 1#32
  let arg19 : BitVec 32 := Scf.iv c0_i32_340 c1_i32_342 k0_t2
  let v775 : Index := Scalar.indexCast arg19
  let c0_732 : Index := 0#32
  let c0_733 : Index := 0#32
  ![v774.toNat, 2, 2, v775.toNat, 0, 0]
def k0_off18 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v850 : Index := Scalar.indexCast v10
  let c3_797 : Index := 3#32
  let c0_798 : Index := 0#32
  let c0_i32_340 : BitVec 32 := 0#32
  let c1_i32_342 : BitVec 32 := 1#32
  let arg19 : BitVec 32 := Scf.iv c0_i32_340 c1_i32_342 k0_t2
  let v851 : Index := Scalar.indexCast arg19
  let c0_799 : Index := 0#32
  let c0_800 : Index := 0#32
  ![v850.toNat, 3, 0, v851.toNat, 0, 0]
def k0_off19 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v855 : Index := Scalar.indexCast v10
  let c3_801 : Index := 3#32
  let c1_802 : Index := 1#32
  let c0_i32_340 : BitVec 32 := 0#32
  let c1_i32_342 : BitVec 32 := 1#32
  let arg19 : BitVec 32 := Scf.iv c0_i32_340 c1_i32_342 k0_t2
  let v856 : Index := Scalar.indexCast arg19
  let c0_803 : Index := 0#32
  let c0_804 : Index := 0#32
  ![v855.toNat, 3, 1, v856.toNat, 0, 0]
def k0_off20 (i : grid0.Coords) (k0_t2 : Fin k0_t2_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v860 : Index := Scalar.indexCast v10
  let c3_805 : Index := 3#32
  let c2_806 : Index := 2#32
  let c0_i32_340 : BitVec 32 := 0#32
  let c1_i32_342 : BitVec 32 := 1#32
  let arg19 : BitVec 32 := Scf.iv c0_i32_340 c1_i32_342 k0_t2
  let v861 : Index := Scalar.indexCast arg19
  let c0_807 : Index := 0#32
  let c0_808 : Index := 0#32
  ![v860.toNat, 3, 2, v861.toNat, 0, 0]
def k0_cond4 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v48 : BitVec 1 := Scalar.cmpi .eq v0 c4_i32
  let v49 : BitVec 32 := Scalar.extui v48
  let c0_i32_16 : BitVec 32 := 0#32
  let v50 : BitVec 1 := Scalar.cmpi .ne v49 c0_i32_16
  v50

@[reducible] def k0_t3_loop : Scf.Loop 32 :=
  let c0_i32_380 : BitVec 32 := 0#32
  let c32_i32_381 : BitVec 32 := 32#32
  let v434 : BitVec 32 := Scalar.addi c0_i32_380 c32_i32_381
  let c1_i32_382 : BitVec 32 := 1#32
  ⟨c0_i32_380, v434, c1_i32_382⟩
def k0_off21 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v680 : Index := Scalar.indexCast v10
  let c0_680 : Index := 0#32
  let c0_681 : Index := 0#32
  let c0_i32_380 : BitVec 32 := 0#32
  let c1_i32_382 : BitVec 32 := 1#32
  let arg19 : BitVec 32 := Scf.iv c0_i32_380 c1_i32_382 k0_t3
  let v681 : Index := Scalar.indexCast arg19
  let c0_682 : Index := 0#32
  let c0_683 : Index := 0#32
  ![v680.toNat, 0, 0, v681.toNat, 0, 0]
def k0_off22 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v685 : Index := Scalar.indexCast v10
  let c0_684 : Index := 0#32
  let c1_685 : Index := 1#32
  let c0_i32_380 : BitVec 32 := 0#32
  let c1_i32_382 : BitVec 32 := 1#32
  let arg19 : BitVec 32 := Scf.iv c0_i32_380 c1_i32_382 k0_t3
  let v686 : Index := Scalar.indexCast arg19
  let c0_686 : Index := 0#32
  let c0_687 : Index := 0#32
  ![v685.toNat, 0, 1, v686.toNat, 0, 0]
def k0_off23 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v690 : Index := Scalar.indexCast v10
  let c0_688 : Index := 0#32
  let c2_689 : Index := 2#32
  let c0_i32_380 : BitVec 32 := 0#32
  let c1_i32_382 : BitVec 32 := 1#32
  let arg19 : BitVec 32 := Scf.iv c0_i32_380 c1_i32_382 k0_t3
  let v691 : Index := Scalar.indexCast arg19
  let c0_690 : Index := 0#32
  let c0_691 : Index := 0#32
  ![v690.toNat, 0, 2, v691.toNat, 0, 0]
def k0_off24 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v695 : Index := Scalar.indexCast v10
  let c0_692 : Index := 0#32
  let c3_693 : Index := 3#32
  let c0_i32_380 : BitVec 32 := 0#32
  let c1_i32_382 : BitVec 32 := 1#32
  let arg19 : BitVec 32 := Scf.iv c0_i32_380 c1_i32_382 k0_t3
  let v696 : Index := Scalar.indexCast arg19
  let c0_694 : Index := 0#32
  let c0_695 : Index := 0#32
  ![v695.toNat, 0, 3, v696.toNat, 0, 0]
def k0_off25 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v792 : Index := Scalar.indexCast v10
  let c1_779 : Index := 1#32
  let c0_780 : Index := 0#32
  let c0_i32_380 : BitVec 32 := 0#32
  let c1_i32_382 : BitVec 32 := 1#32
  let arg19 : BitVec 32 := Scf.iv c0_i32_380 c1_i32_382 k0_t3
  let v793 : Index := Scalar.indexCast arg19
  let c0_781 : Index := 0#32
  let c0_782 : Index := 0#32
  ![v792.toNat, 1, 0, v793.toNat, 0, 0]
def k0_off26 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v797 : Index := Scalar.indexCast v10
  let c1_783 : Index := 1#32
  let c1_784 : Index := 1#32
  let c0_i32_380 : BitVec 32 := 0#32
  let c1_i32_382 : BitVec 32 := 1#32
  let arg19 : BitVec 32 := Scf.iv c0_i32_380 c1_i32_382 k0_t3
  let v798 : Index := Scalar.indexCast arg19
  let c0_785 : Index := 0#32
  let c0_786 : Index := 0#32
  ![v797.toNat, 1, 1, v798.toNat, 0, 0]
def k0_off27 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v802 : Index := Scalar.indexCast v10
  let c1_787 : Index := 1#32
  let c2_788 : Index := 2#32
  let c0_i32_380 : BitVec 32 := 0#32
  let c1_i32_382 : BitVec 32 := 1#32
  let arg19 : BitVec 32 := Scf.iv c0_i32_380 c1_i32_382 k0_t3
  let v803 : Index := Scalar.indexCast arg19
  let c0_789 : Index := 0#32
  let c0_790 : Index := 0#32
  ![v802.toNat, 1, 2, v803.toNat, 0, 0]
def k0_off28 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v807 : Index := Scalar.indexCast v10
  let c1_791 : Index := 1#32
  let c3_792 : Index := 3#32
  let c0_i32_380 : BitVec 32 := 0#32
  let c1_i32_382 : BitVec 32 := 1#32
  let arg19 : BitVec 32 := Scf.iv c0_i32_380 c1_i32_382 k0_t3
  let v808 : Index := Scalar.indexCast arg19
  let c0_793 : Index := 0#32
  let c0_794 : Index := 0#32
  ![v807.toNat, 1, 3, v808.toNat, 0, 0]
def k0_off29 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v904 : Index := Scalar.indexCast v10
  let c2_878 : Index := 2#32
  let c0_879 : Index := 0#32
  let c0_i32_380 : BitVec 32 := 0#32
  let c1_i32_382 : BitVec 32 := 1#32
  let arg19 : BitVec 32 := Scf.iv c0_i32_380 c1_i32_382 k0_t3
  let v905 : Index := Scalar.indexCast arg19
  let c0_880 : Index := 0#32
  let c0_881 : Index := 0#32
  ![v904.toNat, 2, 0, v905.toNat, 0, 0]
def k0_off30 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v909 : Index := Scalar.indexCast v10
  let c2_882 : Index := 2#32
  let c1_883 : Index := 1#32
  let c0_i32_380 : BitVec 32 := 0#32
  let c1_i32_382 : BitVec 32 := 1#32
  let arg19 : BitVec 32 := Scf.iv c0_i32_380 c1_i32_382 k0_t3
  let v910 : Index := Scalar.indexCast arg19
  let c0_884 : Index := 0#32
  let c0_885 : Index := 0#32
  ![v909.toNat, 2, 1, v910.toNat, 0, 0]
def k0_off31 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v914 : Index := Scalar.indexCast v10
  let c2_886 : Index := 2#32
  let c2_887 : Index := 2#32
  let c0_i32_380 : BitVec 32 := 0#32
  let c1_i32_382 : BitVec 32 := 1#32
  let arg19 : BitVec 32 := Scf.iv c0_i32_380 c1_i32_382 k0_t3
  let v915 : Index := Scalar.indexCast arg19
  let c0_888 : Index := 0#32
  let c0_889 : Index := 0#32
  ![v914.toNat, 2, 2, v915.toNat, 0, 0]
def k0_off32 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v919 : Index := Scalar.indexCast v10
  let c2_890 : Index := 2#32
  let c3_891 : Index := 3#32
  let c0_i32_380 : BitVec 32 := 0#32
  let c1_i32_382 : BitVec 32 := 1#32
  let arg19 : BitVec 32 := Scf.iv c0_i32_380 c1_i32_382 k0_t3
  let v920 : Index := Scalar.indexCast arg19
  let c0_892 : Index := 0#32
  let c0_893 : Index := 0#32
  ![v919.toNat, 2, 3, v920.toNat, 0, 0]
def k0_off33 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1016 : Index := Scalar.indexCast v10
  let c3_977 : Index := 3#32
  let c0_978 : Index := 0#32
  let c0_i32_380 : BitVec 32 := 0#32
  let c1_i32_382 : BitVec 32 := 1#32
  let arg19 : BitVec 32 := Scf.iv c0_i32_380 c1_i32_382 k0_t3
  let v1017 : Index := Scalar.indexCast arg19
  let c0_979 : Index := 0#32
  let c0_980 : Index := 0#32
  ![v1016.toNat, 3, 0, v1017.toNat, 0, 0]
def k0_off34 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1021 : Index := Scalar.indexCast v10
  let c3_981 : Index := 3#32
  let c1_982 : Index := 1#32
  let c0_i32_380 : BitVec 32 := 0#32
  let c1_i32_382 : BitVec 32 := 1#32
  let arg19 : BitVec 32 := Scf.iv c0_i32_380 c1_i32_382 k0_t3
  let v1022 : Index := Scalar.indexCast arg19
  let c0_983 : Index := 0#32
  let c0_984 : Index := 0#32
  ![v1021.toNat, 3, 1, v1022.toNat, 0, 0]
def k0_off35 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1026 : Index := Scalar.indexCast v10
  let c3_985 : Index := 3#32
  let c2_986 : Index := 2#32
  let c0_i32_380 : BitVec 32 := 0#32
  let c1_i32_382 : BitVec 32 := 1#32
  let arg19 : BitVec 32 := Scf.iv c0_i32_380 c1_i32_382 k0_t3
  let v1027 : Index := Scalar.indexCast arg19
  let c0_987 : Index := 0#32
  let c0_988 : Index := 0#32
  ![v1026.toNat, 3, 2, v1027.toNat, 0, 0]
def k0_off36 (i : grid0.Coords) (k0_t3 : Fin k0_t3_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1031 : Index := Scalar.indexCast v10
  let c3_989 : Index := 3#32
  let c3_990 : Index := 3#32
  let c0_i32_380 : BitVec 32 := 0#32
  let c1_i32_382 : BitVec 32 := 1#32
  let arg19 : BitVec 32 := Scf.iv c0_i32_380 c1_i32_382 k0_t3
  let v1032 : Index := Scalar.indexCast arg19
  let c0_991 : Index := 0#32
  let c0_992 : Index := 0#32
  ![v1031.toNat, 3, 3, v1032.toNat, 0, 0]
def k0_cond5 (i : grid0.Coords) : BitVec 1 :=
  let arg1 : BitVec 32 := BitVec.ofNat 32 (i 1).val
  let c1_i32 : BitVec 32 := 1#32
  let v0 : BitVec 32 := Scalar.addi arg1 c1_i32
  let c5_i32 : BitVec 32 := 5#32
  let v51 : BitVec 1 := Scalar.cmpi .eq v0 c5_i32
  let v52 : BitVec 32 := Scalar.extui v51
  let c0_i32_17 : BitVec 32 := 0#32
  let v53 : BitVec 1 := Scalar.cmpi .ne v52 c0_i32_17
  v53

@[reducible] def k0_t4_loop : Scf.Loop 32 :=
  let c0_i32_420 : BitVec 32 := 0#32
  let c32_i32_421 : BitVec 32 := 32#32
  let v466 : BitVec 32 := Scalar.addi c0_i32_420 c32_i32_421
  let c1_i32_422 : BitVec 32 := 1#32
  ⟨c0_i32_420, v466, c1_i32_422⟩
def k0_off37 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v768 : Index := Scalar.indexCast v10
  let c0_788 : Index := 0#32
  let c0_789 : Index := 0#32
  let c0_i32_420 : BitVec 32 := 0#32
  let c1_i32_422 : BitVec 32 := 1#32
  let arg19 : BitVec 32 := Scf.iv c0_i32_420 c1_i32_422 k0_t4
  let v769 : Index := Scalar.indexCast arg19
  let c0_790 : Index := 0#32
  let c0_791 : Index := 0#32
  ![v768.toNat, 0, 0, v769.toNat, 0, 0]
def k0_off38 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v773 : Index := Scalar.indexCast v10
  let c0_792 : Index := 0#32
  let c1_793 : Index := 1#32
  let c0_i32_420 : BitVec 32 := 0#32
  let c1_i32_422 : BitVec 32 := 1#32
  let arg19 : BitVec 32 := Scf.iv c0_i32_420 c1_i32_422 k0_t4
  let v774 : Index := Scalar.indexCast arg19
  let c0_794 : Index := 0#32
  let c0_795 : Index := 0#32
  ![v773.toNat, 0, 1, v774.toNat, 0, 0]
def k0_off39 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v778 : Index := Scalar.indexCast v10
  let c0_796 : Index := 0#32
  let c2_797 : Index := 2#32
  let c0_i32_420 : BitVec 32 := 0#32
  let c1_i32_422 : BitVec 32 := 1#32
  let arg19 : BitVec 32 := Scf.iv c0_i32_420 c1_i32_422 k0_t4
  let v779 : Index := Scalar.indexCast arg19
  let c0_798 : Index := 0#32
  let c0_799 : Index := 0#32
  ![v778.toNat, 0, 2, v779.toNat, 0, 0]
def k0_off40 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v783 : Index := Scalar.indexCast v10
  let c0_800 : Index := 0#32
  let c3_801 : Index := 3#32
  let c0_i32_420 : BitVec 32 := 0#32
  let c1_i32_422 : BitVec 32 := 1#32
  let arg19 : BitVec 32 := Scf.iv c0_i32_420 c1_i32_422 k0_t4
  let v784 : Index := Scalar.indexCast arg19
  let c0_802 : Index := 0#32
  let c0_803 : Index := 0#32
  ![v783.toNat, 0, 3, v784.toNat, 0, 0]
def k0_off41 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v788 : Index := Scalar.indexCast v10
  let c0_804 : Index := 0#32
  let c4_805 : Index := 4#32
  let c0_i32_420 : BitVec 32 := 0#32
  let c1_i32_422 : BitVec 32 := 1#32
  let arg19 : BitVec 32 := Scf.iv c0_i32_420 c1_i32_422 k0_t4
  let v789 : Index := Scalar.indexCast arg19
  let c0_806 : Index := 0#32
  let c0_807 : Index := 0#32
  ![v788.toNat, 0, 4, v789.toNat, 0, 0]
def k0_off42 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v906 : Index := Scalar.indexCast v10
  let c1_911 : Index := 1#32
  let c0_912 : Index := 0#32
  let c0_i32_420 : BitVec 32 := 0#32
  let c1_i32_422 : BitVec 32 := 1#32
  let arg19 : BitVec 32 := Scf.iv c0_i32_420 c1_i32_422 k0_t4
  let v907 : Index := Scalar.indexCast arg19
  let c0_913 : Index := 0#32
  let c0_914 : Index := 0#32
  ![v906.toNat, 1, 0, v907.toNat, 0, 0]
def k0_off43 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v911 : Index := Scalar.indexCast v10
  let c1_915 : Index := 1#32
  let c1_916 : Index := 1#32
  let c0_i32_420 : BitVec 32 := 0#32
  let c1_i32_422 : BitVec 32 := 1#32
  let arg19 : BitVec 32 := Scf.iv c0_i32_420 c1_i32_422 k0_t4
  let v912 : Index := Scalar.indexCast arg19
  let c0_917 : Index := 0#32
  let c0_918 : Index := 0#32
  ![v911.toNat, 1, 1, v912.toNat, 0, 0]
def k0_off44 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v916 : Index := Scalar.indexCast v10
  let c1_919 : Index := 1#32
  let c2_920 : Index := 2#32
  let c0_i32_420 : BitVec 32 := 0#32
  let c1_i32_422 : BitVec 32 := 1#32
  let arg19 : BitVec 32 := Scf.iv c0_i32_420 c1_i32_422 k0_t4
  let v917 : Index := Scalar.indexCast arg19
  let c0_921 : Index := 0#32
  let c0_922 : Index := 0#32
  ![v916.toNat, 1, 2, v917.toNat, 0, 0]
def k0_off45 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v921 : Index := Scalar.indexCast v10
  let c1_923 : Index := 1#32
  let c3_924 : Index := 3#32
  let c0_i32_420 : BitVec 32 := 0#32
  let c1_i32_422 : BitVec 32 := 1#32
  let arg19 : BitVec 32 := Scf.iv c0_i32_420 c1_i32_422 k0_t4
  let v922 : Index := Scalar.indexCast arg19
  let c0_925 : Index := 0#32
  let c0_926 : Index := 0#32
  ![v921.toNat, 1, 3, v922.toNat, 0, 0]
def k0_off46 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v926 : Index := Scalar.indexCast v10
  let c1_927 : Index := 1#32
  let c4_928 : Index := 4#32
  let c0_i32_420 : BitVec 32 := 0#32
  let c1_i32_422 : BitVec 32 := 1#32
  let arg19 : BitVec 32 := Scf.iv c0_i32_420 c1_i32_422 k0_t4
  let v927 : Index := Scalar.indexCast arg19
  let c0_929 : Index := 0#32
  let c0_930 : Index := 0#32
  ![v926.toNat, 1, 4, v927.toNat, 0, 0]
def k0_off47 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1044 : Index := Scalar.indexCast v10
  let c2_1034 : Index := 2#32
  let c0_1035 : Index := 0#32
  let c0_i32_420 : BitVec 32 := 0#32
  let c1_i32_422 : BitVec 32 := 1#32
  let arg19 : BitVec 32 := Scf.iv c0_i32_420 c1_i32_422 k0_t4
  let v1045 : Index := Scalar.indexCast arg19
  let c0_1036 : Index := 0#32
  let c0_1037 : Index := 0#32
  ![v1044.toNat, 2, 0, v1045.toNat, 0, 0]
def k0_off48 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1049 : Index := Scalar.indexCast v10
  let c2_1038 : Index := 2#32
  let c1_1039 : Index := 1#32
  let c0_i32_420 : BitVec 32 := 0#32
  let c1_i32_422 : BitVec 32 := 1#32
  let arg19 : BitVec 32 := Scf.iv c0_i32_420 c1_i32_422 k0_t4
  let v1050 : Index := Scalar.indexCast arg19
  let c0_1040 : Index := 0#32
  let c0_1041 : Index := 0#32
  ![v1049.toNat, 2, 1, v1050.toNat, 0, 0]
def k0_off49 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1054 : Index := Scalar.indexCast v10
  let c2_1042 : Index := 2#32
  let c2_1043 : Index := 2#32
  let c0_i32_420 : BitVec 32 := 0#32
  let c1_i32_422 : BitVec 32 := 1#32
  let arg19 : BitVec 32 := Scf.iv c0_i32_420 c1_i32_422 k0_t4
  let v1055 : Index := Scalar.indexCast arg19
  let c0_1044 : Index := 0#32
  let c0_1045 : Index := 0#32
  ![v1054.toNat, 2, 2, v1055.toNat, 0, 0]
def k0_off50 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1059 : Index := Scalar.indexCast v10
  let c2_1046 : Index := 2#32
  let c3_1047 : Index := 3#32
  let c0_i32_420 : BitVec 32 := 0#32
  let c1_i32_422 : BitVec 32 := 1#32
  let arg19 : BitVec 32 := Scf.iv c0_i32_420 c1_i32_422 k0_t4
  let v1060 : Index := Scalar.indexCast arg19
  let c0_1048 : Index := 0#32
  let c0_1049 : Index := 0#32
  ![v1059.toNat, 2, 3, v1060.toNat, 0, 0]
def k0_off51 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1064 : Index := Scalar.indexCast v10
  let c2_1050 : Index := 2#32
  let c4_1051 : Index := 4#32
  let c0_i32_420 : BitVec 32 := 0#32
  let c1_i32_422 : BitVec 32 := 1#32
  let arg19 : BitVec 32 := Scf.iv c0_i32_420 c1_i32_422 k0_t4
  let v1065 : Index := Scalar.indexCast arg19
  let c0_1052 : Index := 0#32
  let c0_1053 : Index := 0#32
  ![v1064.toNat, 2, 4, v1065.toNat, 0, 0]
def k0_off52 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1182 : Index := Scalar.indexCast v10
  let c3_1157 : Index := 3#32
  let c0_1158 : Index := 0#32
  let c0_i32_420 : BitVec 32 := 0#32
  let c1_i32_422 : BitVec 32 := 1#32
  let arg19 : BitVec 32 := Scf.iv c0_i32_420 c1_i32_422 k0_t4
  let v1183 : Index := Scalar.indexCast arg19
  let c0_1159 : Index := 0#32
  let c0_1160 : Index := 0#32
  ![v1182.toNat, 3, 0, v1183.toNat, 0, 0]
def k0_off53 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1187 : Index := Scalar.indexCast v10
  let c3_1161 : Index := 3#32
  let c1_1162 : Index := 1#32
  let c0_i32_420 : BitVec 32 := 0#32
  let c1_i32_422 : BitVec 32 := 1#32
  let arg19 : BitVec 32 := Scf.iv c0_i32_420 c1_i32_422 k0_t4
  let v1188 : Index := Scalar.indexCast arg19
  let c0_1163 : Index := 0#32
  let c0_1164 : Index := 0#32
  ![v1187.toNat, 3, 1, v1188.toNat, 0, 0]
def k0_off54 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1192 : Index := Scalar.indexCast v10
  let c3_1165 : Index := 3#32
  let c2_1166 : Index := 2#32
  let c0_i32_420 : BitVec 32 := 0#32
  let c1_i32_422 : BitVec 32 := 1#32
  let arg19 : BitVec 32 := Scf.iv c0_i32_420 c1_i32_422 k0_t4
  let v1193 : Index := Scalar.indexCast arg19
  let c0_1167 : Index := 0#32
  let c0_1168 : Index := 0#32
  ![v1192.toNat, 3, 2, v1193.toNat, 0, 0]
def k0_off55 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1197 : Index := Scalar.indexCast v10
  let c3_1169 : Index := 3#32
  let c3_1170 : Index := 3#32
  let c0_i32_420 : BitVec 32 := 0#32
  let c1_i32_422 : BitVec 32 := 1#32
  let arg19 : BitVec 32 := Scf.iv c0_i32_420 c1_i32_422 k0_t4
  let v1198 : Index := Scalar.indexCast arg19
  let c0_1171 : Index := 0#32
  let c0_1172 : Index := 0#32
  ![v1197.toNat, 3, 3, v1198.toNat, 0, 0]
def k0_off56 (i : grid0.Coords) (k0_t4 : Fin k0_t4_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1202 : Index := Scalar.indexCast v10
  let c3_1173 : Index := 3#32
  let c4_1174 : Index := 4#32
  let c0_i32_420 : BitVec 32 := 0#32
  let c1_i32_422 : BitVec 32 := 1#32
  let arg19 : BitVec 32 := Scf.iv c0_i32_420 c1_i32_422 k0_t4
  let v1203 : Index := Scalar.indexCast arg19
  let c0_1175 : Index := 0#32
  let c0_1176 : Index := 0#32
  ![v1202.toNat, 3, 4, v1203.toNat, 0, 0]
def k0_cond6 (i : grid0.Coords) : BitVec 1 :=
  let arg1 : BitVec 32 := BitVec.ofNat 32 (i 1).val
  let c1_i32 : BitVec 32 := 1#32
  let v0 : BitVec 32 := Scalar.addi arg1 c1_i32
  let c6_i32 : BitVec 32 := 6#32
  let v54 : BitVec 1 := Scalar.cmpi .eq v0 c6_i32
  let v55 : BitVec 32 := Scalar.extui v54
  let c0_i32_18 : BitVec 32 := 0#32
  let v56 : BitVec 1 := Scalar.cmpi .ne v55 c0_i32_18
  v56

@[reducible] def k0_t5_loop : Scf.Loop 32 :=
  let c0_i32_460 : BitVec 32 := 0#32
  let c32_i32_461 : BitVec 32 := 32#32
  let v498 : BitVec 32 := Scalar.addi c0_i32_460 c32_i32_461
  let c1_i32_462 : BitVec 32 := 1#32
  ⟨c0_i32_460, v498, c1_i32_462⟩
def k0_off57 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v856 : Index := Scalar.indexCast v10
  let c0_896 : Index := 0#32
  let c0_897 : Index := 0#32
  let c0_i32_460 : BitVec 32 := 0#32
  let c1_i32_462 : BitVec 32 := 1#32
  let arg19 : BitVec 32 := Scf.iv c0_i32_460 c1_i32_462 k0_t5
  let v857 : Index := Scalar.indexCast arg19
  let c0_898 : Index := 0#32
  let c0_899 : Index := 0#32
  ![v856.toNat, 0, 0, v857.toNat, 0, 0]
def k0_off58 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v861 : Index := Scalar.indexCast v10
  let c0_900 : Index := 0#32
  let c1_901 : Index := 1#32
  let c0_i32_460 : BitVec 32 := 0#32
  let c1_i32_462 : BitVec 32 := 1#32
  let arg19 : BitVec 32 := Scf.iv c0_i32_460 c1_i32_462 k0_t5
  let v862 : Index := Scalar.indexCast arg19
  let c0_902 : Index := 0#32
  let c0_903 : Index := 0#32
  ![v861.toNat, 0, 1, v862.toNat, 0, 0]
def k0_off59 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v866 : Index := Scalar.indexCast v10
  let c0_904 : Index := 0#32
  let c2_905 : Index := 2#32
  let c0_i32_460 : BitVec 32 := 0#32
  let c1_i32_462 : BitVec 32 := 1#32
  let arg19 : BitVec 32 := Scf.iv c0_i32_460 c1_i32_462 k0_t5
  let v867 : Index := Scalar.indexCast arg19
  let c0_906 : Index := 0#32
  let c0_907 : Index := 0#32
  ![v866.toNat, 0, 2, v867.toNat, 0, 0]
def k0_off60 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v871 : Index := Scalar.indexCast v10
  let c0_908 : Index := 0#32
  let c3_909 : Index := 3#32
  let c0_i32_460 : BitVec 32 := 0#32
  let c1_i32_462 : BitVec 32 := 1#32
  let arg19 : BitVec 32 := Scf.iv c0_i32_460 c1_i32_462 k0_t5
  let v872 : Index := Scalar.indexCast arg19
  let c0_910 : Index := 0#32
  let c0_911 : Index := 0#32
  ![v871.toNat, 0, 3, v872.toNat, 0, 0]
def k0_off61 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v876 : Index := Scalar.indexCast v10
  let c0_912 : Index := 0#32
  let c4_913 : Index := 4#32
  let c0_i32_460 : BitVec 32 := 0#32
  let c1_i32_462 : BitVec 32 := 1#32
  let arg19 : BitVec 32 := Scf.iv c0_i32_460 c1_i32_462 k0_t5
  let v877 : Index := Scalar.indexCast arg19
  let c0_914 : Index := 0#32
  let c0_915 : Index := 0#32
  ![v876.toNat, 0, 4, v877.toNat, 0, 0]
def k0_off62 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v881 : Index := Scalar.indexCast v10
  let c0_916 : Index := 0#32
  let c5_917 : Index := 5#32
  let c0_i32_460 : BitVec 32 := 0#32
  let c1_i32_462 : BitVec 32 := 1#32
  let arg19 : BitVec 32 := Scf.iv c0_i32_460 c1_i32_462 k0_t5
  let v882 : Index := Scalar.indexCast arg19
  let c0_918 : Index := 0#32
  let c0_919 : Index := 0#32
  ![v881.toNat, 0, 5, v882.toNat, 0, 0]
def k0_off63 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1020 : Index := Scalar.indexCast v10
  let c1_1043 : Index := 1#32
  let c0_1044 : Index := 0#32
  let c0_i32_460 : BitVec 32 := 0#32
  let c1_i32_462 : BitVec 32 := 1#32
  let arg19 : BitVec 32 := Scf.iv c0_i32_460 c1_i32_462 k0_t5
  let v1021 : Index := Scalar.indexCast arg19
  let c0_1045 : Index := 0#32
  let c0_1046 : Index := 0#32
  ![v1020.toNat, 1, 0, v1021.toNat, 0, 0]
def k0_off64 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1025 : Index := Scalar.indexCast v10
  let c1_1047 : Index := 1#32
  let c1_1048 : Index := 1#32
  let c0_i32_460 : BitVec 32 := 0#32
  let c1_i32_462 : BitVec 32 := 1#32
  let arg19 : BitVec 32 := Scf.iv c0_i32_460 c1_i32_462 k0_t5
  let v1026 : Index := Scalar.indexCast arg19
  let c0_1049 : Index := 0#32
  let c0_1050 : Index := 0#32
  ![v1025.toNat, 1, 1, v1026.toNat, 0, 0]
def k0_off65 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1030 : Index := Scalar.indexCast v10
  let c1_1051 : Index := 1#32
  let c2_1052 : Index := 2#32
  let c0_i32_460 : BitVec 32 := 0#32
  let c1_i32_462 : BitVec 32 := 1#32
  let arg19 : BitVec 32 := Scf.iv c0_i32_460 c1_i32_462 k0_t5
  let v1031 : Index := Scalar.indexCast arg19
  let c0_1053 : Index := 0#32
  let c0_1054 : Index := 0#32
  ![v1030.toNat, 1, 2, v1031.toNat, 0, 0]
def k0_off66 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1035 : Index := Scalar.indexCast v10
  let c1_1055 : Index := 1#32
  let c3_1056 : Index := 3#32
  let c0_i32_460 : BitVec 32 := 0#32
  let c1_i32_462 : BitVec 32 := 1#32
  let arg19 : BitVec 32 := Scf.iv c0_i32_460 c1_i32_462 k0_t5
  let v1036 : Index := Scalar.indexCast arg19
  let c0_1057 : Index := 0#32
  let c0_1058 : Index := 0#32
  ![v1035.toNat, 1, 3, v1036.toNat, 0, 0]
def k0_off67 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1040 : Index := Scalar.indexCast v10
  let c1_1059 : Index := 1#32
  let c4_1060 : Index := 4#32
  let c0_i32_460 : BitVec 32 := 0#32
  let c1_i32_462 : BitVec 32 := 1#32
  let arg19 : BitVec 32 := Scf.iv c0_i32_460 c1_i32_462 k0_t5
  let v1041 : Index := Scalar.indexCast arg19
  let c0_1061 : Index := 0#32
  let c0_1062 : Index := 0#32
  ![v1040.toNat, 1, 4, v1041.toNat, 0, 0]
def k0_off68 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1045 : Index := Scalar.indexCast v10
  let c1_1063 : Index := 1#32
  let c5_1064 : Index := 5#32
  let c0_i32_460 : BitVec 32 := 0#32
  let c1_i32_462 : BitVec 32 := 1#32
  let arg19 : BitVec 32 := Scf.iv c0_i32_460 c1_i32_462 k0_t5
  let v1046 : Index := Scalar.indexCast arg19
  let c0_1065 : Index := 0#32
  let c0_1066 : Index := 0#32
  ![v1045.toNat, 1, 5, v1046.toNat, 0, 0]
def k0_off69 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1184 : Index := Scalar.indexCast v10
  let c2_1190 : Index := 2#32
  let c0_1191 : Index := 0#32
  let c0_i32_460 : BitVec 32 := 0#32
  let c1_i32_462 : BitVec 32 := 1#32
  let arg19 : BitVec 32 := Scf.iv c0_i32_460 c1_i32_462 k0_t5
  let v1185 : Index := Scalar.indexCast arg19
  let c0_1192 : Index := 0#32
  let c0_1193 : Index := 0#32
  ![v1184.toNat, 2, 0, v1185.toNat, 0, 0]
def k0_off70 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1189 : Index := Scalar.indexCast v10
  let c2_1194 : Index := 2#32
  let c1_1195 : Index := 1#32
  let c0_i32_460 : BitVec 32 := 0#32
  let c1_i32_462 : BitVec 32 := 1#32
  let arg19 : BitVec 32 := Scf.iv c0_i32_460 c1_i32_462 k0_t5
  let v1190 : Index := Scalar.indexCast arg19
  let c0_1196 : Index := 0#32
  let c0_1197 : Index := 0#32
  ![v1189.toNat, 2, 1, v1190.toNat, 0, 0]
def k0_off71 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1194 : Index := Scalar.indexCast v10
  let c2_1198 : Index := 2#32
  let c2_1199 : Index := 2#32
  let c0_i32_460 : BitVec 32 := 0#32
  let c1_i32_462 : BitVec 32 := 1#32
  let arg19 : BitVec 32 := Scf.iv c0_i32_460 c1_i32_462 k0_t5
  let v1195 : Index := Scalar.indexCast arg19
  let c0_1200 : Index := 0#32
  let c0_1201 : Index := 0#32
  ![v1194.toNat, 2, 2, v1195.toNat, 0, 0]
def k0_off72 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1199 : Index := Scalar.indexCast v10
  let c2_1202 : Index := 2#32
  let c3_1203 : Index := 3#32
  let c0_i32_460 : BitVec 32 := 0#32
  let c1_i32_462 : BitVec 32 := 1#32
  let arg19 : BitVec 32 := Scf.iv c0_i32_460 c1_i32_462 k0_t5
  let v1200 : Index := Scalar.indexCast arg19
  let c0_1204 : Index := 0#32
  let c0_1205 : Index := 0#32
  ![v1199.toNat, 2, 3, v1200.toNat, 0, 0]
def k0_off73 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1204 : Index := Scalar.indexCast v10
  let c2_1206 : Index := 2#32
  let c4_1207 : Index := 4#32
  let c0_i32_460 : BitVec 32 := 0#32
  let c1_i32_462 : BitVec 32 := 1#32
  let arg19 : BitVec 32 := Scf.iv c0_i32_460 c1_i32_462 k0_t5
  let v1205 : Index := Scalar.indexCast arg19
  let c0_1208 : Index := 0#32
  let c0_1209 : Index := 0#32
  ![v1204.toNat, 2, 4, v1205.toNat, 0, 0]
def k0_off74 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1209 : Index := Scalar.indexCast v10
  let c2_1210 : Index := 2#32
  let c5_1211 : Index := 5#32
  let c0_i32_460 : BitVec 32 := 0#32
  let c1_i32_462 : BitVec 32 := 1#32
  let arg19 : BitVec 32 := Scf.iv c0_i32_460 c1_i32_462 k0_t5
  let v1210 : Index := Scalar.indexCast arg19
  let c0_1212 : Index := 0#32
  let c0_1213 : Index := 0#32
  ![v1209.toNat, 2, 5, v1210.toNat, 0, 0]
def k0_off75 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1348 : Index := Scalar.indexCast v10
  let c3_1337 : Index := 3#32
  let c0_1338 : Index := 0#32
  let c0_i32_460 : BitVec 32 := 0#32
  let c1_i32_462 : BitVec 32 := 1#32
  let arg19 : BitVec 32 := Scf.iv c0_i32_460 c1_i32_462 k0_t5
  let v1349 : Index := Scalar.indexCast arg19
  let c0_1339 : Index := 0#32
  let c0_1340 : Index := 0#32
  ![v1348.toNat, 3, 0, v1349.toNat, 0, 0]
def k0_off76 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1353 : Index := Scalar.indexCast v10
  let c3_1341 : Index := 3#32
  let c1_1342 : Index := 1#32
  let c0_i32_460 : BitVec 32 := 0#32
  let c1_i32_462 : BitVec 32 := 1#32
  let arg19 : BitVec 32 := Scf.iv c0_i32_460 c1_i32_462 k0_t5
  let v1354 : Index := Scalar.indexCast arg19
  let c0_1343 : Index := 0#32
  let c0_1344 : Index := 0#32
  ![v1353.toNat, 3, 1, v1354.toNat, 0, 0]
def k0_off77 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1358 : Index := Scalar.indexCast v10
  let c3_1345 : Index := 3#32
  let c2_1346 : Index := 2#32
  let c0_i32_460 : BitVec 32 := 0#32
  let c1_i32_462 : BitVec 32 := 1#32
  let arg19 : BitVec 32 := Scf.iv c0_i32_460 c1_i32_462 k0_t5
  let v1359 : Index := Scalar.indexCast arg19
  let c0_1347 : Index := 0#32
  let c0_1348 : Index := 0#32
  ![v1358.toNat, 3, 2, v1359.toNat, 0, 0]
def k0_off78 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1363 : Index := Scalar.indexCast v10
  let c3_1349 : Index := 3#32
  let c3_1350 : Index := 3#32
  let c0_i32_460 : BitVec 32 := 0#32
  let c1_i32_462 : BitVec 32 := 1#32
  let arg19 : BitVec 32 := Scf.iv c0_i32_460 c1_i32_462 k0_t5
  let v1364 : Index := Scalar.indexCast arg19
  let c0_1351 : Index := 0#32
  let c0_1352 : Index := 0#32
  ![v1363.toNat, 3, 3, v1364.toNat, 0, 0]
def k0_off79 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1368 : Index := Scalar.indexCast v10
  let c3_1353 : Index := 3#32
  let c4_1354 : Index := 4#32
  let c0_i32_460 : BitVec 32 := 0#32
  let c1_i32_462 : BitVec 32 := 1#32
  let arg19 : BitVec 32 := Scf.iv c0_i32_460 c1_i32_462 k0_t5
  let v1369 : Index := Scalar.indexCast arg19
  let c0_1355 : Index := 0#32
  let c0_1356 : Index := 0#32
  ![v1368.toNat, 3, 4, v1369.toNat, 0, 0]
def k0_off80 (i : grid0.Coords) (k0_t5 : Fin k0_t5_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1373 : Index := Scalar.indexCast v10
  let c3_1357 : Index := 3#32
  let c5_1358 : Index := 5#32
  let c0_i32_460 : BitVec 32 := 0#32
  let c1_i32_462 : BitVec 32 := 1#32
  let arg19 : BitVec 32 := Scf.iv c0_i32_460 c1_i32_462 k0_t5
  let v1374 : Index := Scalar.indexCast arg19
  let c0_1359 : Index := 0#32
  let c0_1360 : Index := 0#32
  ![v1373.toNat, 3, 5, v1374.toNat, 0, 0]
def k0_cond7 (i : grid0.Coords) : BitVec 1 :=
  let arg1 : BitVec 32 := BitVec.ofNat 32 (i 1).val
  let c1_i32 : BitVec 32 := 1#32
  let v0 : BitVec 32 := Scalar.addi arg1 c1_i32
  let c7_i32 : BitVec 32 := 7#32
  let v57 : BitVec 1 := Scalar.cmpi .eq v0 c7_i32
  let v58 : BitVec 32 := Scalar.extui v57
  let c0_i32_19 : BitVec 32 := 0#32
  let v59 : BitVec 1 := Scalar.cmpi .ne v58 c0_i32_19
  v59

@[reducible] def k0_t6_loop : Scf.Loop 32 :=
  let c0_i32_500 : BitVec 32 := 0#32
  let c32_i32_501 : BitVec 32 := 32#32
  let v530 : BitVec 32 := Scalar.addi c0_i32_500 c32_i32_501
  let c1_i32_502 : BitVec 32 := 1#32
  ⟨c0_i32_500, v530, c1_i32_502⟩
def k0_off81 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v944 : Index := Scalar.indexCast v10
  let c0_1004 : Index := 0#32
  let c0_1005 : Index := 0#32
  let c0_i32_500 : BitVec 32 := 0#32
  let c1_i32_502 : BitVec 32 := 1#32
  let arg19 : BitVec 32 := Scf.iv c0_i32_500 c1_i32_502 k0_t6
  let v945 : Index := Scalar.indexCast arg19
  let c0_1006 : Index := 0#32
  let c0_1007 : Index := 0#32
  ![v944.toNat, 0, 0, v945.toNat, 0, 0]
def k0_off82 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v949 : Index := Scalar.indexCast v10
  let c0_1008 : Index := 0#32
  let c1_1009 : Index := 1#32
  let c0_i32_500 : BitVec 32 := 0#32
  let c1_i32_502 : BitVec 32 := 1#32
  let arg19 : BitVec 32 := Scf.iv c0_i32_500 c1_i32_502 k0_t6
  let v950 : Index := Scalar.indexCast arg19
  let c0_1010 : Index := 0#32
  let c0_1011 : Index := 0#32
  ![v949.toNat, 0, 1, v950.toNat, 0, 0]
def k0_off83 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v954 : Index := Scalar.indexCast v10
  let c0_1012 : Index := 0#32
  let c2_1013 : Index := 2#32
  let c0_i32_500 : BitVec 32 := 0#32
  let c1_i32_502 : BitVec 32 := 1#32
  let arg19 : BitVec 32 := Scf.iv c0_i32_500 c1_i32_502 k0_t6
  let v955 : Index := Scalar.indexCast arg19
  let c0_1014 : Index := 0#32
  let c0_1015 : Index := 0#32
  ![v954.toNat, 0, 2, v955.toNat, 0, 0]
def k0_off84 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v959 : Index := Scalar.indexCast v10
  let c0_1016 : Index := 0#32
  let c3_1017 : Index := 3#32
  let c0_i32_500 : BitVec 32 := 0#32
  let c1_i32_502 : BitVec 32 := 1#32
  let arg19 : BitVec 32 := Scf.iv c0_i32_500 c1_i32_502 k0_t6
  let v960 : Index := Scalar.indexCast arg19
  let c0_1018 : Index := 0#32
  let c0_1019 : Index := 0#32
  ![v959.toNat, 0, 3, v960.toNat, 0, 0]
def k0_off85 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v964 : Index := Scalar.indexCast v10
  let c0_1020 : Index := 0#32
  let c4_1021 : Index := 4#32
  let c0_i32_500 : BitVec 32 := 0#32
  let c1_i32_502 : BitVec 32 := 1#32
  let arg19 : BitVec 32 := Scf.iv c0_i32_500 c1_i32_502 k0_t6
  let v965 : Index := Scalar.indexCast arg19
  let c0_1022 : Index := 0#32
  let c0_1023 : Index := 0#32
  ![v964.toNat, 0, 4, v965.toNat, 0, 0]
def k0_off86 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v969 : Index := Scalar.indexCast v10
  let c0_1024 : Index := 0#32
  let c5_1025 : Index := 5#32
  let c0_i32_500 : BitVec 32 := 0#32
  let c1_i32_502 : BitVec 32 := 1#32
  let arg19 : BitVec 32 := Scf.iv c0_i32_500 c1_i32_502 k0_t6
  let v970 : Index := Scalar.indexCast arg19
  let c0_1026 : Index := 0#32
  let c0_1027 : Index := 0#32
  ![v969.toNat, 0, 5, v970.toNat, 0, 0]
def k0_off87 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v974 : Index := Scalar.indexCast v10
  let c0_1028 : Index := 0#32
  let c6_1029 : Index := 6#32
  let c0_i32_500 : BitVec 32 := 0#32
  let c1_i32_502 : BitVec 32 := 1#32
  let arg19 : BitVec 32 := Scf.iv c0_i32_500 c1_i32_502 k0_t6
  let v975 : Index := Scalar.indexCast arg19
  let c0_1030 : Index := 0#32
  let c0_1031 : Index := 0#32
  ![v974.toNat, 0, 6, v975.toNat, 0, 0]
def k0_off88 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1134 : Index := Scalar.indexCast v10
  let c1_1175 : Index := 1#32
  let c0_1176 : Index := 0#32
  let c0_i32_500 : BitVec 32 := 0#32
  let c1_i32_502 : BitVec 32 := 1#32
  let arg19 : BitVec 32 := Scf.iv c0_i32_500 c1_i32_502 k0_t6
  let v1135 : Index := Scalar.indexCast arg19
  let c0_1177 : Index := 0#32
  let c0_1178 : Index := 0#32
  ![v1134.toNat, 1, 0, v1135.toNat, 0, 0]
def k0_off89 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1139 : Index := Scalar.indexCast v10
  let c1_1179 : Index := 1#32
  let c1_1180 : Index := 1#32
  let c0_i32_500 : BitVec 32 := 0#32
  let c1_i32_502 : BitVec 32 := 1#32
  let arg19 : BitVec 32 := Scf.iv c0_i32_500 c1_i32_502 k0_t6
  let v1140 : Index := Scalar.indexCast arg19
  let c0_1181 : Index := 0#32
  let c0_1182 : Index := 0#32
  ![v1139.toNat, 1, 1, v1140.toNat, 0, 0]
def k0_off90 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1144 : Index := Scalar.indexCast v10
  let c1_1183 : Index := 1#32
  let c2_1184 : Index := 2#32
  let c0_i32_500 : BitVec 32 := 0#32
  let c1_i32_502 : BitVec 32 := 1#32
  let arg19 : BitVec 32 := Scf.iv c0_i32_500 c1_i32_502 k0_t6
  let v1145 : Index := Scalar.indexCast arg19
  let c0_1185 : Index := 0#32
  let c0_1186 : Index := 0#32
  ![v1144.toNat, 1, 2, v1145.toNat, 0, 0]
def k0_off91 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1149 : Index := Scalar.indexCast v10
  let c1_1187 : Index := 1#32
  let c3_1188 : Index := 3#32
  let c0_i32_500 : BitVec 32 := 0#32
  let c1_i32_502 : BitVec 32 := 1#32
  let arg19 : BitVec 32 := Scf.iv c0_i32_500 c1_i32_502 k0_t6
  let v1150 : Index := Scalar.indexCast arg19
  let c0_1189 : Index := 0#32
  let c0_1190 : Index := 0#32
  ![v1149.toNat, 1, 3, v1150.toNat, 0, 0]
def k0_off92 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1154 : Index := Scalar.indexCast v10
  let c1_1191 : Index := 1#32
  let c4_1192 : Index := 4#32
  let c0_i32_500 : BitVec 32 := 0#32
  let c1_i32_502 : BitVec 32 := 1#32
  let arg19 : BitVec 32 := Scf.iv c0_i32_500 c1_i32_502 k0_t6
  let v1155 : Index := Scalar.indexCast arg19
  let c0_1193 : Index := 0#32
  let c0_1194 : Index := 0#32
  ![v1154.toNat, 1, 4, v1155.toNat, 0, 0]
def k0_off93 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1159 : Index := Scalar.indexCast v10
  let c1_1195 : Index := 1#32
  let c5_1196 : Index := 5#32
  let c0_i32_500 : BitVec 32 := 0#32
  let c1_i32_502 : BitVec 32 := 1#32
  let arg19 : BitVec 32 := Scf.iv c0_i32_500 c1_i32_502 k0_t6
  let v1160 : Index := Scalar.indexCast arg19
  let c0_1197 : Index := 0#32
  let c0_1198 : Index := 0#32
  ![v1159.toNat, 1, 5, v1160.toNat, 0, 0]
def k0_off94 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1164 : Index := Scalar.indexCast v10
  let c1_1199 : Index := 1#32
  let c6_1200 : Index := 6#32
  let c0_i32_500 : BitVec 32 := 0#32
  let c1_i32_502 : BitVec 32 := 1#32
  let arg19 : BitVec 32 := Scf.iv c0_i32_500 c1_i32_502 k0_t6
  let v1165 : Index := Scalar.indexCast arg19
  let c0_1201 : Index := 0#32
  let c0_1202 : Index := 0#32
  ![v1164.toNat, 1, 6, v1165.toNat, 0, 0]
def k0_off95 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1324 : Index := Scalar.indexCast v10
  let c2_1346 : Index := 2#32
  let c0_1347 : Index := 0#32
  let c0_i32_500 : BitVec 32 := 0#32
  let c1_i32_502 : BitVec 32 := 1#32
  let arg19 : BitVec 32 := Scf.iv c0_i32_500 c1_i32_502 k0_t6
  let v1325 : Index := Scalar.indexCast arg19
  let c0_1348 : Index := 0#32
  let c0_1349 : Index := 0#32
  ![v1324.toNat, 2, 0, v1325.toNat, 0, 0]
def k0_off96 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1329 : Index := Scalar.indexCast v10
  let c2_1350 : Index := 2#32
  let c1_1351 : Index := 1#32
  let c0_i32_500 : BitVec 32 := 0#32
  let c1_i32_502 : BitVec 32 := 1#32
  let arg19 : BitVec 32 := Scf.iv c0_i32_500 c1_i32_502 k0_t6
  let v1330 : Index := Scalar.indexCast arg19
  let c0_1352 : Index := 0#32
  let c0_1353 : Index := 0#32
  ![v1329.toNat, 2, 1, v1330.toNat, 0, 0]
def k0_off97 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1334 : Index := Scalar.indexCast v10
  let c2_1354 : Index := 2#32
  let c2_1355 : Index := 2#32
  let c0_i32_500 : BitVec 32 := 0#32
  let c1_i32_502 : BitVec 32 := 1#32
  let arg19 : BitVec 32 := Scf.iv c0_i32_500 c1_i32_502 k0_t6
  let v1335 : Index := Scalar.indexCast arg19
  let c0_1356 : Index := 0#32
  let c0_1357 : Index := 0#32
  ![v1334.toNat, 2, 2, v1335.toNat, 0, 0]
def k0_off98 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1339 : Index := Scalar.indexCast v10
  let c2_1358 : Index := 2#32
  let c3_1359 : Index := 3#32
  let c0_i32_500 : BitVec 32 := 0#32
  let c1_i32_502 : BitVec 32 := 1#32
  let arg19 : BitVec 32 := Scf.iv c0_i32_500 c1_i32_502 k0_t6
  let v1340 : Index := Scalar.indexCast arg19
  let c0_1360 : Index := 0#32
  let c0_1361 : Index := 0#32
  ![v1339.toNat, 2, 3, v1340.toNat, 0, 0]
def k0_off99 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1344 : Index := Scalar.indexCast v10
  let c2_1362 : Index := 2#32
  let c4_1363 : Index := 4#32
  let c0_i32_500 : BitVec 32 := 0#32
  let c1_i32_502 : BitVec 32 := 1#32
  let arg19 : BitVec 32 := Scf.iv c0_i32_500 c1_i32_502 k0_t6
  let v1345 : Index := Scalar.indexCast arg19
  let c0_1364 : Index := 0#32
  let c0_1365 : Index := 0#32
  ![v1344.toNat, 2, 4, v1345.toNat, 0, 0]
def k0_off100 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1349 : Index := Scalar.indexCast v10
  let c2_1366 : Index := 2#32
  let c5_1367 : Index := 5#32
  let c0_i32_500 : BitVec 32 := 0#32
  let c1_i32_502 : BitVec 32 := 1#32
  let arg19 : BitVec 32 := Scf.iv c0_i32_500 c1_i32_502 k0_t6
  let v1350 : Index := Scalar.indexCast arg19
  let c0_1368 : Index := 0#32
  let c0_1369 : Index := 0#32
  ![v1349.toNat, 2, 5, v1350.toNat, 0, 0]
def k0_off101 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1354 : Index := Scalar.indexCast v10
  let c2_1370 : Index := 2#32
  let c6_1371 : Index := 6#32
  let c0_i32_500 : BitVec 32 := 0#32
  let c1_i32_502 : BitVec 32 := 1#32
  let arg19 : BitVec 32 := Scf.iv c0_i32_500 c1_i32_502 k0_t6
  let v1355 : Index := Scalar.indexCast arg19
  let c0_1372 : Index := 0#32
  let c0_1373 : Index := 0#32
  ![v1354.toNat, 2, 6, v1355.toNat, 0, 0]
def k0_off102 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1514 : Index := Scalar.indexCast v10
  let c3_1517 : Index := 3#32
  let c0_1518 : Index := 0#32
  let c0_i32_500 : BitVec 32 := 0#32
  let c1_i32_502 : BitVec 32 := 1#32
  let arg19 : BitVec 32 := Scf.iv c0_i32_500 c1_i32_502 k0_t6
  let v1515 : Index := Scalar.indexCast arg19
  let c0_1519 : Index := 0#32
  let c0_1520 : Index := 0#32
  ![v1514.toNat, 3, 0, v1515.toNat, 0, 0]
def k0_off103 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1519 : Index := Scalar.indexCast v10
  let c3_1521 : Index := 3#32
  let c1_1522 : Index := 1#32
  let c0_i32_500 : BitVec 32 := 0#32
  let c1_i32_502 : BitVec 32 := 1#32
  let arg19 : BitVec 32 := Scf.iv c0_i32_500 c1_i32_502 k0_t6
  let v1520 : Index := Scalar.indexCast arg19
  let c0_1523 : Index := 0#32
  let c0_1524 : Index := 0#32
  ![v1519.toNat, 3, 1, v1520.toNat, 0, 0]
def k0_off104 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1524 : Index := Scalar.indexCast v10
  let c3_1525 : Index := 3#32
  let c2_1526 : Index := 2#32
  let c0_i32_500 : BitVec 32 := 0#32
  let c1_i32_502 : BitVec 32 := 1#32
  let arg19 : BitVec 32 := Scf.iv c0_i32_500 c1_i32_502 k0_t6
  let v1525 : Index := Scalar.indexCast arg19
  let c0_1527 : Index := 0#32
  let c0_1528 : Index := 0#32
  ![v1524.toNat, 3, 2, v1525.toNat, 0, 0]
def k0_off105 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1529 : Index := Scalar.indexCast v10
  let c3_1529 : Index := 3#32
  let c3_1530 : Index := 3#32
  let c0_i32_500 : BitVec 32 := 0#32
  let c1_i32_502 : BitVec 32 := 1#32
  let arg19 : BitVec 32 := Scf.iv c0_i32_500 c1_i32_502 k0_t6
  let v1530 : Index := Scalar.indexCast arg19
  let c0_1531 : Index := 0#32
  let c0_1532 : Index := 0#32
  ![v1529.toNat, 3, 3, v1530.toNat, 0, 0]
def k0_off106 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1534 : Index := Scalar.indexCast v10
  let c3_1533 : Index := 3#32
  let c4_1534 : Index := 4#32
  let c0_i32_500 : BitVec 32 := 0#32
  let c1_i32_502 : BitVec 32 := 1#32
  let arg19 : BitVec 32 := Scf.iv c0_i32_500 c1_i32_502 k0_t6
  let v1535 : Index := Scalar.indexCast arg19
  let c0_1535 : Index := 0#32
  let c0_1536 : Index := 0#32
  ![v1534.toNat, 3, 4, v1535.toNat, 0, 0]
def k0_off107 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1539 : Index := Scalar.indexCast v10
  let c3_1537 : Index := 3#32
  let c5_1538 : Index := 5#32
  let c0_i32_500 : BitVec 32 := 0#32
  let c1_i32_502 : BitVec 32 := 1#32
  let arg19 : BitVec 32 := Scf.iv c0_i32_500 c1_i32_502 k0_t6
  let v1540 : Index := Scalar.indexCast arg19
  let c0_1539 : Index := 0#32
  let c0_1540 : Index := 0#32
  ![v1539.toNat, 3, 5, v1540.toNat, 0, 0]
def k0_off108 (i : grid0.Coords) (k0_t6 : Fin k0_t6_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1544 : Index := Scalar.indexCast v10
  let c3_1541 : Index := 3#32
  let c6_1542 : Index := 6#32
  let c0_i32_500 : BitVec 32 := 0#32
  let c1_i32_502 : BitVec 32 := 1#32
  let arg19 : BitVec 32 := Scf.iv c0_i32_500 c1_i32_502 k0_t6
  let v1545 : Index := Scalar.indexCast arg19
  let c0_1543 : Index := 0#32
  let c0_1544 : Index := 0#32
  ![v1544.toNat, 3, 6, v1545.toNat, 0, 0]
def k0_cond8 (i : grid0.Coords) : BitVec 1 :=
  let arg1 : BitVec 32 := BitVec.ofNat 32 (i 1).val
  let c1_i32 : BitVec 32 := 1#32
  let v0 : BitVec 32 := Scalar.addi arg1 c1_i32
  let c8_i32 : BitVec 32 := 8#32
  let v60 : BitVec 1 := Scalar.cmpi .eq v0 c8_i32
  let v61 : BitVec 32 := Scalar.extui v60
  let c0_i32_20 : BitVec 32 := 0#32
  let v62 : BitVec 1 := Scalar.cmpi .ne v61 c0_i32_20
  v62

@[reducible] def k0_t7_loop : Scf.Loop 32 :=
  let c0_i32_540 : BitVec 32 := 0#32
  let c32_i32_541 : BitVec 32 := 32#32
  let v562 : BitVec 32 := Scalar.addi c0_i32_540 c32_i32_541
  let c1_i32_542 : BitVec 32 := 1#32
  ⟨c0_i32_540, v562, c1_i32_542⟩
def k0_off109 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1032 : Index := Scalar.indexCast v10
  let c0_1112 : Index := 0#32
  let c0_1113 : Index := 0#32
  let c0_i32_540 : BitVec 32 := 0#32
  let c1_i32_542 : BitVec 32 := 1#32
  let arg19 : BitVec 32 := Scf.iv c0_i32_540 c1_i32_542 k0_t7
  let v1033 : Index := Scalar.indexCast arg19
  let c0_1114 : Index := 0#32
  let c0_1115 : Index := 0#32
  ![v1032.toNat, 0, 0, v1033.toNat, 0, 0]
def k0_off110 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1037 : Index := Scalar.indexCast v10
  let c0_1116 : Index := 0#32
  let c1_1117 : Index := 1#32
  let c0_i32_540 : BitVec 32 := 0#32
  let c1_i32_542 : BitVec 32 := 1#32
  let arg19 : BitVec 32 := Scf.iv c0_i32_540 c1_i32_542 k0_t7
  let v1038 : Index := Scalar.indexCast arg19
  let c0_1118 : Index := 0#32
  let c0_1119 : Index := 0#32
  ![v1037.toNat, 0, 1, v1038.toNat, 0, 0]
def k0_off111 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1042 : Index := Scalar.indexCast v10
  let c0_1120 : Index := 0#32
  let c2_1121 : Index := 2#32
  let c0_i32_540 : BitVec 32 := 0#32
  let c1_i32_542 : BitVec 32 := 1#32
  let arg19 : BitVec 32 := Scf.iv c0_i32_540 c1_i32_542 k0_t7
  let v1043 : Index := Scalar.indexCast arg19
  let c0_1122 : Index := 0#32
  let c0_1123 : Index := 0#32
  ![v1042.toNat, 0, 2, v1043.toNat, 0, 0]
def k0_off112 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1047 : Index := Scalar.indexCast v10
  let c0_1124 : Index := 0#32
  let c3_1125 : Index := 3#32
  let c0_i32_540 : BitVec 32 := 0#32
  let c1_i32_542 : BitVec 32 := 1#32
  let arg19 : BitVec 32 := Scf.iv c0_i32_540 c1_i32_542 k0_t7
  let v1048 : Index := Scalar.indexCast arg19
  let c0_1126 : Index := 0#32
  let c0_1127 : Index := 0#32
  ![v1047.toNat, 0, 3, v1048.toNat, 0, 0]
def k0_off113 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1052 : Index := Scalar.indexCast v10
  let c0_1128 : Index := 0#32
  let c4_1129 : Index := 4#32
  let c0_i32_540 : BitVec 32 := 0#32
  let c1_i32_542 : BitVec 32 := 1#32
  let arg19 : BitVec 32 := Scf.iv c0_i32_540 c1_i32_542 k0_t7
  let v1053 : Index := Scalar.indexCast arg19
  let c0_1130 : Index := 0#32
  let c0_1131 : Index := 0#32
  ![v1052.toNat, 0, 4, v1053.toNat, 0, 0]
def k0_off114 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1057 : Index := Scalar.indexCast v10
  let c0_1132 : Index := 0#32
  let c5_1133 : Index := 5#32
  let c0_i32_540 : BitVec 32 := 0#32
  let c1_i32_542 : BitVec 32 := 1#32
  let arg19 : BitVec 32 := Scf.iv c0_i32_540 c1_i32_542 k0_t7
  let v1058 : Index := Scalar.indexCast arg19
  let c0_1134 : Index := 0#32
  let c0_1135 : Index := 0#32
  ![v1057.toNat, 0, 5, v1058.toNat, 0, 0]
def k0_off115 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1062 : Index := Scalar.indexCast v10
  let c0_1136 : Index := 0#32
  let c6_1137 : Index := 6#32
  let c0_i32_540 : BitVec 32 := 0#32
  let c1_i32_542 : BitVec 32 := 1#32
  let arg19 : BitVec 32 := Scf.iv c0_i32_540 c1_i32_542 k0_t7
  let v1063 : Index := Scalar.indexCast arg19
  let c0_1138 : Index := 0#32
  let c0_1139 : Index := 0#32
  ![v1062.toNat, 0, 6, v1063.toNat, 0, 0]
def k0_off116 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1067 : Index := Scalar.indexCast v10
  let c0_1140 : Index := 0#32
  let c7_1141 : Index := 7#32
  let c0_i32_540 : BitVec 32 := 0#32
  let c1_i32_542 : BitVec 32 := 1#32
  let arg19 : BitVec 32 := Scf.iv c0_i32_540 c1_i32_542 k0_t7
  let v1068 : Index := Scalar.indexCast arg19
  let c0_1142 : Index := 0#32
  let c0_1143 : Index := 0#32
  ![v1067.toNat, 0, 7, v1068.toNat, 0, 0]
def k0_off117 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1248 : Index := Scalar.indexCast v10
  let c1_1307 : Index := 1#32
  let c0_1308 : Index := 0#32
  let c0_i32_540 : BitVec 32 := 0#32
  let c1_i32_542 : BitVec 32 := 1#32
  let arg19 : BitVec 32 := Scf.iv c0_i32_540 c1_i32_542 k0_t7
  let v1249 : Index := Scalar.indexCast arg19
  let c0_1309 : Index := 0#32
  let c0_1310 : Index := 0#32
  ![v1248.toNat, 1, 0, v1249.toNat, 0, 0]
def k0_off118 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1253 : Index := Scalar.indexCast v10
  let c1_1311 : Index := 1#32
  let c1_1312 : Index := 1#32
  let c0_i32_540 : BitVec 32 := 0#32
  let c1_i32_542 : BitVec 32 := 1#32
  let arg19 : BitVec 32 := Scf.iv c0_i32_540 c1_i32_542 k0_t7
  let v1254 : Index := Scalar.indexCast arg19
  let c0_1313 : Index := 0#32
  let c0_1314 : Index := 0#32
  ![v1253.toNat, 1, 1, v1254.toNat, 0, 0]
def k0_off119 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1258 : Index := Scalar.indexCast v10
  let c1_1315 : Index := 1#32
  let c2_1316 : Index := 2#32
  let c0_i32_540 : BitVec 32 := 0#32
  let c1_i32_542 : BitVec 32 := 1#32
  let arg19 : BitVec 32 := Scf.iv c0_i32_540 c1_i32_542 k0_t7
  let v1259 : Index := Scalar.indexCast arg19
  let c0_1317 : Index := 0#32
  let c0_1318 : Index := 0#32
  ![v1258.toNat, 1, 2, v1259.toNat, 0, 0]
def k0_off120 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1263 : Index := Scalar.indexCast v10
  let c1_1319 : Index := 1#32
  let c3_1320 : Index := 3#32
  let c0_i32_540 : BitVec 32 := 0#32
  let c1_i32_542 : BitVec 32 := 1#32
  let arg19 : BitVec 32 := Scf.iv c0_i32_540 c1_i32_542 k0_t7
  let v1264 : Index := Scalar.indexCast arg19
  let c0_1321 : Index := 0#32
  let c0_1322 : Index := 0#32
  ![v1263.toNat, 1, 3, v1264.toNat, 0, 0]
def k0_off121 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1268 : Index := Scalar.indexCast v10
  let c1_1323 : Index := 1#32
  let c4_1324 : Index := 4#32
  let c0_i32_540 : BitVec 32 := 0#32
  let c1_i32_542 : BitVec 32 := 1#32
  let arg19 : BitVec 32 := Scf.iv c0_i32_540 c1_i32_542 k0_t7
  let v1269 : Index := Scalar.indexCast arg19
  let c0_1325 : Index := 0#32
  let c0_1326 : Index := 0#32
  ![v1268.toNat, 1, 4, v1269.toNat, 0, 0]
def k0_off122 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1273 : Index := Scalar.indexCast v10
  let c1_1327 : Index := 1#32
  let c5_1328 : Index := 5#32
  let c0_i32_540 : BitVec 32 := 0#32
  let c1_i32_542 : BitVec 32 := 1#32
  let arg19 : BitVec 32 := Scf.iv c0_i32_540 c1_i32_542 k0_t7
  let v1274 : Index := Scalar.indexCast arg19
  let c0_1329 : Index := 0#32
  let c0_1330 : Index := 0#32
  ![v1273.toNat, 1, 5, v1274.toNat, 0, 0]
def k0_off123 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1278 : Index := Scalar.indexCast v10
  let c1_1331 : Index := 1#32
  let c6_1332 : Index := 6#32
  let c0_i32_540 : BitVec 32 := 0#32
  let c1_i32_542 : BitVec 32 := 1#32
  let arg19 : BitVec 32 := Scf.iv c0_i32_540 c1_i32_542 k0_t7
  let v1279 : Index := Scalar.indexCast arg19
  let c0_1333 : Index := 0#32
  let c0_1334 : Index := 0#32
  ![v1278.toNat, 1, 6, v1279.toNat, 0, 0]
def k0_off124 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1283 : Index := Scalar.indexCast v10
  let c1_1335 : Index := 1#32
  let c7_1336 : Index := 7#32
  let c0_i32_540 : BitVec 32 := 0#32
  let c1_i32_542 : BitVec 32 := 1#32
  let arg19 : BitVec 32 := Scf.iv c0_i32_540 c1_i32_542 k0_t7
  let v1284 : Index := Scalar.indexCast arg19
  let c0_1337 : Index := 0#32
  let c0_1338 : Index := 0#32
  ![v1283.toNat, 1, 7, v1284.toNat, 0, 0]
def k0_off125 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1464 : Index := Scalar.indexCast v10
  let c2_1502 : Index := 2#32
  let c0_1503 : Index := 0#32
  let c0_i32_540 : BitVec 32 := 0#32
  let c1_i32_542 : BitVec 32 := 1#32
  let arg19 : BitVec 32 := Scf.iv c0_i32_540 c1_i32_542 k0_t7
  let v1465 : Index := Scalar.indexCast arg19
  let c0_1504 : Index := 0#32
  let c0_1505 : Index := 0#32
  ![v1464.toNat, 2, 0, v1465.toNat, 0, 0]
def k0_off126 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1469 : Index := Scalar.indexCast v10
  let c2_1506 : Index := 2#32
  let c1_1507 : Index := 1#32
  let c0_i32_540 : BitVec 32 := 0#32
  let c1_i32_542 : BitVec 32 := 1#32
  let arg19 : BitVec 32 := Scf.iv c0_i32_540 c1_i32_542 k0_t7
  let v1470 : Index := Scalar.indexCast arg19
  let c0_1508 : Index := 0#32
  let c0_1509 : Index := 0#32
  ![v1469.toNat, 2, 1, v1470.toNat, 0, 0]
def k0_off127 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1474 : Index := Scalar.indexCast v10
  let c2_1510 : Index := 2#32
  let c2_1511 : Index := 2#32
  let c0_i32_540 : BitVec 32 := 0#32
  let c1_i32_542 : BitVec 32 := 1#32
  let arg19 : BitVec 32 := Scf.iv c0_i32_540 c1_i32_542 k0_t7
  let v1475 : Index := Scalar.indexCast arg19
  let c0_1512 : Index := 0#32
  let c0_1513 : Index := 0#32
  ![v1474.toNat, 2, 2, v1475.toNat, 0, 0]
def k0_off128 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1479 : Index := Scalar.indexCast v10
  let c2_1514 : Index := 2#32
  let c3_1515 : Index := 3#32
  let c0_i32_540 : BitVec 32 := 0#32
  let c1_i32_542 : BitVec 32 := 1#32
  let arg19 : BitVec 32 := Scf.iv c0_i32_540 c1_i32_542 k0_t7
  let v1480 : Index := Scalar.indexCast arg19
  let c0_1516 : Index := 0#32
  let c0_1517 : Index := 0#32
  ![v1479.toNat, 2, 3, v1480.toNat, 0, 0]
def k0_off129 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1484 : Index := Scalar.indexCast v10
  let c2_1518 : Index := 2#32
  let c4_1519 : Index := 4#32
  let c0_i32_540 : BitVec 32 := 0#32
  let c1_i32_542 : BitVec 32 := 1#32
  let arg19 : BitVec 32 := Scf.iv c0_i32_540 c1_i32_542 k0_t7
  let v1485 : Index := Scalar.indexCast arg19
  let c0_1520 : Index := 0#32
  let c0_1521 : Index := 0#32
  ![v1484.toNat, 2, 4, v1485.toNat, 0, 0]
def k0_off130 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1489 : Index := Scalar.indexCast v10
  let c2_1522 : Index := 2#32
  let c5_1523 : Index := 5#32
  let c0_i32_540 : BitVec 32 := 0#32
  let c1_i32_542 : BitVec 32 := 1#32
  let arg19 : BitVec 32 := Scf.iv c0_i32_540 c1_i32_542 k0_t7
  let v1490 : Index := Scalar.indexCast arg19
  let c0_1524 : Index := 0#32
  let c0_1525 : Index := 0#32
  ![v1489.toNat, 2, 5, v1490.toNat, 0, 0]
def k0_off131 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1494 : Index := Scalar.indexCast v10
  let c2_1526 : Index := 2#32
  let c6_1527 : Index := 6#32
  let c0_i32_540 : BitVec 32 := 0#32
  let c1_i32_542 : BitVec 32 := 1#32
  let arg19 : BitVec 32 := Scf.iv c0_i32_540 c1_i32_542 k0_t7
  let v1495 : Index := Scalar.indexCast arg19
  let c0_1528 : Index := 0#32
  let c0_1529 : Index := 0#32
  ![v1494.toNat, 2, 6, v1495.toNat, 0, 0]
def k0_off132 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1499 : Index := Scalar.indexCast v10
  let c2_1530 : Index := 2#32
  let c7_1531 : Index := 7#32
  let c0_i32_540 : BitVec 32 := 0#32
  let c1_i32_542 : BitVec 32 := 1#32
  let arg19 : BitVec 32 := Scf.iv c0_i32_540 c1_i32_542 k0_t7
  let v1500 : Index := Scalar.indexCast arg19
  let c0_1532 : Index := 0#32
  let c0_1533 : Index := 0#32
  ![v1499.toNat, 2, 7, v1500.toNat, 0, 0]
def k0_off133 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1680 : Index := Scalar.indexCast v10
  let c3_1697 : Index := 3#32
  let c0_1698 : Index := 0#32
  let c0_i32_540 : BitVec 32 := 0#32
  let c1_i32_542 : BitVec 32 := 1#32
  let arg19 : BitVec 32 := Scf.iv c0_i32_540 c1_i32_542 k0_t7
  let v1681 : Index := Scalar.indexCast arg19
  let c0_1699 : Index := 0#32
  let c0_1700 : Index := 0#32
  ![v1680.toNat, 3, 0, v1681.toNat, 0, 0]
def k0_off134 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1685 : Index := Scalar.indexCast v10
  let c3_1701 : Index := 3#32
  let c1_1702 : Index := 1#32
  let c0_i32_540 : BitVec 32 := 0#32
  let c1_i32_542 : BitVec 32 := 1#32
  let arg19 : BitVec 32 := Scf.iv c0_i32_540 c1_i32_542 k0_t7
  let v1686 : Index := Scalar.indexCast arg19
  let c0_1703 : Index := 0#32
  let c0_1704 : Index := 0#32
  ![v1685.toNat, 3, 1, v1686.toNat, 0, 0]
def k0_off135 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1690 : Index := Scalar.indexCast v10
  let c3_1705 : Index := 3#32
  let c2_1706 : Index := 2#32
  let c0_i32_540 : BitVec 32 := 0#32
  let c1_i32_542 : BitVec 32 := 1#32
  let arg19 : BitVec 32 := Scf.iv c0_i32_540 c1_i32_542 k0_t7
  let v1691 : Index := Scalar.indexCast arg19
  let c0_1707 : Index := 0#32
  let c0_1708 : Index := 0#32
  ![v1690.toNat, 3, 2, v1691.toNat, 0, 0]
def k0_off136 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1695 : Index := Scalar.indexCast v10
  let c3_1709 : Index := 3#32
  let c3_1710 : Index := 3#32
  let c0_i32_540 : BitVec 32 := 0#32
  let c1_i32_542 : BitVec 32 := 1#32
  let arg19 : BitVec 32 := Scf.iv c0_i32_540 c1_i32_542 k0_t7
  let v1696 : Index := Scalar.indexCast arg19
  let c0_1711 : Index := 0#32
  let c0_1712 : Index := 0#32
  ![v1695.toNat, 3, 3, v1696.toNat, 0, 0]
def k0_off137 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1700 : Index := Scalar.indexCast v10
  let c3_1713 : Index := 3#32
  let c4_1714 : Index := 4#32
  let c0_i32_540 : BitVec 32 := 0#32
  let c1_i32_542 : BitVec 32 := 1#32
  let arg19 : BitVec 32 := Scf.iv c0_i32_540 c1_i32_542 k0_t7
  let v1701 : Index := Scalar.indexCast arg19
  let c0_1715 : Index := 0#32
  let c0_1716 : Index := 0#32
  ![v1700.toNat, 3, 4, v1701.toNat, 0, 0]
def k0_off138 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1705 : Index := Scalar.indexCast v10
  let c3_1717 : Index := 3#32
  let c5_1718 : Index := 5#32
  let c0_i32_540 : BitVec 32 := 0#32
  let c1_i32_542 : BitVec 32 := 1#32
  let arg19 : BitVec 32 := Scf.iv c0_i32_540 c1_i32_542 k0_t7
  let v1706 : Index := Scalar.indexCast arg19
  let c0_1719 : Index := 0#32
  let c0_1720 : Index := 0#32
  ![v1705.toNat, 3, 5, v1706.toNat, 0, 0]
def k0_off139 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1710 : Index := Scalar.indexCast v10
  let c3_1721 : Index := 3#32
  let c6_1722 : Index := 6#32
  let c0_i32_540 : BitVec 32 := 0#32
  let c1_i32_542 : BitVec 32 := 1#32
  let arg19 : BitVec 32 := Scf.iv c0_i32_540 c1_i32_542 k0_t7
  let v1711 : Index := Scalar.indexCast arg19
  let c0_1723 : Index := 0#32
  let c0_1724 : Index := 0#32
  ![v1710.toNat, 3, 6, v1711.toNat, 0, 0]
def k0_off140 (i : grid0.Coords) (k0_t7 : Fin k0_t7_loop.trips) : Fin 6 → Nat :=
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v1715 : Index := Scalar.indexCast v10
  let c3_1725 : Index := 3#32
  let c7_1726 : Index := 7#32
  let c0_i32_540 : BitVec 32 := 0#32
  let c1_i32_542 : BitVec 32 := 1#32
  let arg19 : BitVec 32 := Scf.iv c0_i32_540 c1_i32_542 k0_t7
  let v1716 : Index := Scalar.indexCast arg19
  let c0_1727 : Index := 0#32
  let c0_1728 : Index := 0#32
  ![v1715.toNat, 3, 7, v1716.toNat, 0, 0]
@[reducible] def k0_t8_loop : Scf.Loop 32 :=
  let c0_i32_220 : BitVec 32 := 0#32
  let c12_i32 : BitVec 32 := 12#32
  let v307 : BitVec 32 := Scalar.addi c0_i32_220 c12_i32
  let c1_i32_221 : BitVec 32 := 1#32
  ⟨c0_i32_220, v307, c1_i32_221⟩
@[reducible] def k0_t9_loop (i : grid0.Coords) : Scf.Loop 32 :=
  let c0_i32_315 : BitVec 32 := 0#32
  let arg1 : BitVec 32 := BitVec.ofNat 32 (i 1).val
  let c1_i32 : BitVec 32 := 1#32
  let v0 : BitVec 32 := Scalar.addi arg1 c1_i32
  let v533 : BitVec 32 := Scalar.subi v0 c0_i32_315
  let c1_i32_316 : BitVec 32 := 1#32
  let v535 : BitVec 32 := Scalar.divsi v533 c1_i32_316
  let v536 : BitVec 32 := Scalar.muli v535 c1_i32_316
  let v537 : BitVec 32 := Scalar.addi c0_i32_315 v536
  let c1_i32_317 : BitVec 32 := 1#32
  ⟨c0_i32_315, v537, c1_i32_317⟩
def k0_off141 (i : grid0.Coords) (k0_t9 : Fin (k0_t9_loop i).trips) : Fin 4 → Nat :=
  let c0_323 : Index := 0#32
  let c0_i32_315 : BitVec 32 := 0#32
  let c1_i32_317 : BitVec 32 := 1#32
  let arg24 : BitVec 32 := Scf.iv c0_i32_315 c1_i32_317 k0_t9
  let v556 : Index := Scalar.indexCast arg24
  let c0_324 : Index := 0#32
  let c0_325 : Index := 0#32
  ![0, v556.toNat, 0, 0]
def k0_off142 (i : grid0.Coords) (k0_t9 : Fin (k0_t9_loop i).trips) : Fin 4 → Nat :=
  let c1_329 : Index := 1#32
  let c0_i32_315 : BitVec 32 := 0#32
  let c1_i32_317 : BitVec 32 := 1#32
  let arg24 : BitVec 32 := Scf.iv c0_i32_315 c1_i32_317 k0_t9
  let v576 : Index := Scalar.indexCast arg24
  let c0_330 : Index := 0#32
  let c0_331 : Index := 0#32
  ![1, v576.toNat, 0, 0]
def k0_off143 (i : grid0.Coords) (k0_t9 : Fin (k0_t9_loop i).trips) : Fin 4 → Nat :=
  let c2_335 : Index := 2#32
  let c0_i32_315 : BitVec 32 := 0#32
  let c1_i32_317 : BitVec 32 := 1#32
  let arg24 : BitVec 32 := Scf.iv c0_i32_315 c1_i32_317 k0_t9
  let v596 : Index := Scalar.indexCast arg24
  let c0_336 : Index := 0#32
  let c0_337 : Index := 0#32
  ![2, v596.toNat, 0, 0]
def k0_off144 (i : grid0.Coords) (k0_t9 : Fin (k0_t9_loop i).trips) : Fin 4 → Nat :=
  let c3_341 : Index := 3#32
  let c0_i32_315 : BitVec 32 := 0#32
  let c1_i32_317 : BitVec 32 := 1#32
  let arg24 : BitVec 32 := Scf.iv c0_i32_315 c1_i32_317 k0_t9
  let v616 : Index := Scalar.indexCast arg24
  let c0_342 : Index := 0#32
  let c0_343 : Index := 0#32
  ![3, v616.toNat, 0, 0]
@[reducible] def k0_t10_loop (i : grid0.Coords) : Scf.Loop 32 :=
  let c0_i32_315 : BitVec 32 := 0#32
  let arg1 : BitVec 32 := BitVec.ofNat 32 (i 1).val
  let c1_i32 : BitVec 32 := 1#32
  let v0 : BitVec 32 := Scalar.addi arg1 c1_i32
  let v533 : BitVec 32 := Scalar.subi v0 c0_i32_315
  let c1_i32_316 : BitVec 32 := 1#32
  let v535 : BitVec 32 := Scalar.divsi v533 c1_i32_316
  let v536 : BitVec 32 := Scalar.muli v535 c1_i32_316
  let v537 : BitVec 32 := Scalar.addi c0_i32_315 v536
  let v534 : BitVec 32 := Scalar.addi c0_i32_315 v533
  let c1_i32_318 : BitVec 32 := 1#32
  ⟨v537, v534, c1_i32_318⟩
def k0_off145 (i : grid0.Coords) (k0_t10 : Fin (k0_t10_loop i).trips) : Fin 4 → Nat :=
  let c0_323 : Index := 0#32
  let c0_i32_315 : BitVec 32 := 0#32
  let arg1 : BitVec 32 := BitVec.ofNat 32 (i 1).val
  let c1_i32 : BitVec 32 := 1#32
  let v0 : BitVec 32 := Scalar.addi arg1 c1_i32
  let v533 : BitVec 32 := Scalar.subi v0 c0_i32_315
  let c1_i32_316 : BitVec 32 := 1#32
  let v535 : BitVec 32 := Scalar.divsi v533 c1_i32_316
  let v536 : BitVec 32 := Scalar.muli v535 c1_i32_316
  let v537 : BitVec 32 := Scalar.addi c0_i32_315 v536
  let c1_i32_318 : BitVec 32 := 1#32
  let arg24 : BitVec 32 := Scf.iv v537 c1_i32_318 k0_t10
  let v556 : Index := Scalar.indexCast arg24
  let c0_324 : Index := 0#32
  let c0_325 : Index := 0#32
  ![0, v556.toNat, 0, 0]
def k0_off146 (i : grid0.Coords) (k0_t10 : Fin (k0_t10_loop i).trips) : Fin 4 → Nat :=
  let c1_329 : Index := 1#32
  let c0_i32_315 : BitVec 32 := 0#32
  let arg1 : BitVec 32 := BitVec.ofNat 32 (i 1).val
  let c1_i32 : BitVec 32 := 1#32
  let v0 : BitVec 32 := Scalar.addi arg1 c1_i32
  let v533 : BitVec 32 := Scalar.subi v0 c0_i32_315
  let c1_i32_316 : BitVec 32 := 1#32
  let v535 : BitVec 32 := Scalar.divsi v533 c1_i32_316
  let v536 : BitVec 32 := Scalar.muli v535 c1_i32_316
  let v537 : BitVec 32 := Scalar.addi c0_i32_315 v536
  let c1_i32_318 : BitVec 32 := 1#32
  let arg24 : BitVec 32 := Scf.iv v537 c1_i32_318 k0_t10
  let v576 : Index := Scalar.indexCast arg24
  let c0_330 : Index := 0#32
  let c0_331 : Index := 0#32
  ![1, v576.toNat, 0, 0]
def k0_off147 (i : grid0.Coords) (k0_t10 : Fin (k0_t10_loop i).trips) : Fin 4 → Nat :=
  let c2_335 : Index := 2#32
  let c0_i32_315 : BitVec 32 := 0#32
  let arg1 : BitVec 32 := BitVec.ofNat 32 (i 1).val
  let c1_i32 : BitVec 32 := 1#32
  let v0 : BitVec 32 := Scalar.addi arg1 c1_i32
  let v533 : BitVec 32 := Scalar.subi v0 c0_i32_315
  let c1_i32_316 : BitVec 32 := 1#32
  let v535 : BitVec 32 := Scalar.divsi v533 c1_i32_316
  let v536 : BitVec 32 := Scalar.muli v535 c1_i32_316
  let v537 : BitVec 32 := Scalar.addi c0_i32_315 v536
  let c1_i32_318 : BitVec 32 := 1#32
  let arg24 : BitVec 32 := Scf.iv v537 c1_i32_318 k0_t10
  let v596 : Index := Scalar.indexCast arg24
  let c0_336 : Index := 0#32
  let c0_337 : Index := 0#32
  ![2, v596.toNat, 0, 0]
def k0_off148 (i : grid0.Coords) (k0_t10 : Fin (k0_t10_loop i).trips) : Fin 4 → Nat :=
  let c3_341 : Index := 3#32
  let c0_i32_315 : BitVec 32 := 0#32
  let arg1 : BitVec 32 := BitVec.ofNat 32 (i 1).val
  let c1_i32 : BitVec 32 := 1#32
  let v0 : BitVec 32 := Scalar.addi arg1 c1_i32
  let v533 : BitVec 32 := Scalar.subi v0 c0_i32_315
  let c1_i32_316 : BitVec 32 := 1#32
  let v535 : BitVec 32 := Scalar.divsi v533 c1_i32_316
  let v536 : BitVec 32 := Scalar.muli v535 c1_i32_316
  let v537 : BitVec 32 := Scalar.addi c0_i32_315 v536
  let c1_i32_318 : BitVec 32 := 1#32
  let arg24 : BitVec 32 := Scf.iv v537 c1_i32_318 k0_t10
  let v616 : Index := Scalar.indexCast arg24
  let c0_342 : Index := 0#32
  let c0_343 : Index := 0#32
  ![3, v616.toNat, 0, 0]
@[reducible] def k0_t11_loop (i : grid0.Coords) : Scf.Loop 32 :=
  let c0_i32_262 : BitVec 32 := 0#32
  let arg1 : BitVec 32 := BitVec.ofNat 32 (i 1).val
  let c1_i32 : BitVec 32 := 1#32
  let v0 : BitVec 32 := Scalar.addi arg1 c1_i32
  let v409 : BitVec 32 := Scalar.subi v0 c0_i32_262
  let c1_i32_264 : BitVec 32 := 1#32
  let v411 : BitVec 32 := Scalar.divsi v409 c1_i32_264
  let v412 : BitVec 32 := Scalar.muli v411 c1_i32_264
  let v413 : BitVec 32 := Scalar.addi c0_i32_262 v412
  let c1_i32_265 : BitVec 32 := 1#32
  ⟨c0_i32_262, v413, c1_i32_265⟩
def k0_off149 (i : grid0.Coords) (k0_t11 : Fin (k0_t11_loop i).trips) : Fin 4 → Nat :=
  let c0_267 : Index := 0#32
  let c0_i32_262 : BitVec 32 := 0#32
  let c1_i32_265 : BitVec 32 := 1#32
  let arg19 : BitVec 32 := Scf.iv c0_i32_262 c1_i32_265 k0_t11
  let v416 : Index := Scalar.indexCast arg19
  let c0_268 : Index := 0#32
  let c0_269 : Index := 0#32
  ![0, v416.toNat, 0, 0]
def k0_off150 (i : grid0.Coords) (k0_t11 : Fin (k0_t11_loop i).trips) : Fin 4 → Nat :=
  let c1_280 : Index := 1#32
  let c0_i32_262 : BitVec 32 := 0#32
  let c1_i32_265 : BitVec 32 := 1#32
  let arg19 : BitVec 32 := Scf.iv c0_i32_262 c1_i32_265 k0_t11
  let v443 : Index := Scalar.indexCast arg19
  let c0_281 : Index := 0#32
  let c0_282 : Index := 0#32
  ![1, v443.toNat, 0, 0]
def k0_off151 (i : grid0.Coords) (k0_t11 : Fin (k0_t11_loop i).trips) : Fin 4 → Nat :=
  let c2_293 : Index := 2#32
  let c0_i32_262 : BitVec 32 := 0#32
  let c1_i32_265 : BitVec 32 := 1#32
  let arg19 : BitVec 32 := Scf.iv c0_i32_262 c1_i32_265 k0_t11
  let v470 : Index := Scalar.indexCast arg19
  let c0_294 : Index := 0#32
  let c0_295 : Index := 0#32
  ![2, v470.toNat, 0, 0]
def k0_off152 (i : grid0.Coords) (k0_t11 : Fin (k0_t11_loop i).trips) : Fin 4 → Nat :=
  let c3_306 : Index := 3#32
  let c0_i32_262 : BitVec 32 := 0#32
  let c1_i32_265 : BitVec 32 := 1#32
  let arg19 : BitVec 32 := Scf.iv c0_i32_262 c1_i32_265 k0_t11
  let v497 : Index := Scalar.indexCast arg19
  let c0_307 : Index := 0#32
  let c0_308 : Index := 0#32
  ![3, v497.toNat, 0, 0]
@[reducible] def k0_t12_loop (i : grid0.Coords) : Scf.Loop 32 :=
  let c0_i32_262 : BitVec 32 := 0#32
  let arg1 : BitVec 32 := BitVec.ofNat 32 (i 1).val
  let c1_i32 : BitVec 32 := 1#32
  let v0 : BitVec 32 := Scalar.addi arg1 c1_i32
  let v409 : BitVec 32 := Scalar.subi v0 c0_i32_262
  let c1_i32_264 : BitVec 32 := 1#32
  let v411 : BitVec 32 := Scalar.divsi v409 c1_i32_264
  let v412 : BitVec 32 := Scalar.muli v411 c1_i32_264
  let v413 : BitVec 32 := Scalar.addi c0_i32_262 v412
  let v410 : BitVec 32 := Scalar.addi c0_i32_262 v409
  let c1_i32_266 : BitVec 32 := 1#32
  ⟨v413, v410, c1_i32_266⟩
def k0_off153 (i : grid0.Coords) (k0_t12 : Fin (k0_t12_loop i).trips) : Fin 4 → Nat :=
  let c0_267 : Index := 0#32
  let c0_i32_262 : BitVec 32 := 0#32
  let arg1 : BitVec 32 := BitVec.ofNat 32 (i 1).val
  let c1_i32 : BitVec 32 := 1#32
  let v0 : BitVec 32 := Scalar.addi arg1 c1_i32
  let v409 : BitVec 32 := Scalar.subi v0 c0_i32_262
  let c1_i32_264 : BitVec 32 := 1#32
  let v411 : BitVec 32 := Scalar.divsi v409 c1_i32_264
  let v412 : BitVec 32 := Scalar.muli v411 c1_i32_264
  let v413 : BitVec 32 := Scalar.addi c0_i32_262 v412
  let c1_i32_266 : BitVec 32 := 1#32
  let arg19 : BitVec 32 := Scf.iv v413 c1_i32_266 k0_t12
  let v416 : Index := Scalar.indexCast arg19
  let c0_268 : Index := 0#32
  let c0_269 : Index := 0#32
  ![0, v416.toNat, 0, 0]
def k0_off154 (i : grid0.Coords) (k0_t12 : Fin (k0_t12_loop i).trips) : Fin 4 → Nat :=
  let c1_280 : Index := 1#32
  let c0_i32_262 : BitVec 32 := 0#32
  let arg1 : BitVec 32 := BitVec.ofNat 32 (i 1).val
  let c1_i32 : BitVec 32 := 1#32
  let v0 : BitVec 32 := Scalar.addi arg1 c1_i32
  let v409 : BitVec 32 := Scalar.subi v0 c0_i32_262
  let c1_i32_264 : BitVec 32 := 1#32
  let v411 : BitVec 32 := Scalar.divsi v409 c1_i32_264
  let v412 : BitVec 32 := Scalar.muli v411 c1_i32_264
  let v413 : BitVec 32 := Scalar.addi c0_i32_262 v412
  let c1_i32_266 : BitVec 32 := 1#32
  let arg19 : BitVec 32 := Scf.iv v413 c1_i32_266 k0_t12
  let v443 : Index := Scalar.indexCast arg19
  let c0_281 : Index := 0#32
  let c0_282 : Index := 0#32
  ![1, v443.toNat, 0, 0]
def k0_off155 (i : grid0.Coords) (k0_t12 : Fin (k0_t12_loop i).trips) : Fin 4 → Nat :=
  let c2_293 : Index := 2#32
  let c0_i32_262 : BitVec 32 := 0#32
  let arg1 : BitVec 32 := BitVec.ofNat 32 (i 1).val
  let c1_i32 : BitVec 32 := 1#32
  let v0 : BitVec 32 := Scalar.addi arg1 c1_i32
  let v409 : BitVec 32 := Scalar.subi v0 c0_i32_262
  let c1_i32_264 : BitVec 32 := 1#32
  let v411 : BitVec 32 := Scalar.divsi v409 c1_i32_264
  let v412 : BitVec 32 := Scalar.muli v411 c1_i32_264
  let v413 : BitVec 32 := Scalar.addi c0_i32_262 v412
  let c1_i32_266 : BitVec 32 := 1#32
  let arg19 : BitVec 32 := Scf.iv v413 c1_i32_266 k0_t12
  let v470 : Index := Scalar.indexCast arg19
  let c0_294 : Index := 0#32
  let c0_295 : Index := 0#32
  ![2, v470.toNat, 0, 0]
def k0_off156 (i : grid0.Coords) (k0_t12 : Fin (k0_t12_loop i).trips) : Fin 4 → Nat :=
  let c3_306 : Index := 3#32
  let c0_i32_262 : BitVec 32 := 0#32
  let arg1 : BitVec 32 := BitVec.ofNat 32 (i 1).val
  let c1_i32 : BitVec 32 := 1#32
  let v0 : BitVec 32 := Scalar.addi arg1 c1_i32
  let v409 : BitVec 32 := Scalar.subi v0 c0_i32_262
  let c1_i32_264 : BitVec 32 := 1#32
  let v411 : BitVec 32 := Scalar.divsi v409 c1_i32_264
  let v412 : BitVec 32 := Scalar.muli v411 c1_i32_264
  let v413 : BitVec 32 := Scalar.addi c0_i32_262 v412
  let c1_i32_266 : BitVec 32 := 1#32
  let arg19 : BitVec 32 := Scf.iv v413 c1_i32_266 k0_t12
  let v497 : Index := Scalar.indexCast arg19
  let c0_307 : Index := 0#32
  let c0_308 : Index := 0#32
  ![3, v497.toNat, 0, 0]
def k0_cond10 (i : grid0.Coords) : BitVec 1 :=
  let arg1 : BitVec 32 := BitVec.ofNat 32 (i 1).val
  let c1_i32_54 : BitVec 32 := 1#32
  let v117 : BitVec 32 := Scalar.addi arg1 c1_i32_54
  let c8_i32_55 : BitVec 32 := 8#32
  let v118 : BitVec 1 := Scalar.cmpi .slt v117 c8_i32_55
  let v119 : BitVec 32 := Scalar.extui v118
  let c0_i32_56 : BitVec 32 := 0#32
  let v120 : BitVec 1 := Scalar.cmpi .ne v119 c0_i32_56
  v120

@[reducible] def k0_t13_loop (i : grid0.Coords) : Scf.Loop 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_229 : BitVec 32 := 1#32
  ⟨c0_i32_226, v326, c1_i32_229⟩
def k0_mult1 (i : grid0.Coords) (k0_t13 : Fin (k0_t13_loop i).trips) : BitVec 32 :=
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  v4374
def k0_off157 (i : grid0.Coords) (k0_t13 : Fin (k0_t13_loop i).trips) (c0_i32_1966 : BitVec 32) : Fin 4 → Nat :=
  let c0_1967 : Index := 0#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let c0_i32_1960 : BitVec 32 := 0#32
  let v4377 : BitVec 1 := Scalar.cmpi .sgt v4375 c0_i32_1960
  let v4378 : BitVec 32 := Scalar.extui v4377
  let c0_i32_1961 : BitVec 32 := 0#32
  let v4379 : BitVec 1 := Scalar.cmpi .slt v4375 c0_i32_1961
  let v4380 : BitVec 32 := Scalar.extui v4379
  let v4381 : BitVec 32 := Scalar.subi v4378 v4380
  let c256_i32_1959 : BitVec 32 := 256#32
  let c0_i32_1962 : BitVec 32 := 0#32
  let v4382 : BitVec 1 := Scalar.cmpi .sgt c256_i32_1959 c0_i32_1962
  let v4383 : BitVec 32 := Scalar.extui v4382
  let c0_i32_1963 : BitVec 32 := 0#32
  let v4384 : BitVec 1 := Scalar.cmpi .slt c256_i32_1959 c0_i32_1963
  let v4385 : BitVec 32 := Scalar.extui v4384
  let v4386 : BitVec 32 := Scalar.subi v4383 v4385
  let v4387 : BitVec 1 := Scalar.cmpi .ne v4381 v4386
  let v4388 : BitVec 32 := Scalar.remsi v4375 c256_i32_1959
  let c0_i32_1964 : BitVec 32 := 0#32
  let v4389 : BitVec 1 := Scalar.cmpi .ne v4388 c0_i32_1964
  let v4390 : BitVec 1 := Scalar.andi v4387 v4389
  let v4376 : BitVec 32 := Scalar.divsi v4375 c256_i32_1959
  let c1_i32_1965 : BitVec 32 := 1#32
  let v4391 : BitVec 32 := Scalar.subi v4376 c1_i32_1965
  let v4392 : BitVec 32 := Scalar.select v4390 v4391 v4376
  let v4393 : BitVec 32 := Scalar.addi v4392 c0_i32_1966
  let v4394 : Index := Scalar.indexCast v4393
  let c0_1968 : Index := 0#32
  let c0_1969 : Index := 0#32
  ![0, v4394.toNat, 0, 0]
def k0_off158 (i : grid0.Coords) (k0_t13 : Fin (k0_t13_loop i).trips) : Fin 3 → Nat :=
  let c0_2216 : Index := 0#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v4867 : Index := Scalar.indexCast v4375
  let c0_2217 : Index := 0#32
  ![0, v4867.toNat, 0]
def k0_off159 (i : grid0.Coords) (k0_t13 : Fin (k0_t13_loop i).trips) (c0_i32_2234 : BitVec 32) : Fin 4 → Nat :=
  let c1_2235 : Index := 1#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let c0_i32_2228 : BitVec 32 := 0#32
  let v4881 : BitVec 1 := Scalar.cmpi .sgt v4375 c0_i32_2228
  let v4882 : BitVec 32 := Scalar.extui v4881
  let c0_i32_2229 : BitVec 32 := 0#32
  let v4883 : BitVec 1 := Scalar.cmpi .slt v4375 c0_i32_2229
  let v4884 : BitVec 32 := Scalar.extui v4883
  let v4885 : BitVec 32 := Scalar.subi v4882 v4884
  let c256_i32_2227 : BitVec 32 := 256#32
  let c0_i32_2230 : BitVec 32 := 0#32
  let v4886 : BitVec 1 := Scalar.cmpi .sgt c256_i32_2227 c0_i32_2230
  let v4887 : BitVec 32 := Scalar.extui v4886
  let c0_i32_2231 : BitVec 32 := 0#32
  let v4888 : BitVec 1 := Scalar.cmpi .slt c256_i32_2227 c0_i32_2231
  let v4889 : BitVec 32 := Scalar.extui v4888
  let v4890 : BitVec 32 := Scalar.subi v4887 v4889
  let v4891 : BitVec 1 := Scalar.cmpi .ne v4885 v4890
  let v4892 : BitVec 32 := Scalar.remsi v4375 c256_i32_2227
  let c0_i32_2232 : BitVec 32 := 0#32
  let v4893 : BitVec 1 := Scalar.cmpi .ne v4892 c0_i32_2232
  let v4894 : BitVec 1 := Scalar.andi v4891 v4893
  let v4880 : BitVec 32 := Scalar.divsi v4375 c256_i32_2227
  let c1_i32_2233 : BitVec 32 := 1#32
  let v4895 : BitVec 32 := Scalar.subi v4880 c1_i32_2233
  let v4896 : BitVec 32 := Scalar.select v4894 v4895 v4880
  let v4897 : BitVec 32 := Scalar.addi v4896 c0_i32_2234
  let v4898 : Index := Scalar.indexCast v4897
  let c0_2236 : Index := 0#32
  let c0_2237 : Index := 0#32
  ![1, v4898.toNat, 0, 0]
def k0_off160 (i : grid0.Coords) (k0_t13 : Fin (k0_t13_loop i).trips) : Fin 3 → Nat :=
  let c1_2505 : Index := 1#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v5371 : Index := Scalar.indexCast v4375
  let c0_2506 : Index := 0#32
  ![1, v5371.toNat, 0]
def k0_off161 (i : grid0.Coords) (k0_t13 : Fin (k0_t13_loop i).trips) : Fin 3 → Nat :=
  let c0_2522 : Index := 0#32
  let c0_2523 : Index := 0#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v5396 : Index := Scalar.indexCast v4375
  ![0, 0, v5396.toNat]
def k0_off162 (i : grid0.Coords) (k0_t13 : Fin (k0_t13_loop i).trips) : Fin 3 → Nat :=
  let c1_2537 : Index := 1#32
  let c0_2538 : Index := 0#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v5419 : Index := Scalar.indexCast v4375
  ![1, 0, v5419.toNat]
def k0_off163 (i : grid0.Coords) (k0_t13 : Fin (k0_t13_loop i).trips) (c0_i32_2553 : BitVec 32) : Fin 4 → Nat :=
  let c2_2554 : Index := 2#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let c0_i32_2547 : BitVec 32 := 0#32
  let v5431 : BitVec 1 := Scalar.cmpi .sgt v4375 c0_i32_2547
  let v5432 : BitVec 32 := Scalar.extui v5431
  let c0_i32_2548 : BitVec 32 := 0#32
  let v5433 : BitVec 1 := Scalar.cmpi .slt v4375 c0_i32_2548
  let v5434 : BitVec 32 := Scalar.extui v5433
  let v5435 : BitVec 32 := Scalar.subi v5432 v5434
  let c256_i32_2546 : BitVec 32 := 256#32
  let c0_i32_2549 : BitVec 32 := 0#32
  let v5436 : BitVec 1 := Scalar.cmpi .sgt c256_i32_2546 c0_i32_2549
  let v5437 : BitVec 32 := Scalar.extui v5436
  let c0_i32_2550 : BitVec 32 := 0#32
  let v5438 : BitVec 1 := Scalar.cmpi .slt c256_i32_2546 c0_i32_2550
  let v5439 : BitVec 32 := Scalar.extui v5438
  let v5440 : BitVec 32 := Scalar.subi v5437 v5439
  let v5441 : BitVec 1 := Scalar.cmpi .ne v5435 v5440
  let v5442 : BitVec 32 := Scalar.remsi v4375 c256_i32_2546
  let c0_i32_2551 : BitVec 32 := 0#32
  let v5443 : BitVec 1 := Scalar.cmpi .ne v5442 c0_i32_2551
  let v5444 : BitVec 1 := Scalar.andi v5441 v5443
  let v5430 : BitVec 32 := Scalar.divsi v4375 c256_i32_2546
  let c1_i32_2552 : BitVec 32 := 1#32
  let v5445 : BitVec 32 := Scalar.subi v5430 c1_i32_2552
  let v5446 : BitVec 32 := Scalar.select v5444 v5445 v5430
  let v5447 : BitVec 32 := Scalar.addi v5446 c0_i32_2553
  let v5448 : Index := Scalar.indexCast v5447
  let c0_2555 : Index := 0#32
  let c0_2556 : Index := 0#32
  ![2, v5448.toNat, 0, 0]
def k0_off164 (i : grid0.Coords) (k0_t13 : Fin (k0_t13_loop i).trips) : Fin 3 → Nat :=
  let c2_2824 : Index := 2#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v5921 : Index := Scalar.indexCast v4375
  let c0_2825 : Index := 0#32
  ![2, v5921.toNat, 0]
def k0_off165 (i : grid0.Coords) (k0_t13 : Fin (k0_t13_loop i).trips) (c0_i32_2842 : BitVec 32) : Fin 4 → Nat :=
  let c3_2843 : Index := 3#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let c0_i32_2836 : BitVec 32 := 0#32
  let v5935 : BitVec 1 := Scalar.cmpi .sgt v4375 c0_i32_2836
  let v5936 : BitVec 32 := Scalar.extui v5935
  let c0_i32_2837 : BitVec 32 := 0#32
  let v5937 : BitVec 1 := Scalar.cmpi .slt v4375 c0_i32_2837
  let v5938 : BitVec 32 := Scalar.extui v5937
  let v5939 : BitVec 32 := Scalar.subi v5936 v5938
  let c256_i32_2835 : BitVec 32 := 256#32
  let c0_i32_2838 : BitVec 32 := 0#32
  let v5940 : BitVec 1 := Scalar.cmpi .sgt c256_i32_2835 c0_i32_2838
  let v5941 : BitVec 32 := Scalar.extui v5940
  let c0_i32_2839 : BitVec 32 := 0#32
  let v5942 : BitVec 1 := Scalar.cmpi .slt c256_i32_2835 c0_i32_2839
  let v5943 : BitVec 32 := Scalar.extui v5942
  let v5944 : BitVec 32 := Scalar.subi v5941 v5943
  let v5945 : BitVec 1 := Scalar.cmpi .ne v5939 v5944
  let v5946 : BitVec 32 := Scalar.remsi v4375 c256_i32_2835
  let c0_i32_2840 : BitVec 32 := 0#32
  let v5947 : BitVec 1 := Scalar.cmpi .ne v5946 c0_i32_2840
  let v5948 : BitVec 1 := Scalar.andi v5945 v5947
  let v5934 : BitVec 32 := Scalar.divsi v4375 c256_i32_2835
  let c1_i32_2841 : BitVec 32 := 1#32
  let v5949 : BitVec 32 := Scalar.subi v5934 c1_i32_2841
  let v5950 : BitVec 32 := Scalar.select v5948 v5949 v5934
  let v5951 : BitVec 32 := Scalar.addi v5950 c0_i32_2842
  let v5952 : Index := Scalar.indexCast v5951
  let c0_2844 : Index := 0#32
  let c0_2845 : Index := 0#32
  ![3, v5952.toNat, 0, 0]
def k0_off166 (i : grid0.Coords) (k0_t13 : Fin (k0_t13_loop i).trips) : Fin 3 → Nat :=
  let c3_3113 : Index := 3#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v6425 : Index := Scalar.indexCast v4375
  let c0_3114 : Index := 0#32
  ![3, v6425.toNat, 0]
def k0_off167 (i : grid0.Coords) (k0_t13 : Fin (k0_t13_loop i).trips) : Fin 3 → Nat :=
  let c2_3130 : Index := 2#32
  let c0_3131 : Index := 0#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v6450 : Index := Scalar.indexCast v4375
  ![2, 0, v6450.toNat]
def k0_off168 (i : grid0.Coords) (k0_t13 : Fin (k0_t13_loop i).trips) : Fin 3 → Nat :=
  let c3_3145 : Index := 3#32
  let c0_3146 : Index := 0#32
  let c0_i32_226 : BitVec 32 := 0#32
  let c1_i32_229 : BitVec 32 := 1#32
  let arg19 : BitVec 32 := Scf.iv c0_i32_226 c1_i32_229 k0_t13
  let c512_i32 : BitVec 32 := 512#32
  let v4374 : BitVec 32 := Scalar.muli arg19 c512_i32
  let v4375 : BitVec 32 := v4374
  let v6473 : Index := Scalar.indexCast v4375
  ![3, 0, v6473.toNat]
def k0_mult2 (i : grid0.Coords) (k0_t13 : Fin (k0_t13_loop i).trips) : BitVec 32 :=
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let c0_i32_3155 : BitVec 32 := 0#32
  let v6485 : BitVec 32 := Scalar.addi v6484 c0_i32_3155
  let c256_i32_3157 : BitVec 32 := 256#32
  let v6487 : BitVec 32 := Scalar.muli v6485 c256_i32_3157
  v6487
def k0_off169 (i : grid0.Coords) (k0_t13 : Fin (k0_t13_loop i).trips) (c0_i32_3155 : BitVec 32) : Fin 3 → Nat :=
  let c0_3158 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v6489 : Index := Scalar.indexCast v6488
  let c0_3159 : Index := 0#32
  ![0, v6489.toNat, 0]
def k0_off170 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7333 : Index := Scalar.indexCast v6486
  let c0_3468 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7334 : Index := Scalar.indexCast v6485
  let c0_3469 : Index := 0#32
  let c0_3470 : Index := 0#32
  let c0_3471 : Index := 0#32
  ![v7333.toNat, 0, v7334.toNat, 0, 0, 0]
def k0_off171 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7338 : Index := Scalar.indexCast v6486
  let c0_3472 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7339 : Index := Scalar.indexCast v6485
  let c1_3473 : Index := 1#32
  let c0_3474 : Index := 0#32
  let c0_3475 : Index := 0#32
  ![v7338.toNat, 0, v7339.toNat, 1, 0, 0]
def k0_off172 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7343 : Index := Scalar.indexCast v6486
  let c0_3476 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7344 : Index := Scalar.indexCast v6485
  let c2_3477 : Index := 2#32
  let c0_3478 : Index := 0#32
  let c0_3479 : Index := 0#32
  ![v7343.toNat, 0, v7344.toNat, 2, 0, 0]
def k0_off173 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7348 : Index := Scalar.indexCast v6486
  let c0_3480 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7349 : Index := Scalar.indexCast v6485
  let c3_3481 : Index := 3#32
  let c0_3482 : Index := 0#32
  let c0_3483 : Index := 0#32
  ![v7348.toNat, 0, v7349.toNat, 3, 0, 0]
def k0_off174 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7353 : Index := Scalar.indexCast v6486
  let c0_3484 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7354 : Index := Scalar.indexCast v6485
  let c4_3485 : Index := 4#32
  let c0_3486 : Index := 0#32
  let c0_3487 : Index := 0#32
  ![v7353.toNat, 0, v7354.toNat, 4, 0, 0]
def k0_off175 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7358 : Index := Scalar.indexCast v6486
  let c0_3488 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7359 : Index := Scalar.indexCast v6485
  let c5_3489 : Index := 5#32
  let c0_3490 : Index := 0#32
  let c0_3491 : Index := 0#32
  ![v7358.toNat, 0, v7359.toNat, 5, 0, 0]
def k0_off176 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7363 : Index := Scalar.indexCast v6486
  let c0_3492 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7364 : Index := Scalar.indexCast v6485
  let c6_3493 : Index := 6#32
  let c0_3494 : Index := 0#32
  let c0_3495 : Index := 0#32
  ![v7363.toNat, 0, v7364.toNat, 6, 0, 0]
def k0_off177 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7368 : Index := Scalar.indexCast v6486
  let c0_3496 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7369 : Index := Scalar.indexCast v6485
  let c7_3497 : Index := 7#32
  let c0_3498 : Index := 0#32
  let c0_3499 : Index := 0#32
  ![v7368.toNat, 0, v7369.toNat, 7, 0, 0]
def k0_off178 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7373 : Index := Scalar.indexCast v6486
  let c0_3500 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7374 : Index := Scalar.indexCast v6485
  let c8_3501 : Index := 8#32
  let c0_3502 : Index := 0#32
  let c0_3503 : Index := 0#32
  ![v7373.toNat, 0, v7374.toNat, 8, 0, 0]
def k0_off179 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7378 : Index := Scalar.indexCast v6486
  let c0_3504 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7379 : Index := Scalar.indexCast v6485
  let c9_3505 : Index := 9#32
  let c0_3506 : Index := 0#32
  let c0_3507 : Index := 0#32
  ![v7378.toNat, 0, v7379.toNat, 9, 0, 0]
def k0_off180 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7383 : Index := Scalar.indexCast v6486
  let c0_3508 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7384 : Index := Scalar.indexCast v6485
  let c10_3509 : Index := 10#32
  let c0_3510 : Index := 0#32
  let c0_3511 : Index := 0#32
  ![v7383.toNat, 0, v7384.toNat, 10, 0, 0]
def k0_off181 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7388 : Index := Scalar.indexCast v6486
  let c0_3512 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7389 : Index := Scalar.indexCast v6485
  let c11_3513 : Index := 11#32
  let c0_3514 : Index := 0#32
  let c0_3515 : Index := 0#32
  ![v7388.toNat, 0, v7389.toNat, 11, 0, 0]
def k0_off182 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7393 : Index := Scalar.indexCast v6486
  let c0_3516 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7394 : Index := Scalar.indexCast v6485
  let c12_3517 : Index := 12#32
  let c0_3518 : Index := 0#32
  let c0_3519 : Index := 0#32
  ![v7393.toNat, 0, v7394.toNat, 12, 0, 0]
def k0_off183 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7398 : Index := Scalar.indexCast v6486
  let c0_3520 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7399 : Index := Scalar.indexCast v6485
  let c13_3521 : Index := 13#32
  let c0_3522 : Index := 0#32
  let c0_3523 : Index := 0#32
  ![v7398.toNat, 0, v7399.toNat, 13, 0, 0]
def k0_off184 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7403 : Index := Scalar.indexCast v6486
  let c0_3524 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7404 : Index := Scalar.indexCast v6485
  let c14_3525 : Index := 14#32
  let c0_3526 : Index := 0#32
  let c0_3527 : Index := 0#32
  ![v7403.toNat, 0, v7404.toNat, 14, 0, 0]
def k0_off185 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7408 : Index := Scalar.indexCast v6486
  let c0_3528 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7409 : Index := Scalar.indexCast v6485
  let c15_3529 : Index := 15#32
  let c0_3530 : Index := 0#32
  let c0_3531 : Index := 0#32
  ![v7408.toNat, 0, v7409.toNat, 15, 0, 0]
def k0_off186 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7413 : Index := Scalar.indexCast v6486
  let c0_3532 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7414 : Index := Scalar.indexCast v6485
  let c16_3533 : Index := 16#32
  let c0_3534 : Index := 0#32
  let c0_3535 : Index := 0#32
  ![v7413.toNat, 0, v7414.toNat, 16, 0, 0]
def k0_off187 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7418 : Index := Scalar.indexCast v6486
  let c0_3536 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7419 : Index := Scalar.indexCast v6485
  let c17_3537 : Index := 17#32
  let c0_3538 : Index := 0#32
  let c0_3539 : Index := 0#32
  ![v7418.toNat, 0, v7419.toNat, 17, 0, 0]
def k0_off188 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7423 : Index := Scalar.indexCast v6486
  let c0_3540 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7424 : Index := Scalar.indexCast v6485
  let c18_3541 : Index := 18#32
  let c0_3542 : Index := 0#32
  let c0_3543 : Index := 0#32
  ![v7423.toNat, 0, v7424.toNat, 18, 0, 0]
def k0_off189 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7428 : Index := Scalar.indexCast v6486
  let c0_3544 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7429 : Index := Scalar.indexCast v6485
  let c19_3545 : Index := 19#32
  let c0_3546 : Index := 0#32
  let c0_3547 : Index := 0#32
  ![v7428.toNat, 0, v7429.toNat, 19, 0, 0]
def k0_off190 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7433 : Index := Scalar.indexCast v6486
  let c0_3548 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7434 : Index := Scalar.indexCast v6485
  let c20_3549 : Index := 20#32
  let c0_3550 : Index := 0#32
  let c0_3551 : Index := 0#32
  ![v7433.toNat, 0, v7434.toNat, 20, 0, 0]
def k0_off191 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7438 : Index := Scalar.indexCast v6486
  let c0_3552 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7439 : Index := Scalar.indexCast v6485
  let c21_3553 : Index := 21#32
  let c0_3554 : Index := 0#32
  let c0_3555 : Index := 0#32
  ![v7438.toNat, 0, v7439.toNat, 21, 0, 0]
def k0_off192 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7443 : Index := Scalar.indexCast v6486
  let c0_3556 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7444 : Index := Scalar.indexCast v6485
  let c22_3557 : Index := 22#32
  let c0_3558 : Index := 0#32
  let c0_3559 : Index := 0#32
  ![v7443.toNat, 0, v7444.toNat, 22, 0, 0]
def k0_off193 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7448 : Index := Scalar.indexCast v6486
  let c0_3560 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7449 : Index := Scalar.indexCast v6485
  let c23_3561 : Index := 23#32
  let c0_3562 : Index := 0#32
  let c0_3563 : Index := 0#32
  ![v7448.toNat, 0, v7449.toNat, 23, 0, 0]
def k0_off194 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7453 : Index := Scalar.indexCast v6486
  let c0_3564 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7454 : Index := Scalar.indexCast v6485
  let c24_3565 : Index := 24#32
  let c0_3566 : Index := 0#32
  let c0_3567 : Index := 0#32
  ![v7453.toNat, 0, v7454.toNat, 24, 0, 0]
def k0_off195 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7458 : Index := Scalar.indexCast v6486
  let c0_3568 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7459 : Index := Scalar.indexCast v6485
  let c25_3569 : Index := 25#32
  let c0_3570 : Index := 0#32
  let c0_3571 : Index := 0#32
  ![v7458.toNat, 0, v7459.toNat, 25, 0, 0]
def k0_off196 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7463 : Index := Scalar.indexCast v6486
  let c0_3572 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7464 : Index := Scalar.indexCast v6485
  let c26_3573 : Index := 26#32
  let c0_3574 : Index := 0#32
  let c0_3575 : Index := 0#32
  ![v7463.toNat, 0, v7464.toNat, 26, 0, 0]
def k0_off197 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7468 : Index := Scalar.indexCast v6486
  let c0_3576 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7469 : Index := Scalar.indexCast v6485
  let c27_3577 : Index := 27#32
  let c0_3578 : Index := 0#32
  let c0_3579 : Index := 0#32
  ![v7468.toNat, 0, v7469.toNat, 27, 0, 0]
def k0_off198 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7473 : Index := Scalar.indexCast v6486
  let c0_3580 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7474 : Index := Scalar.indexCast v6485
  let c28_3581 : Index := 28#32
  let c0_3582 : Index := 0#32
  let c0_3583 : Index := 0#32
  ![v7473.toNat, 0, v7474.toNat, 28, 0, 0]
def k0_off199 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7478 : Index := Scalar.indexCast v6486
  let c0_3584 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7479 : Index := Scalar.indexCast v6485
  let c29_3585 : Index := 29#32
  let c0_3586 : Index := 0#32
  let c0_3587 : Index := 0#32
  ![v7478.toNat, 0, v7479.toNat, 29, 0, 0]
def k0_off200 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7483 : Index := Scalar.indexCast v6486
  let c0_3588 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7484 : Index := Scalar.indexCast v6485
  let c30_3589 : Index := 30#32
  let c0_3590 : Index := 0#32
  let c0_3591 : Index := 0#32
  ![v7483.toNat, 0, v7484.toNat, 30, 0, 0]
def k0_off201 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7488 : Index := Scalar.indexCast v6486
  let c0_3592 : Index := 0#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v7489 : Index := Scalar.indexCast v6485
  let c31_3593 : Index := 31#32
  let c0_3594 : Index := 0#32
  let c0_3595 : Index := 0#32
  ![v7488.toNat, 0, v7489.toNat, 31, 0, 0]
def k0_off202 (i : grid0.Coords) (k0_t13 : Fin (k0_t13_loop i).trips) (c0_i32_3155 : BitVec 32) : Fin 3 → Nat :=
  let c1_3596 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v7493 : Index := Scalar.indexCast v6488
  let c0_3597 : Index := 0#32
  ![1, v7493.toNat, 0]
def k0_off203 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8337 : Index := Scalar.indexCast v6486
  let c1_3906 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8338 : Index := Scalar.indexCast v6485
  let c0_3907 : Index := 0#32
  let c0_3908 : Index := 0#32
  let c0_3909 : Index := 0#32
  ![v8337.toNat, 1, v8338.toNat, 0, 0, 0]
def k0_off204 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8342 : Index := Scalar.indexCast v6486
  let c1_3910 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8343 : Index := Scalar.indexCast v6485
  let c1_3911 : Index := 1#32
  let c0_3912 : Index := 0#32
  let c0_3913 : Index := 0#32
  ![v8342.toNat, 1, v8343.toNat, 1, 0, 0]
def k0_off205 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8347 : Index := Scalar.indexCast v6486
  let c1_3914 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8348 : Index := Scalar.indexCast v6485
  let c2_3915 : Index := 2#32
  let c0_3916 : Index := 0#32
  let c0_3917 : Index := 0#32
  ![v8347.toNat, 1, v8348.toNat, 2, 0, 0]
def k0_off206 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8352 : Index := Scalar.indexCast v6486
  let c1_3918 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8353 : Index := Scalar.indexCast v6485
  let c3_3919 : Index := 3#32
  let c0_3920 : Index := 0#32
  let c0_3921 : Index := 0#32
  ![v8352.toNat, 1, v8353.toNat, 3, 0, 0]
def k0_off207 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8357 : Index := Scalar.indexCast v6486
  let c1_3922 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8358 : Index := Scalar.indexCast v6485
  let c4_3923 : Index := 4#32
  let c0_3924 : Index := 0#32
  let c0_3925 : Index := 0#32
  ![v8357.toNat, 1, v8358.toNat, 4, 0, 0]
def k0_off208 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8362 : Index := Scalar.indexCast v6486
  let c1_3926 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8363 : Index := Scalar.indexCast v6485
  let c5_3927 : Index := 5#32
  let c0_3928 : Index := 0#32
  let c0_3929 : Index := 0#32
  ![v8362.toNat, 1, v8363.toNat, 5, 0, 0]
def k0_off209 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8367 : Index := Scalar.indexCast v6486
  let c1_3930 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8368 : Index := Scalar.indexCast v6485
  let c6_3931 : Index := 6#32
  let c0_3932 : Index := 0#32
  let c0_3933 : Index := 0#32
  ![v8367.toNat, 1, v8368.toNat, 6, 0, 0]
def k0_off210 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8372 : Index := Scalar.indexCast v6486
  let c1_3934 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8373 : Index := Scalar.indexCast v6485
  let c7_3935 : Index := 7#32
  let c0_3936 : Index := 0#32
  let c0_3937 : Index := 0#32
  ![v8372.toNat, 1, v8373.toNat, 7, 0, 0]
def k0_off211 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8377 : Index := Scalar.indexCast v6486
  let c1_3938 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8378 : Index := Scalar.indexCast v6485
  let c8_3939 : Index := 8#32
  let c0_3940 : Index := 0#32
  let c0_3941 : Index := 0#32
  ![v8377.toNat, 1, v8378.toNat, 8, 0, 0]
def k0_off212 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8382 : Index := Scalar.indexCast v6486
  let c1_3942 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8383 : Index := Scalar.indexCast v6485
  let c9_3943 : Index := 9#32
  let c0_3944 : Index := 0#32
  let c0_3945 : Index := 0#32
  ![v8382.toNat, 1, v8383.toNat, 9, 0, 0]
def k0_off213 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8387 : Index := Scalar.indexCast v6486
  let c1_3946 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8388 : Index := Scalar.indexCast v6485
  let c10_3947 : Index := 10#32
  let c0_3948 : Index := 0#32
  let c0_3949 : Index := 0#32
  ![v8387.toNat, 1, v8388.toNat, 10, 0, 0]
def k0_off214 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8392 : Index := Scalar.indexCast v6486
  let c1_3950 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8393 : Index := Scalar.indexCast v6485
  let c11_3951 : Index := 11#32
  let c0_3952 : Index := 0#32
  let c0_3953 : Index := 0#32
  ![v8392.toNat, 1, v8393.toNat, 11, 0, 0]
def k0_off215 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8397 : Index := Scalar.indexCast v6486
  let c1_3954 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8398 : Index := Scalar.indexCast v6485
  let c12_3955 : Index := 12#32
  let c0_3956 : Index := 0#32
  let c0_3957 : Index := 0#32
  ![v8397.toNat, 1, v8398.toNat, 12, 0, 0]
def k0_off216 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8402 : Index := Scalar.indexCast v6486
  let c1_3958 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8403 : Index := Scalar.indexCast v6485
  let c13_3959 : Index := 13#32
  let c0_3960 : Index := 0#32
  let c0_3961 : Index := 0#32
  ![v8402.toNat, 1, v8403.toNat, 13, 0, 0]
def k0_off217 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8407 : Index := Scalar.indexCast v6486
  let c1_3962 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8408 : Index := Scalar.indexCast v6485
  let c14_3963 : Index := 14#32
  let c0_3964 : Index := 0#32
  let c0_3965 : Index := 0#32
  ![v8407.toNat, 1, v8408.toNat, 14, 0, 0]
def k0_off218 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8412 : Index := Scalar.indexCast v6486
  let c1_3966 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8413 : Index := Scalar.indexCast v6485
  let c15_3967 : Index := 15#32
  let c0_3968 : Index := 0#32
  let c0_3969 : Index := 0#32
  ![v8412.toNat, 1, v8413.toNat, 15, 0, 0]
def k0_off219 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8417 : Index := Scalar.indexCast v6486
  let c1_3970 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8418 : Index := Scalar.indexCast v6485
  let c16_3971 : Index := 16#32
  let c0_3972 : Index := 0#32
  let c0_3973 : Index := 0#32
  ![v8417.toNat, 1, v8418.toNat, 16, 0, 0]
def k0_off220 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8422 : Index := Scalar.indexCast v6486
  let c1_3974 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8423 : Index := Scalar.indexCast v6485
  let c17_3975 : Index := 17#32
  let c0_3976 : Index := 0#32
  let c0_3977 : Index := 0#32
  ![v8422.toNat, 1, v8423.toNat, 17, 0, 0]
def k0_off221 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8427 : Index := Scalar.indexCast v6486
  let c1_3978 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8428 : Index := Scalar.indexCast v6485
  let c18_3979 : Index := 18#32
  let c0_3980 : Index := 0#32
  let c0_3981 : Index := 0#32
  ![v8427.toNat, 1, v8428.toNat, 18, 0, 0]
def k0_off222 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8432 : Index := Scalar.indexCast v6486
  let c1_3982 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8433 : Index := Scalar.indexCast v6485
  let c19_3983 : Index := 19#32
  let c0_3984 : Index := 0#32
  let c0_3985 : Index := 0#32
  ![v8432.toNat, 1, v8433.toNat, 19, 0, 0]
def k0_off223 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8437 : Index := Scalar.indexCast v6486
  let c1_3986 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8438 : Index := Scalar.indexCast v6485
  let c20_3987 : Index := 20#32
  let c0_3988 : Index := 0#32
  let c0_3989 : Index := 0#32
  ![v8437.toNat, 1, v8438.toNat, 20, 0, 0]
def k0_off224 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8442 : Index := Scalar.indexCast v6486
  let c1_3990 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8443 : Index := Scalar.indexCast v6485
  let c21_3991 : Index := 21#32
  let c0_3992 : Index := 0#32
  let c0_3993 : Index := 0#32
  ![v8442.toNat, 1, v8443.toNat, 21, 0, 0]
def k0_off225 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8447 : Index := Scalar.indexCast v6486
  let c1_3994 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8448 : Index := Scalar.indexCast v6485
  let c22_3995 : Index := 22#32
  let c0_3996 : Index := 0#32
  let c0_3997 : Index := 0#32
  ![v8447.toNat, 1, v8448.toNat, 22, 0, 0]
def k0_off226 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8452 : Index := Scalar.indexCast v6486
  let c1_3998 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8453 : Index := Scalar.indexCast v6485
  let c23_3999 : Index := 23#32
  let c0_4000 : Index := 0#32
  let c0_4001 : Index := 0#32
  ![v8452.toNat, 1, v8453.toNat, 23, 0, 0]
def k0_off227 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8457 : Index := Scalar.indexCast v6486
  let c1_4002 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8458 : Index := Scalar.indexCast v6485
  let c24_4003 : Index := 24#32
  let c0_4004 : Index := 0#32
  let c0_4005 : Index := 0#32
  ![v8457.toNat, 1, v8458.toNat, 24, 0, 0]
def k0_off228 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8462 : Index := Scalar.indexCast v6486
  let c1_4006 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8463 : Index := Scalar.indexCast v6485
  let c25_4007 : Index := 25#32
  let c0_4008 : Index := 0#32
  let c0_4009 : Index := 0#32
  ![v8462.toNat, 1, v8463.toNat, 25, 0, 0]
def k0_off229 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8467 : Index := Scalar.indexCast v6486
  let c1_4010 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8468 : Index := Scalar.indexCast v6485
  let c26_4011 : Index := 26#32
  let c0_4012 : Index := 0#32
  let c0_4013 : Index := 0#32
  ![v8467.toNat, 1, v8468.toNat, 26, 0, 0]
def k0_off230 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8472 : Index := Scalar.indexCast v6486
  let c1_4014 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8473 : Index := Scalar.indexCast v6485
  let c27_4015 : Index := 27#32
  let c0_4016 : Index := 0#32
  let c0_4017 : Index := 0#32
  ![v8472.toNat, 1, v8473.toNat, 27, 0, 0]
def k0_off231 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8477 : Index := Scalar.indexCast v6486
  let c1_4018 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8478 : Index := Scalar.indexCast v6485
  let c28_4019 : Index := 28#32
  let c0_4020 : Index := 0#32
  let c0_4021 : Index := 0#32
  ![v8477.toNat, 1, v8478.toNat, 28, 0, 0]
def k0_off232 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8482 : Index := Scalar.indexCast v6486
  let c1_4022 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8483 : Index := Scalar.indexCast v6485
  let c29_4023 : Index := 29#32
  let c0_4024 : Index := 0#32
  let c0_4025 : Index := 0#32
  ![v8482.toNat, 1, v8483.toNat, 29, 0, 0]
def k0_off233 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8487 : Index := Scalar.indexCast v6486
  let c1_4026 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8488 : Index := Scalar.indexCast v6485
  let c30_4027 : Index := 30#32
  let c0_4028 : Index := 0#32
  let c0_4029 : Index := 0#32
  ![v8487.toNat, 1, v8488.toNat, 30, 0, 0]
def k0_off234 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8492 : Index := Scalar.indexCast v6486
  let c1_4030 : Index := 1#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v8493 : Index := Scalar.indexCast v6485
  let c31_4031 : Index := 31#32
  let c0_4032 : Index := 0#32
  let c0_4033 : Index := 0#32
  ![v8492.toNat, 1, v8493.toNat, 31, 0, 0]
def k0_off235 (i : grid0.Coords) (k0_t13 : Fin (k0_t13_loop i).trips) (c0_i32_3155 : BitVec 32) : Fin 3 → Nat :=
  let c2_4034 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v8497 : Index := Scalar.indexCast v6488
  let c0_4035 : Index := 0#32
  ![2, v8497.toNat, 0]
def k0_off236 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9341 : Index := Scalar.indexCast v6486
  let c2_4344 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9342 : Index := Scalar.indexCast v6485
  let c0_4345 : Index := 0#32
  let c0_4346 : Index := 0#32
  let c0_4347 : Index := 0#32
  ![v9341.toNat, 2, v9342.toNat, 0, 0, 0]
def k0_off237 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9346 : Index := Scalar.indexCast v6486
  let c2_4348 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9347 : Index := Scalar.indexCast v6485
  let c1_4349 : Index := 1#32
  let c0_4350 : Index := 0#32
  let c0_4351 : Index := 0#32
  ![v9346.toNat, 2, v9347.toNat, 1, 0, 0]
def k0_off238 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9351 : Index := Scalar.indexCast v6486
  let c2_4352 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9352 : Index := Scalar.indexCast v6485
  let c2_4353 : Index := 2#32
  let c0_4354 : Index := 0#32
  let c0_4355 : Index := 0#32
  ![v9351.toNat, 2, v9352.toNat, 2, 0, 0]
def k0_off239 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9356 : Index := Scalar.indexCast v6486
  let c2_4356 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9357 : Index := Scalar.indexCast v6485
  let c3_4357 : Index := 3#32
  let c0_4358 : Index := 0#32
  let c0_4359 : Index := 0#32
  ![v9356.toNat, 2, v9357.toNat, 3, 0, 0]
def k0_off240 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9361 : Index := Scalar.indexCast v6486
  let c2_4360 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9362 : Index := Scalar.indexCast v6485
  let c4_4361 : Index := 4#32
  let c0_4362 : Index := 0#32
  let c0_4363 : Index := 0#32
  ![v9361.toNat, 2, v9362.toNat, 4, 0, 0]
def k0_off241 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9366 : Index := Scalar.indexCast v6486
  let c2_4364 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9367 : Index := Scalar.indexCast v6485
  let c5_4365 : Index := 5#32
  let c0_4366 : Index := 0#32
  let c0_4367 : Index := 0#32
  ![v9366.toNat, 2, v9367.toNat, 5, 0, 0]
def k0_off242 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9371 : Index := Scalar.indexCast v6486
  let c2_4368 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9372 : Index := Scalar.indexCast v6485
  let c6_4369 : Index := 6#32
  let c0_4370 : Index := 0#32
  let c0_4371 : Index := 0#32
  ![v9371.toNat, 2, v9372.toNat, 6, 0, 0]
def k0_off243 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9376 : Index := Scalar.indexCast v6486
  let c2_4372 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9377 : Index := Scalar.indexCast v6485
  let c7_4373 : Index := 7#32
  let c0_4374 : Index := 0#32
  let c0_4375 : Index := 0#32
  ![v9376.toNat, 2, v9377.toNat, 7, 0, 0]
def k0_off244 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9381 : Index := Scalar.indexCast v6486
  let c2_4376 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9382 : Index := Scalar.indexCast v6485
  let c8_4377 : Index := 8#32
  let c0_4378 : Index := 0#32
  let c0_4379 : Index := 0#32
  ![v9381.toNat, 2, v9382.toNat, 8, 0, 0]
def k0_off245 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9386 : Index := Scalar.indexCast v6486
  let c2_4380 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9387 : Index := Scalar.indexCast v6485
  let c9_4381 : Index := 9#32
  let c0_4382 : Index := 0#32
  let c0_4383 : Index := 0#32
  ![v9386.toNat, 2, v9387.toNat, 9, 0, 0]
def k0_off246 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9391 : Index := Scalar.indexCast v6486
  let c2_4384 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9392 : Index := Scalar.indexCast v6485
  let c10_4385 : Index := 10#32
  let c0_4386 : Index := 0#32
  let c0_4387 : Index := 0#32
  ![v9391.toNat, 2, v9392.toNat, 10, 0, 0]
def k0_off247 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9396 : Index := Scalar.indexCast v6486
  let c2_4388 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9397 : Index := Scalar.indexCast v6485
  let c11_4389 : Index := 11#32
  let c0_4390 : Index := 0#32
  let c0_4391 : Index := 0#32
  ![v9396.toNat, 2, v9397.toNat, 11, 0, 0]
def k0_off248 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9401 : Index := Scalar.indexCast v6486
  let c2_4392 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9402 : Index := Scalar.indexCast v6485
  let c12_4393 : Index := 12#32
  let c0_4394 : Index := 0#32
  let c0_4395 : Index := 0#32
  ![v9401.toNat, 2, v9402.toNat, 12, 0, 0]
def k0_off249 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9406 : Index := Scalar.indexCast v6486
  let c2_4396 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9407 : Index := Scalar.indexCast v6485
  let c13_4397 : Index := 13#32
  let c0_4398 : Index := 0#32
  let c0_4399 : Index := 0#32
  ![v9406.toNat, 2, v9407.toNat, 13, 0, 0]
def k0_off250 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9411 : Index := Scalar.indexCast v6486
  let c2_4400 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9412 : Index := Scalar.indexCast v6485
  let c14_4401 : Index := 14#32
  let c0_4402 : Index := 0#32
  let c0_4403 : Index := 0#32
  ![v9411.toNat, 2, v9412.toNat, 14, 0, 0]
def k0_off251 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9416 : Index := Scalar.indexCast v6486
  let c2_4404 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9417 : Index := Scalar.indexCast v6485
  let c15_4405 : Index := 15#32
  let c0_4406 : Index := 0#32
  let c0_4407 : Index := 0#32
  ![v9416.toNat, 2, v9417.toNat, 15, 0, 0]
def k0_off252 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9421 : Index := Scalar.indexCast v6486
  let c2_4408 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9422 : Index := Scalar.indexCast v6485
  let c16_4409 : Index := 16#32
  let c0_4410 : Index := 0#32
  let c0_4411 : Index := 0#32
  ![v9421.toNat, 2, v9422.toNat, 16, 0, 0]
def k0_off253 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9426 : Index := Scalar.indexCast v6486
  let c2_4412 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9427 : Index := Scalar.indexCast v6485
  let c17_4413 : Index := 17#32
  let c0_4414 : Index := 0#32
  let c0_4415 : Index := 0#32
  ![v9426.toNat, 2, v9427.toNat, 17, 0, 0]
def k0_off254 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9431 : Index := Scalar.indexCast v6486
  let c2_4416 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9432 : Index := Scalar.indexCast v6485
  let c18_4417 : Index := 18#32
  let c0_4418 : Index := 0#32
  let c0_4419 : Index := 0#32
  ![v9431.toNat, 2, v9432.toNat, 18, 0, 0]
def k0_off255 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9436 : Index := Scalar.indexCast v6486
  let c2_4420 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9437 : Index := Scalar.indexCast v6485
  let c19_4421 : Index := 19#32
  let c0_4422 : Index := 0#32
  let c0_4423 : Index := 0#32
  ![v9436.toNat, 2, v9437.toNat, 19, 0, 0]
def k0_off256 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9441 : Index := Scalar.indexCast v6486
  let c2_4424 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9442 : Index := Scalar.indexCast v6485
  let c20_4425 : Index := 20#32
  let c0_4426 : Index := 0#32
  let c0_4427 : Index := 0#32
  ![v9441.toNat, 2, v9442.toNat, 20, 0, 0]
def k0_off257 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9446 : Index := Scalar.indexCast v6486
  let c2_4428 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9447 : Index := Scalar.indexCast v6485
  let c21_4429 : Index := 21#32
  let c0_4430 : Index := 0#32
  let c0_4431 : Index := 0#32
  ![v9446.toNat, 2, v9447.toNat, 21, 0, 0]
def k0_off258 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9451 : Index := Scalar.indexCast v6486
  let c2_4432 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9452 : Index := Scalar.indexCast v6485
  let c22_4433 : Index := 22#32
  let c0_4434 : Index := 0#32
  let c0_4435 : Index := 0#32
  ![v9451.toNat, 2, v9452.toNat, 22, 0, 0]
def k0_off259 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9456 : Index := Scalar.indexCast v6486
  let c2_4436 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9457 : Index := Scalar.indexCast v6485
  let c23_4437 : Index := 23#32
  let c0_4438 : Index := 0#32
  let c0_4439 : Index := 0#32
  ![v9456.toNat, 2, v9457.toNat, 23, 0, 0]
def k0_off260 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9461 : Index := Scalar.indexCast v6486
  let c2_4440 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9462 : Index := Scalar.indexCast v6485
  let c24_4441 : Index := 24#32
  let c0_4442 : Index := 0#32
  let c0_4443 : Index := 0#32
  ![v9461.toNat, 2, v9462.toNat, 24, 0, 0]
def k0_off261 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9466 : Index := Scalar.indexCast v6486
  let c2_4444 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9467 : Index := Scalar.indexCast v6485
  let c25_4445 : Index := 25#32
  let c0_4446 : Index := 0#32
  let c0_4447 : Index := 0#32
  ![v9466.toNat, 2, v9467.toNat, 25, 0, 0]
def k0_off262 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9471 : Index := Scalar.indexCast v6486
  let c2_4448 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9472 : Index := Scalar.indexCast v6485
  let c26_4449 : Index := 26#32
  let c0_4450 : Index := 0#32
  let c0_4451 : Index := 0#32
  ![v9471.toNat, 2, v9472.toNat, 26, 0, 0]
def k0_off263 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9476 : Index := Scalar.indexCast v6486
  let c2_4452 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9477 : Index := Scalar.indexCast v6485
  let c27_4453 : Index := 27#32
  let c0_4454 : Index := 0#32
  let c0_4455 : Index := 0#32
  ![v9476.toNat, 2, v9477.toNat, 27, 0, 0]
def k0_off264 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9481 : Index := Scalar.indexCast v6486
  let c2_4456 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9482 : Index := Scalar.indexCast v6485
  let c28_4457 : Index := 28#32
  let c0_4458 : Index := 0#32
  let c0_4459 : Index := 0#32
  ![v9481.toNat, 2, v9482.toNat, 28, 0, 0]
def k0_off265 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9486 : Index := Scalar.indexCast v6486
  let c2_4460 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9487 : Index := Scalar.indexCast v6485
  let c29_4461 : Index := 29#32
  let c0_4462 : Index := 0#32
  let c0_4463 : Index := 0#32
  ![v9486.toNat, 2, v9487.toNat, 29, 0, 0]
def k0_off266 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9491 : Index := Scalar.indexCast v6486
  let c2_4464 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9492 : Index := Scalar.indexCast v6485
  let c30_4465 : Index := 30#32
  let c0_4466 : Index := 0#32
  let c0_4467 : Index := 0#32
  ![v9491.toNat, 2, v9492.toNat, 30, 0, 0]
def k0_off267 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9496 : Index := Scalar.indexCast v6486
  let c2_4468 : Index := 2#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v9497 : Index := Scalar.indexCast v6485
  let c31_4469 : Index := 31#32
  let c0_4470 : Index := 0#32
  let c0_4471 : Index := 0#32
  ![v9496.toNat, 2, v9497.toNat, 31, 0, 0]
def k0_off268 (i : grid0.Coords) (k0_t13 : Fin (k0_t13_loop i).trips) (c0_i32_3155 : BitVec 32) : Fin 3 → Nat :=
  let c3_4472 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v9501 : Index := Scalar.indexCast v6488
  let c0_4473 : Index := 0#32
  ![3, v9501.toNat, 0]
def k0_off269 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10345 : Index := Scalar.indexCast v6486
  let c3_4782 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10346 : Index := Scalar.indexCast v6485
  let c0_4783 : Index := 0#32
  let c0_4784 : Index := 0#32
  let c0_4785 : Index := 0#32
  ![v10345.toNat, 3, v10346.toNat, 0, 0, 0]
def k0_off270 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10350 : Index := Scalar.indexCast v6486
  let c3_4786 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10351 : Index := Scalar.indexCast v6485
  let c1_4787 : Index := 1#32
  let c0_4788 : Index := 0#32
  let c0_4789 : Index := 0#32
  ![v10350.toNat, 3, v10351.toNat, 1, 0, 0]
def k0_off271 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10355 : Index := Scalar.indexCast v6486
  let c3_4790 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10356 : Index := Scalar.indexCast v6485
  let c2_4791 : Index := 2#32
  let c0_4792 : Index := 0#32
  let c0_4793 : Index := 0#32
  ![v10355.toNat, 3, v10356.toNat, 2, 0, 0]
def k0_off272 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10360 : Index := Scalar.indexCast v6486
  let c3_4794 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10361 : Index := Scalar.indexCast v6485
  let c3_4795 : Index := 3#32
  let c0_4796 : Index := 0#32
  let c0_4797 : Index := 0#32
  ![v10360.toNat, 3, v10361.toNat, 3, 0, 0]
def k0_off273 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10365 : Index := Scalar.indexCast v6486
  let c3_4798 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10366 : Index := Scalar.indexCast v6485
  let c4_4799 : Index := 4#32
  let c0_4800 : Index := 0#32
  let c0_4801 : Index := 0#32
  ![v10365.toNat, 3, v10366.toNat, 4, 0, 0]
def k0_off274 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10370 : Index := Scalar.indexCast v6486
  let c3_4802 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10371 : Index := Scalar.indexCast v6485
  let c5_4803 : Index := 5#32
  let c0_4804 : Index := 0#32
  let c0_4805 : Index := 0#32
  ![v10370.toNat, 3, v10371.toNat, 5, 0, 0]
def k0_off275 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10375 : Index := Scalar.indexCast v6486
  let c3_4806 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10376 : Index := Scalar.indexCast v6485
  let c6_4807 : Index := 6#32
  let c0_4808 : Index := 0#32
  let c0_4809 : Index := 0#32
  ![v10375.toNat, 3, v10376.toNat, 6, 0, 0]
def k0_off276 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10380 : Index := Scalar.indexCast v6486
  let c3_4810 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10381 : Index := Scalar.indexCast v6485
  let c7_4811 : Index := 7#32
  let c0_4812 : Index := 0#32
  let c0_4813 : Index := 0#32
  ![v10380.toNat, 3, v10381.toNat, 7, 0, 0]
def k0_off277 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10385 : Index := Scalar.indexCast v6486
  let c3_4814 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10386 : Index := Scalar.indexCast v6485
  let c8_4815 : Index := 8#32
  let c0_4816 : Index := 0#32
  let c0_4817 : Index := 0#32
  ![v10385.toNat, 3, v10386.toNat, 8, 0, 0]
def k0_off278 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10390 : Index := Scalar.indexCast v6486
  let c3_4818 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10391 : Index := Scalar.indexCast v6485
  let c9_4819 : Index := 9#32
  let c0_4820 : Index := 0#32
  let c0_4821 : Index := 0#32
  ![v10390.toNat, 3, v10391.toNat, 9, 0, 0]
def k0_off279 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10395 : Index := Scalar.indexCast v6486
  let c3_4822 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10396 : Index := Scalar.indexCast v6485
  let c10_4823 : Index := 10#32
  let c0_4824 : Index := 0#32
  let c0_4825 : Index := 0#32
  ![v10395.toNat, 3, v10396.toNat, 10, 0, 0]
def k0_off280 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10400 : Index := Scalar.indexCast v6486
  let c3_4826 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10401 : Index := Scalar.indexCast v6485
  let c11_4827 : Index := 11#32
  let c0_4828 : Index := 0#32
  let c0_4829 : Index := 0#32
  ![v10400.toNat, 3, v10401.toNat, 11, 0, 0]
def k0_off281 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10405 : Index := Scalar.indexCast v6486
  let c3_4830 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10406 : Index := Scalar.indexCast v6485
  let c12_4831 : Index := 12#32
  let c0_4832 : Index := 0#32
  let c0_4833 : Index := 0#32
  ![v10405.toNat, 3, v10406.toNat, 12, 0, 0]
def k0_off282 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10410 : Index := Scalar.indexCast v6486
  let c3_4834 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10411 : Index := Scalar.indexCast v6485
  let c13_4835 : Index := 13#32
  let c0_4836 : Index := 0#32
  let c0_4837 : Index := 0#32
  ![v10410.toNat, 3, v10411.toNat, 13, 0, 0]
def k0_off283 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10415 : Index := Scalar.indexCast v6486
  let c3_4838 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10416 : Index := Scalar.indexCast v6485
  let c14_4839 : Index := 14#32
  let c0_4840 : Index := 0#32
  let c0_4841 : Index := 0#32
  ![v10415.toNat, 3, v10416.toNat, 14, 0, 0]
def k0_off284 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10420 : Index := Scalar.indexCast v6486
  let c3_4842 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10421 : Index := Scalar.indexCast v6485
  let c15_4843 : Index := 15#32
  let c0_4844 : Index := 0#32
  let c0_4845 : Index := 0#32
  ![v10420.toNat, 3, v10421.toNat, 15, 0, 0]
def k0_off285 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10425 : Index := Scalar.indexCast v6486
  let c3_4846 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10426 : Index := Scalar.indexCast v6485
  let c16_4847 : Index := 16#32
  let c0_4848 : Index := 0#32
  let c0_4849 : Index := 0#32
  ![v10425.toNat, 3, v10426.toNat, 16, 0, 0]
def k0_off286 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10430 : Index := Scalar.indexCast v6486
  let c3_4850 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10431 : Index := Scalar.indexCast v6485
  let c17_4851 : Index := 17#32
  let c0_4852 : Index := 0#32
  let c0_4853 : Index := 0#32
  ![v10430.toNat, 3, v10431.toNat, 17, 0, 0]
def k0_off287 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10435 : Index := Scalar.indexCast v6486
  let c3_4854 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10436 : Index := Scalar.indexCast v6485
  let c18_4855 : Index := 18#32
  let c0_4856 : Index := 0#32
  let c0_4857 : Index := 0#32
  ![v10435.toNat, 3, v10436.toNat, 18, 0, 0]
def k0_off288 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10440 : Index := Scalar.indexCast v6486
  let c3_4858 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10441 : Index := Scalar.indexCast v6485
  let c19_4859 : Index := 19#32
  let c0_4860 : Index := 0#32
  let c0_4861 : Index := 0#32
  ![v10440.toNat, 3, v10441.toNat, 19, 0, 0]
def k0_off289 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10445 : Index := Scalar.indexCast v6486
  let c3_4862 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10446 : Index := Scalar.indexCast v6485
  let c20_4863 : Index := 20#32
  let c0_4864 : Index := 0#32
  let c0_4865 : Index := 0#32
  ![v10445.toNat, 3, v10446.toNat, 20, 0, 0]
def k0_off290 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10450 : Index := Scalar.indexCast v6486
  let c3_4866 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10451 : Index := Scalar.indexCast v6485
  let c21_4867 : Index := 21#32
  let c0_4868 : Index := 0#32
  let c0_4869 : Index := 0#32
  ![v10450.toNat, 3, v10451.toNat, 21, 0, 0]
def k0_off291 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10455 : Index := Scalar.indexCast v6486
  let c3_4870 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10456 : Index := Scalar.indexCast v6485
  let c22_4871 : Index := 22#32
  let c0_4872 : Index := 0#32
  let c0_4873 : Index := 0#32
  ![v10455.toNat, 3, v10456.toNat, 22, 0, 0]
def k0_off292 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10460 : Index := Scalar.indexCast v6486
  let c3_4874 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10461 : Index := Scalar.indexCast v6485
  let c23_4875 : Index := 23#32
  let c0_4876 : Index := 0#32
  let c0_4877 : Index := 0#32
  ![v10460.toNat, 3, v10461.toNat, 23, 0, 0]
def k0_off293 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10465 : Index := Scalar.indexCast v6486
  let c3_4878 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10466 : Index := Scalar.indexCast v6485
  let c24_4879 : Index := 24#32
  let c0_4880 : Index := 0#32
  let c0_4881 : Index := 0#32
  ![v10465.toNat, 3, v10466.toNat, 24, 0, 0]
def k0_off294 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10470 : Index := Scalar.indexCast v6486
  let c3_4882 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10471 : Index := Scalar.indexCast v6485
  let c25_4883 : Index := 25#32
  let c0_4884 : Index := 0#32
  let c0_4885 : Index := 0#32
  ![v10470.toNat, 3, v10471.toNat, 25, 0, 0]
def k0_off295 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10475 : Index := Scalar.indexCast v6486
  let c3_4886 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10476 : Index := Scalar.indexCast v6485
  let c26_4887 : Index := 26#32
  let c0_4888 : Index := 0#32
  let c0_4889 : Index := 0#32
  ![v10475.toNat, 3, v10476.toNat, 26, 0, 0]
def k0_off296 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10480 : Index := Scalar.indexCast v6486
  let c3_4890 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10481 : Index := Scalar.indexCast v6485
  let c27_4891 : Index := 27#32
  let c0_4892 : Index := 0#32
  let c0_4893 : Index := 0#32
  ![v10480.toNat, 3, v10481.toNat, 27, 0, 0]
def k0_off297 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10485 : Index := Scalar.indexCast v6486
  let c3_4894 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10486 : Index := Scalar.indexCast v6485
  let c28_4895 : Index := 28#32
  let c0_4896 : Index := 0#32
  let c0_4897 : Index := 0#32
  ![v10485.toNat, 3, v10486.toNat, 28, 0, 0]
def k0_off298 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10490 : Index := Scalar.indexCast v6486
  let c3_4898 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10491 : Index := Scalar.indexCast v6485
  let c29_4899 : Index := 29#32
  let c0_4900 : Index := 0#32
  let c0_4901 : Index := 0#32
  ![v10490.toNat, 3, v10491.toNat, 29, 0, 0]
def k0_off299 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10495 : Index := Scalar.indexCast v6486
  let c3_4902 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10496 : Index := Scalar.indexCast v6485
  let c30_4903 : Index := 30#32
  let c0_4904 : Index := 0#32
  let c0_4905 : Index := 0#32
  ![v10495.toNat, 3, v10496.toNat, 30, 0, 0]
def k0_off300 (i : grid0.Coords) (k0_t13 : Fin (k0_t13_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10500 : Index := Scalar.indexCast v6486
  let c3_4906 : Index := 3#32
  let c0_i32_226 : BitVec 32 := 0#32
  let c1_i32_229 : BitVec 32 := 1#32
  let arg19 : BitVec 32 := Scf.iv c0_i32_226 c1_i32_229 k0_t13
  let c2_i32_3154 : BitVec 32 := 2#32
  let v6484 : BitVec 32 := Scalar.muli arg19 c2_i32_3154
  let v6485 : BitVec 32 := Scalar.addi v6484 c0_i32_3155
  let v10501 : Index := Scalar.indexCast v6485
  let c31_4907 : Index := 31#32
  let c0_4908 : Index := 0#32
  let c0_4909 : Index := 0#32
  ![v10500.toNat, 3, v10501.toNat, 31, 0, 0]
def k0_mult3 (i : grid0.Coords) (k0_t13 : Fin (k0_t13_loop i).trips) : BitVec 32 :=
  let c0_i32_226 : BitVec 32 := 0#32
  let c1_i32_229 : BitVec 32 := 1#32
  let arg19 : BitVec 32 := Scf.iv c0_i32_226 c1_i32_229 k0_t13
  let c2_i32_4910 : BitVec 32 := 2#32
  let v10505 : BitVec 32 := Scalar.muli arg19 c2_i32_4910
  let c1_i32_4911 : BitVec 32 := 1#32
  let v10506 : BitVec 32 := Scalar.addi v10505 c1_i32_4911
  let c256_i32_4913 : BitVec 32 := 256#32
  let v10508 : BitVec 32 := Scalar.muli v10506 c256_i32_4913
  v10508
@[reducible] def k0_t14_loop (i : grid0.Coords) : Scf.Loop 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let v323 : BitVec 32 := Scalar.addi c0_i32_226 v322
  let c1_i32_230 : BitVec 32 := 1#32
  ⟨v326, v323, c1_i32_230⟩
def k0_mult4 (i : grid0.Coords) (k0_t14 : Fin (k0_t14_loop i).trips) : BitVec 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  v4374
def k0_off301 (i : grid0.Coords) (k0_t14 : Fin (k0_t14_loop i).trips) (c0_i32_1966 : BitVec 32) : Fin 4 → Nat :=
  let c0_1967 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let c0_i32_1960 : BitVec 32 := 0#32
  let v4377 : BitVec 1 := Scalar.cmpi .sgt v4375 c0_i32_1960
  let v4378 : BitVec 32 := Scalar.extui v4377
  let c0_i32_1961 : BitVec 32 := 0#32
  let v4379 : BitVec 1 := Scalar.cmpi .slt v4375 c0_i32_1961
  let v4380 : BitVec 32 := Scalar.extui v4379
  let v4381 : BitVec 32 := Scalar.subi v4378 v4380
  let c256_i32_1959 : BitVec 32 := 256#32
  let c0_i32_1962 : BitVec 32 := 0#32
  let v4382 : BitVec 1 := Scalar.cmpi .sgt c256_i32_1959 c0_i32_1962
  let v4383 : BitVec 32 := Scalar.extui v4382
  let c0_i32_1963 : BitVec 32 := 0#32
  let v4384 : BitVec 1 := Scalar.cmpi .slt c256_i32_1959 c0_i32_1963
  let v4385 : BitVec 32 := Scalar.extui v4384
  let v4386 : BitVec 32 := Scalar.subi v4383 v4385
  let v4387 : BitVec 1 := Scalar.cmpi .ne v4381 v4386
  let v4388 : BitVec 32 := Scalar.remsi v4375 c256_i32_1959
  let c0_i32_1964 : BitVec 32 := 0#32
  let v4389 : BitVec 1 := Scalar.cmpi .ne v4388 c0_i32_1964
  let v4390 : BitVec 1 := Scalar.andi v4387 v4389
  let v4376 : BitVec 32 := Scalar.divsi v4375 c256_i32_1959
  let c1_i32_1965 : BitVec 32 := 1#32
  let v4391 : BitVec 32 := Scalar.subi v4376 c1_i32_1965
  let v4392 : BitVec 32 := Scalar.select v4390 v4391 v4376
  let v4393 : BitVec 32 := Scalar.addi v4392 c0_i32_1966
  let v4394 : Index := Scalar.indexCast v4393
  let c0_1968 : Index := 0#32
  let c0_1969 : Index := 0#32
  ![0, v4394.toNat, 0, 0]
def k0_off302 (i : grid0.Coords) (k0_t14 : Fin (k0_t14_loop i).trips) : Fin 3 → Nat :=
  let c0_2216 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v4867 : Index := Scalar.indexCast v4375
  let c0_2217 : Index := 0#32
  ![0, v4867.toNat, 0]
def k0_off303 (i : grid0.Coords) (k0_t14 : Fin (k0_t14_loop i).trips) (c0_i32_2234 : BitVec 32) : Fin 4 → Nat :=
  let c1_2235 : Index := 1#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let c0_i32_2228 : BitVec 32 := 0#32
  let v4881 : BitVec 1 := Scalar.cmpi .sgt v4375 c0_i32_2228
  let v4882 : BitVec 32 := Scalar.extui v4881
  let c0_i32_2229 : BitVec 32 := 0#32
  let v4883 : BitVec 1 := Scalar.cmpi .slt v4375 c0_i32_2229
  let v4884 : BitVec 32 := Scalar.extui v4883
  let v4885 : BitVec 32 := Scalar.subi v4882 v4884
  let c256_i32_2227 : BitVec 32 := 256#32
  let c0_i32_2230 : BitVec 32 := 0#32
  let v4886 : BitVec 1 := Scalar.cmpi .sgt c256_i32_2227 c0_i32_2230
  let v4887 : BitVec 32 := Scalar.extui v4886
  let c0_i32_2231 : BitVec 32 := 0#32
  let v4888 : BitVec 1 := Scalar.cmpi .slt c256_i32_2227 c0_i32_2231
  let v4889 : BitVec 32 := Scalar.extui v4888
  let v4890 : BitVec 32 := Scalar.subi v4887 v4889
  let v4891 : BitVec 1 := Scalar.cmpi .ne v4885 v4890
  let v4892 : BitVec 32 := Scalar.remsi v4375 c256_i32_2227
  let c0_i32_2232 : BitVec 32 := 0#32
  let v4893 : BitVec 1 := Scalar.cmpi .ne v4892 c0_i32_2232
  let v4894 : BitVec 1 := Scalar.andi v4891 v4893
  let v4880 : BitVec 32 := Scalar.divsi v4375 c256_i32_2227
  let c1_i32_2233 : BitVec 32 := 1#32
  let v4895 : BitVec 32 := Scalar.subi v4880 c1_i32_2233
  let v4896 : BitVec 32 := Scalar.select v4894 v4895 v4880
  let v4897 : BitVec 32 := Scalar.addi v4896 c0_i32_2234
  let v4898 : Index := Scalar.indexCast v4897
  let c0_2236 : Index := 0#32
  let c0_2237 : Index := 0#32
  ![1, v4898.toNat, 0, 0]
def k0_off304 (i : grid0.Coords) (k0_t14 : Fin (k0_t14_loop i).trips) : Fin 3 → Nat :=
  let c1_2505 : Index := 1#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v5371 : Index := Scalar.indexCast v4375
  let c0_2506 : Index := 0#32
  ![1, v5371.toNat, 0]
def k0_off305 (i : grid0.Coords) (k0_t14 : Fin (k0_t14_loop i).trips) : Fin 3 → Nat :=
  let c0_2522 : Index := 0#32
  let c0_2523 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v5396 : Index := Scalar.indexCast v4375
  ![0, 0, v5396.toNat]
def k0_off306 (i : grid0.Coords) (k0_t14 : Fin (k0_t14_loop i).trips) : Fin 3 → Nat :=
  let c1_2537 : Index := 1#32
  let c0_2538 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v5419 : Index := Scalar.indexCast v4375
  ![1, 0, v5419.toNat]
def k0_off307 (i : grid0.Coords) (k0_t14 : Fin (k0_t14_loop i).trips) (c0_i32_2553 : BitVec 32) : Fin 4 → Nat :=
  let c2_2554 : Index := 2#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let c0_i32_2547 : BitVec 32 := 0#32
  let v5431 : BitVec 1 := Scalar.cmpi .sgt v4375 c0_i32_2547
  let v5432 : BitVec 32 := Scalar.extui v5431
  let c0_i32_2548 : BitVec 32 := 0#32
  let v5433 : BitVec 1 := Scalar.cmpi .slt v4375 c0_i32_2548
  let v5434 : BitVec 32 := Scalar.extui v5433
  let v5435 : BitVec 32 := Scalar.subi v5432 v5434
  let c256_i32_2546 : BitVec 32 := 256#32
  let c0_i32_2549 : BitVec 32 := 0#32
  let v5436 : BitVec 1 := Scalar.cmpi .sgt c256_i32_2546 c0_i32_2549
  let v5437 : BitVec 32 := Scalar.extui v5436
  let c0_i32_2550 : BitVec 32 := 0#32
  let v5438 : BitVec 1 := Scalar.cmpi .slt c256_i32_2546 c0_i32_2550
  let v5439 : BitVec 32 := Scalar.extui v5438
  let v5440 : BitVec 32 := Scalar.subi v5437 v5439
  let v5441 : BitVec 1 := Scalar.cmpi .ne v5435 v5440
  let v5442 : BitVec 32 := Scalar.remsi v4375 c256_i32_2546
  let c0_i32_2551 : BitVec 32 := 0#32
  let v5443 : BitVec 1 := Scalar.cmpi .ne v5442 c0_i32_2551
  let v5444 : BitVec 1 := Scalar.andi v5441 v5443
  let v5430 : BitVec 32 := Scalar.divsi v4375 c256_i32_2546
  let c1_i32_2552 : BitVec 32 := 1#32
  let v5445 : BitVec 32 := Scalar.subi v5430 c1_i32_2552
  let v5446 : BitVec 32 := Scalar.select v5444 v5445 v5430
  let v5447 : BitVec 32 := Scalar.addi v5446 c0_i32_2553
  let v5448 : Index := Scalar.indexCast v5447
  let c0_2555 : Index := 0#32
  let c0_2556 : Index := 0#32
  ![2, v5448.toNat, 0, 0]
def k0_off308 (i : grid0.Coords) (k0_t14 : Fin (k0_t14_loop i).trips) : Fin 3 → Nat :=
  let c2_2824 : Index := 2#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v5921 : Index := Scalar.indexCast v4375
  let c0_2825 : Index := 0#32
  ![2, v5921.toNat, 0]
def k0_off309 (i : grid0.Coords) (k0_t14 : Fin (k0_t14_loop i).trips) (c0_i32_2842 : BitVec 32) : Fin 4 → Nat :=
  let c3_2843 : Index := 3#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let c0_i32_2836 : BitVec 32 := 0#32
  let v5935 : BitVec 1 := Scalar.cmpi .sgt v4375 c0_i32_2836
  let v5936 : BitVec 32 := Scalar.extui v5935
  let c0_i32_2837 : BitVec 32 := 0#32
  let v5937 : BitVec 1 := Scalar.cmpi .slt v4375 c0_i32_2837
  let v5938 : BitVec 32 := Scalar.extui v5937
  let v5939 : BitVec 32 := Scalar.subi v5936 v5938
  let c256_i32_2835 : BitVec 32 := 256#32
  let c0_i32_2838 : BitVec 32 := 0#32
  let v5940 : BitVec 1 := Scalar.cmpi .sgt c256_i32_2835 c0_i32_2838
  let v5941 : BitVec 32 := Scalar.extui v5940
  let c0_i32_2839 : BitVec 32 := 0#32
  let v5942 : BitVec 1 := Scalar.cmpi .slt c256_i32_2835 c0_i32_2839
  let v5943 : BitVec 32 := Scalar.extui v5942
  let v5944 : BitVec 32 := Scalar.subi v5941 v5943
  let v5945 : BitVec 1 := Scalar.cmpi .ne v5939 v5944
  let v5946 : BitVec 32 := Scalar.remsi v4375 c256_i32_2835
  let c0_i32_2840 : BitVec 32 := 0#32
  let v5947 : BitVec 1 := Scalar.cmpi .ne v5946 c0_i32_2840
  let v5948 : BitVec 1 := Scalar.andi v5945 v5947
  let v5934 : BitVec 32 := Scalar.divsi v4375 c256_i32_2835
  let c1_i32_2841 : BitVec 32 := 1#32
  let v5949 : BitVec 32 := Scalar.subi v5934 c1_i32_2841
  let v5950 : BitVec 32 := Scalar.select v5948 v5949 v5934
  let v5951 : BitVec 32 := Scalar.addi v5950 c0_i32_2842
  let v5952 : Index := Scalar.indexCast v5951
  let c0_2844 : Index := 0#32
  let c0_2845 : Index := 0#32
  ![3, v5952.toNat, 0, 0]
def k0_off310 (i : grid0.Coords) (k0_t14 : Fin (k0_t14_loop i).trips) : Fin 3 → Nat :=
  let c3_3113 : Index := 3#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v6425 : Index := Scalar.indexCast v4375
  let c0_3114 : Index := 0#32
  ![3, v6425.toNat, 0]
def k0_off311 (i : grid0.Coords) (k0_t14 : Fin (k0_t14_loop i).trips) : Fin 3 → Nat :=
  let c2_3130 : Index := 2#32
  let c0_3131 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v6450 : Index := Scalar.indexCast v4375
  ![2, 0, v6450.toNat]
def k0_off312 (i : grid0.Coords) (k0_t14 : Fin (k0_t14_loop i).trips) : Fin 3 → Nat :=
  let c3_3145 : Index := 3#32
  let c0_3146 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c512_i32 : BitVec 32 := 512#32
  let v4374 : BitVec 32 := Scalar.muli arg19 c512_i32
  let v4375 : BitVec 32 := v4374
  let v6473 : Index := Scalar.indexCast v4375
  ![3, 0, v6473.toNat]
def k0_mult5 (i : grid0.Coords) (k0_t14 : Fin (k0_t14_loop i).trips) : BitVec 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let c0_i32_3155 : BitVec 32 := 0#32
  let v6485 : BitVec 32 := Scalar.addi v6484 c0_i32_3155
  let c256_i32_3157 : BitVec 32 := 256#32
  let v6487 : BitVec 32 := Scalar.muli v6485 c256_i32_3157
  v6487
def k0_off313 (i : grid0.Coords) (k0_t14 : Fin (k0_t14_loop i).trips) (c0_i32_3155 : BitVec 32) : Fin 3 → Nat :=
  let c0_3158 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v6489 : Index := Scalar.indexCast v6488
  let c0_3159 : Index := 0#32
  ![0, v6489.toNat, 0]
def k0_off314 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7333 : Index := Scalar.indexCast v6486
  let c0_3468 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7334 : Index := Scalar.indexCast v6485
  let c0_3469 : Index := 0#32
  let c0_3470 : Index := 0#32
  let c0_3471 : Index := 0#32
  ![v7333.toNat, 0, v7334.toNat, 0, 0, 0]
def k0_off315 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7338 : Index := Scalar.indexCast v6486
  let c0_3472 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7339 : Index := Scalar.indexCast v6485
  let c1_3473 : Index := 1#32
  let c0_3474 : Index := 0#32
  let c0_3475 : Index := 0#32
  ![v7338.toNat, 0, v7339.toNat, 1, 0, 0]
def k0_off316 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7343 : Index := Scalar.indexCast v6486
  let c0_3476 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7344 : Index := Scalar.indexCast v6485
  let c2_3477 : Index := 2#32
  let c0_3478 : Index := 0#32
  let c0_3479 : Index := 0#32
  ![v7343.toNat, 0, v7344.toNat, 2, 0, 0]
def k0_off317 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7348 : Index := Scalar.indexCast v6486
  let c0_3480 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7349 : Index := Scalar.indexCast v6485
  let c3_3481 : Index := 3#32
  let c0_3482 : Index := 0#32
  let c0_3483 : Index := 0#32
  ![v7348.toNat, 0, v7349.toNat, 3, 0, 0]
def k0_off318 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7353 : Index := Scalar.indexCast v6486
  let c0_3484 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7354 : Index := Scalar.indexCast v6485
  let c4_3485 : Index := 4#32
  let c0_3486 : Index := 0#32
  let c0_3487 : Index := 0#32
  ![v7353.toNat, 0, v7354.toNat, 4, 0, 0]
def k0_off319 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7358 : Index := Scalar.indexCast v6486
  let c0_3488 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7359 : Index := Scalar.indexCast v6485
  let c5_3489 : Index := 5#32
  let c0_3490 : Index := 0#32
  let c0_3491 : Index := 0#32
  ![v7358.toNat, 0, v7359.toNat, 5, 0, 0]
def k0_off320 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7363 : Index := Scalar.indexCast v6486
  let c0_3492 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7364 : Index := Scalar.indexCast v6485
  let c6_3493 : Index := 6#32
  let c0_3494 : Index := 0#32
  let c0_3495 : Index := 0#32
  ![v7363.toNat, 0, v7364.toNat, 6, 0, 0]
def k0_off321 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7368 : Index := Scalar.indexCast v6486
  let c0_3496 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7369 : Index := Scalar.indexCast v6485
  let c7_3497 : Index := 7#32
  let c0_3498 : Index := 0#32
  let c0_3499 : Index := 0#32
  ![v7368.toNat, 0, v7369.toNat, 7, 0, 0]
def k0_off322 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7373 : Index := Scalar.indexCast v6486
  let c0_3500 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7374 : Index := Scalar.indexCast v6485
  let c8_3501 : Index := 8#32
  let c0_3502 : Index := 0#32
  let c0_3503 : Index := 0#32
  ![v7373.toNat, 0, v7374.toNat, 8, 0, 0]
def k0_off323 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7378 : Index := Scalar.indexCast v6486
  let c0_3504 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7379 : Index := Scalar.indexCast v6485
  let c9_3505 : Index := 9#32
  let c0_3506 : Index := 0#32
  let c0_3507 : Index := 0#32
  ![v7378.toNat, 0, v7379.toNat, 9, 0, 0]
def k0_off324 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7383 : Index := Scalar.indexCast v6486
  let c0_3508 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7384 : Index := Scalar.indexCast v6485
  let c10_3509 : Index := 10#32
  let c0_3510 : Index := 0#32
  let c0_3511 : Index := 0#32
  ![v7383.toNat, 0, v7384.toNat, 10, 0, 0]
def k0_off325 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7388 : Index := Scalar.indexCast v6486
  let c0_3512 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7389 : Index := Scalar.indexCast v6485
  let c11_3513 : Index := 11#32
  let c0_3514 : Index := 0#32
  let c0_3515 : Index := 0#32
  ![v7388.toNat, 0, v7389.toNat, 11, 0, 0]
def k0_off326 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7393 : Index := Scalar.indexCast v6486
  let c0_3516 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7394 : Index := Scalar.indexCast v6485
  let c12_3517 : Index := 12#32
  let c0_3518 : Index := 0#32
  let c0_3519 : Index := 0#32
  ![v7393.toNat, 0, v7394.toNat, 12, 0, 0]
def k0_off327 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7398 : Index := Scalar.indexCast v6486
  let c0_3520 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7399 : Index := Scalar.indexCast v6485
  let c13_3521 : Index := 13#32
  let c0_3522 : Index := 0#32
  let c0_3523 : Index := 0#32
  ![v7398.toNat, 0, v7399.toNat, 13, 0, 0]
def k0_off328 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7403 : Index := Scalar.indexCast v6486
  let c0_3524 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7404 : Index := Scalar.indexCast v6485
  let c14_3525 : Index := 14#32
  let c0_3526 : Index := 0#32
  let c0_3527 : Index := 0#32
  ![v7403.toNat, 0, v7404.toNat, 14, 0, 0]
def k0_off329 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7408 : Index := Scalar.indexCast v6486
  let c0_3528 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7409 : Index := Scalar.indexCast v6485
  let c15_3529 : Index := 15#32
  let c0_3530 : Index := 0#32
  let c0_3531 : Index := 0#32
  ![v7408.toNat, 0, v7409.toNat, 15, 0, 0]
def k0_off330 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7413 : Index := Scalar.indexCast v6486
  let c0_3532 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7414 : Index := Scalar.indexCast v6485
  let c16_3533 : Index := 16#32
  let c0_3534 : Index := 0#32
  let c0_3535 : Index := 0#32
  ![v7413.toNat, 0, v7414.toNat, 16, 0, 0]
def k0_off331 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7418 : Index := Scalar.indexCast v6486
  let c0_3536 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7419 : Index := Scalar.indexCast v6485
  let c17_3537 : Index := 17#32
  let c0_3538 : Index := 0#32
  let c0_3539 : Index := 0#32
  ![v7418.toNat, 0, v7419.toNat, 17, 0, 0]
def k0_off332 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7423 : Index := Scalar.indexCast v6486
  let c0_3540 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7424 : Index := Scalar.indexCast v6485
  let c18_3541 : Index := 18#32
  let c0_3542 : Index := 0#32
  let c0_3543 : Index := 0#32
  ![v7423.toNat, 0, v7424.toNat, 18, 0, 0]
def k0_off333 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7428 : Index := Scalar.indexCast v6486
  let c0_3544 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7429 : Index := Scalar.indexCast v6485
  let c19_3545 : Index := 19#32
  let c0_3546 : Index := 0#32
  let c0_3547 : Index := 0#32
  ![v7428.toNat, 0, v7429.toNat, 19, 0, 0]
def k0_off334 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7433 : Index := Scalar.indexCast v6486
  let c0_3548 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7434 : Index := Scalar.indexCast v6485
  let c20_3549 : Index := 20#32
  let c0_3550 : Index := 0#32
  let c0_3551 : Index := 0#32
  ![v7433.toNat, 0, v7434.toNat, 20, 0, 0]
def k0_off335 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7438 : Index := Scalar.indexCast v6486
  let c0_3552 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7439 : Index := Scalar.indexCast v6485
  let c21_3553 : Index := 21#32
  let c0_3554 : Index := 0#32
  let c0_3555 : Index := 0#32
  ![v7438.toNat, 0, v7439.toNat, 21, 0, 0]
def k0_off336 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7443 : Index := Scalar.indexCast v6486
  let c0_3556 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7444 : Index := Scalar.indexCast v6485
  let c22_3557 : Index := 22#32
  let c0_3558 : Index := 0#32
  let c0_3559 : Index := 0#32
  ![v7443.toNat, 0, v7444.toNat, 22, 0, 0]
def k0_off337 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7448 : Index := Scalar.indexCast v6486
  let c0_3560 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7449 : Index := Scalar.indexCast v6485
  let c23_3561 : Index := 23#32
  let c0_3562 : Index := 0#32
  let c0_3563 : Index := 0#32
  ![v7448.toNat, 0, v7449.toNat, 23, 0, 0]
def k0_off338 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7453 : Index := Scalar.indexCast v6486
  let c0_3564 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7454 : Index := Scalar.indexCast v6485
  let c24_3565 : Index := 24#32
  let c0_3566 : Index := 0#32
  let c0_3567 : Index := 0#32
  ![v7453.toNat, 0, v7454.toNat, 24, 0, 0]
def k0_off339 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7458 : Index := Scalar.indexCast v6486
  let c0_3568 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7459 : Index := Scalar.indexCast v6485
  let c25_3569 : Index := 25#32
  let c0_3570 : Index := 0#32
  let c0_3571 : Index := 0#32
  ![v7458.toNat, 0, v7459.toNat, 25, 0, 0]
def k0_off340 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7463 : Index := Scalar.indexCast v6486
  let c0_3572 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7464 : Index := Scalar.indexCast v6485
  let c26_3573 : Index := 26#32
  let c0_3574 : Index := 0#32
  let c0_3575 : Index := 0#32
  ![v7463.toNat, 0, v7464.toNat, 26, 0, 0]
def k0_off341 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7468 : Index := Scalar.indexCast v6486
  let c0_3576 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7469 : Index := Scalar.indexCast v6485
  let c27_3577 : Index := 27#32
  let c0_3578 : Index := 0#32
  let c0_3579 : Index := 0#32
  ![v7468.toNat, 0, v7469.toNat, 27, 0, 0]
def k0_off342 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7473 : Index := Scalar.indexCast v6486
  let c0_3580 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7474 : Index := Scalar.indexCast v6485
  let c28_3581 : Index := 28#32
  let c0_3582 : Index := 0#32
  let c0_3583 : Index := 0#32
  ![v7473.toNat, 0, v7474.toNat, 28, 0, 0]
def k0_off343 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7478 : Index := Scalar.indexCast v6486
  let c0_3584 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7479 : Index := Scalar.indexCast v6485
  let c29_3585 : Index := 29#32
  let c0_3586 : Index := 0#32
  let c0_3587 : Index := 0#32
  ![v7478.toNat, 0, v7479.toNat, 29, 0, 0]
def k0_off344 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7483 : Index := Scalar.indexCast v6486
  let c0_3588 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7484 : Index := Scalar.indexCast v6485
  let c30_3589 : Index := 30#32
  let c0_3590 : Index := 0#32
  let c0_3591 : Index := 0#32
  ![v7483.toNat, 0, v7484.toNat, 30, 0, 0]
def k0_off345 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v7488 : Index := Scalar.indexCast v6486
  let c0_3592 : Index := 0#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v7489 : Index := Scalar.indexCast v6485
  let c31_3593 : Index := 31#32
  let c0_3594 : Index := 0#32
  let c0_3595 : Index := 0#32
  ![v7488.toNat, 0, v7489.toNat, 31, 0, 0]
def k0_off346 (i : grid0.Coords) (k0_t14 : Fin (k0_t14_loop i).trips) (c0_i32_3155 : BitVec 32) : Fin 3 → Nat :=
  let c1_3596 : Index := 1#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v7493 : Index := Scalar.indexCast v6488
  let c0_3597 : Index := 0#32
  ![1, v7493.toNat, 0]
def k0_off347 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8337 : Index := Scalar.indexCast v6486
  let c1_3906 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8338 : Index := Scalar.indexCast v6485
  let c0_3907 : Index := 0#32
  let c0_3908 : Index := 0#32
  let c0_3909 : Index := 0#32
  ![v8337.toNat, 1, v8338.toNat, 0, 0, 0]
def k0_off348 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8342 : Index := Scalar.indexCast v6486
  let c1_3910 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8343 : Index := Scalar.indexCast v6485
  let c1_3911 : Index := 1#32
  let c0_3912 : Index := 0#32
  let c0_3913 : Index := 0#32
  ![v8342.toNat, 1, v8343.toNat, 1, 0, 0]
def k0_off349 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8347 : Index := Scalar.indexCast v6486
  let c1_3914 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8348 : Index := Scalar.indexCast v6485
  let c2_3915 : Index := 2#32
  let c0_3916 : Index := 0#32
  let c0_3917 : Index := 0#32
  ![v8347.toNat, 1, v8348.toNat, 2, 0, 0]
def k0_off350 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8352 : Index := Scalar.indexCast v6486
  let c1_3918 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8353 : Index := Scalar.indexCast v6485
  let c3_3919 : Index := 3#32
  let c0_3920 : Index := 0#32
  let c0_3921 : Index := 0#32
  ![v8352.toNat, 1, v8353.toNat, 3, 0, 0]
def k0_off351 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8357 : Index := Scalar.indexCast v6486
  let c1_3922 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8358 : Index := Scalar.indexCast v6485
  let c4_3923 : Index := 4#32
  let c0_3924 : Index := 0#32
  let c0_3925 : Index := 0#32
  ![v8357.toNat, 1, v8358.toNat, 4, 0, 0]
def k0_off352 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8362 : Index := Scalar.indexCast v6486
  let c1_3926 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8363 : Index := Scalar.indexCast v6485
  let c5_3927 : Index := 5#32
  let c0_3928 : Index := 0#32
  let c0_3929 : Index := 0#32
  ![v8362.toNat, 1, v8363.toNat, 5, 0, 0]
def k0_off353 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8367 : Index := Scalar.indexCast v6486
  let c1_3930 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8368 : Index := Scalar.indexCast v6485
  let c6_3931 : Index := 6#32
  let c0_3932 : Index := 0#32
  let c0_3933 : Index := 0#32
  ![v8367.toNat, 1, v8368.toNat, 6, 0, 0]
def k0_off354 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8372 : Index := Scalar.indexCast v6486
  let c1_3934 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8373 : Index := Scalar.indexCast v6485
  let c7_3935 : Index := 7#32
  let c0_3936 : Index := 0#32
  let c0_3937 : Index := 0#32
  ![v8372.toNat, 1, v8373.toNat, 7, 0, 0]
def k0_off355 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8377 : Index := Scalar.indexCast v6486
  let c1_3938 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8378 : Index := Scalar.indexCast v6485
  let c8_3939 : Index := 8#32
  let c0_3940 : Index := 0#32
  let c0_3941 : Index := 0#32
  ![v8377.toNat, 1, v8378.toNat, 8, 0, 0]
def k0_off356 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8382 : Index := Scalar.indexCast v6486
  let c1_3942 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8383 : Index := Scalar.indexCast v6485
  let c9_3943 : Index := 9#32
  let c0_3944 : Index := 0#32
  let c0_3945 : Index := 0#32
  ![v8382.toNat, 1, v8383.toNat, 9, 0, 0]
def k0_off357 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8387 : Index := Scalar.indexCast v6486
  let c1_3946 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8388 : Index := Scalar.indexCast v6485
  let c10_3947 : Index := 10#32
  let c0_3948 : Index := 0#32
  let c0_3949 : Index := 0#32
  ![v8387.toNat, 1, v8388.toNat, 10, 0, 0]
def k0_off358 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8392 : Index := Scalar.indexCast v6486
  let c1_3950 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8393 : Index := Scalar.indexCast v6485
  let c11_3951 : Index := 11#32
  let c0_3952 : Index := 0#32
  let c0_3953 : Index := 0#32
  ![v8392.toNat, 1, v8393.toNat, 11, 0, 0]
def k0_off359 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8397 : Index := Scalar.indexCast v6486
  let c1_3954 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8398 : Index := Scalar.indexCast v6485
  let c12_3955 : Index := 12#32
  let c0_3956 : Index := 0#32
  let c0_3957 : Index := 0#32
  ![v8397.toNat, 1, v8398.toNat, 12, 0, 0]
def k0_off360 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8402 : Index := Scalar.indexCast v6486
  let c1_3958 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8403 : Index := Scalar.indexCast v6485
  let c13_3959 : Index := 13#32
  let c0_3960 : Index := 0#32
  let c0_3961 : Index := 0#32
  ![v8402.toNat, 1, v8403.toNat, 13, 0, 0]
def k0_off361 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8407 : Index := Scalar.indexCast v6486
  let c1_3962 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8408 : Index := Scalar.indexCast v6485
  let c14_3963 : Index := 14#32
  let c0_3964 : Index := 0#32
  let c0_3965 : Index := 0#32
  ![v8407.toNat, 1, v8408.toNat, 14, 0, 0]
def k0_off362 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8412 : Index := Scalar.indexCast v6486
  let c1_3966 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8413 : Index := Scalar.indexCast v6485
  let c15_3967 : Index := 15#32
  let c0_3968 : Index := 0#32
  let c0_3969 : Index := 0#32
  ![v8412.toNat, 1, v8413.toNat, 15, 0, 0]
def k0_off363 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8417 : Index := Scalar.indexCast v6486
  let c1_3970 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8418 : Index := Scalar.indexCast v6485
  let c16_3971 : Index := 16#32
  let c0_3972 : Index := 0#32
  let c0_3973 : Index := 0#32
  ![v8417.toNat, 1, v8418.toNat, 16, 0, 0]
def k0_off364 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8422 : Index := Scalar.indexCast v6486
  let c1_3974 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8423 : Index := Scalar.indexCast v6485
  let c17_3975 : Index := 17#32
  let c0_3976 : Index := 0#32
  let c0_3977 : Index := 0#32
  ![v8422.toNat, 1, v8423.toNat, 17, 0, 0]
def k0_off365 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8427 : Index := Scalar.indexCast v6486
  let c1_3978 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8428 : Index := Scalar.indexCast v6485
  let c18_3979 : Index := 18#32
  let c0_3980 : Index := 0#32
  let c0_3981 : Index := 0#32
  ![v8427.toNat, 1, v8428.toNat, 18, 0, 0]
def k0_off366 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8432 : Index := Scalar.indexCast v6486
  let c1_3982 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8433 : Index := Scalar.indexCast v6485
  let c19_3983 : Index := 19#32
  let c0_3984 : Index := 0#32
  let c0_3985 : Index := 0#32
  ![v8432.toNat, 1, v8433.toNat, 19, 0, 0]
def k0_off367 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8437 : Index := Scalar.indexCast v6486
  let c1_3986 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8438 : Index := Scalar.indexCast v6485
  let c20_3987 : Index := 20#32
  let c0_3988 : Index := 0#32
  let c0_3989 : Index := 0#32
  ![v8437.toNat, 1, v8438.toNat, 20, 0, 0]
def k0_off368 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8442 : Index := Scalar.indexCast v6486
  let c1_3990 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8443 : Index := Scalar.indexCast v6485
  let c21_3991 : Index := 21#32
  let c0_3992 : Index := 0#32
  let c0_3993 : Index := 0#32
  ![v8442.toNat, 1, v8443.toNat, 21, 0, 0]
def k0_off369 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8447 : Index := Scalar.indexCast v6486
  let c1_3994 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8448 : Index := Scalar.indexCast v6485
  let c22_3995 : Index := 22#32
  let c0_3996 : Index := 0#32
  let c0_3997 : Index := 0#32
  ![v8447.toNat, 1, v8448.toNat, 22, 0, 0]
def k0_off370 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8452 : Index := Scalar.indexCast v6486
  let c1_3998 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8453 : Index := Scalar.indexCast v6485
  let c23_3999 : Index := 23#32
  let c0_4000 : Index := 0#32
  let c0_4001 : Index := 0#32
  ![v8452.toNat, 1, v8453.toNat, 23, 0, 0]
def k0_off371 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8457 : Index := Scalar.indexCast v6486
  let c1_4002 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8458 : Index := Scalar.indexCast v6485
  let c24_4003 : Index := 24#32
  let c0_4004 : Index := 0#32
  let c0_4005 : Index := 0#32
  ![v8457.toNat, 1, v8458.toNat, 24, 0, 0]
def k0_off372 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8462 : Index := Scalar.indexCast v6486
  let c1_4006 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8463 : Index := Scalar.indexCast v6485
  let c25_4007 : Index := 25#32
  let c0_4008 : Index := 0#32
  let c0_4009 : Index := 0#32
  ![v8462.toNat, 1, v8463.toNat, 25, 0, 0]
def k0_off373 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8467 : Index := Scalar.indexCast v6486
  let c1_4010 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8468 : Index := Scalar.indexCast v6485
  let c26_4011 : Index := 26#32
  let c0_4012 : Index := 0#32
  let c0_4013 : Index := 0#32
  ![v8467.toNat, 1, v8468.toNat, 26, 0, 0]
def k0_off374 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8472 : Index := Scalar.indexCast v6486
  let c1_4014 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8473 : Index := Scalar.indexCast v6485
  let c27_4015 : Index := 27#32
  let c0_4016 : Index := 0#32
  let c0_4017 : Index := 0#32
  ![v8472.toNat, 1, v8473.toNat, 27, 0, 0]
def k0_off375 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8477 : Index := Scalar.indexCast v6486
  let c1_4018 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8478 : Index := Scalar.indexCast v6485
  let c28_4019 : Index := 28#32
  let c0_4020 : Index := 0#32
  let c0_4021 : Index := 0#32
  ![v8477.toNat, 1, v8478.toNat, 28, 0, 0]
def k0_off376 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8482 : Index := Scalar.indexCast v6486
  let c1_4022 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8483 : Index := Scalar.indexCast v6485
  let c29_4023 : Index := 29#32
  let c0_4024 : Index := 0#32
  let c0_4025 : Index := 0#32
  ![v8482.toNat, 1, v8483.toNat, 29, 0, 0]
def k0_off377 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8487 : Index := Scalar.indexCast v6486
  let c1_4026 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8488 : Index := Scalar.indexCast v6485
  let c30_4027 : Index := 30#32
  let c0_4028 : Index := 0#32
  let c0_4029 : Index := 0#32
  ![v8487.toNat, 1, v8488.toNat, 30, 0, 0]
def k0_off378 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v8492 : Index := Scalar.indexCast v6486
  let c1_4030 : Index := 1#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v8493 : Index := Scalar.indexCast v6485
  let c31_4031 : Index := 31#32
  let c0_4032 : Index := 0#32
  let c0_4033 : Index := 0#32
  ![v8492.toNat, 1, v8493.toNat, 31, 0, 0]
def k0_off379 (i : grid0.Coords) (k0_t14 : Fin (k0_t14_loop i).trips) (c0_i32_3155 : BitVec 32) : Fin 3 → Nat :=
  let c2_4034 : Index := 2#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v8497 : Index := Scalar.indexCast v6488
  let c0_4035 : Index := 0#32
  ![2, v8497.toNat, 0]
def k0_off380 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9341 : Index := Scalar.indexCast v6486
  let c2_4344 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9342 : Index := Scalar.indexCast v6485
  let c0_4345 : Index := 0#32
  let c0_4346 : Index := 0#32
  let c0_4347 : Index := 0#32
  ![v9341.toNat, 2, v9342.toNat, 0, 0, 0]
def k0_off381 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9346 : Index := Scalar.indexCast v6486
  let c2_4348 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9347 : Index := Scalar.indexCast v6485
  let c1_4349 : Index := 1#32
  let c0_4350 : Index := 0#32
  let c0_4351 : Index := 0#32
  ![v9346.toNat, 2, v9347.toNat, 1, 0, 0]
def k0_off382 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9351 : Index := Scalar.indexCast v6486
  let c2_4352 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9352 : Index := Scalar.indexCast v6485
  let c2_4353 : Index := 2#32
  let c0_4354 : Index := 0#32
  let c0_4355 : Index := 0#32
  ![v9351.toNat, 2, v9352.toNat, 2, 0, 0]
def k0_off383 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9356 : Index := Scalar.indexCast v6486
  let c2_4356 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9357 : Index := Scalar.indexCast v6485
  let c3_4357 : Index := 3#32
  let c0_4358 : Index := 0#32
  let c0_4359 : Index := 0#32
  ![v9356.toNat, 2, v9357.toNat, 3, 0, 0]
def k0_off384 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9361 : Index := Scalar.indexCast v6486
  let c2_4360 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9362 : Index := Scalar.indexCast v6485
  let c4_4361 : Index := 4#32
  let c0_4362 : Index := 0#32
  let c0_4363 : Index := 0#32
  ![v9361.toNat, 2, v9362.toNat, 4, 0, 0]
def k0_off385 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9366 : Index := Scalar.indexCast v6486
  let c2_4364 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9367 : Index := Scalar.indexCast v6485
  let c5_4365 : Index := 5#32
  let c0_4366 : Index := 0#32
  let c0_4367 : Index := 0#32
  ![v9366.toNat, 2, v9367.toNat, 5, 0, 0]
def k0_off386 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9371 : Index := Scalar.indexCast v6486
  let c2_4368 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9372 : Index := Scalar.indexCast v6485
  let c6_4369 : Index := 6#32
  let c0_4370 : Index := 0#32
  let c0_4371 : Index := 0#32
  ![v9371.toNat, 2, v9372.toNat, 6, 0, 0]
def k0_off387 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9376 : Index := Scalar.indexCast v6486
  let c2_4372 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9377 : Index := Scalar.indexCast v6485
  let c7_4373 : Index := 7#32
  let c0_4374 : Index := 0#32
  let c0_4375 : Index := 0#32
  ![v9376.toNat, 2, v9377.toNat, 7, 0, 0]
def k0_off388 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9381 : Index := Scalar.indexCast v6486
  let c2_4376 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9382 : Index := Scalar.indexCast v6485
  let c8_4377 : Index := 8#32
  let c0_4378 : Index := 0#32
  let c0_4379 : Index := 0#32
  ![v9381.toNat, 2, v9382.toNat, 8, 0, 0]
def k0_off389 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9386 : Index := Scalar.indexCast v6486
  let c2_4380 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9387 : Index := Scalar.indexCast v6485
  let c9_4381 : Index := 9#32
  let c0_4382 : Index := 0#32
  let c0_4383 : Index := 0#32
  ![v9386.toNat, 2, v9387.toNat, 9, 0, 0]
def k0_off390 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9391 : Index := Scalar.indexCast v6486
  let c2_4384 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9392 : Index := Scalar.indexCast v6485
  let c10_4385 : Index := 10#32
  let c0_4386 : Index := 0#32
  let c0_4387 : Index := 0#32
  ![v9391.toNat, 2, v9392.toNat, 10, 0, 0]
def k0_off391 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9396 : Index := Scalar.indexCast v6486
  let c2_4388 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9397 : Index := Scalar.indexCast v6485
  let c11_4389 : Index := 11#32
  let c0_4390 : Index := 0#32
  let c0_4391 : Index := 0#32
  ![v9396.toNat, 2, v9397.toNat, 11, 0, 0]
def k0_off392 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9401 : Index := Scalar.indexCast v6486
  let c2_4392 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9402 : Index := Scalar.indexCast v6485
  let c12_4393 : Index := 12#32
  let c0_4394 : Index := 0#32
  let c0_4395 : Index := 0#32
  ![v9401.toNat, 2, v9402.toNat, 12, 0, 0]
def k0_off393 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9406 : Index := Scalar.indexCast v6486
  let c2_4396 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9407 : Index := Scalar.indexCast v6485
  let c13_4397 : Index := 13#32
  let c0_4398 : Index := 0#32
  let c0_4399 : Index := 0#32
  ![v9406.toNat, 2, v9407.toNat, 13, 0, 0]
def k0_off394 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9411 : Index := Scalar.indexCast v6486
  let c2_4400 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9412 : Index := Scalar.indexCast v6485
  let c14_4401 : Index := 14#32
  let c0_4402 : Index := 0#32
  let c0_4403 : Index := 0#32
  ![v9411.toNat, 2, v9412.toNat, 14, 0, 0]
def k0_off395 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9416 : Index := Scalar.indexCast v6486
  let c2_4404 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9417 : Index := Scalar.indexCast v6485
  let c15_4405 : Index := 15#32
  let c0_4406 : Index := 0#32
  let c0_4407 : Index := 0#32
  ![v9416.toNat, 2, v9417.toNat, 15, 0, 0]
def k0_off396 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9421 : Index := Scalar.indexCast v6486
  let c2_4408 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9422 : Index := Scalar.indexCast v6485
  let c16_4409 : Index := 16#32
  let c0_4410 : Index := 0#32
  let c0_4411 : Index := 0#32
  ![v9421.toNat, 2, v9422.toNat, 16, 0, 0]
def k0_off397 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9426 : Index := Scalar.indexCast v6486
  let c2_4412 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9427 : Index := Scalar.indexCast v6485
  let c17_4413 : Index := 17#32
  let c0_4414 : Index := 0#32
  let c0_4415 : Index := 0#32
  ![v9426.toNat, 2, v9427.toNat, 17, 0, 0]
def k0_off398 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9431 : Index := Scalar.indexCast v6486
  let c2_4416 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9432 : Index := Scalar.indexCast v6485
  let c18_4417 : Index := 18#32
  let c0_4418 : Index := 0#32
  let c0_4419 : Index := 0#32
  ![v9431.toNat, 2, v9432.toNat, 18, 0, 0]
def k0_off399 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9436 : Index := Scalar.indexCast v6486
  let c2_4420 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9437 : Index := Scalar.indexCast v6485
  let c19_4421 : Index := 19#32
  let c0_4422 : Index := 0#32
  let c0_4423 : Index := 0#32
  ![v9436.toNat, 2, v9437.toNat, 19, 0, 0]
def k0_off400 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9441 : Index := Scalar.indexCast v6486
  let c2_4424 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9442 : Index := Scalar.indexCast v6485
  let c20_4425 : Index := 20#32
  let c0_4426 : Index := 0#32
  let c0_4427 : Index := 0#32
  ![v9441.toNat, 2, v9442.toNat, 20, 0, 0]
def k0_off401 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9446 : Index := Scalar.indexCast v6486
  let c2_4428 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9447 : Index := Scalar.indexCast v6485
  let c21_4429 : Index := 21#32
  let c0_4430 : Index := 0#32
  let c0_4431 : Index := 0#32
  ![v9446.toNat, 2, v9447.toNat, 21, 0, 0]
def k0_off402 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9451 : Index := Scalar.indexCast v6486
  let c2_4432 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9452 : Index := Scalar.indexCast v6485
  let c22_4433 : Index := 22#32
  let c0_4434 : Index := 0#32
  let c0_4435 : Index := 0#32
  ![v9451.toNat, 2, v9452.toNat, 22, 0, 0]
def k0_off403 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9456 : Index := Scalar.indexCast v6486
  let c2_4436 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9457 : Index := Scalar.indexCast v6485
  let c23_4437 : Index := 23#32
  let c0_4438 : Index := 0#32
  let c0_4439 : Index := 0#32
  ![v9456.toNat, 2, v9457.toNat, 23, 0, 0]
def k0_off404 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9461 : Index := Scalar.indexCast v6486
  let c2_4440 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9462 : Index := Scalar.indexCast v6485
  let c24_4441 : Index := 24#32
  let c0_4442 : Index := 0#32
  let c0_4443 : Index := 0#32
  ![v9461.toNat, 2, v9462.toNat, 24, 0, 0]
def k0_off405 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9466 : Index := Scalar.indexCast v6486
  let c2_4444 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9467 : Index := Scalar.indexCast v6485
  let c25_4445 : Index := 25#32
  let c0_4446 : Index := 0#32
  let c0_4447 : Index := 0#32
  ![v9466.toNat, 2, v9467.toNat, 25, 0, 0]
def k0_off406 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9471 : Index := Scalar.indexCast v6486
  let c2_4448 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9472 : Index := Scalar.indexCast v6485
  let c26_4449 : Index := 26#32
  let c0_4450 : Index := 0#32
  let c0_4451 : Index := 0#32
  ![v9471.toNat, 2, v9472.toNat, 26, 0, 0]
def k0_off407 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9476 : Index := Scalar.indexCast v6486
  let c2_4452 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9477 : Index := Scalar.indexCast v6485
  let c27_4453 : Index := 27#32
  let c0_4454 : Index := 0#32
  let c0_4455 : Index := 0#32
  ![v9476.toNat, 2, v9477.toNat, 27, 0, 0]
def k0_off408 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9481 : Index := Scalar.indexCast v6486
  let c2_4456 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9482 : Index := Scalar.indexCast v6485
  let c28_4457 : Index := 28#32
  let c0_4458 : Index := 0#32
  let c0_4459 : Index := 0#32
  ![v9481.toNat, 2, v9482.toNat, 28, 0, 0]
def k0_off409 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9486 : Index := Scalar.indexCast v6486
  let c2_4460 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9487 : Index := Scalar.indexCast v6485
  let c29_4461 : Index := 29#32
  let c0_4462 : Index := 0#32
  let c0_4463 : Index := 0#32
  ![v9486.toNat, 2, v9487.toNat, 29, 0, 0]
def k0_off410 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9491 : Index := Scalar.indexCast v6486
  let c2_4464 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9492 : Index := Scalar.indexCast v6485
  let c30_4465 : Index := 30#32
  let c0_4466 : Index := 0#32
  let c0_4467 : Index := 0#32
  ![v9491.toNat, 2, v9492.toNat, 30, 0, 0]
def k0_off411 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v9496 : Index := Scalar.indexCast v6486
  let c2_4468 : Index := 2#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v9497 : Index := Scalar.indexCast v6485
  let c31_4469 : Index := 31#32
  let c0_4470 : Index := 0#32
  let c0_4471 : Index := 0#32
  ![v9496.toNat, 2, v9497.toNat, 31, 0, 0]
def k0_off412 (i : grid0.Coords) (k0_t14 : Fin (k0_t14_loop i).trips) (c0_i32_3155 : BitVec 32) : Fin 3 → Nat :=
  let c3_4472 : Index := 3#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let c256_i32_3157 : BitVec 32 := 256#32
  let v6487 : BitVec 32 := Scalar.muli v6485 c256_i32_3157
  let v6488 : BitVec 32 := v6487
  let v9501 : Index := Scalar.indexCast v6488
  let c0_4473 : Index := 0#32
  ![3, v9501.toNat, 0]
def k0_off413 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10345 : Index := Scalar.indexCast v6486
  let c3_4782 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10346 : Index := Scalar.indexCast v6485
  let c0_4783 : Index := 0#32
  let c0_4784 : Index := 0#32
  let c0_4785 : Index := 0#32
  ![v10345.toNat, 3, v10346.toNat, 0, 0, 0]
def k0_off414 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10350 : Index := Scalar.indexCast v6486
  let c3_4786 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10351 : Index := Scalar.indexCast v6485
  let c1_4787 : Index := 1#32
  let c0_4788 : Index := 0#32
  let c0_4789 : Index := 0#32
  ![v10350.toNat, 3, v10351.toNat, 1, 0, 0]
def k0_off415 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10355 : Index := Scalar.indexCast v6486
  let c3_4790 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10356 : Index := Scalar.indexCast v6485
  let c2_4791 : Index := 2#32
  let c0_4792 : Index := 0#32
  let c0_4793 : Index := 0#32
  ![v10355.toNat, 3, v10356.toNat, 2, 0, 0]
def k0_off416 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10360 : Index := Scalar.indexCast v6486
  let c3_4794 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10361 : Index := Scalar.indexCast v6485
  let c3_4795 : Index := 3#32
  let c0_4796 : Index := 0#32
  let c0_4797 : Index := 0#32
  ![v10360.toNat, 3, v10361.toNat, 3, 0, 0]
def k0_off417 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10365 : Index := Scalar.indexCast v6486
  let c3_4798 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10366 : Index := Scalar.indexCast v6485
  let c4_4799 : Index := 4#32
  let c0_4800 : Index := 0#32
  let c0_4801 : Index := 0#32
  ![v10365.toNat, 3, v10366.toNat, 4, 0, 0]
def k0_off418 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10370 : Index := Scalar.indexCast v6486
  let c3_4802 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10371 : Index := Scalar.indexCast v6485
  let c5_4803 : Index := 5#32
  let c0_4804 : Index := 0#32
  let c0_4805 : Index := 0#32
  ![v10370.toNat, 3, v10371.toNat, 5, 0, 0]
def k0_off419 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10375 : Index := Scalar.indexCast v6486
  let c3_4806 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10376 : Index := Scalar.indexCast v6485
  let c6_4807 : Index := 6#32
  let c0_4808 : Index := 0#32
  let c0_4809 : Index := 0#32
  ![v10375.toNat, 3, v10376.toNat, 6, 0, 0]
def k0_off420 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10380 : Index := Scalar.indexCast v6486
  let c3_4810 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10381 : Index := Scalar.indexCast v6485
  let c7_4811 : Index := 7#32
  let c0_4812 : Index := 0#32
  let c0_4813 : Index := 0#32
  ![v10380.toNat, 3, v10381.toNat, 7, 0, 0]
def k0_off421 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10385 : Index := Scalar.indexCast v6486
  let c3_4814 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10386 : Index := Scalar.indexCast v6485
  let c8_4815 : Index := 8#32
  let c0_4816 : Index := 0#32
  let c0_4817 : Index := 0#32
  ![v10385.toNat, 3, v10386.toNat, 8, 0, 0]
def k0_off422 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10390 : Index := Scalar.indexCast v6486
  let c3_4818 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10391 : Index := Scalar.indexCast v6485
  let c9_4819 : Index := 9#32
  let c0_4820 : Index := 0#32
  let c0_4821 : Index := 0#32
  ![v10390.toNat, 3, v10391.toNat, 9, 0, 0]
def k0_off423 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10395 : Index := Scalar.indexCast v6486
  let c3_4822 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10396 : Index := Scalar.indexCast v6485
  let c10_4823 : Index := 10#32
  let c0_4824 : Index := 0#32
  let c0_4825 : Index := 0#32
  ![v10395.toNat, 3, v10396.toNat, 10, 0, 0]
def k0_off424 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10400 : Index := Scalar.indexCast v6486
  let c3_4826 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10401 : Index := Scalar.indexCast v6485
  let c11_4827 : Index := 11#32
  let c0_4828 : Index := 0#32
  let c0_4829 : Index := 0#32
  ![v10400.toNat, 3, v10401.toNat, 11, 0, 0]
def k0_off425 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10405 : Index := Scalar.indexCast v6486
  let c3_4830 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10406 : Index := Scalar.indexCast v6485
  let c12_4831 : Index := 12#32
  let c0_4832 : Index := 0#32
  let c0_4833 : Index := 0#32
  ![v10405.toNat, 3, v10406.toNat, 12, 0, 0]
def k0_off426 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10410 : Index := Scalar.indexCast v6486
  let c3_4834 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10411 : Index := Scalar.indexCast v6485
  let c13_4835 : Index := 13#32
  let c0_4836 : Index := 0#32
  let c0_4837 : Index := 0#32
  ![v10410.toNat, 3, v10411.toNat, 13, 0, 0]
def k0_off427 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10415 : Index := Scalar.indexCast v6486
  let c3_4838 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10416 : Index := Scalar.indexCast v6485
  let c14_4839 : Index := 14#32
  let c0_4840 : Index := 0#32
  let c0_4841 : Index := 0#32
  ![v10415.toNat, 3, v10416.toNat, 14, 0, 0]
def k0_off428 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10420 : Index := Scalar.indexCast v6486
  let c3_4842 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10421 : Index := Scalar.indexCast v6485
  let c15_4843 : Index := 15#32
  let c0_4844 : Index := 0#32
  let c0_4845 : Index := 0#32
  ![v10420.toNat, 3, v10421.toNat, 15, 0, 0]
def k0_off429 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10425 : Index := Scalar.indexCast v6486
  let c3_4846 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10426 : Index := Scalar.indexCast v6485
  let c16_4847 : Index := 16#32
  let c0_4848 : Index := 0#32
  let c0_4849 : Index := 0#32
  ![v10425.toNat, 3, v10426.toNat, 16, 0, 0]
def k0_off430 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10430 : Index := Scalar.indexCast v6486
  let c3_4850 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10431 : Index := Scalar.indexCast v6485
  let c17_4851 : Index := 17#32
  let c0_4852 : Index := 0#32
  let c0_4853 : Index := 0#32
  ![v10430.toNat, 3, v10431.toNat, 17, 0, 0]
def k0_off431 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10435 : Index := Scalar.indexCast v6486
  let c3_4854 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10436 : Index := Scalar.indexCast v6485
  let c18_4855 : Index := 18#32
  let c0_4856 : Index := 0#32
  let c0_4857 : Index := 0#32
  ![v10435.toNat, 3, v10436.toNat, 18, 0, 0]
def k0_off432 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10440 : Index := Scalar.indexCast v6486
  let c3_4858 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10441 : Index := Scalar.indexCast v6485
  let c19_4859 : Index := 19#32
  let c0_4860 : Index := 0#32
  let c0_4861 : Index := 0#32
  ![v10440.toNat, 3, v10441.toNat, 19, 0, 0]
def k0_off433 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10445 : Index := Scalar.indexCast v6486
  let c3_4862 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10446 : Index := Scalar.indexCast v6485
  let c20_4863 : Index := 20#32
  let c0_4864 : Index := 0#32
  let c0_4865 : Index := 0#32
  ![v10445.toNat, 3, v10446.toNat, 20, 0, 0]
def k0_off434 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10450 : Index := Scalar.indexCast v6486
  let c3_4866 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10451 : Index := Scalar.indexCast v6485
  let c21_4867 : Index := 21#32
  let c0_4868 : Index := 0#32
  let c0_4869 : Index := 0#32
  ![v10450.toNat, 3, v10451.toNat, 21, 0, 0]
def k0_off435 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10455 : Index := Scalar.indexCast v6486
  let c3_4870 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10456 : Index := Scalar.indexCast v6485
  let c22_4871 : Index := 22#32
  let c0_4872 : Index := 0#32
  let c0_4873 : Index := 0#32
  ![v10455.toNat, 3, v10456.toNat, 22, 0, 0]
def k0_off436 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10460 : Index := Scalar.indexCast v6486
  let c3_4874 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10461 : Index := Scalar.indexCast v6485
  let c23_4875 : Index := 23#32
  let c0_4876 : Index := 0#32
  let c0_4877 : Index := 0#32
  ![v10460.toNat, 3, v10461.toNat, 23, 0, 0]
def k0_off437 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10465 : Index := Scalar.indexCast v6486
  let c3_4878 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10466 : Index := Scalar.indexCast v6485
  let c24_4879 : Index := 24#32
  let c0_4880 : Index := 0#32
  let c0_4881 : Index := 0#32
  ![v10465.toNat, 3, v10466.toNat, 24, 0, 0]
def k0_off438 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10470 : Index := Scalar.indexCast v6486
  let c3_4882 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10471 : Index := Scalar.indexCast v6485
  let c25_4883 : Index := 25#32
  let c0_4884 : Index := 0#32
  let c0_4885 : Index := 0#32
  ![v10470.toNat, 3, v10471.toNat, 25, 0, 0]
def k0_off439 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10475 : Index := Scalar.indexCast v6486
  let c3_4886 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10476 : Index := Scalar.indexCast v6485
  let c26_4887 : Index := 26#32
  let c0_4888 : Index := 0#32
  let c0_4889 : Index := 0#32
  ![v10475.toNat, 3, v10476.toNat, 26, 0, 0]
def k0_off440 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10480 : Index := Scalar.indexCast v6486
  let c3_4890 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10481 : Index := Scalar.indexCast v6485
  let c27_4891 : Index := 27#32
  let c0_4892 : Index := 0#32
  let c0_4893 : Index := 0#32
  ![v10480.toNat, 3, v10481.toNat, 27, 0, 0]
def k0_off441 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10485 : Index := Scalar.indexCast v6486
  let c3_4894 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10486 : Index := Scalar.indexCast v6485
  let c28_4895 : Index := 28#32
  let c0_4896 : Index := 0#32
  let c0_4897 : Index := 0#32
  ![v10485.toNat, 3, v10486.toNat, 28, 0, 0]
def k0_off442 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10490 : Index := Scalar.indexCast v6486
  let c3_4898 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10491 : Index := Scalar.indexCast v6485
  let c29_4899 : Index := 29#32
  let c0_4900 : Index := 0#32
  let c0_4901 : Index := 0#32
  ![v10490.toNat, 3, v10491.toNat, 29, 0, 0]
def k0_off443 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10495 : Index := Scalar.indexCast v6486
  let c3_4902 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10496 : Index := Scalar.indexCast v6485
  let c30_4903 : Index := 30#32
  let c0_4904 : Index := 0#32
  let c0_4905 : Index := 0#32
  ![v10495.toNat, 3, v10496.toNat, 30, 0, 0]
def k0_off444 (i : grid0.Coords) (k0_t14 : Fin (k0_t14_loop i).trips) (c0_i32_3155 : BitVec 32) : Fin 6 → Nat :=
  let c1_i32_3156 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v6486 : BitVec 32 := Scalar.subi c1_i32_3156 v10
  let v10500 : Index := Scalar.indexCast v6486
  let c3_4906 : Index := 3#32
  let c0_i32_226 : BitVec 32 := 0#32
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_3154 : BitVec 32 := 2#32
  let v6484 : BitVec 32 := Scalar.muli arg19 c2_i32_3154
  let v6485 : BitVec 32 := Scalar.addi v6484 c0_i32_3155
  let v10501 : Index := Scalar.indexCast v6485
  let c31_4907 : Index := 31#32
  let c0_4908 : Index := 0#32
  let c0_4909 : Index := 0#32
  ![v10500.toNat, 3, v10501.toNat, 31, 0, 0]
def k0_mult6 (i : grid0.Coords) (k0_t14 : Fin (k0_t14_loop i).trips) : BitVec 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t14
  let c2_i32_4910 : BitVec 32 := 2#32
  let v10505 : BitVec 32 := Scalar.muli arg19 c2_i32_4910
  let c1_i32_4911 : BitVec 32 := 1#32
  let v10506 : BitVec 32 := Scalar.addi v10505 c1_i32_4911
  let c256_i32_4913 : BitVec 32 := 256#32
  let v10508 : BitVec 32 := Scalar.muli v10506 c256_i32_4913
  v10508
def k0_cond11 (i : grid0.Coords) : BitVec 1 :=
  let arg1 : BitVec 32 := BitVec.ofNat 32 (i 1).val
  let c1_i32 : BitVec 32 := 1#32
  let v0 : BitVec 32 := Scalar.addi arg1 c1_i32
  let c2_i32_231 : BitVec 32 := 2#32
  let c0_i32_232 : BitVec 32 := 0#32
  let v329 : BitVec 1 := Scalar.cmpi .eq c2_i32_231 c0_i32_232
  let c1_i32_233 : BitVec 32 := 1#32
  let v330 : BitVec 32 := Scalar.select v329 c1_i32_233 c2_i32_231
  let v331 : BitVec 32 := Scalar.remsi v0 v330
  let c0_i32_235 : BitVec 32 := 0#32
  let v333 : BitVec 1 := Scalar.cmpi .slt v331 c0_i32_235
  let c0_i32_236 : BitVec 32 := 0#32
  let v334 : BitVec 1 := Scalar.cmpi .slt v330 c0_i32_236
  let v335 : BitVec 1 := Scalar.xori v333 v334
  let c0_i32_234 : BitVec 32 := 0#32
  let v332 : BitVec 1 := Scalar.cmpi .ne v331 c0_i32_234
  let v336 : BitVec 1 := Scalar.andi v335 v332
  let v337 : BitVec 32 := Scalar.addi v331 v330
  let v338 : BitVec 32 := Scalar.select v336 v337 v331
  let c1_i32_237 : BitVec 32 := 1#32
  let v339 : BitVec 1 := Scalar.cmpi .sge v338 c1_i32_237
  let v340 : BitVec 32 := Scalar.extui v339
  let c0_i32_238 : BitVec 32 := 0#32
  let v341 : BitVec 1 := Scalar.cmpi .ne v340 c0_i32_238
  v341

def k0_mult7 (i : grid0.Coords) : BitVec 32 :=
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  v4387
def k0_off445 (i : grid0.Coords) : Fin 4 → Nat :=
  let c0_1976 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let c0_i32_1969 : BitVec 32 := 0#32
  let v4390 : BitVec 1 := Scalar.cmpi .sgt v4388 c0_i32_1969
  let v4391 : BitVec 32 := Scalar.extui v4390
  let c0_i32_1970 : BitVec 32 := 0#32
  let v4392 : BitVec 1 := Scalar.cmpi .slt v4388 c0_i32_1970
  let v4393 : BitVec 32 := Scalar.extui v4392
  let v4394 : BitVec 32 := Scalar.subi v4391 v4393
  let c256_i32_1968 : BitVec 32 := 256#32
  let c0_i32_1971 : BitVec 32 := 0#32
  let v4395 : BitVec 1 := Scalar.cmpi .sgt c256_i32_1968 c0_i32_1971
  let v4396 : BitVec 32 := Scalar.extui v4395
  let c0_i32_1972 : BitVec 32 := 0#32
  let v4397 : BitVec 1 := Scalar.cmpi .slt c256_i32_1968 c0_i32_1972
  let v4398 : BitVec 32 := Scalar.extui v4397
  let v4399 : BitVec 32 := Scalar.subi v4396 v4398
  let v4400 : BitVec 1 := Scalar.cmpi .ne v4394 v4399
  let v4401 : BitVec 32 := Scalar.remsi v4388 c256_i32_1968
  let c0_i32_1973 : BitVec 32 := 0#32
  let v4402 : BitVec 1 := Scalar.cmpi .ne v4401 c0_i32_1973
  let v4403 : BitVec 1 := Scalar.andi v4400 v4402
  let v4389 : BitVec 32 := Scalar.divsi v4388 c256_i32_1968
  let c1_i32_1974 : BitVec 32 := 1#32
  let v4404 : BitVec 32 := Scalar.subi v4389 c1_i32_1974
  let v4405 : BitVec 32 := Scalar.select v4403 v4404 v4389
  let c0_i32_1975 : BitVec 32 := 0#32
  let v4406 : BitVec 32 := Scalar.addi v4405 c0_i32_1975
  let v4407 : Index := Scalar.indexCast v4406
  let c0_1977 : Index := 0#32
  let c0_1978 : Index := 0#32
  ![0, v4407.toNat, 0, 0]
def k0_off446 (i : grid0.Coords) : Fin 3 → Nat :=
  let c0_2086 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v4635 : Index := Scalar.indexCast v4388
  let c0_2087 : Index := 0#32
  ![0, v4635.toNat, 0]
def k0_off447 (i : grid0.Coords) : Fin 4 → Nat :=
  let c1_2105 : Index := 1#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let c0_i32_2098 : BitVec 32 := 0#32
  let v4649 : BitVec 1 := Scalar.cmpi .sgt v4388 c0_i32_2098
  let v4650 : BitVec 32 := Scalar.extui v4649
  let c0_i32_2099 : BitVec 32 := 0#32
  let v4651 : BitVec 1 := Scalar.cmpi .slt v4388 c0_i32_2099
  let v4652 : BitVec 32 := Scalar.extui v4651
  let v4653 : BitVec 32 := Scalar.subi v4650 v4652
  let c256_i32_2097 : BitVec 32 := 256#32
  let c0_i32_2100 : BitVec 32 := 0#32
  let v4654 : BitVec 1 := Scalar.cmpi .sgt c256_i32_2097 c0_i32_2100
  let v4655 : BitVec 32 := Scalar.extui v4654
  let c0_i32_2101 : BitVec 32 := 0#32
  let v4656 : BitVec 1 := Scalar.cmpi .slt c256_i32_2097 c0_i32_2101
  let v4657 : BitVec 32 := Scalar.extui v4656
  let v4658 : BitVec 32 := Scalar.subi v4655 v4657
  let v4659 : BitVec 1 := Scalar.cmpi .ne v4653 v4658
  let v4660 : BitVec 32 := Scalar.remsi v4388 c256_i32_2097
  let c0_i32_2102 : BitVec 32 := 0#32
  let v4661 : BitVec 1 := Scalar.cmpi .ne v4660 c0_i32_2102
  let v4662 : BitVec 1 := Scalar.andi v4659 v4661
  let v4648 : BitVec 32 := Scalar.divsi v4388 c256_i32_2097
  let c1_i32_2103 : BitVec 32 := 1#32
  let v4663 : BitVec 32 := Scalar.subi v4648 c1_i32_2103
  let v4664 : BitVec 32 := Scalar.select v4662 v4663 v4648
  let c0_i32_2104 : BitVec 32 := 0#32
  let v4665 : BitVec 32 := Scalar.addi v4664 c0_i32_2104
  let v4666 : Index := Scalar.indexCast v4665
  let c0_2106 : Index := 0#32
  let c0_2107 : Index := 0#32
  ![1, v4666.toNat, 0, 0]
def k0_off448 (i : grid0.Coords) : Fin 3 → Nat :=
  let c1_2236 : Index := 1#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v4894 : Index := Scalar.indexCast v4388
  let c0_2237 : Index := 0#32
  ![1, v4894.toNat, 0]
def k0_off449 (i : grid0.Coords) : Fin 3 → Nat :=
  let c0_2253 : Index := 0#32
  let c0_2254 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v4919 : Index := Scalar.indexCast v4388
  ![0, 0, v4919.toNat]
def k0_off450 (i : grid0.Coords) : Fin 3 → Nat :=
  let c1_2268 : Index := 1#32
  let c0_2269 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v4942 : Index := Scalar.indexCast v4388
  ![1, 0, v4942.toNat]
def k0_off451 (i : grid0.Coords) : Fin 4 → Nat :=
  let c2_2285 : Index := 2#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let c0_i32_2278 : BitVec 32 := 0#32
  let v4954 : BitVec 1 := Scalar.cmpi .sgt v4388 c0_i32_2278
  let v4955 : BitVec 32 := Scalar.extui v4954
  let c0_i32_2279 : BitVec 32 := 0#32
  let v4956 : BitVec 1 := Scalar.cmpi .slt v4388 c0_i32_2279
  let v4957 : BitVec 32 := Scalar.extui v4956
  let v4958 : BitVec 32 := Scalar.subi v4955 v4957
  let c256_i32_2277 : BitVec 32 := 256#32
  let c0_i32_2280 : BitVec 32 := 0#32
  let v4959 : BitVec 1 := Scalar.cmpi .sgt c256_i32_2277 c0_i32_2280
  let v4960 : BitVec 32 := Scalar.extui v4959
  let c0_i32_2281 : BitVec 32 := 0#32
  let v4961 : BitVec 1 := Scalar.cmpi .slt c256_i32_2277 c0_i32_2281
  let v4962 : BitVec 32 := Scalar.extui v4961
  let v4963 : BitVec 32 := Scalar.subi v4960 v4962
  let v4964 : BitVec 1 := Scalar.cmpi .ne v4958 v4963
  let v4965 : BitVec 32 := Scalar.remsi v4388 c256_i32_2277
  let c0_i32_2282 : BitVec 32 := 0#32
  let v4966 : BitVec 1 := Scalar.cmpi .ne v4965 c0_i32_2282
  let v4967 : BitVec 1 := Scalar.andi v4964 v4966
  let v4953 : BitVec 32 := Scalar.divsi v4388 c256_i32_2277
  let c1_i32_2283 : BitVec 32 := 1#32
  let v4968 : BitVec 32 := Scalar.subi v4953 c1_i32_2283
  let v4969 : BitVec 32 := Scalar.select v4967 v4968 v4953
  let c0_i32_2284 : BitVec 32 := 0#32
  let v4970 : BitVec 32 := Scalar.addi v4969 c0_i32_2284
  let v4971 : Index := Scalar.indexCast v4970
  let c0_2286 : Index := 0#32
  let c0_2287 : Index := 0#32
  ![2, v4971.toNat, 0, 0]
def k0_off452 (i : grid0.Coords) : Fin 3 → Nat :=
  let c2_2416 : Index := 2#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v5199 : Index := Scalar.indexCast v4388
  let c0_2417 : Index := 0#32
  ![2, v5199.toNat, 0]
def k0_off453 (i : grid0.Coords) : Fin 4 → Nat :=
  let c3_2435 : Index := 3#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let c0_i32_2428 : BitVec 32 := 0#32
  let v5213 : BitVec 1 := Scalar.cmpi .sgt v4388 c0_i32_2428
  let v5214 : BitVec 32 := Scalar.extui v5213
  let c0_i32_2429 : BitVec 32 := 0#32
  let v5215 : BitVec 1 := Scalar.cmpi .slt v4388 c0_i32_2429
  let v5216 : BitVec 32 := Scalar.extui v5215
  let v5217 : BitVec 32 := Scalar.subi v5214 v5216
  let c256_i32_2427 : BitVec 32 := 256#32
  let c0_i32_2430 : BitVec 32 := 0#32
  let v5218 : BitVec 1 := Scalar.cmpi .sgt c256_i32_2427 c0_i32_2430
  let v5219 : BitVec 32 := Scalar.extui v5218
  let c0_i32_2431 : BitVec 32 := 0#32
  let v5220 : BitVec 1 := Scalar.cmpi .slt c256_i32_2427 c0_i32_2431
  let v5221 : BitVec 32 := Scalar.extui v5220
  let v5222 : BitVec 32 := Scalar.subi v5219 v5221
  let v5223 : BitVec 1 := Scalar.cmpi .ne v5217 v5222
  let v5224 : BitVec 32 := Scalar.remsi v4388 c256_i32_2427
  let c0_i32_2432 : BitVec 32 := 0#32
  let v5225 : BitVec 1 := Scalar.cmpi .ne v5224 c0_i32_2432
  let v5226 : BitVec 1 := Scalar.andi v5223 v5225
  let v5212 : BitVec 32 := Scalar.divsi v4388 c256_i32_2427
  let c1_i32_2433 : BitVec 32 := 1#32
  let v5227 : BitVec 32 := Scalar.subi v5212 c1_i32_2433
  let v5228 : BitVec 32 := Scalar.select v5226 v5227 v5212
  let c0_i32_2434 : BitVec 32 := 0#32
  let v5229 : BitVec 32 := Scalar.addi v5228 c0_i32_2434
  let v5230 : Index := Scalar.indexCast v5229
  let c0_2436 : Index := 0#32
  let c0_2437 : Index := 0#32
  ![3, v5230.toNat, 0, 0]
def k0_off454 (i : grid0.Coords) : Fin 3 → Nat :=
  let c3_2566 : Index := 3#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v5458 : Index := Scalar.indexCast v4388
  let c0_2567 : Index := 0#32
  ![3, v5458.toNat, 0]
def k0_off455 (i : grid0.Coords) : Fin 3 → Nat :=
  let c2_2583 : Index := 2#32
  let c0_2584 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v5483 : Index := Scalar.indexCast v4388
  ![2, 0, v5483.toNat]
def k0_off456 (i : grid0.Coords) : Fin 3 → Nat :=
  let c3_2598 : Index := 3#32
  let c0_2599 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_1967 : BitVec 32 := 256#32
  let v4387 : BitVec 32 := Scalar.muli v4386 c256_i32_1967
  let v4388 : BitVec 32 := v4387
  let v5506 : Index := Scalar.indexCast v4388
  ![3, 0, v5506.toNat]
def k0_mult8 (i : grid0.Coords) : BitVec 32 :=
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_2608 : BitVec 32 := 256#32
  let v5518 : BitVec 32 := Scalar.muli v4386 c256_i32_2608
  v5518
def k0_off457 (i : grid0.Coords) : Fin 3 → Nat :=
  let c0_2609 : Index := 0#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_2608 : BitVec 32 := 256#32
  let v5518 : BitVec 32 := Scalar.muli v4386 c256_i32_2608
  let v5519 : BitVec 32 := v5518
  let v5520 : Index := Scalar.indexCast v5519
  let c0_2610 : Index := 0#32
  ![0, v5520.toNat, 0]
def k0_off458 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6364 : Index := Scalar.indexCast v5517
  let c0_2919 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6365 : Index := Scalar.indexCast v4386
  let c0_2920 : Index := 0#32
  let c0_2921 : Index := 0#32
  let c0_2922 : Index := 0#32
  ![v6364.toNat, 0, v6365.toNat, 0, 0, 0]
def k0_off459 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6369 : Index := Scalar.indexCast v5517
  let c0_2923 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6370 : Index := Scalar.indexCast v4386
  let c1_2924 : Index := 1#32
  let c0_2925 : Index := 0#32
  let c0_2926 : Index := 0#32
  ![v6369.toNat, 0, v6370.toNat, 1, 0, 0]
def k0_off460 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6374 : Index := Scalar.indexCast v5517
  let c0_2927 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6375 : Index := Scalar.indexCast v4386
  let c2_2928 : Index := 2#32
  let c0_2929 : Index := 0#32
  let c0_2930 : Index := 0#32
  ![v6374.toNat, 0, v6375.toNat, 2, 0, 0]
def k0_off461 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6379 : Index := Scalar.indexCast v5517
  let c0_2931 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6380 : Index := Scalar.indexCast v4386
  let c3_2932 : Index := 3#32
  let c0_2933 : Index := 0#32
  let c0_2934 : Index := 0#32
  ![v6379.toNat, 0, v6380.toNat, 3, 0, 0]
def k0_off462 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6384 : Index := Scalar.indexCast v5517
  let c0_2935 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6385 : Index := Scalar.indexCast v4386
  let c4_2936 : Index := 4#32
  let c0_2937 : Index := 0#32
  let c0_2938 : Index := 0#32
  ![v6384.toNat, 0, v6385.toNat, 4, 0, 0]
def k0_off463 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6389 : Index := Scalar.indexCast v5517
  let c0_2939 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6390 : Index := Scalar.indexCast v4386
  let c5_2940 : Index := 5#32
  let c0_2941 : Index := 0#32
  let c0_2942 : Index := 0#32
  ![v6389.toNat, 0, v6390.toNat, 5, 0, 0]
def k0_off464 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6394 : Index := Scalar.indexCast v5517
  let c0_2943 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6395 : Index := Scalar.indexCast v4386
  let c6_2944 : Index := 6#32
  let c0_2945 : Index := 0#32
  let c0_2946 : Index := 0#32
  ![v6394.toNat, 0, v6395.toNat, 6, 0, 0]
def k0_off465 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6399 : Index := Scalar.indexCast v5517
  let c0_2947 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6400 : Index := Scalar.indexCast v4386
  let c7_2948 : Index := 7#32
  let c0_2949 : Index := 0#32
  let c0_2950 : Index := 0#32
  ![v6399.toNat, 0, v6400.toNat, 7, 0, 0]
def k0_off466 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6404 : Index := Scalar.indexCast v5517
  let c0_2951 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6405 : Index := Scalar.indexCast v4386
  let c8_2952 : Index := 8#32
  let c0_2953 : Index := 0#32
  let c0_2954 : Index := 0#32
  ![v6404.toNat, 0, v6405.toNat, 8, 0, 0]
def k0_off467 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6409 : Index := Scalar.indexCast v5517
  let c0_2955 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6410 : Index := Scalar.indexCast v4386
  let c9_2956 : Index := 9#32
  let c0_2957 : Index := 0#32
  let c0_2958 : Index := 0#32
  ![v6409.toNat, 0, v6410.toNat, 9, 0, 0]
def k0_off468 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6414 : Index := Scalar.indexCast v5517
  let c0_2959 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6415 : Index := Scalar.indexCast v4386
  let c10_2960 : Index := 10#32
  let c0_2961 : Index := 0#32
  let c0_2962 : Index := 0#32
  ![v6414.toNat, 0, v6415.toNat, 10, 0, 0]
def k0_off469 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6419 : Index := Scalar.indexCast v5517
  let c0_2963 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6420 : Index := Scalar.indexCast v4386
  let c11_2964 : Index := 11#32
  let c0_2965 : Index := 0#32
  let c0_2966 : Index := 0#32
  ![v6419.toNat, 0, v6420.toNat, 11, 0, 0]
def k0_off470 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6424 : Index := Scalar.indexCast v5517
  let c0_2967 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6425 : Index := Scalar.indexCast v4386
  let c12_2968 : Index := 12#32
  let c0_2969 : Index := 0#32
  let c0_2970 : Index := 0#32
  ![v6424.toNat, 0, v6425.toNat, 12, 0, 0]
def k0_off471 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6429 : Index := Scalar.indexCast v5517
  let c0_2971 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6430 : Index := Scalar.indexCast v4386
  let c13_2972 : Index := 13#32
  let c0_2973 : Index := 0#32
  let c0_2974 : Index := 0#32
  ![v6429.toNat, 0, v6430.toNat, 13, 0, 0]
def k0_off472 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6434 : Index := Scalar.indexCast v5517
  let c0_2975 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6435 : Index := Scalar.indexCast v4386
  let c14_2976 : Index := 14#32
  let c0_2977 : Index := 0#32
  let c0_2978 : Index := 0#32
  ![v6434.toNat, 0, v6435.toNat, 14, 0, 0]
def k0_off473 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6439 : Index := Scalar.indexCast v5517
  let c0_2979 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6440 : Index := Scalar.indexCast v4386
  let c15_2980 : Index := 15#32
  let c0_2981 : Index := 0#32
  let c0_2982 : Index := 0#32
  ![v6439.toNat, 0, v6440.toNat, 15, 0, 0]
def k0_off474 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6444 : Index := Scalar.indexCast v5517
  let c0_2983 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6445 : Index := Scalar.indexCast v4386
  let c16_2984 : Index := 16#32
  let c0_2985 : Index := 0#32
  let c0_2986 : Index := 0#32
  ![v6444.toNat, 0, v6445.toNat, 16, 0, 0]
def k0_off475 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6449 : Index := Scalar.indexCast v5517
  let c0_2987 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6450 : Index := Scalar.indexCast v4386
  let c17_2988 : Index := 17#32
  let c0_2989 : Index := 0#32
  let c0_2990 : Index := 0#32
  ![v6449.toNat, 0, v6450.toNat, 17, 0, 0]
def k0_off476 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6454 : Index := Scalar.indexCast v5517
  let c0_2991 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6455 : Index := Scalar.indexCast v4386
  let c18_2992 : Index := 18#32
  let c0_2993 : Index := 0#32
  let c0_2994 : Index := 0#32
  ![v6454.toNat, 0, v6455.toNat, 18, 0, 0]
def k0_off477 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6459 : Index := Scalar.indexCast v5517
  let c0_2995 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6460 : Index := Scalar.indexCast v4386
  let c19_2996 : Index := 19#32
  let c0_2997 : Index := 0#32
  let c0_2998 : Index := 0#32
  ![v6459.toNat, 0, v6460.toNat, 19, 0, 0]
def k0_off478 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6464 : Index := Scalar.indexCast v5517
  let c0_2999 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6465 : Index := Scalar.indexCast v4386
  let c20_3000 : Index := 20#32
  let c0_3001 : Index := 0#32
  let c0_3002 : Index := 0#32
  ![v6464.toNat, 0, v6465.toNat, 20, 0, 0]
def k0_off479 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6469 : Index := Scalar.indexCast v5517
  let c0_3003 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6470 : Index := Scalar.indexCast v4386
  let c21_3004 : Index := 21#32
  let c0_3005 : Index := 0#32
  let c0_3006 : Index := 0#32
  ![v6469.toNat, 0, v6470.toNat, 21, 0, 0]
def k0_off480 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6474 : Index := Scalar.indexCast v5517
  let c0_3007 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6475 : Index := Scalar.indexCast v4386
  let c22_3008 : Index := 22#32
  let c0_3009 : Index := 0#32
  let c0_3010 : Index := 0#32
  ![v6474.toNat, 0, v6475.toNat, 22, 0, 0]
def k0_off481 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6479 : Index := Scalar.indexCast v5517
  let c0_3011 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6480 : Index := Scalar.indexCast v4386
  let c23_3012 : Index := 23#32
  let c0_3013 : Index := 0#32
  let c0_3014 : Index := 0#32
  ![v6479.toNat, 0, v6480.toNat, 23, 0, 0]
def k0_off482 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6484 : Index := Scalar.indexCast v5517
  let c0_3015 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6485 : Index := Scalar.indexCast v4386
  let c24_3016 : Index := 24#32
  let c0_3017 : Index := 0#32
  let c0_3018 : Index := 0#32
  ![v6484.toNat, 0, v6485.toNat, 24, 0, 0]
def k0_off483 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6489 : Index := Scalar.indexCast v5517
  let c0_3019 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6490 : Index := Scalar.indexCast v4386
  let c25_3020 : Index := 25#32
  let c0_3021 : Index := 0#32
  let c0_3022 : Index := 0#32
  ![v6489.toNat, 0, v6490.toNat, 25, 0, 0]
def k0_off484 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6494 : Index := Scalar.indexCast v5517
  let c0_3023 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6495 : Index := Scalar.indexCast v4386
  let c26_3024 : Index := 26#32
  let c0_3025 : Index := 0#32
  let c0_3026 : Index := 0#32
  ![v6494.toNat, 0, v6495.toNat, 26, 0, 0]
def k0_off485 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6499 : Index := Scalar.indexCast v5517
  let c0_3027 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6500 : Index := Scalar.indexCast v4386
  let c27_3028 : Index := 27#32
  let c0_3029 : Index := 0#32
  let c0_3030 : Index := 0#32
  ![v6499.toNat, 0, v6500.toNat, 27, 0, 0]
def k0_off486 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6504 : Index := Scalar.indexCast v5517
  let c0_3031 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6505 : Index := Scalar.indexCast v4386
  let c28_3032 : Index := 28#32
  let c0_3033 : Index := 0#32
  let c0_3034 : Index := 0#32
  ![v6504.toNat, 0, v6505.toNat, 28, 0, 0]
def k0_off487 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6509 : Index := Scalar.indexCast v5517
  let c0_3035 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6510 : Index := Scalar.indexCast v4386
  let c29_3036 : Index := 29#32
  let c0_3037 : Index := 0#32
  let c0_3038 : Index := 0#32
  ![v6509.toNat, 0, v6510.toNat, 29, 0, 0]
def k0_off488 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6514 : Index := Scalar.indexCast v5517
  let c0_3039 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6515 : Index := Scalar.indexCast v4386
  let c30_3040 : Index := 30#32
  let c0_3041 : Index := 0#32
  let c0_3042 : Index := 0#32
  ![v6514.toNat, 0, v6515.toNat, 30, 0, 0]
def k0_off489 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v6519 : Index := Scalar.indexCast v5517
  let c0_3043 : Index := 0#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v6520 : Index := Scalar.indexCast v4386
  let c31_3044 : Index := 31#32
  let c0_3045 : Index := 0#32
  let c0_3046 : Index := 0#32
  ![v6519.toNat, 0, v6520.toNat, 31, 0, 0]
def k0_off490 (i : grid0.Coords) : Fin 3 → Nat :=
  let c1_3047 : Index := 1#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_2608 : BitVec 32 := 256#32
  let v5518 : BitVec 32 := Scalar.muli v4386 c256_i32_2608
  let v5519 : BitVec 32 := v5518
  let v6524 : Index := Scalar.indexCast v5519
  let c0_3048 : Index := 0#32
  ![1, v6524.toNat, 0]
def k0_off491 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7368 : Index := Scalar.indexCast v5517
  let c1_3357 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7369 : Index := Scalar.indexCast v4386
  let c0_3358 : Index := 0#32
  let c0_3359 : Index := 0#32
  let c0_3360 : Index := 0#32
  ![v7368.toNat, 1, v7369.toNat, 0, 0, 0]
def k0_off492 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7373 : Index := Scalar.indexCast v5517
  let c1_3361 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7374 : Index := Scalar.indexCast v4386
  let c1_3362 : Index := 1#32
  let c0_3363 : Index := 0#32
  let c0_3364 : Index := 0#32
  ![v7373.toNat, 1, v7374.toNat, 1, 0, 0]
def k0_off493 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7378 : Index := Scalar.indexCast v5517
  let c1_3365 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7379 : Index := Scalar.indexCast v4386
  let c2_3366 : Index := 2#32
  let c0_3367 : Index := 0#32
  let c0_3368 : Index := 0#32
  ![v7378.toNat, 1, v7379.toNat, 2, 0, 0]
def k0_off494 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7383 : Index := Scalar.indexCast v5517
  let c1_3369 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7384 : Index := Scalar.indexCast v4386
  let c3_3370 : Index := 3#32
  let c0_3371 : Index := 0#32
  let c0_3372 : Index := 0#32
  ![v7383.toNat, 1, v7384.toNat, 3, 0, 0]
def k0_off495 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7388 : Index := Scalar.indexCast v5517
  let c1_3373 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7389 : Index := Scalar.indexCast v4386
  let c4_3374 : Index := 4#32
  let c0_3375 : Index := 0#32
  let c0_3376 : Index := 0#32
  ![v7388.toNat, 1, v7389.toNat, 4, 0, 0]
def k0_off496 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7393 : Index := Scalar.indexCast v5517
  let c1_3377 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7394 : Index := Scalar.indexCast v4386
  let c5_3378 : Index := 5#32
  let c0_3379 : Index := 0#32
  let c0_3380 : Index := 0#32
  ![v7393.toNat, 1, v7394.toNat, 5, 0, 0]
def k0_off497 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7398 : Index := Scalar.indexCast v5517
  let c1_3381 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7399 : Index := Scalar.indexCast v4386
  let c6_3382 : Index := 6#32
  let c0_3383 : Index := 0#32
  let c0_3384 : Index := 0#32
  ![v7398.toNat, 1, v7399.toNat, 6, 0, 0]
def k0_off498 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7403 : Index := Scalar.indexCast v5517
  let c1_3385 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7404 : Index := Scalar.indexCast v4386
  let c7_3386 : Index := 7#32
  let c0_3387 : Index := 0#32
  let c0_3388 : Index := 0#32
  ![v7403.toNat, 1, v7404.toNat, 7, 0, 0]
def k0_off499 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7408 : Index := Scalar.indexCast v5517
  let c1_3389 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7409 : Index := Scalar.indexCast v4386
  let c8_3390 : Index := 8#32
  let c0_3391 : Index := 0#32
  let c0_3392 : Index := 0#32
  ![v7408.toNat, 1, v7409.toNat, 8, 0, 0]
def k0_off500 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7413 : Index := Scalar.indexCast v5517
  let c1_3393 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7414 : Index := Scalar.indexCast v4386
  let c9_3394 : Index := 9#32
  let c0_3395 : Index := 0#32
  let c0_3396 : Index := 0#32
  ![v7413.toNat, 1, v7414.toNat, 9, 0, 0]
def k0_off501 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7418 : Index := Scalar.indexCast v5517
  let c1_3397 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7419 : Index := Scalar.indexCast v4386
  let c10_3398 : Index := 10#32
  let c0_3399 : Index := 0#32
  let c0_3400 : Index := 0#32
  ![v7418.toNat, 1, v7419.toNat, 10, 0, 0]
def k0_off502 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7423 : Index := Scalar.indexCast v5517
  let c1_3401 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7424 : Index := Scalar.indexCast v4386
  let c11_3402 : Index := 11#32
  let c0_3403 : Index := 0#32
  let c0_3404 : Index := 0#32
  ![v7423.toNat, 1, v7424.toNat, 11, 0, 0]
def k0_off503 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7428 : Index := Scalar.indexCast v5517
  let c1_3405 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7429 : Index := Scalar.indexCast v4386
  let c12_3406 : Index := 12#32
  let c0_3407 : Index := 0#32
  let c0_3408 : Index := 0#32
  ![v7428.toNat, 1, v7429.toNat, 12, 0, 0]
def k0_off504 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7433 : Index := Scalar.indexCast v5517
  let c1_3409 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7434 : Index := Scalar.indexCast v4386
  let c13_3410 : Index := 13#32
  let c0_3411 : Index := 0#32
  let c0_3412 : Index := 0#32
  ![v7433.toNat, 1, v7434.toNat, 13, 0, 0]
def k0_off505 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7438 : Index := Scalar.indexCast v5517
  let c1_3413 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7439 : Index := Scalar.indexCast v4386
  let c14_3414 : Index := 14#32
  let c0_3415 : Index := 0#32
  let c0_3416 : Index := 0#32
  ![v7438.toNat, 1, v7439.toNat, 14, 0, 0]
def k0_off506 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7443 : Index := Scalar.indexCast v5517
  let c1_3417 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7444 : Index := Scalar.indexCast v4386
  let c15_3418 : Index := 15#32
  let c0_3419 : Index := 0#32
  let c0_3420 : Index := 0#32
  ![v7443.toNat, 1, v7444.toNat, 15, 0, 0]
def k0_off507 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7448 : Index := Scalar.indexCast v5517
  let c1_3421 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7449 : Index := Scalar.indexCast v4386
  let c16_3422 : Index := 16#32
  let c0_3423 : Index := 0#32
  let c0_3424 : Index := 0#32
  ![v7448.toNat, 1, v7449.toNat, 16, 0, 0]
def k0_off508 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7453 : Index := Scalar.indexCast v5517
  let c1_3425 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7454 : Index := Scalar.indexCast v4386
  let c17_3426 : Index := 17#32
  let c0_3427 : Index := 0#32
  let c0_3428 : Index := 0#32
  ![v7453.toNat, 1, v7454.toNat, 17, 0, 0]
def k0_off509 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7458 : Index := Scalar.indexCast v5517
  let c1_3429 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7459 : Index := Scalar.indexCast v4386
  let c18_3430 : Index := 18#32
  let c0_3431 : Index := 0#32
  let c0_3432 : Index := 0#32
  ![v7458.toNat, 1, v7459.toNat, 18, 0, 0]
def k0_off510 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7463 : Index := Scalar.indexCast v5517
  let c1_3433 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7464 : Index := Scalar.indexCast v4386
  let c19_3434 : Index := 19#32
  let c0_3435 : Index := 0#32
  let c0_3436 : Index := 0#32
  ![v7463.toNat, 1, v7464.toNat, 19, 0, 0]
def k0_off511 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7468 : Index := Scalar.indexCast v5517
  let c1_3437 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7469 : Index := Scalar.indexCast v4386
  let c20_3438 : Index := 20#32
  let c0_3439 : Index := 0#32
  let c0_3440 : Index := 0#32
  ![v7468.toNat, 1, v7469.toNat, 20, 0, 0]
def k0_off512 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7473 : Index := Scalar.indexCast v5517
  let c1_3441 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7474 : Index := Scalar.indexCast v4386
  let c21_3442 : Index := 21#32
  let c0_3443 : Index := 0#32
  let c0_3444 : Index := 0#32
  ![v7473.toNat, 1, v7474.toNat, 21, 0, 0]
def k0_off513 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7478 : Index := Scalar.indexCast v5517
  let c1_3445 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7479 : Index := Scalar.indexCast v4386
  let c22_3446 : Index := 22#32
  let c0_3447 : Index := 0#32
  let c0_3448 : Index := 0#32
  ![v7478.toNat, 1, v7479.toNat, 22, 0, 0]
def k0_off514 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7483 : Index := Scalar.indexCast v5517
  let c1_3449 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7484 : Index := Scalar.indexCast v4386
  let c23_3450 : Index := 23#32
  let c0_3451 : Index := 0#32
  let c0_3452 : Index := 0#32
  ![v7483.toNat, 1, v7484.toNat, 23, 0, 0]
def k0_off515 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7488 : Index := Scalar.indexCast v5517
  let c1_3453 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7489 : Index := Scalar.indexCast v4386
  let c24_3454 : Index := 24#32
  let c0_3455 : Index := 0#32
  let c0_3456 : Index := 0#32
  ![v7488.toNat, 1, v7489.toNat, 24, 0, 0]
def k0_off516 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7493 : Index := Scalar.indexCast v5517
  let c1_3457 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7494 : Index := Scalar.indexCast v4386
  let c25_3458 : Index := 25#32
  let c0_3459 : Index := 0#32
  let c0_3460 : Index := 0#32
  ![v7493.toNat, 1, v7494.toNat, 25, 0, 0]
def k0_off517 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7498 : Index := Scalar.indexCast v5517
  let c1_3461 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7499 : Index := Scalar.indexCast v4386
  let c26_3462 : Index := 26#32
  let c0_3463 : Index := 0#32
  let c0_3464 : Index := 0#32
  ![v7498.toNat, 1, v7499.toNat, 26, 0, 0]
def k0_off518 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7503 : Index := Scalar.indexCast v5517
  let c1_3465 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7504 : Index := Scalar.indexCast v4386
  let c27_3466 : Index := 27#32
  let c0_3467 : Index := 0#32
  let c0_3468 : Index := 0#32
  ![v7503.toNat, 1, v7504.toNat, 27, 0, 0]
def k0_off519 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7508 : Index := Scalar.indexCast v5517
  let c1_3469 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7509 : Index := Scalar.indexCast v4386
  let c28_3470 : Index := 28#32
  let c0_3471 : Index := 0#32
  let c0_3472 : Index := 0#32
  ![v7508.toNat, 1, v7509.toNat, 28, 0, 0]
def k0_off520 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7513 : Index := Scalar.indexCast v5517
  let c1_3473 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7514 : Index := Scalar.indexCast v4386
  let c29_3474 : Index := 29#32
  let c0_3475 : Index := 0#32
  let c0_3476 : Index := 0#32
  ![v7513.toNat, 1, v7514.toNat, 29, 0, 0]
def k0_off521 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7518 : Index := Scalar.indexCast v5517
  let c1_3477 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7519 : Index := Scalar.indexCast v4386
  let c30_3478 : Index := 30#32
  let c0_3479 : Index := 0#32
  let c0_3480 : Index := 0#32
  ![v7518.toNat, 1, v7519.toNat, 30, 0, 0]
def k0_off522 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v7523 : Index := Scalar.indexCast v5517
  let c1_3481 : Index := 1#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v7524 : Index := Scalar.indexCast v4386
  let c31_3482 : Index := 31#32
  let c0_3483 : Index := 0#32
  let c0_3484 : Index := 0#32
  ![v7523.toNat, 1, v7524.toNat, 31, 0, 0]
def k0_off523 (i : grid0.Coords) : Fin 3 → Nat :=
  let c2_3485 : Index := 2#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_2608 : BitVec 32 := 256#32
  let v5518 : BitVec 32 := Scalar.muli v4386 c256_i32_2608
  let v5519 : BitVec 32 := v5518
  let v7528 : Index := Scalar.indexCast v5519
  let c0_3486 : Index := 0#32
  ![2, v7528.toNat, 0]
def k0_off524 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8372 : Index := Scalar.indexCast v5517
  let c2_3795 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8373 : Index := Scalar.indexCast v4386
  let c0_3796 : Index := 0#32
  let c0_3797 : Index := 0#32
  let c0_3798 : Index := 0#32
  ![v8372.toNat, 2, v8373.toNat, 0, 0, 0]
def k0_off525 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8377 : Index := Scalar.indexCast v5517
  let c2_3799 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8378 : Index := Scalar.indexCast v4386
  let c1_3800 : Index := 1#32
  let c0_3801 : Index := 0#32
  let c0_3802 : Index := 0#32
  ![v8377.toNat, 2, v8378.toNat, 1, 0, 0]
def k0_off526 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8382 : Index := Scalar.indexCast v5517
  let c2_3803 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8383 : Index := Scalar.indexCast v4386
  let c2_3804 : Index := 2#32
  let c0_3805 : Index := 0#32
  let c0_3806 : Index := 0#32
  ![v8382.toNat, 2, v8383.toNat, 2, 0, 0]
def k0_off527 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8387 : Index := Scalar.indexCast v5517
  let c2_3807 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8388 : Index := Scalar.indexCast v4386
  let c3_3808 : Index := 3#32
  let c0_3809 : Index := 0#32
  let c0_3810 : Index := 0#32
  ![v8387.toNat, 2, v8388.toNat, 3, 0, 0]
def k0_off528 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8392 : Index := Scalar.indexCast v5517
  let c2_3811 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8393 : Index := Scalar.indexCast v4386
  let c4_3812 : Index := 4#32
  let c0_3813 : Index := 0#32
  let c0_3814 : Index := 0#32
  ![v8392.toNat, 2, v8393.toNat, 4, 0, 0]
def k0_off529 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8397 : Index := Scalar.indexCast v5517
  let c2_3815 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8398 : Index := Scalar.indexCast v4386
  let c5_3816 : Index := 5#32
  let c0_3817 : Index := 0#32
  let c0_3818 : Index := 0#32
  ![v8397.toNat, 2, v8398.toNat, 5, 0, 0]
def k0_off530 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8402 : Index := Scalar.indexCast v5517
  let c2_3819 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8403 : Index := Scalar.indexCast v4386
  let c6_3820 : Index := 6#32
  let c0_3821 : Index := 0#32
  let c0_3822 : Index := 0#32
  ![v8402.toNat, 2, v8403.toNat, 6, 0, 0]
def k0_off531 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8407 : Index := Scalar.indexCast v5517
  let c2_3823 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8408 : Index := Scalar.indexCast v4386
  let c7_3824 : Index := 7#32
  let c0_3825 : Index := 0#32
  let c0_3826 : Index := 0#32
  ![v8407.toNat, 2, v8408.toNat, 7, 0, 0]
def k0_off532 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8412 : Index := Scalar.indexCast v5517
  let c2_3827 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8413 : Index := Scalar.indexCast v4386
  let c8_3828 : Index := 8#32
  let c0_3829 : Index := 0#32
  let c0_3830 : Index := 0#32
  ![v8412.toNat, 2, v8413.toNat, 8, 0, 0]
def k0_off533 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8417 : Index := Scalar.indexCast v5517
  let c2_3831 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8418 : Index := Scalar.indexCast v4386
  let c9_3832 : Index := 9#32
  let c0_3833 : Index := 0#32
  let c0_3834 : Index := 0#32
  ![v8417.toNat, 2, v8418.toNat, 9, 0, 0]
def k0_off534 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8422 : Index := Scalar.indexCast v5517
  let c2_3835 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8423 : Index := Scalar.indexCast v4386
  let c10_3836 : Index := 10#32
  let c0_3837 : Index := 0#32
  let c0_3838 : Index := 0#32
  ![v8422.toNat, 2, v8423.toNat, 10, 0, 0]
def k0_off535 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8427 : Index := Scalar.indexCast v5517
  let c2_3839 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8428 : Index := Scalar.indexCast v4386
  let c11_3840 : Index := 11#32
  let c0_3841 : Index := 0#32
  let c0_3842 : Index := 0#32
  ![v8427.toNat, 2, v8428.toNat, 11, 0, 0]
def k0_off536 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8432 : Index := Scalar.indexCast v5517
  let c2_3843 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8433 : Index := Scalar.indexCast v4386
  let c12_3844 : Index := 12#32
  let c0_3845 : Index := 0#32
  let c0_3846 : Index := 0#32
  ![v8432.toNat, 2, v8433.toNat, 12, 0, 0]
def k0_off537 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8437 : Index := Scalar.indexCast v5517
  let c2_3847 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8438 : Index := Scalar.indexCast v4386
  let c13_3848 : Index := 13#32
  let c0_3849 : Index := 0#32
  let c0_3850 : Index := 0#32
  ![v8437.toNat, 2, v8438.toNat, 13, 0, 0]
def k0_off538 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8442 : Index := Scalar.indexCast v5517
  let c2_3851 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8443 : Index := Scalar.indexCast v4386
  let c14_3852 : Index := 14#32
  let c0_3853 : Index := 0#32
  let c0_3854 : Index := 0#32
  ![v8442.toNat, 2, v8443.toNat, 14, 0, 0]
def k0_off539 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8447 : Index := Scalar.indexCast v5517
  let c2_3855 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8448 : Index := Scalar.indexCast v4386
  let c15_3856 : Index := 15#32
  let c0_3857 : Index := 0#32
  let c0_3858 : Index := 0#32
  ![v8447.toNat, 2, v8448.toNat, 15, 0, 0]
def k0_off540 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8452 : Index := Scalar.indexCast v5517
  let c2_3859 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8453 : Index := Scalar.indexCast v4386
  let c16_3860 : Index := 16#32
  let c0_3861 : Index := 0#32
  let c0_3862 : Index := 0#32
  ![v8452.toNat, 2, v8453.toNat, 16, 0, 0]
def k0_off541 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8457 : Index := Scalar.indexCast v5517
  let c2_3863 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8458 : Index := Scalar.indexCast v4386
  let c17_3864 : Index := 17#32
  let c0_3865 : Index := 0#32
  let c0_3866 : Index := 0#32
  ![v8457.toNat, 2, v8458.toNat, 17, 0, 0]
def k0_off542 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8462 : Index := Scalar.indexCast v5517
  let c2_3867 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8463 : Index := Scalar.indexCast v4386
  let c18_3868 : Index := 18#32
  let c0_3869 : Index := 0#32
  let c0_3870 : Index := 0#32
  ![v8462.toNat, 2, v8463.toNat, 18, 0, 0]
def k0_off543 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8467 : Index := Scalar.indexCast v5517
  let c2_3871 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8468 : Index := Scalar.indexCast v4386
  let c19_3872 : Index := 19#32
  let c0_3873 : Index := 0#32
  let c0_3874 : Index := 0#32
  ![v8467.toNat, 2, v8468.toNat, 19, 0, 0]
def k0_off544 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8472 : Index := Scalar.indexCast v5517
  let c2_3875 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8473 : Index := Scalar.indexCast v4386
  let c20_3876 : Index := 20#32
  let c0_3877 : Index := 0#32
  let c0_3878 : Index := 0#32
  ![v8472.toNat, 2, v8473.toNat, 20, 0, 0]
def k0_off545 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8477 : Index := Scalar.indexCast v5517
  let c2_3879 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8478 : Index := Scalar.indexCast v4386
  let c21_3880 : Index := 21#32
  let c0_3881 : Index := 0#32
  let c0_3882 : Index := 0#32
  ![v8477.toNat, 2, v8478.toNat, 21, 0, 0]
def k0_off546 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8482 : Index := Scalar.indexCast v5517
  let c2_3883 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8483 : Index := Scalar.indexCast v4386
  let c22_3884 : Index := 22#32
  let c0_3885 : Index := 0#32
  let c0_3886 : Index := 0#32
  ![v8482.toNat, 2, v8483.toNat, 22, 0, 0]
def k0_off547 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8487 : Index := Scalar.indexCast v5517
  let c2_3887 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8488 : Index := Scalar.indexCast v4386
  let c23_3888 : Index := 23#32
  let c0_3889 : Index := 0#32
  let c0_3890 : Index := 0#32
  ![v8487.toNat, 2, v8488.toNat, 23, 0, 0]
def k0_off548 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8492 : Index := Scalar.indexCast v5517
  let c2_3891 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8493 : Index := Scalar.indexCast v4386
  let c24_3892 : Index := 24#32
  let c0_3893 : Index := 0#32
  let c0_3894 : Index := 0#32
  ![v8492.toNat, 2, v8493.toNat, 24, 0, 0]
def k0_off549 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8497 : Index := Scalar.indexCast v5517
  let c2_3895 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8498 : Index := Scalar.indexCast v4386
  let c25_3896 : Index := 25#32
  let c0_3897 : Index := 0#32
  let c0_3898 : Index := 0#32
  ![v8497.toNat, 2, v8498.toNat, 25, 0, 0]
def k0_off550 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8502 : Index := Scalar.indexCast v5517
  let c2_3899 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8503 : Index := Scalar.indexCast v4386
  let c26_3900 : Index := 26#32
  let c0_3901 : Index := 0#32
  let c0_3902 : Index := 0#32
  ![v8502.toNat, 2, v8503.toNat, 26, 0, 0]
def k0_off551 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8507 : Index := Scalar.indexCast v5517
  let c2_3903 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8508 : Index := Scalar.indexCast v4386
  let c27_3904 : Index := 27#32
  let c0_3905 : Index := 0#32
  let c0_3906 : Index := 0#32
  ![v8507.toNat, 2, v8508.toNat, 27, 0, 0]
def k0_off552 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8512 : Index := Scalar.indexCast v5517
  let c2_3907 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8513 : Index := Scalar.indexCast v4386
  let c28_3908 : Index := 28#32
  let c0_3909 : Index := 0#32
  let c0_3910 : Index := 0#32
  ![v8512.toNat, 2, v8513.toNat, 28, 0, 0]
def k0_off553 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8517 : Index := Scalar.indexCast v5517
  let c2_3911 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8518 : Index := Scalar.indexCast v4386
  let c29_3912 : Index := 29#32
  let c0_3913 : Index := 0#32
  let c0_3914 : Index := 0#32
  ![v8517.toNat, 2, v8518.toNat, 29, 0, 0]
def k0_off554 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8522 : Index := Scalar.indexCast v5517
  let c2_3915 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8523 : Index := Scalar.indexCast v4386
  let c30_3916 : Index := 30#32
  let c0_3917 : Index := 0#32
  let c0_3918 : Index := 0#32
  ![v8522.toNat, 2, v8523.toNat, 30, 0, 0]
def k0_off555 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v8527 : Index := Scalar.indexCast v5517
  let c2_3919 : Index := 2#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v8528 : Index := Scalar.indexCast v4386
  let c31_3920 : Index := 31#32
  let c0_3921 : Index := 0#32
  let c0_3922 : Index := 0#32
  ![v8527.toNat, 2, v8528.toNat, 31, 0, 0]
def k0_off556 (i : grid0.Coords) : Fin 3 → Nat :=
  let c3_3923 : Index := 3#32
  let arg1 : BitVec 32 := BitVec.ofNat 32 (i 1).val
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let c256_i32_2608 : BitVec 32 := 256#32
  let v5518 : BitVec 32 := Scalar.muli v4386 c256_i32_2608
  let v5519 : BitVec 32 := v5518
  let v8532 : Index := Scalar.indexCast v5519
  let c0_3924 : Index := 0#32
  ![3, v8532.toNat, 0]
def k0_off557 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9376 : Index := Scalar.indexCast v5517
  let c3_4233 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9377 : Index := Scalar.indexCast v4386
  let c0_4234 : Index := 0#32
  let c0_4235 : Index := 0#32
  let c0_4236 : Index := 0#32
  ![v9376.toNat, 3, v9377.toNat, 0, 0, 0]
def k0_off558 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9381 : Index := Scalar.indexCast v5517
  let c3_4237 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9382 : Index := Scalar.indexCast v4386
  let c1_4238 : Index := 1#32
  let c0_4239 : Index := 0#32
  let c0_4240 : Index := 0#32
  ![v9381.toNat, 3, v9382.toNat, 1, 0, 0]
def k0_off559 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9386 : Index := Scalar.indexCast v5517
  let c3_4241 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9387 : Index := Scalar.indexCast v4386
  let c2_4242 : Index := 2#32
  let c0_4243 : Index := 0#32
  let c0_4244 : Index := 0#32
  ![v9386.toNat, 3, v9387.toNat, 2, 0, 0]
def k0_off560 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9391 : Index := Scalar.indexCast v5517
  let c3_4245 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9392 : Index := Scalar.indexCast v4386
  let c3_4246 : Index := 3#32
  let c0_4247 : Index := 0#32
  let c0_4248 : Index := 0#32
  ![v9391.toNat, 3, v9392.toNat, 3, 0, 0]
def k0_off561 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9396 : Index := Scalar.indexCast v5517
  let c3_4249 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9397 : Index := Scalar.indexCast v4386
  let c4_4250 : Index := 4#32
  let c0_4251 : Index := 0#32
  let c0_4252 : Index := 0#32
  ![v9396.toNat, 3, v9397.toNat, 4, 0, 0]
def k0_off562 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9401 : Index := Scalar.indexCast v5517
  let c3_4253 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9402 : Index := Scalar.indexCast v4386
  let c5_4254 : Index := 5#32
  let c0_4255 : Index := 0#32
  let c0_4256 : Index := 0#32
  ![v9401.toNat, 3, v9402.toNat, 5, 0, 0]
def k0_off563 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9406 : Index := Scalar.indexCast v5517
  let c3_4257 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9407 : Index := Scalar.indexCast v4386
  let c6_4258 : Index := 6#32
  let c0_4259 : Index := 0#32
  let c0_4260 : Index := 0#32
  ![v9406.toNat, 3, v9407.toNat, 6, 0, 0]
def k0_off564 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9411 : Index := Scalar.indexCast v5517
  let c3_4261 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9412 : Index := Scalar.indexCast v4386
  let c7_4262 : Index := 7#32
  let c0_4263 : Index := 0#32
  let c0_4264 : Index := 0#32
  ![v9411.toNat, 3, v9412.toNat, 7, 0, 0]
def k0_off565 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9416 : Index := Scalar.indexCast v5517
  let c3_4265 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9417 : Index := Scalar.indexCast v4386
  let c8_4266 : Index := 8#32
  let c0_4267 : Index := 0#32
  let c0_4268 : Index := 0#32
  ![v9416.toNat, 3, v9417.toNat, 8, 0, 0]
def k0_off566 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9421 : Index := Scalar.indexCast v5517
  let c3_4269 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9422 : Index := Scalar.indexCast v4386
  let c9_4270 : Index := 9#32
  let c0_4271 : Index := 0#32
  let c0_4272 : Index := 0#32
  ![v9421.toNat, 3, v9422.toNat, 9, 0, 0]
def k0_off567 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9426 : Index := Scalar.indexCast v5517
  let c3_4273 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9427 : Index := Scalar.indexCast v4386
  let c10_4274 : Index := 10#32
  let c0_4275 : Index := 0#32
  let c0_4276 : Index := 0#32
  ![v9426.toNat, 3, v9427.toNat, 10, 0, 0]
def k0_off568 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9431 : Index := Scalar.indexCast v5517
  let c3_4277 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9432 : Index := Scalar.indexCast v4386
  let c11_4278 : Index := 11#32
  let c0_4279 : Index := 0#32
  let c0_4280 : Index := 0#32
  ![v9431.toNat, 3, v9432.toNat, 11, 0, 0]
def k0_off569 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9436 : Index := Scalar.indexCast v5517
  let c3_4281 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9437 : Index := Scalar.indexCast v4386
  let c12_4282 : Index := 12#32
  let c0_4283 : Index := 0#32
  let c0_4284 : Index := 0#32
  ![v9436.toNat, 3, v9437.toNat, 12, 0, 0]
def k0_off570 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9441 : Index := Scalar.indexCast v5517
  let c3_4285 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9442 : Index := Scalar.indexCast v4386
  let c13_4286 : Index := 13#32
  let c0_4287 : Index := 0#32
  let c0_4288 : Index := 0#32
  ![v9441.toNat, 3, v9442.toNat, 13, 0, 0]
def k0_off571 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9446 : Index := Scalar.indexCast v5517
  let c3_4289 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9447 : Index := Scalar.indexCast v4386
  let c14_4290 : Index := 14#32
  let c0_4291 : Index := 0#32
  let c0_4292 : Index := 0#32
  ![v9446.toNat, 3, v9447.toNat, 14, 0, 0]
def k0_off572 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9451 : Index := Scalar.indexCast v5517
  let c3_4293 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9452 : Index := Scalar.indexCast v4386
  let c15_4294 : Index := 15#32
  let c0_4295 : Index := 0#32
  let c0_4296 : Index := 0#32
  ![v9451.toNat, 3, v9452.toNat, 15, 0, 0]
def k0_off573 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9456 : Index := Scalar.indexCast v5517
  let c3_4297 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9457 : Index := Scalar.indexCast v4386
  let c16_4298 : Index := 16#32
  let c0_4299 : Index := 0#32
  let c0_4300 : Index := 0#32
  ![v9456.toNat, 3, v9457.toNat, 16, 0, 0]
def k0_off574 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9461 : Index := Scalar.indexCast v5517
  let c3_4301 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9462 : Index := Scalar.indexCast v4386
  let c17_4302 : Index := 17#32
  let c0_4303 : Index := 0#32
  let c0_4304 : Index := 0#32
  ![v9461.toNat, 3, v9462.toNat, 17, 0, 0]
def k0_off575 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9466 : Index := Scalar.indexCast v5517
  let c3_4305 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9467 : Index := Scalar.indexCast v4386
  let c18_4306 : Index := 18#32
  let c0_4307 : Index := 0#32
  let c0_4308 : Index := 0#32
  ![v9466.toNat, 3, v9467.toNat, 18, 0, 0]
def k0_off576 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9471 : Index := Scalar.indexCast v5517
  let c3_4309 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9472 : Index := Scalar.indexCast v4386
  let c19_4310 : Index := 19#32
  let c0_4311 : Index := 0#32
  let c0_4312 : Index := 0#32
  ![v9471.toNat, 3, v9472.toNat, 19, 0, 0]
def k0_off577 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9476 : Index := Scalar.indexCast v5517
  let c3_4313 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9477 : Index := Scalar.indexCast v4386
  let c20_4314 : Index := 20#32
  let c0_4315 : Index := 0#32
  let c0_4316 : Index := 0#32
  ![v9476.toNat, 3, v9477.toNat, 20, 0, 0]
def k0_off578 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9481 : Index := Scalar.indexCast v5517
  let c3_4317 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9482 : Index := Scalar.indexCast v4386
  let c21_4318 : Index := 21#32
  let c0_4319 : Index := 0#32
  let c0_4320 : Index := 0#32
  ![v9481.toNat, 3, v9482.toNat, 21, 0, 0]
def k0_off579 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9486 : Index := Scalar.indexCast v5517
  let c3_4321 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9487 : Index := Scalar.indexCast v4386
  let c22_4322 : Index := 22#32
  let c0_4323 : Index := 0#32
  let c0_4324 : Index := 0#32
  ![v9486.toNat, 3, v9487.toNat, 22, 0, 0]
def k0_off580 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9491 : Index := Scalar.indexCast v5517
  let c3_4325 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9492 : Index := Scalar.indexCast v4386
  let c23_4326 : Index := 23#32
  let c0_4327 : Index := 0#32
  let c0_4328 : Index := 0#32
  ![v9491.toNat, 3, v9492.toNat, 23, 0, 0]
def k0_off581 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9496 : Index := Scalar.indexCast v5517
  let c3_4329 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9497 : Index := Scalar.indexCast v4386
  let c24_4330 : Index := 24#32
  let c0_4331 : Index := 0#32
  let c0_4332 : Index := 0#32
  ![v9496.toNat, 3, v9497.toNat, 24, 0, 0]
def k0_off582 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9501 : Index := Scalar.indexCast v5517
  let c3_4333 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9502 : Index := Scalar.indexCast v4386
  let c25_4334 : Index := 25#32
  let c0_4335 : Index := 0#32
  let c0_4336 : Index := 0#32
  ![v9501.toNat, 3, v9502.toNat, 25, 0, 0]
def k0_off583 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9506 : Index := Scalar.indexCast v5517
  let c3_4337 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9507 : Index := Scalar.indexCast v4386
  let c26_4338 : Index := 26#32
  let c0_4339 : Index := 0#32
  let c0_4340 : Index := 0#32
  ![v9506.toNat, 3, v9507.toNat, 26, 0, 0]
def k0_off584 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9511 : Index := Scalar.indexCast v5517
  let c3_4341 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9512 : Index := Scalar.indexCast v4386
  let c27_4342 : Index := 27#32
  let c0_4343 : Index := 0#32
  let c0_4344 : Index := 0#32
  ![v9511.toNat, 3, v9512.toNat, 27, 0, 0]
def k0_off585 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9516 : Index := Scalar.indexCast v5517
  let c3_4345 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9517 : Index := Scalar.indexCast v4386
  let c28_4346 : Index := 28#32
  let c0_4347 : Index := 0#32
  let c0_4348 : Index := 0#32
  ![v9516.toNat, 3, v9517.toNat, 28, 0, 0]
def k0_off586 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9521 : Index := Scalar.indexCast v5517
  let c3_4349 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9522 : Index := Scalar.indexCast v4386
  let c29_4350 : Index := 29#32
  let c0_4351 : Index := 0#32
  let c0_4352 : Index := 0#32
  ![v9521.toNat, 3, v9522.toNat, 29, 0, 0]
def k0_off587 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9526 : Index := Scalar.indexCast v5517
  let c3_4353 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9527 : Index := Scalar.indexCast v4386
  let c30_4354 : Index := 30#32
  let c0_4355 : Index := 0#32
  let c0_4356 : Index := 0#32
  ![v9526.toNat, 3, v9527.toNat, 30, 0, 0]
def k0_off588 (i : grid0.Coords) : Fin 6 → Nat :=
  let c1_i32_2607 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v5517 : BitVec 32 := Scalar.subi c1_i32_2607 v10
  let v9531 : Index := Scalar.indexCast v5517
  let c3_4357 : Index := 3#32
  let c1_i32 : BitVec 32 := 1#32
  let v0 : BitVec 32 := Scalar.addi arg1 c1_i32
  let c2_i32_1959 : BitVec 32 := 2#32
  let c0_i32_1960 : BitVec 32 := 0#32
  let v4374 : BitVec 1 := Scalar.cmpi .eq c2_i32_1959 c0_i32_1960
  let c1_i32_1961 : BitVec 32 := 1#32
  let v4375 : BitVec 32 := Scalar.select v4374 c1_i32_1961 c2_i32_1959
  let v4376 : BitVec 32 := Scalar.remsi v0 v4375
  let c0_i32_1963 : BitVec 32 := 0#32
  let v4378 : BitVec 1 := Scalar.cmpi .slt v4376 c0_i32_1963
  let c0_i32_1964 : BitVec 32 := 0#32
  let v4379 : BitVec 1 := Scalar.cmpi .slt v4375 c0_i32_1964
  let v4380 : BitVec 1 := Scalar.xori v4378 v4379
  let c0_i32_1962 : BitVec 32 := 0#32
  let v4377 : BitVec 1 := Scalar.cmpi .ne v4376 c0_i32_1962
  let v4381 : BitVec 1 := Scalar.andi v4380 v4377
  let v4382 : BitVec 32 := Scalar.addi v4376 v4375
  let v4383 : BitVec 32 := Scalar.select v4381 v4382 v4376
  let v4384 : BitVec 32 := Scalar.subi v0 v4383
  let c1_i32_1965 : BitVec 32 := 1#32
  let v4385 : BitVec 32 := Scalar.addi v4384 c1_i32_1965
  let c1_i32_1966 : BitVec 32 := 1#32
  let v4386 : BitVec 32 := Scalar.subi v4385 c1_i32_1966
  let v9532 : Index := Scalar.indexCast v4386
  let c31_4358 : Index := 31#32
  let c0_4359 : Index := 0#32
  let c0_4360 : Index := 0#32
  ![v9531.toNat, 3, v9532.toNat, 31, 0, 0]
def k0_mult9 (i : grid0.Coords) : BitVec 32 :=
  let arg1 : BitVec 32 := BitVec.ofNat 32 (i 1).val
  let c1_i32_239 : BitVec 32 := 1#32
  let v342 : BitVec 32 := Scalar.addi arg1 c1_i32_239
  let c256_i32_241 : BitVec 32 := 256#32
  let v344 : BitVec 32 := Scalar.muli v342 c256_i32_241
  v344
def k0_off589 (i : grid0.Coords) : Fin 3 → Nat :=
  let c0_242 : Index := 0#32
  let arg1 : BitVec 32 := BitVec.ofNat 32 (i 1).val
  let c1_i32_239 : BitVec 32 := 1#32
  let v342 : BitVec 32 := Scalar.addi arg1 c1_i32_239
  let c256_i32_241 : BitVec 32 := 256#32
  let v344 : BitVec 32 := Scalar.muli v342 c256_i32_241
  let v345 : BitVec 32 := v344
  let v346 : Index := Scalar.indexCast v345
  let c0_243 : Index := 0#32
  ![0, v346.toNat, 0]
def k0_off590 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1193 : Index := Scalar.indexCast v343
  let c0_538 : Index := 0#32
  let c1_i32_239 : BitVec 32 := 1#32
  let v342 : BitVec 32 := Scalar.addi arg1 c1_i32_239
  let v1194 : Index := Scalar.indexCast v342
  let c0_539 : Index := 0#32
  let c0_540 : Index := 0#32
  let c0_541 : Index := 0#32
  ![v1193.toNat, 0, v1194.toNat, 0, 0, 0]
def k0_off591 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1198 : Index := Scalar.indexCast v343
  let c0_542 : Index := 0#32
  let c1_i32_239 : BitVec 32 := 1#32
  let v342 : BitVec 32 := Scalar.addi arg1 c1_i32_239
  let v1199 : Index := Scalar.indexCast v342
  let c1_543 : Index := 1#32
  let c0_544 : Index := 0#32
  let c0_545 : Index := 0#32
  ![v1198.toNat, 0, v1199.toNat, 1, 0, 0]
def k0_off592 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1203 : Index := Scalar.indexCast v343
  let c0_546 : Index := 0#32
  let c1_i32_239 : BitVec 32 := 1#32
  let v342 : BitVec 32 := Scalar.addi arg1 c1_i32_239
  let v1204 : Index := Scalar.indexCast v342
  let c2_547 : Index := 2#32
  let c0_548 : Index := 0#32
  let c0_549 : Index := 0#32
  ![v1203.toNat, 0, v1204.toNat, 2, 0, 0]
def k0_off593 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1208 : Index := Scalar.indexCast v343
  let c0_550 : Index := 0#32
  let c1_i32_239 : BitVec 32 := 1#32
  let v342 : BitVec 32 := Scalar.addi arg1 c1_i32_239
  let v1209 : Index := Scalar.indexCast v342
  let c3_551 : Index := 3#32
  let c0_552 : Index := 0#32
  let c0_553 : Index := 0#32
  ![v1208.toNat, 0, v1209.toNat, 3, 0, 0]
def k0_off594 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1213 : Index := Scalar.indexCast v343
  let c0_554 : Index := 0#32
  let c1_i32_239 : BitVec 32 := 1#32
  let v342 : BitVec 32 := Scalar.addi arg1 c1_i32_239
  let v1214 : Index := Scalar.indexCast v342
  let c4_555 : Index := 4#32
  let c0_556 : Index := 0#32
  let c0_557 : Index := 0#32
  ![v1213.toNat, 0, v1214.toNat, 4, 0, 0]
def k0_off595 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1218 : Index := Scalar.indexCast v343
  let c0_558 : Index := 0#32
  let c1_i32_239 : BitVec 32 := 1#32
  let v342 : BitVec 32 := Scalar.addi arg1 c1_i32_239
  let v1219 : Index := Scalar.indexCast v342
  let c5_559 : Index := 5#32
  let c0_560 : Index := 0#32
  let c0_561 : Index := 0#32
  ![v1218.toNat, 0, v1219.toNat, 5, 0, 0]
def k0_off596 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1223 : Index := Scalar.indexCast v343
  let c0_562 : Index := 0#32
  let c1_i32_239 : BitVec 32 := 1#32
  let v342 : BitVec 32 := Scalar.addi arg1 c1_i32_239
  let v1224 : Index := Scalar.indexCast v342
  let c6_563 : Index := 6#32
  let c0_564 : Index := 0#32
  let c0_565 : Index := 0#32
  ![v1223.toNat, 0, v1224.toNat, 6, 0, 0]
def k0_off597 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1228 : Index := Scalar.indexCast v343
  let c0_566 : Index := 0#32
  let c1_i32_239 : BitVec 32 := 1#32
  let v342 : BitVec 32 := Scalar.addi arg1 c1_i32_239
  let v1229 : Index := Scalar.indexCast v342
  let c7_567 : Index := 7#32
  let c0_568 : Index := 0#32
  let c0_569 : Index := 0#32
  ![v1228.toNat, 0, v1229.toNat, 7, 0, 0]
def k0_off598 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1233 : Index := Scalar.indexCast v343
  let c0_570 : Index := 0#32
  let c1_i32_239 : BitVec 32 := 1#32
  let v342 : BitVec 32 := Scalar.addi arg1 c1_i32_239
  let v1234 : Index := Scalar.indexCast v342
  let c8 : Index := 8#32
  let c0_571 : Index := 0#32
  let c0_572 : Index := 0#32
  ![v1233.toNat, 0, v1234.toNat, 8, 0, 0]
def k0_off599 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1238 : Index := Scalar.indexCast v343
  let c0_573 : Index := 0#32
  let c1_i32_239 : BitVec 32 := 1#32
  let v342 : BitVec 32 := Scalar.addi arg1 c1_i32_239
  let v1239 : Index := Scalar.indexCast v342
  let c9 : Index := 9#32
  let c0_574 : Index := 0#32
  let c0_575 : Index := 0#32
  ![v1238.toNat, 0, v1239.toNat, 9, 0, 0]
def k0_off600 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1243 : Index := Scalar.indexCast v343
  let c0_576 : Index := 0#32
  let c1_i32_239 : BitVec 32 := 1#32
  let v342 : BitVec 32 := Scalar.addi arg1 c1_i32_239
  let v1244 : Index := Scalar.indexCast v342
  let c10 : Index := 10#32
  let c0_577 : Index := 0#32
  let c0_578 : Index := 0#32
  ![v1243.toNat, 0, v1244.toNat, 10, 0, 0]
def k0_off601 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1248 : Index := Scalar.indexCast v343
  let c0_579 : Index := 0#32
  let c1_i32_239 : BitVec 32 := 1#32
  let v342 : BitVec 32 := Scalar.addi arg1 c1_i32_239
  let v1249 : Index := Scalar.indexCast v342
  let c11 : Index := 11#32
  let c0_580 : Index := 0#32
  let c0_581 : Index := 0#32
  ![v1248.toNat, 0, v1249.toNat, 11, 0, 0]
def k0_off602 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1253 : Index := Scalar.indexCast v343
  let c0_582 : Index := 0#32
  let c1_i32_239 : BitVec 32 := 1#32
  let v342 : BitVec 32 := Scalar.addi arg1 c1_i32_239
  let v1254 : Index := Scalar.indexCast v342
  let c12 : Index := 12#32
  let c0_583 : Index := 0#32
  let c0_584 : Index := 0#32
  ![v1253.toNat, 0, v1254.toNat, 12, 0, 0]
def k0_off603 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1258 : Index := Scalar.indexCast v343
  let c0_585 : Index := 0#32
  let c1_i32_239 : BitVec 32 := 1#32
  let v342 : BitVec 32 := Scalar.addi arg1 c1_i32_239
  let v1259 : Index := Scalar.indexCast v342
  let c13 : Index := 13#32
  let c0_586 : Index := 0#32
  let c0_587 : Index := 0#32
  ![v1258.toNat, 0, v1259.toNat, 13, 0, 0]
def k0_off604 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1263 : Index := Scalar.indexCast v343
  let c0_588 : Index := 0#32
  let c1_i32_239 : BitVec 32 := 1#32
  let v342 : BitVec 32 := Scalar.addi arg1 c1_i32_239
  let v1264 : Index := Scalar.indexCast v342
  let c14 : Index := 14#32
  let c0_589 : Index := 0#32
  let c0_590 : Index := 0#32
  ![v1263.toNat, 0, v1264.toNat, 14, 0, 0]
def k0_off605 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1268 : Index := Scalar.indexCast v343
  let c0_591 : Index := 0#32
  let c1_i32_239 : BitVec 32 := 1#32
  let v342 : BitVec 32 := Scalar.addi arg1 c1_i32_239
  let v1269 : Index := Scalar.indexCast v342
  let c15 : Index := 15#32
  let c0_592 : Index := 0#32
  let c0_593 : Index := 0#32
  ![v1268.toNat, 0, v1269.toNat, 15, 0, 0]
def k0_off606 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1273 : Index := Scalar.indexCast v343
  let c0_594 : Index := 0#32
  let c1_i32_239 : BitVec 32 := 1#32
  let v342 : BitVec 32 := Scalar.addi arg1 c1_i32_239
  let v1274 : Index := Scalar.indexCast v342
  let c16 : Index := 16#32
  let c0_595 : Index := 0#32
  let c0_596 : Index := 0#32
  ![v1273.toNat, 0, v1274.toNat, 16, 0, 0]
def k0_off607 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1278 : Index := Scalar.indexCast v343
  let c0_597 : Index := 0#32
  let c1_i32_239 : BitVec 32 := 1#32
  let v342 : BitVec 32 := Scalar.addi arg1 c1_i32_239
  let v1279 : Index := Scalar.indexCast v342
  let c17 : Index := 17#32
  let c0_598 : Index := 0#32
  let c0_599 : Index := 0#32
  ![v1278.toNat, 0, v1279.toNat, 17, 0, 0]
def k0_off608 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1283 : Index := Scalar.indexCast v343
  let c0_600 : Index := 0#32
  let c1_i32_239 : BitVec 32 := 1#32
  let v342 : BitVec 32 := Scalar.addi arg1 c1_i32_239
  let v1284 : Index := Scalar.indexCast v342
  let c18 : Index := 18#32
  let c0_601 : Index := 0#32
  let c0_602 : Index := 0#32
  ![v1283.toNat, 0, v1284.toNat, 18, 0, 0]
def k0_off609 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1288 : Index := Scalar.indexCast v343
  let c0_603 : Index := 0#32
  let c1_i32_239 : BitVec 32 := 1#32
  let v342 : BitVec 32 := Scalar.addi arg1 c1_i32_239
  let v1289 : Index := Scalar.indexCast v342
  let c19 : Index := 19#32
  let c0_604 : Index := 0#32
  let c0_605 : Index := 0#32
  ![v1288.toNat, 0, v1289.toNat, 19, 0, 0]
def k0_off610 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1293 : Index := Scalar.indexCast v343
  let c0_606 : Index := 0#32
  let c1_i32_239 : BitVec 32 := 1#32
  let v342 : BitVec 32 := Scalar.addi arg1 c1_i32_239
  let v1294 : Index := Scalar.indexCast v342
  let c20 : Index := 20#32
  let c0_607 : Index := 0#32
  let c0_608 : Index := 0#32
  ![v1293.toNat, 0, v1294.toNat, 20, 0, 0]
def k0_off611 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1298 : Index := Scalar.indexCast v343
  let c0_609 : Index := 0#32
  let c1_i32_239 : BitVec 32 := 1#32
  let v342 : BitVec 32 := Scalar.addi arg1 c1_i32_239
  let v1299 : Index := Scalar.indexCast v342
  let c21 : Index := 21#32
  let c0_610 : Index := 0#32
  let c0_611 : Index := 0#32
  ![v1298.toNat, 0, v1299.toNat, 21, 0, 0]
def k0_off612 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1303 : Index := Scalar.indexCast v343
  let c0_612 : Index := 0#32
  let c1_i32_239 : BitVec 32 := 1#32
  let v342 : BitVec 32 := Scalar.addi arg1 c1_i32_239
  let v1304 : Index := Scalar.indexCast v342
  let c22 : Index := 22#32
  let c0_613 : Index := 0#32
  let c0_614 : Index := 0#32
  ![v1303.toNat, 0, v1304.toNat, 22, 0, 0]
def k0_off613 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1308 : Index := Scalar.indexCast v343
  let c0_615 : Index := 0#32
  let c1_i32_239 : BitVec 32 := 1#32
  let v342 : BitVec 32 := Scalar.addi arg1 c1_i32_239
  let v1309 : Index := Scalar.indexCast v342
  let c23 : Index := 23#32
  let c0_616 : Index := 0#32
  let c0_617 : Index := 0#32
  ![v1308.toNat, 0, v1309.toNat, 23, 0, 0]
def k0_off614 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1313 : Index := Scalar.indexCast v343
  let c0_618 : Index := 0#32
  let c1_i32_239 : BitVec 32 := 1#32
  let v342 : BitVec 32 := Scalar.addi arg1 c1_i32_239
  let v1314 : Index := Scalar.indexCast v342
  let c24 : Index := 24#32
  let c0_619 : Index := 0#32
  let c0_620 : Index := 0#32
  ![v1313.toNat, 0, v1314.toNat, 24, 0, 0]
def k0_off615 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1318 : Index := Scalar.indexCast v343
  let c0_621 : Index := 0#32
  let c1_i32_239 : BitVec 32 := 1#32
  let v342 : BitVec 32 := Scalar.addi arg1 c1_i32_239
  let v1319 : Index := Scalar.indexCast v342
  let c25 : Index := 25#32
  let c0_622 : Index := 0#32
  let c0_623 : Index := 0#32
  ![v1318.toNat, 0, v1319.toNat, 25, 0, 0]
def k0_off616 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1323 : Index := Scalar.indexCast v343
  let c0_624 : Index := 0#32
  let c1_i32_239 : BitVec 32 := 1#32
  let v342 : BitVec 32 := Scalar.addi arg1 c1_i32_239
  let v1324 : Index := Scalar.indexCast v342
  let c26 : Index := 26#32
  let c0_625 : Index := 0#32
  let c0_626 : Index := 0#32
  ![v1323.toNat, 0, v1324.toNat, 26, 0, 0]
def k0_off617 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1328 : Index := Scalar.indexCast v343
  let c0_627 : Index := 0#32
  let c1_i32_239 : BitVec 32 := 1#32
  let v342 : BitVec 32 := Scalar.addi arg1 c1_i32_239
  let v1329 : Index := Scalar.indexCast v342
  let c27 : Index := 27#32
  let c0_628 : Index := 0#32
  let c0_629 : Index := 0#32
  ![v1328.toNat, 0, v1329.toNat, 27, 0, 0]
def k0_off618 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1333 : Index := Scalar.indexCast v343
  let c0_630 : Index := 0#32
  let c1_i32_239 : BitVec 32 := 1#32
  let v342 : BitVec 32 := Scalar.addi arg1 c1_i32_239
  let v1334 : Index := Scalar.indexCast v342
  let c28 : Index := 28#32
  let c0_631 : Index := 0#32
  let c0_632 : Index := 0#32
  ![v1333.toNat, 0, v1334.toNat, 28, 0, 0]
def k0_off619 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1338 : Index := Scalar.indexCast v343
  let c0_633 : Index := 0#32
  let c1_i32_239 : BitVec 32 := 1#32
  let v342 : BitVec 32 := Scalar.addi arg1 c1_i32_239
  let v1339 : Index := Scalar.indexCast v342
  let c29 : Index := 29#32
  let c0_634 : Index := 0#32
  let c0_635 : Index := 0#32
  ![v1338.toNat, 0, v1339.toNat, 29, 0, 0]
def k0_off620 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1343 : Index := Scalar.indexCast v343
  let c0_636 : Index := 0#32
  let c1_i32_239 : BitVec 32 := 1#32
  let v342 : BitVec 32 := Scalar.addi arg1 c1_i32_239
  let v1344 : Index := Scalar.indexCast v342
  let c30 : Index := 30#32
  let c0_637 : Index := 0#32
  let c0_638 : Index := 0#32
  ![v1343.toNat, 0, v1344.toNat, 30, 0, 0]
def k0_off621 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v1348 : Index := Scalar.indexCast v343
  let c0_639 : Index := 0#32
  let c1_i32_239 : BitVec 32 := 1#32
  let v342 : BitVec 32 := Scalar.addi arg1 c1_i32_239
  let v1349 : Index := Scalar.indexCast v342
  let c31 : Index := 31#32
  let c0_640 : Index := 0#32
  let c0_641 : Index := 0#32
  ![v1348.toNat, 0, v1349.toNat, 31, 0, 0]
def k0_off622 (i : grid0.Coords) : Fin 3 → Nat :=
  let c1_642 : Index := 1#32
  let arg1 : BitVec 32 := BitVec.ofNat 32 (i 1).val
  let c1_i32_239 : BitVec 32 := 1#32
  let v342 : BitVec 32 := Scalar.addi arg1 c1_i32_239
  let c256_i32_241 : BitVec 32 := 256#32
  let v344 : BitVec 32 := Scalar.muli v342 c256_i32_241
  let v345 : BitVec 32 := v344
  let v1353 : Index := Scalar.indexCast v345
  let c0_643 : Index := 0#32
  ![1, v1353.toNat, 0]
def k0_off623 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2200 : Index := Scalar.indexCast v343
  let c1_953 : Index := 1#32
  let c1_i32_239 : BitVec 32 := 1#32
  let v342 : BitVec 32 := Scalar.addi arg1 c1_i32_239
  let v2201 : Index := Scalar.indexCast v342
  let c0_954 : Index := 0#32
  let c0_955 : Index := 0#32
  let c0_956 : Index := 0#32
  ![v2200.toNat, 1, v2201.toNat, 0, 0, 0]
def k0_off624 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2205 : Index := Scalar.indexCast v343
  let c1_957 : Index := 1#32
  let c1_i32_239 : BitVec 32 := 1#32
  let v342 : BitVec 32 := Scalar.addi arg1 c1_i32_239
  let v2206 : Index := Scalar.indexCast v342
  let c1_958 : Index := 1#32
  let c0_959 : Index := 0#32
  let c0_960 : Index := 0#32
  ![v2205.toNat, 1, v2206.toNat, 1, 0, 0]
def k0_off625 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2210 : Index := Scalar.indexCast v343
  let c1_961 : Index := 1#32
  let c1_i32_239 : BitVec 32 := 1#32
  let v342 : BitVec 32 := Scalar.addi arg1 c1_i32_239
  let v2211 : Index := Scalar.indexCast v342
  let c2_962 : Index := 2#32
  let c0_963 : Index := 0#32
  let c0_964 : Index := 0#32
  ![v2210.toNat, 1, v2211.toNat, 2, 0, 0]
def k0_off626 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2215 : Index := Scalar.indexCast v343
  let c1_965 : Index := 1#32
  let c1_i32_239 : BitVec 32 := 1#32
  let v342 : BitVec 32 := Scalar.addi arg1 c1_i32_239
  let v2216 : Index := Scalar.indexCast v342
  let c3_966 : Index := 3#32
  let c0_967 : Index := 0#32
  let c0_968 : Index := 0#32
  ![v2215.toNat, 1, v2216.toNat, 3, 0, 0]
def k0_off627 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2220 : Index := Scalar.indexCast v343
  let c1_969 : Index := 1#32
  let c1_i32_239 : BitVec 32 := 1#32
  let v342 : BitVec 32 := Scalar.addi arg1 c1_i32_239
  let v2221 : Index := Scalar.indexCast v342
  let c4_970 : Index := 4#32
  let c0_971 : Index := 0#32
  let c0_972 : Index := 0#32
  ![v2220.toNat, 1, v2221.toNat, 4, 0, 0]
def k0_off628 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2225 : Index := Scalar.indexCast v343
  let c1_973 : Index := 1#32
  let c1_i32_239 : BitVec 32 := 1#32
  let v342 : BitVec 32 := Scalar.addi arg1 c1_i32_239
  let v2226 : Index := Scalar.indexCast v342
  let c5_974 : Index := 5#32
  let c0_975 : Index := 0#32
  let c0_976 : Index := 0#32
  ![v2225.toNat, 1, v2226.toNat, 5, 0, 0]
def k0_off629 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2230 : Index := Scalar.indexCast v343
  let c1_977 : Index := 1#32
  let c1_i32_239 : BitVec 32 := 1#32
  let v342 : BitVec 32 := Scalar.addi arg1 c1_i32_239
  let v2231 : Index := Scalar.indexCast v342
  let c6_978 : Index := 6#32
  let c0_979 : Index := 0#32
  let c0_980 : Index := 0#32
  ![v2230.toNat, 1, v2231.toNat, 6, 0, 0]
def k0_off630 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2235 : Index := Scalar.indexCast v343
  let c1_981 : Index := 1#32
  let c1_i32_239 : BitVec 32 := 1#32
  let v342 : BitVec 32 := Scalar.addi arg1 c1_i32_239
  let v2236 : Index := Scalar.indexCast v342
  let c7_982 : Index := 7#32
  let c0_983 : Index := 0#32
  let c0_984 : Index := 0#32
  ![v2235.toNat, 1, v2236.toNat, 7, 0, 0]
def k0_off631 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2240 : Index := Scalar.indexCast v343
  let c1_985 : Index := 1#32
  let c1_i32_239 : BitVec 32 := 1#32
  let v342 : BitVec 32 := Scalar.addi arg1 c1_i32_239
  let v2241 : Index := Scalar.indexCast v342
  let c8_986 : Index := 8#32
  let c0_987 : Index := 0#32
  let c0_988 : Index := 0#32
  ![v2240.toNat, 1, v2241.toNat, 8, 0, 0]
def k0_off632 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2245 : Index := Scalar.indexCast v343
  let c1_989 : Index := 1#32
  let c1_i32_239 : BitVec 32 := 1#32
  let v342 : BitVec 32 := Scalar.addi arg1 c1_i32_239
  let v2246 : Index := Scalar.indexCast v342
  let c9_990 : Index := 9#32
  let c0_991 : Index := 0#32
  let c0_992 : Index := 0#32
  ![v2245.toNat, 1, v2246.toNat, 9, 0, 0]
def k0_off633 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2250 : Index := Scalar.indexCast v343
  let c1_993 : Index := 1#32
  let c1_i32_239 : BitVec 32 := 1#32
  let v342 : BitVec 32 := Scalar.addi arg1 c1_i32_239
  let v2251 : Index := Scalar.indexCast v342
  let c10_994 : Index := 10#32
  let c0_995 : Index := 0#32
  let c0_996 : Index := 0#32
  ![v2250.toNat, 1, v2251.toNat, 10, 0, 0]
def k0_off634 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2255 : Index := Scalar.indexCast v343
  let c1_997 : Index := 1#32
  let c1_i32_239 : BitVec 32 := 1#32
  let v342 : BitVec 32 := Scalar.addi arg1 c1_i32_239
  let v2256 : Index := Scalar.indexCast v342
  let c11_998 : Index := 11#32
  let c0_999 : Index := 0#32
  let c0_1000 : Index := 0#32
  ![v2255.toNat, 1, v2256.toNat, 11, 0, 0]
def k0_off635 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2260 : Index := Scalar.indexCast v343
  let c1_1001 : Index := 1#32
  let c1_i32_239 : BitVec 32 := 1#32
  let v342 : BitVec 32 := Scalar.addi arg1 c1_i32_239
  let v2261 : Index := Scalar.indexCast v342
  let c12_1002 : Index := 12#32
  let c0_1003 : Index := 0#32
  let c0_1004 : Index := 0#32
  ![v2260.toNat, 1, v2261.toNat, 12, 0, 0]
def k0_off636 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2265 : Index := Scalar.indexCast v343
  let c1_1005 : Index := 1#32
  let c1_i32_239 : BitVec 32 := 1#32
  let v342 : BitVec 32 := Scalar.addi arg1 c1_i32_239
  let v2266 : Index := Scalar.indexCast v342
  let c13_1006 : Index := 13#32
  let c0_1007 : Index := 0#32
  let c0_1008 : Index := 0#32
  ![v2265.toNat, 1, v2266.toNat, 13, 0, 0]
def k0_off637 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2270 : Index := Scalar.indexCast v343
  let c1_1009 : Index := 1#32
  let c1_i32_239 : BitVec 32 := 1#32
  let v342 : BitVec 32 := Scalar.addi arg1 c1_i32_239
  let v2271 : Index := Scalar.indexCast v342
  let c14_1010 : Index := 14#32
  let c0_1011 : Index := 0#32
  let c0_1012 : Index := 0#32
  ![v2270.toNat, 1, v2271.toNat, 14, 0, 0]
def k0_off638 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2275 : Index := Scalar.indexCast v343
  let c1_1013 : Index := 1#32
  let c1_i32_239 : BitVec 32 := 1#32
  let v342 : BitVec 32 := Scalar.addi arg1 c1_i32_239
  let v2276 : Index := Scalar.indexCast v342
  let c15_1014 : Index := 15#32
  let c0_1015 : Index := 0#32
  let c0_1016 : Index := 0#32
  ![v2275.toNat, 1, v2276.toNat, 15, 0, 0]
def k0_off639 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2280 : Index := Scalar.indexCast v343
  let c1_1017 : Index := 1#32
  let c1_i32_239 : BitVec 32 := 1#32
  let v342 : BitVec 32 := Scalar.addi arg1 c1_i32_239
  let v2281 : Index := Scalar.indexCast v342
  let c16_1018 : Index := 16#32
  let c0_1019 : Index := 0#32
  let c0_1020 : Index := 0#32
  ![v2280.toNat, 1, v2281.toNat, 16, 0, 0]
def k0_off640 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2285 : Index := Scalar.indexCast v343
  let c1_1021 : Index := 1#32
  let c1_i32_239 : BitVec 32 := 1#32
  let v342 : BitVec 32 := Scalar.addi arg1 c1_i32_239
  let v2286 : Index := Scalar.indexCast v342
  let c17_1022 : Index := 17#32
  let c0_1023 : Index := 0#32
  let c0_1024 : Index := 0#32
  ![v2285.toNat, 1, v2286.toNat, 17, 0, 0]
def k0_off641 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2290 : Index := Scalar.indexCast v343
  let c1_1025 : Index := 1#32
  let c1_i32_239 : BitVec 32 := 1#32
  let v342 : BitVec 32 := Scalar.addi arg1 c1_i32_239
  let v2291 : Index := Scalar.indexCast v342
  let c18_1026 : Index := 18#32
  let c0_1027 : Index := 0#32
  let c0_1028 : Index := 0#32
  ![v2290.toNat, 1, v2291.toNat, 18, 0, 0]
def k0_off642 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2295 : Index := Scalar.indexCast v343
  let c1_1029 : Index := 1#32
  let c1_i32_239 : BitVec 32 := 1#32
  let v342 : BitVec 32 := Scalar.addi arg1 c1_i32_239
  let v2296 : Index := Scalar.indexCast v342
  let c19_1030 : Index := 19#32
  let c0_1031 : Index := 0#32
  let c0_1032 : Index := 0#32
  ![v2295.toNat, 1, v2296.toNat, 19, 0, 0]
def k0_off643 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2300 : Index := Scalar.indexCast v343
  let c1_1033 : Index := 1#32
  let c1_i32_239 : BitVec 32 := 1#32
  let v342 : BitVec 32 := Scalar.addi arg1 c1_i32_239
  let v2301 : Index := Scalar.indexCast v342
  let c20_1034 : Index := 20#32
  let c0_1035 : Index := 0#32
  let c0_1036 : Index := 0#32
  ![v2300.toNat, 1, v2301.toNat, 20, 0, 0]
def k0_off644 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2305 : Index := Scalar.indexCast v343
  let c1_1037 : Index := 1#32
  let c1_i32_239 : BitVec 32 := 1#32
  let v342 : BitVec 32 := Scalar.addi arg1 c1_i32_239
  let v2306 : Index := Scalar.indexCast v342
  let c21_1038 : Index := 21#32
  let c0_1039 : Index := 0#32
  let c0_1040 : Index := 0#32
  ![v2305.toNat, 1, v2306.toNat, 21, 0, 0]
def k0_off645 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2310 : Index := Scalar.indexCast v343
  let c1_1041 : Index := 1#32
  let c1_i32_239 : BitVec 32 := 1#32
  let v342 : BitVec 32 := Scalar.addi arg1 c1_i32_239
  let v2311 : Index := Scalar.indexCast v342
  let c22_1042 : Index := 22#32
  let c0_1043 : Index := 0#32
  let c0_1044 : Index := 0#32
  ![v2310.toNat, 1, v2311.toNat, 22, 0, 0]
def k0_off646 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2315 : Index := Scalar.indexCast v343
  let c1_1045 : Index := 1#32
  let c1_i32_239 : BitVec 32 := 1#32
  let v342 : BitVec 32 := Scalar.addi arg1 c1_i32_239
  let v2316 : Index := Scalar.indexCast v342
  let c23_1046 : Index := 23#32
  let c0_1047 : Index := 0#32
  let c0_1048 : Index := 0#32
  ![v2315.toNat, 1, v2316.toNat, 23, 0, 0]
def k0_off647 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2320 : Index := Scalar.indexCast v343
  let c1_1049 : Index := 1#32
  let c1_i32_239 : BitVec 32 := 1#32
  let v342 : BitVec 32 := Scalar.addi arg1 c1_i32_239
  let v2321 : Index := Scalar.indexCast v342
  let c24_1050 : Index := 24#32
  let c0_1051 : Index := 0#32
  let c0_1052 : Index := 0#32
  ![v2320.toNat, 1, v2321.toNat, 24, 0, 0]
def k0_off648 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2325 : Index := Scalar.indexCast v343
  let c1_1053 : Index := 1#32
  let c1_i32_239 : BitVec 32 := 1#32
  let v342 : BitVec 32 := Scalar.addi arg1 c1_i32_239
  let v2326 : Index := Scalar.indexCast v342
  let c25_1054 : Index := 25#32
  let c0_1055 : Index := 0#32
  let c0_1056 : Index := 0#32
  ![v2325.toNat, 1, v2326.toNat, 25, 0, 0]
def k0_off649 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2330 : Index := Scalar.indexCast v343
  let c1_1057 : Index := 1#32
  let c1_i32_239 : BitVec 32 := 1#32
  let v342 : BitVec 32 := Scalar.addi arg1 c1_i32_239
  let v2331 : Index := Scalar.indexCast v342
  let c26_1058 : Index := 26#32
  let c0_1059 : Index := 0#32
  let c0_1060 : Index := 0#32
  ![v2330.toNat, 1, v2331.toNat, 26, 0, 0]
def k0_off650 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2335 : Index := Scalar.indexCast v343
  let c1_1061 : Index := 1#32
  let c1_i32_239 : BitVec 32 := 1#32
  let v342 : BitVec 32 := Scalar.addi arg1 c1_i32_239
  let v2336 : Index := Scalar.indexCast v342
  let c27_1062 : Index := 27#32
  let c0_1063 : Index := 0#32
  let c0_1064 : Index := 0#32
  ![v2335.toNat, 1, v2336.toNat, 27, 0, 0]
def k0_off651 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2340 : Index := Scalar.indexCast v343
  let c1_1065 : Index := 1#32
  let c1_i32_239 : BitVec 32 := 1#32
  let v342 : BitVec 32 := Scalar.addi arg1 c1_i32_239
  let v2341 : Index := Scalar.indexCast v342
  let c28_1066 : Index := 28#32
  let c0_1067 : Index := 0#32
  let c0_1068 : Index := 0#32
  ![v2340.toNat, 1, v2341.toNat, 28, 0, 0]
def k0_off652 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2345 : Index := Scalar.indexCast v343
  let c1_1069 : Index := 1#32
  let c1_i32_239 : BitVec 32 := 1#32
  let v342 : BitVec 32 := Scalar.addi arg1 c1_i32_239
  let v2346 : Index := Scalar.indexCast v342
  let c29_1070 : Index := 29#32
  let c0_1071 : Index := 0#32
  let c0_1072 : Index := 0#32
  ![v2345.toNat, 1, v2346.toNat, 29, 0, 0]
def k0_off653 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2350 : Index := Scalar.indexCast v343
  let c1_1073 : Index := 1#32
  let c1_i32_239 : BitVec 32 := 1#32
  let v342 : BitVec 32 := Scalar.addi arg1 c1_i32_239
  let v2351 : Index := Scalar.indexCast v342
  let c30_1074 : Index := 30#32
  let c0_1075 : Index := 0#32
  let c0_1076 : Index := 0#32
  ![v2350.toNat, 1, v2351.toNat, 30, 0, 0]
def k0_off654 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v2355 : Index := Scalar.indexCast v343
  let c1_1077 : Index := 1#32
  let c1_i32_239 : BitVec 32 := 1#32
  let v342 : BitVec 32 := Scalar.addi arg1 c1_i32_239
  let v2356 : Index := Scalar.indexCast v342
  let c31_1078 : Index := 31#32
  let c0_1079 : Index := 0#32
  let c0_1080 : Index := 0#32
  ![v2355.toNat, 1, v2356.toNat, 31, 0, 0]
def k0_off655 (i : grid0.Coords) : Fin 3 → Nat :=
  let c2_1081 : Index := 2#32
  let arg1 : BitVec 32 := BitVec.ofNat 32 (i 1).val
  let c1_i32_239 : BitVec 32 := 1#32
  let v342 : BitVec 32 := Scalar.addi arg1 c1_i32_239
  let c256_i32_241 : BitVec 32 := 256#32
  let v344 : BitVec 32 := Scalar.muli v342 c256_i32_241
  let v345 : BitVec 32 := v344
  let v2360 : Index := Scalar.indexCast v345
  let c0_1082 : Index := 0#32
  ![2, v2360.toNat, 0]
def k0_off656 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3207 : Index := Scalar.indexCast v343
  let c2_1392 : Index := 2#32
  let c1_i32_239 : BitVec 32 := 1#32
  let v342 : BitVec 32 := Scalar.addi arg1 c1_i32_239
  let v3208 : Index := Scalar.indexCast v342
  let c0_1393 : Index := 0#32
  let c0_1394 : Index := 0#32
  let c0_1395 : Index := 0#32
  ![v3207.toNat, 2, v3208.toNat, 0, 0, 0]
def k0_off657 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3212 : Index := Scalar.indexCast v343
  let c2_1396 : Index := 2#32
  let c1_i32_239 : BitVec 32 := 1#32
  let v342 : BitVec 32 := Scalar.addi arg1 c1_i32_239
  let v3213 : Index := Scalar.indexCast v342
  let c1_1397 : Index := 1#32
  let c0_1398 : Index := 0#32
  let c0_1399 : Index := 0#32
  ![v3212.toNat, 2, v3213.toNat, 1, 0, 0]
def k0_off658 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3217 : Index := Scalar.indexCast v343
  let c2_1400 : Index := 2#32
  let c1_i32_239 : BitVec 32 := 1#32
  let v342 : BitVec 32 := Scalar.addi arg1 c1_i32_239
  let v3218 : Index := Scalar.indexCast v342
  let c2_1401 : Index := 2#32
  let c0_1402 : Index := 0#32
  let c0_1403 : Index := 0#32
  ![v3217.toNat, 2, v3218.toNat, 2, 0, 0]
def k0_off659 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3222 : Index := Scalar.indexCast v343
  let c2_1404 : Index := 2#32
  let c1_i32_239 : BitVec 32 := 1#32
  let v342 : BitVec 32 := Scalar.addi arg1 c1_i32_239
  let v3223 : Index := Scalar.indexCast v342
  let c3_1405 : Index := 3#32
  let c0_1406 : Index := 0#32
  let c0_1407 : Index := 0#32
  ![v3222.toNat, 2, v3223.toNat, 3, 0, 0]
def k0_off660 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3227 : Index := Scalar.indexCast v343
  let c2_1408 : Index := 2#32
  let c1_i32_239 : BitVec 32 := 1#32
  let v342 : BitVec 32 := Scalar.addi arg1 c1_i32_239
  let v3228 : Index := Scalar.indexCast v342
  let c4_1409 : Index := 4#32
  let c0_1410 : Index := 0#32
  let c0_1411 : Index := 0#32
  ![v3227.toNat, 2, v3228.toNat, 4, 0, 0]
def k0_off661 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3232 : Index := Scalar.indexCast v343
  let c2_1412 : Index := 2#32
  let c1_i32_239 : BitVec 32 := 1#32
  let v342 : BitVec 32 := Scalar.addi arg1 c1_i32_239
  let v3233 : Index := Scalar.indexCast v342
  let c5_1413 : Index := 5#32
  let c0_1414 : Index := 0#32
  let c0_1415 : Index := 0#32
  ![v3232.toNat, 2, v3233.toNat, 5, 0, 0]
def k0_off662 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3237 : Index := Scalar.indexCast v343
  let c2_1416 : Index := 2#32
  let c1_i32_239 : BitVec 32 := 1#32
  let v342 : BitVec 32 := Scalar.addi arg1 c1_i32_239
  let v3238 : Index := Scalar.indexCast v342
  let c6_1417 : Index := 6#32
  let c0_1418 : Index := 0#32
  let c0_1419 : Index := 0#32
  ![v3237.toNat, 2, v3238.toNat, 6, 0, 0]
def k0_off663 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3242 : Index := Scalar.indexCast v343
  let c2_1420 : Index := 2#32
  let c1_i32_239 : BitVec 32 := 1#32
  let v342 : BitVec 32 := Scalar.addi arg1 c1_i32_239
  let v3243 : Index := Scalar.indexCast v342
  let c7_1421 : Index := 7#32
  let c0_1422 : Index := 0#32
  let c0_1423 : Index := 0#32
  ![v3242.toNat, 2, v3243.toNat, 7, 0, 0]
def k0_off664 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3247 : Index := Scalar.indexCast v343
  let c2_1424 : Index := 2#32
  let c1_i32_239 : BitVec 32 := 1#32
  let v342 : BitVec 32 := Scalar.addi arg1 c1_i32_239
  let v3248 : Index := Scalar.indexCast v342
  let c8_1425 : Index := 8#32
  let c0_1426 : Index := 0#32
  let c0_1427 : Index := 0#32
  ![v3247.toNat, 2, v3248.toNat, 8, 0, 0]
def k0_off665 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3252 : Index := Scalar.indexCast v343
  let c2_1428 : Index := 2#32
  let c1_i32_239 : BitVec 32 := 1#32
  let v342 : BitVec 32 := Scalar.addi arg1 c1_i32_239
  let v3253 : Index := Scalar.indexCast v342
  let c9_1429 : Index := 9#32
  let c0_1430 : Index := 0#32
  let c0_1431 : Index := 0#32
  ![v3252.toNat, 2, v3253.toNat, 9, 0, 0]
def k0_off666 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3257 : Index := Scalar.indexCast v343
  let c2_1432 : Index := 2#32
  let c1_i32_239 : BitVec 32 := 1#32
  let v342 : BitVec 32 := Scalar.addi arg1 c1_i32_239
  let v3258 : Index := Scalar.indexCast v342
  let c10_1433 : Index := 10#32
  let c0_1434 : Index := 0#32
  let c0_1435 : Index := 0#32
  ![v3257.toNat, 2, v3258.toNat, 10, 0, 0]
def k0_off667 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3262 : Index := Scalar.indexCast v343
  let c2_1436 : Index := 2#32
  let c1_i32_239 : BitVec 32 := 1#32
  let v342 : BitVec 32 := Scalar.addi arg1 c1_i32_239
  let v3263 : Index := Scalar.indexCast v342
  let c11_1437 : Index := 11#32
  let c0_1438 : Index := 0#32
  let c0_1439 : Index := 0#32
  ![v3262.toNat, 2, v3263.toNat, 11, 0, 0]
def k0_off668 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3267 : Index := Scalar.indexCast v343
  let c2_1440 : Index := 2#32
  let c1_i32_239 : BitVec 32 := 1#32
  let v342 : BitVec 32 := Scalar.addi arg1 c1_i32_239
  let v3268 : Index := Scalar.indexCast v342
  let c12_1441 : Index := 12#32
  let c0_1442 : Index := 0#32
  let c0_1443 : Index := 0#32
  ![v3267.toNat, 2, v3268.toNat, 12, 0, 0]
def k0_off669 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3272 : Index := Scalar.indexCast v343
  let c2_1444 : Index := 2#32
  let c1_i32_239 : BitVec 32 := 1#32
  let v342 : BitVec 32 := Scalar.addi arg1 c1_i32_239
  let v3273 : Index := Scalar.indexCast v342
  let c13_1445 : Index := 13#32
  let c0_1446 : Index := 0#32
  let c0_1447 : Index := 0#32
  ![v3272.toNat, 2, v3273.toNat, 13, 0, 0]
def k0_off670 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3277 : Index := Scalar.indexCast v343
  let c2_1448 : Index := 2#32
  let c1_i32_239 : BitVec 32 := 1#32
  let v342 : BitVec 32 := Scalar.addi arg1 c1_i32_239
  let v3278 : Index := Scalar.indexCast v342
  let c14_1449 : Index := 14#32
  let c0_1450 : Index := 0#32
  let c0_1451 : Index := 0#32
  ![v3277.toNat, 2, v3278.toNat, 14, 0, 0]
def k0_off671 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3282 : Index := Scalar.indexCast v343
  let c2_1452 : Index := 2#32
  let c1_i32_239 : BitVec 32 := 1#32
  let v342 : BitVec 32 := Scalar.addi arg1 c1_i32_239
  let v3283 : Index := Scalar.indexCast v342
  let c15_1453 : Index := 15#32
  let c0_1454 : Index := 0#32
  let c0_1455 : Index := 0#32
  ![v3282.toNat, 2, v3283.toNat, 15, 0, 0]
def k0_off672 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3287 : Index := Scalar.indexCast v343
  let c2_1456 : Index := 2#32
  let c1_i32_239 : BitVec 32 := 1#32
  let v342 : BitVec 32 := Scalar.addi arg1 c1_i32_239
  let v3288 : Index := Scalar.indexCast v342
  let c16_1457 : Index := 16#32
  let c0_1458 : Index := 0#32
  let c0_1459 : Index := 0#32
  ![v3287.toNat, 2, v3288.toNat, 16, 0, 0]
def k0_off673 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3292 : Index := Scalar.indexCast v343
  let c2_1460 : Index := 2#32
  let c1_i32_239 : BitVec 32 := 1#32
  let v342 : BitVec 32 := Scalar.addi arg1 c1_i32_239
  let v3293 : Index := Scalar.indexCast v342
  let c17_1461 : Index := 17#32
  let c0_1462 : Index := 0#32
  let c0_1463 : Index := 0#32
  ![v3292.toNat, 2, v3293.toNat, 17, 0, 0]
def k0_off674 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3297 : Index := Scalar.indexCast v343
  let c2_1464 : Index := 2#32
  let c1_i32_239 : BitVec 32 := 1#32
  let v342 : BitVec 32 := Scalar.addi arg1 c1_i32_239
  let v3298 : Index := Scalar.indexCast v342
  let c18_1465 : Index := 18#32
  let c0_1466 : Index := 0#32
  let c0_1467 : Index := 0#32
  ![v3297.toNat, 2, v3298.toNat, 18, 0, 0]
def k0_off675 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3302 : Index := Scalar.indexCast v343
  let c2_1468 : Index := 2#32
  let c1_i32_239 : BitVec 32 := 1#32
  let v342 : BitVec 32 := Scalar.addi arg1 c1_i32_239
  let v3303 : Index := Scalar.indexCast v342
  let c19_1469 : Index := 19#32
  let c0_1470 : Index := 0#32
  let c0_1471 : Index := 0#32
  ![v3302.toNat, 2, v3303.toNat, 19, 0, 0]
def k0_off676 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3307 : Index := Scalar.indexCast v343
  let c2_1472 : Index := 2#32
  let c1_i32_239 : BitVec 32 := 1#32
  let v342 : BitVec 32 := Scalar.addi arg1 c1_i32_239
  let v3308 : Index := Scalar.indexCast v342
  let c20_1473 : Index := 20#32
  let c0_1474 : Index := 0#32
  let c0_1475 : Index := 0#32
  ![v3307.toNat, 2, v3308.toNat, 20, 0, 0]
def k0_off677 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3312 : Index := Scalar.indexCast v343
  let c2_1476 : Index := 2#32
  let c1_i32_239 : BitVec 32 := 1#32
  let v342 : BitVec 32 := Scalar.addi arg1 c1_i32_239
  let v3313 : Index := Scalar.indexCast v342
  let c21_1477 : Index := 21#32
  let c0_1478 : Index := 0#32
  let c0_1479 : Index := 0#32
  ![v3312.toNat, 2, v3313.toNat, 21, 0, 0]
def k0_off678 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3317 : Index := Scalar.indexCast v343
  let c2_1480 : Index := 2#32
  let c1_i32_239 : BitVec 32 := 1#32
  let v342 : BitVec 32 := Scalar.addi arg1 c1_i32_239
  let v3318 : Index := Scalar.indexCast v342
  let c22_1481 : Index := 22#32
  let c0_1482 : Index := 0#32
  let c0_1483 : Index := 0#32
  ![v3317.toNat, 2, v3318.toNat, 22, 0, 0]
def k0_off679 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3322 : Index := Scalar.indexCast v343
  let c2_1484 : Index := 2#32
  let c1_i32_239 : BitVec 32 := 1#32
  let v342 : BitVec 32 := Scalar.addi arg1 c1_i32_239
  let v3323 : Index := Scalar.indexCast v342
  let c23_1485 : Index := 23#32
  let c0_1486 : Index := 0#32
  let c0_1487 : Index := 0#32
  ![v3322.toNat, 2, v3323.toNat, 23, 0, 0]
def k0_off680 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3327 : Index := Scalar.indexCast v343
  let c2_1488 : Index := 2#32
  let c1_i32_239 : BitVec 32 := 1#32
  let v342 : BitVec 32 := Scalar.addi arg1 c1_i32_239
  let v3328 : Index := Scalar.indexCast v342
  let c24_1489 : Index := 24#32
  let c0_1490 : Index := 0#32
  let c0_1491 : Index := 0#32
  ![v3327.toNat, 2, v3328.toNat, 24, 0, 0]
def k0_off681 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3332 : Index := Scalar.indexCast v343
  let c2_1492 : Index := 2#32
  let c1_i32_239 : BitVec 32 := 1#32
  let v342 : BitVec 32 := Scalar.addi arg1 c1_i32_239
  let v3333 : Index := Scalar.indexCast v342
  let c25_1493 : Index := 25#32
  let c0_1494 : Index := 0#32
  let c0_1495 : Index := 0#32
  ![v3332.toNat, 2, v3333.toNat, 25, 0, 0]
def k0_off682 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3337 : Index := Scalar.indexCast v343
  let c2_1496 : Index := 2#32
  let c1_i32_239 : BitVec 32 := 1#32
  let v342 : BitVec 32 := Scalar.addi arg1 c1_i32_239
  let v3338 : Index := Scalar.indexCast v342
  let c26_1497 : Index := 26#32
  let c0_1498 : Index := 0#32
  let c0_1499 : Index := 0#32
  ![v3337.toNat, 2, v3338.toNat, 26, 0, 0]
def k0_off683 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3342 : Index := Scalar.indexCast v343
  let c2_1500 : Index := 2#32
  let c1_i32_239 : BitVec 32 := 1#32
  let v342 : BitVec 32 := Scalar.addi arg1 c1_i32_239
  let v3343 : Index := Scalar.indexCast v342
  let c27_1501 : Index := 27#32
  let c0_1502 : Index := 0#32
  let c0_1503 : Index := 0#32
  ![v3342.toNat, 2, v3343.toNat, 27, 0, 0]
def k0_off684 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3347 : Index := Scalar.indexCast v343
  let c2_1504 : Index := 2#32
  let c1_i32_239 : BitVec 32 := 1#32
  let v342 : BitVec 32 := Scalar.addi arg1 c1_i32_239
  let v3348 : Index := Scalar.indexCast v342
  let c28_1505 : Index := 28#32
  let c0_1506 : Index := 0#32
  let c0_1507 : Index := 0#32
  ![v3347.toNat, 2, v3348.toNat, 28, 0, 0]
def k0_off685 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3352 : Index := Scalar.indexCast v343
  let c2_1508 : Index := 2#32
  let c1_i32_239 : BitVec 32 := 1#32
  let v342 : BitVec 32 := Scalar.addi arg1 c1_i32_239
  let v3353 : Index := Scalar.indexCast v342
  let c29_1509 : Index := 29#32
  let c0_1510 : Index := 0#32
  let c0_1511 : Index := 0#32
  ![v3352.toNat, 2, v3353.toNat, 29, 0, 0]
def k0_off686 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3357 : Index := Scalar.indexCast v343
  let c2_1512 : Index := 2#32
  let c1_i32_239 : BitVec 32 := 1#32
  let v342 : BitVec 32 := Scalar.addi arg1 c1_i32_239
  let v3358 : Index := Scalar.indexCast v342
  let c30_1513 : Index := 30#32
  let c0_1514 : Index := 0#32
  let c0_1515 : Index := 0#32
  ![v3357.toNat, 2, v3358.toNat, 30, 0, 0]
def k0_off687 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v3362 : Index := Scalar.indexCast v343
  let c2_1516 : Index := 2#32
  let c1_i32_239 : BitVec 32 := 1#32
  let v342 : BitVec 32 := Scalar.addi arg1 c1_i32_239
  let v3363 : Index := Scalar.indexCast v342
  let c31_1517 : Index := 31#32
  let c0_1518 : Index := 0#32
  let c0_1519 : Index := 0#32
  ![v3362.toNat, 2, v3363.toNat, 31, 0, 0]
def k0_off688 (i : grid0.Coords) : Fin 3 → Nat :=
  let c3_1520 : Index := 3#32
  let arg1 : BitVec 32 := BitVec.ofNat 32 (i 1).val
  let c1_i32_239 : BitVec 32 := 1#32
  let v342 : BitVec 32 := Scalar.addi arg1 c1_i32_239
  let c256_i32_241 : BitVec 32 := 256#32
  let v344 : BitVec 32 := Scalar.muli v342 c256_i32_241
  let v345 : BitVec 32 := v344
  let v3367 : Index := Scalar.indexCast v345
  let c0_1521 : Index := 0#32
  ![3, v3367.toNat, 0]
def k0_off689 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4214 : Index := Scalar.indexCast v343
  let c3_1831 : Index := 3#32
  let c1_i32_239 : BitVec 32 := 1#32
  let v342 : BitVec 32 := Scalar.addi arg1 c1_i32_239
  let v4215 : Index := Scalar.indexCast v342
  let c0_1832 : Index := 0#32
  let c0_1833 : Index := 0#32
  let c0_1834 : Index := 0#32
  ![v4214.toNat, 3, v4215.toNat, 0, 0, 0]
def k0_off690 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4219 : Index := Scalar.indexCast v343
  let c3_1835 : Index := 3#32
  let c1_i32_239 : BitVec 32 := 1#32
  let v342 : BitVec 32 := Scalar.addi arg1 c1_i32_239
  let v4220 : Index := Scalar.indexCast v342
  let c1_1836 : Index := 1#32
  let c0_1837 : Index := 0#32
  let c0_1838 : Index := 0#32
  ![v4219.toNat, 3, v4220.toNat, 1, 0, 0]
def k0_off691 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4224 : Index := Scalar.indexCast v343
  let c3_1839 : Index := 3#32
  let c1_i32_239 : BitVec 32 := 1#32
  let v342 : BitVec 32 := Scalar.addi arg1 c1_i32_239
  let v4225 : Index := Scalar.indexCast v342
  let c2_1840 : Index := 2#32
  let c0_1841 : Index := 0#32
  let c0_1842 : Index := 0#32
  ![v4224.toNat, 3, v4225.toNat, 2, 0, 0]
def k0_off692 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4229 : Index := Scalar.indexCast v343
  let c3_1843 : Index := 3#32
  let c1_i32_239 : BitVec 32 := 1#32
  let v342 : BitVec 32 := Scalar.addi arg1 c1_i32_239
  let v4230 : Index := Scalar.indexCast v342
  let c3_1844 : Index := 3#32
  let c0_1845 : Index := 0#32
  let c0_1846 : Index := 0#32
  ![v4229.toNat, 3, v4230.toNat, 3, 0, 0]
def k0_off693 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4234 : Index := Scalar.indexCast v343
  let c3_1847 : Index := 3#32
  let c1_i32_239 : BitVec 32 := 1#32
  let v342 : BitVec 32 := Scalar.addi arg1 c1_i32_239
  let v4235 : Index := Scalar.indexCast v342
  let c4_1848 : Index := 4#32
  let c0_1849 : Index := 0#32
  let c0_1850 : Index := 0#32
  ![v4234.toNat, 3, v4235.toNat, 4, 0, 0]
def k0_off694 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4239 : Index := Scalar.indexCast v343
  let c3_1851 : Index := 3#32
  let c1_i32_239 : BitVec 32 := 1#32
  let v342 : BitVec 32 := Scalar.addi arg1 c1_i32_239
  let v4240 : Index := Scalar.indexCast v342
  let c5_1852 : Index := 5#32
  let c0_1853 : Index := 0#32
  let c0_1854 : Index := 0#32
  ![v4239.toNat, 3, v4240.toNat, 5, 0, 0]
def k0_off695 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4244 : Index := Scalar.indexCast v343
  let c3_1855 : Index := 3#32
  let c1_i32_239 : BitVec 32 := 1#32
  let v342 : BitVec 32 := Scalar.addi arg1 c1_i32_239
  let v4245 : Index := Scalar.indexCast v342
  let c6_1856 : Index := 6#32
  let c0_1857 : Index := 0#32
  let c0_1858 : Index := 0#32
  ![v4244.toNat, 3, v4245.toNat, 6, 0, 0]
def k0_off696 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4249 : Index := Scalar.indexCast v343
  let c3_1859 : Index := 3#32
  let c1_i32_239 : BitVec 32 := 1#32
  let v342 : BitVec 32 := Scalar.addi arg1 c1_i32_239
  let v4250 : Index := Scalar.indexCast v342
  let c7_1860 : Index := 7#32
  let c0_1861 : Index := 0#32
  let c0_1862 : Index := 0#32
  ![v4249.toNat, 3, v4250.toNat, 7, 0, 0]
def k0_off697 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4254 : Index := Scalar.indexCast v343
  let c3_1863 : Index := 3#32
  let c1_i32_239 : BitVec 32 := 1#32
  let v342 : BitVec 32 := Scalar.addi arg1 c1_i32_239
  let v4255 : Index := Scalar.indexCast v342
  let c8_1864 : Index := 8#32
  let c0_1865 : Index := 0#32
  let c0_1866 : Index := 0#32
  ![v4254.toNat, 3, v4255.toNat, 8, 0, 0]
def k0_off698 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4259 : Index := Scalar.indexCast v343
  let c3_1867 : Index := 3#32
  let c1_i32_239 : BitVec 32 := 1#32
  let v342 : BitVec 32 := Scalar.addi arg1 c1_i32_239
  let v4260 : Index := Scalar.indexCast v342
  let c9_1868 : Index := 9#32
  let c0_1869 : Index := 0#32
  let c0_1870 : Index := 0#32
  ![v4259.toNat, 3, v4260.toNat, 9, 0, 0]
def k0_off699 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4264 : Index := Scalar.indexCast v343
  let c3_1871 : Index := 3#32
  let c1_i32_239 : BitVec 32 := 1#32
  let v342 : BitVec 32 := Scalar.addi arg1 c1_i32_239
  let v4265 : Index := Scalar.indexCast v342
  let c10_1872 : Index := 10#32
  let c0_1873 : Index := 0#32
  let c0_1874 : Index := 0#32
  ![v4264.toNat, 3, v4265.toNat, 10, 0, 0]
def k0_off700 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4269 : Index := Scalar.indexCast v343
  let c3_1875 : Index := 3#32
  let c1_i32_239 : BitVec 32 := 1#32
  let v342 : BitVec 32 := Scalar.addi arg1 c1_i32_239
  let v4270 : Index := Scalar.indexCast v342
  let c11_1876 : Index := 11#32
  let c0_1877 : Index := 0#32
  let c0_1878 : Index := 0#32
  ![v4269.toNat, 3, v4270.toNat, 11, 0, 0]
def k0_off701 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4274 : Index := Scalar.indexCast v343
  let c3_1879 : Index := 3#32
  let c1_i32_239 : BitVec 32 := 1#32
  let v342 : BitVec 32 := Scalar.addi arg1 c1_i32_239
  let v4275 : Index := Scalar.indexCast v342
  let c12_1880 : Index := 12#32
  let c0_1881 : Index := 0#32
  let c0_1882 : Index := 0#32
  ![v4274.toNat, 3, v4275.toNat, 12, 0, 0]
def k0_off702 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4279 : Index := Scalar.indexCast v343
  let c3_1883 : Index := 3#32
  let c1_i32_239 : BitVec 32 := 1#32
  let v342 : BitVec 32 := Scalar.addi arg1 c1_i32_239
  let v4280 : Index := Scalar.indexCast v342
  let c13_1884 : Index := 13#32
  let c0_1885 : Index := 0#32
  let c0_1886 : Index := 0#32
  ![v4279.toNat, 3, v4280.toNat, 13, 0, 0]
def k0_off703 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4284 : Index := Scalar.indexCast v343
  let c3_1887 : Index := 3#32
  let c1_i32_239 : BitVec 32 := 1#32
  let v342 : BitVec 32 := Scalar.addi arg1 c1_i32_239
  let v4285 : Index := Scalar.indexCast v342
  let c14_1888 : Index := 14#32
  let c0_1889 : Index := 0#32
  let c0_1890 : Index := 0#32
  ![v4284.toNat, 3, v4285.toNat, 14, 0, 0]
def k0_off704 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4289 : Index := Scalar.indexCast v343
  let c3_1891 : Index := 3#32
  let c1_i32_239 : BitVec 32 := 1#32
  let v342 : BitVec 32 := Scalar.addi arg1 c1_i32_239
  let v4290 : Index := Scalar.indexCast v342
  let c15_1892 : Index := 15#32
  let c0_1893 : Index := 0#32
  let c0_1894 : Index := 0#32
  ![v4289.toNat, 3, v4290.toNat, 15, 0, 0]
def k0_off705 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4294 : Index := Scalar.indexCast v343
  let c3_1895 : Index := 3#32
  let c1_i32_239 : BitVec 32 := 1#32
  let v342 : BitVec 32 := Scalar.addi arg1 c1_i32_239
  let v4295 : Index := Scalar.indexCast v342
  let c16_1896 : Index := 16#32
  let c0_1897 : Index := 0#32
  let c0_1898 : Index := 0#32
  ![v4294.toNat, 3, v4295.toNat, 16, 0, 0]
def k0_off706 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4299 : Index := Scalar.indexCast v343
  let c3_1899 : Index := 3#32
  let c1_i32_239 : BitVec 32 := 1#32
  let v342 : BitVec 32 := Scalar.addi arg1 c1_i32_239
  let v4300 : Index := Scalar.indexCast v342
  let c17_1900 : Index := 17#32
  let c0_1901 : Index := 0#32
  let c0_1902 : Index := 0#32
  ![v4299.toNat, 3, v4300.toNat, 17, 0, 0]
def k0_off707 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4304 : Index := Scalar.indexCast v343
  let c3_1903 : Index := 3#32
  let c1_i32_239 : BitVec 32 := 1#32
  let v342 : BitVec 32 := Scalar.addi arg1 c1_i32_239
  let v4305 : Index := Scalar.indexCast v342
  let c18_1904 : Index := 18#32
  let c0_1905 : Index := 0#32
  let c0_1906 : Index := 0#32
  ![v4304.toNat, 3, v4305.toNat, 18, 0, 0]
def k0_off708 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4309 : Index := Scalar.indexCast v343
  let c3_1907 : Index := 3#32
  let c1_i32_239 : BitVec 32 := 1#32
  let v342 : BitVec 32 := Scalar.addi arg1 c1_i32_239
  let v4310 : Index := Scalar.indexCast v342
  let c19_1908 : Index := 19#32
  let c0_1909 : Index := 0#32
  let c0_1910 : Index := 0#32
  ![v4309.toNat, 3, v4310.toNat, 19, 0, 0]
def k0_off709 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4314 : Index := Scalar.indexCast v343
  let c3_1911 : Index := 3#32
  let c1_i32_239 : BitVec 32 := 1#32
  let v342 : BitVec 32 := Scalar.addi arg1 c1_i32_239
  let v4315 : Index := Scalar.indexCast v342
  let c20_1912 : Index := 20#32
  let c0_1913 : Index := 0#32
  let c0_1914 : Index := 0#32
  ![v4314.toNat, 3, v4315.toNat, 20, 0, 0]
def k0_off710 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4319 : Index := Scalar.indexCast v343
  let c3_1915 : Index := 3#32
  let c1_i32_239 : BitVec 32 := 1#32
  let v342 : BitVec 32 := Scalar.addi arg1 c1_i32_239
  let v4320 : Index := Scalar.indexCast v342
  let c21_1916 : Index := 21#32
  let c0_1917 : Index := 0#32
  let c0_1918 : Index := 0#32
  ![v4319.toNat, 3, v4320.toNat, 21, 0, 0]
def k0_off711 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4324 : Index := Scalar.indexCast v343
  let c3_1919 : Index := 3#32
  let c1_i32_239 : BitVec 32 := 1#32
  let v342 : BitVec 32 := Scalar.addi arg1 c1_i32_239
  let v4325 : Index := Scalar.indexCast v342
  let c22_1920 : Index := 22#32
  let c0_1921 : Index := 0#32
  let c0_1922 : Index := 0#32
  ![v4324.toNat, 3, v4325.toNat, 22, 0, 0]
def k0_off712 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4329 : Index := Scalar.indexCast v343
  let c3_1923 : Index := 3#32
  let c1_i32_239 : BitVec 32 := 1#32
  let v342 : BitVec 32 := Scalar.addi arg1 c1_i32_239
  let v4330 : Index := Scalar.indexCast v342
  let c23_1924 : Index := 23#32
  let c0_1925 : Index := 0#32
  let c0_1926 : Index := 0#32
  ![v4329.toNat, 3, v4330.toNat, 23, 0, 0]
def k0_off713 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4334 : Index := Scalar.indexCast v343
  let c3_1927 : Index := 3#32
  let c1_i32_239 : BitVec 32 := 1#32
  let v342 : BitVec 32 := Scalar.addi arg1 c1_i32_239
  let v4335 : Index := Scalar.indexCast v342
  let c24_1928 : Index := 24#32
  let c0_1929 : Index := 0#32
  let c0_1930 : Index := 0#32
  ![v4334.toNat, 3, v4335.toNat, 24, 0, 0]
def k0_off714 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4339 : Index := Scalar.indexCast v343
  let c3_1931 : Index := 3#32
  let c1_i32_239 : BitVec 32 := 1#32
  let v342 : BitVec 32 := Scalar.addi arg1 c1_i32_239
  let v4340 : Index := Scalar.indexCast v342
  let c25_1932 : Index := 25#32
  let c0_1933 : Index := 0#32
  let c0_1934 : Index := 0#32
  ![v4339.toNat, 3, v4340.toNat, 25, 0, 0]
def k0_off715 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4344 : Index := Scalar.indexCast v343
  let c3_1935 : Index := 3#32
  let c1_i32_239 : BitVec 32 := 1#32
  let v342 : BitVec 32 := Scalar.addi arg1 c1_i32_239
  let v4345 : Index := Scalar.indexCast v342
  let c26_1936 : Index := 26#32
  let c0_1937 : Index := 0#32
  let c0_1938 : Index := 0#32
  ![v4344.toNat, 3, v4345.toNat, 26, 0, 0]
def k0_off716 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4349 : Index := Scalar.indexCast v343
  let c3_1939 : Index := 3#32
  let c1_i32_239 : BitVec 32 := 1#32
  let v342 : BitVec 32 := Scalar.addi arg1 c1_i32_239
  let v4350 : Index := Scalar.indexCast v342
  let c27_1940 : Index := 27#32
  let c0_1941 : Index := 0#32
  let c0_1942 : Index := 0#32
  ![v4349.toNat, 3, v4350.toNat, 27, 0, 0]
def k0_off717 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4354 : Index := Scalar.indexCast v343
  let c3_1943 : Index := 3#32
  let c1_i32_239 : BitVec 32 := 1#32
  let v342 : BitVec 32 := Scalar.addi arg1 c1_i32_239
  let v4355 : Index := Scalar.indexCast v342
  let c28_1944 : Index := 28#32
  let c0_1945 : Index := 0#32
  let c0_1946 : Index := 0#32
  ![v4354.toNat, 3, v4355.toNat, 28, 0, 0]
def k0_off718 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4359 : Index := Scalar.indexCast v343
  let c3_1947 : Index := 3#32
  let c1_i32_239 : BitVec 32 := 1#32
  let v342 : BitVec 32 := Scalar.addi arg1 c1_i32_239
  let v4360 : Index := Scalar.indexCast v342
  let c29_1948 : Index := 29#32
  let c0_1949 : Index := 0#32
  let c0_1950 : Index := 0#32
  ![v4359.toNat, 3, v4360.toNat, 29, 0, 0]
def k0_off719 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4364 : Index := Scalar.indexCast v343
  let c3_1951 : Index := 3#32
  let c1_i32_239 : BitVec 32 := 1#32
  let v342 : BitVec 32 := Scalar.addi arg1 c1_i32_239
  let v4365 : Index := Scalar.indexCast v342
  let c30_1952 : Index := 30#32
  let c0_1953 : Index := 0#32
  let c0_1954 : Index := 0#32
  ![v4364.toNat, 3, v4365.toNat, 30, 0, 0]
def k0_off720 (i : grid0.Coords) : Fin 6 → Nat :=
  let c1_i32_240 : BitVec 32 := 1#32
  let arg1 : BitVec 32 := BitVec.ofNat 32 (i 1).val
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg1 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let v343 : BitVec 32 := Scalar.subi c1_i32_240 v10
  let v4369 : Index := Scalar.indexCast v343
  let c3_1955 : Index := 3#32
  let c1_i32_239 : BitVec 32 := 1#32
  let v342 : BitVec 32 := Scalar.addi arg1 c1_i32_239
  let v4370 : Index := Scalar.indexCast v342
  let c31_1956 : Index := 31#32
  let c0_1957 : Index := 0#32
  let c0_1958 : Index := 0#32
  ![v4369.toNat, 3, v4370.toNat, 31, 0, 0]
def k0_cond12 (i : grid0.Coords) : BitVec 1 :=
  let arg1 : BitVec 32 := BitVec.ofNat 32 (i 1).val
  let c1_i32_57 : BitVec 32 := 1#32
  let v121 : BitVec 32 := Scalar.addi arg1 c1_i32_57
  let c8_i32_58 : BitVec 32 := 8#32
  let v122 : BitVec 1 := Scalar.cmpi .eq v121 c8_i32_58
  let v123 : BitVec 32 := Scalar.extui v122
  let c0_i32_59 : BitVec 32 := 0#32
  let v124 : BitVec 1 := Scalar.cmpi .ne v123 c0_i32_59
  v124

@[reducible] def k0_t15_loop (i : grid0.Coords) : Scf.Loop 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_229 : BitVec 32 := 1#32
  ⟨c0_i32_226, v326, c1_i32_229⟩
def k0_mult10 (i : grid0.Coords) (k0_t15 : Fin (k0_t15_loop i).trips) : BitVec 32 :=
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  v342
def k0_off721 (i : grid0.Coords) (k0_t15 : Fin (k0_t15_loop i).trips) (c0_i32_246 : BitVec 32) : Fin 4 → Nat :=
  let c0_247 : Index := 0#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let c0_i32_240 : BitVec 32 := 0#32
  let v345 : BitVec 1 := Scalar.cmpi .sgt v343 c0_i32_240
  let v346 : BitVec 32 := Scalar.extui v345
  let c0_i32_241 : BitVec 32 := 0#32
  let v347 : BitVec 1 := Scalar.cmpi .slt v343 c0_i32_241
  let v348 : BitVec 32 := Scalar.extui v347
  let v349 : BitVec 32 := Scalar.subi v346 v348
  let c256_i32_239 : BitVec 32 := 256#32
  let c0_i32_242 : BitVec 32 := 0#32
  let v350 : BitVec 1 := Scalar.cmpi .sgt c256_i32_239 c0_i32_242
  let v351 : BitVec 32 := Scalar.extui v350
  let c0_i32_243 : BitVec 32 := 0#32
  let v352 : BitVec 1 := Scalar.cmpi .slt c256_i32_239 c0_i32_243
  let v353 : BitVec 32 := Scalar.extui v352
  let v354 : BitVec 32 := Scalar.subi v351 v353
  let v355 : BitVec 1 := Scalar.cmpi .ne v349 v354
  let v356 : BitVec 32 := Scalar.remsi v343 c256_i32_239
  let c0_i32_244 : BitVec 32 := 0#32
  let v357 : BitVec 1 := Scalar.cmpi .ne v356 c0_i32_244
  let v358 : BitVec 1 := Scalar.andi v355 v357
  let v344 : BitVec 32 := Scalar.divsi v343 c256_i32_239
  let c1_i32_245 : BitVec 32 := 1#32
  let v359 : BitVec 32 := Scalar.subi v344 c1_i32_245
  let v360 : BitVec 32 := Scalar.select v358 v359 v344
  let v361 : BitVec 32 := Scalar.addi v360 c0_i32_246
  let v362 : Index := Scalar.indexCast v361
  let c0_248 : Index := 0#32
  let c0_249 : Index := 0#32
  ![0, v362.toNat, 0, 0]
def k0_off722 (i : grid0.Coords) (k0_t15 : Fin (k0_t15_loop i).trips) : Fin 3 → Nat :=
  let c0_494 : Index := 0#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v835 : Index := Scalar.indexCast v343
  let c0_495 : Index := 0#32
  ![0, v835.toNat, 0]
def k0_off723 (i : grid0.Coords) (k0_t15 : Fin (k0_t15_loop i).trips) (c0_i32_512 : BitVec 32) : Fin 4 → Nat :=
  let c1_513 : Index := 1#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let c0_i32_506 : BitVec 32 := 0#32
  let v849 : BitVec 1 := Scalar.cmpi .sgt v343 c0_i32_506
  let v850 : BitVec 32 := Scalar.extui v849
  let c0_i32_507 : BitVec 32 := 0#32
  let v851 : BitVec 1 := Scalar.cmpi .slt v343 c0_i32_507
  let v852 : BitVec 32 := Scalar.extui v851
  let v853 : BitVec 32 := Scalar.subi v850 v852
  let c256_i32_505 : BitVec 32 := 256#32
  let c0_i32_508 : BitVec 32 := 0#32
  let v854 : BitVec 1 := Scalar.cmpi .sgt c256_i32_505 c0_i32_508
  let v855 : BitVec 32 := Scalar.extui v854
  let c0_i32_509 : BitVec 32 := 0#32
  let v856 : BitVec 1 := Scalar.cmpi .slt c256_i32_505 c0_i32_509
  let v857 : BitVec 32 := Scalar.extui v856
  let v858 : BitVec 32 := Scalar.subi v855 v857
  let v859 : BitVec 1 := Scalar.cmpi .ne v853 v858
  let v860 : BitVec 32 := Scalar.remsi v343 c256_i32_505
  let c0_i32_510 : BitVec 32 := 0#32
  let v861 : BitVec 1 := Scalar.cmpi .ne v860 c0_i32_510
  let v862 : BitVec 1 := Scalar.andi v859 v861
  let v848 : BitVec 32 := Scalar.divsi v343 c256_i32_505
  let c1_i32_511 : BitVec 32 := 1#32
  let v863 : BitVec 32 := Scalar.subi v848 c1_i32_511
  let v864 : BitVec 32 := Scalar.select v862 v863 v848
  let v865 : BitVec 32 := Scalar.addi v864 c0_i32_512
  let v866 : Index := Scalar.indexCast v865
  let c0_514 : Index := 0#32
  let c0_515 : Index := 0#32
  ![1, v866.toNat, 0, 0]
def k0_off724 (i : grid0.Coords) (k0_t15 : Fin (k0_t15_loop i).trips) : Fin 3 → Nat :=
  let c1_783 : Index := 1#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v1339 : Index := Scalar.indexCast v343
  let c0_784 : Index := 0#32
  ![1, v1339.toNat, 0]
def k0_off725 (i : grid0.Coords) (k0_t15 : Fin (k0_t15_loop i).trips) : Fin 3 → Nat :=
  let c0_800 : Index := 0#32
  let c0_801 : Index := 0#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v1364 : Index := Scalar.indexCast v343
  ![0, 0, v1364.toNat]
def k0_off726 (i : grid0.Coords) (k0_t15 : Fin (k0_t15_loop i).trips) : Fin 3 → Nat :=
  let c1_815 : Index := 1#32
  let c0_816 : Index := 0#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v1387 : Index := Scalar.indexCast v343
  ![1, 0, v1387.toNat]
def k0_off727 (i : grid0.Coords) (k0_t15 : Fin (k0_t15_loop i).trips) (c0_i32_831 : BitVec 32) : Fin 4 → Nat :=
  let c2_832 : Index := 2#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let c0_i32_825 : BitVec 32 := 0#32
  let v1399 : BitVec 1 := Scalar.cmpi .sgt v343 c0_i32_825
  let v1400 : BitVec 32 := Scalar.extui v1399
  let c0_i32_826 : BitVec 32 := 0#32
  let v1401 : BitVec 1 := Scalar.cmpi .slt v343 c0_i32_826
  let v1402 : BitVec 32 := Scalar.extui v1401
  let v1403 : BitVec 32 := Scalar.subi v1400 v1402
  let c256_i32_824 : BitVec 32 := 256#32
  let c0_i32_827 : BitVec 32 := 0#32
  let v1404 : BitVec 1 := Scalar.cmpi .sgt c256_i32_824 c0_i32_827
  let v1405 : BitVec 32 := Scalar.extui v1404
  let c0_i32_828 : BitVec 32 := 0#32
  let v1406 : BitVec 1 := Scalar.cmpi .slt c256_i32_824 c0_i32_828
  let v1407 : BitVec 32 := Scalar.extui v1406
  let v1408 : BitVec 32 := Scalar.subi v1405 v1407
  let v1409 : BitVec 1 := Scalar.cmpi .ne v1403 v1408
  let v1410 : BitVec 32 := Scalar.remsi v343 c256_i32_824
  let c0_i32_829 : BitVec 32 := 0#32
  let v1411 : BitVec 1 := Scalar.cmpi .ne v1410 c0_i32_829
  let v1412 : BitVec 1 := Scalar.andi v1409 v1411
  let v1398 : BitVec 32 := Scalar.divsi v343 c256_i32_824
  let c1_i32_830 : BitVec 32 := 1#32
  let v1413 : BitVec 32 := Scalar.subi v1398 c1_i32_830
  let v1414 : BitVec 32 := Scalar.select v1412 v1413 v1398
  let v1415 : BitVec 32 := Scalar.addi v1414 c0_i32_831
  let v1416 : Index := Scalar.indexCast v1415
  let c0_833 : Index := 0#32
  let c0_834 : Index := 0#32
  ![2, v1416.toNat, 0, 0]
def k0_off728 (i : grid0.Coords) (k0_t15 : Fin (k0_t15_loop i).trips) : Fin 3 → Nat :=
  let c2_1102 : Index := 2#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v1889 : Index := Scalar.indexCast v343
  let c0_1103 : Index := 0#32
  ![2, v1889.toNat, 0]
def k0_off729 (i : grid0.Coords) (k0_t15 : Fin (k0_t15_loop i).trips) (c0_i32_1120 : BitVec 32) : Fin 4 → Nat :=
  let c3_1121 : Index := 3#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let c0_i32_1114 : BitVec 32 := 0#32
  let v1903 : BitVec 1 := Scalar.cmpi .sgt v343 c0_i32_1114
  let v1904 : BitVec 32 := Scalar.extui v1903
  let c0_i32_1115 : BitVec 32 := 0#32
  let v1905 : BitVec 1 := Scalar.cmpi .slt v343 c0_i32_1115
  let v1906 : BitVec 32 := Scalar.extui v1905
  let v1907 : BitVec 32 := Scalar.subi v1904 v1906
  let c256_i32_1113 : BitVec 32 := 256#32
  let c0_i32_1116 : BitVec 32 := 0#32
  let v1908 : BitVec 1 := Scalar.cmpi .sgt c256_i32_1113 c0_i32_1116
  let v1909 : BitVec 32 := Scalar.extui v1908
  let c0_i32_1117 : BitVec 32 := 0#32
  let v1910 : BitVec 1 := Scalar.cmpi .slt c256_i32_1113 c0_i32_1117
  let v1911 : BitVec 32 := Scalar.extui v1910
  let v1912 : BitVec 32 := Scalar.subi v1909 v1911
  let v1913 : BitVec 1 := Scalar.cmpi .ne v1907 v1912
  let v1914 : BitVec 32 := Scalar.remsi v343 c256_i32_1113
  let c0_i32_1118 : BitVec 32 := 0#32
  let v1915 : BitVec 1 := Scalar.cmpi .ne v1914 c0_i32_1118
  let v1916 : BitVec 1 := Scalar.andi v1913 v1915
  let v1902 : BitVec 32 := Scalar.divsi v343 c256_i32_1113
  let c1_i32_1119 : BitVec 32 := 1#32
  let v1917 : BitVec 32 := Scalar.subi v1902 c1_i32_1119
  let v1918 : BitVec 32 := Scalar.select v1916 v1917 v1902
  let v1919 : BitVec 32 := Scalar.addi v1918 c0_i32_1120
  let v1920 : Index := Scalar.indexCast v1919
  let c0_1122 : Index := 0#32
  let c0_1123 : Index := 0#32
  ![3, v1920.toNat, 0, 0]
def k0_off730 (i : grid0.Coords) (k0_t15 : Fin (k0_t15_loop i).trips) : Fin 3 → Nat :=
  let c3_1391 : Index := 3#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v2393 : Index := Scalar.indexCast v343
  let c0_1392 : Index := 0#32
  ![3, v2393.toNat, 0]
def k0_off731 (i : grid0.Coords) (k0_t15 : Fin (k0_t15_loop i).trips) : Fin 3 → Nat :=
  let c2_1408 : Index := 2#32
  let c0_1409 : Index := 0#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v2418 : Index := Scalar.indexCast v343
  ![2, 0, v2418.toNat]
def k0_off732 (i : grid0.Coords) (k0_t15 : Fin (k0_t15_loop i).trips) : Fin 3 → Nat :=
  let c3_1423 : Index := 3#32
  let c0_1424 : Index := 0#32
  let c0_i32_226 : BitVec 32 := 0#32
  let c1_i32_229 : BitVec 32 := 1#32
  let arg19 : BitVec 32 := Scf.iv c0_i32_226 c1_i32_229 k0_t15
  let c512_i32 : BitVec 32 := 512#32
  let v342 : BitVec 32 := Scalar.muli arg19 c512_i32
  let v343 : BitVec 32 := v342
  let v2441 : Index := Scalar.indexCast v343
  ![3, 0, v2441.toNat]
@[reducible] def k0_t16_loop (i : grid0.Coords) : Scf.Loop 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let v323 : BitVec 32 := Scalar.addi c0_i32_226 v322
  let c1_i32_230 : BitVec 32 := 1#32
  ⟨v326, v323, c1_i32_230⟩
def k0_mult11 (i : grid0.Coords) (k0_t16 : Fin (k0_t16_loop i).trips) : BitVec 32 :=
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  v342
def k0_off733 (i : grid0.Coords) (k0_t16 : Fin (k0_t16_loop i).trips) (c0_i32_246 : BitVec 32) : Fin 4 → Nat :=
  let c0_247 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let c0_i32_240 : BitVec 32 := 0#32
  let v345 : BitVec 1 := Scalar.cmpi .sgt v343 c0_i32_240
  let v346 : BitVec 32 := Scalar.extui v345
  let c0_i32_241 : BitVec 32 := 0#32
  let v347 : BitVec 1 := Scalar.cmpi .slt v343 c0_i32_241
  let v348 : BitVec 32 := Scalar.extui v347
  let v349 : BitVec 32 := Scalar.subi v346 v348
  let c256_i32_239 : BitVec 32 := 256#32
  let c0_i32_242 : BitVec 32 := 0#32
  let v350 : BitVec 1 := Scalar.cmpi .sgt c256_i32_239 c0_i32_242
  let v351 : BitVec 32 := Scalar.extui v350
  let c0_i32_243 : BitVec 32 := 0#32
  let v352 : BitVec 1 := Scalar.cmpi .slt c256_i32_239 c0_i32_243
  let v353 : BitVec 32 := Scalar.extui v352
  let v354 : BitVec 32 := Scalar.subi v351 v353
  let v355 : BitVec 1 := Scalar.cmpi .ne v349 v354
  let v356 : BitVec 32 := Scalar.remsi v343 c256_i32_239
  let c0_i32_244 : BitVec 32 := 0#32
  let v357 : BitVec 1 := Scalar.cmpi .ne v356 c0_i32_244
  let v358 : BitVec 1 := Scalar.andi v355 v357
  let v344 : BitVec 32 := Scalar.divsi v343 c256_i32_239
  let c1_i32_245 : BitVec 32 := 1#32
  let v359 : BitVec 32 := Scalar.subi v344 c1_i32_245
  let v360 : BitVec 32 := Scalar.select v358 v359 v344
  let v361 : BitVec 32 := Scalar.addi v360 c0_i32_246
  let v362 : Index := Scalar.indexCast v361
  let c0_248 : Index := 0#32
  let c0_249 : Index := 0#32
  ![0, v362.toNat, 0, 0]
def k0_off734 (i : grid0.Coords) (k0_t16 : Fin (k0_t16_loop i).trips) : Fin 3 → Nat :=
  let c0_494 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v835 : Index := Scalar.indexCast v343
  let c0_495 : Index := 0#32
  ![0, v835.toNat, 0]
def k0_off735 (i : grid0.Coords) (k0_t16 : Fin (k0_t16_loop i).trips) (c0_i32_512 : BitVec 32) : Fin 4 → Nat :=
  let c1_513 : Index := 1#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let c0_i32_506 : BitVec 32 := 0#32
  let v849 : BitVec 1 := Scalar.cmpi .sgt v343 c0_i32_506
  let v850 : BitVec 32 := Scalar.extui v849
  let c0_i32_507 : BitVec 32 := 0#32
  let v851 : BitVec 1 := Scalar.cmpi .slt v343 c0_i32_507
  let v852 : BitVec 32 := Scalar.extui v851
  let v853 : BitVec 32 := Scalar.subi v850 v852
  let c256_i32_505 : BitVec 32 := 256#32
  let c0_i32_508 : BitVec 32 := 0#32
  let v854 : BitVec 1 := Scalar.cmpi .sgt c256_i32_505 c0_i32_508
  let v855 : BitVec 32 := Scalar.extui v854
  let c0_i32_509 : BitVec 32 := 0#32
  let v856 : BitVec 1 := Scalar.cmpi .slt c256_i32_505 c0_i32_509
  let v857 : BitVec 32 := Scalar.extui v856
  let v858 : BitVec 32 := Scalar.subi v855 v857
  let v859 : BitVec 1 := Scalar.cmpi .ne v853 v858
  let v860 : BitVec 32 := Scalar.remsi v343 c256_i32_505
  let c0_i32_510 : BitVec 32 := 0#32
  let v861 : BitVec 1 := Scalar.cmpi .ne v860 c0_i32_510
  let v862 : BitVec 1 := Scalar.andi v859 v861
  let v848 : BitVec 32 := Scalar.divsi v343 c256_i32_505
  let c1_i32_511 : BitVec 32 := 1#32
  let v863 : BitVec 32 := Scalar.subi v848 c1_i32_511
  let v864 : BitVec 32 := Scalar.select v862 v863 v848
  let v865 : BitVec 32 := Scalar.addi v864 c0_i32_512
  let v866 : Index := Scalar.indexCast v865
  let c0_514 : Index := 0#32
  let c0_515 : Index := 0#32
  ![1, v866.toNat, 0, 0]
def k0_off736 (i : grid0.Coords) (k0_t16 : Fin (k0_t16_loop i).trips) : Fin 3 → Nat :=
  let c1_783 : Index := 1#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v1339 : Index := Scalar.indexCast v343
  let c0_784 : Index := 0#32
  ![1, v1339.toNat, 0]
def k0_off737 (i : grid0.Coords) (k0_t16 : Fin (k0_t16_loop i).trips) : Fin 3 → Nat :=
  let c0_800 : Index := 0#32
  let c0_801 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v1364 : Index := Scalar.indexCast v343
  ![0, 0, v1364.toNat]
def k0_off738 (i : grid0.Coords) (k0_t16 : Fin (k0_t16_loop i).trips) : Fin 3 → Nat :=
  let c1_815 : Index := 1#32
  let c0_816 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v1387 : Index := Scalar.indexCast v343
  ![1, 0, v1387.toNat]
def k0_off739 (i : grid0.Coords) (k0_t16 : Fin (k0_t16_loop i).trips) (c0_i32_831 : BitVec 32) : Fin 4 → Nat :=
  let c2_832 : Index := 2#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let c0_i32_825 : BitVec 32 := 0#32
  let v1399 : BitVec 1 := Scalar.cmpi .sgt v343 c0_i32_825
  let v1400 : BitVec 32 := Scalar.extui v1399
  let c0_i32_826 : BitVec 32 := 0#32
  let v1401 : BitVec 1 := Scalar.cmpi .slt v343 c0_i32_826
  let v1402 : BitVec 32 := Scalar.extui v1401
  let v1403 : BitVec 32 := Scalar.subi v1400 v1402
  let c256_i32_824 : BitVec 32 := 256#32
  let c0_i32_827 : BitVec 32 := 0#32
  let v1404 : BitVec 1 := Scalar.cmpi .sgt c256_i32_824 c0_i32_827
  let v1405 : BitVec 32 := Scalar.extui v1404
  let c0_i32_828 : BitVec 32 := 0#32
  let v1406 : BitVec 1 := Scalar.cmpi .slt c256_i32_824 c0_i32_828
  let v1407 : BitVec 32 := Scalar.extui v1406
  let v1408 : BitVec 32 := Scalar.subi v1405 v1407
  let v1409 : BitVec 1 := Scalar.cmpi .ne v1403 v1408
  let v1410 : BitVec 32 := Scalar.remsi v343 c256_i32_824
  let c0_i32_829 : BitVec 32 := 0#32
  let v1411 : BitVec 1 := Scalar.cmpi .ne v1410 c0_i32_829
  let v1412 : BitVec 1 := Scalar.andi v1409 v1411
  let v1398 : BitVec 32 := Scalar.divsi v343 c256_i32_824
  let c1_i32_830 : BitVec 32 := 1#32
  let v1413 : BitVec 32 := Scalar.subi v1398 c1_i32_830
  let v1414 : BitVec 32 := Scalar.select v1412 v1413 v1398
  let v1415 : BitVec 32 := Scalar.addi v1414 c0_i32_831
  let v1416 : Index := Scalar.indexCast v1415
  let c0_833 : Index := 0#32
  let c0_834 : Index := 0#32
  ![2, v1416.toNat, 0, 0]
def k0_off740 (i : grid0.Coords) (k0_t16 : Fin (k0_t16_loop i).trips) : Fin 3 → Nat :=
  let c2_1102 : Index := 2#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v1889 : Index := Scalar.indexCast v343
  let c0_1103 : Index := 0#32
  ![2, v1889.toNat, 0]
def k0_off741 (i : grid0.Coords) (k0_t16 : Fin (k0_t16_loop i).trips) (c0_i32_1120 : BitVec 32) : Fin 4 → Nat :=
  let c3_1121 : Index := 3#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let c0_i32_1114 : BitVec 32 := 0#32
  let v1903 : BitVec 1 := Scalar.cmpi .sgt v343 c0_i32_1114
  let v1904 : BitVec 32 := Scalar.extui v1903
  let c0_i32_1115 : BitVec 32 := 0#32
  let v1905 : BitVec 1 := Scalar.cmpi .slt v343 c0_i32_1115
  let v1906 : BitVec 32 := Scalar.extui v1905
  let v1907 : BitVec 32 := Scalar.subi v1904 v1906
  let c256_i32_1113 : BitVec 32 := 256#32
  let c0_i32_1116 : BitVec 32 := 0#32
  let v1908 : BitVec 1 := Scalar.cmpi .sgt c256_i32_1113 c0_i32_1116
  let v1909 : BitVec 32 := Scalar.extui v1908
  let c0_i32_1117 : BitVec 32 := 0#32
  let v1910 : BitVec 1 := Scalar.cmpi .slt c256_i32_1113 c0_i32_1117
  let v1911 : BitVec 32 := Scalar.extui v1910
  let v1912 : BitVec 32 := Scalar.subi v1909 v1911
  let v1913 : BitVec 1 := Scalar.cmpi .ne v1907 v1912
  let v1914 : BitVec 32 := Scalar.remsi v343 c256_i32_1113
  let c0_i32_1118 : BitVec 32 := 0#32
  let v1915 : BitVec 1 := Scalar.cmpi .ne v1914 c0_i32_1118
  let v1916 : BitVec 1 := Scalar.andi v1913 v1915
  let v1902 : BitVec 32 := Scalar.divsi v343 c256_i32_1113
  let c1_i32_1119 : BitVec 32 := 1#32
  let v1917 : BitVec 32 := Scalar.subi v1902 c1_i32_1119
  let v1918 : BitVec 32 := Scalar.select v1916 v1917 v1902
  let v1919 : BitVec 32 := Scalar.addi v1918 c0_i32_1120
  let v1920 : Index := Scalar.indexCast v1919
  let c0_1122 : Index := 0#32
  let c0_1123 : Index := 0#32
  ![3, v1920.toNat, 0, 0]
def k0_off742 (i : grid0.Coords) (k0_t16 : Fin (k0_t16_loop i).trips) : Fin 3 → Nat :=
  let c3_1391 : Index := 3#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v2393 : Index := Scalar.indexCast v343
  let c0_1392 : Index := 0#32
  ![3, v2393.toNat, 0]
def k0_off743 (i : grid0.Coords) (k0_t16 : Fin (k0_t16_loop i).trips) : Fin 3 → Nat :=
  let c2_1408 : Index := 2#32
  let c0_1409 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v2418 : Index := Scalar.indexCast v343
  ![2, 0, v2418.toNat]
def k0_off744 (i : grid0.Coords) (k0_t16 : Fin (k0_t16_loop i).trips) : Fin 3 → Nat :=
  let c3_1423 : Index := 3#32
  let c0_1424 : Index := 0#32
  let c0_i32_226 : BitVec 32 := 0#32
  let arg1 : BitVec 32 := BitVec.ofNat 32 (i 1).val
  let c1_i32 : BitVec 32 := 1#32
  let v0 : BitVec 32 := Scalar.addi arg1 c1_i32
  let c0_i32_220 : BitVec 32 := 0#32
  let v306 : BitVec 1 := Scalar.cmpi .sgt v0 c0_i32_220
  let v307 : BitVec 32 := Scalar.extui v306
  let c0_i32_221 : BitVec 32 := 0#32
  let v308 : BitVec 1 := Scalar.cmpi .slt v0 c0_i32_221
  let v309 : BitVec 32 := Scalar.extui v308
  let v310 : BitVec 32 := Scalar.subi v307 v309
  let c2_i32_219 : BitVec 32 := 2#32
  let c0_i32_222 : BitVec 32 := 0#32
  let v311 : BitVec 1 := Scalar.cmpi .sgt c2_i32_219 c0_i32_222
  let v312 : BitVec 32 := Scalar.extui v311
  let c0_i32_223 : BitVec 32 := 0#32
  let v313 : BitVec 1 := Scalar.cmpi .slt c2_i32_219 c0_i32_223
  let v314 : BitVec 32 := Scalar.extui v313
  let v315 : BitVec 32 := Scalar.subi v312 v314
  let v316 : BitVec 1 := Scalar.cmpi .ne v310 v315
  let v317 : BitVec 32 := Scalar.remsi v0 c2_i32_219
  let c0_i32_224 : BitVec 32 := 0#32
  let v318 : BitVec 1 := Scalar.cmpi .ne v317 c0_i32_224
  let v319 : BitVec 1 := Scalar.andi v316 v318
  let v305 : BitVec 32 := Scalar.divsi v0 c2_i32_219
  let c1_i32_225 : BitVec 32 := 1#32
  let v320 : BitVec 32 := Scalar.subi v305 c1_i32_225
  let v321 : BitVec 32 := Scalar.select v319 v320 v305
  let v322 : BitVec 32 := Scalar.subi v321 c0_i32_226
  let c1_i32_228 : BitVec 32 := 1#32
  let v324 : BitVec 32 := Scalar.divsi v322 c1_i32_228
  let v325 : BitVec 32 := Scalar.muli v324 c1_i32_228
  let v326 : BitVec 32 := Scalar.addi c0_i32_226 v325
  let c1_i32_230 : BitVec 32 := 1#32
  let arg19 : BitVec 32 := Scf.iv v326 c1_i32_230 k0_t16
  let c512_i32 : BitVec 32 := 512#32
  let v342 : BitVec 32 := Scalar.muli arg19 c512_i32
  let v343 : BitVec 32 := v342
  let v2441 : Index := Scalar.indexCast v343
  ![3, 0, v2441.toNat]
def k0_cond13 (i : grid0.Coords) : BitVec 1 :=
  let arg1 : BitVec 32 := BitVec.ofNat 32 (i 1).val
  let c1_i32 : BitVec 32 := 1#32
  let v0 : BitVec 32 := Scalar.addi arg1 c1_i32
  let c2_i32_231 : BitVec 32 := 2#32
  let c0_i32_232 : BitVec 32 := 0#32
  let v329 : BitVec 1 := Scalar.cmpi .eq c2_i32_231 c0_i32_232
  let c1_i32_233 : BitVec 32 := 1#32
  let v330 : BitVec 32 := Scalar.select v329 c1_i32_233 c2_i32_231
  let v331 : BitVec 32 := Scalar.remsi v0 v330
  let c0_i32_235 : BitVec 32 := 0#32
  let v333 : BitVec 1 := Scalar.cmpi .slt v331 c0_i32_235
  let c0_i32_236 : BitVec 32 := 0#32
  let v334 : BitVec 1 := Scalar.cmpi .slt v330 c0_i32_236
  let v335 : BitVec 1 := Scalar.xori v333 v334
  let c0_i32_234 : BitVec 32 := 0#32
  let v332 : BitVec 1 := Scalar.cmpi .ne v331 c0_i32_234
  let v336 : BitVec 1 := Scalar.andi v335 v332
  let v337 : BitVec 32 := Scalar.addi v331 v330
  let v338 : BitVec 32 := Scalar.select v336 v337 v331
  let c1_i32_237 : BitVec 32 := 1#32
  let v339 : BitVec 1 := Scalar.cmpi .sge v338 c1_i32_237
  let v340 : BitVec 32 := Scalar.extui v339
  let c0_i32_238 : BitVec 32 := 0#32
  let v341 : BitVec 1 := Scalar.cmpi .ne v340 c0_i32_238
  v341

def k0_mult12 (i : grid0.Coords) : BitVec 32 :=
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  v355
def k0_off745 (i : grid0.Coords) : Fin 4 → Nat :=
  let c0_256 : Index := 0#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let c0_i32_249 : BitVec 32 := 0#32
  let v358 : BitVec 1 := Scalar.cmpi .sgt v356 c0_i32_249
  let v359 : BitVec 32 := Scalar.extui v358
  let c0_i32_250 : BitVec 32 := 0#32
  let v360 : BitVec 1 := Scalar.cmpi .slt v356 c0_i32_250
  let v361 : BitVec 32 := Scalar.extui v360
  let v362 : BitVec 32 := Scalar.subi v359 v361
  let c256_i32_248 : BitVec 32 := 256#32
  let c0_i32_251 : BitVec 32 := 0#32
  let v363 : BitVec 1 := Scalar.cmpi .sgt c256_i32_248 c0_i32_251
  let v364 : BitVec 32 := Scalar.extui v363
  let c0_i32_252 : BitVec 32 := 0#32
  let v365 : BitVec 1 := Scalar.cmpi .slt c256_i32_248 c0_i32_252
  let v366 : BitVec 32 := Scalar.extui v365
  let v367 : BitVec 32 := Scalar.subi v364 v366
  let v368 : BitVec 1 := Scalar.cmpi .ne v362 v367
  let v369 : BitVec 32 := Scalar.remsi v356 c256_i32_248
  let c0_i32_253 : BitVec 32 := 0#32
  let v370 : BitVec 1 := Scalar.cmpi .ne v369 c0_i32_253
  let v371 : BitVec 1 := Scalar.andi v368 v370
  let v357 : BitVec 32 := Scalar.divsi v356 c256_i32_248
  let c1_i32_254 : BitVec 32 := 1#32
  let v372 : BitVec 32 := Scalar.subi v357 c1_i32_254
  let v373 : BitVec 32 := Scalar.select v371 v372 v357
  let c0_i32_255 : BitVec 32 := 0#32
  let v374 : BitVec 32 := Scalar.addi v373 c0_i32_255
  let v375 : Index := Scalar.indexCast v374
  let c0_257 : Index := 0#32
  let c0_258 : Index := 0#32
  ![0, v375.toNat, 0, 0]
def k0_off746 (i : grid0.Coords) : Fin 3 → Nat :=
  let c0_364 : Index := 0#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v603 : Index := Scalar.indexCast v356
  let c0_365 : Index := 0#32
  ![0, v603.toNat, 0]
def k0_off747 (i : grid0.Coords) : Fin 4 → Nat :=
  let c1_383 : Index := 1#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let c0_i32_376 : BitVec 32 := 0#32
  let v617 : BitVec 1 := Scalar.cmpi .sgt v356 c0_i32_376
  let v618 : BitVec 32 := Scalar.extui v617
  let c0_i32_377 : BitVec 32 := 0#32
  let v619 : BitVec 1 := Scalar.cmpi .slt v356 c0_i32_377
  let v620 : BitVec 32 := Scalar.extui v619
  let v621 : BitVec 32 := Scalar.subi v618 v620
  let c256_i32_375 : BitVec 32 := 256#32
  let c0_i32_378 : BitVec 32 := 0#32
  let v622 : BitVec 1 := Scalar.cmpi .sgt c256_i32_375 c0_i32_378
  let v623 : BitVec 32 := Scalar.extui v622
  let c0_i32_379 : BitVec 32 := 0#32
  let v624 : BitVec 1 := Scalar.cmpi .slt c256_i32_375 c0_i32_379
  let v625 : BitVec 32 := Scalar.extui v624
  let v626 : BitVec 32 := Scalar.subi v623 v625
  let v627 : BitVec 1 := Scalar.cmpi .ne v621 v626
  let v628 : BitVec 32 := Scalar.remsi v356 c256_i32_375
  let c0_i32_380 : BitVec 32 := 0#32
  let v629 : BitVec 1 := Scalar.cmpi .ne v628 c0_i32_380
  let v630 : BitVec 1 := Scalar.andi v627 v629
  let v616 : BitVec 32 := Scalar.divsi v356 c256_i32_375
  let c1_i32_381 : BitVec 32 := 1#32
  let v631 : BitVec 32 := Scalar.subi v616 c1_i32_381
  let v632 : BitVec 32 := Scalar.select v630 v631 v616
  let c0_i32_382 : BitVec 32 := 0#32
  let v633 : BitVec 32 := Scalar.addi v632 c0_i32_382
  let v634 : Index := Scalar.indexCast v633
  let c0_384 : Index := 0#32
  let c0_385 : Index := 0#32
  ![1, v634.toNat, 0, 0]
def k0_off748 (i : grid0.Coords) : Fin 3 → Nat :=
  let c1_514 : Index := 1#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v862 : Index := Scalar.indexCast v356
  let c0_515 : Index := 0#32
  ![1, v862.toNat, 0]
def k0_off749 (i : grid0.Coords) : Fin 3 → Nat :=
  let c0_531 : Index := 0#32
  let c0_532 : Index := 0#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v887 : Index := Scalar.indexCast v356
  ![0, 0, v887.toNat]
def k0_off750 (i : grid0.Coords) : Fin 3 → Nat :=
  let c1_546 : Index := 1#32
  let c0_547 : Index := 0#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v910 : Index := Scalar.indexCast v356
  ![1, 0, v910.toNat]
def k0_off751 (i : grid0.Coords) : Fin 4 → Nat :=
  let c2_563 : Index := 2#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let c0_i32_556 : BitVec 32 := 0#32
  let v922 : BitVec 1 := Scalar.cmpi .sgt v356 c0_i32_556
  let v923 : BitVec 32 := Scalar.extui v922
  let c0_i32_557 : BitVec 32 := 0#32
  let v924 : BitVec 1 := Scalar.cmpi .slt v356 c0_i32_557
  let v925 : BitVec 32 := Scalar.extui v924
  let v926 : BitVec 32 := Scalar.subi v923 v925
  let c256_i32_555 : BitVec 32 := 256#32
  let c0_i32_558 : BitVec 32 := 0#32
  let v927 : BitVec 1 := Scalar.cmpi .sgt c256_i32_555 c0_i32_558
  let v928 : BitVec 32 := Scalar.extui v927
  let c0_i32_559 : BitVec 32 := 0#32
  let v929 : BitVec 1 := Scalar.cmpi .slt c256_i32_555 c0_i32_559
  let v930 : BitVec 32 := Scalar.extui v929
  let v931 : BitVec 32 := Scalar.subi v928 v930
  let v932 : BitVec 1 := Scalar.cmpi .ne v926 v931
  let v933 : BitVec 32 := Scalar.remsi v356 c256_i32_555
  let c0_i32_560 : BitVec 32 := 0#32
  let v934 : BitVec 1 := Scalar.cmpi .ne v933 c0_i32_560
  let v935 : BitVec 1 := Scalar.andi v932 v934
  let v921 : BitVec 32 := Scalar.divsi v356 c256_i32_555
  let c1_i32_561 : BitVec 32 := 1#32
  let v936 : BitVec 32 := Scalar.subi v921 c1_i32_561
  let v937 : BitVec 32 := Scalar.select v935 v936 v921
  let c0_i32_562 : BitVec 32 := 0#32
  let v938 : BitVec 32 := Scalar.addi v937 c0_i32_562
  let v939 : Index := Scalar.indexCast v938
  let c0_564 : Index := 0#32
  let c0_565 : Index := 0#32
  ![2, v939.toNat, 0, 0]
def k0_off752 (i : grid0.Coords) : Fin 3 → Nat :=
  let c2_694 : Index := 2#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v1167 : Index := Scalar.indexCast v356
  let c0_695 : Index := 0#32
  ![2, v1167.toNat, 0]
def k0_off753 (i : grid0.Coords) : Fin 4 → Nat :=
  let c3_713 : Index := 3#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let c0_i32_706 : BitVec 32 := 0#32
  let v1181 : BitVec 1 := Scalar.cmpi .sgt v356 c0_i32_706
  let v1182 : BitVec 32 := Scalar.extui v1181
  let c0_i32_707 : BitVec 32 := 0#32
  let v1183 : BitVec 1 := Scalar.cmpi .slt v356 c0_i32_707
  let v1184 : BitVec 32 := Scalar.extui v1183
  let v1185 : BitVec 32 := Scalar.subi v1182 v1184
  let c256_i32_705 : BitVec 32 := 256#32
  let c0_i32_708 : BitVec 32 := 0#32
  let v1186 : BitVec 1 := Scalar.cmpi .sgt c256_i32_705 c0_i32_708
  let v1187 : BitVec 32 := Scalar.extui v1186
  let c0_i32_709 : BitVec 32 := 0#32
  let v1188 : BitVec 1 := Scalar.cmpi .slt c256_i32_705 c0_i32_709
  let v1189 : BitVec 32 := Scalar.extui v1188
  let v1190 : BitVec 32 := Scalar.subi v1187 v1189
  let v1191 : BitVec 1 := Scalar.cmpi .ne v1185 v1190
  let v1192 : BitVec 32 := Scalar.remsi v356 c256_i32_705
  let c0_i32_710 : BitVec 32 := 0#32
  let v1193 : BitVec 1 := Scalar.cmpi .ne v1192 c0_i32_710
  let v1194 : BitVec 1 := Scalar.andi v1191 v1193
  let v1180 : BitVec 32 := Scalar.divsi v356 c256_i32_705
  let c1_i32_711 : BitVec 32 := 1#32
  let v1195 : BitVec 32 := Scalar.subi v1180 c1_i32_711
  let v1196 : BitVec 32 := Scalar.select v1194 v1195 v1180
  let c0_i32_712 : BitVec 32 := 0#32
  let v1197 : BitVec 32 := Scalar.addi v1196 c0_i32_712
  let v1198 : Index := Scalar.indexCast v1197
  let c0_714 : Index := 0#32
  let c0_715 : Index := 0#32
  ![3, v1198.toNat, 0, 0]
def k0_off754 (i : grid0.Coords) : Fin 3 → Nat :=
  let c3_844 : Index := 3#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v1426 : Index := Scalar.indexCast v356
  let c0_845 : Index := 0#32
  ![3, v1426.toNat, 0]
def k0_off755 (i : grid0.Coords) : Fin 3 → Nat :=
  let c2_861 : Index := 2#32
  let c0_862 : Index := 0#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v1451 : Index := Scalar.indexCast v356
  ![2, 0, v1451.toNat]
def k0_off756 (i : grid0.Coords) : Fin 3 → Nat :=
  let c3_876 : Index := 3#32
  let c0_877 : Index := 0#32
  let arg1 : BitVec 32 := BitVec.ofNat 32 (i 1).val
  let c1_i32 : BitVec 32 := 1#32
  let v0 : BitVec 32 := Scalar.addi arg1 c1_i32
  let c2_i32_239 : BitVec 32 := 2#32
  let c0_i32_240 : BitVec 32 := 0#32
  let v342 : BitVec 1 := Scalar.cmpi .eq c2_i32_239 c0_i32_240
  let c1_i32_241 : BitVec 32 := 1#32
  let v343 : BitVec 32 := Scalar.select v342 c1_i32_241 c2_i32_239
  let v344 : BitVec 32 := Scalar.remsi v0 v343
  let c0_i32_243 : BitVec 32 := 0#32
  let v346 : BitVec 1 := Scalar.cmpi .slt v344 c0_i32_243
  let c0_i32_244 : BitVec 32 := 0#32
  let v347 : BitVec 1 := Scalar.cmpi .slt v343 c0_i32_244
  let v348 : BitVec 1 := Scalar.xori v346 v347
  let c0_i32_242 : BitVec 32 := 0#32
  let v345 : BitVec 1 := Scalar.cmpi .ne v344 c0_i32_242
  let v349 : BitVec 1 := Scalar.andi v348 v345
  let v350 : BitVec 32 := Scalar.addi v344 v343
  let v351 : BitVec 32 := Scalar.select v349 v350 v344
  let v352 : BitVec 32 := Scalar.subi v0 v351
  let c1_i32_245 : BitVec 32 := 1#32
  let v353 : BitVec 32 := Scalar.addi v352 c1_i32_245
  let c1_i32_246 : BitVec 32 := 1#32
  let v354 : BitVec 32 := Scalar.subi v353 c1_i32_246
  let c256_i32_247 : BitVec 32 := 256#32
  let v355 : BitVec 32 := Scalar.muli v354 c256_i32_247
  let v356 : BitVec 32 := v355
  let v1474 : Index := Scalar.indexCast v356
  ![3, 0, v1474.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x144x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Ffn.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 13
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S65536x1024, .f32⟩
  | .hbm, ⟨12, _⟩ => ⟨S32x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x2816, .f32⟩
  | .hbm, ⟨22, _⟩ => ⟨S32x2048x2816, .f32⟩
  | .hbm, ⟨23, _⟩ => ⟨S32x2048x2816, .f32⟩
  | .hbm, ⟨24, _⟩ => ⟨S_, .f32⟩
  | .hbm, ⟨25, _⟩ => ⟨S32x2048x2816, .f32⟩
  | .hbm, ⟨26, _⟩ => ⟨S32x2048x2816, .f32⟩
  | .hbm, ⟨27, _⟩ => ⟨S_, .f32⟩
  | .hbm, ⟨28, _⟩ => ⟨S32x2048x2816, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x512 : Shape := ⟨3, ![32, 2048, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S65536x512 : Shape := ⟨2, ![65536, 512]⟩
abbrev S1x512 : Shape := ⟨2, ![1, 512]⟩
abbrev S1x1024 : Shape := ⟨2, ![1, 1024]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 32
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .f32⟩
  | .hbm, ⟨3, _⟩ => ⟨S32x2048x1024, .bf16⟩
  | .hbm, ⟨4, _⟩ => ⟨S32x2048x1024, .bf16⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S1024, .f32⟩
  | .hbm, ⟨15, _⟩ => ⟨S65536x1024, .f32⟩
  | .hbm, ⟨16, _⟩ => ⟨S65536x512, .bf16⟩
  | .hbm, ⟨17, _⟩ => ⟨S65536x512, .f32⟩
  | .hbm, ⟨18, _⟩ => ⟨S65536x1024, .bf16⟩
  | .hbm, ⟨19, _⟩ => ⟨S65536x1024, .bf16⟩
  | .hbm, ⟨20, _⟩ => ⟨S512x1024, .bf16⟩
  | .hbm, ⟨21, _⟩ => ⟨S4x128x128, .bf16⟩
  | .hbm, ⟨22, _⟩ => ⟨S1x512, .f32⟩
  | .hbm, ⟨23, _⟩ => ⟨S512x1024, .bf16⟩
  | .hbm, ⟨24, _⟩ => ⟨S1024x1024, .bf16⟩
  | .hbm, ⟨25, _⟩ => ⟨S1x1024, .f32⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S65536x1024, .f32⟩
  | .hbm, ⟨31, _⟩ => ⟨S32x2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4x128x128, .bf16⟩
  | .local _ .vmem, ⟨14, _⟩ => ⟨S1x512, .f32⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S32x2048x1024 : Shape := ⟨3, ![32, 2048, 1024]⟩
abbrev S32x2048x512 : Shape := ⟨3, ![32, 2048, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32x2048x4x128 : Shape := ⟨4, ![32, 2048, 4, 128]⟩
abbrev S2048 : Shape := ⟨1, ![2048]⟩
abbrev S_ : Shape := ⟨0, ![]⟩
abbrev S1x2048x1 : Shape := ⟨3, ![1, 2048, 1]⟩
abbrev S32x2048x1x128 : Shape := ⟨4, ![32, 2048, 1, 128]⟩
abbrev S32x2048x128 : Shape := ⟨3, ![32, 2048, 128]⟩
abbrev S4x128x32x2048 : Shape := ⟨4, ![4, 128, 32, 2048]⟩
abbrev S1x1x512 : Shape := ⟨3, ![1, 1, 512]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 146
  | .vmem => 0
  | .smem => 0
  | _ => 0

abbrev hbmTy0_0 (i : Nat) : BufTy := match i % 128 with
  | 0 => ⟨S32x2048x1024, .f32⟩
  | 1 => ⟨S32x2048x512, .bf16⟩
  | 2 => ⟨S32x2048x512, .f32⟩
  | 3 => ⟨S32x2048x1024, .bf16⟩
  | 4 => ⟨S32x2048x1024, .bf16⟩
  | 5 => ⟨S4x128x128, .f32⟩
  | 6 => ⟨S512, .f32⟩
  | 7 => ⟨S512x1024, .f32⟩
  | 8 => ⟨S512x1024, .f32⟩
  | 9 => ⟨S1024x1024, .f32⟩
  | 10 => ⟨S1024, .f32⟩
  | 11 => ⟨S1024x2816, .f32⟩
  | 12 => ⟨S1024x2816, .f32⟩
  | 13 => ⟨S2816x1024, .f32⟩
  | 14 => ⟨S1024, .f32⟩
  | 15 => ⟨S32x2048x4x128, .f32⟩
  | 16 => ⟨S2048, .f32⟩
  | 17 => ⟨S_, .f32⟩
  | 18 => ⟨S2048, .f32⟩
  | 19 => ⟨S2048, .f32⟩
  | 20 => ⟨S_, .f32⟩
  | 21 => ⟨S2048, .f32⟩
  | 22 => ⟨S2048, .f32⟩
  | 23 => ⟨S1x2048x1, .f32⟩
  | 24 => ⟨S32x2048x1x128, .f32⟩
  | 25 => ⟨S32x2048x128, .f32⟩
  | 26 => ⟨S_, .f32⟩
  | 27 => ⟨S_, .f32⟩
  | 28 => ⟨S32x2048x128, .f32⟩
  | 29 => ⟨S32x2048x128, .f32⟩
  | 30 => ⟨S32x2048x128, .f32⟩
  | 31 => ⟨S32x2048x1x128, .f32⟩
  | 32 => ⟨S32x2048x128, .f32⟩
  | 33 => ⟨S32x2048x128, .f32⟩
  | 34 => ⟨S_, .f32⟩
  | 35 => ⟨S2048, .f32⟩
  | 36 => ⟨S2048, .f32⟩
  | 37 => ⟨S1x2048x1, .f32⟩
  | 38 => ⟨S32x2048x1x128, .f32⟩
  | 39 => ⟨S32x2048x128, .f32⟩
  | 40 => ⟨S_, .f32⟩
  | 41 => ⟨S_, .f32⟩
  | 42 => ⟨S32x2048x128, .f32⟩
  | 43 => ⟨S32x2048x128, .f32⟩
  | 44 => ⟨S32x2048x128, .f32⟩
  | 45 => ⟨S32x2048x1x128, .f32⟩
  | 46 => ⟨S32x2048x128, .f32⟩
  | 47 => ⟨S32x2048x128, .f32⟩
  | 48 => ⟨S_, .f32⟩
  | 49 => ⟨S2048, .f32⟩
  | 50 => ⟨S2048, .f32⟩
  | 51 => ⟨S1x2048x1, .f32⟩
  | 52 => ⟨S32x2048x1x128, .f32⟩
  | 53 => ⟨S32x2048x128, .f32⟩
  | 54 => ⟨S_, .f32⟩
  | 55 => ⟨S_, .f32⟩
  | 56 => ⟨S32x2048x128, .f32⟩
  | 57 => ⟨S32x2048x128, .f32⟩
  | 58 => ⟨S32x2048x128, .f32⟩
  | 59 => ⟨S32x2048x1x128, .f32⟩
  | 60 => ⟨S32x2048x128, .f32⟩
  | 61 => ⟨S32x2048x128, .f32⟩
  | 62 => ⟨S_, .f32⟩
  | 63 => ⟨S2048, .f32⟩
  | 64 => ⟨S2048, .f32⟩
  | 65 => ⟨S1x2048x1, .f32⟩
  | 66 => ⟨S32x2048x1x128, .f32⟩
  | 67 => ⟨S32x2048x128, .f32⟩
  | 68 => ⟨S_, .f32⟩
  | 69 => ⟨S_, .f32⟩
  | 70 => ⟨S32x2048x128, .f32⟩
  | 71 => ⟨S32x2048x128, .f32⟩
  | 72 => ⟨S32x2048x128, .f32⟩
  | 73 => ⟨S32x2048x1x128, .f32⟩
  | 74 => ⟨S32x2048x128, .f32⟩
  | 75 => ⟨S32x2048x128, .f32⟩
  | 76 => ⟨S32x2048x1x128, .f32⟩
  | 77 => ⟨S32x2048x1x128, .f32⟩
  | 78 => ⟨S32x2048x1x128, .f32⟩
  | 79 => ⟨S32x2048x1x128, .f32⟩
  | 80 => ⟨S32x2048x4x128, .f32⟩
  | 81 => ⟨S4x128x32x2048, .f32⟩
  | 82 => ⟨S32x2048x4x128, .f32⟩
  | 83 => ⟨S32x2048x512, .f32⟩
  | 84 => ⟨S1x1x512, .f32⟩
  | 85 => ⟨S32x2048x512, .f32⟩
  | 86 => ⟨S32x2048x512, .f32⟩
  | 87 => ⟨S32x2048x1024, .f32⟩
  | 88 => ⟨S32x2048x512, .f32⟩
  | 89 => ⟨S32x2048x1024, .f32⟩
  | 90 => ⟨S32x2048x1024, .f32⟩
  | 91 => ⟨S32x2048x1024, .f32⟩
  | 92 => ⟨S32x2048x1024, .f32⟩
  | 93 => ⟨S32x2048x1024, .f32⟩
  | 94 => ⟨S32x2048x1024, .f32⟩
  | 95 => ⟨S32x2048x1024, .f32⟩
  | 96 => ⟨S32x2048x1024, .f32⟩
  | 97 => ⟨S32x2048x1024, .f32⟩
  | 98 => ⟨S_, .f32⟩
  | 99 => ⟨S32x2048, .f32⟩
  | 100 => ⟨S32x2048x1, .f32⟩
  | 101 => ⟨S_, .f32⟩
  | 102 => ⟨S32x2048x1, .f32⟩
  | 103 => ⟨S32x2048x1, .f32⟩
  | 104 => ⟨S_, .f32⟩
  | 105 => ⟨S32x2048x1, .f32⟩
  | 106 => ⟨S32x2048x1, .f32⟩
  | 107 => ⟨S32x2048x1, .f32⟩
  | 108 => ⟨S32x2048x1024, .f32⟩
  | 109 => ⟨S32x2048x1024, .f32⟩
  | 110 => ⟨S1x1x1024, .f32⟩
  | 111 => ⟨S32x2048x1024, .f32⟩
  | 112 => ⟨S32x2048x1024, .f32⟩
  | 113 => ⟨S32x2048x2816, .f32⟩
  | 114 => ⟨S32x2048x2816, .f32⟩
  | 115 => ⟨S32x2048x2816, .f32⟩
  | 116 => ⟨S_, .f32⟩
  | 117 => ⟨S32x2048x2816, .f32⟩
  | 118 => ⟨S32x2048x2816, .f32⟩
  | 119 => ⟨S_, .f32⟩
  | 120 => ⟨S32x2048x2816, .f32⟩
  | 121 => ⟨S32x2048x2816, .f32⟩
  | 122 => ⟨S32x2048x2816, .f32⟩
  | 123 => ⟨S32x2048x2816, .f32⟩
  | 124 => ⟨S32x2048x2816, .f32⟩
  | 125 => ⟨S32x2048x1024, .f32⟩
  | 126 => ⟨S_, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S32x2048x1024, .f32⟩
  | 3 => ⟨S_, .f32⟩
  | 4 => ⟨S32x2048, .f32⟩
  | 5 => ⟨S32x2048x1, .f32⟩
  | 6 => ⟨S_, .f32⟩
  | 7 => ⟨S32x2048x1, .f32⟩
  | 8 => ⟨S32x2048x1, .f32⟩
  | 9 => ⟨S_, .f32⟩
  | 10 => ⟨S32x2048x1, .f32⟩
  | 11 => ⟨S32x2048x1, .f32⟩
  | 12 => ⟨S32x2048x1, .f32⟩
  | 13 => ⟨S32x2048x1024, .f32⟩
  | 14 => ⟨S32x2048x1024, .f32⟩
  | 15 => ⟨S1x1x1024, .f32⟩
  | 16 => ⟨S32x2048x1024, .f32⟩
  | 17 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_11 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_12 : Ref sig .tc := ⟨.hbm, 131, rfl⟩
abbrev main_v95 : Ref sig .tc := ⟨.hbm, 132, rfl⟩
abbrev main_v96 : Ref sig .tc := ⟨.hbm, 133, rfl⟩
abbrev main_cst_13 : Ref sig .tc := ⟨.hbm, 134, rfl⟩
abbrev main_v97 : Ref sig .tc := ⟨.hbm, 135, rfl⟩
abbrev main_v98 : Ref sig .tc := ⟨.hbm, 136, rfl⟩
abbrev main_cst_14 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]
-- ==== Merge1.lean ====
abbrev S32x2048x1024 : Shape := ⟨3, ![32, 2048, 1024]⟩
abbrev S32x2048x512 : Shape := ⟨3, ![32, 2048, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S65536x512 : Shape := ⟨2, ![65536, 512]⟩
abbrev S1x512 : Shape := ⟨2, ![1, 512]⟩
abbrev S1x1024 : Shape := ⟨2, ![1, 1024]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 31
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .f32⟩
  | .hbm, ⟨3, _⟩ => ⟨S32x2048x1024, .bf16⟩
  | .hbm, ⟨4, _⟩ => ⟨S32x2048x1024, .bf16⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S65536x1024, .f32⟩
  | .hbm, ⟨15, _⟩ => ⟨S65536x512, .bf16⟩
  | .hbm, ⟨16, _⟩ => ⟨S65536x512, .f32⟩
  | .hbm, ⟨17, _⟩ => ⟨S65536x1024, .bf16⟩
  | .hbm, ⟨18, _⟩ => ⟨S65536x1024, .bf16⟩
  | .hbm, ⟨19, _⟩ => ⟨S512x1024, .bf16⟩
  | .hbm, ⟨20, _⟩ => ⟨S4x128x128, .bf16⟩
  | .hbm, ⟨21, _⟩ => ⟨S1x512, .f32⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .hbm, ⟨28, _⟩ => ⟨S1x1024, .f32⟩
  | .hbm, ⟨29, _⟩ => ⟨S65536x1024, .f32⟩
  | .hbm, ⟨30, _⟩ => ⟨S32x2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4x128x128, .bf16⟩
  | .local _ .vmem, ⟨14, _⟩ => ⟨S1x512, .f32⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Merge1RefIdeal.lean ====
abbrev S32x2048x1024 : Shape := ⟨3, ![32, 2048, 1024]⟩
abbrev S32x2048x512 : Shape := ⟨3, ![32, 2048, 512]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32x2048x4x128 : Shape := ⟨4, ![32, 2048, 4, 128]⟩
abbrev S2048 : Shape := ⟨1, ![2048]⟩
abbrev S_ : Shape := ⟨0, ![]⟩
abbrev S1x2048x1 : Shape := ⟨3, ![1, 2048, 1]⟩
abbrev S32x2048x1x128 : Shape := ⟨4, ![32, 2048, 1, 128]⟩
abbrev S32x2048x128 : Shape := ⟨3, ![32, 2048, 128]⟩
abbrev S4x128x32x2048 : Shape := ⟨4, ![4, 128, 32, 2048]⟩
abbrev S1x1x512 : Shape := ⟨3, ![1, 1, 512]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 129
  | .vmem => 0
  | .smem => 0
  | _ => 0

abbrev hbmTy0_0 (i : Nat) : BufTy := match i % 128 with
  | 0 => ⟨S32x2048x1024, .f32⟩
  | 1 => ⟨S32x2048x512, .bf16⟩
  | 2 => ⟨S32x2048x512, .f32⟩
  | 3 => ⟨S32x2048x1024, .bf16⟩
  | 4 => ⟨S32x2048x1024, .bf16⟩
  | 5 => ⟨S4x128x128, .f32⟩
  | 6 => ⟨S512, .f32⟩
  | 7 => ⟨S512x1024, .f32⟩
  | 8 => ⟨S512x1024, .f32⟩
  | 9 => ⟨S1024x1024, .f32⟩
  | 10 => ⟨S1024, .f32⟩
  | 11 => ⟨S1024x2816, .f32⟩
  | 12 => ⟨S1024x2816, .f32⟩
  | 13 => ⟨S2816x1024, .f32⟩
  | 14 => ⟨S32x2048x4x128, .f32⟩
  | 15 => ⟨S2048, .f32⟩
  | 16 => ⟨S_, .f32⟩
  | 17 => ⟨S2048, .f32⟩
  | 18 => ⟨S2048, .f32⟩
  | 19 => ⟨S_, .f32⟩
  | 20 => ⟨S2048, .f32⟩
  | 21 => ⟨S2048, .f32⟩
  | 22 => ⟨S1x2048x1, .f32⟩
  | 23 => ⟨S32x2048x1x128, .f32⟩
  | 24 => ⟨S32x2048x128, .f32⟩
  | 25 => ⟨S_, .f32⟩
  | 26 => ⟨S_, .f32⟩
  | 27 => ⟨S32x2048x128, .f32⟩
  | 28 => ⟨S32x2048x128, .f32⟩
  | 29 => ⟨S32x2048x128, .f32⟩
  | 30 => ⟨S32x2048x1x128, .f32⟩
  | 31 => ⟨S32x2048x128, .f32⟩
  | 32 => ⟨S32x2048x128, .f32⟩
  | 33 => ⟨S_, .f32⟩
  | 34 => ⟨S2048, .f32⟩
  | 35 => ⟨S2048, .f32⟩
  | 36 => ⟨S1x2048x1, .f32⟩
  | 37 => ⟨S32x2048x1x128, .f32⟩
  | 38 => ⟨S32x2048x128, .f32⟩
  | 39 => ⟨S_, .f32⟩
  | 40 => ⟨S_, .f32⟩
  | 41 => ⟨S32x2048x128, .f32⟩
  | 42 => ⟨S32x2048x128, .f32⟩
  | 43 => ⟨S32x2048x128, .f32⟩
  | 44 => ⟨S32x2048x1x128, .f32⟩
  | 45 => ⟨S32x2048x128, .f32⟩
  | 46 => ⟨S32x2048x128, .f32⟩
  | 47 => ⟨S_, .f32⟩
  | 48 => ⟨S2048, .f32⟩
  | 49 => ⟨S2048, .f32⟩
  | 50 => ⟨S1x2048x1, .f32⟩
  | 51 => ⟨S32x2048x1x128, .f32⟩
  | 52 => ⟨S32x2048x128, .f32⟩
  | 53 => ⟨S_, .f32⟩
  | 54 => ⟨S_, .f32⟩
  | 55 => ⟨S32x2048x128, .f32⟩
  | 56 => ⟨S32x2048x128, .f32⟩
  | 57 => ⟨S32x2048x128, .f32⟩
  | 58 => ⟨S32x2048x1x128, .f32⟩
  | 59 => ⟨S32x2048x128, .f32⟩
  | 60 => ⟨S32x2048x128, .f32⟩
  | 61 => ⟨S_, .f32⟩
  | 62 => ⟨S2048, .f32⟩
  | 63 => ⟨S2048, .f32⟩
  | 64 => ⟨S1x2048x1, .f32⟩
  | 65 => ⟨S32x2048x1x128, .f32⟩
  | 66 => ⟨S32x2048x128, .f32⟩
  | 67 => ⟨S_, .f32⟩
  | 68 => ⟨S_, .f32⟩
  | 69 => ⟨S32x2048x128, .f32⟩
  | 70 => ⟨S32x2048x128, .f32⟩
  | 71 => ⟨S32x2048x128, .f32⟩
  | 72 => ⟨S32x2048x1x128, .f32⟩
  | 73 => ⟨S32x2048x128, .f32⟩
  | 74 => ⟨S32x2048x128, .f32⟩
  | 75 => ⟨S32x2048x1x128, .f32⟩
  | 76 => ⟨S32x2048x1x128, .f32⟩
  | 77 => ⟨S32x2048x1x128, .f32⟩
  | 78 => ⟨S32x2048x1x128, .f32⟩
  | 79 => ⟨S32x2048x4x128, .f32⟩
  | 80 => ⟨S4x128x32x2048, .f32⟩
  | 81 => ⟨S32x2048x4x128, .f32⟩
  | 82 => ⟨S32x2048x512, .f32⟩
  | 83 => ⟨S1x1x512, .f32⟩
  | 84 => ⟨S32x2048x512, .f32⟩
  | 85 => ⟨S32x2048x512, .f32⟩
  | 86 => ⟨S32x2048x1024, .f32⟩
  | 87 => ⟨S32x2048x512, .f32⟩
  | 88 => ⟨S32x2048x1024, .f32⟩
  | 89 => ⟨S32x2048x1024, .f32⟩
  | 90 => ⟨S32x2048x1024, .f32⟩
  | 91 => ⟨S32x2048x1024, .f32⟩
  | 92 => ⟨S32x2048x1024, .f32⟩
  | 93 => ⟨S32x2048x1024, .f32⟩
  | 94 => ⟨S32x2048x1024, .f32⟩
  | 95 => ⟨S32x2048x1024, .f32⟩
  | 96 => ⟨S32x2048x1024, .f32⟩
  | 97 => ⟨S_, .f32⟩
  | 98 => ⟨S32x2048, .f32⟩
  | 99 => ⟨S32x2048x1, .f32⟩
  | 100 => ⟨S_, .f32⟩
  | 101 => ⟨S32x2048x1, .f32⟩
  | 102 => ⟨S32x2048x1, .f32⟩
  | 103 => ⟨S_, .f32⟩
  | 104 => ⟨S32x2048x1, .f32⟩
  | 105 => ⟨S32x2048x1, .f32⟩
  | 106 => ⟨S32x2048x1, .f32⟩
  | 107 => ⟨S32x2048x1024, .f32⟩
  | 108 => ⟨S32x2048x1024, .f32⟩
  | 109 => ⟨S1x1x1024, .f32⟩
  | 110 => ⟨S32x2048x1024, .f32⟩
  | 111 => ⟨S32x2048x1024, .f32⟩
  | 112 => ⟨S32x2048x2816, .f32⟩
  | 113 => ⟨S32x2048x2816, .f32⟩
  | 114 => ⟨S32x2048x2816, .f32⟩
  | 115 => ⟨S_, .f32⟩
  | 116 => ⟨S32x2048x2816, .f32⟩
  | 117 => ⟨S32x2048x2816, .f32⟩
  | 118 => ⟨S_, .f32⟩
  | 119 => ⟨S32x2048x2816, .f32⟩
  | 120 => ⟨S32x2048x2816, .f32⟩
  | 121 => ⟨S32x2048x2816, .f32⟩
  | 122 => ⟨S32x2048x2816, .f32⟩
  | 123 => ⟨S32x2048x2816, .f32⟩
  | 124 => ⟨S32x2048x1024, .f32⟩
  | 125 => ⟨S_, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_8 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_11 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Proj.lean ====
abbrev S32x2048x1024 : Shape := ⟨3, ![32, 2048, 1024]⟩
abbrev S1024 : Shape := ⟨1, ![1024]⟩
abbrev S1024x3784 : Shape := ⟨2, ![1024, 3784]⟩
abbrev S128 : Shape := ⟨1, ![128]⟩
abbrev S128x8x64 : Shape := ⟨3, ![128, 8, 64]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S_ : Shape := ⟨0, ![]⟩
abbrev S1024x2816 : Shape := ⟨2, ![1024, 2816]⟩
abbrev S1024x1040 : Shape := ⟨2, ![1024, 1040]⟩
abbrev S1040x1024 : Shape := ⟨2, ![1040, 1024]⟩
abbrev S8x128x64 : Shape := ⟨3, ![8, 128, 64]⟩
abbrev S65536x1024 : Shape := ⟨2, ![65536, 1024]⟩
abbrev S1x1024 : Shape := ⟨2, ![1, 1024]⟩
abbrev S1x128 : Shape := ⟨2, ![1, 128]⟩
abbrev S32x8x128x2048 : Shape := ⟨4, ![32, 8, 128, 2048]⟩
abbrev S65536x128 : Shape := ⟨2, ![65536, 128]⟩
abbrev S32x144x2048 : Shape := ⟨3, ![32, 144, 2048]⟩
abbrev S32x512x2048 : Shape := ⟨3, ![32, 512, 2048]⟩
abbrev S65536x64 : Shape := ⟨2, ![65536, 64]⟩
abbrev S32x8x2048 : Shape := ⟨3, ![32, 8, 2048]⟩
abbrev S65536x512 : Shape := ⟨2, ![65536, 512]⟩
abbrev S1x4x128x2048 : Shape := ⟨4, ![1, 4, 128, 2048]⟩
abbrev S1x144x1024 : Shape := ⟨3, ![1, 144, 1024]⟩
abbrev S1x512x1024 : Shape := ⟨3, ![1, 512, 1024]⟩
abbrev S1x8x1024 : Shape := ⟨3, ![1, 8, 1024]⟩
abbrev S1024x1 : Shape := ⟨2, ![1024, 1]⟩
abbrev S16x1024 : Shape := ⟨2, ![16, 1024]⟩
abbrev S128x1024 : Shape := ⟨2, ![128, 1024]⟩
abbrev S144x1024 : Shape := ⟨2, ![144, 1024]⟩
abbrev S512x1024 : Shape := ⟨2, ![512, 1024]⟩
abbrev S1x128x64 : Shape := ⟨3, ![1, 128, 64]⟩
abbrev S128x64 : Shape := ⟨2, ![128, 64]⟩
abbrev S64x1024 : Shape := ⟨2, ![64, 1024]⟩
abbrev S128x256 : Shape := ⟨2, ![128, 256]⟩
abbrev S1x1x128x256 : Shape := ⟨4, ![1, 1, 128, 256]⟩
abbrev S8x1024 : Shape := ⟨2, ![8, 1024]⟩

abbrev nBuf : Space → Nat
  | .hbm => 36
  | .vmem => 25
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3784, .f32⟩
  | .hbm, ⟨3, _⟩ => ⟨S128, .f32⟩
  | .hbm, ⟨4, _⟩ => ⟨S128x8x64, .f32⟩
  | .hbm, ⟨5, _⟩ => ⟨S1024x512, .f32⟩
  | .hbm, ⟨6, _⟩ => ⟨S1024x128, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x64, .f32⟩
  | .hbm, ⟨15, _⟩ => ⟨S1024x2816, .f32⟩
  | .hbm, ⟨16, _⟩ => ⟨S_, .f32⟩
  | .hbm, ⟨17, _⟩ => ⟨S1024x8, .f32⟩
  | .hbm, ⟨18, _⟩ => ⟨S1024x1040, .f32⟩
  | .hbm, ⟨19, _⟩ => ⟨S1040x1024, .f32⟩
  | .hbm, ⟨20, _⟩ => ⟨S1024x2816, .bf16⟩
  | .hbm, ⟨21, _⟩ => ⟨S1040x1024, .bf16⟩
  | .hbm, ⟨22, _⟩ => ⟨S8x128x64, .f32⟩
  | .hbm, ⟨23, _⟩ => ⟨S8x128x64, .bf16⟩
  | .hbm, ⟨24, _⟩ => ⟨S65536x1024, .f32⟩
  | .hbm, ⟨25, _⟩ => ⟨S1x1024, .f32⟩
  | .hbm, ⟨26, _⟩ => ⟨S1x128, .f32⟩
  | .hbm, ⟨27, _⟩ => ⟨S32x8x128x2048, .bf16⟩
  | .hbm, ⟨28, _⟩ => ⟨S65536x128, .bf16⟩
  | .hbm, ⟨29, _⟩ => ⟨S32x144x2048, .bf16⟩
  | .hbm, ⟨30, _⟩ => ⟨S32x512x2048, .bf16⟩
  | .hbm, ⟨31, _⟩ => ⟨S65536x64, .bf16⟩
  | .hbm, ⟨32, _⟩ => ⟨S32x8x2048, .f32⟩
  | .hbm, ⟨33, _⟩ => ⟨S65536x512, .f32⟩
  | .hbm, ⟨34, _⟩ => ⟨S65536x1024, .bf16⟩
  | .hbm, ⟨35, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1040x1024, .bf16⟩
  | .local _ .vmem, ⟨5, _⟩ => ⟨S1x128, .f32⟩
  | .local _ .vmem, ⟨6, _⟩ => ⟨S8x128x64, .bf16⟩
  | .local _ .vmem, ⟨7, _⟩ => ⟨S1x4x128x2048, .bf16⟩
  | .local _ .vmem, ⟨8, _⟩ => ⟨S1x4x128x2048, .bf16⟩
  | .local _ .vmem, ⟨9, _⟩ => ⟨S1024x128, .bf16⟩
  | .local _ .vmem, ⟨10, _⟩ => ⟨S1024x128, .bf16⟩
  | .local _ .vmem, ⟨11, _⟩ => ⟨S1x144x1024, .bf16⟩
  | .local _ .vmem, ⟨12, _⟩ => ⟨S1x144x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1024x64, .bf16⟩
  | .local _ .vmem, ⟨16, _⟩ => ⟨S1024x64, .bf16⟩
  | .local _ .vmem, ⟨17, _⟩ => ⟨S1x8x1024, .f32⟩
  | .local _ .vmem, ⟨18, _⟩ => ⟨S1x8x1024, .f32⟩
  | .local _ .vmem, ⟨19, _⟩ => ⟨S1024x512, .f32⟩
  | .local _ .vmem, ⟨20, _⟩ => ⟨S1024x512, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev main_v20_4 : Ref sig .tc := ⟨.hbm, 31, rfl⟩
abbrev main_v20_5 : Ref sig .tc := ⟨.hbm, 32, rfl⟩
abbrev main_v20_6 : Ref sig .tc := ⟨.hbm, 33, rfl⟩
abbrev main_v20_7 : Ref sig .tc := ⟨.hbm, 34, rfl⟩
abbrev main_v20_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1040x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x144x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S32x2048x1024 : Shape := ⟨3, ![32, 2048, 1024]⟩
abbrev S1024 : Shape := ⟨1, ![1024]⟩
abbrev S1024x3784 : Shape := ⟨2, ![1024, 3784]⟩
abbrev S128 : Shape := ⟨1, ![128]⟩
abbrev S128x8x64 : Shape := ⟨3, ![128, 8, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3784 : Shape := ⟨3, ![32, 2048, 3784]⟩
abbrev S32x2048x512 : Shape := ⟨3, ![32, 2048, 512]⟩
abbrev S32x2048x128 : Shape := ⟨3, ![32, 2048, 128]⟩
abbrev S32x2048x64 : Shape := ⟨3, ![32, 2048, 64]⟩
abbrev S32x2048x8 : Shape := ⟨3, ![32, 2048, 8]⟩
abbrev S32x2048x8x64 : Shape := ⟨4, ![32, 2048, 8, 64]⟩
abbrev S1x1x128 : Shape := ⟨3, ![1, 1, 128]⟩
abbrev S8x128x32x2048 : Shape := ⟨4, ![8, 128, 32, 2048]⟩
abbrev S32x2048x8x128 : Shape := ⟨4, ![32, 2048, 8, 128]⟩
abbrev S32x8x256x8x128 : Shape := ⟨5, ![32, 8, 256, 8, 128]⟩
abbrev S32x8x128x8x256 : Shape := ⟨5, ![32, 8, 128, 8, 256]⟩
abbrev S32x128x2048 : Shape := ⟨3, ![32, 128, 2048]⟩
abbrev S32x1x2048 : Shape := ⟨3, ![32, 1, 2048]⟩
abbrev S32x15x2048 : Shape := ⟨3, ![32, 15, 2048]⟩
abbrev S32x144x2048 : Shape := ⟨3, ![32, 144, 2048]⟩
abbrev S32x8x128x2048 : Shape := ⟨4, ![32, 8, 128, 2048]⟩
abbrev S65536x128 : Shape := ⟨2, ![65536, 128]⟩
abbrev S32x512x2048 : Shape := ⟨3, ![32, 512, 2048]⟩
abbrev S65536x64 : Shape := ⟨2, ![65536, 64]⟩
abbrev S32x8x2048 : Shape := ⟨3, ![32, 8, 2048]⟩
abbrev S65536x512 : Shape := ⟨2, ![65536, 512]⟩
abbrev S65536x1024 : Shape := ⟨2, ![65536, 1024]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3784, .f32⟩
  | .hbm, ⟨3, _⟩ => ⟨S128, .f32⟩
  | .hbm, ⟨4, _⟩ => ⟨S128x8x64, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x3784, .f32⟩
  | .hbm, ⟨22, _⟩ => ⟨S32x2048x512, .f32⟩
  | .hbm, ⟨23, _⟩ => ⟨S32x2048x128, .f32⟩
  | .hbm, ⟨24, _⟩ => ⟨S32x2048x512, .f32⟩
  | .hbm, ⟨25, _⟩ => ⟨S32x2048x64, .f32⟩
  | .hbm, ⟨26, _⟩ => ⟨S32x2048x8, .f32⟩
  | .hbm, ⟨27, _⟩ => ⟨S32x2048x512, .f32⟩
  | .hbm, ⟨28, _⟩ => ⟨S32x2048x1024, .f32⟩
  | .hbm, ⟨29, _⟩ => ⟨S32x2048x1024, .f32⟩
  | .hbm, ⟨30, _⟩ => ⟨S32x2048x8x64, .f32⟩
  | .hbm, ⟨31, _⟩ => ⟨S32x2048x128, .f32⟩
  | .hbm, ⟨32, _⟩ => ⟨S_, .f32⟩
  | .hbm, ⟨33, _⟩ => ⟨S32x2048, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1, .f32⟩
  | .hbm, ⟨42, _⟩ => ⟨S32x2048x128, .f32⟩
  | .hbm, ⟨43, _⟩ => ⟨S32x2048x128, .f32⟩
  | .hbm, ⟨44, _⟩ => ⟨S1x1x128, .f32⟩
  | .hbm, ⟨45, _⟩ => ⟨S32x2048x128, .f32⟩
  | .hbm, ⟨46, _⟩ => ⟨S32x2048x128, .f32⟩
  | .hbm, ⟨47, _⟩ => ⟨S8x128x32x2048, .f32⟩
  | .hbm, ⟨48, _⟩ => ⟨S32x2048x8x128, .f32⟩
  | .hbm, ⟨49, _⟩ => ⟨S_, .f32⟩
  | .hbm, ⟨50, _⟩ => ⟨S32x2048x8x128, .f32⟩
  | .hbm, ⟨51, _⟩ => ⟨S32x2048x8x128, .f32⟩
  | .hbm, ⟨52, _⟩ => ⟨S32x8x256x8x128, .f32⟩
  | .hbm, ⟨53, _⟩ => ⟨S32x8x128x8x256, .f32⟩
  | .hbm, ⟨54, _⟩ => ⟨S32x128x2048, .f32⟩
  | .hbm, ⟨55, _⟩ => ⟨S_, .f32⟩
  | .hbm, ⟨56, _⟩ => ⟨S32x1x2048, .f32⟩
  | .hbm, ⟨57, _⟩ => ⟨S_, .f32⟩
  | .hbm, ⟨58, _⟩ => ⟨S32x15x2048, .f32⟩
  | .hbm, ⟨59, _⟩ => ⟨S32x144x2048, .f32⟩
  | .hbm, ⟨60, _⟩ => ⟨S32x8x128x2048, .f32⟩
  | .hbm, ⟨61, _⟩ => ⟨S32x8x128x2048, .bf16⟩
  | .hbm, ⟨62, _⟩ => ⟨S65536x128, .f32⟩
  | .hbm, ⟨63, _⟩ => ⟨S65536x128, .bf16⟩
  | .hbm, ⟨64, _⟩ => ⟨S32x144x2048, .bf16⟩
  | .hbm, ⟨65, _⟩ => ⟨S32x512x2048, .f32⟩
  | .hbm, ⟨66, _⟩ => ⟨S32x512x2048, .bf16⟩
  | .hbm, ⟨67, _⟩ => ⟨S65536x64, .f32⟩
  | .hbm, ⟨68, _⟩ => ⟨S65536x64, .bf16⟩
  | .hbm, ⟨69, _⟩ => ⟨S_, .f32⟩
  | .hbm, ⟨70, _⟩ => ⟨S32x2048x8, .f32⟩
  | .hbm, ⟨71, _⟩ => ⟨S32x2048x8, .f32⟩
  | .hbm, ⟨72, _⟩ => ⟨S32x8x2048, .f32⟩
  | .hbm, ⟨73, _⟩ => ⟨S65536x512, .f32⟩
  | .hbm, ⟨74, _⟩ => ⟨S32x2048x1024, .f32⟩
  | .hbm, ⟨75, _⟩ => ⟨S32x2048x1024, .f32⟩
  | .hbm, ⟨76, _⟩ => ⟨S_, .f32⟩
  | .hbm, ⟨77, _⟩ => ⟨S32x2048x1024, .f32⟩
  | .hbm, ⟨78, _⟩ => ⟨S32x2048x1024, .f32⟩
  | .hbm, ⟨79, _⟩ => ⟨S_, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | .hbm, ⟨83, _⟩ => ⟨S65536x1024, .bf16⟩
  | .hbm, ⟨84, _⟩ => ⟨S32x2048x1024, .f32⟩
  | .hbm, ⟨85, _⟩ => ⟨S32x2048x1024, .f32⟩
  | .hbm, ⟨86, _⟩ => ⟨S_, .f32⟩
  | .hbm, ⟨87, _⟩ => ⟨S32x2048x1024, .f32⟩
  | .hbm, ⟨88, _⟩ => ⟨S32x2048x1024, .f32⟩
  | .hbm, ⟨89, _⟩ => ⟨S_, .f32⟩
  | .hbm, ⟨90, _⟩ => ⟨S32x2048x1024, .f32⟩
  | .hbm, ⟨91, _⟩ => ⟨S32x2048x1024, .f32⟩
  | .hbm, ⟨92, _⟩ => ⟨S65536x1024, .f32⟩
  | .hbm, ⟨93, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Proof.Attn.Base.lean ====
/-
  Programs that keep a set of buffers: `Safe c I p` says that program `p`, run from the resource `I`, returns
  `I`, whatever it computed. `I` is the conjunction of the buffers a kernel body uses, a buffer it only reads
  at fixed contents and a buffer it writes at some contents. The property is closed under sequencing, counted
  loops, branches, loads from a buffer `I` holds and stores to a buffer `I` holds at arbitrary contents.
-/
module

public import proofs.«01_k».proof.Kernel.P01
public import Idealize.ShloMosaic.Lib.Tactic
public import Idealize.ShloMosaic.Lib.Pipeline.Kit

@[expose] public section

noncomputable section

namespace Cert.Proof.Attn

open Cert.Kernel

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]

/-- The resources the proof speaks of. -/
abbrev Res (F : FTy → Type) : Type _ := MT nD τ sig Unit (Elt F) ℕ (UR sig nD τ) ℕ

/-- The kernel body's programs. -/
abbrev BProg (F : FTy → Type) (α : Type) : Type _ := Prog (TpuEff nD τ sig (Elt F) Λ₀ .tc) α

variable (D : Defs nD τ sig (Elt F) Λ₀) (c : Dev nD) (I : sProp (Res F))

/-- From `I` the program `p` runs without fault and gives `I` back. -/
class Safe {α : Type} (p : BProg F α) : Prop where
  run : I ⊢ wp frame (wpE D Variants.none c none) Set.univ p fun _ => I

/-- `I` holds all of the memref's buffer, to be read. -/
class Rd {sp : Space} {S : Shape} {e : EltTy} (M : Memref sig .tc sp S e) : Prop where
  get : I ⊢ (iprop(∃ (q : PosShare TreeShare) (f : Buf (Elt F) (M.view.loc (c : Thread nD τ))),
    (M.view.loc (c : Thread nD τ) ↦{q} f) ∗ ((M.view.loc (c : Thread nD τ) ↦{q} f) -∗ I)) : sProp (Res F))

/-- `I` holds all of the memref's buffer at some contents, and keeps nothing of them. -/
class Wr {sp : Space} {S : Shape} {e : EltTy} (M : Memref sig .tc sp S e) : Prop where
  get : I ⊢ (iprop(∃ f : Buf (Elt F) (M.view.loc (c : Thread nD τ)),
    (M.view.loc (c : Thread nD τ) ↦{fullShare} f) ∗ (∀ f' : Buf (Elt F) (M.view.loc (c : Thread nD τ)), (M.view.loc (c : Thread nD τ) ↦{fullShare} f') -∗ I)) : sProp (Res F))

variable {D c I}

theorem Wr.rd {sp : CoreSpace} {S : Shape} {e : EltTy} {M : Memref sig .tc sp S e} (h : Wr c I M) : Rd c I M := by
  constructor
  refine h.get.trans ?_
  iintro ⟨%f, H, Hk⟩
  iexists fullShare, f
  isplitl [H]; · iexact H
  iapply Hk

theorem Safe.ret {α : Type} (a : α) : Safe D c I (pure a : BProg F α) := by
  constructor
  rw [wp_pure]
  iintro H
  imodintro
  iexact H

theorem Safe.bind {α β : Type} {p : BProg F α} {k : α → BProg F β} (hp : Safe D c I p) (hk : ∀ a, Safe D c I (k a)) :
    Safe D c I (p >>= k) := by
  constructor
  rw [wp_bind]
  exact hp.run.trans (wp_mono _ _ _ fun a => (hk a).run)

theorem Safe.load {sp : CoreSpace} {S : Shape} {e : EltTy} {M : Memref sig .tc sp S e} [h : Rd c I M]
    (r : LoadRect S) (hl : M.view.LoadsAt r) :
    Safe D c I (Prog.lift (.load M r hl) : BProg F _) := by
  constructor
  refine h.get.trans ?_
  iintro ⟨%q, %f, H, Hk⟩
  ihave W := (wp_load (defs := D) Variants.none (c : Thread nD τ) none Set.univ (m := M) (r := r) (hl := hl) (k := fun x => Prog.ret x)
    (Q := fun _ => I) (q := q) (f := f) (Finset.subset_univ _)) $$ H
  iapply W
  iintro H
  ihave H := Hk $$ H
  iapply (le_wp_ret _ _ _ _ (fun _ => I))
  iexact H

theorem Safe.store {sp : CoreSpace} {S : Shape} {e : EltTy} {M : Memref sig .tc sp S e} [h : Wr c I M]
    (r : Rect S) (w : r.shape.Idx → Elt F e) (Mk : Finset r.shape.Idx) (hx : (M.access r).Stores Mk)
    (hm : Mk = Finset.univ ∨ ∀ a, r.stride a = 1) :
    Safe D c I (Prog.lift (.store M r w Mk hx hm) : BProg F _) := by
  constructor
  refine h.get.trans ?_
  iintro ⟨%f, H, Hk⟩
  ihave W := (wp_store (defs := D) Variants.none (c : Thread nD τ) none Set.univ (m := M) (r := r) (w := w) (hx := hx) (hm := hm)
    (k := fun x => Prog.ret x) (Q := fun _ => I) (f := f) (Finset.subset_univ _)) $$ H
  iapply W
  iintro H
  ihave H := Hk $$ %_ H
  iapply (le_wp_ret _ _ _ _ (fun _ => I))
  iexact H

theorem Safe.loop {w : Nat} {σ : Type} {l : Scf.Loop w} {hok : l.OK} {init : σ} {body : Fin l.trips → σ → BProg F σ}
    (h : ∀ k a, Safe D c I (body k a)) : Safe D c I (Scf.Loop.for l hok init body) := by
  constructor
  iintro H
  iapply (Scf.wp_for _ _ _ l.lb l.ub l.st hok init body (fun _ _ => I) (fun k a => (h k a).run))
  isplitl [H]; · iexact H
  iintro %a H
  iexact H

theorem Safe.ite {α : Type} {P : Prop} [Decidable P] {p q : BProg F α} (hp : P → Safe D c I p) (hq : ¬ P → Safe D c I q) :
    Safe D c I (if P then p else q) := by
  split
  · exact hp ‹_›
  · exact hq ‹_›

theorem Safe.dite {α : Type} {P : Prop} [Decidable P] {p : P → BProg F α} {q : ¬ P → BProg F α}
    (hp : ∀ h, Safe D c I (p h)) (hq : ∀ h, Safe D c I (q h)) : Safe D c I (if h : P then p h else q h) := by
  split
  · exact hp _
  · exact hq _

theorem Safe.have_ {α β : Type} (x : α) {k : α → BProg F β} (hk : ∀ a, Safe D c I (k a)) : Safe D c I (have a := x; k a) := hk x

/-- The body's seventeen operands, each whole, with what the held resource `I` says of them: the first nine are
    read, the last eight are read and written. -/
structure Bufs (c : Dev nD) (I : sProp (Res F)) where
  a2 : Memref sig .tc .vmem S4x1x128x2048 .bf16
  h2 : a2.IsWhole
  r2 : Rd c I a2
  a3 : Memref sig .tc .vmem S4x512x256 .bf16
  h3 : a3.IsWhole
  r3 : Rd c I a3
  a4 : Memref sig .tc .vmem S4x8x256 .f32
  h4 : a4.IsWhole
  r4 : Rd c I a4
  a5 : Memref sig .tc .vmem S4x512x256 .bf16
  h5 : a5.IsWhole
  r5 : Rd c I a5
  a6 : Memref sig .tc .vmem S4x8x256 .f32
  h6 : a6.IsWhole
  r6 : Rd c I a6
  a7 : Memref sig .tc .vmem S4x2048x64 .bf16
  h7 : a7.IsWhole
  r7 : Rd c I a7
  a8 : Memref sig .tc .vmem S4x2048x128 .bf16
  h8 : a8.IsWhole
  r8 : Rd c I a8
  a9 : Memref sig .tc .vmem S4x144x2048 .bf16
  h9 : a9.IsWhole
  r9 : Rd c I a9
  a10 : Memref sig .tc .vmem S8x64x128 .bf16
  h10 : a10.IsWhole
  r10 : Rd c I a10
  a11 : Memref sig .tc .vmem S4x256x512 .bf16
  h11 : a11.IsWhole
  r11 : Rd c I a11
  w11 : Wr c I a11
  a12 : Memref sig .tc .vmem S2x4x8x32x8x256 .i32
  h12 : a12.IsWhole
  r12 : Rd c I a12
  w12 : Wr c I a12
  a13 : Memref sig .tc .vmem S4x8x8x256 .i32
  h13 : a13.IsWhole
  r13 : Rd c I a13
  w13 : Wr c I a13
  a14 : Memref sig .tc .vmem S4x8x8x256 .i32
  h14 : a14.IsWhole
  r14 : Rd c I a14
  w14 : Wr c I a14
  a15 : Memref sig .tc .vmem S4x8x256 .i32
  h15 : a15.IsWhole
  r15 : Rd c I a15
  w15 : Wr c I a15
  a16 : Memref sig .tc .vmem S4x8x256 .i32
  h16 : a16.IsWhole
  r16 : Rd c I a16
  w16 : Wr c I a16
  a17 : Memref sig .tc .vmem S4x1x2048 .f32
  h17 : a17.IsWhole
  r17 : Rd c I a17
  w17 : Wr c I a17
  a18 : Memref sig .tc .vmem S4x144x2048 .f32
  h18 : a18.IsWhole
  r18 : Rd c I a18
  w18 : Wr c I a18

/-- A part of the body at the operands. -/
abbrev Bufs.at {c : Dev nD} {I : sProp (Res F)} (B : Bufs c I) {X : Sort _}
    (f : (a2 : Memref sig .tc .vmem S4x1x128x2048 .bf16) → a2.IsWhole → (a3 : Memref sig .tc .vmem S4x512x256 .bf16) → a3.IsWhole → (a4 : Memref sig .tc .vmem S4x8x256 .f32) → a4.IsWhole → (a5 : Memref sig .tc .vmem S4x512x256 .bf16) → a5.IsWhole → (a6 : Memref sig .tc .vmem S4x8x256 .f32) → a6.IsWhole → (a7 : Memref sig .tc .vmem S4x2048x64 .bf16) → a7.IsWhole → (a8 : Memref sig .tc .vmem S4x2048x128 .bf16) → a8.IsWhole → (a9 : Memref sig .tc .vmem S4x144x2048 .bf16) → a9.IsWhole → (a10 : Memref sig .tc .vmem S8x64x128 .bf16) → a10.IsWhole → (a11 : Memref sig .tc .vmem S4x256x512 .bf16) → a11.IsWhole → (a12 : Memref sig .tc .vmem S2x4x8x32x8x256 .i32) → a12.IsWhole → (a13 : Memref sig .tc .vmem S4x8x8x256 .i32) → a13.IsWhole → (a14 : Memref sig .tc .vmem S4x8x8x256 .i32) → a14.IsWhole → (a15 : Memref sig .tc .vmem S4x8x256 .i32) → a15.IsWhole → (a16 : Memref sig .tc .vmem S4x8x256 .i32) → a16.IsWhole → (a17 : Memref sig .tc .vmem S4x1x2048 .f32) → a17.IsWhole → (a18 : Memref sig .tc .vmem S4x144x2048 .f32) → a18.IsWhole → X) : X :=
  f B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18

attribute [instance] Safe.ret Safe.load Safe.store
theorem seq {α β : Type} {p : BProg F α} {k : α → BProg F β} (hp : Safe D c I p) (hk : ∀ a, Safe D c I (k a)) : Safe D c I (p >>= k) := hp.bind hk
theorem loop {w : Nat} {σ : Type} {l : Scf.Loop w} {hok : l.OK} {init : σ} {body : Fin l.trips → σ → BProg F σ}
    (h : ∀ k a, Safe D c I (body k a)) : Safe D c I (Scf.Loop.for l hok init body) := .loop h
theorem ld {sp : CoreSpace} {S : Shape} {e : EltTy} {M : Memref sig .tc sp S e} [Rd c I M] {r : LoadRect S} {hl : M.view.LoadsAt r} :
    Safe D c I (Prog.lift (.load M r hl) : BProg F _) := .load r hl
theorem br {α : Type} {P : Prop} [Decidable P] {p q : BProg F α} (hp : P → Safe D c I p) (hq : ¬ P → Safe D c I q) :
    Safe D c I (if P then p else q) := .ite hp hq
theorem alt {α : Type} {P : Prop} [Decidable P] {p : P → BProg F α} {q : ¬ P → BProg F α}
    (hp : ∀ h, Safe D c I (p h)) (hq : ∀ h, Safe D c I (q h)) : Safe D c I (if h : P then p h else q h) := .dite hp hq
theorem allS {A : Type _} {B : A → Type _} {P : PSigma B → Prop} (h : ∀ a b, P ⟨a, b⟩) : ∀ x, P x := fun x => h x.1 x.2
theorem allP {A B : Type _} {P : A × B → Prop} (h : ∀ a b, P (a, b)) : ∀ x, P x := fun x => h x.1 x.2

attribute [instance] Bufs.r2 Bufs.r3 Bufs.r4 Bufs.r5 Bufs.r6 Bufs.r7 Bufs.r8 Bufs.r9 Bufs.r10 Bufs.r11 Bufs.r12 Bufs.r13 Bufs.r14 Bufs.r15 Bufs.r16 Bufs.r17 Bufs.r18 Bufs.w11 Bufs.w12 Bufs.w13 Bufs.w14 Bufs.w15 Bufs.w16 Bufs.w17 Bufs.w18

end Cert.Proof.Attn

end
-- ==== Proof.Attn.S01.lean ====
/-
  Parts k0_part1 to k0_part13 of the kernel's body keep the buffers they are given: one fact per part, in the order of the printed
  program, each by walking the part's statements.
-/
module

public import proofs.«01_k».proof.Kernel.P01
public import proofs.«01_k».proof.Proof.Attn.Base

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s1 (v1 v2 v3) : Safe D c I (B.at (k0_part1 i) v1 v2 v3) := by
  unfold k0_part1; repeat' with_reducible first|infer_instance|exact ld| apply allS| apply allP|intro _| apply seq| apply loop| apply alt| apply br
instance s2 (v1 v2 v3 v4 v5 v6 v7) : Safe D c I (B.at (k0_part2 i) v1 v2 v3 v4 v5 v6 v7) := by
  unfold k0_part2; repeat' with_reducible first|infer_instance|exact ld| apply allS| apply allP|intro _| apply seq| apply loop| apply alt| apply br
instance s3 (v1 v2 v3 v4 v5 v6 v7) : Safe D c I (B.at (k0_part3 i) v1 v2 v3 v4 v5 v6 v7) := by
  unfold k0_part3; repeat' with_reducible first|infer_instance|exact ld| apply allS| apply allP|intro _| apply seq| apply loop| apply alt| apply br
instance s4 (v1 v2 v3 v4 v5 v6) : Safe D c I (B.at (k0_part4 i) v1 v2 v3 v4 v5 v6) := by
  unfold k0_part4; repeat' with_reducible first|infer_instance|exact ld| apply allS| apply allP|intro _| apply seq| apply loop| apply alt| apply br
instance s5 (v1 v2 v3 v4 v5 v6 v7 v8) : Safe D c I (B.at (k0_part5 i) v1 v2 v3 v4 v5 v6 v7 v8) := by
  unfold k0_part5; repeat' with_reducible first|infer_instance|exact ld| apply allS| apply allP|intro _| apply seq| apply loop| apply alt| apply br
instance s6 (v1 v2 v3 v4 v5 v6 v7) : Safe D c I (B.at (k0_part6 i) v1 v2 v3 v4 v5 v6 v7) := by
  unfold k0_part6; repeat' with_reducible first|infer_instance|exact ld| apply allS| apply allP|intro _| apply seq| apply loop| apply alt| apply br
instance s7 (v1 v2 v3 v4 v5 v6 v7 v8 v9) : Safe D c I (B.at (k0_part7 i) v1 v2 v3 v4 v5 v6 v7 v8 v9) := by
  unfold k0_part7; repeat' with_reducible first|infer_instance|exact ld| apply allS| apply allP|intro _| apply seq| apply loop| apply alt| apply br
instance s8 (v1 v2 v3 v4 v5) : Safe D c I (B.at (k0_part8 i) v1 v2 v3 v4 v5) := by
  unfold k0_part8; repeat' with_reducible first|infer_instance|exact ld| apply allS| apply allP|intro _| apply seq| apply loop| apply alt| apply br
instance s9 : Safe D c I (B.at (k0_part9 i)) := by
  unfold k0_part9; repeat' with_reducible first|infer_instance|exact ld| apply allS| apply allP|intro _| apply seq| apply loop| apply alt| apply br
instance s10 : Safe D c I (B.at (k0_part10 i)) := by
  unfold k0_part10; repeat' with_reducible first|infer_instance|exact ld| apply allS| apply allP|intro _| apply seq| apply loop| apply alt| apply br
instance s11 (v1 v2 v3) : Safe D c I (B.at (k0_part11 i) v1 v2 v3) := by
  unfold k0_part11; repeat' with_reducible first|infer_instance|exact ld| apply allS| apply allP|intro _| apply seq| apply loop| apply alt| apply br
instance s12 (v1) : Safe D c I (B.at (k0_part12 i) v1) := by
  unfold k0_part12; repeat' with_reducible first|infer_instance|exact ld| apply allS| apply allP|intro _| apply seq| apply loop| apply alt| apply br
instance s13 (v1 v2) : Safe D c I (B.at (k0_part13 i) v1 v2) := by
  unfold k0_part13; repeat' with_reducible first|infer_instance|exact ld| apply allS| apply allP|intro _| apply seq| apply loop| apply alt| apply br
end Cert.Proof.Attn

end
-- ==== Proof.Attn.S02.lean ====
/-
  Parts k0_part14 to k0_part184 of the kernel's body keep the buffers they are given: one fact per part, in the order of the printed
  program, each by walking the part's statements.
-/
module

public import proofs.«01_k».proof.Kernel.P02
public import proofs.«01_k».proof.Proof.Attn.S01

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s14 (v1 v2) : Safe D c I (B.at (k0_part14 i) v1 v2) := by
  unfold k0_part14; repeat' with_reducible first|infer_instance|exact ld| apply allS| apply allP|intro _| apply seq| apply loop| apply alt| apply br
instance s15 (v1) : Safe D c I (B.at (k0_part15 i) v1) := by
  unfold k0_part15; repeat' with_reducible first|infer_instance|exact ld| apply allS| apply allP|intro _| apply seq| apply loop| apply alt| apply br
instance s16 (v1 v2 v3) : Safe D c I (B.at (k0_part16 i) v1 v2 v3) := by
  unfold k0_part16; repeat' with_reducible first|infer_instance|exact ld| apply allS| apply allP|intro _| apply seq| apply loop| apply alt| apply br
instance s17 (v1 v2 v3 v4 v5 v6 v7) : Safe D c I (B.at (k0_part17 i) v1 v2 v3 v4 v5 v6 v7) := by
  unfold k0_part17; repeat' with_reducible first|infer_instance|exact ld| apply allS| apply allP|intro _| apply seq| apply loop| apply alt| apply br
instance s18 (v1 v2 v3 v4 v5 v6) : Safe D c I (B.at (k0_part18 i) v1 v2 v3 v4 v5 v6) := by
  unfold k0_part18; repeat' with_reducible first|infer_instance|exact ld| apply allS| apply allP|intro _| apply seq| apply loop| apply alt| apply br
instance s19 (v1 v2 v3 v4 v5 v6 v7 v8) : Safe D c I (B.at (k0_part19 i) v1 v2 v3 v4 v5 v6 v7 v8) := by
  unfold k0_part19; repeat' with_reducible first|infer_instance|exact ld| apply allS| apply allP|intro _| apply seq| apply loop| apply alt| apply br
instance s20 (v1 v2 v3 v4 v5 v6 v7) : Safe D c I (B.at (k0_part20 i) v1 v2 v3 v4 v5 v6 v7) := by
  unfold k0_part20; repeat' with_reducible first|infer_instance|exact ld| apply allS| apply allP|intro _| apply seq| apply loop| apply alt| apply br
instance s21 (v1 v2 v3 v4 v5 v6 v7) : Safe D c I (B.at (k0_part21 i) v1 v2 v3 v4 v5 v6 v7) := by
  unfold k0_part21; repeat' with_reducible first|infer_instance|exact ld| apply allS| apply allP|intro _| apply seq| apply loop| apply alt| apply br
instance s22 (v1 v2 v3 v4 v5 v6 v7 v8) : Safe D c I (B.at (k0_part22 i) v1 v2 v3 v4 v5 v6 v7 v8) := by
  unfold k0_part22; repeat' with_reducible first|infer_instance|exact ld| apply allS| apply allP|intro _| apply seq| apply loop| apply alt| apply br
instance s23 (v1 v2 v3 v4 v5) : Safe D c I (B.at (k0_part23 i) v1 v2 v3 v4 v5) := by
  unfold k0_part23; repeat' with_reducible first|infer_instance|exact ld| apply allS| apply allP|intro _| apply seq| apply loop| apply alt| apply br
instance s24 (v1 v2 v3 v4 v5) : Safe D c I (B.at (k0_part24 i) v1 v2 v3 v4 v5) := by
  unfold k0_part24; repeat' with_reducible first|infer_instance|exact ld| apply allS| apply allP|intro _| apply seq| apply loop| apply alt| apply br
instance s25 (v1 v2 v3 v4 v5 v6 v7) : Safe D c I (B.at (k0_part25 i) v1 v2 v3 v4 v5 v6 v7) := by
  unfold k0_part25; repeat' with_reducible first|infer_instance|exact ld| apply allS| apply allP|intro _| apply seq| apply loop| apply alt| apply br
instance s26 (v1 v2 v3 v4 v5 v6) : Safe D c I (B.at (k0_part26 i) v1 v2 v3 v4 v5 v6) := by
  unfold k0_part26; repeat' with_reducible first|infer_instance|exact ld| apply allS| apply allP|intro _| apply seq| apply loop| apply alt| apply br
instance s27 (v1 v2 v3 v4 v5 v6) : Safe D c I (B.at (k0_part27 i) v1 v2 v3 v4 v5 v6) := by
  unfold k0_part27; repeat' with_reducible first|infer_instance|exact ld| apply allS| apply allP|intro _| apply seq| apply loop| apply alt| apply br
instance s28 : Safe D c I (B.at (k0_part28 i)) := by
  unfold k0_part28; repeat' with_reducible first|infer_instance|exact ld| apply allS| apply allP|intro _| apply seq| apply loop| apply alt| apply br
instance s29 : Safe D c I (B.at (k0_part29 i)) := by
  unfold k0_part29; repeat' with_reducible first|infer_instance|exact ld| apply allS| apply allP|intro _| apply seq| apply loop| apply alt| apply br
instance s30 : Safe D c I (B.at (k0_part30 i)) := by
  unfold k0_part30; repeat' with_reducible first|infer_instance|exact ld| apply allS| apply allP|intro _| apply seq| apply loop| apply alt| apply br
instance s31 : Safe D c I (B.at (k0_part31 i)) := by
  unfold k0_part31; repeat' with_reducible first|infer_instance|exact ld| apply allS| apply allP|intro _| apply seq| apply loop| apply alt| apply br
instance s32 (v1 v2 v3) : Safe D c I (B.at (k0_part32 i) v1 v2 v3) := by
  unfold k0_part32; repeat' with_reducible first|infer_instance|exact ld| apply allS| apply allP|intro _| apply seq| apply loop| apply alt| apply br
instance s33 (v1) : Safe D c I (B.at (k0_part33 i) v1) := by
  unfold k0_part33; repeat' with_reducible first|infer_instance|exact ld| apply allS| apply allP|intro _| apply seq| apply loop| apply alt| apply br
instance s34 (v1) : Safe D c I (B.at (k0_part34 i) v1) := by
  unfold k0_part34; repeat' with_reducible first|infer_instance|exact ld| apply allS| apply allP|intro _| apply seq| apply loop| apply alt| apply br
instance s35 (v1 v2) : Safe D c I (B.at (k0_part35 i) v1 v2) := by
  unfold k0_part35; repeat' with_reducible first|infer_instance|exact ld| apply allS| apply allP|intro _| apply seq| apply loop| apply alt| apply br
instance s36 (v1) : Safe D c I (B.at (k0_part36 i) v1) := by
  unfold k0_part36; repeat' with_reducible first|infer_instance|exact ld| apply allS| apply allP|intro _| apply seq| apply loop| apply alt| apply br
instance s37 (v1 v2) : Safe D c I (B.at (k0_part37 i) v1 v2) := by
  unfold k0_part37; repeat' with_reducible first|infer_instance|exact ld| apply allS| apply allP|intro _| apply seq| apply loop| apply alt| apply br
instance s38 (v1 v2) : Safe D c I (B.at (k0_part38 i) v1 v2) := by
  unfold k0_part38; repeat' with_reducible first|infer_instance|exact ld| apply allS| apply allP|intro _| apply seq| apply loop| apply alt| apply br
instance s39 (v1 v2 v3 v4 v5) : Safe D c I (B.at (k0_part39 i) v1 v2 v3 v4 v5) := by
  unfold k0_part39; repeat' with_reducible first|infer_instance|exact ld| apply allS| apply allP|intro _| apply seq| apply loop| apply alt| apply br
instance s40 (v1 v2 v3 v4 v5 v6 v7) : Safe D c I (B.at (k0_part40 i) v1 v2 v3 v4 v5 v6 v7) := by
  unfold k0_part40; repeat' with_reducible first|infer_instance|exact ld| apply allS| apply allP|intro _| apply seq| apply loop| apply alt| apply br
instance s41 (v1 v2 v3 v4 v5) : Safe D c I (B.at (k0_part41 i) v1 v2 v3 v4 v5) := by
  unfold k0_part41; repeat' with_reducible first|infer_instance|exact ld| apply allS| apply allP|intro _| apply seq| apply loop| apply alt| apply br
instance s42 (v1 v2 v3 v4 v5 v6 v7 v8) : Safe D c I (B.at (k0_part42 i) v1 v2 v3 v4 v5 v6 v7 v8) := by
  unfold k0_part42; repeat' with_reducible first|infer_instance|exact ld| apply allS| apply allP|intro _| apply seq| apply loop| apply alt| apply br
instance s43 (v1 v2 v3 v4 v5 v6 v7 v8) : Safe D c I (B.at (k0_part43 i) v1 v2 v3 v4 v5 v6 v7 v8) := by
  unfold k0_part43; repeat' with_reducible first|infer_instance|exact ld| apply allS| apply allP|intro _| apply seq| apply loop| apply alt| apply br
instance s44 (v1 v2 v3 v4 v5 v6) : Safe D c I (B.at (k0_part44 i) v1 v2 v3 v4 v5 v6) := by
  unfold k0_part44; repeat' with_reducible first|infer_instance|exact ld| apply allS| apply allP|intro _| apply seq| apply loop| apply alt| apply br
instance s45 (v1 v2 v3 v4 v5 v6) : Safe D c I (B.at (k0_part45 i) v1 v2 v3 v4 v5 v6) := by
  unfold k0_part45; repeat' with_reducible first|infer_instance|exact ld| apply allS| apply allP|intro _| apply seq| apply loop| apply alt| apply br
instance s46 (v1 v2 v3 v4 v5 v6 v7) : Safe D c I (B.at (k0_part46 i) v1 v2 v3 v4 v5 v6 v7) := by
  unfold k0_part46; repeat' with_reducible first|infer_instance|exact ld| apply allS| apply allP|intro _| apply seq| apply loop| apply alt| apply br
instance s47 (v1 v2 v3 v4 v5 v6 v7) : Safe D c I (B.at (k0_part47 i) v1 v2 v3 v4 v5 v6 v7) := by
  unfold k0_part47; repeat' with_reducible first|infer_instance|exact ld| apply allS| apply allP|intro _| apply seq| apply loop| apply alt| apply br
instance s48 (v1 v2 v3 v4 v5) : Safe D c I (B.at (k0_part48 i) v1 v2 v3 v4 v5) := by
  unfold k0_part48; repeat' with_reducible first|infer_instance|exact ld| apply allS| apply allP|intro _| apply seq| apply loop| apply alt| apply br
instance s49 (v1 v2 v3 v4 v5 v6) : Safe D c I (B.at (k0_part49 i) v1 v2 v3 v4 v5 v6) := by
  unfold k0_part49; repeat' with_reducible first|infer_instance|exact ld| apply allS| apply allP|intro _| apply seq| apply loop| apply alt| apply br
instance s50 (v1 v2 v3 v4) : Safe D c I (B.at (k0_part50 i) v1 v2 v3 v4) := by
  unfold k0_part50; repeat' with_reducible first|infer_instance|exact ld| apply allS| apply allP|intro _| apply seq| apply loop| apply alt| apply br
instance s51 (v1 v2 v3 v4 v5 v6 v7 v8) : Safe D c I (B.at (k0_part51 i) v1 v2 v3 v4 v5 v6 v7 v8) := by
  unfold k0_part51; repeat' with_reducible first|infer_instance|exact ld| apply allS| apply allP|intro _| apply seq| apply loop| apply alt| apply br
instance s52 (v1 v2 v3 v4 v5 v6) : Safe D c I (B.at (k0_part52 i) v1 v2 v3 v4 v5 v6) := by
  unfold k0_part52; repeat' with_reducible first|infer_instance|exact ld| apply allS| apply allP|intro _| apply seq| apply loop| apply alt| apply br
instance s53 : Safe D c I (B.at (k0_part53 i)) := by
  unfold k0_part53; repeat' with_reducible first|infer_instance|exact ld| apply allS| apply allP|intro _| apply seq| apply loop| apply alt| apply br
instance s54 : Safe D c I (B.at (k0_part54 i)) := by
  unfold k0_part54; repeat' with_reducible first|infer_instance|exact ld| apply allS| apply allP|intro _| apply seq| apply loop| apply alt| apply br
instance s55 : Safe D c I (B.at (k0_part55 i)) := by
  unfold k0_part55; repeat' with_reducible first|infer_instance|exact ld| apply allS| apply allP|intro _| apply seq| apply loop| apply alt| apply br
instance s56 : Safe D c I (B.at (k0_part56 i)) := by
  unfold k0_part56; repeat' with_reducible first|infer_instance|exact ld| apply allS| apply allP|intro _| apply seq| apply loop| apply alt| apply br
instance s57 : Safe D c I (B.at (k0_part57 i)) := by
  unfold k0_part57; repeat' with_reducible first|infer_instance|exact ld| apply allS| apply allP|intro _| apply seq| apply loop| apply alt| apply br
instance s58 (v1 v2 v3) : Safe D c I (B.at (k0_part58 i) v1 v2 v3) := by
  unfold k0_part58; repeat' with_reducible first|infer_instance|exact ld| apply allS| apply allP|intro _| apply seq| apply loop| apply alt| apply br
instance s59 (v1 v2 v3) : Safe D c I (B.at (k0_part59 i) v1 v2 v3) := by
  unfold k0_part59; repeat' with_reducible first|infer_instance|exact ld| apply allS| apply allP|intro _| apply seq| apply loop| apply alt| apply br
instance s60 (v1 v2) : Safe D c I (B.at (k0_part60 i) v1 v2) := by
  unfold k0_part60; repeat' with_reducible first|infer_instance|exact ld| apply allS| apply allP|intro _| apply seq| apply loop| apply alt| apply br
instance s61 : Safe D c I (B.at (k0_part61 i)) := by
  unfold k0_part61; repeat' with_reducible first|infer_instance|exact ld| apply allS| apply allP|intro _| apply seq| apply loop| apply alt| apply br
instance s62 (v1) : Safe D c I (B.at (k0_part62 i) v1) := by
  unfold k0_part62; repeat' with_reducible first|infer_instance|exact ld| apply allS| apply allP|intro _| apply seq| apply loop| apply alt| apply br
instance s63 (v1 v2 v3) : Safe D c I (B.at (k0_part63 i) v1 v2 v3) := by
  unfold k0_part63; repeat' with_reducible first|infer_instance|exact ld| apply allS| apply allP|intro _| apply seq| apply loop| apply alt| apply br
instance s64 (v1) : Safe D c I (B.at (k0_part64 i) v1) := by
  unfold k0_part64; repeat' with_reducible first|infer_instance|exact ld| apply allS| apply allP|intro _| apply seq| apply loop| apply alt| apply br
instance s65 (v1 v2 v3) : Safe D c I (B.at (k0_part65 i) v1 v2 v3) := by
  unfold k0_part65; repeat' with_reducible first|infer_instance|exact ld| apply allS| apply allP|intro _| apply seq| apply loop| apply alt| apply br
instance s66 (v1 v2) : Safe D c I (B.at (k0_part66 i) v1 v2) := by
  unfold k0_part66; repeat' with_reducible first|infer_instance|exact ld| apply allS| apply allP|intro _| apply seq| apply loop| apply alt| apply br
instance s67 (v1 v2 v3) : Safe D c I (B.at (k0_part67 i) v1 v2 v3) := by
  unfold k0_part67; repeat' with_reducible first|infer_instance|exact ld| apply allS| apply allP|intro _| apply seq| apply loop| apply alt| apply br
instance s68 (v1 v2 v3 v4 v5) : Safe D c I (B.at (k0_part68 i) v1 v2 v3 v4 v5) := by
  unfold k0_part68; repeat' with_reducible first|infer_instance|exact ld| apply allS| apply allP|intro _| apply seq| apply loop| apply alt| apply br
instance s69 (v1 v2 v3 v4 v5 v6 v7) : Safe D c I (B.at (k0_part69 i) v1 v2 v3 v4 v5 v6 v7) := by
  unfold k0_part69; repeat' with_reducible first|infer_instance|exact ld| apply allS| apply allP|intro _| apply seq| apply loop| apply alt| apply br
instance s70 (v1 v2 v3 v4 v5) : Safe D c I (B.at (k0_part70 i) v1 v2 v3 v4 v5) := by
  unfold k0_part70; repeat' with_reducible first|infer_instance|exact ld| apply allS| apply allP|intro _| apply seq| apply loop| apply alt| apply br
instance s71 (v1 v2 v3 v4 v5) : Safe D c I (B.at (k0_part71 i) v1 v2 v3 v4 v5) := by
  unfold k0_part71; repeat' with_reducible first|infer_instance|exact ld| apply allS| apply allP|intro _| apply seq| apply loop| apply alt| apply br
instance s72 (v1 v2 v3 v4 v5 v6 v7) : Safe D c I (B.at (k0_part72 i) v1 v2 v3 v4 v5 v6 v7) := by
  unfold k0_part72; repeat' with_reducible first|infer_instance|exact ld| apply allS| apply allP|intro _| apply seq| apply loop| apply alt| apply br
instance s73 (v1 v2 v3 v4 v5 v6 v7) : Safe D c I (B.at (k0_part73 i) v1 v2 v3 v4 v5 v6 v7) := by
  unfold k0_part73; repeat' with_reducible first|infer_instance|exact ld| apply allS| apply allP|intro _| apply seq| apply loop| apply alt| apply br
instance s74 (v1 v2 v3 v4 v5 v6 v7) : Safe D c I (B.at (k0_part74 i) v1 v2 v3 v4 v5 v6 v7) := by
  unfold k0_part74; repeat' with_reducible first|infer_instance|exact ld| apply allS| apply allP|intro _| apply seq| apply loop| apply alt| apply br
instance s75 (v1 v2 v3 v4 v5) : Safe D c I (B.at (k0_part75 i) v1 v2 v3 v4 v5) := by
  unfold k0_part75; repeat' with_reducible first|infer_instance|exact ld| apply allS| apply allP|intro _| apply seq| apply loop| apply alt| apply br
instance s76 (v1 v2 v3 v4 v5 v6) : Safe D c I (B.at (k0_part76 i) v1 v2 v3 v4 v5 v6) := by
  unfold k0_part76; repeat' with_reducible first|infer_instance|exact ld| apply allS| apply allP|intro _| apply seq| apply loop| apply alt| apply br
instance s77 (v1 v2 v3 v4 v5 v6) : Safe D c I (B.at (k0_part77 i) v1 v2 v3 v4 v5 v6) := by
  unfold k0_part77; repeat' with_reducible first|infer_instance|exact ld| apply allS| apply allP|intro _| apply seq| apply loop| apply alt| apply br
instance s78 (v1 v2 v3 v4 v5 v6 v7 v8) : Safe D c I (B.at (k0_part78 i) v1 v2 v3 v4 v5 v6 v7 v8) := by
  unfold k0_part78; repeat' with_reducible first|infer_instance|exact ld| apply allS| apply allP|intro _| apply seq| apply loop| apply alt| apply br
instance s79 (v1 v2 v3 v4 v5 v6) : Safe D c I (B.at (k0_part79 i) v1 v2 v3 v4 v5 v6) := by
  unfold k0_part79; repeat' with_reducible first|infer_instance|exact ld| apply allS| apply allP|intro _| apply seq| apply loop| apply alt| apply br
instance s80 (v1 v2 v3 v4 v5 v6) : Safe D c I (B.at (k0_part80 i) v1 v2 v3 v4 v5 v6) := by
  unfold k0_part80; repeat' with_reducible first|infer_instance|exact ld| apply allS| apply allP|intro _| apply seq| apply loop| apply alt| apply br
instance s81 (v1 v2 v3 v4 v5 v6 v7) : Safe D c I (B.at (k0_part81 i) v1 v2 v3 v4 v5 v6 v7) := by
  unfold k0_part81; repeat' with_reducible first|infer_instance|exact ld| apply allS| apply allP|intro _| apply seq| apply loop| apply alt| apply br
instance s82 (v1 v2 v3 v4 v5 v6 v7) : Safe D c I (B.at (k0_part82 i) v1 v2 v3 v4 v5 v6 v7) := by
  unfold k0_part82; repeat' with_reducible first|infer_instance|exact ld| apply allS| apply allP|intro _| apply seq| apply loop| apply alt| apply br
instance s83 (v1 v2 v3 v4 v5 v6 v7 v8 v9) : Safe D c I (B.at (k0_part83 i) v1 v2 v3 v4 v5 v6 v7 v8 v9) := by
  unfold k0_part83; repeat' with_reducible first|infer_instance|exact ld| apply allS| apply allP|intro _| apply seq| apply loop| apply alt| apply br
instance s84 (v1 v2 v3 v4 v5) : Safe D c I (B.at (k0_part84 i) v1 v2 v3 v4 v5) := by
  unfold k0_part84; repeat' with_reducible first|infer_instance|exact ld| apply allS| apply allP|intro _| apply seq| apply loop| apply alt| apply br
instance s85 (v1 v2 v3 v4 v5) : Safe D c I (B.at (k0_part85 i) v1 v2 v3 v4 v5) := by
  unfold k0_part85; repeat' with_reducible first|infer_instance|exact ld| apply allS| apply allP|intro _| apply seq| apply loop| apply alt| apply br
instance s86 : Safe D c I (B.at (k0_part86 i)) := by
  unfold k0_part86; repeat' with_reducible first|infer_instance|exact ld| apply allS| apply allP|intro _| apply seq| apply loop| apply alt| apply br
instance s87 : Safe D c I (B.at (k0_part87 i)) := by
  unfold k0_part87; repeat' with_reducible first|infer_instance|exact ld| apply allS| apply allP|intro _| apply seq| apply loop| apply alt| apply br
instance s88 : Safe D c I (B.at (k0_part88 i)) := by
  unfold k0_part88; repeat' with_reducible first|infer_instance|exact ld| apply allS| apply allP|intro _| apply seq| apply loop| apply alt| apply br
instance s89 : Safe D c I (B.at (k0_part89 i)) := by
  unfold k0_part89; repeat' with_reducible first|infer_instance|exact ld| apply allS| apply allP|intro _| apply seq| apply loop| apply alt| apply br
instance s90 : Safe D c I (B.at (k0_part90 i)) := by
  unfold k0_part90; repeat' with_reducible first|infer_instance|exact ld| apply allS| apply allP|intro _| apply seq| apply loop| apply alt| apply br
instance s91 : Safe D c I (B.at (k0_part91 i)) := by
  unfold k0_part91; repeat' with_reducible first|infer_instance|exact ld| apply allS| apply allP|intro _| apply seq| apply loop| apply alt| apply br
instance s92 (v1 v2 v3) : Safe D c I (B.at (k0_part92 i) v1 v2 v3) := by
  unfold k0_part92; repeat' with_reducible first|infer_instance|exact ld| apply allS| apply allP|intro _| apply seq| apply loop| apply alt| apply br
instance s93 (v1) : Safe D c I (B.at (k0_part93 i) v1) := by
  unfold k0_part93; repeat' with_reducible first|infer_instance|exact ld| apply allS| apply allP|intro _| apply seq| apply loop| apply alt| apply br
instance s94 : Safe D c I (B.at (k0_part94 i)) := by
  unfold k0_part94; repeat' with_reducible first|infer_instance|exact ld| apply allS| apply allP|intro _| apply seq| apply loop| apply alt| apply br
instance s95 (v1) : Safe D c I (B.at (k0_part95 i) v1) := by
  unfold k0_part95; repeat' with_reducible first|infer_instance|exact ld| apply allS| apply allP|intro _| apply seq| apply loop| apply alt| apply br
instance s96 (v1) : Safe D c I (B.at (k0_part96 i) v1) := by
  unfold k0_part96; repeat' with_reducible first|infer_instance|exact ld| apply allS| apply allP|intro _| apply seq| apply loop| apply alt| apply br
instance s97 (v1 v2) : Safe D c I (B.at (k0_part97 i) v1 v2) := by
  unfold k0_part97; repeat' with_reducible first|infer_instance|exact ld| apply allS| apply allP|intro _| apply seq| apply loop| apply alt| apply br
instance s98 (v1 v2) : Safe D c I (B.at (k0_part98 i) v1 v2) := by
  unfold k0_part98; repeat' with_reducible first|infer_instance|exact ld| apply allS| apply allP|intro _| apply seq| apply loop| apply alt| apply br
instance s99 (v1 v2) : Safe D c I (B.at (k0_part99 i) v1 v2) := by
  unfold k0_part99; repeat' with_reducible first|infer_instance|exact ld| apply allS| apply allP|intro _| apply seq| apply loop| apply alt| apply br
instance s100 (v1 v2) : Safe D c I (B.at (k0_part100 i) v1 v2) := by
  unfold k0_part100; repeat' with_reducible first|infer_instance|exact ld| apply allS| apply allP|intro _| apply seq| apply loop| apply alt| apply br
instance s101 (v1 v2) : Safe D c I (B.at (k0_part101 i) v1 v2) := by
  unfold k0_part101; repeat' with_reducible first|infer_instance|exact ld| apply allS| apply allP|intro _| apply seq| apply loop| apply alt| apply br
instance s102 (v1 v2 v3) : Safe D c I (B.at (k0_part102 i) v1 v2 v3) := by
  unfold k0_part102; repeat' with_reducible first|infer_instance|exact ld| apply allS| apply allP|intro _| apply seq| apply loop| apply alt| apply br
instance s103 : Safe D c I (B.at (k0_part103 i)) := by
  unfold k0_part103; repeat' with_reducible first|infer_instance|exact ld| apply allS| apply allP|intro _| apply seq| apply loop| apply alt| apply br
instance s104 (v1 v2 v3 v4 v5) : Safe D c I (B.at (k0_part104 i) v1 v2 v3 v4 v5) := by
  unfold k0_part104; repeat' with_reducible first|infer_instance|exact ld| apply allS| apply allP|intro _| apply seq| apply loop| apply alt| apply br
instance s105 (v1 v2 v3 v4 v5 v6 v7 v8 v9) : Safe D c I (B.at (k0_part105 i) v1 v2 v3 v4 v5 v6 v7 v8 v9) := by
  unfold k0_part105; repeat' with_reducible first|infer_instance|exact ld| apply allS| apply allP|intro _| apply seq| apply loop| apply alt| apply br
instance s106 (v1 v2 v3 v4 v5) : Safe D c I (B.at (k0_part106 i) v1 v2 v3 v4 v5) := by
  unfold k0_part106; repeat' with_reducible first|infer_instance|exact ld| apply allS| apply allP|intro _| apply seq| apply loop| apply alt| apply br
instance s107 (v1 v2 v3 v4 v5) : Safe D c I (B.at (k0_part107 i) v1 v2 v3 v4 v5) := by
  unfold k0_part107; repeat' with_reducible first|infer_instance|exact ld| apply allS| apply allP|intro _| apply seq| apply loop| apply alt| apply br
instance s108 (v1 v2 v3 v4 v5) : Safe D c I (B.at (k0_part108 i) v1 v2 v3 v4 v5) := by
  unfold k0_part108; repeat' with_reducible first|infer_instance|exact ld| apply allS| apply allP|intro _| apply seq| apply loop| apply alt| apply br
instance s109 (v1 v2 v3 v4 v5 v6 v7) : Safe D c I (B.at (k0_part109 i) v1 v2 v3 v4 v5 v6 v7) := by
  unfold k0_part109; repeat' with_reducible first|infer_instance|exact ld| apply allS| apply allP|intro _| apply seq| apply loop| apply alt| apply br
instance s110 (v1 v2 v3 v4 v5 v6 v7 v8) : Safe D c I (B.at (k0_part110 i) v1 v2 v3 v4 v5 v6 v7 v8) := by
  unfold k0_part110; repeat' with_reducible first|infer_instance|exact ld| apply allS| apply allP|intro _| apply seq| apply loop| apply alt| apply br
instance s111 (v1 v2 v3 v4 v5 v6 v7 v8 v9) : Safe D c I (B.at (k0_part111 i) v1 v2 v3 v4 v5 v6 v7 v8 v9) := by
  unfold k0_part111; repeat' with_reducible first|infer_instance|exact ld| apply allS| apply allP|intro _| apply seq| apply loop| apply alt| apply br
instance s112 (v1 v2 v3 v4 v5) : Safe D c I (B.at (k0_part112 i) v1 v2 v3 v4 v5) := by
  unfold k0_part112; repeat' with_reducible first|infer_instance|exact ld| apply allS| apply allP|intro _| apply seq| apply loop| apply alt| apply br
instance s113 (v1 v2 v3 v4 v5) : Safe D c I (B.at (k0_part113 i) v1 v2 v3 v4 v5) := by
  unfold k0_part113; repeat' with_reducible first|infer_instance|exact ld| apply allS| apply allP|intro _| apply seq| apply loop| apply alt| apply br
instance s114 (v1 v2 v3 v4 v5 v6 v7 v8) : Safe D c I (B.at (k0_part114 i) v1 v2 v3 v4 v5 v6 v7 v8) := by
  unfold k0_part114; repeat' with_reducible first|infer_instance|exact ld| apply allS| apply allP|intro _| apply seq| apply loop| apply alt| apply br
instance s115 (v1 v2 v3 v4 v5) : Safe D c I (B.at (k0_part115 i) v1 v2 v3 v4 v5) := by
  unfold k0_part115; repeat' with_reducible first|infer_instance|exact ld| apply allS| apply allP|intro _| apply seq| apply loop| apply alt| apply br
instance s116 (v1 v2 v3 v4 v5 v6 v7 v8 v9) : Safe D c I (B.at (k0_part116 i) v1 v2 v3 v4 v5 v6 v7 v8 v9) := by
  unfold k0_part116; repeat' with_reducible first|infer_instance|exact ld| apply allS| apply allP|intro _| apply seq| apply loop| apply alt| apply br
instance s117 (v1 v2 v3 v4 v5 v6) : Safe D c I (B.at (k0_part117 i) v1 v2 v3 v4 v5 v6) := by
  unfold k0_part117; repeat' with_reducible first|infer_instance|exact ld| apply allS| apply allP|intro _| apply seq| apply loop| apply alt| apply br
instance s118 (v1 v2 v3 v4 v5 v6) : Safe D c I (B.at (k0_part118 i) v1 v2 v3 v4 v5 v6) := by
  unfold k0_part118; repeat' with_reducible first|infer_instance|exact ld| apply allS| apply allP|intro _| apply seq| apply loop| apply alt| apply br
instance s119 (v1 v2 v3 v4 v5) : Safe D c I (B.at (k0_part119 i) v1 v2 v3 v4 v5) := by
  unfold k0_part119; repeat' with_reducible first|infer_instance|exact ld| apply allS| apply allP|intro _| apply seq| apply loop| apply alt| apply br
instance s120 (v1 v2 v3 v4 v5 v6 v7) : Safe D c I (B.at (k0_part120 i) v1 v2 v3 v4 v5 v6 v7) := by
  unfold k0_part120; repeat' with_reducible first|infer_instance|exact ld| apply allS| apply allP|intro _| apply seq| apply loop| apply alt| apply br
instance s121 (v1 v2 v3 v4 v5 v6 v7) : Safe D c I (B.at (k0_part121 i) v1 v2 v3 v4 v5 v6 v7) := by
  unfold k0_part121; repeat' with_reducible first|infer_instance|exact ld| apply allS| apply allP|intro _| apply seq| apply loop| apply alt| apply br
instance s122 (v1 v2 v3 v4 v5 v6) : Safe D c I (B.at (k0_part122 i) v1 v2 v3 v4 v5 v6) := by
  unfold k0_part122; repeat' with_reducible first|infer_instance|exact ld| apply allS| apply allP|intro _| apply seq| apply loop| apply alt| apply br
instance s123 (v1 v2 v3 v4 v5) : Safe D c I (B.at (k0_part123 i) v1 v2 v3 v4 v5) := by
  unfold k0_part123; repeat' with_reducible first|infer_instance|exact ld| apply allS| apply allP|intro _| apply seq| apply loop| apply alt| apply br
instance s124 (v1 v2 v3 v4 v5) : Safe D c I (B.at (k0_part124 i) v1 v2 v3 v4 v5) := by
  unfold k0_part124; repeat' with_reducible first|infer_instance|exact ld| apply allS| apply allP|intro _| apply seq| apply loop| apply alt| apply br
instance s125 : Safe D c I (B.at (k0_part125 i)) := by
  unfold k0_part125; repeat' with_reducible first|infer_instance|exact ld| apply allS| apply allP|intro _| apply seq| apply loop| apply alt| apply br
instance s126 : Safe D c I (B.at (k0_part126 i)) := by
  unfold k0_part126; repeat' with_reducible first|infer_instance|exact ld| apply allS| apply allP|intro _| apply seq| apply loop| apply alt| apply br
instance s127 : Safe D c I (B.at (k0_part127 i)) := by
  unfold k0_part127; repeat' with_reducible first|infer_instance|exact ld| apply allS| apply allP|intro _| apply seq| apply loop| apply alt| apply br
instance s128 : Safe D c I (B.at (k0_part128 i)) := by
  unfold k0_part128; repeat' with_reducible first|infer_instance|exact ld| apply allS| apply allP|intro _| apply seq| apply loop| apply alt| apply br
instance s129 : Safe D c I (B.at (k0_part129 i)) := by
  unfold k0_part129; repeat' with_reducible first|infer_instance|exact ld| apply allS| apply allP|intro _| apply seq| apply loop| apply alt| apply br
instance s130 : Safe D c I (B.at (k0_part130 i)) := by
  unfold k0_part130; repeat' with_reducible first|infer_instance|exact ld| apply allS| apply allP|intro _| apply seq| apply loop| apply alt| apply br
instance s131 : Safe D c I (B.at (k0_part131 i)) := by
  unfold k0_part131; repeat' with_reducible first|infer_instance|exact ld| apply allS| apply allP|intro _| apply seq| apply loop| apply alt| apply br
instance s132 : Safe D c I (B.at (k0_part132 i)) := by
  unfold k0_part132; repeat' with_reducible first|infer_instance|exact ld| apply allS| apply allP|intro _| apply seq| apply loop| apply alt| apply br
instance s133 (v1 v2 v3) : Safe D c I (B.at (k0_part133 i) v1 v2 v3) := by
  unfold k0_part133; repeat' with_reducible first|infer_instance|exact ld| apply allS| apply allP|intro _| apply seq| apply loop| apply alt| apply br
instance s134 (v1 v2 v3 v4 v5) : Safe D c I (B.at (k0_part134 i) v1 v2 v3 v4 v5) := by
  unfold k0_part134; repeat' with_reducible first|infer_instance|exact ld| apply allS| apply allP|intro _| apply seq| apply loop| apply alt| apply br
instance s135 (v1 v2) : Safe D c I (B.at (k0_part135 i) v1 v2) := by
  unfold k0_part135; repeat' with_reducible first|infer_instance|exact ld| apply allS| apply allP|intro _| apply seq| apply loop| apply alt| apply br
instance s136 (v1 v2) : Safe D c I (B.at (k0_part136 i) v1 v2) := by
  unfold k0_part136; repeat' with_reducible first|infer_instance|exact ld| apply allS| apply allP|intro _| apply seq| apply loop| apply alt| apply br
instance s137 (v1 v2) : Safe D c I (B.at (k0_part137 i) v1 v2) := by
  unfold k0_part137; repeat' with_reducible first|infer_instance|exact ld| apply allS| apply allP|intro _| apply seq| apply loop| apply alt| apply br
instance s138 (v1) : Safe D c I (B.at (k0_part138 i) v1) := by
  unfold k0_part138; repeat' with_reducible first|infer_instance|exact ld| apply allS| apply allP|intro _| apply seq| apply loop| apply alt| apply br
instance s139 (v1) : Safe D c I (B.at (k0_part139 i) v1) := by
  unfold k0_part139; repeat' with_reducible first|infer_instance|exact ld| apply allS| apply allP|intro _| apply seq| apply loop| apply alt| apply br
instance s140 (v1) : Safe D c I (B.at (k0_part140 i) v1) := by
  unfold k0_part140; repeat' with_reducible first|infer_instance|exact ld| apply allS| apply allP|intro _| apply seq| apply loop| apply alt| apply br
instance s141 (v1 v2 v3 v4 v5 v6) : Safe D c I (B.at (k0_part141 i) v1 v2 v3 v4 v5 v6) := by
  unfold k0_part141; repeat' with_reducible first|infer_instance|exact ld| apply allS| apply allP|intro _| apply seq| apply loop| apply alt| apply br
instance s142 : Safe D c I (B.at (k0_part142 i)) := by
  unfold k0_part142; repeat' with_reducible first|infer_instance|exact ld| apply allS| apply allP|intro _| apply seq| apply loop| apply alt| apply br
instance s143 (v1 v2) : Safe D c I (B.at (k0_part143 i) v1 v2) := by
  unfold k0_part143; repeat' with_reducible first|infer_instance|exact ld| apply allS| apply allP|intro _| apply seq| apply loop| apply alt| apply br
instance s144 (v1 v2 v3) : Safe D c I (B.at (k0_part144 i) v1 v2 v3) := by
  unfold k0_part144; repeat' with_reducible first|infer_instance|exact ld| apply allS| apply allP|intro _| apply seq| apply loop| apply alt| apply br
instance s145 (v1 v2) : Safe D c I (B.at (k0_part145 i) v1 v2) := by
  unfold k0_part145; repeat' with_reducible first|infer_instance|exact ld| apply allS| apply allP|intro _| apply seq| apply loop| apply alt| apply br
instance s146 (v1 v2 v3) : Safe D c I (B.at (k0_part146 i) v1 v2 v3) := by
  unfold k0_part146; repeat' with_reducible first|infer_instance|exact ld| apply allS| apply allP|intro _| apply seq| apply loop| apply alt| apply br
instance s147 (v1 v2 v3 v4 v5) : Safe D c I (B.at (k0_part147 i) v1 v2 v3 v4 v5) := by
  unfold k0_part147; repeat' with_reducible first|infer_instance|exact ld| apply allS| apply allP|intro _| apply seq| apply loop| apply alt| apply br
instance s148 (v1 v2 v3 v4 v5 v6 v7 v8) : Safe D c I (B.at (k0_part148 i) v1 v2 v3 v4 v5 v6 v7 v8) := by
  unfold k0_part148; repeat' with_reducible first|infer_instance|exact ld| apply allS| apply allP|intro _| apply seq| apply loop| apply alt| apply br
instance s149 (v1 v2 v3 v4 v5 v6 v7 v8 v9 v10 v11 v12) : Safe D c I (B.at (k0_part149 i) v1 v2 v3 v4 v5 v6 v7 v8 v9 v10 v11 v12) := by
  unfold k0_part149; repeat' with_reducible first|infer_instance|exact ld| apply allS| apply allP|intro _| apply seq| apply loop| apply alt| apply br
instance s150 (v1 v2 v3 v4 v5 v6) : Safe D c I (B.at (k0_part150 i) v1 v2 v3 v4 v5 v6) := by
  unfold k0_part150; repeat' with_reducible first|infer_instance|exact ld| apply allS| apply allP|intro _| apply seq| apply loop| apply alt| apply br
instance s151 (v1 v2 v3 v4 v5) : Safe D c I (B.at (k0_part151 i) v1 v2 v3 v4 v5) := by
  unfold k0_part151; repeat' with_reducible first|infer_instance|exact ld| apply allS| apply allP|intro _| apply seq| apply loop| apply alt| apply br
instance s152 (v1 v2 v3 v4 v5) : Safe D c I (B.at (k0_part152 i) v1 v2 v3 v4 v5) := by
  unfold k0_part152; repeat' with_reducible first|infer_instance|exact ld| apply allS| apply allP|intro _| apply seq| apply loop| apply alt| apply br
instance s153 (v1 v2 v3 v4 v5 v6) : Safe D c I (B.at (k0_part153 i) v1 v2 v3 v4 v5 v6) := by
  unfold k0_part153; repeat' with_reducible first|infer_instance|exact ld| apply allS| apply allP|intro _| apply seq| apply loop| apply alt| apply br
instance s154 (v1 v2 v3 v4 v5 v6 v7 v8 v9) : Safe D c I (B.at (k0_part154 i) v1 v2 v3 v4 v5 v6 v7 v8 v9) := by
  unfold k0_part154; repeat' with_reducible first|infer_instance|exact ld| apply allS| apply allP|intro _| apply seq| apply loop| apply alt| apply br
instance s155 (v1 v2 v3 v4 v5 v6 v7 v8 v9 v10 v11) : Safe D c I (B.at (k0_part155 i) v1 v2 v3 v4 v5 v6 v7 v8 v9 v10 v11) := by
  unfold k0_part155; repeat' with_reducible first|infer_instance|exact ld| apply allS| apply allP|intro _| apply seq| apply loop| apply alt| apply br
instance s156 (v1 v2 v3 v4 v5) : Safe D c I (B.at (k0_part156 i) v1 v2 v3 v4 v5) := by
  unfold k0_part156; repeat' with_reducible first|infer_instance|exact ld| apply allS| apply allP|intro _| apply seq| apply loop| apply alt| apply br
instance s157 (v1 v2 v3 v4 v5) : Safe D c I (B.at (k0_part157 i) v1 v2 v3 v4 v5) := by
  unfold k0_part157; repeat' with_reducible first|infer_instance|exact ld| apply allS| apply allP|intro _| apply seq| apply loop| apply alt| apply br
instance s158 (v1 v2 v3 v4 v5) : Safe D c I (B.at (k0_part158 i) v1 v2 v3 v4 v5) := by
  unfold k0_part158; repeat' with_reducible first|infer_instance|exact ld| apply allS| apply allP|intro _| apply seq| apply loop| apply alt| apply br
instance s159 (v1 v2 v3 v4 v5 v6 v7) : Safe D c I (B.at (k0_part159 i) v1 v2 v3 v4 v5 v6 v7) := by
  unfold k0_part159; repeat' with_reducible first|infer_instance|exact ld| apply allS| apply allP|intro _| apply seq| apply loop| apply alt| apply br
instance s160 (v1 v2 v3 v4 v5 v6 v7) : Safe D c I (B.at (k0_part160 i) v1 v2 v3 v4 v5 v6 v7) := by
  unfold k0_part160; repeat' with_reducible first|infer_instance|exact ld| apply allS| apply allP|intro _| apply seq| apply loop| apply alt| apply br
instance s161 (v1 v2 v3 v4 v5 v6 v7 v8 v9 v10) : Safe D c I (B.at (k0_part161 i) v1 v2 v3 v4 v5 v6 v7 v8 v9 v10) := by
  unfold k0_part161; repeat' with_reducible first|infer_instance|exact ld| apply allS| apply allP|intro _| apply seq| apply loop| apply alt| apply br
instance s162 (v1 v2 v3 v4 v5) : Safe D c I (B.at (k0_part162 i) v1 v2 v3 v4 v5) := by
  unfold k0_part162; repeat' with_reducible first|infer_instance|exact ld| apply allS| apply allP|intro _| apply seq| apply loop| apply alt| apply br
instance s163 (v1 v2 v3 v4 v5) : Safe D c I (B.at (k0_part163 i) v1 v2 v3 v4 v5) := by
  unfold k0_part163; repeat' with_reducible first|infer_instance|exact ld| apply allS| apply allP|intro _| apply seq| apply loop| apply alt| apply br
instance s164 (v1 v2 v3 v4 v5) : Safe D c I (B.at (k0_part164 i) v1 v2 v3 v4 v5) := by
  unfold k0_part164; repeat' with_reducible first|infer_instance|exact ld| apply allS| apply allP|intro _| apply seq| apply loop| apply alt| apply br
instance s165 (v1 v2 v3 v4 v5 v6 v7 v8 v9) : Safe D c I (B.at (k0_part165 i) v1 v2 v3 v4 v5 v6 v7 v8 v9) := by
  unfold k0_part165; repeat' with_reducible first|infer_instance|exact ld| apply allS| apply allP|intro _| apply seq| apply loop| apply alt| apply br
instance s166 (v1 v2 v3 v4 v5) : Safe D c I (B.at (k0_part166 i) v1 v2 v3 v4 v5) := by
  unfold k0_part166; repeat' with_reducible first|infer_instance|exact ld| apply allS| apply allP|intro _| apply seq| apply loop| apply alt| apply br
instance s167 (v1 v2 v3 v4 v5 v6 v7 v8 v9) : Safe D c I (B.at (k0_part167 i) v1 v2 v3 v4 v5 v6 v7 v8 v9) := by
  unfold k0_part167; repeat' with_reducible first|infer_instance|exact ld| apply allS| apply allP|intro _| apply seq| apply loop| apply alt| apply br
instance s168 (v1 v2 v3 v4 v5 v6) : Safe D c I (B.at (k0_part168 i) v1 v2 v3 v4 v5 v6) := by
  unfold k0_part168; repeat' with_reducible first|infer_instance|exact ld| apply allS| apply allP|intro _| apply seq| apply loop| apply alt| apply br
instance s169 (v1 v2 v3 v4 v5 v6) : Safe D c I (B.at (k0_part169 i) v1 v2 v3 v4 v5 v6) := by
  unfold k0_part169; repeat' with_reducible first|infer_instance|exact ld| apply allS| apply allP|intro _| apply seq| apply loop| apply alt| apply br
instance s170 (v1 v2 v3 v4 v5) : Safe D c I (B.at (k0_part170 i) v1 v2 v3 v4 v5) := by
  unfold k0_part170; repeat' with_reducible first|infer_instance|exact ld| apply allS| apply allP|intro _| apply seq| apply loop| apply alt| apply br
instance s171 (v1 v2 v3 v4 v5 v6 v7) : Safe D c I (B.at (k0_part171 i) v1 v2 v3 v4 v5 v6 v7) := by
  unfold k0_part171; repeat' with_reducible first|infer_instance|exact ld| apply allS| apply allP|intro _| apply seq| apply loop| apply alt| apply br
instance s172 : Safe D c I (B.at (k0_part172 i)) := by
  unfold k0_part172; repeat' with_reducible first|infer_instance|exact ld| apply allS| apply allP|intro _| apply seq| apply loop| apply alt| apply br
instance s173 : Safe D c I (B.at (k0_part173 i)) := by
  unfold k0_part173; repeat' with_reducible first|infer_instance|exact ld| apply allS| apply allP|intro _| apply seq| apply loop| apply alt| apply br
instance s174 : Safe D c I (B.at (k0_part174 i)) := by
  unfold k0_part174; repeat' with_reducible first|infer_instance|exact ld| apply allS| apply allP|intro _| apply seq| apply loop| apply alt| apply br
instance s175 : Safe D c I (B.at (k0_part175 i)) := by
  unfold k0_part175; repeat' with_reducible first|infer_instance|exact ld| apply allS| apply allP|intro _| apply seq| apply loop| apply alt| apply br
instance s176 : Safe D c I (B.at (k0_part176 i)) := by
  unfold k0_part176; repeat' with_reducible first|infer_instance|exact ld| apply allS| apply allP|intro _| apply seq| apply loop| apply alt| apply br
instance s177 : Safe D c I (B.at (k0_part177 i)) := by
  unfold k0_part177; repeat' with_reducible first|infer_instance|exact ld| apply allS| apply allP|intro _| apply seq| apply loop| apply alt| apply br
instance s178 : Safe D c I (B.at (k0_part178 i)) := by
  unfold k0_part178; repeat' with_reducible first|infer_instance|exact ld| apply allS| apply allP|intro _| apply seq| apply loop| apply alt| apply br
instance s179 : Safe D c I (B.at (k0_part179 i)) := by
  unfold k0_part179; repeat' with_reducible first|infer_instance|exact ld| apply allS| apply allP|intro _| apply seq| apply loop| apply alt| apply br
instance s180 : Safe D c I (B.at (k0_part180 i)) := by
  unfold k0_part180; repeat' with_reducible first|infer_instance|exact ld| apply allS| apply allP|intro _| apply seq| apply loop| apply alt| apply br
instance s181 (v1 v2 v3) : Safe D c I (B.at (k0_part181 i) v1 v2 v3) := by
  unfold k0_part181; repeat' with_reducible first|infer_instance|exact ld| apply allS| apply allP|intro _| apply seq| apply loop| apply alt| apply br
instance s182 (v1 v2 v3) : Safe D c I (B.at (k0_part182 i) v1 v2 v3) := by
  unfold k0_part182; repeat' with_reducible first|infer_instance|exact ld| apply allS| apply allP|intro _| apply seq| apply loop| apply alt| apply br
instance s183 : Safe D c I (B.at (k0_part183 i)) := by
  unfold k0_part183; repeat' with_reducible first|infer_instance|exact ld| apply allS| apply allP|intro _| apply seq| apply loop| apply alt| apply br
instance s184 (v1) : Safe D c I (B.at (k0_part184 i) v1) := by
  unfold k0_part184; repeat' with_reducible first|infer_instance|exact ld| apply allS| apply allP|intro _| apply seq| apply loop| apply alt| apply br
end Cert.Proof.Attn

end
-- ==== Proof.Attn.S03.lean ====
/-
  Parts k0_part185 to k0_part366 of the kernel's body keep the buffers they are given: one fact per part, in the order of the printed
  program, each by walking the part's statements.
-/
module

public import proofs.«01_k».proof.Kernel.P03
public import proofs.«01_k».proof.Proof.Attn.S02

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s185 (v1 v2) : Safe D c I (B.at (k0_part185 i) v1 v2) := by
  unfold k0_part185; repeat' with_reducible first|infer_instance|exact ld| apply allS| apply allP|intro _| apply seq| apply loop| apply alt| apply br
instance s186 (v1 v2 v3) : Safe D c I (B.at (k0_part186 i) v1 v2 v3) := by
  unfold k0_part186; repeat' with_reducible first|infer_instance|exact ld| apply allS| apply allP|intro _| apply seq| apply loop| apply alt| apply br
instance s187 (v1) : Safe D c I (B.at (k0_part187 i) v1) := by
  unfold k0_part187; repeat' with_reducible first|infer_instance|exact ld| apply allS| apply allP|intro _| apply seq| apply loop| apply alt| apply br
instance s188 : Safe D c I (B.at (k0_part188 i)) := by
  unfold k0_part188; repeat' with_reducible first|infer_instance|exact ld| apply allS| apply allP|intro _| apply seq| apply loop| apply alt| apply br
instance s189 (v1 v2) : Safe D c I (B.at (k0_part189 i) v1 v2) := by
  unfold k0_part189; repeat' with_reducible first|infer_instance|exact ld| apply allS| apply allP|intro _| apply seq| apply loop| apply alt| apply br
instance s190 (v1 v2 v3) : Safe D c I (B.at (k0_part190 i) v1 v2 v3) := by
  unfold k0_part190; repeat' with_reducible first|infer_instance|exact ld| apply allS| apply allP|intro _| apply seq| apply loop| apply alt| apply br
instance s191 (v1) : Safe D c I (B.at (k0_part191 i) v1) := by
  unfold k0_part191; repeat' with_reducible first|infer_instance|exact ld| apply allS| apply allP|intro _| apply seq| apply loop| apply alt| apply br
instance s192 (v1) : Safe D c I (B.at (k0_part192 i) v1) := by
  unfold k0_part192; repeat' with_reducible first|infer_instance|exact ld| apply allS| apply allP|intro _| apply seq| apply loop| apply alt| apply br
instance s193 (v1) : Safe D c I (B.at (k0_part193 i) v1) := by
  unfold k0_part193; repeat' with_reducible first|infer_instance|exact ld| apply allS| apply allP|intro _| apply seq| apply loop| apply alt| apply br
instance s194 (v1 v2 v3) : Safe D c I (B.at (k0_part194 i) v1 v2 v3) := by
  unfold k0_part194; repeat' with_reducible first|infer_instance|exact ld| apply allS| apply allP|intro _| apply seq| apply loop| apply alt| apply br
instance s195 (v1 v2) : Safe D c I (B.at (k0_part195 i) v1 v2) := by
  unfold k0_part195; repeat' with_reducible first|infer_instance|exact ld| apply allS| apply allP|intro _| apply seq| apply loop| apply alt| apply br
instance s196 (v1) : Safe D c I (B.at (k0_part196 i) v1) := by
  unfold k0_part196; repeat' with_reducible first|infer_instance|exact ld| apply allS| apply allP|intro _| apply seq| apply loop| apply alt| apply br
instance s197 (v1 v2 v3 v4 v5) : Safe D c I (B.at (k0_part197 i) v1 v2 v3 v4 v5) := by
  unfold k0_part197; repeat' with_reducible first|infer_instance|exact ld| apply allS| apply allP|intro _| apply seq| apply loop| apply alt| apply br
instance s198 (v1 v2 v3 v4 v5 v6 v7 v8 v9 v10) : Safe D c I (B.at (k0_part198 i) v1 v2 v3 v4 v5 v6 v7 v8 v9 v10) := by
  unfold k0_part198; repeat' with_reducible first|infer_instance|exact ld| apply allS| apply allP|intro _| apply seq| apply loop| apply alt| apply br
instance s199 (v1 v2 v3 v4 v5 v6 v7 v8 v9 v10 v11) : Safe D c I (B.at (k0_part199 i) v1 v2 v3 v4 v5 v6 v7 v8 v9 v10 v11) := by
  unfold k0_part199; repeat' with_reducible first|infer_instance|exact ld| apply allS| apply allP|intro _| apply seq| apply loop| apply alt| apply br
instance s200 (v1 v2 v3 v4 v5 v6 v7) : Safe D c I (B.at (k0_part200 i) v1 v2 v3 v4 v5 v6 v7) := by
  unfold k0_part200; repeat' with_reducible first|infer_instance|exact ld| apply allS| apply allP|intro _| apply seq| apply loop| apply alt| apply br
instance s201 (v1 v2 v3 v4 v5 v6) : Safe D c I (B.at (k0_part201 i) v1 v2 v3 v4 v5 v6) := by
  unfold k0_part201; repeat' with_reducible first|infer_instance|exact ld| apply allS| apply allP|intro _| apply seq| apply loop| apply alt| apply br
instance s202 (v1 v2 v3 v4 v5 v6) : Safe D c I (B.at (k0_part202 i) v1 v2 v3 v4 v5 v6) := by
  unfold k0_part202; repeat' with_reducible first|infer_instance|exact ld| apply allS| apply allP|intro _| apply seq| apply loop| apply alt| apply br
instance s203 (v1 v2 v3 v4 v5) : Safe D c I (B.at (k0_part203 i) v1 v2 v3 v4 v5) := by
  unfold k0_part203; repeat' with_reducible first|infer_instance|exact ld| apply allS| apply allP|intro _| apply seq| apply loop| apply alt| apply br
instance s204 (v1 v2 v3 v4 v5) : Safe D c I (B.at (k0_part204 i) v1 v2 v3 v4 v5) := by
  unfold k0_part204; repeat' with_reducible first|infer_instance|exact ld| apply allS| apply allP|intro _| apply seq| apply loop| apply alt| apply br
instance s205 (v1 v2 v3 v4 v5 v6 v7 v8 v9 v10) : Safe D c I (B.at (k0_part205 i) v1 v2 v3 v4 v5 v6 v7 v8 v9 v10) := by
  unfold k0_part205; repeat' with_reducible first|infer_instance|exact ld| apply allS| apply allP|intro _| apply seq| apply loop| apply alt| apply br
instance s206 (v1 v2 v3 v4 v5 v6 v7 v8 v9 v10 v11) : Safe D c I (B.at (k0_part206 i) v1 v2 v3 v4 v5 v6 v7 v8 v9 v10 v11) := by
  unfold k0_part206; repeat' with_reducible first|infer_instance|exact ld| apply allS| apply allP|intro _| apply seq| apply loop| apply alt| apply br
instance s207 (v1 v2 v3 v4 v5) : Safe D c I (B.at (k0_part207 i) v1 v2 v3 v4 v5) := by
  unfold k0_part207; repeat' with_reducible first|infer_instance|exact ld| apply allS| apply allP|intro _| apply seq| apply loop| apply alt| apply br
instance s208 (v1 v2 v3 v4 v5) : Safe D c I (B.at (k0_part208 i) v1 v2 v3 v4 v5) := by
  unfold k0_part208; repeat' with_reducible first|infer_instance|exact ld| apply allS| apply allP|intro _| apply seq| apply loop| apply alt| apply br
instance s209 (v1 v2 v3 v4 v5) : Safe D c I (B.at (k0_part209 i) v1 v2 v3 v4 v5) := by
  unfold k0_part209; repeat' with_reducible first|infer_instance|exact ld| apply allS| apply allP|intro _| apply seq| apply loop| apply alt| apply br
instance s210 (v1 v2 v3 v4 v5) : Safe D c I (B.at (k0_part210 i) v1 v2 v3 v4 v5) := by
  unfold k0_part210; repeat' with_reducible first|infer_instance|exact ld| apply allS| apply allP|intro _| apply seq| apply loop| apply alt| apply br
instance s211 (v1 v2 v3 v4 v5 v6) : Safe D c I (B.at (k0_part211 i) v1 v2 v3 v4 v5 v6) := by
  unfold k0_part211; repeat' with_reducible first|infer_instance|exact ld| apply allS| apply allP|intro _| apply seq| apply loop| apply alt| apply br
instance s212 (v1 v2 v3 v4 v5 v6 v7 v8) : Safe D c I (B.at (k0_part212 i) v1 v2 v3 v4 v5 v6 v7 v8) := by
  unfold k0_part212; repeat' with_reducible first|infer_instance|exact ld| apply allS| apply allP|intro _| apply seq| apply loop| apply alt| apply br
instance s213 (v1 v2 v3 v4 v5 v6 v7 v8 v9 v10 v11) : Safe D c I (B.at (k0_part213 i) v1 v2 v3 v4 v5 v6 v7 v8 v9 v10 v11) := by
  unfold k0_part213; repeat' with_reducible first|infer_instance|exact ld| apply allS| apply allP|intro _| apply seq| apply loop| apply alt| apply br
instance s214 (v1 v2 v3 v4 v5) : Safe D c I (B.at (k0_part214 i) v1 v2 v3 v4 v5) := by
  unfold k0_part214; repeat' with_reducible first|infer_instance|exact ld| apply allS| apply allP|intro _| apply seq| apply loop| apply alt| apply br
instance s215 (v1 v2 v3 v4 v5) : Safe D c I (B.at (k0_part215 i) v1 v2 v3 v4 v5) := by
  unfold k0_part215; repeat' with_reducible first|infer_instance|exact ld| apply allS| apply allP|intro _| apply seq| apply loop| apply alt| apply br
instance s216 (v1 v2 v3 v4 v5) : Safe D c I (B.at (k0_part216 i) v1 v2 v3 v4 v5) := by
  unfold k0_part216; repeat' with_reducible first|infer_instance|exact ld| apply allS| apply allP|intro _| apply seq| apply loop| apply alt| apply br
instance s217 (v1 v2 v3 v4 v5) : Safe D c I (B.at (k0_part217 i) v1 v2 v3 v4 v5) := by
  unfold k0_part217; repeat' with_reducible first|infer_instance|exact ld| apply allS| apply allP|intro _| apply seq| apply loop| apply alt| apply br
instance s218 (v1 v2 v3 v4 v5 v6 v7) : Safe D c I (B.at (k0_part218 i) v1 v2 v3 v4 v5 v6 v7) := by
  unfold k0_part218; repeat' with_reducible first|infer_instance|exact ld| apply allS| apply allP|intro _| apply seq| apply loop| apply alt| apply br
instance s219 (v1 v2 v3 v4 v5 v6 v7) : Safe D c I (B.at (k0_part219 i) v1 v2 v3 v4 v5 v6 v7) := by
  unfold k0_part219; repeat' with_reducible first|infer_instance|exact ld| apply allS| apply allP|intro _| apply seq| apply loop| apply alt| apply br
instance s220 (v1 v2 v3 v4 v5 v6 v7 v8 v9 v10 v11) : Safe D c I (B.at (k0_part220 i) v1 v2 v3 v4 v5 v6 v7 v8 v9 v10 v11) := by
  unfold k0_part220; repeat' with_reducible first|infer_instance|exact ld| apply allS| apply allP|intro _| apply seq| apply loop| apply alt| apply br
instance s221 (v1 v2 v3 v4 v5) : Safe D c I (B.at (k0_part221 i) v1 v2 v3 v4 v5) := by
  unfold k0_part221; repeat' with_reducible first|infer_instance|exact ld| apply allS| apply allP|intro _| apply seq| apply loop| apply alt| apply br
instance s222 (v1 v2 v3 v4 v5) : Safe D c I (B.at (k0_part222 i) v1 v2 v3 v4 v5) := by
  unfold k0_part222; repeat' with_reducible first|infer_instance|exact ld| apply allS| apply allP|intro _| apply seq| apply loop| apply alt| apply br
instance s223 (v1 v2 v3 v4 v5) : Safe D c I (B.at (k0_part223 i) v1 v2 v3 v4 v5) := by
  unfold k0_part223; repeat' with_reducible first|infer_instance|exact ld| apply allS| apply allP|intro _| apply seq| apply loop| apply alt| apply br
instance s224 (v1 v2 v3 v4 v5) : Safe D c I (B.at (k0_part224 i) v1 v2 v3 v4 v5) := by
  unfold k0_part224; repeat' with_reducible first|infer_instance|exact ld| apply allS| apply allP|intro _| apply seq| apply loop| apply alt| apply br
instance s225 : Safe D c I (B.at (k0_part225 i)) := by
  unfold k0_part225; repeat' with_reducible first|infer_instance|exact ld| apply allS| apply allP|intro _| apply seq| apply loop| apply alt| apply br
instance s226 : Safe D c I (B.at (k0_part226 i)) := by
  unfold k0_part226; repeat' with_reducible first|infer_instance|exact ld| apply allS| apply allP|intro _| apply seq| apply loop| apply alt| apply br
instance s227 : Safe D c I (B.at (k0_part227 i)) := by
  unfold k0_part227; repeat' with_reducible first|infer_instance|exact ld| apply allS| apply allP|intro _| apply seq| apply loop| apply alt| apply br
instance s228 : Safe D c I (B.at (k0_part228 i)) := by
  unfold k0_part228; repeat' with_reducible first|infer_instance|exact ld| apply allS| apply allP|intro _| apply seq| apply loop| apply alt| apply br
instance s229 : Safe D c I (B.at (k0_part229 i)) := by
  unfold k0_part229; repeat' with_reducible first|infer_instance|exact ld| apply allS| apply allP|intro _| apply seq| apply loop| apply alt| apply br
instance s230 : Safe D c I (B.at (k0_part230 i)) := by
  unfold k0_part230; repeat' with_reducible first|infer_instance|exact ld| apply allS| apply allP|intro _| apply seq| apply loop| apply alt| apply br
instance s231 : Safe D c I (B.at (k0_part231 i)) := by
  unfold k0_part231; repeat' with_reducible first|infer_instance|exact ld| apply allS| apply allP|intro _| apply seq| apply loop| apply alt| apply br
instance s232 : Safe D c I (B.at (k0_part232 i)) := by
  unfold k0_part232; repeat' with_reducible first|infer_instance|exact ld| apply allS| apply allP|intro _| apply seq| apply loop| apply alt| apply br
instance s233 : Safe D c I (B.at (k0_part233 i)) := by
  unfold k0_part233; repeat' with_reducible first|infer_instance|exact ld| apply allS| apply allP|intro _| apply seq| apply loop| apply alt| apply br
instance s234 : Safe D c I (B.at (k0_part234 i)) := by
  unfold k0_part234; repeat' with_reducible first|infer_instance|exact ld| apply allS| apply allP|intro _| apply seq| apply loop| apply alt| apply br
instance s235 (v1 v2 v3) : Safe D c I (B.at (k0_part235 i) v1 v2 v3) := by
  unfold k0_part235; repeat' with_reducible first|infer_instance|exact ld| apply allS| apply allP|intro _| apply seq| apply loop| apply alt| apply br
instance s236 (v1) : Safe D c I (B.at (k0_part236 i) v1) := by
  unfold k0_part236; repeat' with_reducible first|infer_instance|exact ld| apply allS| apply allP|intro _| apply seq| apply loop| apply alt| apply br
instance s237 (v1 v2 v3 v4 v5 v6 v7) : Safe D c I (B.at (k0_part237 i) v1 v2 v3 v4 v5 v6 v7) := by
  unfold k0_part237; repeat' with_reducible first|infer_instance|exact ld| apply allS| apply allP|intro _| apply seq| apply loop| apply alt| apply br
instance s238 (v1) : Safe D c I (B.at (k0_part238 i) v1) := by
  unfold k0_part238; repeat' with_reducible first|infer_instance|exact ld| apply allS| apply allP|intro _| apply seq| apply loop| apply alt| apply br
instance s239 (v1) : Safe D c I (B.at (k0_part239 i) v1) := by
  unfold k0_part239; repeat' with_reducible first|infer_instance|exact ld| apply allS| apply allP|intro _| apply seq| apply loop| apply alt| apply br
instance s240 (v1) : Safe D c I (B.at (k0_part240 i) v1) := by
  unfold k0_part240; repeat' with_reducible first|infer_instance|exact ld| apply allS| apply allP|intro _| apply seq| apply loop| apply alt| apply br
instance s241 (v1 v2 v3 v4) : Safe D c I (B.at (k0_part241 i) v1 v2 v3 v4) := by
  unfold k0_part241; repeat' with_reducible first|infer_instance|exact ld| apply allS| apply allP|intro _| apply seq| apply loop| apply alt| apply br
instance s242 : Safe D c I (B.at (k0_part242 i)) := by
  unfold k0_part242; repeat' with_reducible first|infer_instance|exact ld| apply allS| apply allP|intro _| apply seq| apply loop| apply alt| apply br
instance s243 (v1) : Safe D c I (B.at (k0_part243 i) v1) := by
  unfold k0_part243; repeat' with_reducible first|infer_instance|exact ld| apply allS| apply allP|intro _| apply seq| apply loop| apply alt| apply br
instance s244 (v1 v2) : Safe D c I (B.at (k0_part244 i) v1 v2) := by
  unfold k0_part244; repeat' with_reducible first|infer_instance|exact ld| apply allS| apply allP|intro _| apply seq| apply loop| apply alt| apply br
instance s245 (v1) : Safe D c I (B.at (k0_part245 i) v1) := by
  unfold k0_part245; repeat' with_reducible first|infer_instance|exact ld| apply allS| apply allP|intro _| apply seq| apply loop| apply alt| apply br
instance s246 (v1 v2 v3 v4 v5 v6 v7) : Safe D c I (B.at (k0_part246 i) v1 v2 v3 v4 v5 v6 v7) := by
  unfold k0_part246; repeat' with_reducible first|infer_instance|exact ld| apply allS| apply allP|intro _| apply seq| apply loop| apply alt| apply br
instance s247 (v1 v2) : Safe D c I (B.at (k0_part247 i) v1 v2) := by
  unfold k0_part247; repeat' with_reducible first|infer_instance|exact ld| apply allS| apply allP|intro _| apply seq| apply loop| apply alt| apply br
instance s248 (v1) : Safe D c I (B.at (k0_part248 i) v1) := by
  unfold k0_part248; repeat' with_reducible first|infer_instance|exact ld| apply allS| apply allP|intro _| apply seq| apply loop| apply alt| apply br
instance s249 (v1 v2) : Safe D c I (B.at (k0_part249 i) v1 v2) := by
  unfold k0_part249; repeat' with_reducible first|infer_instance|exact ld| apply allS| apply allP|intro _| apply seq| apply loop| apply alt| apply br
instance s250 (v1 v2 v3 v4) : Safe D c I (B.at (k0_part250 i) v1 v2 v3 v4) := by
  unfold k0_part250; repeat' with_reducible first|infer_instance|exact ld| apply allS| apply allP|intro _| apply seq| apply loop| apply alt| apply br
instance s251 : Safe D c I (B.at (k0_part251 i)) := by
  unfold k0_part251; repeat' with_reducible first|infer_instance|exact ld| apply allS| apply allP|intro _| apply seq| apply loop| apply alt| apply br
instance s252 : Safe D c I (B.at (k0_part252 i)) := by
  unfold k0_part252; repeat' with_reducible first|infer_instance|exact ld| apply allS| apply allP|intro _| apply seq| apply loop| apply alt| apply br
instance s253 (v1 v2 v3) : Safe D c I (B.at (k0_part253 i) v1 v2 v3) := by
  unfold k0_part253; repeat' with_reducible first|infer_instance|exact ld| apply allS| apply allP|intro _| apply seq| apply loop| apply alt| apply br
instance s254 (v1 v2 v3 v4 v5 v6 v7 v8 v9) : Safe D c I (B.at (k0_part254 i) v1 v2 v3 v4 v5 v6 v7 v8 v9) := by
  unfold k0_part254; repeat' with_reducible first|infer_instance|exact ld| apply allS| apply allP|intro _| apply seq| apply loop| apply alt| apply br
instance s255 (v1 v2 v3 v4 v5 v6 v7 v8 v9) : Safe D c I (B.at (k0_part255 i) v1 v2 v3 v4 v5 v6 v7 v8 v9) := by
  unfold k0_part255; repeat' with_reducible first|infer_instance|exact ld| apply allS| apply allP|intro _| apply seq| apply loop| apply alt| apply br
instance s256 (v1 v2 v3 v4 v5 v6 v7 v8) : Safe D c I (B.at (k0_part256 i) v1 v2 v3 v4 v5 v6 v7 v8) := by
  unfold k0_part256; repeat' with_reducible first|infer_instance|exact ld| apply allS| apply allP|intro _| apply seq| apply loop| apply alt| apply br
instance s257 (v1 v2 v3) : Safe D c I (B.at (k0_part257 i) v1 v2 v3) := by
  unfold k0_part257; repeat' with_reducible first|infer_instance|exact ld| apply allS| apply allP|intro _| apply seq| apply loop| apply alt| apply br
instance s258 (v1 v2 v3 v4 v5 v6 v7 v8 v9 v10 v11) : Safe D c I (B.at (k0_part258 i) v1 v2 v3 v4 v5 v6 v7 v8 v9 v10 v11) := by
  unfold k0_part258; repeat' with_reducible first|infer_instance|exact ld| apply allS| apply allP|intro _| apply seq| apply loop| apply alt| apply br
instance s259 (v1 v2 v3 v4 v5 v6) : Safe D c I (B.at (k0_part259 i) v1 v2 v3 v4 v5 v6) := by
  unfold k0_part259; repeat' with_reducible first|infer_instance|exact ld| apply allS| apply allP|intro _| apply seq| apply loop| apply alt| apply br
instance s260 (v1 v2 v3 v4 v5 v6 v7 v8 v9) : Safe D c I (B.at (k0_part260 i) v1 v2 v3 v4 v5 v6 v7 v8 v9) := by
  unfold k0_part260; repeat' with_reducible first|infer_instance|exact ld| apply allS| apply allP|intro _| apply seq| apply loop| apply alt| apply br
instance s261 (v1 v2 v3 v4 v5 v6) : Safe D c I (B.at (k0_part261 i) v1 v2 v3 v4 v5 v6) := by
  unfold k0_part261; repeat' with_reducible first|infer_instance|exact ld| apply allS| apply allP|intro _| apply seq| apply loop| apply alt| apply br
instance s262 (v1 v2 v3 v4 v5 v6 v7 v8 v9) : Safe D c I (B.at (k0_part262 i) v1 v2 v3 v4 v5 v6 v7 v8 v9) := by
  unfold k0_part262; repeat' with_reducible first|infer_instance|exact ld| apply allS| apply allP|intro _| apply seq| apply loop| apply alt| apply br
instance s263 (v1 v2 v3 v4 v5) : Safe D c I (B.at (k0_part263 i) v1 v2 v3 v4 v5) := by
  unfold k0_part263; repeat' with_reducible first|infer_instance|exact ld| apply allS| apply allP|intro _| apply seq| apply loop| apply alt| apply br
instance s264 (v1 v2 v3 v4 v5 v6 v7) : Safe D c I (B.at (k0_part264 i) v1 v2 v3 v4 v5 v6 v7) := by
  unfold k0_part264; repeat' with_reducible first|infer_instance|exact ld| apply allS| apply allP|intro _| apply seq| apply loop| apply alt| apply br
instance s265 (v1 v2 v3 v4) : Safe D c I (B.at (k0_part265 i) v1 v2 v3 v4) := by
  unfold k0_part265; repeat' with_reducible first|infer_instance|exact ld| apply allS| apply allP|intro _| apply seq| apply loop| apply alt| apply br
instance s266 (v1 v2) : Safe D c I (B.at (k0_part266 i) v1 v2) := by
  unfold k0_part266; repeat' with_reducible first|infer_instance|exact ld| apply allS| apply allP|intro _| apply seq| apply loop| apply alt| apply br
instance s267 (v1 v2 v3) : Safe D c I (B.at (k0_part267 i) v1 v2 v3) := by
  unfold k0_part267; repeat' with_reducible first|infer_instance|exact ld| apply allS| apply allP|intro _| apply seq| apply loop| apply alt| apply br
instance s268 (v1 v2) : Safe D c I (B.at (k0_part268 i) v1 v2) := by
  unfold k0_part268; repeat' with_reducible first|infer_instance|exact ld| apply allS| apply allP|intro _| apply seq| apply loop| apply alt| apply br
instance s269 (v1 v2) : Safe D c I (B.at (k0_part269 i) v1 v2) := by
  unfold k0_part269; repeat' with_reducible first|infer_instance|exact ld| apply allS| apply allP|intro _| apply seq| apply loop| apply alt| apply br
instance s270 (v1) : Safe D c I (B.at (k0_part270 i) v1) := by
  unfold k0_part270; repeat' with_reducible first|infer_instance|exact ld| apply allS| apply allP|intro _| apply seq| apply loop| apply alt| apply br
instance s271 (v1 v2 v3 v4 v5 v6) : Safe D c I (B.at (k0_part271 i) v1 v2 v3 v4 v5 v6) := by
  unfold k0_part271; repeat' with_reducible first|infer_instance|exact ld| apply allS| apply allP|intro _| apply seq| apply loop| apply alt| apply br
instance s272 (v1) : Safe D c I (B.at (k0_part272 i) v1) := by
  unfold k0_part272; repeat' with_reducible first|infer_instance|exact ld| apply allS| apply allP|intro _| apply seq| apply loop| apply alt| apply br
instance s273 (v1 v2 v3) : Safe D c I (B.at (k0_part273 i) v1 v2 v3) := by
  unfold k0_part273; repeat' with_reducible first|infer_instance|exact ld| apply allS| apply allP|intro _| apply seq| apply loop| apply alt| apply br
instance s274 (v1 v2 v3 v4) : Safe D c I (B.at (k0_part274 i) v1 v2 v3 v4) := by
  unfold k0_part274; repeat' with_reducible first|infer_instance|exact ld| apply allS| apply allP|intro _| apply seq| apply loop| apply alt| apply br
instance s275 (v1 v2 v3) : Safe D c I (B.at (k0_part275 i) v1 v2 v3) := by
  unfold k0_part275; repeat' with_reducible first|infer_instance|exact ld| apply allS| apply allP|intro _| apply seq| apply loop| apply alt| apply br
instance s276 (v1 v2 v3 v4) : Safe D c I (B.at (k0_part276 i) v1 v2 v3 v4) := by
  unfold k0_part276; repeat' with_reducible first|infer_instance|exact ld| apply allS| apply allP|intro _| apply seq| apply loop| apply alt| apply br
instance s277 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) : Safe D c I (B.at (k0_part277 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) := by
  unfold k0_part277; repeat' with_reducible first|infer_instance|exact ld| apply allS| apply allP|intro _| apply seq| apply loop| apply alt| apply br
instance s278 (v1 v2 v3 v4 v5) : Safe D c I (B.at (k0_part278 i) v1 v2 v3 v4 v5) := by
  unfold k0_part278; repeat' with_reducible first|infer_instance|exact ld| apply allS| apply allP|intro _| apply seq| apply loop| apply alt| apply br
instance s279 (v1) : Safe D c I (B.at (k0_part279 i) v1) := by
  unfold k0_part279; repeat' with_reducible first|infer_instance|exact ld| apply allS| apply allP|intro _| apply seq| apply loop| apply alt| apply br
instance s280 (v1 v2 v3) : Safe D c I (B.at (k0_part280 i) v1 v2 v3) := by
  unfold k0_part280; repeat' with_reducible first|infer_instance|exact ld| apply allS| apply allP|intro _| apply seq| apply loop| apply alt| apply br
instance s281 (v1 v2 v3 v4) : Safe D c I (B.at (k0_part281 i) v1 v2 v3 v4) := by
  unfold k0_part281; repeat' with_reducible first|infer_instance|exact ld| apply allS| apply allP|intro _| apply seq| apply loop| apply alt| apply br
instance s282 (v1 v2 v3) : Safe D c I (B.at (k0_part282 i) v1 v2 v3) := by
  unfold k0_part282; repeat' with_reducible first|infer_instance|exact ld| apply allS| apply allP|intro _| apply seq| apply loop| apply alt| apply br
instance s283 (v1 v2 v3 v4) : Safe D c I (B.at (k0_part283 i) v1 v2 v3 v4) := by
  unfold k0_part283; repeat' with_reducible first|infer_instance|exact ld| apply allS| apply allP|intro _| apply seq| apply loop| apply alt| apply br
instance s284 (v1 v2 v3) : Safe D c I (B.at (k0_part284 i) v1 v2 v3) := by
  unfold k0_part284; repeat' with_reducible first|infer_instance|exact ld| apply allS| apply allP|intro _| apply seq| apply loop| apply alt| apply br
instance s285 (v1 v2 v3 v4 v5 v6) : Safe D c I (B.at (k0_part285 i) v1 v2 v3 v4 v5 v6) := by
  unfold k0_part285; repeat' with_reducible first|infer_instance|exact ld| apply allS| apply allP|intro _| apply seq| apply loop| apply alt| apply br
instance s286 (v1 v2) : Safe D c I (B.at (k0_part286 i) v1 v2) := by
  unfold k0_part286; repeat' with_reducible first|infer_instance|exact ld| apply allS| apply allP|intro _| apply seq| apply loop| apply alt| apply br
instance s287 (v1 v2 v3 v4) : Safe D c I (B.at (k0_part287 i) v1 v2 v3 v4) := by
  unfold k0_part287; repeat' with_reducible first|infer_instance|exact ld| apply allS| apply allP|intro _| apply seq| apply loop| apply alt| apply br
instance s288 (v1 v2) : Safe D c I (B.at (k0_part288 i) v1 v2) := by
  unfold k0_part288; repeat' with_reducible first|infer_instance|exact ld| apply allS| apply allP|intro _| apply seq| apply loop| apply alt| apply br
instance s289 (v1 v2 v3) : Safe D c I (B.at (k0_part289 i) v1 v2 v3) := by
  unfold k0_part289; repeat' with_reducible first|infer_instance|exact ld| apply allS| apply allP|intro _| apply seq| apply loop| apply alt| apply br
instance s290 (v1 v2) : Safe D c I (B.at (k0_part290 i) v1 v2) := by
  unfold k0_part290; repeat' with_reducible first|infer_instance|exact ld| apply allS| apply allP|intro _| apply seq| apply loop| apply alt| apply br
instance s291 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) : Safe D c I (B.at (k0_part291 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) := by
  unfold k0_part291; repeat' with_reducible first|infer_instance|exact ld| apply allS| apply allP|intro _| apply seq| apply loop| apply alt| apply br
instance s292 (v1 v2 v3 v4 v5 v6 v7 v8) : Safe D c I (B.at (k0_part292 i) v1 v2 v3 v4 v5 v6 v7 v8) := by
  unfold k0_part292; repeat' with_reducible first|infer_instance|exact ld| apply allS| apply allP|intro _| apply seq| apply loop| apply alt| apply br
instance s293 (v1 v2 v3 v4 v5 v6 v7) : Safe D c I (B.at (k0_part293 i) v1 v2 v3 v4 v5 v6 v7) := by
  unfold k0_part293; repeat' with_reducible first|infer_instance|exact ld| apply allS| apply allP|intro _| apply seq| apply loop| apply alt| apply br
instance s294 (v1 v2 v3) : Safe D c I (B.at (k0_part294 i) v1 v2 v3) := by
  unfold k0_part294; repeat' with_reducible first|infer_instance|exact ld| apply allS| apply allP|intro _| apply seq| apply loop| apply alt| apply br
instance s295 (v1 v2 v3 v4) : Safe D c I (B.at (k0_part295 i) v1 v2 v3 v4) := by
  unfold k0_part295; repeat' with_reducible first|infer_instance|exact ld| apply allS| apply allP|intro _| apply seq| apply loop| apply alt| apply br
instance s296 (v1 v2 v3) : Safe D c I (B.at (k0_part296 i) v1 v2 v3) := by
  unfold k0_part296; repeat' with_reducible first|infer_instance|exact ld| apply allS| apply allP|intro _| apply seq| apply loop| apply alt| apply br
instance s297 (v1 v2 v3 v4) : Safe D c I (B.at (k0_part297 i) v1 v2 v3 v4) := by
  unfold k0_part297; repeat' with_reducible first|infer_instance|exact ld| apply allS| apply allP|intro _| apply seq| apply loop| apply alt| apply br
instance s298 (v1 v2) : Safe D c I (B.at (k0_part298 i) v1 v2) := by
  unfold k0_part298; repeat' with_reducible first|infer_instance|exact ld| apply allS| apply allP|intro _| apply seq| apply loop| apply alt| apply br
instance s299 (v1 v2 v3 v4 v5 v6 v7) : Safe D c I (B.at (k0_part299 i) v1 v2 v3 v4 v5 v6 v7) := by
  unfold k0_part299; repeat' with_reducible first|infer_instance|exact ld| apply allS| apply allP|intro _| apply seq| apply loop| apply alt| apply br
instance s300 (v1 v2) : Safe D c I (B.at (k0_part300 i) v1 v2) := by
  unfold k0_part300; repeat' with_reducible first|infer_instance|exact ld| apply allS| apply allP|intro _| apply seq| apply loop| apply alt| apply br
instance s301 (v1 v2 v3 v4) : Safe D c I (B.at (k0_part301 i) v1 v2 v3 v4) := by
  unfold k0_part301; repeat' with_reducible first|infer_instance|exact ld| apply allS| apply allP|intro _| apply seq| apply loop| apply alt| apply br
instance s302 (v1 v2) : Safe D c I (B.at (k0_part302 i) v1 v2) := by
  unfold k0_part302; repeat' with_reducible first|infer_instance|exact ld| apply allS| apply allP|intro _| apply seq| apply loop| apply alt| apply br
instance s303 (v1 v2 v3) : Safe D c I (B.at (k0_part303 i) v1 v2 v3) := by
  unfold k0_part303; repeat' with_reducible first|infer_instance|exact ld| apply allS| apply allP|intro _| apply seq| apply loop| apply alt| apply br
instance s304 (v1 v2) : Safe D c I (B.at (k0_part304 i) v1 v2) := by
  unfold k0_part304; repeat' with_reducible first|infer_instance|exact ld| apply allS| apply allP|intro _| apply seq| apply loop| apply alt| apply br
instance s305 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part305 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part305; repeat' with_reducible first|infer_instance|exact ld| apply allS| apply allP|intro _| apply seq| apply loop| apply alt| apply br
instance s306 (v1 v2 v3 v4 v5) : Safe D c I (B.at (k0_part306 i) v1 v2 v3 v4 v5) := by
  unfold k0_part306; repeat' with_reducible first|infer_instance|exact ld| apply allS| apply allP|intro _| apply seq| apply loop| apply alt| apply br
instance s307 (v1 v2) : Safe D c I (B.at (k0_part307 i) v1 v2) := by
  unfold k0_part307; repeat' with_reducible first|infer_instance|exact ld| apply allS| apply allP|intro _| apply seq| apply loop| apply alt| apply br
instance s308 (v1 v2 v3 v4) : Safe D c I (B.at (k0_part308 i) v1 v2 v3 v4) := by
  unfold k0_part308; repeat' with_reducible first|infer_instance|exact ld| apply allS| apply allP|intro _| apply seq| apply loop| apply alt| apply br
instance s309 (v1 v2) : Safe D c I (B.at (k0_part309 i) v1 v2) := by
  unfold k0_part309; repeat' with_reducible first|infer_instance|exact ld| apply allS| apply allP|intro _| apply seq| apply loop| apply alt| apply br
instance s310 (v1 v2 v3) : Safe D c I (B.at (k0_part310 i) v1 v2 v3) := by
  unfold k0_part310; repeat' with_reducible first|infer_instance|exact ld| apply allS| apply allP|intro _| apply seq| apply loop| apply alt| apply br
instance s311 (v1 v2) : Safe D c I (B.at (k0_part311 i) v1 v2) := by
  unfold k0_part311; repeat' with_reducible first|infer_instance|exact ld| apply allS| apply allP|intro _| apply seq| apply loop| apply alt| apply br
instance s312 (v1 v2 v3 v4 v5) : Safe D c I (B.at (k0_part312 i) v1 v2 v3 v4 v5) := by
  unfold k0_part312; repeat' with_reducible first|infer_instance|exact ld| apply allS| apply allP|intro _| apply seq| apply loop| apply alt| apply br
instance s313 (v1 v2) : Safe D c I (B.at (k0_part313 i) v1 v2) := by
  unfold k0_part313; repeat' with_reducible first|infer_instance|exact ld| apply allS| apply allP|intro _| apply seq| apply loop| apply alt| apply br
instance s314 (v1 v2) : Safe D c I (B.at (k0_part314 i) v1 v2) := by
  unfold k0_part314; repeat' with_reducible first|infer_instance|exact ld| apply allS| apply allP|intro _| apply seq| apply loop| apply alt| apply br
instance s315 (v1) : Safe D c I (B.at (k0_part315 i) v1) := by
  unfold k0_part315; repeat' with_reducible first|infer_instance|exact ld| apply allS| apply allP|intro _| apply seq| apply loop| apply alt| apply br
instance s316 (v1 v2 v3) : Safe D c I (B.at (k0_part316 i) v1 v2 v3) := by
  unfold k0_part316; repeat' with_reducible first|infer_instance|exact ld| apply allS| apply allP|intro _| apply seq| apply loop| apply alt| apply br
instance s317 (v1 v2 v3 v4) : Safe D c I (B.at (k0_part317 i) v1 v2 v3 v4) := by
  unfold k0_part317; repeat' with_reducible first|infer_instance|exact ld| apply allS| apply allP|intro _| apply seq| apply loop| apply alt| apply br
instance s318 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part318 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part318; repeat' with_reducible first|infer_instance|exact ld| apply allS| apply allP|intro _| apply seq| apply loop| apply alt| apply br
instance s319 (v1 v2 v3 v4 v5 v6 v7) : Safe D c I (B.at (k0_part319 i) v1 v2 v3 v4 v5 v6 v7) := by
  unfold k0_part319; repeat' with_reducible first|infer_instance|exact ld| apply allS| apply allP|intro _| apply seq| apply loop| apply alt| apply br
instance s320 (v1 v2 v3 v4 v5 v6 v7) : Safe D c I (B.at (k0_part320 i) v1 v2 v3 v4 v5 v6 v7) := by
  unfold k0_part320; repeat' with_reducible first|infer_instance|exact ld| apply allS| apply allP|intro _| apply seq| apply loop| apply alt| apply br
instance s321 (v1 v2 v3 v4) : Safe D c I (B.at (k0_part321 i) v1 v2 v3 v4) := by
  unfold k0_part321; repeat' with_reducible first|infer_instance|exact ld| apply allS| apply allP|intro _| apply seq| apply loop| apply alt| apply br
instance s322 (v1 v2 v3 v4) : Safe D c I (B.at (k0_part322 i) v1 v2 v3 v4) := by
  unfold k0_part322; repeat' with_reducible first|infer_instance|exact ld| apply allS| apply allP|intro _| apply seq| apply loop| apply alt| apply br
instance s323 (v1 v2) : Safe D c I (B.at (k0_part323 i) v1 v2) := by
  unfold k0_part323; repeat' with_reducible first|infer_instance|exact ld| apply allS| apply allP|intro _| apply seq| apply loop| apply alt| apply br
instance s324 (v1 v2 v3 v4 v5 v6 v7 v8 v9 v10 v11) : Safe D c I (B.at (k0_part324 i) v1 v2 v3 v4 v5 v6 v7 v8 v9 v10 v11) := by
  unfold k0_part324; repeat' with_reducible first|infer_instance|exact ld| apply allS| apply allP|intro _| apply seq| apply loop| apply alt| apply br
instance s325 (v1 v2 v3 v4 v5 v6 v7 v8 v9 v10 v11) : Safe D c I (B.at (k0_part325 i) v1 v2 v3 v4 v5 v6 v7 v8 v9 v10 v11) := by
  unfold k0_part325; repeat' with_reducible first|infer_instance|exact ld| apply allS| apply allP|intro _| apply seq| apply loop| apply alt| apply br
instance s326 (v1 v2 v3 v4 v5 v6 v7 v8 v9 v10 v11) : Safe D c I (B.at (k0_part326 i) v1 v2 v3 v4 v5 v6 v7 v8 v9 v10 v11) := by
  unfold k0_part326; repeat' with_reducible first|infer_instance|exact ld| apply allS| apply allP|intro _| apply seq| apply loop| apply alt| apply br
instance s327 (v1 v2 v3 v4 v5 v6 v7 v8 v9 v10 v11) : Safe D c I (B.at (k0_part327 i) v1 v2 v3 v4 v5 v6 v7 v8 v9 v10 v11) := by
  unfold k0_part327; repeat' with_reducible first|infer_instance|exact ld| apply allS| apply allP|intro _| apply seq| apply loop| apply alt| apply br
instance s328 (v1 v2 v3 v4 v5 v6 v7 v8 v9 v10 v11) : Safe D c I (B.at (k0_part328 i) v1 v2 v3 v4 v5 v6 v7 v8 v9 v10 v11) := by
  unfold k0_part328; repeat' with_reducible first|infer_instance|exact ld| apply allS| apply allP|intro _| apply seq| apply loop| apply alt| apply br
instance s329 (v1 v2 v3 v4 v5 v6 v7 v8 v9 v10 v11) : Safe D c I (B.at (k0_part329 i) v1 v2 v3 v4 v5 v6 v7 v8 v9 v10 v11) := by
  unfold k0_part329; repeat' with_reducible first|infer_instance|exact ld| apply allS| apply allP|intro _| apply seq| apply loop| apply alt| apply br
instance s330 (v1 v2 v3 v4 v5 v6 v7 v8 v9 v10 v11) : Safe D c I (B.at (k0_part330 i) v1 v2 v3 v4 v5 v6 v7 v8 v9 v10 v11) := by
  unfold k0_part330; repeat' with_reducible first|infer_instance|exact ld| apply allS| apply allP|intro _| apply seq| apply loop| apply alt| apply br
instance s331 (v1 v2 v3 v4 v5 v6 v7 v8 v9 v10 v11) : Safe D c I (B.at (k0_part331 i) v1 v2 v3 v4 v5 v6 v7 v8 v9 v10 v11) := by
  unfold k0_part331; repeat' with_reducible first|infer_instance|exact ld| apply allS| apply allP|intro _| apply seq| apply loop| apply alt| apply br
instance s332 (v1 v2 v3 v4 v5 v6 v7 v8 v9 v10 v11) : Safe D c I (B.at (k0_part332 i) v1 v2 v3 v4 v5 v6 v7 v8 v9 v10 v11) := by
  unfold k0_part332; repeat' with_reducible first|infer_instance|exact ld| apply allS| apply allP|intro _| apply seq| apply loop| apply alt| apply br
instance s333 (v1 v2 v3 v4 v5 v6 v7 v8 v9 v10 v11) : Safe D c I (B.at (k0_part333 i) v1 v2 v3 v4 v5 v6 v7 v8 v9 v10 v11) := by
  unfold k0_part333; repeat' with_reducible first|infer_instance|exact ld| apply allS| apply allP|intro _| apply seq| apply loop| apply alt| apply br
instance s334 (v1 v2 v3 v4 v5 v6 v7 v8 v9 v10 v11) : Safe D c I (B.at (k0_part334 i) v1 v2 v3 v4 v5 v6 v7 v8 v9 v10 v11) := by
  unfold k0_part334; repeat' with_reducible first|infer_instance|exact ld| apply allS| apply allP|intro _| apply seq| apply loop| apply alt| apply br
instance s335 (v1 v2 v3 v4 v5 v6 v7 v8 v9 v10 v11) : Safe D c I (B.at (k0_part335 i) v1 v2 v3 v4 v5 v6 v7 v8 v9 v10 v11) := by
  unfold k0_part335; repeat' with_reducible first|infer_instance|exact ld| apply allS| apply allP|intro _| apply seq| apply loop| apply alt| apply br
instance s336 (v1 v2 v3 v4 v5 v6 v7 v8 v9 v10 v11) : Safe D c I (B.at (k0_part336 i) v1 v2 v3 v4 v5 v6 v7 v8 v9 v10 v11) := by
  unfold k0_part336; repeat' with_reducible first|infer_instance|exact ld| apply allS| apply allP|intro _| apply seq| apply loop| apply alt| apply br
instance s337 (v1 v2 v3 v4 v5 v6 v7 v8 v9 v10 v11) : Safe D c I (B.at (k0_part337 i) v1 v2 v3 v4 v5 v6 v7 v8 v9 v10 v11) := by
  unfold k0_part337; repeat' with_reducible first|infer_instance|exact ld| apply allS| apply allP|intro _| apply seq| apply loop| apply alt| apply br
instance s338 (v1 v2 v3 v4 v5 v6 v7 v8 v9 v10 v11) : Safe D c I (B.at (k0_part338 i) v1 v2 v3 v4 v5 v6 v7 v8 v9 v10 v11) := by
  unfold k0_part338; repeat' with_reducible first|infer_instance|exact ld| apply allS| apply allP|intro _| apply seq| apply loop| apply alt| apply br
instance s339 (v1 v2 v3 v4 v5 v6 v7 v8 v9 v10 v11 v12) : Safe D c I (B.at (k0_part339 i) v1 v2 v3 v4 v5 v6 v7 v8 v9 v10 v11 v12) := by
  unfold k0_part339; repeat' with_reducible first|infer_instance|exact ld| apply allS| apply allP|intro _| apply seq| apply loop| apply alt| apply br
instance s340 (v1 v2 v3 v4 v5 v6 v7 v8 v9 v10) : Safe D c I (B.at (k0_part340 i) v1 v2 v3 v4 v5 v6 v7 v8 v9 v10) := by
  unfold k0_part340; repeat' with_reducible first|infer_instance|exact ld| apply allS| apply allP|intro _| apply seq| apply loop| apply alt| apply br
instance s341 (v1 v2 v3 v4 v5 v6 v7 v8 v9 v10) : Safe D c I (B.at (k0_part341 i) v1 v2 v3 v4 v5 v6 v7 v8 v9 v10) := by
  unfold k0_part341; repeat' with_reducible first|infer_instance|exact ld| apply allS| apply allP|intro _| apply seq| apply loop| apply alt| apply br
instance s342 (v1 v2 v3 v4 v5 v6 v7 v8 v9 v10) : Safe D c I (B.at (k0_part342 i) v1 v2 v3 v4 v5 v6 v7 v8 v9 v10) := by
  unfold k0_part342; repeat' with_reducible first|infer_instance|exact ld| apply allS| apply allP|intro _| apply seq| apply loop| apply alt| apply br
instance s343 (v1 v2 v3 v4 v5 v6 v7 v8 v9 v10) : Safe D c I (B.at (k0_part343 i) v1 v2 v3 v4 v5 v6 v7 v8 v9 v10) := by
  unfold k0_part343; repeat' with_reducible first|infer_instance|exact ld| apply allS| apply allP|intro _| apply seq| apply loop| apply alt| apply br
instance s344 (v1 v2 v3 v4 v5 v6 v7 v8 v9 v10) : Safe D c I (B.at (k0_part344 i) v1 v2 v3 v4 v5 v6 v7 v8 v9 v10) := by
  unfold k0_part344; repeat' with_reducible first|infer_instance|exact ld| apply allS| apply allP|intro _| apply seq| apply loop| apply alt| apply br
instance s345 (v1 v2 v3 v4 v5 v6 v7) : Safe D c I (B.at (k0_part345 i) v1 v2 v3 v4 v5 v6 v7) := by
  unfold k0_part345; repeat' with_reducible first|infer_instance|exact ld| apply allS| apply allP|intro _| apply seq| apply loop| apply alt| apply br
instance s346 (v1 v2 v3 v4) : Safe D c I (B.at (k0_part346 i) v1 v2 v3 v4) := by
  unfold k0_part346; repeat' with_reducible first|infer_instance|exact ld| apply allS| apply allP|intro _| apply seq| apply loop| apply alt| apply br
instance s347 (v1 v2 v3) : Safe D c I (B.at (k0_part347 i) v1 v2 v3) := by
  unfold k0_part347; repeat' with_reducible first|infer_instance|exact ld| apply allS| apply allP|intro _| apply seq| apply loop| apply alt| apply br
instance s348 (v1 v2) : Safe D c I (B.at (k0_part348 i) v1 v2) := by
  unfold k0_part348; repeat' with_reducible first|infer_instance|exact ld| apply allS| apply allP|intro _| apply seq| apply loop| apply alt| apply br
instance s349 (v1 v2 v3 v4 v5 v6 v7 v8 v9 v10 v11 v12) : Safe D c I (B.at (k0_part349 i) v1 v2 v3 v4 v5 v6 v7 v8 v9 v10 v11 v12) := by
  unfold k0_part349; repeat' with_reducible first|infer_instance|exact ld| apply allS| apply allP|intro _| apply seq| apply loop| apply alt| apply br
instance s350 (v1 v2 v3 v4 v5 v6 v7 v8 v9 v10 v11 v12) : Safe D c I (B.at (k0_part350 i) v1 v2 v3 v4 v5 v6 v7 v8 v9 v10 v11 v12) := by
  unfold k0_part350; repeat' with_reducible first|infer_instance|exact ld| apply allS| apply allP|intro _| apply seq| apply loop| apply alt| apply br
instance s351 (v1 v2 v3 v4 v5 v6 v7 v8 v9 v10 v11 v12) : Safe D c I (B.at (k0_part351 i) v1 v2 v3 v4 v5 v6 v7 v8 v9 v10 v11 v12) := by
  unfold k0_part351; repeat' with_reducible first|infer_instance|exact ld| apply allS| apply allP|intro _| apply seq| apply loop| apply alt| apply br
instance s352 (v1 v2 v3 v4 v5 v6 v7 v8 v9 v10 v11 v12) : Safe D c I (B.at (k0_part352 i) v1 v2 v3 v4 v5 v6 v7 v8 v9 v10 v11 v12) := by
  unfold k0_part352; repeat' with_reducible first|infer_instance|exact ld| apply allS| apply allP|intro _| apply seq| apply loop| apply alt| apply br
instance s353 (v1 v2 v3 v4 v5 v6 v7 v8 v9 v10 v11 v12) : Safe D c I (B.at (k0_part353 i) v1 v2 v3 v4 v5 v6 v7 v8 v9 v10 v11 v12) := by
  unfold k0_part353; repeat' with_reducible first|infer_instance|exact ld| apply allS| apply allP|intro _| apply seq| apply loop| apply alt| apply br
instance s354 (v1 v2 v3 v4 v5 v6 v7 v8 v9 v10 v11 v12) : Safe D c I (B.at (k0_part354 i) v1 v2 v3 v4 v5 v6 v7 v8 v9 v10 v11 v12) := by
  unfold k0_part354; repeat' with_reducible first|infer_instance|exact ld| apply allS| apply allP|intro _| apply seq| apply loop| apply alt| apply br
instance s355 (v1 v2 v3 v4 v5 v6 v7 v8 v9 v10 v11 v12) : Safe D c I (B.at (k0_part355 i) v1 v2 v3 v4 v5 v6 v7 v8 v9 v10 v11 v12) := by
  unfold k0_part355; repeat' with_reducible first|infer_instance|exact ld| apply allS| apply allP|intro _| apply seq| apply loop| apply alt| apply br
instance s356 (v1 v2 v3 v4 v5 v6 v7 v8 v9 v10 v11 v12) : Safe D c I (B.at (k0_part356 i) v1 v2 v3 v4 v5 v6 v7 v8 v9 v10 v11 v12) := by
  unfold k0_part356; repeat' with_reducible first|infer_instance|exact ld| apply allS| apply allP|intro _| apply seq| apply loop| apply alt| apply br
instance s357 (v1 v2 v3 v4 v5 v6 v7 v8 v9 v10 v11 v12) : Safe D c I (B.at (k0_part357 i) v1 v2 v3 v4 v5 v6 v7 v8 v9 v10 v11 v12) := by
  unfold k0_part357; repeat' with_reducible first|infer_instance|exact ld| apply allS| apply allP|intro _| apply seq| apply loop| apply alt| apply br
instance s358 (v1 v2 v3 v4 v5 v6 v7 v8 v9 v10 v11 v12) : Safe D c I (B.at (k0_part358 i) v1 v2 v3 v4 v5 v6 v7 v8 v9 v10 v11 v12) := by
  unfold k0_part358; repeat' with_reducible first|infer_instance|exact ld| apply allS| apply allP|intro _| apply seq| apply loop| apply alt| apply br
instance s359 (v1 v2 v3 v4 v5 v6 v7 v8 v9 v10 v11 v12) : Safe D c I (B.at (k0_part359 i) v1 v2 v3 v4 v5 v6 v7 v8 v9 v10 v11 v12) := by
  unfold k0_part359; repeat' with_reducible first|infer_instance|exact ld| apply allS| apply allP|intro _| apply seq| apply loop| apply alt| apply br
instance s360 (v1 v2 v3 v4 v5 v6 v7 v8 v9 v10 v11 v12) : Safe D c I (B.at (k0_part360 i) v1 v2 v3 v4 v5 v6 v7 v8 v9 v10 v11 v12) := by
  unfold k0_part360; repeat' with_reducible first|infer_instance|exact ld| apply allS| apply allP|intro _| apply seq| apply loop| apply alt| apply br
instance s361 (v1 v2 v3 v4 v5 v6 v7 v8 v9 v10 v11 v12) : Safe D c I (B.at (k0_part361 i) v1 v2 v3 v4 v5 v6 v7 v8 v9 v10 v11 v12) := by
  unfold k0_part361; repeat' with_reducible first|infer_instance|exact ld| apply allS| apply allP|intro _| apply seq| apply loop| apply alt| apply br
instance s362 (v1 v2 v3 v4 v5 v6 v7 v8 v9 v10 v11 v12) : Safe D c I (B.at (k0_part362 i) v1 v2 v3 v4 v5 v6 v7 v8 v9 v10 v11 v12) := by
  unfold k0_part362; repeat' with_reducible first|infer_instance|exact ld| apply allS| apply allP|intro _| apply seq| apply loop| apply alt| apply br
instance s363 (v1 v2 v3 v4 v5 v6 v7 v8 v9 v10 v11 v12) : Safe D c I (B.at (k0_part363 i) v1 v2 v3 v4 v5 v6 v7 v8 v9 v10 v11 v12) := by
  unfold k0_part363; repeat' with_reducible first|infer_instance|exact ld| apply allS| apply allP|intro _| apply seq| apply loop| apply alt| apply br
instance s364 (v1 v2 v3 v4 v5 v6 v7 v8 v9 v10 v11 v12 v13) : Safe D c I (B.at (k0_part364 i) v1 v2 v3 v4 v5 v6 v7 v8 v9 v10 v11 v12 v13) := by
  unfold k0_part364; repeat' with_reducible first|infer_instance|exact ld| apply allS| apply allP|intro _| apply seq| apply loop| apply alt| apply br
instance s365 (v1 v2 v3 v4 v5 v6 v7 v8 v9 v10 v11) : Safe D c I (B.at (k0_part365 i) v1 v2 v3 v4 v5 v6 v7 v8 v9 v10 v11) := by
  unfold k0_part365; repeat' with_reducible first|infer_instance|exact ld| apply allS| apply allP|intro _| apply seq| apply loop| apply alt| apply br
instance s366 (v1 v2 v3 v4 v5 v6 v7 v8 v9 v10 v11) : Safe D c I (B.at (k0_part366 i) v1 v2 v3 v4 v5 v6 v7 v8 v9 v10 v11) := by
  unfold k0_part366; repeat' with_reducible first|infer_instance|exact ld| apply allS| apply allP|intro _| apply seq| apply loop| apply alt| apply br
end Cert.Proof.Attn

end
-- ==== Proof.Attn.S04.lean ====
/-
  Parts k0_part367 to k0_part538 of the kernel's body keep the buffers they are given: one fact per part, in the order of the printed
  program, each by walking the part's statements.
-/
module

public import proofs.«01_k».proof.Kernel.P04
public import proofs.«01_k».proof.Proof.Attn.S03

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s367 (v1 v2 v3 v4 v5 v6 v7 v8 v9 v10 v11) : Safe D c I (B.at (k0_part367 i) v1 v2 v3 v4 v5 v6 v7 v8 v9 v10 v11) := by
  unfold k0_part367; repeat' with_reducible first|infer_instance|exact ld| apply allS| apply allP|intro _| apply seq| apply loop| apply alt| apply br
instance s368 (v1 v2 v3 v4 v5 v6 v7 v8 v9 v10 v11) : Safe D c I (B.at (k0_part368 i) v1 v2 v3 v4 v5 v6 v7 v8 v9 v10 v11) := by
  unfold k0_part368; repeat' with_reducible first|infer_instance|exact ld| apply allS| apply allP|intro _| apply seq| apply loop| apply alt| apply br
instance s369 (v1 v2 v3 v4 v5 v6 v7 v8 v9 v10 v11 v12) : Safe D c I (B.at (k0_part369 i) v1 v2 v3 v4 v5 v6 v7 v8 v9 v10 v11 v12) := by
  unfold k0_part369; repeat' with_reducible first|infer_instance|exact ld| apply allS| apply allP|intro _| apply seq| apply loop| apply alt| apply br
instance s370 (v1 v2) : Safe D c I (B.at (k0_part370 i) v1 v2) := by
  unfold k0_part370; repeat' with_reducible first|infer_instance|exact ld| apply allS| apply allP|intro _| apply seq| apply loop| apply alt| apply br
instance s371 (v1 v2 v3 v4) : Safe D c I (B.at (k0_part371 i) v1 v2 v3 v4) := by
  unfold k0_part371; repeat' with_reducible first|infer_instance|exact ld| apply allS| apply allP|intro _| apply seq| apply loop| apply alt| apply br
instance s372 (v1 v2 v3) : Safe D c I (B.at (k0_part372 i) v1 v2 v3) := by
  unfold k0_part372; repeat' with_reducible first|infer_instance|exact ld| apply allS| apply allP|intro _| apply seq| apply loop| apply alt| apply br
instance s373 (v1 v2 v3 v4 v5 v6 v7 v8 v9 v10 v11) : Safe D c I (B.at (k0_part373 i) v1 v2 v3 v4 v5 v6 v7 v8 v9 v10 v11) := by
  unfold k0_part373; repeat' with_reducible first|infer_instance|exact ld| apply allS| apply allP|intro _| apply seq| apply loop| apply alt| apply br
instance s374 (v1 v2 v3 v4 v5 v6 v7 v8 v9 v10 v11 v12 v13 v14) : Safe D c I (B.at (k0_part374 i) v1 v2 v3 v4 v5 v6 v7 v8 v9 v10 v11 v12 v13 v14) := by
  unfold k0_part374; repeat' with_reducible first|infer_instance|exact ld| apply allS| apply allP|intro _| apply seq| apply loop| apply alt| apply br
instance s375 (v1 v2 v3 v4 v5 v6 v7 v8 v9 v10 v11 v12 v13 v14) : Safe D c I (B.at (k0_part375 i) v1 v2 v3 v4 v5 v6 v7 v8 v9 v10 v11 v12 v13 v14) := by
  unfold k0_part375; repeat' with_reducible first|infer_instance|exact ld| apply allS| apply allP|intro _| apply seq| apply loop| apply alt| apply br
instance s376 (v1 v2 v3 v4 v5 v6 v7 v8 v9 v10 v11 v12 v13 v14) : Safe D c I (B.at (k0_part376 i) v1 v2 v3 v4 v5 v6 v7 v8 v9 v10 v11 v12 v13 v14) := by
  unfold k0_part376; repeat' with_reducible first|infer_instance|exact ld| apply allS| apply allP|intro _| apply seq| apply loop| apply alt| apply br
instance s377 (v1 v2 v3 v4 v5 v6 v7 v8 v9 v10 v11 v12 v13 v14) : Safe D c I (B.at (k0_part377 i) v1 v2 v3 v4 v5 v6 v7 v8 v9 v10 v11 v12 v13 v14) := by
  unfold k0_part377; repeat' with_reducible first|infer_instance|exact ld| apply allS| apply allP|intro _| apply seq| apply loop| apply alt| apply br
instance s378 (v1 v2 v3 v4 v5 v6 v7 v8 v9 v10 v11 v12 v13 v14) : Safe D c I (B.at (k0_part378 i) v1 v2 v3 v4 v5 v6 v7 v8 v9 v10 v11 v12 v13 v14) := by
  unfold k0_part378; repeat' with_reducible first|infer_instance|exact ld| apply allS| apply allP|intro _| apply seq| apply loop| apply alt| apply br
instance s379 (v1 v2 v3 v4 v5 v6 v7 v8 v9 v10 v11 v12 v13 v14) : Safe D c I (B.at (k0_part379 i) v1 v2 v3 v4 v5 v6 v7 v8 v9 v10 v11 v12 v13 v14) := by
  unfold k0_part379; repeat' with_reducible first|infer_instance|exact ld| apply allS| apply allP|intro _| apply seq| apply loop| apply alt| apply br
instance s380 (v1 v2 v3 v4 v5 v6 v7 v8 v9 v10 v11 v12 v13 v14) : Safe D c I (B.at (k0_part380 i) v1 v2 v3 v4 v5 v6 v7 v8 v9 v10 v11 v12 v13 v14) := by
  unfold k0_part380; repeat' with_reducible first|infer_instance|exact ld| apply allS| apply allP|intro _| apply seq| apply loop| apply alt| apply br
instance s381 (v1 v2 v3 v4 v5 v6 v7 v8 v9 v10 v11 v12 v13 v14) : Safe D c I (B.at (k0_part381 i) v1 v2 v3 v4 v5 v6 v7 v8 v9 v10 v11 v12 v13 v14) := by
  unfold k0_part381; repeat' with_reducible first|infer_instance|exact ld| apply allS| apply allP|intro _| apply seq| apply loop| apply alt| apply br
instance s382 (v1 v2 v3 v4 v5 v6 v7 v8 v9 v10 v11 v12 v13 v14) : Safe D c I (B.at (k0_part382 i) v1 v2 v3 v4 v5 v6 v7 v8 v9 v10 v11 v12 v13 v14) := by
  unfold k0_part382; repeat' with_reducible first|infer_instance|exact ld| apply allS| apply allP|intro _| apply seq| apply loop| apply alt| apply br
instance s383 (v1 v2 v3 v4 v5 v6 v7 v8 v9 v10 v11 v12 v13 v14) : Safe D c I (B.at (k0_part383 i) v1 v2 v3 v4 v5 v6 v7 v8 v9 v10 v11 v12 v13 v14) := by
  unfold k0_part383; repeat' with_reducible first|infer_instance|exact ld| apply allS| apply allP|intro _| apply seq| apply loop| apply alt| apply br
instance s384 (v1 v2 v3 v4 v5 v6 v7 v8 v9 v10 v11 v12 v13 v14) : Safe D c I (B.at (k0_part384 i) v1 v2 v3 v4 v5 v6 v7 v8 v9 v10 v11 v12 v13 v14) := by
  unfold k0_part384; repeat' with_reducible first|infer_instance|exact ld| apply allS| apply allP|intro _| apply seq| apply loop| apply alt| apply br
instance s385 (v1 v2 v3 v4 v5 v6 v7 v8 v9 v10 v11 v12 v13 v14) : Safe D c I (B.at (k0_part385 i) v1 v2 v3 v4 v5 v6 v7 v8 v9 v10 v11 v12 v13 v14) := by
  unfold k0_part385; repeat' with_reducible first|infer_instance|exact ld| apply allS| apply allP|intro _| apply seq| apply loop| apply alt| apply br
instance s386 (v1 v2 v3 v4 v5 v6 v7 v8 v9 v10 v11 v12 v13 v14) : Safe D c I (B.at (k0_part386 i) v1 v2 v3 v4 v5 v6 v7 v8 v9 v10 v11 v12 v13 v14) := by
  unfold k0_part386; repeat' with_reducible first|infer_instance|exact ld| apply allS| apply allP|intro _| apply seq| apply loop| apply alt| apply br
instance s387 (v1 v2 v3 v4 v5 v6 v7 v8 v9 v10 v11 v12 v13 v14) : Safe D c I (B.at (k0_part387 i) v1 v2 v3 v4 v5 v6 v7 v8 v9 v10 v11 v12 v13 v14) := by
  unfold k0_part387; repeat' with_reducible first|infer_instance|exact ld| apply allS| apply allP|intro _| apply seq| apply loop| apply alt| apply br
instance s388 (v1 v2 v3 v4 v5 v6 v7 v8 v9 v10 v11 v12 v13 v14) : Safe D c I (B.at (k0_part388 i) v1 v2 v3 v4 v5 v6 v7 v8 v9 v10 v11 v12 v13 v14) := by
  unfold k0_part388; repeat' with_reducible first|infer_instance|exact ld| apply allS| apply allP|intro _| apply seq| apply loop| apply alt| apply br
instance s389 (v1 v2 v3 v4 v5 v6 v7 v8 v9 v10 v11 v12 v13) : Safe D c I (B.at (k0_part389 i) v1 v2 v3 v4 v5 v6 v7 v8 v9 v10 v11 v12 v13) := by
  unfold k0_part389; repeat' with_reducible first|infer_instance|exact ld| apply allS| apply allP|intro _| apply seq| apply loop| apply alt| apply br
instance s390 (v1 v2 v3 v4 v5 v6 v7 v8 v9 v10) : Safe D c I (B.at (k0_part390 i) v1 v2 v3 v4 v5 v6 v7 v8 v9 v10) := by
  unfold k0_part390; repeat' with_reducible first|infer_instance|exact ld| apply allS| apply allP|intro _| apply seq| apply loop| apply alt| apply br
instance s391 (v1 v2 v3 v4 v5 v6 v7 v8 v9 v10) : Safe D c I (B.at (k0_part391 i) v1 v2 v3 v4 v5 v6 v7 v8 v9 v10) := by
  unfold k0_part391; repeat' with_reducible first|infer_instance|exact ld| apply allS| apply allP|intro _| apply seq| apply loop| apply alt| apply br
instance s392 (v1 v2 v3 v4 v5 v6 v7 v8 v9 v10) : Safe D c I (B.at (k0_part392 i) v1 v2 v3 v4 v5 v6 v7 v8 v9 v10) := by
  unfold k0_part392; repeat' with_reducible first|infer_instance|exact ld| apply allS| apply allP|intro _| apply seq| apply loop| apply alt| apply br
instance s393 (v1 v2 v3 v4 v5 v6 v7 v8 v9 v10) : Safe D c I (B.at (k0_part393 i) v1 v2 v3 v4 v5 v6 v7 v8 v9 v10) := by
  unfold k0_part393; repeat' with_reducible first|infer_instance|exact ld| apply allS| apply allP|intro _| apply seq| apply loop| apply alt| apply br
instance s394 (v1 v2 v3 v4 v5 v6 v7 v8) : Safe D c I (B.at (k0_part394 i) v1 v2 v3 v4 v5 v6 v7 v8) := by
  unfold k0_part394; repeat' with_reducible first|infer_instance|exact ld| apply allS| apply allP|intro _| apply seq| apply loop| apply alt| apply br
instance s395 (v1 v2 v3 v4) : Safe D c I (B.at (k0_part395 i) v1 v2 v3 v4) := by
  unfold k0_part395; repeat' with_reducible first|infer_instance|exact ld| apply allS| apply allP|intro _| apply seq| apply loop| apply alt| apply br
instance s396 (v1 v2 v3 v4) : Safe D c I (B.at (k0_part396 i) v1 v2 v3 v4) := by
  unfold k0_part396; repeat' with_reducible first|infer_instance|exact ld| apply allS| apply allP|intro _| apply seq| apply loop| apply alt| apply br
instance s397 (v1 v2) : Safe D c I (B.at (k0_part397 i) v1 v2) := by
  unfold k0_part397; repeat' with_reducible first|infer_instance|exact ld| apply allS| apply allP|intro _| apply seq| apply loop| apply alt| apply br
instance s398 (v1 v2 v3 v4 v5 v6 v7 v8 v9 v10 v11 v12 v13) : Safe D c I (B.at (k0_part398 i) v1 v2 v3 v4 v5 v6 v7 v8 v9 v10 v11 v12 v13) := by
  unfold k0_part398; repeat' with_reducible first|infer_instance|exact ld| apply allS| apply allP|intro _| apply seq| apply loop| apply alt| apply br
instance s399 (v1 v2 v3 v4 v5 v6 v7 v8 v9 v10 v11 v12 v13) : Safe D c I (B.at (k0_part399 i) v1 v2 v3 v4 v5 v6 v7 v8 v9 v10 v11 v12 v13) := by
  unfold k0_part399; repeat' with_reducible first|infer_instance|exact ld| apply allS| apply allP|intro _| apply seq| apply loop| apply alt| apply br
instance s400 (v1 v2 v3 v4 v5 v6 v7 v8 v9 v10 v11 v12 v13) : Safe D c I (B.at (k0_part400 i) v1 v2 v3 v4 v5 v6 v7 v8 v9 v10 v11 v12 v13) := by
  unfold k0_part400; repeat' with_reducible first|infer_instance|exact ld| apply allS| apply allP|intro _| apply seq| apply loop| apply alt| apply br
instance s401 (v1 v2 v3 v4 v5 v6 v7 v8 v9 v10 v11 v12 v13) : Safe D c I (B.at (k0_part401 i) v1 v2 v3 v4 v5 v6 v7 v8 v9 v10 v11 v12 v13) := by
  unfold k0_part401; repeat' with_reducible first|infer_instance|exact ld| apply allS| apply allP|intro _| apply seq| apply loop| apply alt| apply br
instance s402 (v1 v2 v3 v4 v5 v6 v7 v8 v9 v10 v11 v12 v13) : Safe D c I (B.at (k0_part402 i) v1 v2 v3 v4 v5 v6 v7 v8 v9 v10 v11 v12 v13) := by
  unfold k0_part402; repeat' with_reducible first|infer_instance|exact ld| apply allS| apply allP|intro _| apply seq| apply loop| apply alt| apply br
instance s403 (v1 v2 v3 v4 v5 v6 v7 v8 v9 v10 v11 v12 v13) : Safe D c I (B.at (k0_part403 i) v1 v2 v3 v4 v5 v6 v7 v8 v9 v10 v11 v12 v13) := by
  unfold k0_part403; repeat' with_reducible first|infer_instance|exact ld| apply allS| apply allP|intro _| apply seq| apply loop| apply alt| apply br
instance s404 (v1 v2 v3 v4 v5 v6 v7 v8 v9 v10 v11 v12 v13) : Safe D c I (B.at (k0_part404 i) v1 v2 v3 v4 v5 v6 v7 v8 v9 v10 v11 v12 v13) := by
  unfold k0_part404; repeat' with_reducible first|infer_instance|exact ld| apply allS| apply allP|intro _| apply seq| apply loop| apply alt| apply br
instance s405 (v1 v2 v3 v4 v5 v6 v7 v8 v9 v10 v11 v12 v13) : Safe D c I (B.at (k0_part405 i) v1 v2 v3 v4 v5 v6 v7 v8 v9 v10 v11 v12 v13) := by
  unfold k0_part405; repeat' with_reducible first|infer_instance|exact ld| apply allS| apply allP|intro _| apply seq| apply loop| apply alt| apply br
instance s406 (v1 v2 v3 v4 v5 v6 v7 v8 v9 v10 v11 v12 v13) : Safe D c I (B.at (k0_part406 i) v1 v2 v3 v4 v5 v6 v7 v8 v9 v10 v11 v12 v13) := by
  unfold k0_part406; repeat' with_reducible first|infer_instance|exact ld| apply allS| apply allP|intro _| apply seq| apply loop| apply alt| apply br
instance s407 (v1 v2 v3 v4 v5 v6 v7 v8 v9 v10 v11 v12 v13) : Safe D c I (B.at (k0_part407 i) v1 v2 v3 v4 v5 v6 v7 v8 v9 v10 v11 v12 v13) := by
  unfold k0_part407; repeat' with_reducible first|infer_instance|exact ld| apply allS| apply allP|intro _| apply seq| apply loop| apply alt| apply br
instance s408 (v1 v2 v3 v4 v5 v6 v7 v8 v9 v10 v11 v12 v13) : Safe D c I (B.at (k0_part408 i) v1 v2 v3 v4 v5 v6 v7 v8 v9 v10 v11 v12 v13) := by
  unfold k0_part408; repeat' with_reducible first|infer_instance|exact ld| apply allS| apply allP|intro _| apply seq| apply loop| apply alt| apply br
instance s409 (v1 v2 v3 v4 v5 v6 v7 v8 v9 v10 v11 v12 v13) : Safe D c I (B.at (k0_part409 i) v1 v2 v3 v4 v5 v6 v7 v8 v9 v10 v11 v12 v13) := by
  unfold k0_part409; repeat' with_reducible first|infer_instance|exact ld| apply allS| apply allP|intro _| apply seq| apply loop| apply alt| apply br
instance s410 (v1 v2 v3 v4 v5 v6 v7 v8 v9 v10 v11 v12 v13) : Safe D c I (B.at (k0_part410 i) v1 v2 v3 v4 v5 v6 v7 v8 v9 v10 v11 v12 v13) := by
  unfold k0_part410; repeat' with_reducible first|infer_instance|exact ld| apply allS| apply allP|intro _| apply seq| apply loop| apply alt| apply br
instance s411 (v1 v2 v3 v4 v5 v6 v7 v8 v9 v10 v11 v12 v13) : Safe D c I (B.at (k0_part411 i) v1 v2 v3 v4 v5 v6 v7 v8 v9 v10 v11 v12 v13) := by
  unfold k0_part411; repeat' with_reducible first|infer_instance|exact ld| apply allS| apply allP|intro _| apply seq| apply loop| apply alt| apply br
instance s412 (v1 v2 v3 v4 v5 v6 v7 v8 v9 v10 v11 v12 v13) : Safe D c I (B.at (k0_part412 i) v1 v2 v3 v4 v5 v6 v7 v8 v9 v10 v11 v12 v13) := by
  unfold k0_part412; repeat' with_reducible first|infer_instance|exact ld| apply allS| apply allP|intro _| apply seq| apply loop| apply alt| apply br
instance s413 (v1 v2 v3 v4 v5 v6 v7 v8 v9 v10 v11 v12 v13 v14 v15) : Safe D c I (B.at (k0_part413 i) v1 v2 v3 v4 v5 v6 v7 v8 v9 v10 v11 v12 v13 v14 v15) := by
  unfold k0_part413; repeat' with_reducible first|infer_instance|exact ld| apply allS| apply allP|intro _| apply seq| apply loop| apply alt| apply br
instance s414 (v1 v2 v3 v4 v5 v6 v7 v8 v9 v10 v11) : Safe D c I (B.at (k0_part414 i) v1 v2 v3 v4 v5 v6 v7 v8 v9 v10 v11) := by
  unfold k0_part414; repeat' with_reducible first|infer_instance|exact ld| apply allS| apply allP|intro _| apply seq| apply loop| apply alt| apply br
instance s415 (v1 v2 v3 v4 v5 v6 v7 v8 v9 v10 v11) : Safe D c I (B.at (k0_part415 i) v1 v2 v3 v4 v5 v6 v7 v8 v9 v10 v11) := by
  unfold k0_part415; repeat' with_reducible first|infer_instance|exact ld| apply allS| apply allP|intro _| apply seq| apply loop| apply alt| apply br
instance s416 (v1 v2 v3 v4 v5 v6 v7 v8 v9 v10 v11) : Safe D c I (B.at (k0_part416 i) v1 v2 v3 v4 v5 v6 v7 v8 v9 v10 v11) := by
  unfold k0_part416; repeat' with_reducible first|infer_instance|exact ld| apply allS| apply allP|intro _| apply seq| apply loop| apply alt| apply br
instance s417 (v1 v2 v3 v4 v5 v6 v7 v8 v9 v10 v11) : Safe D c I (B.at (k0_part417 i) v1 v2 v3 v4 v5 v6 v7 v8 v9 v10 v11) := by
  unfold k0_part417; repeat' with_reducible first|infer_instance|exact ld| apply allS| apply allP|intro _| apply seq| apply loop| apply alt| apply br
instance s418 (v1 v2 v3 v4 v5 v6 v7 v8 v9 v10 v11) : Safe D c I (B.at (k0_part418 i) v1 v2 v3 v4 v5 v6 v7 v8 v9 v10 v11) := by
  unfold k0_part418; repeat' with_reducible first|infer_instance|exact ld| apply allS| apply allP|intro _| apply seq| apply loop| apply alt| apply br
instance s419 (v1 v2 v3 v4 v5) : Safe D c I (B.at (k0_part419 i) v1 v2 v3 v4 v5) := by
  unfold k0_part419; repeat' with_reducible first|infer_instance|exact ld| apply allS| apply allP|intro _| apply seq| apply loop| apply alt| apply br
instance s420 (v1 v2 v3) : Safe D c I (B.at (k0_part420 i) v1 v2 v3) := by
  unfold k0_part420; repeat' with_reducible first|infer_instance|exact ld| apply allS| apply allP|intro _| apply seq| apply loop| apply alt| apply br
instance s421 (v1 v2 v3) : Safe D c I (B.at (k0_part421 i) v1 v2 v3) := by
  unfold k0_part421; repeat' with_reducible first|infer_instance|exact ld| apply allS| apply allP|intro _| apply seq| apply loop| apply alt| apply br
instance s422 (v1 v2 v3 v4) : Safe D c I (B.at (k0_part422 i) v1 v2 v3 v4) := by
  unfold k0_part422; repeat' with_reducible first|infer_instance|exact ld| apply allS| apply allP|intro _| apply seq| apply loop| apply alt| apply br
instance s423 (v1 v2 v3 v4 v5 v6 v7 v8 v9 v10) : Safe D c I (B.at (k0_part423 i) v1 v2 v3 v4 v5 v6 v7 v8 v9 v10) := by
  unfold k0_part423; repeat' with_reducible first|infer_instance|exact ld| apply allS| apply allP|intro _| apply seq| apply loop| apply alt| apply br
instance s424 (v1 v2 v3 v4 v5 v6 v7 v8 v9 v10) : Safe D c I (B.at (k0_part424 i) v1 v2 v3 v4 v5 v6 v7 v8 v9 v10) := by
  unfold k0_part424; repeat' with_reducible first|infer_instance|exact ld| apply allS| apply allP|intro _| apply seq| apply loop| apply alt| apply br
instance s425 (v1 v2 v3 v4 v5 v6 v7 v8 v9 v10) : Safe D c I (B.at (k0_part425 i) v1 v2 v3 v4 v5 v6 v7 v8 v9 v10) := by
  unfold k0_part425; repeat' with_reducible first|infer_instance|exact ld| apply allS| apply allP|intro _| apply seq| apply loop| apply alt| apply br
instance s426 (v1 v2 v3 v4 v5 v6 v7 v8 v9 v10) : Safe D c I (B.at (k0_part426 i) v1 v2 v3 v4 v5 v6 v7 v8 v9 v10) := by
  unfold k0_part426; repeat' with_reducible first|infer_instance|exact ld| apply allS| apply allP|intro _| apply seq| apply loop| apply alt| apply br
instance s427 (v1 v2 v3 v4 v5 v6 v7 v8 v9 v10) : Safe D c I (B.at (k0_part427 i) v1 v2 v3 v4 v5 v6 v7 v8 v9 v10) := by
  unfold k0_part427; repeat' with_reducible first|infer_instance|exact ld| apply allS| apply allP|intro _| apply seq| apply loop| apply alt| apply br
instance s428 (v1 v2 v3 v4 v5 v6 v7 v8 v9 v10) : Safe D c I (B.at (k0_part428 i) v1 v2 v3 v4 v5 v6 v7 v8 v9 v10) := by
  unfold k0_part428; repeat' with_reducible first|infer_instance|exact ld| apply allS| apply allP|intro _| apply seq| apply loop| apply alt| apply br
instance s429 (v1 v2 v3 v4 v5 v6 v7 v8 v9 v10) : Safe D c I (B.at (k0_part429 i) v1 v2 v3 v4 v5 v6 v7 v8 v9 v10) := by
  unfold k0_part429; repeat' with_reducible first|infer_instance|exact ld| apply allS| apply allP|intro _| apply seq| apply loop| apply alt| apply br
instance s430 (v1 v2 v3 v4 v5 v6 v7 v8 v9 v10) : Safe D c I (B.at (k0_part430 i) v1 v2 v3 v4 v5 v6 v7 v8 v9 v10) := by
  unfold k0_part430; repeat' with_reducible first|infer_instance|exact ld| apply allS| apply allP|intro _| apply seq| apply loop| apply alt| apply br
instance s431 (v1 v2 v3 v4 v5 v6 v7 v8 v9 v10) : Safe D c I (B.at (k0_part431 i) v1 v2 v3 v4 v5 v6 v7 v8 v9 v10) := by
  unfold k0_part431; repeat' with_reducible first|infer_instance|exact ld| apply allS| apply allP|intro _| apply seq| apply loop| apply alt| apply br
instance s432 (v1 v2 v3 v4 v5 v6 v7 v8 v9 v10) : Safe D c I (B.at (k0_part432 i) v1 v2 v3 v4 v5 v6 v7 v8 v9 v10) := by
  unfold k0_part432; repeat' with_reducible first|infer_instance|exact ld| apply allS| apply allP|intro _| apply seq| apply loop| apply alt| apply br
instance s433 (v1 v2 v3 v4 v5 v6 v7 v8 v9 v10) : Safe D c I (B.at (k0_part433 i) v1 v2 v3 v4 v5 v6 v7 v8 v9 v10) := by
  unfold k0_part433; repeat' with_reducible first|infer_instance|exact ld| apply allS| apply allP|intro _| apply seq| apply loop| apply alt| apply br
instance s434 (v1 v2 v3 v4 v5 v6 v7 v8 v9 v10) : Safe D c I (B.at (k0_part434 i) v1 v2 v3 v4 v5 v6 v7 v8 v9 v10) := by
  unfold k0_part434; repeat' with_reducible first|infer_instance|exact ld| apply allS| apply allP|intro _| apply seq| apply loop| apply alt| apply br
instance s435 (v1 v2 v3 v4 v5 v6 v7 v8 v9 v10) : Safe D c I (B.at (k0_part435 i) v1 v2 v3 v4 v5 v6 v7 v8 v9 v10) := by
  unfold k0_part435; repeat' with_reducible first|infer_instance|exact ld| apply allS| apply allP|intro _| apply seq| apply loop| apply alt| apply br
instance s436 (v1 v2 v3 v4 v5 v6 v7 v8 v9 v10) : Safe D c I (B.at (k0_part436 i) v1 v2 v3 v4 v5 v6 v7 v8 v9 v10) := by
  unfold k0_part436; repeat' with_reducible first|infer_instance|exact ld| apply allS| apply allP|intro _| apply seq| apply loop| apply alt| apply br
instance s437 (v1 v2 v3 v4 v5 v6 v7 v8 v9 v10) : Safe D c I (B.at (k0_part437 i) v1 v2 v3 v4 v5 v6 v7 v8 v9 v10) := by
  unfold k0_part437; repeat' with_reducible first|infer_instance|exact ld| apply allS| apply allP|intro _| apply seq| apply loop| apply alt| apply br
instance s438 (v1 v2 v3 v4 v5 v6 v7 v8 v9 v10 v11) : Safe D c I (B.at (k0_part438 i) v1 v2 v3 v4 v5 v6 v7 v8 v9 v10 v11) := by
  unfold k0_part438; repeat' with_reducible first|infer_instance|exact ld| apply allS| apply allP|intro _| apply seq| apply loop| apply alt| apply br
instance s439 (v1 v2 v3 v4 v5 v6 v7 v8 v9 v10) : Safe D c I (B.at (k0_part439 i) v1 v2 v3 v4 v5 v6 v7 v8 v9 v10) := by
  unfold k0_part439; repeat' with_reducible first|infer_instance|exact ld| apply allS| apply allP|intro _| apply seq| apply loop| apply alt| apply br
instance s440 (v1 v2 v3 v4 v5 v6 v7 v8 v9 v10) : Safe D c I (B.at (k0_part440 i) v1 v2 v3 v4 v5 v6 v7 v8 v9 v10) := by
  unfold k0_part440; repeat' with_reducible first|infer_instance|exact ld| apply allS| apply allP|intro _| apply seq| apply loop| apply alt| apply br
instance s441 (v1 v2 v3 v4 v5 v6 v7 v8 v9 v10) : Safe D c I (B.at (k0_part441 i) v1 v2 v3 v4 v5 v6 v7 v8 v9 v10) := by
  unfold k0_part441; repeat' with_reducible first|infer_instance|exact ld| apply allS| apply allP|intro _| apply seq| apply loop| apply alt| apply br
instance s442 (v1 v2 v3 v4 v5 v6 v7 v8 v9 v10) : Safe D c I (B.at (k0_part442 i) v1 v2 v3 v4 v5 v6 v7 v8 v9 v10) := by
  unfold k0_part442; repeat' with_reducible first|infer_instance|exact ld| apply allS| apply allP|intro _| apply seq| apply loop| apply alt| apply br
instance s443 (v1 v2 v3 v4 v5 v6 v7 v8 v9 v10) : Safe D c I (B.at (k0_part443 i) v1 v2 v3 v4 v5 v6 v7 v8 v9 v10) := by
  unfold k0_part443; repeat' with_reducible first|infer_instance|exact ld| apply allS| apply allP|intro _| apply seq| apply loop| apply alt| apply br
instance s444 (v1 v2 v3 v4) : Safe D c I (B.at (k0_part444 i) v1 v2 v3 v4) := by
  unfold k0_part444; repeat' with_reducible first|infer_instance|exact ld| apply allS| apply allP|intro _| apply seq| apply loop| apply alt| apply br
instance s445 (v1 v2 v3 v4) : Safe D c I (B.at (k0_part445 i) v1 v2 v3 v4) := by
  unfold k0_part445; repeat' with_reducible first|infer_instance|exact ld| apply allS| apply allP|intro _| apply seq| apply loop| apply alt| apply br
instance s446 (v1 v2) : Safe D c I (B.at (k0_part446 i) v1 v2) := by
  unfold k0_part446; repeat' with_reducible first|infer_instance|exact ld| apply allS| apply allP|intro _| apply seq| apply loop| apply alt| apply br
instance s447 (v1 v2 v3 v4 v5 v6 v7 v8 v9 v10 v11) : Safe D c I (B.at (k0_part447 i) v1 v2 v3 v4 v5 v6 v7 v8 v9 v10 v11) := by
  unfold k0_part447; repeat' with_reducible first|infer_instance|exact ld| apply allS| apply allP|intro _| apply seq| apply loop| apply alt| apply br
instance s448 (v1 v2 v3 v4 v5 v6 v7 v8 v9 v10 v11) : Safe D c I (B.at (k0_part448 i) v1 v2 v3 v4 v5 v6 v7 v8 v9 v10 v11) := by
  unfold k0_part448; repeat' with_reducible first|infer_instance|exact ld| apply allS| apply allP|intro _| apply seq| apply loop| apply alt| apply br
instance s449 (v1 v2 v3 v4 v5 v6 v7 v8 v9 v10 v11) : Safe D c I (B.at (k0_part449 i) v1 v2 v3 v4 v5 v6 v7 v8 v9 v10 v11) := by
  unfold k0_part449; repeat' with_reducible first|infer_instance|exact ld| apply allS| apply allP|intro _| apply seq| apply loop| apply alt| apply br
instance s450 (v1 v2 v3 v4 v5 v6 v7 v8 v9 v10 v11) : Safe D c I (B.at (k0_part450 i) v1 v2 v3 v4 v5 v6 v7 v8 v9 v10 v11) := by
  unfold k0_part450; repeat' with_reducible first|infer_instance|exact ld| apply allS| apply allP|intro _| apply seq| apply loop| apply alt| apply br
instance s451 (v1 v2 v3 v4 v5 v6 v7 v8 v9 v10 v11) : Safe D c I (B.at (k0_part451 i) v1 v2 v3 v4 v5 v6 v7 v8 v9 v10 v11) := by
  unfold k0_part451; repeat' with_reducible first|infer_instance|exact ld| apply allS| apply allP|intro _| apply seq| apply loop| apply alt| apply br
instance s452 (v1 v2 v3 v4 v5 v6 v7 v8 v9 v10 v11) : Safe D c I (B.at (k0_part452 i) v1 v2 v3 v4 v5 v6 v7 v8 v9 v10 v11) := by
  unfold k0_part452; repeat' with_reducible first|infer_instance|exact ld| apply allS| apply allP|intro _| apply seq| apply loop| apply alt| apply br
instance s453 (v1 v2 v3 v4 v5 v6 v7 v8 v9 v10 v11) : Safe D c I (B.at (k0_part453 i) v1 v2 v3 v4 v5 v6 v7 v8 v9 v10 v11) := by
  unfold k0_part453; repeat' with_reducible first|infer_instance|exact ld| apply allS| apply allP|intro _| apply seq| apply loop| apply alt| apply br
instance s454 (v1 v2 v3 v4 v5 v6 v7 v8 v9 v10 v11) : Safe D c I (B.at (k0_part454 i) v1 v2 v3 v4 v5 v6 v7 v8 v9 v10 v11) := by
  unfold k0_part454; repeat' with_reducible first|infer_instance|exact ld| apply allS| apply allP|intro _| apply seq| apply loop| apply alt| apply br
instance s455 (v1 v2 v3 v4 v5 v6 v7 v8 v9 v10 v11) : Safe D c I (B.at (k0_part455 i) v1 v2 v3 v4 v5 v6 v7 v8 v9 v10 v11) := by
  unfold k0_part455; repeat' with_reducible first|infer_instance|exact ld| apply allS| apply allP|intro _| apply seq| apply loop| apply alt| apply br
instance s456 (v1 v2 v3 v4 v5 v6 v7 v8 v9 v10 v11) : Safe D c I (B.at (k0_part456 i) v1 v2 v3 v4 v5 v6 v7 v8 v9 v10 v11) := by
  unfold k0_part456; repeat' with_reducible first|infer_instance|exact ld| apply allS| apply allP|intro _| apply seq| apply loop| apply alt| apply br
instance s457 (v1 v2 v3 v4 v5 v6 v7 v8 v9 v10 v11) : Safe D c I (B.at (k0_part457 i) v1 v2 v3 v4 v5 v6 v7 v8 v9 v10 v11) := by
  unfold k0_part457; repeat' with_reducible first|infer_instance|exact ld| apply allS| apply allP|intro _| apply seq| apply loop| apply alt| apply br
instance s458 (v1 v2 v3 v4 v5 v6 v7 v8 v9 v10 v11) : Safe D c I (B.at (k0_part458 i) v1 v2 v3 v4 v5 v6 v7 v8 v9 v10 v11) := by
  unfold k0_part458; repeat' with_reducible first|infer_instance|exact ld| apply allS| apply allP|intro _| apply seq| apply loop| apply alt| apply br
instance s459 (v1 v2 v3 v4 v5 v6 v7 v8 v9 v10 v11) : Safe D c I (B.at (k0_part459 i) v1 v2 v3 v4 v5 v6 v7 v8 v9 v10 v11) := by
  unfold k0_part459; repeat' with_reducible first|infer_instance|exact ld| apply allS| apply allP|intro _| apply seq| apply loop| apply alt| apply br
instance s460 (v1 v2 v3 v4 v5 v6 v7 v8 v9 v10 v11) : Safe D c I (B.at (k0_part460 i) v1 v2 v3 v4 v5 v6 v7 v8 v9 v10 v11) := by
  unfold k0_part460; repeat' with_reducible first|infer_instance|exact ld| apply allS| apply allP|intro _| apply seq| apply loop| apply alt| apply br
instance s461 (v1 v2 v3 v4 v5 v6 v7 v8 v9 v10 v11) : Safe D c I (B.at (k0_part461 i) v1 v2 v3 v4 v5 v6 v7 v8 v9 v10 v11) := by
  unfold k0_part461; repeat' with_reducible first|infer_instance|exact ld| apply allS| apply allP|intro _| apply seq| apply loop| apply alt| apply br
instance s462 (v1 v2 v3 v4 v5 v6 v7 v8 v9 v10 v11 v12) : Safe D c I (B.at (k0_part462 i) v1 v2 v3 v4 v5 v6 v7 v8 v9 v10 v11 v12) := by
  unfold k0_part462; repeat' with_reducible first|infer_instance|exact ld| apply allS| apply allP|intro _| apply seq| apply loop| apply alt| apply br
instance s463 (v1 v2 v3 v4 v5 v6 v7 v8 v9 v10) : Safe D c I (B.at (k0_part463 i) v1 v2 v3 v4 v5 v6 v7 v8 v9 v10) := by
  unfold k0_part463; repeat' with_reducible first|infer_instance|exact ld| apply allS| apply allP|intro _| apply seq| apply loop| apply alt| apply br
instance s464 (v1 v2 v3 v4 v5 v6 v7 v8 v9 v10) : Safe D c I (B.at (k0_part464 i) v1 v2 v3 v4 v5 v6 v7 v8 v9 v10) := by
  unfold k0_part464; repeat' with_reducible first|infer_instance|exact ld| apply allS| apply allP|intro _| apply seq| apply loop| apply alt| apply br
instance s465 (v1 v2 v3 v4 v5 v6 v7 v8 v9 v10) : Safe D c I (B.at (k0_part465 i) v1 v2 v3 v4 v5 v6 v7 v8 v9 v10) := by
  unfold k0_part465; repeat' with_reducible first|infer_instance|exact ld| apply allS| apply allP|intro _| apply seq| apply loop| apply alt| apply br
instance s466 (v1 v2 v3 v4 v5 v6 v7 v8 v9 v10) : Safe D c I (B.at (k0_part466 i) v1 v2 v3 v4 v5 v6 v7 v8 v9 v10) := by
  unfold k0_part466; repeat' with_reducible first|infer_instance|exact ld| apply allS| apply allP|intro _| apply seq| apply loop| apply alt| apply br
instance s467 (v1 v2 v3 v4 v5 v6 v7 v8 v9 v10) : Safe D c I (B.at (k0_part467 i) v1 v2 v3 v4 v5 v6 v7 v8 v9 v10) := by
  unfold k0_part467; repeat' with_reducible first|infer_instance|exact ld| apply allS| apply allP|intro _| apply seq| apply loop| apply alt| apply br
instance s468 (v1 v2 v3 v4 v5 v6 v7) : Safe D c I (B.at (k0_part468 i) v1 v2 v3 v4 v5 v6 v7) := by
  unfold k0_part468; repeat' with_reducible first|infer_instance|exact ld| apply allS| apply allP|intro _| apply seq| apply loop| apply alt| apply br
instance s469 (v1 v2 v3) : Safe D c I (B.at (k0_part469 i) v1 v2 v3) := by
  unfold k0_part469; repeat' with_reducible first|infer_instance|exact ld| apply allS| apply allP|intro _| apply seq| apply loop| apply alt| apply br
instance s470 (v1 v2 v3) : Safe D c I (B.at (k0_part470 i) v1 v2 v3) := by
  unfold k0_part470; repeat' with_reducible first|infer_instance|exact ld| apply allS| apply allP|intro _| apply seq| apply loop| apply alt| apply br
instance s471 (v1) : Safe D c I (B.at (k0_part471 i) v1) := by
  unfold k0_part471; repeat' with_reducible first|infer_instance|exact ld| apply allS| apply allP|intro _| apply seq| apply loop| apply alt| apply br
instance s472 (v1 v2 v3 v4 v5 v6 v7 v8 v9 v10 v11 v12 v13) : Safe D c I (B.at (k0_part472 i) v1 v2 v3 v4 v5 v6 v7 v8 v9 v10 v11 v12 v13) := by
  unfold k0_part472; repeat' with_reducible first|infer_instance|exact ld| apply allS| apply allP|intro _| apply seq| apply loop| apply alt| apply br
instance s473 (v1 v2 v3 v4 v5 v6 v7 v8 v9 v10 v11 v12 v13) : Safe D c I (B.at (k0_part473 i) v1 v2 v3 v4 v5 v6 v7 v8 v9 v10 v11 v12 v13) := by
  unfold k0_part473; repeat' with_reducible first|infer_instance|exact ld| apply allS| apply allP|intro _| apply seq| apply loop| apply alt| apply br
instance s474 (v1 v2 v3 v4 v5 v6 v7 v8 v9 v10 v11 v12 v13) : Safe D c I (B.at (k0_part474 i) v1 v2 v3 v4 v5 v6 v7 v8 v9 v10 v11 v12 v13) := by
  unfold k0_part474; repeat' with_reducible first|infer_instance|exact ld| apply allS| apply allP|intro _| apply seq| apply loop| apply alt| apply br
instance s475 (v1 v2 v3 v4 v5 v6 v7 v8 v9 v10 v11 v12 v13) : Safe D c I (B.at (k0_part475 i) v1 v2 v3 v4 v5 v6 v7 v8 v9 v10 v11 v12 v13) := by
  unfold k0_part475; repeat' with_reducible first|infer_instance|exact ld| apply allS| apply allP|intro _| apply seq| apply loop| apply alt| apply br
instance s476 (v1 v2 v3 v4 v5 v6 v7 v8 v9 v10 v11 v12 v13) : Safe D c I (B.at (k0_part476 i) v1 v2 v3 v4 v5 v6 v7 v8 v9 v10 v11 v12 v13) := by
  unfold k0_part476; repeat' with_reducible first|infer_instance|exact ld| apply allS| apply allP|intro _| apply seq| apply loop| apply alt| apply br
instance s477 (v1 v2 v3 v4 v5 v6 v7 v8 v9 v10 v11 v12 v13) : Safe D c I (B.at (k0_part477 i) v1 v2 v3 v4 v5 v6 v7 v8 v9 v10 v11 v12 v13) := by
  unfold k0_part477; repeat' with_reducible first|infer_instance|exact ld| apply allS| apply allP|intro _| apply seq| apply loop| apply alt| apply br
instance s478 (v1 v2 v3 v4 v5 v6 v7 v8 v9 v10 v11 v12 v13) : Safe D c I (B.at (k0_part478 i) v1 v2 v3 v4 v5 v6 v7 v8 v9 v10 v11 v12 v13) := by
  unfold k0_part478; repeat' with_reducible first|infer_instance|exact ld| apply allS| apply allP|intro _| apply seq| apply loop| apply alt| apply br
instance s479 (v1 v2 v3 v4 v5 v6 v7 v8 v9 v10 v11 v12 v13) : Safe D c I (B.at (k0_part479 i) v1 v2 v3 v4 v5 v6 v7 v8 v9 v10 v11 v12 v13) := by
  unfold k0_part479; repeat' with_reducible first|infer_instance|exact ld| apply allS| apply allP|intro _| apply seq| apply loop| apply alt| apply br
instance s480 (v1 v2 v3 v4 v5 v6 v7 v8 v9 v10 v11 v12 v13) : Safe D c I (B.at (k0_part480 i) v1 v2 v3 v4 v5 v6 v7 v8 v9 v10 v11 v12 v13) := by
  unfold k0_part480; repeat' with_reducible first|infer_instance|exact ld| apply allS| apply allP|intro _| apply seq| apply loop| apply alt| apply br
instance s481 (v1 v2 v3 v4 v5 v6 v7 v8 v9 v10 v11 v12 v13) : Safe D c I (B.at (k0_part481 i) v1 v2 v3 v4 v5 v6 v7 v8 v9 v10 v11 v12 v13) := by
  unfold k0_part481; repeat' with_reducible first|infer_instance|exact ld| apply allS| apply allP|intro _| apply seq| apply loop| apply alt| apply br
instance s482 (v1 v2 v3 v4 v5 v6 v7 v8 v9 v10 v11 v12 v13) : Safe D c I (B.at (k0_part482 i) v1 v2 v3 v4 v5 v6 v7 v8 v9 v10 v11 v12 v13) := by
  unfold k0_part482; repeat' with_reducible first|infer_instance|exact ld| apply allS| apply allP|intro _| apply seq| apply loop| apply alt| apply br
instance s483 (v1 v2 v3 v4 v5 v6 v7 v8 v9 v10 v11 v12 v13) : Safe D c I (B.at (k0_part483 i) v1 v2 v3 v4 v5 v6 v7 v8 v9 v10 v11 v12 v13) := by
  unfold k0_part483; repeat' with_reducible first|infer_instance|exact ld| apply allS| apply allP|intro _| apply seq| apply loop| apply alt| apply br
instance s484 (v1 v2 v3 v4 v5 v6 v7 v8 v9 v10 v11 v12 v13) : Safe D c I (B.at (k0_part484 i) v1 v2 v3 v4 v5 v6 v7 v8 v9 v10 v11 v12 v13) := by
  unfold k0_part484; repeat' with_reducible first|infer_instance|exact ld| apply allS| apply allP|intro _| apply seq| apply loop| apply alt| apply br
instance s485 (v1 v2 v3 v4 v5 v6 v7 v8 v9 v10 v11 v12 v13) : Safe D c I (B.at (k0_part485 i) v1 v2 v3 v4 v5 v6 v7 v8 v9 v10 v11 v12 v13) := by
  unfold k0_part485; repeat' with_reducible first|infer_instance|exact ld| apply allS| apply allP|intro _| apply seq| apply loop| apply alt| apply br
instance s486 (v1 v2 v3 v4 v5 v6 v7 v8 v9 v10 v11 v12 v13) : Safe D c I (B.at (k0_part486 i) v1 v2 v3 v4 v5 v6 v7 v8 v9 v10 v11 v12 v13) := by
  unfold k0_part486; repeat' with_reducible first|infer_instance|exact ld| apply allS| apply allP|intro _| apply seq| apply loop| apply alt| apply br
instance s487 (v1 v2 v3 v4 v5 v6 v7 v8 v9 v10 v11 v12 v13) : Safe D c I (B.at (k0_part487 i) v1 v2 v3 v4 v5 v6 v7 v8 v9 v10 v11 v12 v13) := by
  unfold k0_part487; repeat' with_reducible first|infer_instance|exact ld| apply allS| apply allP|intro _| apply seq| apply loop| apply alt| apply br
instance s488 (v1 v2 v3 v4 v5 v6 v7 v8 v9 v10) : Safe D c I (B.at (k0_part488 i) v1 v2 v3 v4 v5 v6 v7 v8 v9 v10) := by
  unfold k0_part488; repeat' with_reducible first|infer_instance|exact ld| apply allS| apply allP|intro _| apply seq| apply loop| apply alt| apply br
instance s489 (v1 v2 v3 v4 v5 v6 v7 v8 v9 v10) : Safe D c I (B.at (k0_part489 i) v1 v2 v3 v4 v5 v6 v7 v8 v9 v10) := by
  unfold k0_part489; repeat' with_reducible first|infer_instance|exact ld| apply allS| apply allP|intro _| apply seq| apply loop| apply alt| apply br
instance s490 (v1 v2 v3 v4 v5 v6 v7 v8 v9 v10) : Safe D c I (B.at (k0_part490 i) v1 v2 v3 v4 v5 v6 v7 v8 v9 v10) := by
  unfold k0_part490; repeat' with_reducible first|infer_instance|exact ld| apply allS| apply allP|intro _| apply seq| apply loop| apply alt| apply br
instance s491 (v1 v2 v3 v4 v5 v6 v7 v8 v9 v10) : Safe D c I (B.at (k0_part491 i) v1 v2 v3 v4 v5 v6 v7 v8 v9 v10) := by
  unfold k0_part491; repeat' with_reducible first|infer_instance|exact ld| apply allS| apply allP|intro _| apply seq| apply loop| apply alt| apply br
instance s492 (v1 v2 v3 v4 v5 v6 v7 v8 v9 v10 v11) : Safe D c I (B.at (k0_part492 i) v1 v2 v3 v4 v5 v6 v7 v8 v9 v10 v11) := by
  unfold k0_part492; repeat' with_reducible first|infer_instance|exact ld| apply allS| apply allP|intro _| apply seq| apply loop| apply alt| apply br
instance s493 (v1 v2) : Safe D c I (B.at (k0_part493 i) v1 v2) := by
  unfold k0_part493; repeat' with_reducible first|infer_instance|exact ld| apply allS| apply allP|intro _| apply seq| apply loop| apply alt| apply br
instance s494 (v1 v2 v3) : Safe D c I (B.at (k0_part494 i) v1 v2 v3) := by
  unfold k0_part494; repeat' with_reducible first|infer_instance|exact ld| apply allS| apply allP|intro _| apply seq| apply loop| apply alt| apply br
instance s495 (v1 v2 v3) : Safe D c I (B.at (k0_part495 i) v1 v2 v3) := by
  unfold k0_part495; repeat' with_reducible first|infer_instance|exact ld| apply allS| apply allP|intro _| apply seq| apply loop| apply alt| apply br
instance s496 (v1 v2 v3 v4 v5 v6 v7 v8 v9 v10 v11) : Safe D c I (B.at (k0_part496 i) v1 v2 v3 v4 v5 v6 v7 v8 v9 v10 v11) := by
  unfold k0_part496; repeat' with_reducible first|infer_instance|exact ld| apply allS| apply allP|intro _| apply seq| apply loop| apply alt| apply br
instance s497 (v1 v2 v3 v4 v5 v6 v7 v8 v9 v10 v11 v12 v13 v14) : Safe D c I (B.at (k0_part497 i) v1 v2 v3 v4 v5 v6 v7 v8 v9 v10 v11 v12 v13 v14) := by
  unfold k0_part497; repeat' with_reducible first|infer_instance|exact ld| apply allS| apply allP|intro _| apply seq| apply loop| apply alt| apply br
instance s498 (v1 v2 v3 v4 v5 v6 v7 v8 v9 v10 v11 v12 v13 v14) : Safe D c I (B.at (k0_part498 i) v1 v2 v3 v4 v5 v6 v7 v8 v9 v10 v11 v12 v13 v14) := by
  unfold k0_part498; repeat' with_reducible first|infer_instance|exact ld| apply allS| apply allP|intro _| apply seq| apply loop| apply alt| apply br
instance s499 (v1 v2 v3 v4 v5 v6 v7 v8 v9 v10 v11 v12 v13 v14) : Safe D c I (B.at (k0_part499 i) v1 v2 v3 v4 v5 v6 v7 v8 v9 v10 v11 v12 v13 v14) := by
  unfold k0_part499; repeat' with_reducible first|infer_instance|exact ld| apply allS| apply allP|intro _| apply seq| apply loop| apply alt| apply br
instance s500 (v1 v2 v3 v4 v5 v6 v7 v8 v9 v10 v11 v12 v13 v14) : Safe D c I (B.at (k0_part500 i) v1 v2 v3 v4 v5 v6 v7 v8 v9 v10 v11 v12 v13 v14) := by
  unfold k0_part500; repeat' with_reducible first|infer_instance|exact ld| apply allS| apply allP|intro _| apply seq| apply loop| apply alt| apply br
instance s501 (v1 v2 v3 v4 v5 v6 v7 v8 v9 v10 v11 v12 v13 v14) : Safe D c I (B.at (k0_part501 i) v1 v2 v3 v4 v5 v6 v7 v8 v9 v10 v11 v12 v13 v14) := by
  unfold k0_part501; repeat' with_reducible first|infer_instance|exact ld| apply allS| apply allP|intro _| apply seq| apply loop| apply alt| apply br
instance s502 (v1 v2 v3 v4 v5 v6 v7 v8 v9 v10 v11 v12 v13 v14) : Safe D c I (B.at (k0_part502 i) v1 v2 v3 v4 v5 v6 v7 v8 v9 v10 v11 v12 v13 v14) := by
  unfold k0_part502; repeat' with_reducible first|infer_instance|exact ld| apply allS| apply allP|intro _| apply seq| apply loop| apply alt| apply br
instance s503 (v1 v2 v3 v4 v5 v6 v7 v8 v9 v10 v11 v12 v13 v14) : Safe D c I (B.at (k0_part503 i) v1 v2 v3 v4 v5 v6 v7 v8 v9 v10 v11 v12 v13 v14) := by
  unfold k0_part503; repeat' with_reducible first|infer_instance|exact ld| apply allS| apply allP|intro _| apply seq| apply loop| apply alt| apply br
instance s504 (v1 v2 v3 v4 v5 v6 v7 v8 v9 v10 v11 v12 v13 v14) : Safe D c I (B.at (k0_part504 i) v1 v2 v3 v4 v5 v6 v7 v8 v9 v10 v11 v12 v13 v14) := by
  unfold k0_part504; repeat' with_reducible first|infer_instance|exact ld| apply allS| apply allP|intro _| apply seq| apply loop| apply alt| apply br
instance s505 (v1 v2 v3 v4 v5 v6 v7 v8 v9 v10 v11 v12 v13 v14) : Safe D c I (B.at (k0_part505 i) v1 v2 v3 v4 v5 v6 v7 v8 v9 v10 v11 v12 v13 v14) := by
  unfold k0_part505; repeat' with_reducible first|infer_instance|exact ld| apply allS| apply allP|intro _| apply seq| apply loop| apply alt| apply br
instance s506 (v1 v2 v3 v4 v5 v6 v7 v8 v9 v10 v11 v12 v13 v14) : Safe D c I (B.at (k0_part506 i) v1 v2 v3 v4 v5 v6 v7 v8 v9 v10 v11 v12 v13 v14) := by
  unfold k0_part506; repeat' with_reducible first|infer_instance|exact ld| apply allS| apply allP|intro _| apply seq| apply loop| apply alt| apply br
instance s507 (v1 v2 v3 v4 v5 v6 v7 v8 v9 v10 v11 v12 v13 v14) : Safe D c I (B.at (k0_part507 i) v1 v2 v3 v4 v5 v6 v7 v8 v9 v10 v11 v12 v13 v14) := by
  unfold k0_part507; repeat' with_reducible first|infer_instance|exact ld| apply allS| apply allP|intro _| apply seq| apply loop| apply alt| apply br
instance s508 (v1 v2 v3 v4 v5 v6 v7 v8 v9 v10 v11 v12 v13 v14) : Safe D c I (B.at (k0_part508 i) v1 v2 v3 v4 v5 v6 v7 v8 v9 v10 v11 v12 v13 v14) := by
  unfold k0_part508; repeat' with_reducible first|infer_instance|exact ld| apply allS| apply allP|intro _| apply seq| apply loop| apply alt| apply br
instance s509 (v1 v2 v3 v4 v5 v6 v7 v8 v9 v10 v11 v12 v13 v14) : Safe D c I (B.at (k0_part509 i) v1 v2 v3 v4 v5 v6 v7 v8 v9 v10 v11 v12 v13 v14) := by
  unfold k0_part509; repeat' with_reducible first|infer_instance|exact ld| apply allS| apply allP|intro _| apply seq| apply loop| apply alt| apply br
instance s510 (v1 v2 v3 v4 v5 v6 v7 v8 v9 v10 v11 v12 v13 v14) : Safe D c I (B.at (k0_part510 i) v1 v2 v3 v4 v5 v6 v7 v8 v9 v10 v11 v12 v13 v14) := by
  unfold k0_part510; repeat' with_reducible first|infer_instance|exact ld| apply allS| apply allP|intro _| apply seq| apply loop| apply alt| apply br
instance s511 (v1 v2 v3 v4 v5 v6 v7 v8 v9 v10 v11 v12 v13 v14) : Safe D c I (B.at (k0_part511 i) v1 v2 v3 v4 v5 v6 v7 v8 v9 v10 v11 v12 v13 v14) := by
  unfold k0_part511; repeat' with_reducible first|infer_instance|exact ld| apply allS| apply allP|intro _| apply seq| apply loop| apply alt| apply br
instance s512 (v1 v2 v3 v4 v5 v6 v7 v8 v9 v10 v11 v12 v13) : Safe D c I (B.at (k0_part512 i) v1 v2 v3 v4 v5 v6 v7 v8 v9 v10 v11 v12 v13) := by
  unfold k0_part512; repeat' with_reducible first|infer_instance|exact ld| apply allS| apply allP|intro _| apply seq| apply loop| apply alt| apply br
instance s513 (v1 v2 v3 v4 v5 v6 v7 v8 v9 v10) : Safe D c I (B.at (k0_part513 i) v1 v2 v3 v4 v5 v6 v7 v8 v9 v10) := by
  unfold k0_part513; repeat' with_reducible first|infer_instance|exact ld| apply allS| apply allP|intro _| apply seq| apply loop| apply alt| apply br
instance s514 (v1 v2 v3 v4 v5 v6 v7 v8 v9 v10) : Safe D c I (B.at (k0_part514 i) v1 v2 v3 v4 v5 v6 v7 v8 v9 v10) := by
  unfold k0_part514; repeat' with_reducible first|infer_instance|exact ld| apply allS| apply allP|intro _| apply seq| apply loop| apply alt| apply br
instance s515 (v1 v2 v3 v4 v5 v6 v7 v8 v9 v10) : Safe D c I (B.at (k0_part515 i) v1 v2 v3 v4 v5 v6 v7 v8 v9 v10) := by
  unfold k0_part515; repeat' with_reducible first|infer_instance|exact ld| apply allS| apply allP|intro _| apply seq| apply loop| apply alt| apply br
instance s516 (v1 v2 v3 v4 v5 v6 v7 v8 v9 v10) : Safe D c I (B.at (k0_part516 i) v1 v2 v3 v4 v5 v6 v7 v8 v9 v10) := by
  unfold k0_part516; repeat' with_reducible first|infer_instance|exact ld| apply allS| apply allP|intro _| apply seq| apply loop| apply alt| apply br
instance s517 (v1 v2 v3 v4 v5) : Safe D c I (B.at (k0_part517 i) v1 v2 v3 v4 v5) := by
  unfold k0_part517; repeat' with_reducible first|infer_instance|exact ld| apply allS| apply allP|intro _| apply seq| apply loop| apply alt| apply br
instance s518 (v1 v2 v3 v4 v5 v6 v7 v8 v9 v10 v11 v12 v13 v14 v15 v16 v17 v18 v19 v20 v21 v22 v23 v24 v25 v26 v27 v28 v29 v30 v31 v32 v33 v34 v35 v36 v37 v38) : Safe D c I (B.at (k0_part518 i) v1 v2 v3 v4 v5 v6 v7 v8 v9 v10 v11 v12 v13 v14 v15 v16 v17 v18 v19 v20 v21 v22 v23 v24 v25 v26 v27 v28 v29 v30 v31 v32 v33 v34 v35 v36 v37 v38) := by
  unfold k0_part518; repeat' with_reducible first|infer_instance|exact ld| apply allS| apply allP|intro _| apply seq| apply loop| apply alt| apply br
instance s519 (v1 v2 v3 v4 v5 v6 v7 v8 v9 v10 v11 v12 v13 v14 v15 v16 v17 v18 v19 v20 v21 v22 v23 v24 v25 v26 v27 v28 v29 v30 v31 v32 v33 v34 v35 v36 v37 v38 v39 v40 v41) : Safe D c I (B.at (k0_part519 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41) := by
  unfold k0_part519; repeat' with_reducible first|infer_instance|exact ld| apply allS| apply allP|intro _| apply seq| apply loop| apply alt| apply br
instance s520 (v1 v2 v3 v4 v5 v6 v7 v8 v9) : Safe D c I (B.at (k0_part520 i) v1 v2 v3 v4 v5 v6 v7 v8 v9) := by
  unfold k0_part520; repeat' with_reducible first|infer_instance|exact ld| apply allS| apply allP|intro _| apply seq| apply loop| apply alt| apply br
instance s521 (v1 v2 v3 v4) : Safe D c I (B.at (k0_part521 i) v1 v2 v3 v4) := by
  unfold k0_part521; repeat' with_reducible first|infer_instance|exact ld| apply allS| apply allP|intro _| apply seq| apply loop| apply alt| apply br
instance s522 (v1 v2) : Safe D c I (B.at (k0_part522 i) v1 v2) := by
  unfold k0_part522; repeat' with_reducible first|infer_instance|exact ld| apply allS| apply allP|intro _| apply seq| apply loop| apply alt| apply br
instance s523 (v1 v2 v3) : Safe D c I (B.at (k0_part523 i) v1 v2 v3) := by
  unfold k0_part523; repeat' with_reducible first|infer_instance|exact ld| apply allS| apply allP|intro _| apply seq| apply loop| apply alt| apply br
instance s524 (v1 v2) : Safe D c I (B.at (k0_part524 i) v1 v2) := by
  unfold k0_part524; repeat' with_reducible first|infer_instance|exact ld| apply allS| apply allP|intro _| apply seq| apply loop| apply alt| apply br
instance s525 (v1 v2) : Safe D c I (B.at (k0_part525 i) v1 v2) := by
  unfold k0_part525; repeat' with_reducible first|infer_instance|exact ld| apply allS| apply allP|intro _| apply seq| apply loop| apply alt| apply br
instance s526 (v1) : Safe D c I (B.at (k0_part526 i) v1) := by
  unfold k0_part526; repeat' with_reducible first|infer_instance|exact ld| apply allS| apply allP|intro _| apply seq| apply loop| apply alt| apply br
instance s527 (v1 v2 v3 v4 v5 v6) : Safe D c I (B.at (k0_part527 i) v1 v2 v3 v4 v5 v6) := by
  unfold k0_part527; repeat' with_reducible first|infer_instance|exact ld| apply allS| apply allP|intro _| apply seq| apply loop| apply alt| apply br
instance s528 (v1) : Safe D c I (B.at (k0_part528 i) v1) := by
  unfold k0_part528; repeat' with_reducible first|infer_instance|exact ld| apply allS| apply allP|intro _| apply seq| apply loop| apply alt| apply br
instance s529 (v1 v2 v3) : Safe D c I (B.at (k0_part529 i) v1 v2 v3) := by
  unfold k0_part529; repeat' with_reducible first|infer_instance|exact ld| apply allS| apply allP|intro _| apply seq| apply loop| apply alt| apply br
instance s530 (v1 v2 v3 v4) : Safe D c I (B.at (k0_part530 i) v1 v2 v3 v4) := by
  unfold k0_part530; repeat' with_reducible first|infer_instance|exact ld| apply allS| apply allP|intro _| apply seq| apply loop| apply alt| apply br
instance s531 (v1 v2 v3) : Safe D c I (B.at (k0_part531 i) v1 v2 v3) := by
  unfold k0_part531; repeat' with_reducible first|infer_instance|exact ld| apply allS| apply allP|intro _| apply seq| apply loop| apply alt| apply br
instance s532 (v1 v2 v3 v4) : Safe D c I (B.at (k0_part532 i) v1 v2 v3 v4) := by
  unfold k0_part532; repeat' with_reducible first|infer_instance|exact ld| apply allS| apply allP|intro _| apply seq| apply loop| apply alt| apply br
instance s533 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) : Safe D c I (B.at (k0_part533 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) := by
  unfold k0_part533; repeat' with_reducible first|infer_instance|exact ld| apply allS| apply allP|intro _| apply seq| apply loop| apply alt| apply br
instance s534 (v1 v2 v3 v4 v5) : Safe D c I (B.at (k0_part534 i) v1 v2 v3 v4 v5) := by
  unfold k0_part534; repeat' with_reducible first|infer_instance|exact ld| apply allS| apply allP|intro _| apply seq| apply loop| apply alt| apply br
instance s535 (v1) : Safe D c I (B.at (k0_part535 i) v1) := by
  unfold k0_part535; repeat' with_reducible first|infer_instance|exact ld| apply allS| apply allP|intro _| apply seq| apply loop| apply alt| apply br
instance s536 (v1 v2 v3) : Safe D c I (B.at (k0_part536 i) v1 v2 v3) := by
  unfold k0_part536; repeat' with_reducible first|infer_instance|exact ld| apply allS| apply allP|intro _| apply seq| apply loop| apply alt| apply br
instance s537 (v1 v2 v3 v4) : Safe D c I (B.at (k0_part537 i) v1 v2 v3 v4) := by
  unfold k0_part537; repeat' with_reducible first|infer_instance|exact ld| apply allS| apply allP|intro _| apply seq| apply loop| apply alt| apply br
instance s538 (v1 v2 v3) : Safe D c I (B.at (k0_part538 i) v1 v2 v3) := by
  unfold k0_part538; repeat' with_reducible first|infer_instance|exact ld| apply allS| apply allP|intro _| apply seq| apply loop| apply alt| apply br
end Cert.Proof.Attn

end
-- ==== Proof.Attn.S05.lean ====
/-
  Parts k0_part539 to k0_part722 of the kernel's body keep the buffers they are given: one fact per part, in the order of the printed
  program, each by walking the part's statements.
-/
module

public import proofs.«01_k».proof.Kernel.P05
public import proofs.«01_k».proof.Proof.Attn.S04

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s539 (v1 v2 v3 v4) : Safe D c I (B.at (k0_part539 i) v1 v2 v3 v4) := by
  unfold k0_part539; repeat' with_reducible first|infer_instance|exact ld| apply allS| apply allP|intro _| apply seq| apply loop| apply alt| apply br
instance s540 (v1 v2 v3) : Safe D c I (B.at (k0_part540 i) v1 v2 v3) := by
  unfold k0_part540; repeat' with_reducible first|infer_instance|exact ld| apply allS| apply allP|intro _| apply seq| apply loop| apply alt| apply br
instance s541 (v1 v2 v3 v4 v5 v6) : Safe D c I (B.at (k0_part541 i) v1 v2 v3 v4 v5 v6) := by
  unfold k0_part541; repeat' with_reducible first|infer_instance|exact ld| apply allS| apply allP|intro _| apply seq| apply loop| apply alt| apply br
instance s542 (v1 v2) : Safe D c I (B.at (k0_part542 i) v1 v2) := by
  unfold k0_part542; repeat' with_reducible first|infer_instance|exact ld| apply allS| apply allP|intro _| apply seq| apply loop| apply alt| apply br
instance s543 (v1 v2 v3 v4) : Safe D c I (B.at (k0_part543 i) v1 v2 v3 v4) := by
  unfold k0_part543; repeat' with_reducible first|infer_instance|exact ld| apply allS| apply allP|intro _| apply seq| apply loop| apply alt| apply br
instance s544 (v1 v2) : Safe D c I (B.at (k0_part544 i) v1 v2) := by
  unfold k0_part544; repeat' with_reducible first|infer_instance|exact ld| apply allS| apply allP|intro _| apply seq| apply loop| apply alt| apply br
instance s545 (v1 v2 v3) : Safe D c I (B.at (k0_part545 i) v1 v2 v3) := by
  unfold k0_part545; repeat' with_reducible first|infer_instance|exact ld| apply allS| apply allP|intro _| apply seq| apply loop| apply alt| apply br
instance s546 (v1 v2) : Safe D c I (B.at (k0_part546 i) v1 v2) := by
  unfold k0_part546; repeat' with_reducible first|infer_instance|exact ld| apply allS| apply allP|intro _| apply seq| apply loop| apply alt| apply br
instance s547 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) : Safe D c I (B.at (k0_part547 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) := by
  unfold k0_part547; repeat' with_reducible first|infer_instance|exact ld| apply allS| apply allP|intro _| apply seq| apply loop| apply alt| apply br
instance s548 (v1 v2 v3 v4 v5 v6 v7 v8) : Safe D c I (B.at (k0_part548 i) v1 v2 v3 v4 v5 v6 v7 v8) := by
  unfold k0_part548; repeat' with_reducible first|infer_instance|exact ld| apply allS| apply allP|intro _| apply seq| apply loop| apply alt| apply br
instance s549 (v1 v2 v3 v4 v5 v6 v7) : Safe D c I (B.at (k0_part549 i) v1 v2 v3 v4 v5 v6 v7) := by
  unfold k0_part549; repeat' with_reducible first|infer_instance|exact ld| apply allS| apply allP|intro _| apply seq| apply loop| apply alt| apply br
instance s550 (v1 v2 v3) : Safe D c I (B.at (k0_part550 i) v1 v2 v3) := by
  unfold k0_part550; repeat' with_reducible first|infer_instance|exact ld| apply allS| apply allP|intro _| apply seq| apply loop| apply alt| apply br
instance s551 (v1 v2 v3 v4) : Safe D c I (B.at (k0_part551 i) v1 v2 v3 v4) := by
  unfold k0_part551; repeat' with_reducible first|infer_instance|exact ld| apply allS| apply allP|intro _| apply seq| apply loop| apply alt| apply br
instance s552 (v1 v2 v3) : Safe D c I (B.at (k0_part552 i) v1 v2 v3) := by
  unfold k0_part552; repeat' with_reducible first|infer_instance|exact ld| apply allS| apply allP|intro _| apply seq| apply loop| apply alt| apply br
instance s553 (v1 v2 v3 v4) : Safe D c I (B.at (k0_part553 i) v1 v2 v3 v4) := by
  unfold k0_part553; repeat' with_reducible first|infer_instance|exact ld| apply allS| apply allP|intro _| apply seq| apply loop| apply alt| apply br
instance s554 (v1 v2) : Safe D c I (B.at (k0_part554 i) v1 v2) := by
  unfold k0_part554; repeat' with_reducible first|infer_instance|exact ld| apply allS| apply allP|intro _| apply seq| apply loop| apply alt| apply br
instance s555 (v1 v2 v3 v4 v5 v6 v7) : Safe D c I (B.at (k0_part555 i) v1 v2 v3 v4 v5 v6 v7) := by
  unfold k0_part555; repeat' with_reducible first|infer_instance|exact ld| apply allS| apply allP|intro _| apply seq| apply loop| apply alt| apply br
instance s556 (v1 v2) : Safe D c I (B.at (k0_part556 i) v1 v2) := by
  unfold k0_part556; repeat' with_reducible first|infer_instance|exact ld| apply allS| apply allP|intro _| apply seq| apply loop| apply alt| apply br
instance s557 (v1 v2 v3 v4) : Safe D c I (B.at (k0_part557 i) v1 v2 v3 v4) := by
  unfold k0_part557; repeat' with_reducible first|infer_instance|exact ld| apply allS| apply allP|intro _| apply seq| apply loop| apply alt| apply br
instance s558 (v1 v2) : Safe D c I (B.at (k0_part558 i) v1 v2) := by
  unfold k0_part558; repeat' with_reducible first|infer_instance|exact ld| apply allS| apply allP|intro _| apply seq| apply loop| apply alt| apply br
instance s559 (v1 v2 v3) : Safe D c I (B.at (k0_part559 i) v1 v2 v3) := by
  unfold k0_part559; repeat' with_reducible first|infer_instance|exact ld| apply allS| apply allP|intro _| apply seq| apply loop| apply alt| apply br
instance s560 (v1 v2) : Safe D c I (B.at (k0_part560 i) v1 v2) := by
  unfold k0_part560; repeat' with_reducible first|infer_instance|exact ld| apply allS| apply allP|intro _| apply seq| apply loop| apply alt| apply br
instance s561 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part561 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part561; repeat' with_reducible first|infer_instance|exact ld| apply allS| apply allP|intro _| apply seq| apply loop| apply alt| apply br
instance s562 (v1 v2 v3 v4 v5) : Safe D c I (B.at (k0_part562 i) v1 v2 v3 v4 v5) := by
  unfold k0_part562; repeat' with_reducible first|infer_instance|exact ld| apply allS| apply allP|intro _| apply seq| apply loop| apply alt| apply br
instance s563 (v1 v2) : Safe D c I (B.at (k0_part563 i) v1 v2) := by
  unfold k0_part563; repeat' with_reducible first|infer_instance|exact ld| apply allS| apply allP|intro _| apply seq| apply loop| apply alt| apply br
instance s564 (v1 v2 v3 v4) : Safe D c I (B.at (k0_part564 i) v1 v2 v3 v4) := by
  unfold k0_part564; repeat' with_reducible first|infer_instance|exact ld| apply allS| apply allP|intro _| apply seq| apply loop| apply alt| apply br
instance s565 (v1 v2) : Safe D c I (B.at (k0_part565 i) v1 v2) := by
  unfold k0_part565; repeat' with_reducible first|infer_instance|exact ld| apply allS| apply allP|intro _| apply seq| apply loop| apply alt| apply br
instance s566 (v1 v2 v3) : Safe D c I (B.at (k0_part566 i) v1 v2 v3) := by
  unfold k0_part566; repeat' with_reducible first|infer_instance|exact ld| apply allS| apply allP|intro _| apply seq| apply loop| apply alt| apply br
instance s567 (v1 v2) : Safe D c I (B.at (k0_part567 i) v1 v2) := by
  unfold k0_part567; repeat' with_reducible first|infer_instance|exact ld| apply allS| apply allP|intro _| apply seq| apply loop| apply alt| apply br
instance s568 (v1 v2 v3 v4 v5) : Safe D c I (B.at (k0_part568 i) v1 v2 v3 v4 v5) := by
  unfold k0_part568; repeat' with_reducible first|infer_instance|exact ld| apply allS| apply allP|intro _| apply seq| apply loop| apply alt| apply br
instance s569 (v1 v2) : Safe D c I (B.at (k0_part569 i) v1 v2) := by
  unfold k0_part569; repeat' with_reducible first|infer_instance|exact ld| apply allS| apply allP|intro _| apply seq| apply loop| apply alt| apply br
instance s570 (v1 v2) : Safe D c I (B.at (k0_part570 i) v1 v2) := by
  unfold k0_part570; repeat' with_reducible first|infer_instance|exact ld| apply allS| apply allP|intro _| apply seq| apply loop| apply alt| apply br
instance s571 (v1) : Safe D c I (B.at (k0_part571 i) v1) := by
  unfold k0_part571; repeat' with_reducible first|infer_instance|exact ld| apply allS| apply allP|intro _| apply seq| apply loop| apply alt| apply br
instance s572 (v1 v2 v3) : Safe D c I (B.at (k0_part572 i) v1 v2 v3) := by
  unfold k0_part572; repeat' with_reducible first|infer_instance|exact ld| apply allS| apply allP|intro _| apply seq| apply loop| apply alt| apply br
instance s573 (v1 v2 v3 v4) : Safe D c I (B.at (k0_part573 i) v1 v2 v3 v4) := by
  unfold k0_part573; repeat' with_reducible first|infer_instance|exact ld| apply allS| apply allP|intro _| apply seq| apply loop| apply alt| apply br
instance s574 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part574 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part574; repeat' with_reducible first|infer_instance|exact ld| apply allS| apply allP|intro _| apply seq| apply loop| apply alt| apply br
instance s575 (v1 v2 v3 v4 v5 v6 v7) : Safe D c I (B.at (k0_part575 i) v1 v2 v3 v4 v5 v6 v7) := by
  unfold k0_part575; repeat' with_reducible first|infer_instance|exact ld| apply allS| apply allP|intro _| apply seq| apply loop| apply alt| apply br
instance s576 (v1 v2 v3 v4 v5 v6 v7) : Safe D c I (B.at (k0_part576 i) v1 v2 v3 v4 v5 v6 v7) := by
  unfold k0_part576; repeat' with_reducible first|infer_instance|exact ld| apply allS| apply allP|intro _| apply seq| apply loop| apply alt| apply br
instance s577 (v1 v2 v3 v4) : Safe D c I (B.at (k0_part577 i) v1 v2 v3 v4) := by
  unfold k0_part577; repeat' with_reducible first|infer_instance|exact ld| apply allS| apply allP|intro _| apply seq| apply loop| apply alt| apply br
instance s578 (v1 v2 v3 v4) : Safe D c I (B.at (k0_part578 i) v1 v2 v3 v4) := by
  unfold k0_part578; repeat' with_reducible first|infer_instance|exact ld| apply allS| apply allP|intro _| apply seq| apply loop| apply alt| apply br
instance s579 (v1 v2) : Safe D c I (B.at (k0_part579 i) v1 v2) := by
  unfold k0_part579; repeat' with_reducible first|infer_instance|exact ld| apply allS| apply allP|intro _| apply seq| apply loop| apply alt| apply br
instance s580 (v1 v2 v3 v4 v5 v6 v7 v8 v9 v10 v11) : Safe D c I (B.at (k0_part580 i) v1 v2 v3 v4 v5 v6 v7 v8 v9 v10 v11) := by
  unfold k0_part580; repeat' with_reducible first|infer_instance|exact ld| apply allS| apply allP|intro _| apply seq| apply loop| apply alt| apply br
instance s581 (v1 v2 v3 v4 v5 v6 v7 v8 v9 v10 v11) : Safe D c I (B.at (k0_part581 i) v1 v2 v3 v4 v5 v6 v7 v8 v9 v10 v11) := by
  unfold k0_part581; repeat' with_reducible first|infer_instance|exact ld| apply allS| apply allP|intro _| apply seq| apply loop| apply alt| apply br
instance s582 (v1 v2 v3 v4 v5 v6 v7 v8 v9 v10 v11) : Safe D c I (B.at (k0_part582 i) v1 v2 v3 v4 v5 v6 v7 v8 v9 v10 v11) := by
  unfold k0_part582; repeat' with_reducible first|infer_instance|exact ld| apply allS| apply allP|intro _| apply seq| apply loop| apply alt| apply br
instance s583 (v1 v2 v3 v4 v5 v6 v7 v8 v9 v10 v11) : Safe D c I (B.at (k0_part583 i) v1 v2 v3 v4 v5 v6 v7 v8 v9 v10 v11) := by
  unfold k0_part583; repeat' with_reducible first|infer_instance|exact ld| apply allS| apply allP|intro _| apply seq| apply loop| apply alt| apply br
instance s584 (v1 v2 v3 v4 v5 v6 v7 v8 v9 v10 v11) : Safe D c I (B.at (k0_part584 i) v1 v2 v3 v4 v5 v6 v7 v8 v9 v10 v11) := by
  unfold k0_part584; repeat' with_reducible first|infer_instance|exact ld| apply allS| apply allP|intro _| apply seq| apply loop| apply alt| apply br
instance s585 (v1 v2 v3 v4 v5 v6 v7 v8 v9 v10 v11) : Safe D c I (B.at (k0_part585 i) v1 v2 v3 v4 v5 v6 v7 v8 v9 v10 v11) := by
  unfold k0_part585; repeat' with_reducible first|infer_instance|exact ld| apply allS| apply allP|intro _| apply seq| apply loop| apply alt| apply br
instance s586 (v1 v2 v3 v4 v5 v6 v7 v8 v9 v10 v11) : Safe D c I (B.at (k0_part586 i) v1 v2 v3 v4 v5 v6 v7 v8 v9 v10 v11) := by
  unfold k0_part586; repeat' with_reducible first|infer_instance|exact ld| apply allS| apply allP|intro _| apply seq| apply loop| apply alt| apply br
instance s587 (v1 v2 v3 v4 v5 v6 v7 v8 v9 v10 v11) : Safe D c I (B.at (k0_part587 i) v1 v2 v3 v4 v5 v6 v7 v8 v9 v10 v11) := by
  unfold k0_part587; repeat' with_reducible first|infer_instance|exact ld| apply allS| apply allP|intro _| apply seq| apply loop| apply alt| apply br
instance s588 (v1 v2 v3 v4 v5 v6 v7 v8 v9 v10 v11) : Safe D c I (B.at (k0_part588 i) v1 v2 v3 v4 v5 v6 v7 v8 v9 v10 v11) := by
  unfold k0_part588; repeat' with_reducible first|infer_instance|exact ld| apply allS| apply allP|intro _| apply seq| apply loop| apply alt| apply br
instance s589 (v1 v2 v3 v4 v5 v6 v7 v8 v9 v10 v11) : Safe D c I (B.at (k0_part589 i) v1 v2 v3 v4 v5 v6 v7 v8 v9 v10 v11) := by
  unfold k0_part589; repeat' with_reducible first|infer_instance|exact ld| apply allS| apply allP|intro _| apply seq| apply loop| apply alt| apply br
instance s590 (v1 v2 v3 v4 v5 v6 v7 v8 v9 v10 v11) : Safe D c I (B.at (k0_part590 i) v1 v2 v3 v4 v5 v6 v7 v8 v9 v10 v11) := by
  unfold k0_part590; repeat' with_reducible first|infer_instance|exact ld| apply allS| apply allP|intro _| apply seq| apply loop| apply alt| apply br
instance s591 (v1 v2 v3 v4 v5 v6 v7 v8 v9 v10 v11) : Safe D c I (B.at (k0_part591 i) v1 v2 v3 v4 v5 v6 v7 v8 v9 v10 v11) := by
  unfold k0_part591; repeat' with_reducible first|infer_instance|exact ld| apply allS| apply allP|intro _| apply seq| apply loop| apply alt| apply br
instance s592 (v1 v2 v3 v4 v5 v6 v7 v8 v9 v10 v11) : Safe D c I (B.at (k0_part592 i) v1 v2 v3 v4 v5 v6 v7 v8 v9 v10 v11) := by
  unfold k0_part592; repeat' with_reducible first|infer_instance|exact ld| apply allS| apply allP|intro _| apply seq| apply loop| apply alt| apply br
instance s593 (v1 v2 v3 v4 v5 v6 v7 v8 v9 v10 v11) : Safe D c I (B.at (k0_part593 i) v1 v2 v3 v4 v5 v6 v7 v8 v9 v10 v11) := by
  unfold k0_part593; repeat' with_reducible first|infer_instance|exact ld| apply allS| apply allP|intro _| apply seq| apply loop| apply alt| apply br
instance s594 (v1 v2 v3 v4 v5 v6 v7 v8 v9 v10 v11) : Safe D c I (B.at (k0_part594 i) v1 v2 v3 v4 v5 v6 v7 v8 v9 v10 v11) := by
  unfold k0_part594; repeat' with_reducible first|infer_instance|exact ld| apply allS| apply allP|intro _| apply seq| apply loop| apply alt| apply br
instance s595 (v1 v2 v3 v4 v5 v6 v7 v8 v9 v10 v11 v12) : Safe D c I (B.at (k0_part595 i) v1 v2 v3 v4 v5 v6 v7 v8 v9 v10 v11 v12) := by
  unfold k0_part595; repeat' with_reducible first|infer_instance|exact ld| apply allS| apply allP|intro _| apply seq| apply loop| apply alt| apply br
instance s596 (v1 v2 v3 v4 v5 v6 v7 v8 v9 v10) : Safe D c I (B.at (k0_part596 i) v1 v2 v3 v4 v5 v6 v7 v8 v9 v10) := by
  unfold k0_part596; repeat' with_reducible first|infer_instance|exact ld| apply allS| apply allP|intro _| apply seq| apply loop| apply alt| apply br
instance s597 (v1 v2 v3 v4 v5 v6 v7 v8 v9 v10) : Safe D c I (B.at (k0_part597 i) v1 v2 v3 v4 v5 v6 v7 v8 v9 v10) := by
  unfold k0_part597; repeat' with_reducible first|infer_instance|exact ld| apply allS| apply allP|intro _| apply seq| apply loop| apply alt| apply br
instance s598 (v1 v2 v3 v4 v5 v6 v7 v8 v9 v10) : Safe D c I (B.at (k0_part598 i) v1 v2 v3 v4 v5 v6 v7 v8 v9 v10) := by
  unfold k0_part598; repeat' with_reducible first|infer_instance|exact ld| apply allS| apply allP|intro _| apply seq| apply loop| apply alt| apply br
instance s599 (v1 v2 v3 v4 v5 v6 v7 v8 v9 v10) : Safe D c I (B.at (k0_part599 i) v1 v2 v3 v4 v5 v6 v7 v8 v9 v10) := by
  unfold k0_part599; repeat' with_reducible first|infer_instance|exact ld| apply allS| apply allP|intro _| apply seq| apply loop| apply alt| apply br
instance s600 (v1 v2 v3 v4 v5 v6 v7 v8 v9 v10) : Safe D c I (B.at (k0_part600 i) v1 v2 v3 v4 v5 v6 v7 v8 v9 v10) := by
  unfold k0_part600; repeat' with_reducible first|infer_instance|exact ld| apply allS| apply allP|intro _| apply seq| apply loop| apply alt| apply br
instance s601 (v1 v2 v3 v4 v5 v6 v7) : Safe D c I (B.at (k0_part601 i) v1 v2 v3 v4 v5 v6 v7) := by
  unfold k0_part601; repeat' with_reducible first|infer_instance|exact ld| apply allS| apply allP|intro _| apply seq| apply loop| apply alt| apply br
instance s602 (v1 v2 v3 v4) : Safe D c I (B.at (k0_part602 i) v1 v2 v3 v4) := by
  unfold k0_part602; repeat' with_reducible first|infer_instance|exact ld| apply allS| apply allP|intro _| apply seq| apply loop| apply alt| apply br
instance s603 (v1 v2 v3) : Safe D c I (B.at (k0_part603 i) v1 v2 v3) := by
  unfold k0_part603; repeat' with_reducible first|infer_instance|exact ld| apply allS| apply allP|intro _| apply seq| apply loop| apply alt| apply br
instance s604 (v1 v2) : Safe D c I (B.at (k0_part604 i) v1 v2) := by
  unfold k0_part604; repeat' with_reducible first|infer_instance|exact ld| apply allS| apply allP|intro _| apply seq| apply loop| apply alt| apply br
instance s605 (v1 v2 v3 v4 v5 v6 v7 v8 v9 v10 v11 v12) : Safe D c I (B.at (k0_part605 i) v1 v2 v3 v4 v5 v6 v7 v8 v9 v10 v11 v12) := by
  unfold k0_part605; repeat' with_reducible first|infer_instance|exact ld| apply allS| apply allP|intro _| apply seq| apply loop| apply alt| apply br
instance s606 (v1 v2 v3 v4 v5 v6 v7 v8 v9 v10 v11 v12) : Safe D c I (B.at (k0_part606 i) v1 v2 v3 v4 v5 v6 v7 v8 v9 v10 v11 v12) := by
  unfold k0_part606; repeat' with_reducible first|infer_instance|exact ld| apply allS| apply allP|intro _| apply seq| apply loop| apply alt| apply br
instance s607 (v1 v2 v3 v4 v5 v6 v7 v8 v9 v10 v11 v12) : Safe D c I (B.at (k0_part607 i) v1 v2 v3 v4 v5 v6 v7 v8 v9 v10 v11 v12) := by
  unfold k0_part607; repeat' with_reducible first|infer_instance|exact ld| apply allS| apply allP|intro _| apply seq| apply loop| apply alt| apply br
instance s608 (v1 v2 v3 v4 v5 v6 v7 v8 v9 v10 v11 v12) : Safe D c I (B.at (k0_part608 i) v1 v2 v3 v4 v5 v6 v7 v8 v9 v10 v11 v12) := by
  unfold k0_part608; repeat' with_reducible first|infer_instance|exact ld| apply allS| apply allP|intro _| apply seq| apply loop| apply alt| apply br
instance s609 (v1 v2 v3 v4 v5 v6 v7 v8 v9 v10 v11 v12) : Safe D c I (B.at (k0_part609 i) v1 v2 v3 v4 v5 v6 v7 v8 v9 v10 v11 v12) := by
  unfold k0_part609; repeat' with_reducible first|infer_instance|exact ld| apply allS| apply allP|intro _| apply seq| apply loop| apply alt| apply br
instance s610 (v1 v2 v3 v4 v5 v6 v7 v8 v9 v10 v11 v12) : Safe D c I (B.at (k0_part610 i) v1 v2 v3 v4 v5 v6 v7 v8 v9 v10 v11 v12) := by
  unfold k0_part610; repeat' with_reducible first|infer_instance|exact ld| apply allS| apply allP|intro _| apply seq| apply loop| apply alt| apply br
instance s611 (v1 v2 v3 v4 v5 v6 v7 v8 v9 v10 v11 v12) : Safe D c I (B.at (k0_part611 i) v1 v2 v3 v4 v5 v6 v7 v8 v9 v10 v11 v12) := by
  unfold k0_part611; repeat' with_reducible first|infer_instance|exact ld| apply allS| apply allP|intro _| apply seq| apply loop| apply alt| apply br
instance s612 (v1 v2 v3 v4 v5 v6 v7 v8 v9 v10 v11 v12) : Safe D c I (B.at (k0_part612 i) v1 v2 v3 v4 v5 v6 v7 v8 v9 v10 v11 v12) := by
  unfold k0_part612; repeat' with_reducible first|infer_instance|exact ld| apply allS| apply allP|intro _| apply seq| apply loop| apply alt| apply br
instance s613 (v1 v2 v3 v4 v5 v6 v7 v8 v9 v10 v11 v12) : Safe D c I (B.at (k0_part613 i) v1 v2 v3 v4 v5 v6 v7 v8 v9 v10 v11 v12) := by
  unfold k0_part613; repeat' with_reducible first|infer_instance|exact ld| apply allS| apply allP|intro _| apply seq| apply loop| apply alt| apply br
instance s614 (v1 v2 v3 v4 v5 v6 v7 v8 v9 v10 v11 v12) : Safe D c I (B.at (k0_part614 i) v1 v2 v3 v4 v5 v6 v7 v8 v9 v10 v11 v12) := by
  unfold k0_part614; repeat' with_reducible first|infer_instance|exact ld| apply allS| apply allP|intro _| apply seq| apply loop| apply alt| apply br
instance s615 (v1 v2 v3 v4 v5 v6 v7 v8 v9 v10 v11 v12) : Safe D c I (B.at (k0_part615 i) v1 v2 v3 v4 v5 v6 v7 v8 v9 v10 v11 v12) := by
  unfold k0_part615; repeat' with_reducible first|infer_instance|exact ld| apply allS| apply allP|intro _| apply seq| apply loop| apply alt| apply br
instance s616 (v1 v2 v3 v4 v5 v6 v7 v8 v9 v10 v11 v12) : Safe D c I (B.at (k0_part616 i) v1 v2 v3 v4 v5 v6 v7 v8 v9 v10 v11 v12) := by
  unfold k0_part616; repeat' with_reducible first|infer_instance|exact ld| apply allS| apply allP|intro _| apply seq| apply loop| apply alt| apply br
instance s617 (v1 v2 v3 v4 v5 v6 v7 v8 v9 v10 v11 v12) : Safe D c I (B.at (k0_part617 i) v1 v2 v3 v4 v5 v6 v7 v8 v9 v10 v11 v12) := by
  unfold k0_part617; repeat' with_reducible first|infer_instance|exact ld| apply allS| apply allP|intro _| apply seq| apply loop| apply alt| apply br
instance s618 (v1 v2 v3 v4 v5 v6 v7 v8 v9 v10 v11 v12) : Safe D c I (B.at (k0_part618 i) v1 v2 v3 v4 v5 v6 v7 v8 v9 v10 v11 v12) := by
  unfold k0_part618; repeat' with_reducible first|infer_instance|exact ld| apply allS| apply allP|intro _| apply seq| apply loop| apply alt| apply br
instance s619 (v1 v2 v3 v4 v5 v6 v7 v8 v9 v10 v11 v12) : Safe D c I (B.at (k0_part619 i) v1 v2 v3 v4 v5 v6 v7 v8 v9 v10 v11 v12) := by
  unfold k0_part619; repeat' with_reducible first|infer_instance|exact ld| apply allS| apply allP|intro _| apply seq| apply loop| apply alt| apply br
instance s620 (v1 v2 v3 v4 v5 v6 v7 v8 v9 v10 v11 v12 v13) : Safe D c I (B.at (k0_part620 i) v1 v2 v3 v4 v5 v6 v7 v8 v9 v10 v11 v12 v13) := by
  unfold k0_part620; repeat' with_reducible first|infer_instance|exact ld| apply allS| apply allP|intro _| apply seq| apply loop| apply alt| apply br
instance s621 (v1 v2 v3 v4 v5 v6 v7 v8 v9 v10 v11) : Safe D c I (B.at (k0_part621 i) v1 v2 v3 v4 v5 v6 v7 v8 v9 v10 v11) := by
  unfold k0_part621; repeat' with_reducible first|infer_instance|exact ld| apply allS| apply allP|intro _| apply seq| apply loop| apply alt| apply br
instance s622 (v1 v2 v3 v4 v5 v6 v7 v8 v9 v10 v11) : Safe D c I (B.at (k0_part622 i) v1 v2 v3 v4 v5 v6 v7 v8 v9 v10 v11) := by
  unfold k0_part622; repeat' with_reducible first|infer_instance|exact ld| apply allS| apply allP|intro _| apply seq| apply loop| apply alt| apply br
instance s623 (v1 v2 v3 v4 v5 v6 v7 v8 v9 v10 v11) : Safe D c I (B.at (k0_part623 i) v1 v2 v3 v4 v5 v6 v7 v8 v9 v10 v11) := by
  unfold k0_part623; repeat' with_reducible first|infer_instance|exact ld| apply allS| apply allP|intro _| apply seq| apply loop| apply alt| apply br
instance s624 (v1 v2 v3 v4 v5 v6 v7 v8 v9 v10 v11) : Safe D c I (B.at (k0_part624 i) v1 v2 v3 v4 v5 v6 v7 v8 v9 v10 v11) := by
  unfold k0_part624; repeat' with_reducible first|infer_instance|exact ld| apply allS| apply allP|intro _| apply seq| apply loop| apply alt| apply br
instance s625 (v1 v2 v3 v4 v5 v6 v7 v8 v9 v10 v11 v12) : Safe D c I (B.at (k0_part625 i) v1 v2 v3 v4 v5 v6 v7 v8 v9 v10 v11 v12) := by
  unfold k0_part625; repeat' with_reducible first|infer_instance|exact ld| apply allS| apply allP|intro _| apply seq| apply loop| apply alt| apply br
instance s626 (v1 v2) : Safe D c I (B.at (k0_part626 i) v1 v2) := by
  unfold k0_part626; repeat' with_reducible first|infer_instance|exact ld| apply allS| apply allP|intro _| apply seq| apply loop| apply alt| apply br
instance s627 (v1 v2 v3 v4) : Safe D c I (B.at (k0_part627 i) v1 v2 v3 v4) := by
  unfold k0_part627; repeat' with_reducible first|infer_instance|exact ld| apply allS| apply allP|intro _| apply seq| apply loop| apply alt| apply br
instance s628 (v1 v2 v3) : Safe D c I (B.at (k0_part628 i) v1 v2 v3) := by
  unfold k0_part628; repeat' with_reducible first|infer_instance|exact ld| apply allS| apply allP|intro _| apply seq| apply loop| apply alt| apply br
instance s629 (v1 v2 v3 v4 v5 v6 v7 v8 v9 v10 v11) : Safe D c I (B.at (k0_part629 i) v1 v2 v3 v4 v5 v6 v7 v8 v9 v10 v11) := by
  unfold k0_part629; repeat' with_reducible first|infer_instance|exact ld| apply allS| apply allP|intro _| apply seq| apply loop| apply alt| apply br
instance s630 (v1 v2 v3 v4 v5 v6 v7 v8 v9 v10 v11 v12 v13 v14) : Safe D c I (B.at (k0_part630 i) v1 v2 v3 v4 v5 v6 v7 v8 v9 v10 v11 v12 v13 v14) := by
  unfold k0_part630; repeat' with_reducible first|infer_instance|exact ld| apply allS| apply allP|intro _| apply seq| apply loop| apply alt| apply br
instance s631 (v1 v2 v3 v4 v5 v6 v7 v8 v9 v10 v11 v12 v13 v14) : Safe D c I (B.at (k0_part631 i) v1 v2 v3 v4 v5 v6 v7 v8 v9 v10 v11 v12 v13 v14) := by
  unfold k0_part631; repeat' with_reducible first|infer_instance|exact ld| apply allS| apply allP|intro _| apply seq| apply loop| apply alt| apply br
instance s632 (v1 v2 v3 v4 v5 v6 v7 v8 v9 v10 v11 v12 v13 v14) : Safe D c I (B.at (k0_part632 i) v1 v2 v3 v4 v5 v6 v7 v8 v9 v10 v11 v12 v13 v14) := by
  unfold k0_part632; repeat' with_reducible first|infer_instance|exact ld| apply allS| apply allP|intro _| apply seq| apply loop| apply alt| apply br
instance s633 (v1 v2 v3 v4 v5 v6 v7 v8 v9 v10 v11 v12 v13 v14) : Safe D c I (B.at (k0_part633 i) v1 v2 v3 v4 v5 v6 v7 v8 v9 v10 v11 v12 v13 v14) := by
  unfold k0_part633; repeat' with_reducible first|infer_instance|exact ld| apply allS| apply allP|intro _| apply seq| apply loop| apply alt| apply br
instance s634 (v1 v2 v3 v4 v5 v6 v7 v8 v9 v10 v11 v12 v13 v14) : Safe D c I (B.at (k0_part634 i) v1 v2 v3 v4 v5 v6 v7 v8 v9 v10 v11 v12 v13 v14) := by
  unfold k0_part634; repeat' with_reducible first|infer_instance|exact ld| apply allS| apply allP|intro _| apply seq| apply loop| apply alt| apply br
instance s635 (v1 v2 v3 v4 v5 v6 v7 v8 v9 v10 v11 v12 v13 v14) : Safe D c I (B.at (k0_part635 i) v1 v2 v3 v4 v5 v6 v7 v8 v9 v10 v11 v12 v13 v14) := by
  unfold k0_part635; repeat' with_reducible first|infer_instance|exact ld| apply allS| apply allP|intro _| apply seq| apply loop| apply alt| apply br
instance s636 (v1 v2 v3 v4 v5 v6 v7 v8 v9 v10 v11 v12 v13 v14) : Safe D c I (B.at (k0_part636 i) v1 v2 v3 v4 v5 v6 v7 v8 v9 v10 v11 v12 v13 v14) := by
  unfold k0_part636; repeat' with_reducible first|infer_instance|exact ld| apply allS| apply allP|intro _| apply seq| apply loop| apply alt| apply br
instance s637 (v1 v2 v3 v4 v5 v6 v7 v8 v9 v10 v11 v12 v13 v14) : Safe D c I (B.at (k0_part637 i) v1 v2 v3 v4 v5 v6 v7 v8 v9 v10 v11 v12 v13 v14) := by
  unfold k0_part637; repeat' with_reducible first|infer_instance|exact ld| apply allS| apply allP|intro _| apply seq| apply loop| apply alt| apply br
instance s638 (v1 v2 v3 v4 v5 v6 v7 v8 v9 v10 v11 v12 v13 v14) : Safe D c I (B.at (k0_part638 i) v1 v2 v3 v4 v5 v6 v7 v8 v9 v10 v11 v12 v13 v14) := by
  unfold k0_part638; repeat' with_reducible first|infer_instance|exact ld| apply allS| apply allP|intro _| apply seq| apply loop| apply alt| apply br
instance s639 (v1 v2 v3 v4 v5 v6 v7 v8 v9 v10 v11 v12 v13 v14) : Safe D c I (B.at (k0_part639 i) v1 v2 v3 v4 v5 v6 v7 v8 v9 v10 v11 v12 v13 v14) := by
  unfold k0_part639; repeat' with_reducible first|infer_instance|exact ld| apply allS| apply allP|intro _| apply seq| apply loop| apply alt| apply br
instance s640 (v1 v2 v3 v4 v5 v6 v7 v8 v9 v10 v11 v12 v13 v14) : Safe D c I (B.at (k0_part640 i) v1 v2 v3 v4 v5 v6 v7 v8 v9 v10 v11 v12 v13 v14) := by
  unfold k0_part640; repeat' with_reducible first|infer_instance|exact ld| apply allS| apply allP|intro _| apply seq| apply loop| apply alt| apply br
instance s641 (v1 v2 v3 v4 v5 v6 v7 v8 v9 v10 v11 v12 v13 v14) : Safe D c I (B.at (k0_part641 i) v1 v2 v3 v4 v5 v6 v7 v8 v9 v10 v11 v12 v13 v14) := by
  unfold k0_part641; repeat' with_reducible first|infer_instance|exact ld| apply allS| apply allP|intro _| apply seq| apply loop| apply alt| apply br
instance s642 (v1 v2 v3 v4 v5 v6 v7 v8 v9 v10 v11 v12 v13 v14) : Safe D c I (B.at (k0_part642 i) v1 v2 v3 v4 v5 v6 v7 v8 v9 v10 v11 v12 v13 v14) := by
  unfold k0_part642; repeat' with_reducible first|infer_instance|exact ld| apply allS| apply allP|intro _| apply seq| apply loop| apply alt| apply br
instance s643 (v1 v2 v3 v4 v5 v6 v7 v8 v9 v10 v11 v12 v13 v14) : Safe D c I (B.at (k0_part643 i) v1 v2 v3 v4 v5 v6 v7 v8 v9 v10 v11 v12 v13 v14) := by
  unfold k0_part643; repeat' with_reducible first|infer_instance|exact ld| apply allS| apply allP|intro _| apply seq| apply loop| apply alt| apply br
instance s644 (v1 v2 v3 v4 v5 v6 v7 v8 v9 v10 v11 v12 v13 v14) : Safe D c I (B.at (k0_part644 i) v1 v2 v3 v4 v5 v6 v7 v8 v9 v10 v11 v12 v13 v14) := by
  unfold k0_part644; repeat' with_reducible first|infer_instance|exact ld| apply allS| apply allP|intro _| apply seq| apply loop| apply alt| apply br
instance s645 (v1 v2 v3 v4 v5 v6 v7 v8 v9 v10 v11 v12 v13) : Safe D c I (B.at (k0_part645 i) v1 v2 v3 v4 v5 v6 v7 v8 v9 v10 v11 v12 v13) := by
  unfold k0_part645; repeat' with_reducible first|infer_instance|exact ld| apply allS| apply allP|intro _| apply seq| apply loop| apply alt| apply br
instance s646 (v1 v2 v3 v4 v5 v6 v7 v8 v9 v10) : Safe D c I (B.at (k0_part646 i) v1 v2 v3 v4 v5 v6 v7 v8 v9 v10) := by
  unfold k0_part646; repeat' with_reducible first|infer_instance|exact ld| apply allS| apply allP|intro _| apply seq| apply loop| apply alt| apply br
instance s647 (v1 v2 v3 v4 v5 v6 v7 v8 v9 v10) : Safe D c I (B.at (k0_part647 i) v1 v2 v3 v4 v5 v6 v7 v8 v9 v10) := by
  unfold k0_part647; repeat' with_reducible first|infer_instance|exact ld| apply allS| apply allP|intro _| apply seq| apply loop| apply alt| apply br
instance s648 (v1 v2 v3 v4 v5 v6 v7 v8 v9 v10) : Safe D c I (B.at (k0_part648 i) v1 v2 v3 v4 v5 v6 v7 v8 v9 v10) := by
  unfold k0_part648; repeat' with_reducible first|infer_instance|exact ld| apply allS| apply allP|intro _| apply seq| apply loop| apply alt| apply br
instance s649 (v1 v2 v3 v4 v5 v6 v7 v8 v9 v10) : Safe D c I (B.at (k0_part649 i) v1 v2 v3 v4 v5 v6 v7 v8 v9 v10) := by
  unfold k0_part649; repeat' with_reducible first|infer_instance|exact ld| apply allS| apply allP|intro _| apply seq| apply loop| apply alt| apply br
instance s650 (v1 v2 v3 v4 v5 v6 v7 v8) : Safe D c I (B.at (k0_part650 i) v1 v2 v3 v4 v5 v6 v7 v8) := by
  unfold k0_part650; repeat' with_reducible first|infer_instance|exact ld| apply allS| apply allP|intro _| apply seq| apply loop| apply alt| apply br
instance s651 (v1 v2 v3 v4) : Safe D c I (B.at (k0_part651 i) v1 v2 v3 v4) := by
  unfold k0_part651; repeat' with_reducible first|infer_instance|exact ld| apply allS| apply allP|intro _| apply seq| apply loop| apply alt| apply br
instance s652 (v1 v2 v3 v4) : Safe D c I (B.at (k0_part652 i) v1 v2 v3 v4) := by
  unfold k0_part652; repeat' with_reducible first|infer_instance|exact ld| apply allS| apply allP|intro _| apply seq| apply loop| apply alt| apply br
instance s653 (v1 v2) : Safe D c I (B.at (k0_part653 i) v1 v2) := by
  unfold k0_part653; repeat' with_reducible first|infer_instance|exact ld| apply allS| apply allP|intro _| apply seq| apply loop| apply alt| apply br
instance s654 (v1 v2 v3 v4 v5 v6 v7 v8 v9 v10 v11 v12 v13) : Safe D c I (B.at (k0_part654 i) v1 v2 v3 v4 v5 v6 v7 v8 v9 v10 v11 v12 v13) := by
  unfold k0_part654; repeat' with_reducible first|infer_instance|exact ld| apply allS| apply allP|intro _| apply seq| apply loop| apply alt| apply br
instance s655 (v1 v2 v3 v4 v5 v6 v7 v8 v9 v10 v11 v12 v13) : Safe D c I (B.at (k0_part655 i) v1 v2 v3 v4 v5 v6 v7 v8 v9 v10 v11 v12 v13) := by
  unfold k0_part655; repeat' with_reducible first|infer_instance|exact ld| apply allS| apply allP|intro _| apply seq| apply loop| apply alt| apply br
instance s656 (v1 v2 v3 v4 v5 v6 v7 v8 v9 v10 v11 v12 v13) : Safe D c I (B.at (k0_part656 i) v1 v2 v3 v4 v5 v6 v7 v8 v9 v10 v11 v12 v13) := by
  unfold k0_part656; repeat' with_reducible first|infer_instance|exact ld| apply allS| apply allP|intro _| apply seq| apply loop| apply alt| apply br
instance s657 (v1 v2 v3 v4 v5 v6 v7 v8 v9 v10 v11 v12 v13) : Safe D c I (B.at (k0_part657 i) v1 v2 v3 v4 v5 v6 v7 v8 v9 v10 v11 v12 v13) := by
  unfold k0_part657; repeat' with_reducible first|infer_instance|exact ld| apply allS| apply allP|intro _| apply seq| apply loop| apply alt| apply br
instance s658 (v1 v2 v3 v4 v5 v6 v7 v8 v9 v10 v11 v12 v13) : Safe D c I (B.at (k0_part658 i) v1 v2 v3 v4 v5 v6 v7 v8 v9 v10 v11 v12 v13) := by
  unfold k0_part658; repeat' with_reducible first|infer_instance|exact ld| apply allS| apply allP|intro _| apply seq| apply loop| apply alt| apply br
instance s659 (v1 v2 v3 v4 v5 v6 v7 v8 v9 v10 v11 v12 v13) : Safe D c I (B.at (k0_part659 i) v1 v2 v3 v4 v5 v6 v7 v8 v9 v10 v11 v12 v13) := by
  unfold k0_part659; repeat' with_reducible first|infer_instance|exact ld| apply allS| apply allP|intro _| apply seq| apply loop| apply alt| apply br
instance s660 (v1 v2 v3 v4 v5 v6 v7 v8 v9 v10 v11 v12 v13) : Safe D c I (B.at (k0_part660 i) v1 v2 v3 v4 v5 v6 v7 v8 v9 v10 v11 v12 v13) := by
  unfold k0_part660; repeat' with_reducible first|infer_instance|exact ld| apply allS| apply allP|intro _| apply seq| apply loop| apply alt| apply br
instance s661 (v1 v2 v3 v4 v5 v6 v7 v8 v9 v10 v11 v12 v13) : Safe D c I (B.at (k0_part661 i) v1 v2 v3 v4 v5 v6 v7 v8 v9 v10 v11 v12 v13) := by
  unfold k0_part661; repeat' with_reducible first|infer_instance|exact ld| apply allS| apply allP|intro _| apply seq| apply loop| apply alt| apply br
instance s662 (v1 v2 v3 v4 v5 v6 v7 v8 v9 v10 v11 v12 v13) : Safe D c I (B.at (k0_part662 i) v1 v2 v3 v4 v5 v6 v7 v8 v9 v10 v11 v12 v13) := by
  unfold k0_part662; repeat' with_reducible first|infer_instance|exact ld| apply allS| apply allP|intro _| apply seq| apply loop| apply alt| apply br
instance s663 (v1 v2 v3 v4 v5 v6 v7 v8 v9 v10 v11 v12 v13) : Safe D c I (B.at (k0_part663 i) v1 v2 v3 v4 v5 v6 v7 v8 v9 v10 v11 v12 v13) := by
  unfold k0_part663; repeat' with_reducible first|infer_instance|exact ld| apply allS| apply allP|intro _| apply seq| apply loop| apply alt| apply br
instance s664 (v1 v2 v3 v4 v5 v6 v7 v8 v9 v10 v11 v12 v13) : Safe D c I (B.at (k0_part664 i) v1 v2 v3 v4 v5 v6 v7 v8 v9 v10 v11 v12 v13) := by
  unfold k0_part664; repeat' with_reducible first|infer_instance|exact ld| apply allS| apply allP|intro _| apply seq| apply loop| apply alt| apply br
instance s665 (v1 v2 v3 v4 v5 v6 v7 v8 v9 v10 v11 v12 v13) : Safe D c I (B.at (k0_part665 i) v1 v2 v3 v4 v5 v6 v7 v8 v9 v10 v11 v12 v13) := by
  unfold k0_part665; repeat' with_reducible first|infer_instance|exact ld| apply allS| apply allP|intro _| apply seq| apply loop| apply alt| apply br
instance s666 (v1 v2 v3 v4 v5 v6 v7 v8 v9 v10 v11 v12 v13) : Safe D c I (B.at (k0_part666 i) v1 v2 v3 v4 v5 v6 v7 v8 v9 v10 v11 v12 v13) := by
  unfold k0_part666; repeat' with_reducible first|infer_instance|exact ld| apply allS| apply allP|intro _| apply seq| apply loop| apply alt| apply br
instance s667 (v1 v2 v3 v4 v5 v6 v7 v8 v9 v10 v11 v12 v13) : Safe D c I (B.at (k0_part667 i) v1 v2 v3 v4 v5 v6 v7 v8 v9 v10 v11 v12 v13) := by
  unfold k0_part667; repeat' with_reducible first|infer_instance|exact ld| apply allS| apply allP|intro _| apply seq| apply loop| apply alt| apply br
instance s668 (v1 v2 v3 v4 v5 v6 v7 v8 v9 v10 v11 v12 v13) : Safe D c I (B.at (k0_part668 i) v1 v2 v3 v4 v5 v6 v7 v8 v9 v10 v11 v12 v13) := by
  unfold k0_part668; repeat' with_reducible first|infer_instance|exact ld| apply allS| apply allP|intro _| apply seq| apply loop| apply alt| apply br
instance s669 (v1 v2 v3 v4 v5 v6 v7 v8 v9 v10 v11 v12 v13 v14 v15) : Safe D c I (B.at (k0_part669 i) v1 v2 v3 v4 v5 v6 v7 v8 v9 v10 v11 v12 v13 v14 v15) := by
  unfold k0_part669; repeat' with_reducible first|infer_instance|exact ld| apply allS| apply allP|intro _| apply seq| apply loop| apply alt| apply br
instance s670 (v1 v2 v3 v4 v5 v6 v7 v8 v9 v10 v11) : Safe D c I (B.at (k0_part670 i) v1 v2 v3 v4 v5 v6 v7 v8 v9 v10 v11) := by
  unfold k0_part670; repeat' with_reducible first|infer_instance|exact ld| apply allS| apply allP|intro _| apply seq| apply loop| apply alt| apply br
instance s671 (v1 v2 v3 v4 v5 v6 v7 v8 v9 v10 v11) : Safe D c I (B.at (k0_part671 i) v1 v2 v3 v4 v5 v6 v7 v8 v9 v10 v11) := by
  unfold k0_part671; repeat' with_reducible first|infer_instance|exact ld| apply allS| apply allP|intro _| apply seq| apply loop| apply alt| apply br
instance s672 (v1 v2 v3 v4 v5 v6 v7 v8 v9 v10 v11) : Safe D c I (B.at (k0_part672 i) v1 v2 v3 v4 v5 v6 v7 v8 v9 v10 v11) := by
  unfold k0_part672; repeat' with_reducible first|infer_instance|exact ld| apply allS| apply allP|intro _| apply seq| apply loop| apply alt| apply br
instance s673 (v1 v2 v3 v4 v5 v6 v7 v8 v9 v10 v11) : Safe D c I (B.at (k0_part673 i) v1 v2 v3 v4 v5 v6 v7 v8 v9 v10 v11) := by
  unfold k0_part673; repeat' with_reducible first|infer_instance|exact ld| apply allS| apply allP|intro _| apply seq| apply loop| apply alt| apply br
instance s674 (v1 v2 v3 v4 v5 v6 v7 v8 v9 v10 v11) : Safe D c I (B.at (k0_part674 i) v1 v2 v3 v4 v5 v6 v7 v8 v9 v10 v11) := by
  unfold k0_part674; repeat' with_reducible first|infer_instance|exact ld| apply allS| apply allP|intro _| apply seq| apply loop| apply alt| apply br
instance s675 (v1 v2 v3 v4 v5) : Safe D c I (B.at (k0_part675 i) v1 v2 v3 v4 v5) := by
  unfold k0_part675; repeat' with_reducible first|infer_instance|exact ld| apply allS| apply allP|intro _| apply seq| apply loop| apply alt| apply br
instance s676 (v1 v2 v3) : Safe D c I (B.at (k0_part676 i) v1 v2 v3) := by
  unfold k0_part676; repeat' with_reducible first|infer_instance|exact ld| apply allS| apply allP|intro _| apply seq| apply loop| apply alt| apply br
instance s677 (v1 v2 v3) : Safe D c I (B.at (k0_part677 i) v1 v2 v3) := by
  unfold k0_part677; repeat' with_reducible first|infer_instance|exact ld| apply allS| apply allP|intro _| apply seq| apply loop| apply alt| apply br
instance s678 (v1 v2 v3 v4) : Safe D c I (B.at (k0_part678 i) v1 v2 v3 v4) := by
  unfold k0_part678; repeat' with_reducible first|infer_instance|exact ld| apply allS| apply allP|intro _| apply seq| apply loop| apply alt| apply br
instance s679 (v1 v2 v3 v4 v5 v6 v7 v8 v9 v10) : Safe D c I (B.at (k0_part679 i) v1 v2 v3 v4 v5 v6 v7 v8 v9 v10) := by
  unfold k0_part679; repeat' with_reducible first|infer_instance|exact ld| apply allS| apply allP|intro _| apply seq| apply loop| apply alt| apply br
instance s680 (v1 v2 v3 v4 v5 v6 v7 v8 v9 v10) : Safe D c I (B.at (k0_part680 i) v1 v2 v3 v4 v5 v6 v7 v8 v9 v10) := by
  unfold k0_part680; repeat' with_reducible first|infer_instance|exact ld| apply allS| apply allP|intro _| apply seq| apply loop| apply alt| apply br
instance s681 (v1 v2 v3 v4 v5 v6 v7 v8 v9 v10) : Safe D c I (B.at (k0_part681 i) v1 v2 v3 v4 v5 v6 v7 v8 v9 v10) := by
  unfold k0_part681; repeat' with_reducible first|infer_instance|exact ld| apply allS| apply allP|intro _| apply seq| apply loop| apply alt| apply br
instance s682 (v1 v2 v3 v4 v5 v6 v7 v8 v9 v10) : Safe D c I (B.at (k0_part682 i) v1 v2 v3 v4 v5 v6 v7 v8 v9 v10) := by
  unfold k0_part682; repeat' with_reducible first|infer_instance|exact ld| apply allS| apply allP|intro _| apply seq| apply loop| apply alt| apply br
instance s683 (v1 v2 v3 v4 v5 v6 v7 v8 v9 v10) : Safe D c I (B.at (k0_part683 i) v1 v2 v3 v4 v5 v6 v7 v8 v9 v10) := by
  unfold k0_part683; repeat' with_reducible first|infer_instance|exact ld| apply allS| apply allP|intro _| apply seq| apply loop| apply alt| apply br
instance s684 (v1 v2 v3 v4 v5 v6 v7 v8 v9 v10) : Safe D c I (B.at (k0_part684 i) v1 v2 v3 v4 v5 v6 v7 v8 v9 v10) := by
  unfold k0_part684; repeat' with_reducible first|infer_instance|exact ld| apply allS| apply allP|intro _| apply seq| apply loop| apply alt| apply br
instance s685 (v1 v2 v3 v4 v5 v6 v7 v8 v9 v10) : Safe D c I (B.at (k0_part685 i) v1 v2 v3 v4 v5 v6 v7 v8 v9 v10) := by
  unfold k0_part685; repeat' with_reducible first|infer_instance|exact ld| apply allS| apply allP|intro _| apply seq| apply loop| apply alt| apply br
instance s686 (v1 v2 v3 v4 v5 v6 v7 v8 v9 v10) : Safe D c I (B.at (k0_part686 i) v1 v2 v3 v4 v5 v6 v7 v8 v9 v10) := by
  unfold k0_part686; repeat' with_reducible first|infer_instance|exact ld| apply allS| apply allP|intro _| apply seq| apply loop| apply alt| apply br
instance s687 (v1 v2 v3 v4 v5 v6 v7 v8 v9 v10) : Safe D c I (B.at (k0_part687 i) v1 v2 v3 v4 v5 v6 v7 v8 v9 v10) := by
  unfold k0_part687; repeat' with_reducible first|infer_instance|exact ld| apply allS| apply allP|intro _| apply seq| apply loop| apply alt| apply br
instance s688 (v1 v2 v3 v4 v5 v6 v7 v8 v9 v10) : Safe D c I (B.at (k0_part688 i) v1 v2 v3 v4 v5 v6 v7 v8 v9 v10) := by
  unfold k0_part688; repeat' with_reducible first|infer_instance|exact ld| apply allS| apply allP|intro _| apply seq| apply loop| apply alt| apply br
instance s689 (v1 v2 v3 v4 v5 v6 v7 v8 v9 v10) : Safe D c I (B.at (k0_part689 i) v1 v2 v3 v4 v5 v6 v7 v8 v9 v10) := by
  unfold k0_part689; repeat' with_reducible first|infer_instance|exact ld| apply allS| apply allP|intro _| apply seq| apply loop| apply alt| apply br
instance s690 (v1 v2 v3 v4 v5 v6 v7 v8 v9 v10) : Safe D c I (B.at (k0_part690 i) v1 v2 v3 v4 v5 v6 v7 v8 v9 v10) := by
  unfold k0_part690; repeat' with_reducible first|infer_instance|exact ld| apply allS| apply allP|intro _| apply seq| apply loop| apply alt| apply br
instance s691 (v1 v2 v3 v4 v5 v6 v7 v8 v9 v10) : Safe D c I (B.at (k0_part691 i) v1 v2 v3 v4 v5 v6 v7 v8 v9 v10) := by
  unfold k0_part691; repeat' with_reducible first|infer_instance|exact ld| apply allS| apply allP|intro _| apply seq| apply loop| apply alt| apply br
instance s692 (v1 v2 v3 v4 v5 v6 v7 v8 v9 v10) : Safe D c I (B.at (k0_part692 i) v1 v2 v3 v4 v5 v6 v7 v8 v9 v10) := by
  unfold k0_part692; repeat' with_reducible first|infer_instance|exact ld| apply allS| apply allP|intro _| apply seq| apply loop| apply alt| apply br
instance s693 (v1 v2 v3 v4 v5 v6 v7 v8 v9 v10) : Safe D c I (B.at (k0_part693 i) v1 v2 v3 v4 v5 v6 v7 v8 v9 v10) := by
  unfold k0_part693; repeat' with_reducible first|infer_instance|exact ld| apply allS| apply allP|intro _| apply seq| apply loop| apply alt| apply br
instance s694 (v1 v2 v3 v4 v5 v6 v7 v8 v9 v10 v11) : Safe D c I (B.at (k0_part694 i) v1 v2 v3 v4 v5 v6 v7 v8 v9 v10 v11) := by
  unfold k0_part694; repeat' with_reducible first|infer_instance|exact ld| apply allS| apply allP|intro _| apply seq| apply loop| apply alt| apply br
instance s695 (v1 v2 v3 v4 v5 v6 v7 v8 v9 v10) : Safe D c I (B.at (k0_part695 i) v1 v2 v3 v4 v5 v6 v7 v8 v9 v10) := by
  unfold k0_part695; repeat' with_reducible first|infer_instance|exact ld| apply allS| apply allP|intro _| apply seq| apply loop| apply alt| apply br
instance s696 (v1 v2 v3 v4 v5 v6 v7 v8 v9 v10) : Safe D c I (B.at (k0_part696 i) v1 v2 v3 v4 v5 v6 v7 v8 v9 v10) := by
  unfold k0_part696; repeat' with_reducible first|infer_instance|exact ld| apply allS| apply allP|intro _| apply seq| apply loop| apply alt| apply br
instance s697 (v1 v2 v3 v4 v5 v6 v7 v8 v9 v10) : Safe D c I (B.at (k0_part697 i) v1 v2 v3 v4 v5 v6 v7 v8 v9 v10) := by
  unfold k0_part697; repeat' with_reducible first|infer_instance|exact ld| apply allS| apply allP|intro _| apply seq| apply loop| apply alt| apply br
instance s698 (v1 v2 v3 v4 v5 v6 v7 v8 v9 v10) : Safe D c I (B.at (k0_part698 i) v1 v2 v3 v4 v5 v6 v7 v8 v9 v10) := by
  unfold k0_part698; repeat' with_reducible first|infer_instance|exact ld| apply allS| apply allP|intro _| apply seq| apply loop| apply alt| apply br
instance s699 (v1 v2 v3 v4 v5 v6 v7 v8 v9 v10) : Safe D c I (B.at (k0_part699 i) v1 v2 v3 v4 v5 v6 v7 v8 v9 v10) := by
  unfold k0_part699; repeat' with_reducible first|infer_instance|exact ld| apply allS| apply allP|intro _| apply seq| apply loop| apply alt| apply br
instance s700 (v1 v2 v3 v4) : Safe D c I (B.at (k0_part700 i) v1 v2 v3 v4) := by
  unfold k0_part700; repeat' with_reducible first|infer_instance|exact ld| apply allS| apply allP|intro _| apply seq| apply loop| apply alt| apply br
instance s701 (v1 v2 v3 v4) : Safe D c I (B.at (k0_part701 i) v1 v2 v3 v4) := by
  unfold k0_part701; repeat' with_reducible first|infer_instance|exact ld| apply allS| apply allP|intro _| apply seq| apply loop| apply alt| apply br
instance s702 (v1 v2) : Safe D c I (B.at (k0_part702 i) v1 v2) := by
  unfold k0_part702; repeat' with_reducible first|infer_instance|exact ld| apply allS| apply allP|intro _| apply seq| apply loop| apply alt| apply br
instance s703 (v1 v2 v3 v4 v5 v6 v7 v8 v9 v10 v11) : Safe D c I (B.at (k0_part703 i) v1 v2 v3 v4 v5 v6 v7 v8 v9 v10 v11) := by
  unfold k0_part703; repeat' with_reducible first|infer_instance|exact ld| apply allS| apply allP|intro _| apply seq| apply loop| apply alt| apply br
instance s704 (v1 v2 v3 v4 v5 v6 v7 v8 v9 v10 v11) : Safe D c I (B.at (k0_part704 i) v1 v2 v3 v4 v5 v6 v7 v8 v9 v10 v11) := by
  unfold k0_part704; repeat' with_reducible first|infer_instance|exact ld| apply allS| apply allP|intro _| apply seq| apply loop| apply alt| apply br
instance s705 (v1 v2 v3 v4 v5 v6 v7 v8 v9 v10 v11) : Safe D c I (B.at (k0_part705 i) v1 v2 v3 v4 v5 v6 v7 v8 v9 v10 v11) := by
  unfold k0_part705; repeat' with_reducible first|infer_instance|exact ld| apply allS| apply allP|intro _| apply seq| apply loop| apply alt| apply br
instance s706 (v1 v2 v3 v4 v5 v6 v7 v8 v9 v10 v11) : Safe D c I (B.at (k0_part706 i) v1 v2 v3 v4 v5 v6 v7 v8 v9 v10 v11) := by
  unfold k0_part706; repeat' with_reducible first|infer_instance|exact ld| apply allS| apply allP|intro _| apply seq| apply loop| apply alt| apply br
instance s707 (v1 v2 v3 v4 v5 v6 v7 v8 v9 v10 v11) : Safe D c I (B.at (k0_part707 i) v1 v2 v3 v4 v5 v6 v7 v8 v9 v10 v11) := by
  unfold k0_part707; repeat' with_reducible first|infer_instance|exact ld| apply allS| apply allP|intro _| apply seq| apply loop| apply alt| apply br
instance s708 (v1 v2 v3 v4 v5 v6 v7 v8 v9 v10 v11) : Safe D c I (B.at (k0_part708 i) v1 v2 v3 v4 v5 v6 v7 v8 v9 v10 v11) := by
  unfold k0_part708; repeat' with_reducible first|infer_instance|exact ld| apply allS| apply allP|intro _| apply seq| apply loop| apply alt| apply br
instance s709 (v1 v2 v3 v4 v5 v6 v7 v8 v9 v10 v11) : Safe D c I (B.at (k0_part709 i) v1 v2 v3 v4 v5 v6 v7 v8 v9 v10 v11) := by
  unfold k0_part709; repeat' with_reducible first|infer_instance|exact ld| apply allS| apply allP|intro _| apply seq| apply loop| apply alt| apply br
instance s710 (v1 v2 v3 v4 v5 v6 v7 v8 v9 v10 v11) : Safe D c I (B.at (k0_part710 i) v1 v2 v3 v4 v5 v6 v7 v8 v9 v10 v11) := by
  unfold k0_part710; repeat' with_reducible first|infer_instance|exact ld| apply allS| apply allP|intro _| apply seq| apply loop| apply alt| apply br
instance s711 (v1 v2 v3 v4 v5 v6 v7 v8 v9 v10 v11) : Safe D c I (B.at (k0_part711 i) v1 v2 v3 v4 v5 v6 v7 v8 v9 v10 v11) := by
  unfold k0_part711; repeat' with_reducible first|infer_instance|exact ld| apply allS| apply allP|intro _| apply seq| apply loop| apply alt| apply br
instance s712 (v1 v2 v3 v4 v5 v6 v7 v8 v9 v10 v11) : Safe D c I (B.at (k0_part712 i) v1 v2 v3 v4 v5 v6 v7 v8 v9 v10 v11) := by
  unfold k0_part712; repeat' with_reducible first|infer_instance|exact ld| apply allS| apply allP|intro _| apply seq| apply loop| apply alt| apply br
instance s713 (v1 v2 v3 v4 v5 v6 v7 v8 v9 v10 v11) : Safe D c I (B.at (k0_part713 i) v1 v2 v3 v4 v5 v6 v7 v8 v9 v10 v11) := by
  unfold k0_part713; repeat' with_reducible first|infer_instance|exact ld| apply allS| apply allP|intro _| apply seq| apply loop| apply alt| apply br
instance s714 (v1 v2 v3 v4 v5 v6 v7 v8 v9 v10 v11) : Safe D c I (B.at (k0_part714 i) v1 v2 v3 v4 v5 v6 v7 v8 v9 v10 v11) := by
  unfold k0_part714; repeat' with_reducible first|infer_instance|exact ld| apply allS| apply allP|intro _| apply seq| apply loop| apply alt| apply br
instance s715 (v1 v2 v3 v4 v5 v6 v7 v8 v9 v10 v11) : Safe D c I (B.at (k0_part715 i) v1 v2 v3 v4 v5 v6 v7 v8 v9 v10 v11) := by
  unfold k0_part715; repeat' with_reducible first|infer_instance|exact ld| apply allS| apply allP|intro _| apply seq| apply loop| apply alt| apply br
instance s716 (v1 v2 v3 v4 v5 v6 v7 v8 v9 v10 v11) : Safe D c I (B.at (k0_part716 i) v1 v2 v3 v4 v5 v6 v7 v8 v9 v10 v11) := by
  unfold k0_part716; repeat' with_reducible first|infer_instance|exact ld| apply allS| apply allP|intro _| apply seq| apply loop| apply alt| apply br
instance s717 (v1 v2 v3 v4 v5 v6 v7 v8 v9 v10 v11) : Safe D c I (B.at (k0_part717 i) v1 v2 v3 v4 v5 v6 v7 v8 v9 v10 v11) := by
  unfold k0_part717; repeat' with_reducible first|infer_instance|exact ld| apply allS| apply allP|intro _| apply seq| apply loop| apply alt| apply br
instance s718 (v1 v2 v3 v4 v5 v6 v7 v8 v9 v10 v11 v12) : Safe D c I (B.at (k0_part718 i) v1 v2 v3 v4 v5 v6 v7 v8 v9 v10 v11 v12) := by
  unfold k0_part718; repeat' with_reducible first|infer_instance|exact ld| apply allS| apply allP|intro _| apply seq| apply loop| apply alt| apply br
instance s719 (v1 v2 v3 v4 v5 v6 v7 v8 v9 v10) : Safe D c I (B.at (k0_part719 i) v1 v2 v3 v4 v5 v6 v7 v8 v9 v10) := by
  unfold k0_part719; repeat' with_reducible first|infer_instance|exact ld| apply allS| apply allP|intro _| apply seq| apply loop| apply alt| apply br
instance s720 (v1 v2 v3 v4 v5 v6 v7 v8 v9 v10) : Safe D c I (B.at (k0_part720 i) v1 v2 v3 v4 v5 v6 v7 v8 v9 v10) := by
  unfold k0_part720; repeat' with_reducible first|infer_instance|exact ld| apply allS| apply allP|intro _| apply seq| apply loop| apply alt| apply br
instance s721 (v1 v2 v3 v4 v5 v6 v7 v8 v9 v10) : Safe D c I (B.at (k0_part721 i) v1 v2 v3 v4 v5 v6 v7 v8 v9 v10) := by
  unfold k0_part721; repeat' with_reducible first|infer_instance|exact ld| apply allS| apply allP|intro _| apply seq| apply loop| apply alt| apply br
instance s722 (v1 v2 v3 v4 v5 v6 v7 v8 v9 v10) : Safe D c I (B.at (k0_part722 i) v1 v2 v3 v4 v5 v6 v7 v8 v9 v10) := by
  unfold k0_part722; repeat' with_reducible first|infer_instance|exact ld| apply allS| apply allP|intro _| apply seq| apply loop| apply alt| apply br
end Cert.Proof.Attn

end
-- ==== Proof.Attn.S06.lean ====
/-
  Parts k0_part723 to k0_part896 of the kernel's body keep the buffers they are given: one fact per part, in the order of the printed
  program, each by walking the part's statements.
-/
module

public import proofs.«01_k».proof.Kernel.P06
public import proofs.«01_k».proof.Proof.Attn.S05

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s723 (v1 v2 v3 v4 v5 v6 v7 v8 v9 v10) : Safe D c I (B.at (k0_part723 i) v1 v2 v3 v4 v5 v6 v7 v8 v9 v10) := by
  unfold k0_part723; repeat' with_reducible first|infer_instance|exact ld| apply allS| apply allP|intro _| apply seq| apply loop| apply alt| apply br
instance s724 (v1 v2 v3 v4 v5 v6 v7) : Safe D c I (B.at (k0_part724 i) v1 v2 v3 v4 v5 v6 v7) := by
  unfold k0_part724; repeat' with_reducible first|infer_instance|exact ld| apply allS| apply allP|intro _| apply seq| apply loop| apply alt| apply br
instance s725 (v1 v2 v3) : Safe D c I (B.at (k0_part725 i) v1 v2 v3) := by
  unfold k0_part725; repeat' with_reducible first|infer_instance|exact ld| apply allS| apply allP|intro _| apply seq| apply loop| apply alt| apply br
instance s726 (v1 v2 v3) : Safe D c I (B.at (k0_part726 i) v1 v2 v3) := by
  unfold k0_part726; repeat' with_reducible first|infer_instance|exact ld| apply allS| apply allP|intro _| apply seq| apply loop| apply alt| apply br
instance s727 (v1) : Safe D c I (B.at (k0_part727 i) v1) := by
  unfold k0_part727; repeat' with_reducible first|infer_instance|exact ld| apply allS| apply allP|intro _| apply seq| apply loop| apply alt| apply br
instance s728 (v1 v2 v3 v4 v5 v6 v7 v8 v9 v10 v11 v12 v13) : Safe D c I (B.at (k0_part728 i) v1 v2 v3 v4 v5 v6 v7 v8 v9 v10 v11 v12 v13) := by
  unfold k0_part728; repeat' with_reducible first|infer_instance|exact ld| apply allS| apply allP|intro _| apply seq| apply loop| apply alt| apply br
instance s729 (v1 v2 v3 v4 v5 v6 v7 v8 v9 v10 v11 v12 v13) : Safe D c I (B.at (k0_part729 i) v1 v2 v3 v4 v5 v6 v7 v8 v9 v10 v11 v12 v13) := by
  unfold k0_part729; repeat' with_reducible first|infer_instance|exact ld| apply allS| apply allP|intro _| apply seq| apply loop| apply alt| apply br
instance s730 (v1 v2 v3 v4 v5 v6 v7 v8 v9 v10 v11 v12 v13) : Safe D c I (B.at (k0_part730 i) v1 v2 v3 v4 v5 v6 v7 v8 v9 v10 v11 v12 v13) := by
  unfold k0_part730; repeat' with_reducible first|infer_instance|exact ld| apply allS| apply allP|intro _| apply seq| apply loop| apply alt| apply br
instance s731 (v1 v2 v3 v4 v5 v6 v7 v8 v9 v10 v11 v12 v13) : Safe D c I (B.at (k0_part731 i) v1 v2 v3 v4 v5 v6 v7 v8 v9 v10 v11 v12 v13) := by
  unfold k0_part731; repeat' with_reducible first|infer_instance|exact ld| apply allS| apply allP|intro _| apply seq| apply loop| apply alt| apply br
instance s732 (v1 v2 v3 v4 v5 v6 v7 v8 v9 v10 v11 v12 v13) : Safe D c I (B.at (k0_part732 i) v1 v2 v3 v4 v5 v6 v7 v8 v9 v10 v11 v12 v13) := by
  unfold k0_part732; repeat' with_reducible first|infer_instance|exact ld| apply allS| apply allP|intro _| apply seq| apply loop| apply alt| apply br
instance s733 (v1 v2 v3 v4 v5 v6 v7 v8 v9 v10 v11 v12 v13) : Safe D c I (B.at (k0_part733 i) v1 v2 v3 v4 v5 v6 v7 v8 v9 v10 v11 v12 v13) := by
  unfold k0_part733; repeat' with_reducible first|infer_instance|exact ld| apply allS| apply allP|intro _| apply seq| apply loop| apply alt| apply br
instance s734 (v1 v2 v3 v4 v5 v6 v7 v8 v9 v10 v11 v12 v13) : Safe D c I (B.at (k0_part734 i) v1 v2 v3 v4 v5 v6 v7 v8 v9 v10 v11 v12 v13) := by
  unfold k0_part734; repeat' with_reducible first|infer_instance|exact ld| apply allS| apply allP|intro _| apply seq| apply loop| apply alt| apply br
instance s735 (v1 v2 v3 v4 v5 v6 v7 v8 v9 v10 v11 v12 v13) : Safe D c I (B.at (k0_part735 i) v1 v2 v3 v4 v5 v6 v7 v8 v9 v10 v11 v12 v13) := by
  unfold k0_part735; repeat' with_reducible first|infer_instance|exact ld| apply allS| apply allP|intro _| apply seq| apply loop| apply alt| apply br
instance s736 (v1 v2 v3 v4 v5 v6 v7 v8 v9 v10 v11 v12 v13) : Safe D c I (B.at (k0_part736 i) v1 v2 v3 v4 v5 v6 v7 v8 v9 v10 v11 v12 v13) := by
  unfold k0_part736; repeat' with_reducible first|infer_instance|exact ld| apply allS| apply allP|intro _| apply seq| apply loop| apply alt| apply br
instance s737 (v1 v2 v3 v4 v5 v6 v7 v8 v9 v10 v11 v12 v13) : Safe D c I (B.at (k0_part737 i) v1 v2 v3 v4 v5 v6 v7 v8 v9 v10 v11 v12 v13) := by
  unfold k0_part737; repeat' with_reducible first|infer_instance|exact ld| apply allS| apply allP|intro _| apply seq| apply loop| apply alt| apply br
instance s738 (v1 v2 v3 v4 v5 v6 v7 v8 v9 v10 v11 v12 v13) : Safe D c I (B.at (k0_part738 i) v1 v2 v3 v4 v5 v6 v7 v8 v9 v10 v11 v12 v13) := by
  unfold k0_part738; repeat' with_reducible first|infer_instance|exact ld| apply allS| apply allP|intro _| apply seq| apply loop| apply alt| apply br
instance s739 (v1 v2 v3 v4 v5 v6 v7 v8 v9 v10 v11 v12 v13) : Safe D c I (B.at (k0_part739 i) v1 v2 v3 v4 v5 v6 v7 v8 v9 v10 v11 v12 v13) := by
  unfold k0_part739; repeat' with_reducible first|infer_instance|exact ld| apply allS| apply allP|intro _| apply seq| apply loop| apply alt| apply br
instance s740 (v1 v2 v3 v4 v5 v6 v7 v8 v9 v10 v11 v12 v13) : Safe D c I (B.at (k0_part740 i) v1 v2 v3 v4 v5 v6 v7 v8 v9 v10 v11 v12 v13) := by
  unfold k0_part740; repeat' with_reducible first|infer_instance|exact ld| apply allS| apply allP|intro _| apply seq| apply loop| apply alt| apply br
instance s741 (v1 v2 v3 v4 v5 v6 v7 v8 v9 v10 v11 v12 v13) : Safe D c I (B.at (k0_part741 i) v1 v2 v3 v4 v5 v6 v7 v8 v9 v10 v11 v12 v13) := by
  unfold k0_part741; repeat' with_reducible first|infer_instance|exact ld| apply allS| apply allP|intro _| apply seq| apply loop| apply alt| apply br
instance s742 (v1 v2 v3 v4 v5 v6 v7 v8 v9 v10 v11 v12 v13) : Safe D c I (B.at (k0_part742 i) v1 v2 v3 v4 v5 v6 v7 v8 v9 v10 v11 v12 v13) := by
  unfold k0_part742; repeat' with_reducible first|infer_instance|exact ld| apply allS| apply allP|intro _| apply seq| apply loop| apply alt| apply br
instance s743 (v1 v2 v3 v4 v5 v6 v7 v8 v9 v10 v11 v12 v13) : Safe D c I (B.at (k0_part743 i) v1 v2 v3 v4 v5 v6 v7 v8 v9 v10 v11 v12 v13) := by
  unfold k0_part743; repeat' with_reducible first|infer_instance|exact ld| apply allS| apply allP|intro _| apply seq| apply loop| apply alt| apply br
instance s744 (v1 v2 v3 v4 v5 v6 v7 v8 v9 v10) : Safe D c I (B.at (k0_part744 i) v1 v2 v3 v4 v5 v6 v7 v8 v9 v10) := by
  unfold k0_part744; repeat' with_reducible first|infer_instance|exact ld| apply allS| apply allP|intro _| apply seq| apply loop| apply alt| apply br
instance s745 (v1 v2 v3 v4 v5 v6 v7 v8 v9 v10) : Safe D c I (B.at (k0_part745 i) v1 v2 v3 v4 v5 v6 v7 v8 v9 v10) := by
  unfold k0_part745; repeat' with_reducible first|infer_instance|exact ld| apply allS| apply allP|intro _| apply seq| apply loop| apply alt| apply br
instance s746 (v1 v2 v3 v4 v5 v6 v7 v8 v9 v10) : Safe D c I (B.at (k0_part746 i) v1 v2 v3 v4 v5 v6 v7 v8 v9 v10) := by
  unfold k0_part746; repeat' with_reducible first|infer_instance|exact ld| apply allS| apply allP|intro _| apply seq| apply loop| apply alt| apply br
instance s747 (v1 v2 v3 v4 v5 v6 v7 v8 v9 v10) : Safe D c I (B.at (k0_part747 i) v1 v2 v3 v4 v5 v6 v7 v8 v9 v10) := by
  unfold k0_part747; repeat' with_reducible first|infer_instance|exact ld| apply allS| apply allP|intro _| apply seq| apply loop| apply alt| apply br
instance s748 (v1 v2 v3 v4 v5 v6 v7 v8 v9 v10 v11) : Safe D c I (B.at (k0_part748 i) v1 v2 v3 v4 v5 v6 v7 v8 v9 v10 v11) := by
  unfold k0_part748; repeat' with_reducible first|infer_instance|exact ld| apply allS| apply allP|intro _| apply seq| apply loop| apply alt| apply br
instance s749 (v1 v2) : Safe D c I (B.at (k0_part749 i) v1 v2) := by
  unfold k0_part749; repeat' with_reducible first|infer_instance|exact ld| apply allS| apply allP|intro _| apply seq| apply loop| apply alt| apply br
instance s750 (v1 v2 v3) : Safe D c I (B.at (k0_part750 i) v1 v2 v3) := by
  unfold k0_part750; repeat' with_reducible first|infer_instance|exact ld| apply allS| apply allP|intro _| apply seq| apply loop| apply alt| apply br
instance s751 (v1 v2 v3) : Safe D c I (B.at (k0_part751 i) v1 v2 v3) := by
  unfold k0_part751; repeat' with_reducible first|infer_instance|exact ld| apply allS| apply allP|intro _| apply seq| apply loop| apply alt| apply br
instance s752 (v1 v2 v3 v4 v5 v6 v7 v8 v9 v10 v11) : Safe D c I (B.at (k0_part752 i) v1 v2 v3 v4 v5 v6 v7 v8 v9 v10 v11) := by
  unfold k0_part752; repeat' with_reducible first|infer_instance|exact ld| apply allS| apply allP|intro _| apply seq| apply loop| apply alt| apply br
instance s753 (v1 v2 v3 v4 v5 v6 v7 v8 v9 v10 v11 v12 v13 v14) : Safe D c I (B.at (k0_part753 i) v1 v2 v3 v4 v5 v6 v7 v8 v9 v10 v11 v12 v13 v14) := by
  unfold k0_part753; repeat' with_reducible first|infer_instance|exact ld| apply allS| apply allP|intro _| apply seq| apply loop| apply alt| apply br
instance s754 (v1 v2 v3 v4 v5 v6 v7 v8 v9 v10 v11 v12 v13 v14) : Safe D c I (B.at (k0_part754 i) v1 v2 v3 v4 v5 v6 v7 v8 v9 v10 v11 v12 v13 v14) := by
  unfold k0_part754; repeat' with_reducible first|infer_instance|exact ld| apply allS| apply allP|intro _| apply seq| apply loop| apply alt| apply br
instance s755 (v1 v2 v3 v4 v5 v6 v7 v8 v9 v10 v11 v12 v13 v14) : Safe D c I (B.at (k0_part755 i) v1 v2 v3 v4 v5 v6 v7 v8 v9 v10 v11 v12 v13 v14) := by
  unfold k0_part755; repeat' with_reducible first|infer_instance|exact ld| apply allS| apply allP|intro _| apply seq| apply loop| apply alt| apply br
instance s756 (v1 v2 v3 v4 v5 v6 v7 v8 v9 v10 v11 v12 v13 v14) : Safe D c I (B.at (k0_part756 i) v1 v2 v3 v4 v5 v6 v7 v8 v9 v10 v11 v12 v13 v14) := by
  unfold k0_part756; repeat' with_reducible first|infer_instance|exact ld| apply allS| apply allP|intro _| apply seq| apply loop| apply alt| apply br
instance s757 (v1 v2 v3 v4 v5 v6 v7 v8 v9 v10 v11 v12 v13 v14) : Safe D c I (B.at (k0_part757 i) v1 v2 v3 v4 v5 v6 v7 v8 v9 v10 v11 v12 v13 v14) := by
  unfold k0_part757; repeat' with_reducible first|infer_instance|exact ld| apply allS| apply allP|intro _| apply seq| apply loop| apply alt| apply br
instance s758 (v1 v2 v3 v4 v5 v6 v7 v8 v9 v10 v11 v12 v13 v14) : Safe D c I (B.at (k0_part758 i) v1 v2 v3 v4 v5 v6 v7 v8 v9 v10 v11 v12 v13 v14) := by
  unfold k0_part758; repeat' with_reducible first|infer_instance|exact ld| apply allS| apply allP|intro _| apply seq| apply loop| apply alt| apply br
instance s759 (v1 v2 v3 v4 v5 v6 v7 v8 v9 v10 v11 v12 v13 v14) : Safe D c I (B.at (k0_part759 i) v1 v2 v3 v4 v5 v6 v7 v8 v9 v10 v11 v12 v13 v14) := by
  unfold k0_part759; repeat' with_reducible first|infer_instance|exact ld| apply allS| apply allP|intro _| apply seq| apply loop| apply alt| apply br
instance s760 (v1 v2 v3 v4 v5 v6 v7 v8 v9 v10 v11 v12 v13 v14) : Safe D c I (B.at (k0_part760 i) v1 v2 v3 v4 v5 v6 v7 v8 v9 v10 v11 v12 v13 v14) := by
  unfold k0_part760; repeat' with_reducible first|infer_instance|exact ld| apply allS| apply allP|intro _| apply seq| apply loop| apply alt| apply br
instance s761 (v1 v2 v3 v4 v5 v6 v7 v8 v9 v10 v11 v12 v13 v14) : Safe D c I (B.at (k0_part761 i) v1 v2 v3 v4 v5 v6 v7 v8 v9 v10 v11 v12 v13 v14) := by
  unfold k0_part761; repeat' with_reducible first|infer_instance|exact ld| apply allS| apply allP|intro _| apply seq| apply loop| apply alt| apply br
instance s762 (v1 v2 v3 v4 v5 v6 v7 v8 v9 v10 v11 v12 v13 v14) : Safe D c I (B.at (k0_part762 i) v1 v2 v3 v4 v5 v6 v7 v8 v9 v10 v11 v12 v13 v14) := by
  unfold k0_part762; repeat' with_reducible first|infer_instance|exact ld| apply allS| apply allP|intro _| apply seq| apply loop| apply alt| apply br
instance s763 (v1 v2 v3 v4 v5 v6 v7 v8 v9 v10 v11 v12 v13 v14) : Safe D c I (B.at (k0_part763 i) v1 v2 v3 v4 v5 v6 v7 v8 v9 v10 v11 v12 v13 v14) := by
  unfold k0_part763; repeat' with_reducible first|infer_instance|exact ld| apply allS| apply allP|intro _| apply seq| apply loop| apply alt| apply br
instance s764 (v1 v2 v3 v4 v5 v6 v7 v8 v9 v10 v11 v12 v13 v14) : Safe D c I (B.at (k0_part764 i) v1 v2 v3 v4 v5 v6 v7 v8 v9 v10 v11 v12 v13 v14) := by
  unfold k0_part764; repeat' with_reducible first|infer_instance|exact ld| apply allS| apply allP|intro _| apply seq| apply loop| apply alt| apply br
instance s765 (v1 v2 v3 v4 v5 v6 v7 v8 v9 v10 v11 v12 v13 v14) : Safe D c I (B.at (k0_part765 i) v1 v2 v3 v4 v5 v6 v7 v8 v9 v10 v11 v12 v13 v14) := by
  unfold k0_part765; repeat' with_reducible first|infer_instance|exact ld| apply allS| apply allP|intro _| apply seq| apply loop| apply alt| apply br
instance s766 (v1 v2 v3 v4 v5 v6 v7 v8 v9 v10 v11 v12 v13 v14) : Safe D c I (B.at (k0_part766 i) v1 v2 v3 v4 v5 v6 v7 v8 v9 v10 v11 v12 v13 v14) := by
  unfold k0_part766; repeat' with_reducible first|infer_instance|exact ld| apply allS| apply allP|intro _| apply seq| apply loop| apply alt| apply br
instance s767 (v1 v2 v3 v4 v5 v6 v7 v8 v9 v10 v11 v12 v13 v14) : Safe D c I (B.at (k0_part767 i) v1 v2 v3 v4 v5 v6 v7 v8 v9 v10 v11 v12 v13 v14) := by
  unfold k0_part767; repeat' with_reducible first|infer_instance|exact ld| apply allS| apply allP|intro _| apply seq| apply loop| apply alt| apply br
instance s768 (v1 v2 v3 v4 v5 v6 v7 v8 v9 v10 v11 v12 v13) : Safe D c I (B.at (k0_part768 i) v1 v2 v3 v4 v5 v6 v7 v8 v9 v10 v11 v12 v13) := by
  unfold k0_part768; repeat' with_reducible first|infer_instance|exact ld| apply allS| apply allP|intro _| apply seq| apply loop| apply alt| apply br
instance s769 (v1 v2 v3 v4 v5 v6 v7 v8 v9 v10) : Safe D c I (B.at (k0_part769 i) v1 v2 v3 v4 v5 v6 v7 v8 v9 v10) := by
  unfold k0_part769; repeat' with_reducible first|infer_instance|exact ld| apply allS| apply allP|intro _| apply seq| apply loop| apply alt| apply br
instance s770 (v1 v2 v3 v4 v5 v6 v7 v8 v9 v10) : Safe D c I (B.at (k0_part770 i) v1 v2 v3 v4 v5 v6 v7 v8 v9 v10) := by
  unfold k0_part770; repeat' with_reducible first|infer_instance|exact ld| apply allS| apply allP|intro _| apply seq| apply loop| apply alt| apply br
instance s771 (v1 v2 v3 v4 v5 v6 v7 v8 v9 v10) : Safe D c I (B.at (k0_part771 i) v1 v2 v3 v4 v5 v6 v7 v8 v9 v10) := by
  unfold k0_part771; repeat' with_reducible first|infer_instance|exact ld| apply allS| apply allP|intro _| apply seq| apply loop| apply alt| apply br
instance s772 (v1 v2 v3 v4 v5 v6 v7 v8 v9 v10) : Safe D c I (B.at (k0_part772 i) v1 v2 v3 v4 v5 v6 v7 v8 v9 v10) := by
  unfold k0_part772; repeat' with_reducible first|infer_instance|exact ld| apply allS| apply allP|intro _| apply seq| apply loop| apply alt| apply br
instance s773 (v1 v2 v3 v4 v5) : Safe D c I (B.at (k0_part773 i) v1 v2 v3 v4 v5) := by
  unfold k0_part773; repeat' with_reducible first|infer_instance|exact ld| apply allS| apply allP|intro _| apply seq| apply loop| apply alt| apply br
instance s774 (v1 v2 v3 v4 v5 v6 v7 v8 v9 v10 v11 v12 v13 v14 v15 v16 v17 v18 v19 v20 v21 v22 v23 v24 v25 v26 v27 v28 v29 v30 v31 v32 v33 v34 v35 v36 v37 v38) : Safe D c I (B.at (k0_part774 i) v1 v2 v3 v4 v5 v6 v7 v8 v9 v10 v11 v12 v13 v14 v15 v16 v17 v18 v19 v20 v21 v22 v23 v24 v25 v26 v27 v28 v29 v30 v31 v32 v33 v34 v35 v36 v37 v38) := by
  unfold k0_part774; repeat' with_reducible first|infer_instance|exact ld| apply allS| apply allP|intro _| apply seq| apply loop| apply alt| apply br
instance s775 (v1 v2 v3 v4 v5 v6 v7 v8 v9 v10 v11 v12 v13 v14 v15 v16 v17 v18 v19 v20 v21 v22 v23 v24 v25 v26 v27 v28 v29 v30 v31 v32 v33 v34 v35 v36 v37 v38 v39 v40 v41) : Safe D c I (B.at (k0_part775 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41) := by
  unfold k0_part775; repeat' with_reducible first|infer_instance|exact ld| apply allS| apply allP|intro _| apply seq| apply loop| apply alt| apply br
instance s776 (v1 v2 v3 v4 v5 v6 v7 v8 v9) : Safe D c I (B.at (k0_part776 i) v1 v2 v3 v4 v5 v6 v7 v8 v9) := by
  unfold k0_part776; repeat' with_reducible first|infer_instance|exact ld| apply allS| apply allP|intro _| apply seq| apply loop| apply alt| apply br
instance s777 (v1 v2 v3) : Safe D c I (B.at (k0_part777 i) v1 v2 v3) := by
  unfold k0_part777; repeat' with_reducible first|infer_instance|exact ld| apply allS| apply allP|intro _| apply seq| apply loop| apply alt| apply br
instance s778 (v1 v2 v3) : Safe D c I (B.at (k0_part778 i) v1 v2 v3) := by
  unfold k0_part778; repeat' with_reducible first|infer_instance|exact ld| apply allS| apply allP|intro _| apply seq| apply loop| apply alt| apply br
instance s779 (v1 v2 v3 v4) : Safe D c I (B.at (k0_part779 i) v1 v2 v3 v4) := by
  unfold k0_part779; repeat' with_reducible first|infer_instance|exact ld| apply allS| apply allP|intro _| apply seq| apply loop| apply alt| apply br
instance s780 (v1 v2) : Safe D c I (B.at (k0_part780 i) v1 v2) := by
  unfold k0_part780; repeat' with_reducible first|infer_instance|exact ld| apply allS| apply allP|intro _| apply seq| apply loop| apply alt| apply br
instance s781 (v1 v2 v3 v4) : Safe D c I (B.at (k0_part781 i) v1 v2 v3 v4) := by
  unfold k0_part781; repeat' with_reducible first|infer_instance|exact ld| apply allS| apply allP|intro _| apply seq| apply loop| apply alt| apply br
instance s782 (v1 v2) : Safe D c I (B.at (k0_part782 i) v1 v2) := by
  unfold k0_part782; repeat' with_reducible first|infer_instance|exact ld| apply allS| apply allP|intro _| apply seq| apply loop| apply alt| apply br
instance s783 (v1 v2 v3 v4 v5 v6 v7 v8 v9 v10 v11 v12 v13 v14 v15 v16 v17 v18 v19 v20 v21 v22 v23 v24 v25 v26 v27 v28 v29 v30 v31 v32 v33) : Safe D c I (B.at (k0_part783 i) v1 v2 v3 v4 v5 v6 v7 v8 v9 v10 v11 v12 v13 v14 v15 v16 v17 v18 v19 v20 v21 v22 v23 v24 v25 v26 v27 v28 v29 v30 v31 v32 v33) := by
  unfold k0_part783; repeat' with_reducible first|infer_instance|exact ld| apply allS| apply allP|intro _| apply seq| apply loop| apply alt| apply br
instance s784 (v1 v2 v3 v4 v5 v6) : Safe D c I (B.at (k0_part784 i) v1 v2 v3 v4 v5 v6) := by
  unfold k0_part784; repeat' with_reducible first|infer_instance|exact ld| apply allS| apply allP|intro _| apply seq| apply loop| apply alt| apply br
instance s785 (v1 v2 v3) : Safe D c I (B.at (k0_part785 i) v1 v2 v3) := by
  unfold k0_part785; repeat' with_reducible first|infer_instance|exact ld| apply allS| apply allP|intro _| apply seq| apply loop| apply alt| apply br
instance s786 (v1 v2 v3 v4) : Safe D c I (B.at (k0_part786 i) v1 v2 v3 v4) := by
  unfold k0_part786; repeat' with_reducible first|infer_instance|exact ld| apply allS| apply allP|intro _| apply seq| apply loop| apply alt| apply br
instance s787 (v1 v2) : Safe D c I (B.at (k0_part787 i) v1 v2) := by
  unfold k0_part787; repeat' with_reducible first|infer_instance|exact ld| apply allS| apply allP|intro _| apply seq| apply loop| apply alt| apply br
instance s788 (v1 v2 v3 v4) : Safe D c I (B.at (k0_part788 i) v1 v2 v3 v4) := by
  unfold k0_part788; repeat' with_reducible first|infer_instance|exact ld| apply allS| apply allP|intro _| apply seq| apply loop| apply alt| apply br
instance s789 (v1 v2) : Safe D c I (B.at (k0_part789 i) v1 v2) := by
  unfold k0_part789; repeat' with_reducible first|infer_instance|exact ld| apply allS| apply allP|intro _| apply seq| apply loop| apply alt| apply br
instance s790 (v1 v2 v3 v4 v5 v6 v7 v8 v9 v10 v11 v12 v13 v14 v15 v16 v17 v18 v19 v20 v21 v22 v23 v24 v25 v26 v27 v28 v29 v30 v31 v32 v33 v34) : Safe D c I (B.at (k0_part790 i) v1 v2 v3 v4 v5 v6 v7 v8 v9 v10 v11 v12 v13 v14 v15 v16 v17 v18 v19 v20 v21 v22 v23 v24 v25 v26 v27 v28 v29 v30 v31 v32 v33 v34) := by
  unfold k0_part790; repeat' with_reducible first|infer_instance|exact ld| apply allS| apply allP|intro _| apply seq| apply loop| apply alt| apply br
instance s791 (v1 v2 v3 v4 v5 v6 v7 v8) : Safe D c I (B.at (k0_part791 i) v1 v2 v3 v4 v5 v6 v7 v8) := by
  unfold k0_part791; repeat' with_reducible first|infer_instance|exact ld| apply allS| apply allP|intro _| apply seq| apply loop| apply alt| apply br
instance s792 (v1 v2 v3 v4 v5 v6) : Safe D c I (B.at (k0_part792 i) v1 v2 v3 v4 v5 v6) := by
  unfold k0_part792; repeat' with_reducible first|infer_instance|exact ld| apply allS| apply allP|intro _| apply seq| apply loop| apply alt| apply br
instance s793 (v1 v2) : Safe D c I (B.at (k0_part793 i) v1 v2) := by
  unfold k0_part793; repeat' with_reducible first|infer_instance|exact ld| apply allS| apply allP|intro _| apply seq| apply loop| apply alt| apply br
instance s794 (v1) : Safe D c I (B.at (k0_part794 i) v1) := by
  unfold k0_part794; repeat' with_reducible first|infer_instance|exact ld| apply allS| apply allP|intro _| apply seq| apply loop| apply alt| apply br
instance s795 (v1 v2 v3) : Safe D c I (B.at (k0_part795 i) v1 v2 v3) := by
  unfold k0_part795; repeat' with_reducible first|infer_instance|exact ld| apply allS| apply allP|intro _| apply seq| apply loop| apply alt| apply br
instance s796 (v1 v2 v3 v4) : Safe D c I (B.at (k0_part796 i) v1 v2 v3 v4) := by
  unfold k0_part796; repeat' with_reducible first|infer_instance|exact ld| apply allS| apply allP|intro _| apply seq| apply loop| apply alt| apply br
instance s797 (v1 v2 v3) : Safe D c I (B.at (k0_part797 i) v1 v2 v3) := by
  unfold k0_part797; repeat' with_reducible first|infer_instance|exact ld| apply allS| apply allP|intro _| apply seq| apply loop| apply alt| apply br
instance s798 (v1 v2 v3 v4 v5 v6 v7 v8 v9 v10 v11 v12 v13 v14 v15 v16 v17 v18 v19 v20 v21 v22 v23 v24 v25 v26 v27 v28 v29 v30 v31 v32 v33 v34) : Safe D c I (B.at (k0_part798 i) v1 v2 v3 v4 v5 v6 v7 v8 v9 v10 v11 v12 v13 v14 v15 v16 v17 v18 v19 v20 v21 v22 v23 v24 v25 v26 v27 v28 v29 v30 v31 v32 v33 v34) := by
  unfold k0_part798; repeat' with_reducible first|infer_instance|exact ld| apply allS| apply allP|intro _| apply seq| apply loop| apply alt| apply br
instance s799 (v1 v2 v3 v4 v5) : Safe D c I (B.at (k0_part799 i) v1 v2 v3 v4 v5) := by
  unfold k0_part799; repeat' with_reducible first|infer_instance|exact ld| apply allS| apply allP|intro _| apply seq| apply loop| apply alt| apply br
instance s800 (v1 v2) : Safe D c I (B.at (k0_part800 i) v1 v2) := by
  unfold k0_part800; repeat' with_reducible first|infer_instance|exact ld| apply allS| apply allP|intro _| apply seq| apply loop| apply alt| apply br
instance s801 (v1) : Safe D c I (B.at (k0_part801 i) v1) := by
  unfold k0_part801; repeat' with_reducible first|infer_instance|exact ld| apply allS| apply allP|intro _| apply seq| apply loop| apply alt| apply br
instance s802 (v1 v2 v3) : Safe D c I (B.at (k0_part802 i) v1 v2 v3) := by
  unfold k0_part802; repeat' with_reducible first|infer_instance|exact ld| apply allS| apply allP|intro _| apply seq| apply loop| apply alt| apply br
instance s803 (v1 v2 v3 v4) : Safe D c I (B.at (k0_part803 i) v1 v2 v3 v4) := by
  unfold k0_part803; repeat' with_reducible first|infer_instance|exact ld| apply allS| apply allP|intro _| apply seq| apply loop| apply alt| apply br
instance s804 (v1 v2 v3) : Safe D c I (B.at (k0_part804 i) v1 v2 v3) := by
  unfold k0_part804; repeat' with_reducible first|infer_instance|exact ld| apply allS| apply allP|intro _| apply seq| apply loop| apply alt| apply br
instance s805 (v1 v2 v3 v4 v5 v6 v7 v8 v9 v10 v11 v12 v13 v14 v15 v16 v17 v18 v19 v20 v21 v22 v23 v24 v25 v26 v27 v28 v29 v30 v31 v32 v33 v34 v35) : Safe D c I (B.at (k0_part805 i) v1 v2 v3 v4 v5 v6 v7 v8 v9 v10 v11 v12 v13 v14 v15 v16 v17 v18 v19 v20 v21 v22 v23 v24 v25 v26 v27 v28 v29 v30 v31 v32 v33 v34 v35) := by
  unfold k0_part805; repeat' with_reducible first|infer_instance|exact ld| apply allS| apply allP|intro _| apply seq| apply loop| apply alt| apply br
instance s806 (v1 v2 v3 v4 v5 v6 v7) : Safe D c I (B.at (k0_part806 i) v1 v2 v3 v4 v5 v6 v7) := by
  unfold k0_part806; repeat' with_reducible first|infer_instance|exact ld| apply allS| apply allP|intro _| apply seq| apply loop| apply alt| apply br
instance s807 (v1 v2 v3 v4 v5 v6 v7 v8) : Safe D c I (B.at (k0_part807 i) v1 v2 v3 v4 v5 v6 v7 v8) := by
  unfold k0_part807; repeat' with_reducible first|infer_instance|exact ld| apply allS| apply allP|intro _| apply seq| apply loop| apply alt| apply br
instance s808 (v1 v2 v3) : Safe D c I (B.at (k0_part808 i) v1 v2 v3) := by
  unfold k0_part808; repeat' with_reducible first|infer_instance|exact ld| apply allS| apply allP|intro _| apply seq| apply loop| apply alt| apply br
instance s809 (v1 v2 v3 v4) : Safe D c I (B.at (k0_part809 i) v1 v2 v3 v4) := by
  unfold k0_part809; repeat' with_reducible first|infer_instance|exact ld| apply allS| apply allP|intro _| apply seq| apply loop| apply alt| apply br
instance s810 (v1 v2) : Safe D c I (B.at (k0_part810 i) v1 v2) := by
  unfold k0_part810; repeat' with_reducible first|infer_instance|exact ld| apply allS| apply allP|intro _| apply seq| apply loop| apply alt| apply br
instance s811 (v1 v2 v3 v4 v5 v6 v7 v8 v9 v10 v11 v12 v13) : Safe D c I (B.at (k0_part811 i) v1 v2 v3 v4 v5 v6 v7 v8 v9 v10 v11 v12 v13) := by
  unfold k0_part811; repeat' with_reducible first|infer_instance|exact ld| apply allS| apply allP|intro _| apply seq| apply loop| apply alt| apply br
instance s812 (v1 v2 v3 v4 v5 v6 v7 v8 v9 v10 v11 v12 v13) : Safe D c I (B.at (k0_part812 i) v1 v2 v3 v4 v5 v6 v7 v8 v9 v10 v11 v12 v13) := by
  unfold k0_part812; repeat' with_reducible first|infer_instance|exact ld| apply allS| apply allP|intro _| apply seq| apply loop| apply alt| apply br
instance s813 (v1 v2 v3 v4 v5 v6 v7 v8 v9 v10 v11 v12 v13) : Safe D c I (B.at (k0_part813 i) v1 v2 v3 v4 v5 v6 v7 v8 v9 v10 v11 v12 v13) := by
  unfold k0_part813; repeat' with_reducible first|infer_instance|exact ld| apply allS| apply allP|intro _| apply seq| apply loop| apply alt| apply br
instance s814 (v1 v2 v3 v4 v5 v6 v7 v8 v9 v10 v11 v12 v13) : Safe D c I (B.at (k0_part814 i) v1 v2 v3 v4 v5 v6 v7 v8 v9 v10 v11 v12 v13) := by
  unfold k0_part814; repeat' with_reducible first|infer_instance|exact ld| apply allS| apply allP|intro _| apply seq| apply loop| apply alt| apply br
instance s815 (v1 v2 v3 v4 v5 v6 v7 v8 v9 v10 v11 v12 v13) : Safe D c I (B.at (k0_part815 i) v1 v2 v3 v4 v5 v6 v7 v8 v9 v10 v11 v12 v13) := by
  unfold k0_part815; repeat' with_reducible first|infer_instance|exact ld| apply allS| apply allP|intro _| apply seq| apply loop| apply alt| apply br
instance s816 (v1 v2 v3 v4 v5 v6 v7 v8 v9 v10 v11 v12 v13) : Safe D c I (B.at (k0_part816 i) v1 v2 v3 v4 v5 v6 v7 v8 v9 v10 v11 v12 v13) := by
  unfold k0_part816; repeat' with_reducible first|infer_instance|exact ld| apply allS| apply allP|intro _| apply seq| apply loop| apply alt| apply br
instance s817 (v1 v2 v3 v4 v5 v6 v7 v8 v9 v10 v11 v12 v13) : Safe D c I (B.at (k0_part817 i) v1 v2 v3 v4 v5 v6 v7 v8 v9 v10 v11 v12 v13) := by
  unfold k0_part817; repeat' with_reducible first|infer_instance|exact ld| apply allS| apply allP|intro _| apply seq| apply loop| apply alt| apply br
instance s818 (v1 v2 v3 v4 v5 v6 v7 v8 v9 v10 v11 v12 v13) : Safe D c I (B.at (k0_part818 i) v1 v2 v3 v4 v5 v6 v7 v8 v9 v10 v11 v12 v13) := by
  unfold k0_part818; repeat' with_reducible first|infer_instance|exact ld| apply allS| apply allP|intro _| apply seq| apply loop| apply alt| apply br
instance s819 (v1 v2 v3 v4 v5 v6 v7 v8 v9 v10 v11 v12 v13) : Safe D c I (B.at (k0_part819 i) v1 v2 v3 v4 v5 v6 v7 v8 v9 v10 v11 v12 v13) := by
  unfold k0_part819; repeat' with_reducible first|infer_instance|exact ld| apply allS| apply allP|intro _| apply seq| apply loop| apply alt| apply br
instance s820 (v1 v2 v3 v4 v5 v6 v7 v8 v9 v10 v11 v12 v13) : Safe D c I (B.at (k0_part820 i) v1 v2 v3 v4 v5 v6 v7 v8 v9 v10 v11 v12 v13) := by
  unfold k0_part820; repeat' with_reducible first|infer_instance|exact ld| apply allS| apply allP|intro _| apply seq| apply loop| apply alt| apply br
instance s821 (v1 v2 v3 v4 v5 v6 v7 v8 v9 v10 v11 v12 v13) : Safe D c I (B.at (k0_part821 i) v1 v2 v3 v4 v5 v6 v7 v8 v9 v10 v11 v12 v13) := by
  unfold k0_part821; repeat' with_reducible first|infer_instance|exact ld| apply allS| apply allP|intro _| apply seq| apply loop| apply alt| apply br
instance s822 (v1 v2 v3 v4 v5 v6 v7 v8 v9 v10 v11 v12 v13) : Safe D c I (B.at (k0_part822 i) v1 v2 v3 v4 v5 v6 v7 v8 v9 v10 v11 v12 v13) := by
  unfold k0_part822; repeat' with_reducible first|infer_instance|exact ld| apply allS| apply allP|intro _| apply seq| apply loop| apply alt| apply br
instance s823 (v1 v2 v3 v4 v5 v6 v7 v8 v9 v10 v11 v12 v13) : Safe D c I (B.at (k0_part823 i) v1 v2 v3 v4 v5 v6 v7 v8 v9 v10 v11 v12 v13) := by
  unfold k0_part823; repeat' with_reducible first|infer_instance|exact ld| apply allS| apply allP|intro _| apply seq| apply loop| apply alt| apply br
instance s824 (v1 v2 v3 v4 v5 v6 v7 v8 v9 v10 v11 v12 v13) : Safe D c I (B.at (k0_part824 i) v1 v2 v3 v4 v5 v6 v7 v8 v9 v10 v11 v12 v13) := by
  unfold k0_part824; repeat' with_reducible first|infer_instance|exact ld| apply allS| apply allP|intro _| apply seq| apply loop| apply alt| apply br
instance s825 (v1 v2 v3 v4 v5 v6 v7 v8 v9 v10 v11 v12 v13) : Safe D c I (B.at (k0_part825 i) v1 v2 v3 v4 v5 v6 v7 v8 v9 v10 v11 v12 v13) := by
  unfold k0_part825; repeat' with_reducible first|infer_instance|exact ld| apply allS| apply allP|intro _| apply seq| apply loop| apply alt| apply br
instance s826 (v1 v2 v3 v4 v5 v6 v7 v8 v9 v10 v11 v12 v13 v14 v15) : Safe D c I (B.at (k0_part826 i) v1 v2 v3 v4 v5 v6 v7 v8 v9 v10 v11 v12 v13 v14 v15) := by
  unfold k0_part826; repeat' with_reducible first|infer_instance|exact ld| apply allS| apply allP|intro _| apply seq| apply loop| apply alt| apply br
instance s827 (v1 v2 v3 v4 v5 v6 v7 v8 v9 v10) : Safe D c I (B.at (k0_part827 i) v1 v2 v3 v4 v5 v6 v7 v8 v9 v10) := by
  unfold k0_part827; repeat' with_reducible first|infer_instance|exact ld| apply allS| apply allP|intro _| apply seq| apply loop| apply alt| apply br
instance s828 (v1 v2 v3 v4 v5 v6 v7 v8 v9 v10) : Safe D c I (B.at (k0_part828 i) v1 v2 v3 v4 v5 v6 v7 v8 v9 v10) := by
  unfold k0_part828; repeat' with_reducible first|infer_instance|exact ld| apply allS| apply allP|intro _| apply seq| apply loop| apply alt| apply br
instance s829 (v1 v2 v3 v4 v5 v6 v7 v8 v9 v10) : Safe D c I (B.at (k0_part829 i) v1 v2 v3 v4 v5 v6 v7 v8 v9 v10) := by
  unfold k0_part829; repeat' with_reducible first|infer_instance|exact ld| apply allS| apply allP|intro _| apply seq| apply loop| apply alt| apply br
instance s830 (v1 v2 v3 v4 v5 v6 v7 v8 v9 v10) : Safe D c I (B.at (k0_part830 i) v1 v2 v3 v4 v5 v6 v7 v8 v9 v10) := by
  unfold k0_part830; repeat' with_reducible first|infer_instance|exact ld| apply allS| apply allP|intro _| apply seq| apply loop| apply alt| apply br
instance s831 (v1 v2 v3 v4 v5 v6 v7 v8 v9 v10) : Safe D c I (B.at (k0_part831 i) v1 v2 v3 v4 v5 v6 v7 v8 v9 v10) := by
  unfold k0_part831; repeat' with_reducible first|infer_instance|exact ld| apply allS| apply allP|intro _| apply seq| apply loop| apply alt| apply br
instance s832 (v1 v2 v3) : Safe D c I (B.at (k0_part832 i) v1 v2 v3) := by
  unfold k0_part832; repeat' with_reducible first|infer_instance|exact ld| apply allS| apply allP|intro _| apply seq| apply loop| apply alt| apply br
instance s833 (v1 v2) : Safe D c I (B.at (k0_part833 i) v1 v2) := by
  unfold k0_part833; repeat' with_reducible first|infer_instance|exact ld| apply allS| apply allP|intro _| apply seq| apply loop| apply alt| apply br
instance s834 (v1 v2 v3 v4) : Safe D c I (B.at (k0_part834 i) v1 v2 v3 v4) := by
  unfold k0_part834; repeat' with_reducible first|infer_instance|exact ld| apply allS| apply allP|intro _| apply seq| apply loop| apply alt| apply br
instance s835 (v1 v2 v3 v4 v5 v6 v7 v8) : Safe D c I (B.at (k0_part835 i) v1 v2 v3 v4 v5 v6 v7 v8) := by
  unfold k0_part835; repeat' with_reducible first|infer_instance|exact ld| apply allS| apply allP|intro _| apply seq| apply loop| apply alt| apply br
instance s836 (v1 v2 v3 v4 v5 v6 v7 v8 v9 v10 v11 v12) : Safe D c I (B.at (k0_part836 i) v1 v2 v3 v4 v5 v6 v7 v8 v9 v10 v11 v12) := by
  unfold k0_part836; repeat' with_reducible first|infer_instance|exact ld| apply allS| apply allP|intro _| apply seq| apply loop| apply alt| apply br
instance s837 (v1 v2 v3 v4 v5 v6 v7 v8 v9 v10 v11 v12) : Safe D c I (B.at (k0_part837 i) v1 v2 v3 v4 v5 v6 v7 v8 v9 v10 v11 v12) := by
  unfold k0_part837; repeat' with_reducible first|infer_instance|exact ld| apply allS| apply allP|intro _| apply seq| apply loop| apply alt| apply br
instance s838 (v1 v2 v3 v4 v5 v6 v7 v8 v9 v10 v11 v12) : Safe D c I (B.at (k0_part838 i) v1 v2 v3 v4 v5 v6 v7 v8 v9 v10 v11 v12) := by
  unfold k0_part838; repeat' with_reducible first|infer_instance|exact ld| apply allS| apply allP|intro _| apply seq| apply loop| apply alt| apply br
instance s839 (v1 v2 v3 v4 v5 v6 v7 v8 v9 v10 v11 v12) : Safe D c I (B.at (k0_part839 i) v1 v2 v3 v4 v5 v6 v7 v8 v9 v10 v11 v12) := by
  unfold k0_part839; repeat' with_reducible first|infer_instance|exact ld| apply allS| apply allP|intro _| apply seq| apply loop| apply alt| apply br
instance s840 (v1 v2 v3 v4 v5 v6 v7 v8 v9 v10 v11 v12) : Safe D c I (B.at (k0_part840 i) v1 v2 v3 v4 v5 v6 v7 v8 v9 v10 v11 v12) := by
  unfold k0_part840; repeat' with_reducible first|infer_instance|exact ld| apply allS| apply allP|intro _| apply seq| apply loop| apply alt| apply br
instance s841 (v1 v2 v3 v4 v5 v6 v7 v8 v9 v10 v11 v12) : Safe D c I (B.at (k0_part841 i) v1 v2 v3 v4 v5 v6 v7 v8 v9 v10 v11 v12) := by
  unfold k0_part841; repeat' with_reducible first|infer_instance|exact ld| apply allS| apply allP|intro _| apply seq| apply loop| apply alt| apply br
instance s842 (v1 v2 v3 v4 v5 v6 v7 v8 v9 v10 v11 v12) : Safe D c I (B.at (k0_part842 i) v1 v2 v3 v4 v5 v6 v7 v8 v9 v10 v11 v12) := by
  unfold k0_part842; repeat' with_reducible first|infer_instance|exact ld| apply allS| apply allP|intro _| apply seq| apply loop| apply alt| apply br
instance s843 (v1 v2 v3 v4 v5 v6 v7 v8 v9 v10 v11 v12) : Safe D c I (B.at (k0_part843 i) v1 v2 v3 v4 v5 v6 v7 v8 v9 v10 v11 v12) := by
  unfold k0_part843; repeat' with_reducible first|infer_instance|exact ld| apply allS| apply allP|intro _| apply seq| apply loop| apply alt| apply br
instance s844 (v1 v2 v3 v4 v5 v6 v7 v8 v9 v10 v11 v12) : Safe D c I (B.at (k0_part844 i) v1 v2 v3 v4 v5 v6 v7 v8 v9 v10 v11 v12) := by
  unfold k0_part844; repeat' with_reducible first|infer_instance|exact ld| apply allS| apply allP|intro _| apply seq| apply loop| apply alt| apply br
instance s845 (v1 v2 v3 v4 v5 v6 v7 v8 v9 v10 v11 v12) : Safe D c I (B.at (k0_part845 i) v1 v2 v3 v4 v5 v6 v7 v8 v9 v10 v11 v12) := by
  unfold k0_part845; repeat' with_reducible first|infer_instance|exact ld| apply allS| apply allP|intro _| apply seq| apply loop| apply alt| apply br
instance s846 (v1 v2 v3 v4 v5 v6 v7 v8 v9 v10 v11 v12) : Safe D c I (B.at (k0_part846 i) v1 v2 v3 v4 v5 v6 v7 v8 v9 v10 v11 v12) := by
  unfold k0_part846; repeat' with_reducible first|infer_instance|exact ld| apply allS| apply allP|intro _| apply seq| apply loop| apply alt| apply br
instance s847 (v1 v2 v3 v4 v5 v6 v7 v8 v9 v10 v11 v12) : Safe D c I (B.at (k0_part847 i) v1 v2 v3 v4 v5 v6 v7 v8 v9 v10 v11 v12) := by
  unfold k0_part847; repeat' with_reducible first|infer_instance|exact ld| apply allS| apply allP|intro _| apply seq| apply loop| apply alt| apply br
instance s848 (v1 v2 v3 v4 v5 v6 v7 v8 v9 v10 v11 v12) : Safe D c I (B.at (k0_part848 i) v1 v2 v3 v4 v5 v6 v7 v8 v9 v10 v11 v12) := by
  unfold k0_part848; repeat' with_reducible first|infer_instance|exact ld| apply allS| apply allP|intro _| apply seq| apply loop| apply alt| apply br
instance s849 (v1 v2 v3 v4 v5 v6 v7 v8 v9 v10 v11 v12) : Safe D c I (B.at (k0_part849 i) v1 v2 v3 v4 v5 v6 v7 v8 v9 v10 v11 v12) := by
  unfold k0_part849; repeat' with_reducible first|infer_instance|exact ld| apply allS| apply allP|intro _| apply seq| apply loop| apply alt| apply br
instance s850 (v1 v2 v3 v4 v5 v6 v7 v8 v9 v10 v11 v12) : Safe D c I (B.at (k0_part850 i) v1 v2 v3 v4 v5 v6 v7 v8 v9 v10 v11 v12) := by
  unfold k0_part850; repeat' with_reducible first|infer_instance|exact ld| apply allS| apply allP|intro _| apply seq| apply loop| apply alt| apply br
instance s851 (v1 v2 v3 v4 v5 v6 v7 v8 v9 v10 v11 v12) : Safe D c I (B.at (k0_part851 i) v1 v2 v3 v4 v5 v6 v7 v8 v9 v10 v11 v12) := by
  unfold k0_part851; repeat' with_reducible first|infer_instance|exact ld| apply allS| apply allP|intro _| apply seq| apply loop| apply alt| apply br
instance s852 (v1 v2 v3 v4 v5 v6 v7 v8 v9 v10 v11) : Safe D c I (B.at (k0_part852 i) v1 v2 v3 v4 v5 v6 v7 v8 v9 v10 v11) := by
  unfold k0_part852; repeat' with_reducible first|infer_instance|exact ld| apply allS| apply allP|intro _| apply seq| apply loop| apply alt| apply br
instance s853 (v1 v2 v3 v4 v5 v6 v7 v8 v9 v10 v11) : Safe D c I (B.at (k0_part853 i) v1 v2 v3 v4 v5 v6 v7 v8 v9 v10 v11) := by
  unfold k0_part853; repeat' with_reducible first|infer_instance|exact ld| apply allS| apply allP|intro _| apply seq| apply loop| apply alt| apply br
instance s854 (v1 v2 v3 v4 v5 v6 v7 v8 v9 v10 v11) : Safe D c I (B.at (k0_part854 i) v1 v2 v3 v4 v5 v6 v7 v8 v9 v10 v11) := by
  unfold k0_part854; repeat' with_reducible first|infer_instance|exact ld| apply allS| apply allP|intro _| apply seq| apply loop| apply alt| apply br
instance s855 (v1 v2 v3 v4 v5 v6 v7 v8 v9 v10 v11) : Safe D c I (B.at (k0_part855 i) v1 v2 v3 v4 v5 v6 v7 v8 v9 v10 v11) := by
  unfold k0_part855; repeat' with_reducible first|infer_instance|exact ld| apply allS| apply allP|intro _| apply seq| apply loop| apply alt| apply br
instance s856 (v1 v2 v3 v4 v5 v6 v7 v8 v9 v10) : Safe D c I (B.at (k0_part856 i) v1 v2 v3 v4 v5 v6 v7 v8 v9 v10) := by
  unfold k0_part856; repeat' with_reducible first|infer_instance|exact ld| apply allS| apply allP|intro _| apply seq| apply loop| apply alt| apply br
instance s857 (v1 v2) : Safe D c I (B.at (k0_part857 i) v1 v2) := by
  unfold k0_part857; repeat' with_reducible first|infer_instance|exact ld| apply allS| apply allP|intro _| apply seq| apply loop| apply alt| apply br
instance s858 (v1 v2 v3 v4) : Safe D c I (B.at (k0_part858 i) v1 v2 v3 v4) := by
  unfold k0_part858; repeat' with_reducible first|infer_instance|exact ld| apply allS| apply allP|intro _| apply seq| apply loop| apply alt| apply br
instance s859 (v1 v2 v3) : Safe D c I (B.at (k0_part859 i) v1 v2 v3) := by
  unfold k0_part859; repeat' with_reducible first|infer_instance|exact ld| apply allS| apply allP|intro _| apply seq| apply loop| apply alt| apply br
instance s860 (v1 v2 v3 v4 v5 v6 v7 v8 v9 v10 v11) : Safe D c I (B.at (k0_part860 i) v1 v2 v3 v4 v5 v6 v7 v8 v9 v10 v11) := by
  unfold k0_part860; repeat' with_reducible first|infer_instance|exact ld| apply allS| apply allP|intro _| apply seq| apply loop| apply alt| apply br
instance s861 (v1 v2 v3 v4 v5 v6 v7 v8 v9 v10 v11) : Safe D c I (B.at (k0_part861 i) v1 v2 v3 v4 v5 v6 v7 v8 v9 v10 v11) := by
  unfold k0_part861; repeat' with_reducible first|infer_instance|exact ld| apply allS| apply allP|intro _| apply seq| apply loop| apply alt| apply br
instance s862 (v1 v2 v3 v4 v5 v6 v7 v8 v9 v10 v11) : Safe D c I (B.at (k0_part862 i) v1 v2 v3 v4 v5 v6 v7 v8 v9 v10 v11) := by
  unfold k0_part862; repeat' with_reducible first|infer_instance|exact ld| apply allS| apply allP|intro _| apply seq| apply loop| apply alt| apply br
instance s863 (v1 v2 v3 v4 v5 v6 v7 v8 v9 v10 v11) : Safe D c I (B.at (k0_part863 i) v1 v2 v3 v4 v5 v6 v7 v8 v9 v10 v11) := by
  unfold k0_part863; repeat' with_reducible first|infer_instance|exact ld| apply allS| apply allP|intro _| apply seq| apply loop| apply alt| apply br
instance s864 (v1 v2 v3 v4 v5 v6 v7 v8 v9 v10 v11) : Safe D c I (B.at (k0_part864 i) v1 v2 v3 v4 v5 v6 v7 v8 v9 v10 v11) := by
  unfold k0_part864; repeat' with_reducible first|infer_instance|exact ld| apply allS| apply allP|intro _| apply seq| apply loop| apply alt| apply br
instance s865 (v1 v2 v3 v4 v5 v6 v7 v8 v9 v10 v11) : Safe D c I (B.at (k0_part865 i) v1 v2 v3 v4 v5 v6 v7 v8 v9 v10 v11) := by
  unfold k0_part865; repeat' with_reducible first|infer_instance|exact ld| apply allS| apply allP|intro _| apply seq| apply loop| apply alt| apply br
instance s866 (v1 v2 v3 v4 v5 v6 v7 v8 v9 v10 v11) : Safe D c I (B.at (k0_part866 i) v1 v2 v3 v4 v5 v6 v7 v8 v9 v10 v11) := by
  unfold k0_part866; repeat' with_reducible first|infer_instance|exact ld| apply allS| apply allP|intro _| apply seq| apply loop| apply alt| apply br
instance s867 (v1 v2 v3 v4 v5 v6 v7 v8 v9 v10 v11) : Safe D c I (B.at (k0_part867 i) v1 v2 v3 v4 v5 v6 v7 v8 v9 v10 v11) := by
  unfold k0_part867; repeat' with_reducible first|infer_instance|exact ld| apply allS| apply allP|intro _| apply seq| apply loop| apply alt| apply br
instance s868 (v1 v2 v3 v4 v5 v6 v7 v8 v9 v10 v11) : Safe D c I (B.at (k0_part868 i) v1 v2 v3 v4 v5 v6 v7 v8 v9 v10 v11) := by
  unfold k0_part868; repeat' with_reducible first|infer_instance|exact ld| apply allS| apply allP|intro _| apply seq| apply loop| apply alt| apply br
instance s869 (v1 v2 v3 v4 v5 v6 v7 v8 v9 v10 v11) : Safe D c I (B.at (k0_part869 i) v1 v2 v3 v4 v5 v6 v7 v8 v9 v10 v11) := by
  unfold k0_part869; repeat' with_reducible first|infer_instance|exact ld| apply allS| apply allP|intro _| apply seq| apply loop| apply alt| apply br
instance s870 (v1 v2 v3 v4 v5 v6 v7 v8 v9 v10 v11) : Safe D c I (B.at (k0_part870 i) v1 v2 v3 v4 v5 v6 v7 v8 v9 v10 v11) := by
  unfold k0_part870; repeat' with_reducible first|infer_instance|exact ld| apply allS| apply allP|intro _| apply seq| apply loop| apply alt| apply br
instance s871 (v1 v2 v3 v4 v5 v6 v7 v8 v9 v10 v11) : Safe D c I (B.at (k0_part871 i) v1 v2 v3 v4 v5 v6 v7 v8 v9 v10 v11) := by
  unfold k0_part871; repeat' with_reducible first|infer_instance|exact ld| apply allS| apply allP|intro _| apply seq| apply loop| apply alt| apply br
instance s872 (v1 v2 v3 v4 v5 v6 v7 v8 v9 v10 v11) : Safe D c I (B.at (k0_part872 i) v1 v2 v3 v4 v5 v6 v7 v8 v9 v10 v11) := by
  unfold k0_part872; repeat' with_reducible first|infer_instance|exact ld| apply allS| apply allP|intro _| apply seq| apply loop| apply alt| apply br
instance s873 (v1 v2 v3 v4 v5 v6 v7 v8 v9 v10 v11) : Safe D c I (B.at (k0_part873 i) v1 v2 v3 v4 v5 v6 v7 v8 v9 v10 v11) := by
  unfold k0_part873; repeat' with_reducible first|infer_instance|exact ld| apply allS| apply allP|intro _| apply seq| apply loop| apply alt| apply br
instance s874 (v1 v2 v3 v4 v5 v6 v7 v8 v9 v10 v11) : Safe D c I (B.at (k0_part874 i) v1 v2 v3 v4 v5 v6 v7 v8 v9 v10 v11) := by
  unfold k0_part874; repeat' with_reducible first|infer_instance|exact ld| apply allS| apply allP|intro _| apply seq| apply loop| apply alt| apply br
instance s875 (v1 v2 v3 v4 v5 v6 v7 v8 v9 v10 v11 v12 v13 v14) : Safe D c I (B.at (k0_part875 i) v1 v2 v3 v4 v5 v6 v7 v8 v9 v10 v11 v12 v13 v14) := by
  unfold k0_part875; repeat' with_reducible first|infer_instance|exact ld| apply allS| apply allP|intro _| apply seq| apply loop| apply alt| apply br
instance s876 (v1 v2 v3 v4 v5 v6 v7 v8 v9 v10) : Safe D c I (B.at (k0_part876 i) v1 v2 v3 v4 v5 v6 v7 v8 v9 v10) := by
  unfold k0_part876; repeat' with_reducible first|infer_instance|exact ld| apply allS| apply allP|intro _| apply seq| apply loop| apply alt| apply br
instance s877 (v1 v2 v3 v4 v5 v6 v7 v8 v9 v10) : Safe D c I (B.at (k0_part877 i) v1 v2 v3 v4 v5 v6 v7 v8 v9 v10) := by
  unfold k0_part877; repeat' with_reducible first|infer_instance|exact ld| apply allS| apply allP|intro _| apply seq| apply loop| apply alt| apply br
instance s878 (v1 v2 v3 v4 v5 v6 v7 v8 v9 v10) : Safe D c I (B.at (k0_part878 i) v1 v2 v3 v4 v5 v6 v7 v8 v9 v10) := by
  unfold k0_part878; repeat' with_reducible first|infer_instance|exact ld| apply allS| apply allP|intro _| apply seq| apply loop| apply alt| apply br
instance s879 (v1 v2 v3 v4 v5 v6 v7 v8 v9 v10) : Safe D c I (B.at (k0_part879 i) v1 v2 v3 v4 v5 v6 v7 v8 v9 v10) := by
  unfold k0_part879; repeat' with_reducible first|infer_instance|exact ld| apply allS| apply allP|intro _| apply seq| apply loop| apply alt| apply br
instance s880 (v1 v2 v3 v4 v5 v6 v7 v8 v9 v10) : Safe D c I (B.at (k0_part880 i) v1 v2 v3 v4 v5 v6 v7 v8 v9 v10) := by
  unfold k0_part880; repeat' with_reducible first|infer_instance|exact ld| apply allS| apply allP|intro _| apply seq| apply loop| apply alt| apply br
instance s881 (v1 v2 v3 v4) : Safe D c I (B.at (k0_part881 i) v1 v2 v3 v4) := by
  unfold k0_part881; repeat' with_reducible first|infer_instance|exact ld| apply allS| apply allP|intro _| apply seq| apply loop| apply alt| apply br
instance s882 (v1 v2 v3) : Safe D c I (B.at (k0_part882 i) v1 v2 v3) := by
  unfold k0_part882; repeat' with_reducible first|infer_instance|exact ld| apply allS| apply allP|intro _| apply seq| apply loop| apply alt| apply br
instance s883 (v1 v2 v3 v4) : Safe D c I (B.at (k0_part883 i) v1 v2 v3 v4) := by
  unfold k0_part883; repeat' with_reducible first|infer_instance|exact ld| apply allS| apply allP|intro _| apply seq| apply loop| apply alt| apply br
instance s884 (v1 v2 v3 v4) : Safe D c I (B.at (k0_part884 i) v1 v2 v3 v4) := by
  unfold k0_part884; repeat' with_reducible first|infer_instance|exact ld| apply allS| apply allP|intro _| apply seq| apply loop| apply alt| apply br
instance s885 (v1 v2 v3 v4 v5 v6 v7 v8 v9 v10 v11 v12) : Safe D c I (B.at (k0_part885 i) v1 v2 v3 v4 v5 v6 v7 v8 v9 v10 v11 v12) := by
  unfold k0_part885; repeat' with_reducible first|infer_instance|exact ld| apply allS| apply allP|intro _| apply seq| apply loop| apply alt| apply br
instance s886 (v1 v2 v3 v4 v5 v6 v7 v8 v9 v10 v11 v12) : Safe D c I (B.at (k0_part886 i) v1 v2 v3 v4 v5 v6 v7 v8 v9 v10 v11 v12) := by
  unfold k0_part886; repeat' with_reducible first|infer_instance|exact ld| apply allS| apply allP|intro _| apply seq| apply loop| apply alt| apply br
instance s887 (v1 v2 v3 v4 v5 v6 v7 v8 v9 v10 v11 v12) : Safe D c I (B.at (k0_part887 i) v1 v2 v3 v4 v5 v6 v7 v8 v9 v10 v11 v12) := by
  unfold k0_part887; repeat' with_reducible first|infer_instance|exact ld| apply allS| apply allP|intro _| apply seq| apply loop| apply alt| apply br
instance s888 (v1 v2 v3 v4 v5 v6 v7 v8 v9 v10 v11 v12) : Safe D c I (B.at (k0_part888 i) v1 v2 v3 v4 v5 v6 v7 v8 v9 v10 v11 v12) := by
  unfold k0_part888; repeat' with_reducible first|infer_instance|exact ld| apply allS| apply allP|intro _| apply seq| apply loop| apply alt| apply br
instance s889 (v1 v2 v3 v4 v5 v6 v7 v8 v9 v10 v11 v12) : Safe D c I (B.at (k0_part889 i) v1 v2 v3 v4 v5 v6 v7 v8 v9 v10 v11 v12) := by
  unfold k0_part889; repeat' with_reducible first|infer_instance|exact ld| apply allS| apply allP|intro _| apply seq| apply loop| apply alt| apply br
instance s890 (v1 v2 v3 v4 v5 v6 v7 v8 v9 v10 v11 v12) : Safe D c I (B.at (k0_part890 i) v1 v2 v3 v4 v5 v6 v7 v8 v9 v10 v11 v12) := by
  unfold k0_part890; repeat' with_reducible first|infer_instance|exact ld| apply allS| apply allP|intro _| apply seq| apply loop| apply alt| apply br
instance s891 (v1 v2 v3 v4 v5 v6 v7 v8 v9 v10 v11 v12) : Safe D c I (B.at (k0_part891 i) v1 v2 v3 v4 v5 v6 v7 v8 v9 v10 v11 v12) := by
  unfold k0_part891; repeat' with_reducible first|infer_instance|exact ld| apply allS| apply allP|intro _| apply seq| apply loop| apply alt| apply br
instance s892 (v1 v2 v3 v4 v5 v6 v7 v8 v9 v10 v11 v12) : Safe D c I (B.at (k0_part892 i) v1 v2 v3 v4 v5 v6 v7 v8 v9 v10 v11 v12) := by
  unfold k0_part892; repeat' with_reducible first|infer_instance|exact ld| apply allS| apply allP|intro _| apply seq| apply loop| apply alt| apply br
instance s893 (v1 v2 v3 v4 v5 v6 v7 v8 v9 v10 v11 v12) : Safe D c I (B.at (k0_part893 i) v1 v2 v3 v4 v5 v6 v7 v8 v9 v10 v11 v12) := by
  unfold k0_part893; repeat' with_reducible first|infer_instance|exact ld| apply allS| apply allP|intro _| apply seq| apply loop| apply alt| apply br
instance s894 (v1 v2 v3 v4 v5 v6 v7 v8 v9 v10 v11 v12) : Safe D c I (B.at (k0_part894 i) v1 v2 v3 v4 v5 v6 v7 v8 v9 v10 v11 v12) := by
  unfold k0_part894; repeat' with_reducible first|infer_instance|exact ld| apply allS| apply allP|intro _| apply seq| apply loop| apply alt| apply br
instance s895 (v1 v2 v3 v4 v5 v6 v7 v8 v9 v10 v11 v12) : Safe D c I (B.at (k0_part895 i) v1 v2 v3 v4 v5 v6 v7 v8 v9 v10 v11 v12) := by
  unfold k0_part895; repeat' with_reducible first|infer_instance|exact ld| apply allS| apply allP|intro _| apply seq| apply loop| apply alt| apply br
instance s896 (v1 v2 v3 v4 v5 v6 v7 v8 v9 v10 v11 v12) : Safe D c I (B.at (k0_part896 i) v1 v2 v3 v4 v5 v6 v7 v8 v9 v10 v11 v12) := by
  unfold k0_part896; repeat' with_reducible first|infer_instance|exact ld| apply allS| apply allP|intro _| apply seq| apply loop| apply alt| apply br
end Cert.Proof.Attn

end
-- ==== Proof.Attn.S07.lean ====
/-
  Parts k0_part897 to k0_part1069 of the kernel's body keep the buffers they are given: one fact per part, in the order of the printed
  program, each by walking the part's statements.
-/
module

public import proofs.«01_k».proof.Kernel.P07
public import proofs.«01_k».proof.Proof.Attn.S06

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s897 (v1 v2 v3 v4 v5 v6 v7 v8 v9 v10 v11 v12) : Safe D c I (B.at (k0_part897 i) v1 v2 v3 v4 v5 v6 v7 v8 v9 v10 v11 v12) := by
  unfold k0_part897; repeat' with_reducible first|infer_instance|exact ld| apply allS| apply allP|intro _| apply seq| apply loop| apply alt| apply br
instance s898 (v1 v2 v3 v4 v5 v6 v7 v8 v9 v10 v11 v12) : Safe D c I (B.at (k0_part898 i) v1 v2 v3 v4 v5 v6 v7 v8 v9 v10 v11 v12) := by
  unfold k0_part898; repeat' with_reducible first|infer_instance|exact ld| apply allS| apply allP|intro _| apply seq| apply loop| apply alt| apply br
instance s899 (v1 v2 v3 v4 v5 v6 v7 v8 v9 v10 v11 v12) : Safe D c I (B.at (k0_part899 i) v1 v2 v3 v4 v5 v6 v7 v8 v9 v10 v11 v12) := by
  unfold k0_part899; repeat' with_reducible first|infer_instance|exact ld| apply allS| apply allP|intro _| apply seq| apply loop| apply alt| apply br
instance s900 (v1 v2 v3 v4 v5 v6 v7 v8 v9 v10 v11 v12 v13) : Safe D c I (B.at (k0_part900 i) v1 v2 v3 v4 v5 v6 v7 v8 v9 v10 v11 v12 v13) := by
  unfold k0_part900; repeat' with_reducible first|infer_instance|exact ld| apply allS| apply allP|intro _| apply seq| apply loop| apply alt| apply br
instance s901 (v1 v2 v3 v4 v5 v6 v7 v8 v9 v10 v11) : Safe D c I (B.at (k0_part901 i) v1 v2 v3 v4 v5 v6 v7 v8 v9 v10 v11) := by
  unfold k0_part901; repeat' with_reducible first|infer_instance|exact ld| apply allS| apply allP|intro _| apply seq| apply loop| apply alt| apply br
instance s902 (v1 v2 v3 v4 v5 v6 v7 v8 v9 v10 v11) : Safe D c I (B.at (k0_part902 i) v1 v2 v3 v4 v5 v6 v7 v8 v9 v10 v11) := by
  unfold k0_part902; repeat' with_reducible first|infer_instance|exact ld| apply allS| apply allP|intro _| apply seq| apply loop| apply alt| apply br
instance s903 (v1 v2 v3 v4 v5 v6 v7 v8 v9 v10 v11) : Safe D c I (B.at (k0_part903 i) v1 v2 v3 v4 v5 v6 v7 v8 v9 v10 v11) := by
  unfold k0_part903; repeat' with_reducible first|infer_instance|exact ld| apply allS| apply allP|intro _| apply seq| apply loop| apply alt| apply br
instance s904 (v1 v2 v3 v4 v5 v6 v7 v8 v9 v10 v11) : Safe D c I (B.at (k0_part904 i) v1 v2 v3 v4 v5 v6 v7 v8 v9 v10 v11) := by
  unfold k0_part904; repeat' with_reducible first|infer_instance|exact ld| apply allS| apply allP|intro _| apply seq| apply loop| apply alt| apply br
instance s905 (v1 v2 v3 v4) : Safe D c I (B.at (k0_part905 i) v1 v2 v3 v4) := by
  unfold k0_part905; repeat' with_reducible first|infer_instance|exact ld| apply allS| apply allP|intro _| apply seq| apply loop| apply alt| apply br
instance s906 (v1 v2 v3 v4 v5 v6 v7 v8 v9 v10 v11 v12 v13 v14 v15 v16 v17 v18 v19 v20 v21 v22 v23 v24 v25 v26 v27 v28 v29 v30 v31 v32 v33 v34 v35 v36 v37 v38) : Safe D c I (B.at (k0_part906 i) v1 v2 v3 v4 v5 v6 v7 v8 v9 v10 v11 v12 v13 v14 v15 v16 v17 v18 v19 v20 v21 v22 v23 v24 v25 v26 v27 v28 v29 v30 v31 v32 v33 v34 v35 v36 v37 v38) := by
  unfold k0_part906; repeat' with_reducible first|infer_instance|exact ld| apply allS| apply allP|intro _| apply seq| apply loop| apply alt| apply br
instance s907 (v1 v2 v3 v4) : Safe D c I (B.at (k0_part907 i) v1 v2 v3 v4) := by
  unfold k0_part907; repeat' with_reducible first|infer_instance|exact ld| apply allS| apply allP|intro _| apply seq| apply loop| apply alt| apply br
instance s908 (v1 v2 v3) : Safe D c I (B.at (k0_part908 i) v1 v2 v3) := by
  unfold k0_part908; repeat' with_reducible first|infer_instance|exact ld| apply allS| apply allP|intro _| apply seq| apply loop| apply alt| apply br
instance s909 (v1 v2 v3) : Safe D c I (B.at (k0_part909 i) v1 v2 v3) := by
  unfold k0_part909; repeat' with_reducible first|infer_instance|exact ld| apply allS| apply allP|intro _| apply seq| apply loop| apply alt| apply br
instance s910 (v1 v2 v3 v4) : Safe D c I (B.at (k0_part910 i) v1 v2 v3 v4) := by
  unfold k0_part910; repeat' with_reducible first|infer_instance|exact ld| apply allS| apply allP|intro _| apply seq| apply loop| apply alt| apply br
instance s911 (v1 v2 v3 v4) : Safe D c I (B.at (k0_part911 i) v1 v2 v3 v4) := by
  unfold k0_part911; repeat' with_reducible first|infer_instance|exact ld| apply allS| apply allP|intro _| apply seq| apply loop| apply alt| apply br
instance s912 (v1 v2 v3 v4 v5 v6 v7 v8 v9 v10 v11) : Safe D c I (B.at (k0_part912 i) v1 v2 v3 v4 v5 v6 v7 v8 v9 v10 v11) := by
  unfold k0_part912; repeat' with_reducible first|infer_instance|exact ld| apply allS| apply allP|intro _| apply seq| apply loop| apply alt| apply br
instance s913 (v1 v2 v3 v4 v5 v6 v7 v8 v9 v10 v11) : Safe D c I (B.at (k0_part913 i) v1 v2 v3 v4 v5 v6 v7 v8 v9 v10 v11) := by
  unfold k0_part913; repeat' with_reducible first|infer_instance|exact ld| apply allS| apply allP|intro _| apply seq| apply loop| apply alt| apply br
instance s914 (v1 v2 v3 v4 v5 v6 v7 v8 v9 v10 v11) : Safe D c I (B.at (k0_part914 i) v1 v2 v3 v4 v5 v6 v7 v8 v9 v10 v11) := by
  unfold k0_part914; repeat' with_reducible first|infer_instance|exact ld| apply allS| apply allP|intro _| apply seq| apply loop| apply alt| apply br
instance s915 (v1 v2 v3 v4 v5 v6 v7 v8 v9 v10 v11) : Safe D c I (B.at (k0_part915 i) v1 v2 v3 v4 v5 v6 v7 v8 v9 v10 v11) := by
  unfold k0_part915; repeat' with_reducible first|infer_instance|exact ld| apply allS| apply allP|intro _| apply seq| apply loop| apply alt| apply br
instance s916 (v1 v2 v3 v4 v5 v6 v7 v8 v9 v10 v11) : Safe D c I (B.at (k0_part916 i) v1 v2 v3 v4 v5 v6 v7 v8 v9 v10 v11) := by
  unfold k0_part916; repeat' with_reducible first|infer_instance|exact ld| apply allS| apply allP|intro _| apply seq| apply loop| apply alt| apply br
instance s917 (v1 v2 v3 v4 v5 v6 v7 v8 v9 v10 v11) : Safe D c I (B.at (k0_part917 i) v1 v2 v3 v4 v5 v6 v7 v8 v9 v10 v11) := by
  unfold k0_part917; repeat' with_reducible first|infer_instance|exact ld| apply allS| apply allP|intro _| apply seq| apply loop| apply alt| apply br
instance s918 (v1 v2 v3 v4 v5 v6 v7 v8 v9 v10 v11) : Safe D c I (B.at (k0_part918 i) v1 v2 v3 v4 v5 v6 v7 v8 v9 v10 v11) := by
  unfold k0_part918; repeat' with_reducible first|infer_instance|exact ld| apply allS| apply allP|intro _| apply seq| apply loop| apply alt| apply br
instance s919 (v1 v2 v3 v4 v5 v6 v7 v8 v9 v10 v11) : Safe D c I (B.at (k0_part919 i) v1 v2 v3 v4 v5 v6 v7 v8 v9 v10 v11) := by
  unfold k0_part919; repeat' with_reducible first|infer_instance|exact ld| apply allS| apply allP|intro _| apply seq| apply loop| apply alt| apply br
instance s920 (v1 v2 v3 v4 v5 v6 v7 v8 v9 v10 v11) : Safe D c I (B.at (k0_part920 i) v1 v2 v3 v4 v5 v6 v7 v8 v9 v10 v11) := by
  unfold k0_part920; repeat' with_reducible first|infer_instance|exact ld| apply allS| apply allP|intro _| apply seq| apply loop| apply alt| apply br
instance s921 (v1 v2 v3 v4 v5 v6 v7 v8 v9 v10 v11) : Safe D c I (B.at (k0_part921 i) v1 v2 v3 v4 v5 v6 v7 v8 v9 v10 v11) := by
  unfold k0_part921; repeat' with_reducible first|infer_instance|exact ld| apply allS| apply allP|intro _| apply seq| apply loop| apply alt| apply br
instance s922 (v1 v2 v3 v4 v5 v6 v7 v8 v9 v10 v11) : Safe D c I (B.at (k0_part922 i) v1 v2 v3 v4 v5 v6 v7 v8 v9 v10 v11) := by
  unfold k0_part922; repeat' with_reducible first|infer_instance|exact ld| apply allS| apply allP|intro _| apply seq| apply loop| apply alt| apply br
instance s923 (v1 v2 v3 v4 v5 v6 v7 v8 v9 v10 v11) : Safe D c I (B.at (k0_part923 i) v1 v2 v3 v4 v5 v6 v7 v8 v9 v10 v11) := by
  unfold k0_part923; repeat' with_reducible first|infer_instance|exact ld| apply allS| apply allP|intro _| apply seq| apply loop| apply alt| apply br
instance s924 (v1 v2 v3 v4 v5 v6 v7 v8 v9 v10 v11) : Safe D c I (B.at (k0_part924 i) v1 v2 v3 v4 v5 v6 v7 v8 v9 v10 v11) := by
  unfold k0_part924; repeat' with_reducible first|infer_instance|exact ld| apply allS| apply allP|intro _| apply seq| apply loop| apply alt| apply br
instance s925 (v1 v2 v3 v4 v5 v6 v7 v8 v9 v10 v11) : Safe D c I (B.at (k0_part925 i) v1 v2 v3 v4 v5 v6 v7 v8 v9 v10 v11) := by
  unfold k0_part925; repeat' with_reducible first|infer_instance|exact ld| apply allS| apply allP|intro _| apply seq| apply loop| apply alt| apply br
instance s926 (v1 v2 v3 v4 v5 v6 v7 v8 v9 v10 v11) : Safe D c I (B.at (k0_part926 i) v1 v2 v3 v4 v5 v6 v7 v8 v9 v10 v11) := by
  unfold k0_part926; repeat' with_reducible first|infer_instance|exact ld| apply allS| apply allP|intro _| apply seq| apply loop| apply alt| apply br
instance s927 (v1 v2 v3 v4 v5 v6 v7 v8 v9 v10 v11) : Safe D c I (B.at (k0_part927 i) v1 v2 v3 v4 v5 v6 v7 v8 v9 v10 v11) := by
  unfold k0_part927; repeat' with_reducible first|infer_instance|exact ld| apply allS| apply allP|intro _| apply seq| apply loop| apply alt| apply br
instance s928 (v1 v2 v3 v4 v5 v6 v7 v8 v9 v10) : Safe D c I (B.at (k0_part928 i) v1 v2 v3 v4 v5 v6 v7 v8 v9 v10) := by
  unfold k0_part928; repeat' with_reducible first|infer_instance|exact ld| apply allS| apply allP|intro _| apply seq| apply loop| apply alt| apply br
instance s929 (v1 v2 v3 v4 v5 v6 v7 v8 v9 v10) : Safe D c I (B.at (k0_part929 i) v1 v2 v3 v4 v5 v6 v7 v8 v9 v10) := by
  unfold k0_part929; repeat' with_reducible first|infer_instance|exact ld| apply allS| apply allP|intro _| apply seq| apply loop| apply alt| apply br
instance s930 (v1 v2 v3 v4 v5 v6 v7 v8 v9 v10) : Safe D c I (B.at (k0_part930 i) v1 v2 v3 v4 v5 v6 v7 v8 v9 v10) := by
  unfold k0_part930; repeat' with_reducible first|infer_instance|exact ld| apply allS| apply allP|intro _| apply seq| apply loop| apply alt| apply br
instance s931 (v1 v2 v3 v4 v5 v6 v7 v8 v9 v10) : Safe D c I (B.at (k0_part931 i) v1 v2 v3 v4 v5 v6 v7 v8 v9 v10) := by
  unfold k0_part931; repeat' with_reducible first|infer_instance|exact ld| apply allS| apply allP|intro _| apply seq| apply loop| apply alt| apply br
instance s932 (v1 v2 v3 v4 v5 v6 v7 v8 v9 v10) : Safe D c I (B.at (k0_part932 i) v1 v2 v3 v4 v5 v6 v7 v8 v9 v10) := by
  unfold k0_part932; repeat' with_reducible first|infer_instance|exact ld| apply allS| apply allP|intro _| apply seq| apply loop| apply alt| apply br
instance s933 (v1 v2 v3) : Safe D c I (B.at (k0_part933 i) v1 v2 v3) := by
  unfold k0_part933; repeat' with_reducible first|infer_instance|exact ld| apply allS| apply allP|intro _| apply seq| apply loop| apply alt| apply br
instance s934 (v1 v2 v3 v4) : Safe D c I (B.at (k0_part934 i) v1 v2 v3 v4) := by
  unfold k0_part934; repeat' with_reducible first|infer_instance|exact ld| apply allS| apply allP|intro _| apply seq| apply loop| apply alt| apply br
instance s935 (v1 v2 v3 v4 v5) : Safe D c I (B.at (k0_part935 i) v1 v2 v3 v4 v5) := by
  unfold k0_part935; repeat' with_reducible first|infer_instance|exact ld| apply allS| apply allP|intro _| apply seq| apply loop| apply alt| apply br
instance s936 (v1 v2 v3 v4 v5 v6 v7 v8 v9 v10 v11) : Safe D c I (B.at (k0_part936 i) v1 v2 v3 v4 v5 v6 v7 v8 v9 v10 v11) := by
  unfold k0_part936; repeat' with_reducible first|infer_instance|exact ld| apply allS| apply allP|intro _| apply seq| apply loop| apply alt| apply br
instance s937 (v1 v2 v3 v4 v5 v6 v7 v8 v9 v10 v11 v12) : Safe D c I (B.at (k0_part937 i) v1 v2 v3 v4 v5 v6 v7 v8 v9 v10 v11 v12) := by
  unfold k0_part937; repeat' with_reducible first|infer_instance|exact ld| apply allS| apply allP|intro _| apply seq| apply loop| apply alt| apply br
instance s938 (v1 v2 v3 v4 v5 v6 v7 v8 v9 v10 v11 v12) : Safe D c I (B.at (k0_part938 i) v1 v2 v3 v4 v5 v6 v7 v8 v9 v10 v11 v12) := by
  unfold k0_part938; repeat' with_reducible first|infer_instance|exact ld| apply allS| apply allP|intro _| apply seq| apply loop| apply alt| apply br
instance s939 (v1 v2 v3 v4 v5 v6 v7 v8 v9 v10 v11 v12) : Safe D c I (B.at (k0_part939 i) v1 v2 v3 v4 v5 v6 v7 v8 v9 v10 v11 v12) := by
  unfold k0_part939; repeat' with_reducible first|infer_instance|exact ld| apply allS| apply allP|intro _| apply seq| apply loop| apply alt| apply br
instance s940 (v1 v2 v3 v4 v5 v6 v7 v8 v9 v10 v11 v12) : Safe D c I (B.at (k0_part940 i) v1 v2 v3 v4 v5 v6 v7 v8 v9 v10 v11 v12) := by
  unfold k0_part940; repeat' with_reducible first|infer_instance|exact ld| apply allS| apply allP|intro _| apply seq| apply loop| apply alt| apply br
instance s941 (v1 v2 v3 v4 v5 v6 v7 v8 v9 v10 v11 v12) : Safe D c I (B.at (k0_part941 i) v1 v2 v3 v4 v5 v6 v7 v8 v9 v10 v11 v12) := by
  unfold k0_part941; repeat' with_reducible first|infer_instance|exact ld| apply allS| apply allP|intro _| apply seq| apply loop| apply alt| apply br
instance s942 (v1 v2 v3 v4 v5 v6 v7 v8 v9 v10 v11 v12) : Safe D c I (B.at (k0_part942 i) v1 v2 v3 v4 v5 v6 v7 v8 v9 v10 v11 v12) := by
  unfold k0_part942; repeat' with_reducible first|infer_instance|exact ld| apply allS| apply allP|intro _| apply seq| apply loop| apply alt| apply br
instance s943 (v1 v2 v3 v4 v5 v6 v7 v8 v9 v10 v11 v12) : Safe D c I (B.at (k0_part943 i) v1 v2 v3 v4 v5 v6 v7 v8 v9 v10 v11 v12) := by
  unfold k0_part943; repeat' with_reducible first|infer_instance|exact ld| apply allS| apply allP|intro _| apply seq| apply loop| apply alt| apply br
instance s944 (v1 v2 v3 v4 v5 v6 v7 v8 v9 v10 v11 v12) : Safe D c I (B.at (k0_part944 i) v1 v2 v3 v4 v5 v6 v7 v8 v9 v10 v11 v12) := by
  unfold k0_part944; repeat' with_reducible first|infer_instance|exact ld| apply allS| apply allP|intro _| apply seq| apply loop| apply alt| apply br
instance s945 (v1 v2 v3 v4 v5 v6 v7 v8 v9 v10 v11 v12) : Safe D c I (B.at (k0_part945 i) v1 v2 v3 v4 v5 v6 v7 v8 v9 v10 v11 v12) := by
  unfold k0_part945; repeat' with_reducible first|infer_instance|exact ld| apply allS| apply allP|intro _| apply seq| apply loop| apply alt| apply br
instance s946 (v1 v2 v3 v4 v5 v6 v7 v8 v9 v10 v11 v12) : Safe D c I (B.at (k0_part946 i) v1 v2 v3 v4 v5 v6 v7 v8 v9 v10 v11 v12) := by
  unfold k0_part946; repeat' with_reducible first|infer_instance|exact ld| apply allS| apply allP|intro _| apply seq| apply loop| apply alt| apply br
instance s947 (v1 v2 v3 v4 v5 v6 v7 v8 v9 v10 v11 v12) : Safe D c I (B.at (k0_part947 i) v1 v2 v3 v4 v5 v6 v7 v8 v9 v10 v11 v12) := by
  unfold k0_part947; repeat' with_reducible first|infer_instance|exact ld| apply allS| apply allP|intro _| apply seq| apply loop| apply alt| apply br
instance s948 (v1 v2 v3 v4 v5 v6 v7 v8 v9 v10 v11 v12) : Safe D c I (B.at (k0_part948 i) v1 v2 v3 v4 v5 v6 v7 v8 v9 v10 v11 v12) := by
  unfold k0_part948; repeat' with_reducible first|infer_instance|exact ld| apply allS| apply allP|intro _| apply seq| apply loop| apply alt| apply br
instance s949 (v1 v2 v3 v4 v5 v6 v7 v8 v9 v10 v11 v12) : Safe D c I (B.at (k0_part949 i) v1 v2 v3 v4 v5 v6 v7 v8 v9 v10 v11 v12) := by
  unfold k0_part949; repeat' with_reducible first|infer_instance|exact ld| apply allS| apply allP|intro _| apply seq| apply loop| apply alt| apply br
instance s950 (v1 v2 v3 v4 v5 v6 v7 v8 v9 v10 v11 v12) : Safe D c I (B.at (k0_part950 i) v1 v2 v3 v4 v5 v6 v7 v8 v9 v10 v11 v12) := by
  unfold k0_part950; repeat' with_reducible first|infer_instance|exact ld| apply allS| apply allP|intro _| apply seq| apply loop| apply alt| apply br
instance s951 (v1 v2 v3 v4 v5 v6 v7 v8 v9 v10 v11 v12) : Safe D c I (B.at (k0_part951 i) v1 v2 v3 v4 v5 v6 v7 v8 v9 v10 v11 v12) := by
  unfold k0_part951; repeat' with_reducible first|infer_instance|exact ld| apply allS| apply allP|intro _| apply seq| apply loop| apply alt| apply br
instance s952 (v1 v2 v3 v4 v5 v6 v7 v8 v9 v10 v11) : Safe D c I (B.at (k0_part952 i) v1 v2 v3 v4 v5 v6 v7 v8 v9 v10 v11) := by
  unfold k0_part952; repeat' with_reducible first|infer_instance|exact ld| apply allS| apply allP|intro _| apply seq| apply loop| apply alt| apply br
instance s953 (v1 v2 v3 v4 v5 v6 v7 v8 v9 v10) : Safe D c I (B.at (k0_part953 i) v1 v2 v3 v4 v5 v6 v7 v8 v9 v10) := by
  unfold k0_part953; repeat' with_reducible first|infer_instance|exact ld| apply allS| apply allP|intro _| apply seq| apply loop| apply alt| apply br
instance s954 (v1 v2 v3 v4 v5 v6 v7 v8 v9 v10) : Safe D c I (B.at (k0_part954 i) v1 v2 v3 v4 v5 v6 v7 v8 v9 v10) := by
  unfold k0_part954; repeat' with_reducible first|infer_instance|exact ld| apply allS| apply allP|intro _| apply seq| apply loop| apply alt| apply br
instance s955 (v1 v2 v3 v4 v5 v6 v7 v8 v9 v10) : Safe D c I (B.at (k0_part955 i) v1 v2 v3 v4 v5 v6 v7 v8 v9 v10) := by
  unfold k0_part955; repeat' with_reducible first|infer_instance|exact ld| apply allS| apply allP|intro _| apply seq| apply loop| apply alt| apply br
instance s956 (v1 v2 v3 v4 v5 v6 v7 v8 v9 v10) : Safe D c I (B.at (k0_part956 i) v1 v2 v3 v4 v5 v6 v7 v8 v9 v10) := by
  unfold k0_part956; repeat' with_reducible first|infer_instance|exact ld| apply allS| apply allP|intro _| apply seq| apply loop| apply alt| apply br
instance s957 (v1 v2 v3 v4 v5 v6 v7) : Safe D c I (B.at (k0_part957 i) v1 v2 v3 v4 v5 v6 v7) := by
  unfold k0_part957; repeat' with_reducible first|infer_instance|exact ld| apply allS| apply allP|intro _| apply seq| apply loop| apply alt| apply br
instance s958 (v1 v2 v3 v4) : Safe D c I (B.at (k0_part958 i) v1 v2 v3 v4) := by
  unfold k0_part958; repeat' with_reducible first|infer_instance|exact ld| apply allS| apply allP|intro _| apply seq| apply loop| apply alt| apply br
instance s959 (v1 v2) : Safe D c I (B.at (k0_part959 i) v1 v2) := by
  unfold k0_part959; repeat' with_reducible first|infer_instance|exact ld| apply allS| apply allP|intro _| apply seq| apply loop| apply alt| apply br
instance s960 (v1 v2 v3) : Safe D c I (B.at (k0_part960 i) v1 v2 v3) := by
  unfold k0_part960; repeat' with_reducible first|infer_instance|exact ld| apply allS| apply allP|intro _| apply seq| apply loop| apply alt| apply br
instance s961 (v1 v2 v3 v4 v5 v6 v7 v8 v9 v10 v11 v12 v13) : Safe D c I (B.at (k0_part961 i) v1 v2 v3 v4 v5 v6 v7 v8 v9 v10 v11 v12 v13) := by
  unfold k0_part961; repeat' with_reducible first|infer_instance|exact ld| apply allS| apply allP|intro _| apply seq| apply loop| apply alt| apply br
instance s962 (v1 v2 v3 v4 v5 v6 v7 v8 v9 v10 v11 v12 v13) : Safe D c I (B.at (k0_part962 i) v1 v2 v3 v4 v5 v6 v7 v8 v9 v10 v11 v12 v13) := by
  unfold k0_part962; repeat' with_reducible first|infer_instance|exact ld| apply allS| apply allP|intro _| apply seq| apply loop| apply alt| apply br
instance s963 (v1 v2 v3 v4 v5 v6 v7 v8 v9 v10 v11 v12 v13) : Safe D c I (B.at (k0_part963 i) v1 v2 v3 v4 v5 v6 v7 v8 v9 v10 v11 v12 v13) := by
  unfold k0_part963; repeat' with_reducible first|infer_instance|exact ld| apply allS| apply allP|intro _| apply seq| apply loop| apply alt| apply br
instance s964 (v1 v2 v3 v4 v5 v6 v7 v8 v9 v10 v11 v12 v13) : Safe D c I (B.at (k0_part964 i) v1 v2 v3 v4 v5 v6 v7 v8 v9 v10 v11 v12 v13) := by
  unfold k0_part964; repeat' with_reducible first|infer_instance|exact ld| apply allS| apply allP|intro _| apply seq| apply loop| apply alt| apply br
instance s965 (v1 v2 v3 v4 v5 v6 v7 v8 v9 v10 v11 v12 v13) : Safe D c I (B.at (k0_part965 i) v1 v2 v3 v4 v5 v6 v7 v8 v9 v10 v11 v12 v13) := by
  unfold k0_part965; repeat' with_reducible first|infer_instance|exact ld| apply allS| apply allP|intro _| apply seq| apply loop| apply alt| apply br
instance s966 (v1 v2 v3 v4 v5 v6 v7 v8 v9 v10 v11 v12 v13) : Safe D c I (B.at (k0_part966 i) v1 v2 v3 v4 v5 v6 v7 v8 v9 v10 v11 v12 v13) := by
  unfold k0_part966; repeat' with_reducible first|infer_instance|exact ld| apply allS| apply allP|intro _| apply seq| apply loop| apply alt| apply br
instance s967 (v1 v2 v3 v4 v5 v6 v7 v8 v9 v10 v11 v12 v13) : Safe D c I (B.at (k0_part967 i) v1 v2 v3 v4 v5 v6 v7 v8 v9 v10 v11 v12 v13) := by
  unfold k0_part967; repeat' with_reducible first|infer_instance|exact ld| apply allS| apply allP|intro _| apply seq| apply loop| apply alt| apply br
instance s968 (v1 v2 v3 v4 v5 v6 v7 v8 v9 v10 v11 v12 v13) : Safe D c I (B.at (k0_part968 i) v1 v2 v3 v4 v5 v6 v7 v8 v9 v10 v11 v12 v13) := by
  unfold k0_part968; repeat' with_reducible first|infer_instance|exact ld| apply allS| apply allP|intro _| apply seq| apply loop| apply alt| apply br
instance s969 (v1 v2 v3 v4 v5 v6 v7 v8 v9 v10 v11 v12 v13) : Safe D c I (B.at (k0_part969 i) v1 v2 v3 v4 v5 v6 v7 v8 v9 v10 v11 v12 v13) := by
  unfold k0_part969; repeat' with_reducible first|infer_instance|exact ld| apply allS| apply allP|intro _| apply seq| apply loop| apply alt| apply br
instance s970 (v1 v2 v3 v4 v5 v6 v7 v8 v9 v10 v11 v12 v13) : Safe D c I (B.at (k0_part970 i) v1 v2 v3 v4 v5 v6 v7 v8 v9 v10 v11 v12 v13) := by
  unfold k0_part970; repeat' with_reducible first|infer_instance|exact ld| apply allS| apply allP|intro _| apply seq| apply loop| apply alt| apply br
instance s971 (v1 v2 v3 v4 v5 v6 v7 v8 v9 v10 v11 v12 v13) : Safe D c I (B.at (k0_part971 i) v1 v2 v3 v4 v5 v6 v7 v8 v9 v10 v11 v12 v13) := by
  unfold k0_part971; repeat' with_reducible first|infer_instance|exact ld| apply allS| apply allP|intro _| apply seq| apply loop| apply alt| apply br
instance s972 (v1 v2 v3 v4 v5 v6 v7 v8 v9 v10 v11 v12 v13) : Safe D c I (B.at (k0_part972 i) v1 v2 v3 v4 v5 v6 v7 v8 v9 v10 v11 v12 v13) := by
  unfold k0_part972; repeat' with_reducible first|infer_instance|exact ld| apply allS| apply allP|intro _| apply seq| apply loop| apply alt| apply br
instance s973 (v1 v2 v3 v4 v5 v6 v7 v8 v9 v10 v11 v12 v13) : Safe D c I (B.at (k0_part973 i) v1 v2 v3 v4 v5 v6 v7 v8 v9 v10 v11 v12 v13) := by
  unfold k0_part973; repeat' with_reducible first|infer_instance|exact ld| apply allS| apply allP|intro _| apply seq| apply loop| apply alt| apply br
instance s974 (v1 v2 v3 v4 v5 v6 v7 v8 v9 v10 v11 v12 v13) : Safe D c I (B.at (k0_part974 i) v1 v2 v3 v4 v5 v6 v7 v8 v9 v10 v11 v12 v13) := by
  unfold k0_part974; repeat' with_reducible first|infer_instance|exact ld| apply allS| apply allP|intro _| apply seq| apply loop| apply alt| apply br
instance s975 (v1 v2 v3 v4 v5 v6 v7 v8 v9 v10 v11 v12 v13) : Safe D c I (B.at (k0_part975 i) v1 v2 v3 v4 v5 v6 v7 v8 v9 v10 v11 v12 v13) := by
  unfold k0_part975; repeat' with_reducible first|infer_instance|exact ld| apply allS| apply allP|intro _| apply seq| apply loop| apply alt| apply br
instance s976 (v1 v2 v3 v4 v5 v6 v7 v8 v9 v10 v11 v12 v13 v14) : Safe D c I (B.at (k0_part976 i) v1 v2 v3 v4 v5 v6 v7 v8 v9 v10 v11 v12 v13 v14) := by
  unfold k0_part976; repeat' with_reducible first|infer_instance|exact ld| apply allS| apply allP|intro _| apply seq| apply loop| apply alt| apply br
instance s977 (v1 v2 v3 v4 v5 v6 v7 v8 v9) : Safe D c I (B.at (k0_part977 i) v1 v2 v3 v4 v5 v6 v7 v8 v9) := by
  unfold k0_part977; repeat' with_reducible first|infer_instance|exact ld| apply allS| apply allP|intro _| apply seq| apply loop| apply alt| apply br
instance s978 (v1 v2 v3 v4 v5 v6 v7 v8 v9) : Safe D c I (B.at (k0_part978 i) v1 v2 v3 v4 v5 v6 v7 v8 v9) := by
  unfold k0_part978; repeat' with_reducible first|infer_instance|exact ld| apply allS| apply allP|intro _| apply seq| apply loop| apply alt| apply br
instance s979 (v1 v2 v3 v4 v5 v6 v7 v8 v9) : Safe D c I (B.at (k0_part979 i) v1 v2 v3 v4 v5 v6 v7 v8 v9) := by
  unfold k0_part979; repeat' with_reducible first|infer_instance|exact ld| apply allS| apply allP|intro _| apply seq| apply loop| apply alt| apply br
instance s980 (v1 v2 v3 v4 v5 v6 v7 v8 v9) : Safe D c I (B.at (k0_part980 i) v1 v2 v3 v4 v5 v6 v7 v8 v9) := by
  unfold k0_part980; repeat' with_reducible first|infer_instance|exact ld| apply allS| apply allP|intro _| apply seq| apply loop| apply alt| apply br
instance s981 (v1 v2 v3 v4 v5 v6 v7 v8 v9) : Safe D c I (B.at (k0_part981 i) v1 v2 v3 v4 v5 v6 v7 v8 v9) := by
  unfold k0_part981; repeat' with_reducible first|infer_instance|exact ld| apply allS| apply allP|intro _| apply seq| apply loop| apply alt| apply br
instance s982 (v1 v2) : Safe D c I (B.at (k0_part982 i) v1 v2) := by
  unfold k0_part982; repeat' with_reducible first|infer_instance|exact ld| apply allS| apply allP|intro _| apply seq| apply loop| apply alt| apply br
instance s983 (v1 v2) : Safe D c I (B.at (k0_part983 i) v1 v2) := by
  unfold k0_part983; repeat' with_reducible first|infer_instance|exact ld| apply allS| apply allP|intro _| apply seq| apply loop| apply alt| apply br
instance s984 (v1 v2 v3 v4 v5 v6) : Safe D c I (B.at (k0_part984 i) v1 v2 v3 v4 v5 v6) := by
  unfold k0_part984; repeat' with_reducible first|infer_instance|exact ld| apply allS| apply allP|intro _| apply seq| apply loop| apply alt| apply br
instance s985 (v1 v2 v3 v4 v5) : Safe D c I (B.at (k0_part985 i) v1 v2 v3 v4 v5) := by
  unfold k0_part985; repeat' with_reducible first|infer_instance|exact ld| apply allS| apply allP|intro _| apply seq| apply loop| apply alt| apply br
instance s986 (v1 v2 v3 v4 v5 v6 v7 v8 v9 v10 v11 v12 v13) : Safe D c I (B.at (k0_part986 i) v1 v2 v3 v4 v5 v6 v7 v8 v9 v10 v11 v12 v13) := by
  unfold k0_part986; repeat' with_reducible first|infer_instance|exact ld| apply allS| apply allP|intro _| apply seq| apply loop| apply alt| apply br
instance s987 (v1 v2 v3 v4 v5 v6 v7 v8 v9 v10 v11 v12 v13) : Safe D c I (B.at (k0_part987 i) v1 v2 v3 v4 v5 v6 v7 v8 v9 v10 v11 v12 v13) := by
  unfold k0_part987; repeat' with_reducible first|infer_instance|exact ld| apply allS| apply allP|intro _| apply seq| apply loop| apply alt| apply br
instance s988 (v1 v2 v3 v4 v5 v6 v7 v8 v9 v10 v11 v12 v13) : Safe D c I (B.at (k0_part988 i) v1 v2 v3 v4 v5 v6 v7 v8 v9 v10 v11 v12 v13) := by
  unfold k0_part988; repeat' with_reducible first|infer_instance|exact ld| apply allS| apply allP|intro _| apply seq| apply loop| apply alt| apply br
instance s989 (v1 v2 v3 v4 v5 v6 v7 v8 v9 v10 v11 v12 v13) : Safe D c I (B.at (k0_part989 i) v1 v2 v3 v4 v5 v6 v7 v8 v9 v10 v11 v12 v13) := by
  unfold k0_part989; repeat' with_reducible first|infer_instance|exact ld| apply allS| apply allP|intro _| apply seq| apply loop| apply alt| apply br
instance s990 (v1 v2 v3 v4 v5 v6 v7 v8 v9 v10 v11 v12 v13) : Safe D c I (B.at (k0_part990 i) v1 v2 v3 v4 v5 v6 v7 v8 v9 v10 v11 v12 v13) := by
  unfold k0_part990; repeat' with_reducible first|infer_instance|exact ld| apply allS| apply allP|intro _| apply seq| apply loop| apply alt| apply br
instance s991 (v1 v2 v3 v4 v5 v6 v7 v8 v9 v10 v11 v12 v13) : Safe D c I (B.at (k0_part991 i) v1 v2 v3 v4 v5 v6 v7 v8 v9 v10 v11 v12 v13) := by
  unfold k0_part991; repeat' with_reducible first|infer_instance|exact ld| apply allS| apply allP|intro _| apply seq| apply loop| apply alt| apply br
instance s992 (v1 v2 v3 v4 v5 v6 v7 v8 v9 v10 v11 v12 v13) : Safe D c I (B.at (k0_part992 i) v1 v2 v3 v4 v5 v6 v7 v8 v9 v10 v11 v12 v13) := by
  unfold k0_part992; repeat' with_reducible first|infer_instance|exact ld| apply allS| apply allP|intro _| apply seq| apply loop| apply alt| apply br
instance s993 (v1 v2 v3 v4 v5 v6 v7 v8 v9 v10 v11 v12 v13) : Safe D c I (B.at (k0_part993 i) v1 v2 v3 v4 v5 v6 v7 v8 v9 v10 v11 v12 v13) := by
  unfold k0_part993; repeat' with_reducible first|infer_instance|exact ld| apply allS| apply allP|intro _| apply seq| apply loop| apply alt| apply br
instance s994 (v1 v2 v3 v4 v5 v6 v7 v8 v9 v10 v11 v12 v13) : Safe D c I (B.at (k0_part994 i) v1 v2 v3 v4 v5 v6 v7 v8 v9 v10 v11 v12 v13) := by
  unfold k0_part994; repeat' with_reducible first|infer_instance|exact ld| apply allS| apply allP|intro _| apply seq| apply loop| apply alt| apply br
instance s995 (v1 v2 v3 v4 v5 v6 v7 v8 v9 v10 v11 v12 v13) : Safe D c I (B.at (k0_part995 i) v1 v2 v3 v4 v5 v6 v7 v8 v9 v10 v11 v12 v13) := by
  unfold k0_part995; repeat' with_reducible first|infer_instance|exact ld| apply allS| apply allP|intro _| apply seq| apply loop| apply alt| apply br
instance s996 (v1 v2 v3 v4 v5 v6 v7 v8 v9 v10 v11 v12 v13) : Safe D c I (B.at (k0_part996 i) v1 v2 v3 v4 v5 v6 v7 v8 v9 v10 v11 v12 v13) := by
  unfold k0_part996; repeat' with_reducible first|infer_instance|exact ld| apply allS| apply allP|intro _| apply seq| apply loop| apply alt| apply br
instance s997 (v1 v2 v3 v4 v5 v6 v7 v8 v9 v10 v11 v12 v13) : Safe D c I (B.at (k0_part997 i) v1 v2 v3 v4 v5 v6 v7 v8 v9 v10 v11 v12 v13) := by
  unfold k0_part997; repeat' with_reducible first|infer_instance|exact ld| apply allS| apply allP|intro _| apply seq| apply loop| apply alt| apply br
instance s998 (v1 v2 v3 v4 v5 v6 v7 v8 v9 v10 v11 v12 v13) : Safe D c I (B.at (k0_part998 i) v1 v2 v3 v4 v5 v6 v7 v8 v9 v10 v11 v12 v13) := by
  unfold k0_part998; repeat' with_reducible first|infer_instance|exact ld| apply allS| apply allP|intro _| apply seq| apply loop| apply alt| apply br
instance s999 (v1 v2 v3 v4 v5 v6 v7 v8 v9 v10 v11 v12 v13) : Safe D c I (B.at (k0_part999 i) v1 v2 v3 v4 v5 v6 v7 v8 v9 v10 v11 v12 v13) := by
  unfold k0_part999; repeat' with_reducible first|infer_instance|exact ld| apply allS| apply allP|intro _| apply seq| apply loop| apply alt| apply br
instance s1000 (v1 v2 v3 v4 v5 v6 v7 v8 v9 v10 v11 v12 v13) : Safe D c I (B.at (k0_part1000 i) v1 v2 v3 v4 v5 v6 v7 v8 v9 v10 v11 v12 v13) := by
  unfold k0_part1000; repeat' with_reducible first|infer_instance|exact ld| apply allS| apply allP|intro _| apply seq| apply loop| apply alt| apply br
instance s1001 (v1 v2 v3 v4 v5 v6 v7 v8 v9 v10 v11 v12) : Safe D c I (B.at (k0_part1001 i) v1 v2 v3 v4 v5 v6 v7 v8 v9 v10 v11 v12) := by
  unfold k0_part1001; repeat' with_reducible first|infer_instance|exact ld| apply allS| apply allP|intro _| apply seq| apply loop| apply alt| apply br
instance s1002 (v1 v2 v3 v4 v5 v6 v7 v8 v9) : Safe D c I (B.at (k0_part1002 i) v1 v2 v3 v4 v5 v6 v7 v8 v9) := by
  unfold k0_part1002; repeat' with_reducible first|infer_instance|exact ld| apply allS| apply allP|intro _| apply seq| apply loop| apply alt| apply br
instance s1003 (v1 v2 v3 v4 v5 v6 v7 v8 v9) : Safe D c I (B.at (k0_part1003 i) v1 v2 v3 v4 v5 v6 v7 v8 v9) := by
  unfold k0_part1003; repeat' with_reducible first|infer_instance|exact ld| apply allS| apply allP|intro _| apply seq| apply loop| apply alt| apply br
instance s1004 (v1 v2 v3 v4 v5 v6 v7 v8 v9) : Safe D c I (B.at (k0_part1004 i) v1 v2 v3 v4 v5 v6 v7 v8 v9) := by
  unfold k0_part1004; repeat' with_reducible first|infer_instance|exact ld| apply allS| apply allP|intro _| apply seq| apply loop| apply alt| apply br
instance s1005 (v1 v2 v3 v4 v5 v6 v7 v8 v9) : Safe D c I (B.at (k0_part1005 i) v1 v2 v3 v4 v5 v6 v7 v8 v9) := by
  unfold k0_part1005; repeat' with_reducible first|infer_instance|exact ld| apply allS| apply allP|intro _| apply seq| apply loop| apply alt| apply br
instance s1006 (v1 v2 v3 v4 v5 v6) : Safe D c I (B.at (k0_part1006 i) v1 v2 v3 v4 v5 v6) := by
  unfold k0_part1006; repeat' with_reducible first|infer_instance|exact ld| apply allS| apply allP|intro _| apply seq| apply loop| apply alt| apply br
instance s1007 (v1 v2 v3 v4 v5 v6 v7 v8 v9 v10 v11 v12 v13 v14 v15 v16 v17 v18 v19 v20 v21 v22 v23 v24 v25 v26 v27 v28 v29 v30 v31 v32 v33 v34 v35 v36 v37 v38 v39 v40) : Safe D c I (B.at (k0_part1007 i) v1 v2 v3 v4 v5 v6 v7 v8 v9 v10 v11 v12 v13 v14 v15 v16 v17 v18 v19 v20 v21 v22 v23 v24 v25 v26 v27 v28 v29 v30 v31 v32 v33 v34 v35 v36 v37 v38 v39 v40) := by
  unfold k0_part1007; repeat' with_reducible first|infer_instance|exact ld| apply allS| apply allP|intro _| apply seq| apply loop| apply alt| apply br
instance s1008 (v1 v2 v3 v4) : Safe D c I (B.at (k0_part1008 i) v1 v2 v3 v4) := by
  unfold k0_part1008; repeat' with_reducible first|infer_instance|exact ld| apply allS| apply allP|intro _| apply seq| apply loop| apply alt| apply br
instance s1009 (v1 v2) : Safe D c I (B.at (k0_part1009 i) v1 v2) := by
  unfold k0_part1009; repeat' with_reducible first|infer_instance|exact ld| apply allS| apply allP|intro _| apply seq| apply loop| apply alt| apply br
instance s1010 (v1 v2 v3) : Safe D c I (B.at (k0_part1010 i) v1 v2 v3) := by
  unfold k0_part1010; repeat' with_reducible first|infer_instance|exact ld| apply allS| apply allP|intro _| apply seq| apply loop| apply alt| apply br
instance s1011 (v1 v2) : Safe D c I (B.at (k0_part1011 i) v1 v2) := by
  unfold k0_part1011; repeat' with_reducible first|infer_instance|exact ld| apply allS| apply allP|intro _| apply seq| apply loop| apply alt| apply br
instance s1012 (v1 v2) : Safe D c I (B.at (k0_part1012 i) v1 v2) := by
  unfold k0_part1012; repeat' with_reducible first|infer_instance|exact ld| apply allS| apply allP|intro _| apply seq| apply loop| apply alt| apply br
instance s1013 (v1) : Safe D c I (B.at (k0_part1013 i) v1) := by
  unfold k0_part1013; repeat' with_reducible first|infer_instance|exact ld| apply allS| apply allP|intro _| apply seq| apply loop| apply alt| apply br
instance s1014 (v1 v2 v3 v4 v5 v6) : Safe D c I (B.at (k0_part1014 i) v1 v2 v3 v4 v5 v6) := by
  unfold k0_part1014; repeat' with_reducible first|infer_instance|exact ld| apply allS| apply allP|intro _| apply seq| apply loop| apply alt| apply br
instance s1015 (v1) : Safe D c I (B.at (k0_part1015 i) v1) := by
  unfold k0_part1015; repeat' with_reducible first|infer_instance|exact ld| apply allS| apply allP|intro _| apply seq| apply loop| apply alt| apply br
instance s1016 (v1 v2 v3) : Safe D c I (B.at (k0_part1016 i) v1 v2 v3) := by
  unfold k0_part1016; repeat' with_reducible first|infer_instance|exact ld| apply allS| apply allP|intro _| apply seq| apply loop| apply alt| apply br
instance s1017 (v1 v2 v3 v4) : Safe D c I (B.at (k0_part1017 i) v1 v2 v3 v4) := by
  unfold k0_part1017; repeat' with_reducible first|infer_instance|exact ld| apply allS| apply allP|intro _| apply seq| apply loop| apply alt| apply br
instance s1018 (v1 v2 v3) : Safe D c I (B.at (k0_part1018 i) v1 v2 v3) := by
  unfold k0_part1018; repeat' with_reducible first|infer_instance|exact ld| apply allS| apply allP|intro _| apply seq| apply loop| apply alt| apply br
instance s1019 (v1 v2 v3 v4) : Safe D c I (B.at (k0_part1019 i) v1 v2 v3 v4) := by
  unfold k0_part1019; repeat' with_reducible first|infer_instance|exact ld| apply allS| apply allP|intro _| apply seq| apply loop| apply alt| apply br
instance s1020 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) : Safe D c I (B.at (k0_part1020 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) := by
  unfold k0_part1020; repeat' with_reducible first|infer_instance|exact ld| apply allS| apply allP|intro _| apply seq| apply loop| apply alt| apply br
instance s1021 (v1 v2 v3 v4 v5) : Safe D c I (B.at (k0_part1021 i) v1 v2 v3 v4 v5) := by
  unfold k0_part1021; repeat' with_reducible first|infer_instance|exact ld| apply allS| apply allP|intro _| apply seq| apply loop| apply alt| apply br
instance s1022 (v1) : Safe D c I (B.at (k0_part1022 i) v1) := by
  unfold k0_part1022; repeat' with_reducible first|infer_instance|exact ld| apply allS| apply allP|intro _| apply seq| apply loop| apply alt| apply br
instance s1023 (v1 v2 v3) : Safe D c I (B.at (k0_part1023 i) v1 v2 v3) := by
  unfold k0_part1023; repeat' with_reducible first|infer_instance|exact ld| apply allS| apply allP|intro _| apply seq| apply loop| apply alt| apply br
instance s1024 (v1 v2 v3 v4) : Safe D c I (B.at (k0_part1024 i) v1 v2 v3 v4) := by
  unfold k0_part1024; repeat' with_reducible first|infer_instance|exact ld| apply allS| apply allP|intro _| apply seq| apply loop| apply alt| apply br
instance s1025 (v1 v2 v3) : Safe D c I (B.at (k0_part1025 i) v1 v2 v3) := by
  unfold k0_part1025; repeat' with_reducible first|infer_instance|exact ld| apply allS| apply allP|intro _| apply seq| apply loop| apply alt| apply br
instance s1026 (v1 v2 v3 v4) : Safe D c I (B.at (k0_part1026 i) v1 v2 v3 v4) := by
  unfold k0_part1026; repeat' with_reducible first|infer_instance|exact ld| apply allS| apply allP|intro _| apply seq| apply loop| apply alt| apply br
instance s1027 (v1 v2 v3) : Safe D c I (B.at (k0_part1027 i) v1 v2 v3) := by
  unfold k0_part1027; repeat' with_reducible first|infer_instance|exact ld| apply allS| apply allP|intro _| apply seq| apply loop| apply alt| apply br
instance s1028 (v1 v2 v3 v4 v5 v6) : Safe D c I (B.at (k0_part1028 i) v1 v2 v3 v4 v5 v6) := by
  unfold k0_part1028; repeat' with_reducible first|infer_instance|exact ld| apply allS| apply allP|intro _| apply seq| apply loop| apply alt| apply br
instance s1029 (v1 v2) : Safe D c I (B.at (k0_part1029 i) v1 v2) := by
  unfold k0_part1029; repeat' with_reducible first|infer_instance|exact ld| apply allS| apply allP|intro _| apply seq| apply loop| apply alt| apply br
instance s1030 (v1 v2 v3 v4) : Safe D c I (B.at (k0_part1030 i) v1 v2 v3 v4) := by
  unfold k0_part1030; repeat' with_reducible first|infer_instance|exact ld| apply allS| apply allP|intro _| apply seq| apply loop| apply alt| apply br
instance s1031 (v1 v2) : Safe D c I (B.at (k0_part1031 i) v1 v2) := by
  unfold k0_part1031; repeat' with_reducible first|infer_instance|exact ld| apply allS| apply allP|intro _| apply seq| apply loop| apply alt| apply br
instance s1032 (v1 v2 v3) : Safe D c I (B.at (k0_part1032 i) v1 v2 v3) := by
  unfold k0_part1032; repeat' with_reducible first|infer_instance|exact ld| apply allS| apply allP|intro _| apply seq| apply loop| apply alt| apply br
instance s1033 (v1 v2) : Safe D c I (B.at (k0_part1033 i) v1 v2) := by
  unfold k0_part1033; repeat' with_reducible first|infer_instance|exact ld| apply allS| apply allP|intro _| apply seq| apply loop| apply alt| apply br
instance s1034 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) : Safe D c I (B.at (k0_part1034 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) := by
  unfold k0_part1034; repeat' with_reducible first|infer_instance|exact ld| apply allS| apply allP|intro _| apply seq| apply loop| apply alt| apply br
instance s1035 (v1 v2 v3 v4 v5 v6 v7 v8) : Safe D c I (B.at (k0_part1035 i) v1 v2 v3 v4 v5 v6 v7 v8) := by
  unfold k0_part1035; repeat' with_reducible first|infer_instance|exact ld| apply allS| apply allP|intro _| apply seq| apply loop| apply alt| apply br
instance s1036 (v1 v2 v3 v4 v5 v6 v7) : Safe D c I (B.at (k0_part1036 i) v1 v2 v3 v4 v5 v6 v7) := by
  unfold k0_part1036; repeat' with_reducible first|infer_instance|exact ld| apply allS| apply allP|intro _| apply seq| apply loop| apply alt| apply br
instance s1037 (v1 v2 v3) : Safe D c I (B.at (k0_part1037 i) v1 v2 v3) := by
  unfold k0_part1037; repeat' with_reducible first|infer_instance|exact ld| apply allS| apply allP|intro _| apply seq| apply loop| apply alt| apply br
instance s1038 (v1 v2 v3 v4) : Safe D c I (B.at (k0_part1038 i) v1 v2 v3 v4) := by
  unfold k0_part1038; repeat' with_reducible first|infer_instance|exact ld| apply allS| apply allP|intro _| apply seq| apply loop| apply alt| apply br
instance s1039 (v1 v2 v3) : Safe D c I (B.at (k0_part1039 i) v1 v2 v3) := by
  unfold k0_part1039; repeat' with_reducible first|infer_instance|exact ld| apply allS| apply allP|intro _| apply seq| apply loop| apply alt| apply br
instance s1040 (v1 v2 v3 v4) : Safe D c I (B.at (k0_part1040 i) v1 v2 v3 v4) := by
  unfold k0_part1040; repeat' with_reducible first|infer_instance|exact ld| apply allS| apply allP|intro _| apply seq| apply loop| apply alt| apply br
instance s1041 (v1 v2) : Safe D c I (B.at (k0_part1041 i) v1 v2) := by
  unfold k0_part1041; repeat' with_reducible first|infer_instance|exact ld| apply allS| apply allP|intro _| apply seq| apply loop| apply alt| apply br
instance s1042 (v1 v2 v3 v4 v5 v6 v7) : Safe D c I (B.at (k0_part1042 i) v1 v2 v3 v4 v5 v6 v7) := by
  unfold k0_part1042; repeat' with_reducible first|infer_instance|exact ld| apply allS| apply allP|intro _| apply seq| apply loop| apply alt| apply br
instance s1043 (v1 v2) : Safe D c I (B.at (k0_part1043 i) v1 v2) := by
  unfold k0_part1043; repeat' with_reducible first|infer_instance|exact ld| apply allS| apply allP|intro _| apply seq| apply loop| apply alt| apply br
instance s1044 (v1 v2 v3 v4) : Safe D c I (B.at (k0_part1044 i) v1 v2 v3 v4) := by
  unfold k0_part1044; repeat' with_reducible first|infer_instance|exact ld| apply allS| apply allP|intro _| apply seq| apply loop| apply alt| apply br
instance s1045 (v1 v2) : Safe D c I (B.at (k0_part1045 i) v1 v2) := by
  unfold k0_part1045; repeat' with_reducible first|infer_instance|exact ld| apply allS| apply allP|intro _| apply seq| apply loop| apply alt| apply br
instance s1046 (v1 v2 v3) : Safe D c I (B.at (k0_part1046 i) v1 v2 v3) := by
  unfold k0_part1046; repeat' with_reducible first|infer_instance|exact ld| apply allS| apply allP|intro _| apply seq| apply loop| apply alt| apply br
instance s1047 (v1 v2) : Safe D c I (B.at (k0_part1047 i) v1 v2) := by
  unfold k0_part1047; repeat' with_reducible first|infer_instance|exact ld| apply allS| apply allP|intro _| apply seq| apply loop| apply alt| apply br
instance s1048 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part1048 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part1048; repeat' with_reducible first|infer_instance|exact ld| apply allS| apply allP|intro _| apply seq| apply loop| apply alt| apply br
instance s1049 (v1 v2 v3 v4 v5) : Safe D c I (B.at (k0_part1049 i) v1 v2 v3 v4 v5) := by
  unfold k0_part1049; repeat' with_reducible first|infer_instance|exact ld| apply allS| apply allP|intro _| apply seq| apply loop| apply alt| apply br
instance s1050 (v1 v2) : Safe D c I (B.at (k0_part1050 i) v1 v2) := by
  unfold k0_part1050; repeat' with_reducible first|infer_instance|exact ld| apply allS| apply allP|intro _| apply seq| apply loop| apply alt| apply br
instance s1051 (v1 v2 v3 v4) : Safe D c I (B.at (k0_part1051 i) v1 v2 v3 v4) := by
  unfold k0_part1051; repeat' with_reducible first|infer_instance|exact ld| apply allS| apply allP|intro _| apply seq| apply loop| apply alt| apply br
instance s1052 (v1 v2) : Safe D c I (B.at (k0_part1052 i) v1 v2) := by
  unfold k0_part1052; repeat' with_reducible first|infer_instance|exact ld| apply allS| apply allP|intro _| apply seq| apply loop| apply alt| apply br
instance s1053 (v1 v2 v3) : Safe D c I (B.at (k0_part1053 i) v1 v2 v3) := by
  unfold k0_part1053; repeat' with_reducible first|infer_instance|exact ld| apply allS| apply allP|intro _| apply seq| apply loop| apply alt| apply br
instance s1054 (v1 v2) : Safe D c I (B.at (k0_part1054 i) v1 v2) := by
  unfold k0_part1054; repeat' with_reducible first|infer_instance|exact ld| apply allS| apply allP|intro _| apply seq| apply loop| apply alt| apply br
instance s1055 (v1 v2 v3 v4 v5) : Safe D c I (B.at (k0_part1055 i) v1 v2 v3 v4 v5) := by
  unfold k0_part1055; repeat' with_reducible first|infer_instance|exact ld| apply allS| apply allP|intro _| apply seq| apply loop| apply alt| apply br
instance s1056 (v1 v2) : Safe D c I (B.at (k0_part1056 i) v1 v2) := by
  unfold k0_part1056; repeat' with_reducible first|infer_instance|exact ld| apply allS| apply allP|intro _| apply seq| apply loop| apply alt| apply br
instance s1057 (v1 v2) : Safe D c I (B.at (k0_part1057 i) v1 v2) := by
  unfold k0_part1057; repeat' with_reducible first|infer_instance|exact ld| apply allS| apply allP|intro _| apply seq| apply loop| apply alt| apply br
instance s1058 (v1) : Safe D c I (B.at (k0_part1058 i) v1) := by
  unfold k0_part1058; repeat' with_reducible first|infer_instance|exact ld| apply allS| apply allP|intro _| apply seq| apply loop| apply alt| apply br
instance s1059 (v1 v2 v3) : Safe D c I (B.at (k0_part1059 i) v1 v2 v3) := by
  unfold k0_part1059; repeat' with_reducible first|infer_instance|exact ld| apply allS| apply allP|intro _| apply seq| apply loop| apply alt| apply br
instance s1060 (v1 v2 v3 v4) : Safe D c I (B.at (k0_part1060 i) v1 v2 v3 v4) := by
  unfold k0_part1060; repeat' with_reducible first|infer_instance|exact ld| apply allS| apply allP|intro _| apply seq| apply loop| apply alt| apply br
instance s1061 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part1061 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part1061; repeat' with_reducible first|infer_instance|exact ld| apply allS| apply allP|intro _| apply seq| apply loop| apply alt| apply br
instance s1062 (v1 v2 v3 v4 v5 v6 v7) : Safe D c I (B.at (k0_part1062 i) v1 v2 v3 v4 v5 v6 v7) := by
  unfold k0_part1062; repeat' with_reducible first|infer_instance|exact ld| apply allS| apply allP|intro _| apply seq| apply loop| apply alt| apply br
instance s1063 (v1 v2 v3 v4) : Safe D c I (B.at (k0_part1063 i) v1 v2 v3 v4) := by
  unfold k0_part1063; repeat' with_reducible first|infer_instance|exact ld| apply allS| apply allP|intro _| apply seq| apply loop| apply alt| apply br
instance s1064 (v1 v2 v3 v4) : Safe D c I (B.at (k0_part1064 i) v1 v2 v3 v4) := by
  unfold k0_part1064; repeat' with_reducible first|infer_instance|exact ld| apply allS| apply allP|intro _| apply seq| apply loop| apply alt| apply br
instance s1065 (v1 v2) : Safe D c I (B.at (k0_part1065 i) v1 v2) := by
  unfold k0_part1065; repeat' with_reducible first|infer_instance|exact ld| apply allS| apply allP|intro _| apply seq| apply loop| apply alt| apply br
instance s1066 (v1 v2 v3) : Safe D c I (B.at (k0_part1066 i) v1 v2 v3) := by
  unfold k0_part1066; repeat' with_reducible first|infer_instance|exact ld| apply allS| apply allP|intro _| apply seq| apply loop| apply alt| apply br
instance s1067 (v1 v2) : Safe D c I (B.at (k0_part1067 i) v1 v2) := by
  unfold k0_part1067; repeat' with_reducible first|infer_instance|exact ld| apply allS| apply allP|intro _| apply seq| apply loop| apply alt| apply br
instance s1068 (v1 v2) : Safe D c I (B.at (k0_part1068 i) v1 v2) := by
  unfold k0_part1068; repeat' with_reducible first|infer_instance|exact ld| apply allS| apply allP|intro _| apply seq| apply loop| apply alt| apply br
instance s1069 (v1) : Safe D c I (B.at (k0_part1069 i) v1) := by
  unfold k0_part1069; repeat' with_reducible first|infer_instance|exact ld| apply allS| apply allP|intro _| apply seq| apply loop| apply alt| apply br
end Cert.Proof.Attn

end
-- ==== Proof.Attn.S08.lean ====
/-
  Parts k0_part1070 to cc0_dsa_attn of the kernel's body keep the buffers they are given: one fact per part, in the order of the printed
  program, each by walking the part's statements.
-/
module

public import proofs.«01_k».proof.Kernel
public import proofs.«01_k».proof.Proof.Attn.S07

@[expose] public section

set_option maxRecDepth 4096

noncomputable section

namespace Cert.Proof.Attn

open Cert.Kernel
open Idealize.ShloMosaic Idealize.SL.BI

variable {F : FTy → Type} [BitOps F] [Facts] {D : Defs nD τ sig (Elt F) Λ₀} {c : Dev nD} {I : sProp (Res F)} (B : Bufs c I) (i : grid0.Coords)

instance s1070 (v1 v2 v3 v4 v5 v6) : Safe D c I (B.at (k0_part1070 i) v1 v2 v3 v4 v5 v6) := by
  unfold k0_part1070; repeat' with_reducible first|infer_instance|exact ld| apply allS| apply allP|intro _| apply seq| apply loop| apply alt| apply br
instance s1071 (v1) : Safe D c I (B.at (k0_part1071 i) v1) := by
  unfold k0_part1071; repeat' with_reducible first|infer_instance|exact ld| apply allS| apply allP|intro _| apply seq| apply loop| apply alt| apply br
instance s1072 (v1 v2 v3) : Safe D c I (B.at (k0_part1072 i) v1 v2 v3) := by
  unfold k0_part1072; repeat' with_reducible first|infer_instance|exact ld| apply allS| apply allP|intro _| apply seq| apply loop| apply alt| apply br
instance s1073 (v1 v2 v3 v4) : Safe D c I (B.at (k0_part1073 i) v1 v2 v3 v4) := by
  unfold k0_part1073; repeat' with_reducible first|infer_instance|exact ld| apply allS| apply allP|intro _| apply seq| apply loop| apply alt| apply br
instance s1074 (v1 v2 v3) : Safe D c I (B.at (k0_part1074 i) v1 v2 v3) := by
  unfold k0_part1074; repeat' with_reducible first|infer_instance|exact ld| apply allS| apply allP|intro _| apply seq| apply loop| apply alt| apply br
instance s1075 (v1 v2 v3 v4) : Safe D c I (B.at (k0_part1075 i) v1 v2 v3 v4) := by
  unfold k0_part1075; repeat' with_reducible first|infer_instance|exact ld| apply allS| apply allP|intro _| apply seq| apply loop| apply alt| apply br
instance s1076 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) : Safe D c I (B.at (k0_part1076 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64) := by
  unfold k0_part1076; repeat' with_reducible first|infer_instance|exact ld| apply allS| apply allP|intro _| apply seq| apply loop| apply alt| apply br
instance s1077 (v1 v2 v3 v4 v5) : Safe D c I (B.at (k0_part1077 i) v1 v2 v3 v4 v5) := by
  unfold k0_part1077; repeat' with_reducible first|infer_instance|exact ld| apply allS| apply allP|intro _| apply seq| apply loop| apply alt| apply br
instance s1078 (v1) : Safe D c I (B.at (k0_part1078 i) v1) := by
  unfold k0_part1078; repeat' with_reducible first|infer_instance|exact ld| apply allS| apply allP|intro _| apply seq| apply loop| apply alt| apply br
instance s1079 (v1 v2 v3) : Safe D c I (B.at (k0_part1079 i) v1 v2 v3) := by
  unfold k0_part1079; repeat' with_reducible first|infer_instance|exact ld| apply allS| apply allP|intro _| apply seq| apply loop| apply alt| apply br
instance s1080 (v1 v2 v3 v4) : Safe D c I (B.at (k0_part1080 i) v1 v2 v3 v4) := by
  unfold k0_part1080; repeat' with_reducible first|infer_instance|exact ld| apply allS| apply allP|intro _| apply seq| apply loop| apply alt| apply br
instance s1081 (v1 v2 v3) : Safe D c I (B.at (k0_part1081 i) v1 v2 v3) := by
  unfold k0_part1081; repeat' with_reducible first|infer_instance|exact ld| apply allS| apply allP|intro _| apply seq| apply loop| apply alt| apply br
instance s1082 (v1 v2 v3 v4) : Safe D c I (B.at (k0_part1082 i) v1 v2 v3 v4) := by
  unfold k0_part1082; repeat' with_reducible first|infer_instance|exact ld| apply allS| apply allP|intro _| apply seq| apply loop| apply alt| apply br
instance s1083 (v1 v2 v3) : Safe D c I (B.at (k0_part1083 i) v1 v2 v3) := by
  unfold k0_part1083; repeat' with_reducible first|infer_instance|exact ld| apply allS| apply allP|intro _| apply seq| apply loop| apply alt| apply br
instance s1084 (v1 v2 v3 v4 v5 v6) : Safe D c I (B.at (k0_part1084 i) v1 v2 v3 v4 v5 v6) := by
  unfold k0_part1084; repeat' with_reducible first|infer_instance|exact ld| apply allS| apply allP|intro _| apply seq| apply loop| apply alt| apply br
instance s1085 (v1 v2) : Safe D c I (B.at (k0_part1085 i) v1 v2) := by
  unfold k0_part1085; repeat' with_reducible first|infer_instance|exact ld| apply allS| apply allP|intro _| apply seq| apply loop| apply alt| apply br
instance s1086 (v1 v2 v3 v4) : Safe D c I (B.at (k0_part1086 i) v1 v2 v3 v4) := by
  unfold k0_part1086; repeat' with_reducible first|infer_instance|exact ld| apply allS| apply allP|intro _| apply seq| apply loop| apply alt| apply br
instance s1087 (v1 v2) : Safe D c I (B.at (k0_part1087 i) v1 v2) := by
  unfold k0_part1087; repeat' with_reducible first|infer_instance|exact ld| apply allS| apply allP|intro _| apply seq| apply loop| apply alt| apply br
instance s1088 (v1 v2 v3) : Safe D c I (B.at (k0_part1088 i) v1 v2 v3) := by
  unfold k0_part1088; repeat' with_reducible first|infer_instance|exact ld| apply allS| apply allP|intro _| apply seq| apply loop| apply alt| apply br
instance s1089 (v1 v2) : Safe D c I (B.at (k0_part1089 i) v1 v2) := by
  unfold k0_part1089; repeat' with_reducible first|infer_instance|exact ld| apply allS| apply allP|intro _| apply seq| apply loop| apply alt| apply br
instance s1090 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) : Safe D c I (B.at (k0_part1090 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) := by
  unfold k0_part1090; repeat' with_reducible first|infer_instance|exact ld| apply allS| apply allP|intro _| apply seq| apply loop| apply alt| apply br
instance s1091 (v1 v2 v3 v4 v5 v6 v7 v8) : Safe D c I (B.at (k0_part1091 i) v1 v2 v3 v4 v5 v6 v7 v8) := by
  unfold k0_part1091; repeat' with_reducible first|infer_instance|exact ld| apply allS| apply allP|intro _| apply seq| apply loop| apply alt| apply br
instance s1092 (v1 v2 v3 v4 v5 v6 v7) : Safe D c I (B.at (k0_part1092 i) v1 v2 v3 v4 v5 v6 v7) := by
  unfold k0_part1092; repeat' with_reducible first|infer_instance|exact ld| apply allS| apply allP|intro _| apply seq| apply loop| apply alt| apply br
instance s1093 (v1 v2 v3) : Safe D c I (B.at (k0_part1093 i) v1 v2 v3) := by
  unfold k0_part1093; repeat' with_reducible first|infer_instance|exact ld| apply allS| apply allP|intro _| apply seq| apply loop| apply alt| apply br
instance s1094 (v1 v2 v3 v4) : Safe D c I (B.at (k0_part1094 i) v1 v2 v3 v4) := by
  unfold k0_part1094; repeat' with_reducible first|infer_instance|exact ld| apply allS| apply allP|intro _| apply seq| apply loop| apply alt| apply br
instance s1095 (v1 v2 v3) : Safe D c I (B.at (k0_part1095 i) v1 v2 v3) := by
  unfold k0_part1095; repeat' with_reducible first|infer_instance|exact ld| apply allS| apply allP|intro _| apply seq| apply loop| apply alt| apply br
instance s1096 (v1 v2 v3 v4) : Safe D c I (B.at (k0_part1096 i) v1 v2 v3 v4) := by
  unfold k0_part1096; repeat' with_reducible first|infer_instance|exact ld| apply allS| apply allP|intro _| apply seq| apply loop| apply alt| apply br
instance s1097 (v1 v2) : Safe D c I (B.at (k0_part1097 i) v1 v2) := by
  unfold k0_part1097; repeat' with_reducible first|infer_instance|exact ld| apply allS| apply allP|intro _| apply seq| apply loop| apply alt| apply br
instance s1098 (v1 v2 v3 v4 v5 v6 v7) : Safe D c I (B.at (k0_part1098 i) v1 v2 v3 v4 v5 v6 v7) := by
  unfold k0_part1098; repeat' with_reducible first|infer_instance|exact ld| apply allS| apply allP|intro _| apply seq| apply loop| apply alt| apply br
instance s1099 (v1 v2) : Safe D c I (B.at (k0_part1099 i) v1 v2) := by
  unfold k0_part1099; repeat' with_reducible first|infer_instance|exact ld| apply allS| apply allP|intro _| apply seq| apply loop| apply alt| apply br
instance s1100 (v1 v2 v3 v4) : Safe D c I (B.at (k0_part1100 i) v1 v2 v3 v4) := by
  unfold k0_part1100; repeat' with_reducible first|infer_instance|exact ld| apply allS| apply allP|intro _| apply seq| apply loop| apply alt| apply br
instance s1101 (v1 v2) : Safe D c I (B.at (k0_part1101 i) v1 v2) := by
  unfold k0_part1101; repeat' with_reducible first|infer_instance|exact ld| apply allS| apply allP|intro _| apply seq| apply loop| apply alt| apply br
instance s1102 (v1 v2 v3) : Safe D c I (B.at (k0_part1102 i) v1 v2 v3) := by
  unfold k0_part1102; repeat' with_reducible first|infer_instance|exact ld| apply allS| apply allP|intro _| apply seq| apply loop| apply alt| apply br
instance s1103 (v1 v2) : Safe D c I (B.at (k0_part1103 i) v1 v2) := by
  unfold k0_part1103; repeat' with_reducible first|infer_instance|exact ld| apply allS| apply allP|intro _| apply seq| apply loop| apply alt| apply br
instance s1104 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part1104 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part1104; repeat' with_reducible first|infer_instance|exact ld| apply allS| apply allP|intro _| apply seq| apply loop| apply alt| apply br
instance s1105 (v1 v2 v3 v4 v5) : Safe D c I (B.at (k0_part1105 i) v1 v2 v3 v4 v5) := by
  unfold k0_part1105; repeat' with_reducible first|infer_instance|exact ld| apply allS| apply allP|intro _| apply seq| apply loop| apply alt| apply br
instance s1106 (v1 v2) : Safe D c I (B.at (k0_part1106 i) v1 v2) := by
  unfold k0_part1106; repeat' with_reducible first|infer_instance|exact ld| apply allS| apply allP|intro _| apply seq| apply loop| apply alt| apply br
instance s1107 (v1 v2 v3 v4) : Safe D c I (B.at (k0_part1107 i) v1 v2 v3 v4) := by
  unfold k0_part1107; repeat' with_reducible first|infer_instance|exact ld| apply allS| apply allP|intro _| apply seq| apply loop| apply alt| apply br
instance s1108 (v1 v2) : Safe D c I (B.at (k0_part1108 i) v1 v2) := by
  unfold k0_part1108; repeat' with_reducible first|infer_instance|exact ld| apply allS| apply allP|intro _| apply seq| apply loop| apply alt| apply br
instance s1109 (v1 v2 v3) : Safe D c I (B.at (k0_part1109 i) v1 v2 v3) := by
  unfold k0_part1109; repeat' with_reducible first|infer_instance|exact ld| apply allS| apply allP|intro _| apply seq| apply loop| apply alt| apply br
instance s1110 (v1 v2) : Safe D c I (B.at (k0_part1110 i) v1 v2) := by
  unfold k0_part1110; repeat' with_reducible first|infer_instance|exact ld| apply allS| apply allP|intro _| apply seq| apply loop| apply alt| apply br
instance s1111 (v1 v2 v3 v4 v5) : Safe D c I (B.at (k0_part1111 i) v1 v2 v3 v4 v5) := by
  unfold k0_part1111; repeat' with_reducible first|infer_instance|exact ld| apply allS| apply allP|intro _| apply seq| apply loop| apply alt| apply br
instance s1112 (v1 v2) : Safe D c I (B.at (k0_part1112 i) v1 v2) := by
  unfold k0_part1112; repeat' with_reducible first|infer_instance|exact ld| apply allS| apply allP|intro _| apply seq| apply loop| apply alt| apply br
instance s1113 (v1 v2) : Safe D c I (B.at (k0_part1113 i) v1 v2) := by
  unfold k0_part1113; repeat' with_reducible first|infer_instance|exact ld| apply allS| apply allP|intro _| apply seq| apply loop| apply alt| apply br
instance s1114 (v1) : Safe D c I (B.at (k0_part1114 i) v1) := by
  unfold k0_part1114; repeat' with_reducible first|infer_instance|exact ld| apply allS| apply allP|intro _| apply seq| apply loop| apply alt| apply br
instance s1115 (v1 v2 v3) : Safe D c I (B.at (k0_part1115 i) v1 v2 v3) := by
  unfold k0_part1115; repeat' with_reducible first|infer_instance|exact ld| apply allS| apply allP|intro _| apply seq| apply loop| apply alt| apply br
instance s1116 (v1 v2 v3 v4) : Safe D c I (B.at (k0_part1116 i) v1 v2 v3 v4) := by
  unfold k0_part1116; repeat' with_reducible first|infer_instance|exact ld| apply allS| apply allP|intro _| apply seq| apply loop| apply alt| apply br
instance s1117 (v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) : Safe D c I (B.at (k0_part1117 i) v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65) := by
  unfold k0_part1117; repeat' with_reducible first|infer_instance|exact ld| apply allS| apply allP|intro _| apply seq| apply loop| apply alt| apply br
instance s1118 (v1 v2 v3 v4 v5 v6 v7) : Safe D c I (B.at (k0_part1118 i) v1 v2 v3 v4 v5 v6 v7) := by
  unfold k0_part1118; repeat' with_reducible first|infer_instance|exact ld| apply allS| apply allP|intro _| apply seq| apply loop| apply alt| apply br
instance s1119 (v1 v2 v3 v4) : Safe D c I (B.at (k0_part1119 i) v1 v2 v3 v4) := by
  unfold k0_part1119; repeat' with_reducible first|infer_instance|exact ld| apply allS| apply allP|intro _| apply seq| apply loop| apply alt| apply br
instance s1120 (v1 v2 v3) : Safe D c I (B.at (k0_part1120 i) v1 v2 v3) := by
  unfold k0_part1120; repeat' with_reducible first|infer_instance|exact ld| apply allS| apply allP|intro _| apply seq| apply loop| apply alt| apply br
instance s1121 (v1 v2 v3) : Safe D c I (B.at (k0_part1121 i) v1 v2 v3) := by
  unfold k0_part1121; repeat' with_reducible first|infer_instance|exact ld| apply allS| apply allP|intro _| apply seq| apply loop| apply alt| apply br
instance s1122 (v1 v2 v3 v4) : Safe D c I (B.at (k0_part1122 i) v1 v2 v3 v4) := by
  unfold k0_part1122; repeat' with_reducible first|infer_instance|exact ld| apply allS| apply allP|intro _| apply seq| apply loop| apply alt| apply br
instance s1123 (v1 v2) : Safe D c I (B.at (k0_part1123 i) v1 v2) := by
  unfold k0_part1123; repeat' with_reducible first|infer_instance|exact ld| apply allS| apply allP|intro _| apply seq| apply loop| apply alt| apply br
instance s1124 (v1 v2 v3 v4) : Safe D c I (B.at (k0_part1124 i) v1 v2 v3 v4) := by
  unfold k0_part1124; repeat' with_reducible first|infer_instance|exact ld| apply allS| apply allP|intro _| apply seq| apply loop| apply alt| apply br
instance s1125 (v1 v2) : Safe D c I (B.at (k0_part1125 i) v1 v2) := by
  unfold k0_part1125; repeat' with_reducible first|infer_instance|exact ld| apply allS| apply allP|intro _| apply seq| apply loop| apply alt| apply br
instance s1126 (v1 v2 v3 v4 v5 v6 v7 v8 v9 v10 v11 v12 v13 v14 v15 v16 v17 v18 v19 v20 v21 v22 v23 v24 v25 v26 v27 v28 v29 v30 v31 v32 v33) : Safe D c I (B.at (k0_part1126 i) v1 v2 v3 v4 v5 v6 v7 v8 v9 v10 v11 v12 v13 v14 v15 v16 v17 v18 v19 v20 v21 v22 v23 v24 v25 v26 v27 v28 v29 v30 v31 v32 v33) := by
  unfold k0_part1126; repeat' with_reducible first|infer_instance|exact ld| apply allS| apply allP|intro _| apply seq| apply loop| apply alt| apply br
instance s1127 (v1 v2 v3 v4 v5 v6) : Safe D c I (B.at (k0_part1127 i) v1 v2 v3 v4 v5 v6) := by
  unfold k0_part1127; repeat' with_reducible first|infer_instance|exact ld| apply allS| apply allP|intro _| apply seq| apply loop| apply alt| apply br
instance s1128 (v1 v2 v3) : Safe D c I (B.at (k0_part1128 i) v1 v2 v3) := by
  unfold k0_part1128; repeat' with_reducible first|infer_instance|exact ld| apply allS| apply allP|intro _| apply seq| apply loop| apply alt| apply br
instance s1129 (v1 v2 v3 v4) : Safe D c I (B.at (k0_part1129 i) v1 v2 v3 v4) := by
  unfold k0_part1129; repeat' with_reducible first|infer_instance|exact ld| apply allS| apply allP|intro _| apply seq| apply loop| apply alt| apply br
instance s1130 (v1 v2) : Safe D c I (B.at (k0_part1130 i) v1 v2) := by
  unfold k0_part1130; repeat' with_reducible first|infer_instance|exact ld| apply allS| apply allP|intro _| apply seq| apply loop| apply alt| apply br
instance s1131 (v1 v2 v3 v4) : Safe D c I (B.at (k0_part1131 i) v1 v2 v3 v4) := by
  unfold k0_part1131; repeat' with_reducible first|infer_instance|exact ld| apply allS| apply allP|intro _| apply seq| apply loop| apply alt| apply br
instance s1132 (v1 v2) : Safe D c I (B.at (k0_part1132 i) v1 v2) := by
  unfold k0_part1132; repeat' with_reducible first|infer_instance|exact ld| apply allS| apply allP|intro _| apply seq| apply loop| apply alt| apply br
instance s1133 (v1 v2 v3 v4 v5 v6 v7 v8 v9 v10 v11 v12 v13 v14 v15 v16 v17 v18 v19 v20 v21 v22 v23 v24 v25 v26 v27 v28 v29 v30 v31 v32 v33 v34) : Safe D c I (B.at (k0_part1133 i) v1 v2 v3 v4 v5 v6 v7 v8 v9 v10 v11 v12 v13 v14 v15 v16 v17 v18 v19 v20 v21 v22 v23 v24 v25 v26 v27 v28 v29 v30 v31 v32 v33 v34) := by
  unfold k0_part1133; repeat' with_reducible first|infer_instance|exact ld| apply allS| apply allP|intro _| apply seq| apply loop| apply alt| apply br
instance s1134 (v1 v2 v3 v4 v5 v6 v7 v8) : Safe D c I (B.at (k0_part1134 i) v1 v2 v3 v4 v5 v6 v7 v8) := by
  unfold k0_part1134; repeat' with_reducible first|infer_instance|exact ld| apply allS| apply allP|intro _| apply seq| apply loop| apply alt| apply br
instance s1135 (v1 v2 v3 v4 v5 v6) : Safe D c I (B.at (k0_part1135 i) v1 v2 v3 v4 v5 v6) := by
  unfold k0_part1135; repeat' with_reducible first|infer_instance|exact ld| apply allS| apply allP|intro _| apply seq| apply loop| apply alt| apply br
instance s1136 (v1 v2) : Safe D c I (B.at (k0_part1136 i) v1 v2) := by
  unfold k0_part1136; repeat' with_reducible first|infer_instance|exact ld| apply allS| apply allP|intro _| apply seq| apply loop| apply alt| apply br
instance s1137 (v1) : Safe D c I (B.at (k0_part1137 i) v1) := by
  unfold k0_part1137; repeat' with_reducible first|infer_instance|exact ld| apply allS| apply allP|intro _| apply seq| apply loop| apply alt| apply br
instance s1138 (v1 v2 v3) : Safe D c I (B.at (k0_part1138 i) v1 v2 v3) := by
  unfold k0_part1138; repeat' with_reducible first|infer_instance|exact ld| apply allS| apply allP|intro _| apply seq| apply loop| apply alt| apply br
instance s1139 (v1 v2 v3 v4) : Safe D c I (B.at (k0_part1139 i) v1 v2 v3 v4) := by
  unfold k0_part1139; repeat' with_reducible first|infer_instance|exact ld| apply allS| apply allP|intro _| apply seq| apply loop| apply alt| apply br
instance s1140 (v1 v2 v3) : Safe D c I (B.at (k0_part1140 i) v1 v2 v3) := by
  unfold k0_part1140; repeat' with_reducible first|infer_instance|exact ld| apply allS| apply allP|intro _| apply seq| apply loop| apply alt| apply br
instance s1141 (v1 v2 v3 v4 v5 v6 v7 v8 v9 v10 v11 v12 v13 v14 v15 v16 v17 v18 v19 v20 v21 v22 v23 v24 v25 v26 v27 v28 v29 v30 v31 v32 v33 v34) : Safe D c I (B.at (k0_part1141 i) v1 v2 v3 v4 v5 v6 v7 v8 v9 v10 v11 v12 v13 v14 v15 v16 v17 v18 v19 v20 v21 v22 v23 v24 v25 v26 v27 v28 v29 v30 v31 v32 v33 v34) := by
  unfold k0_part1141; repeat' with_reducible first|infer_instance|exact ld| apply allS| apply allP|intro _| apply seq| apply loop| apply alt| apply br
instance s1142 (v1 v2 v3 v4 v5) : Safe D c I (B.at (k0_part1142 i) v1 v2 v3 v4 v5) := by
  unfold k0_part1142; repeat' with_reducible first|infer_instance|exact ld| apply allS| apply allP|intro _| apply seq| apply loop| apply alt| apply br
instance s1143 (v1 v2) : Safe D c I (B.at (k0_part1143 i) v1 v2) := by
  unfold k0_part1143; repeat' with_reducible first|infer_instance|exact ld| apply allS| apply allP|intro _| apply seq| apply loop| apply alt| apply br
instance s1144 (v1) : Safe D c I (B.at (k0_part1144 i) v1) := by
  unfold k0_part1144; repeat' with_reducible first|infer_instance|exact ld| apply allS| apply allP|intro _| apply seq| apply loop| apply alt| apply br
instance s1145 (v1 v2 v3) : Safe D c I (B.at (k0_part1145 i) v1 v2 v3) := by
  unfold k0_part1145; repeat' with_reducible first|infer_instance|exact ld| apply allS| apply allP|intro _| apply seq| apply loop| apply alt| apply br
instance s1146 (v1 v2 v3 v4) : Safe D c I (B.at (k0_part1146 i) v1 v2 v3 v4) := by
  unfold k0_part1146; repeat' with_reducible first|infer_instance|exact ld| apply allS| apply allP|intro _| apply seq| apply loop| apply alt| apply br
instance s1147 (v1 v2 v3) : Safe D c I (B.at (k0_part1147 i) v1 v2 v3) := by
  unfold k0_part1147; repeat' with_reducible first|infer_instance|exact ld| apply allS| apply allP|intro _| apply seq| apply loop| apply alt| apply br
instance s1148 (v1 v2 v3 v4 v5 v6 v7 v8 v9 v10 v11 v12 v13 v14 v15 v16 v17 v18 v19 v20 v21 v22 v23 v24 v25 v26 v27 v28 v29 v30 v31 v32 v33 v34 v35) : Safe D c I (B.at (k0_part1148 i) v1 v2 v3 v4 v5 v6 v7 v8 v9 v10 v11 v12 v13 v14 v15 v16 v17 v18 v19 v20 v21 v22 v23 v24 v25 v26 v27 v28 v29 v30 v31 v32 v33 v34 v35) := by
  unfold k0_part1148; repeat' with_reducible first|infer_instance|exact ld| apply allS| apply allP|intro _| apply seq| apply loop| apply alt| apply br
instance s1149 (v1 v2 v3 v4 v5 v6 v7) : Safe D c I (B.at (k0_part1149 i) v1 v2 v3 v4 v5 v6 v7) := by
  unfold k0_part1149; repeat' with_reducible first|infer_instance|exact ld| apply allS| apply allP|intro _| apply seq| apply loop| apply alt| apply br
instance s1150 : Safe D c I (B.at (k0_part1150 i)) := by
  unfold k0_part1150; repeat' with_reducible first|infer_instance|exact ld| apply allS| apply allP|intro _| apply seq| apply loop| apply alt| apply br
set_option maxHeartbeats 2000000 in
instance s1151 (v1 v2 v3 v4 v5 v6) : Safe D c I (B.at (k0_part1151 i) v1 v2 v3 v4 v5 v6) := by
  unfold k0_part1151; repeat' with_reducible first|infer_instance|exact ld| apply allS| apply allP|intro _| apply seq| apply loop| apply alt| apply br
instance s1152 (v1 v2 v3) : Safe D c I (B.at (k0_part1152 i) v1 v2 v3) := by
  unfold k0_part1152; repeat' with_reducible first|infer_instance|exact ld| apply allS| apply allP|intro _| apply seq| apply loop| apply alt| apply br
instance s1153 (v1 v2 v3 v4 v5 v6 v7 v8 v9 v10) : Safe D c I (B.at (k0_part1153 i) v1 v2 v3 v4 v5 v6 v7 v8 v9 v10) := by
  unfold k0_part1153; repeat' with_reducible first|infer_instance|exact ld| apply allS| apply allP|intro _| apply seq| apply loop| apply alt| apply br
instance s1154 (v1 v2) : Safe D c I (B.at (k0_part1154 i) v1 v2) := by
  unfold k0_part1154; repeat' with_reducible first|infer_instance|exact ld| apply allS| apply allP|intro _| apply seq| apply loop| apply alt| apply br
instance s1155 (v1) : Safe D c I (B.at (k0_part1155 i) v1) := by
  unfold k0_part1155; repeat' with_reducible first|infer_instance|exact ld| apply allS| apply allP|intro _| apply seq| apply loop| apply alt| apply br
instance s1156 (v1 v2 v3 v4 v5 v6) : Safe D c I (B.at (k0_part1156 i) v1 v2 v3 v4 v5 v6) := by
  unfold k0_part1156; repeat' with_reducible first|infer_instance|exact ld| apply allS| apply allP|intro _| apply seq| apply loop| apply alt| apply br
instance s1157 (v1 v2 v3) : Safe D c I (B.at (k0_part1157 i) v1 v2 v3) := by
  unfold k0_part1157; repeat' with_reducible first|infer_instance|exact ld| apply allS| apply allP|intro _| apply seq| apply loop| apply alt| apply br
instance s1158 : Safe D c I (B.at (k0_part1158 i)) := by
  unfold k0_part1158; repeat' with_reducible first|infer_instance|exact ld| apply allS| apply allP|intro _| apply seq| apply loop| apply alt| apply br
instance sBody : Safe D c I (B.at (cc0_dsa_attn i)) := by
  unfold cc0_dsa_attn; repeat' with_reducible first|infer_instance|exact ld| apply allS| apply allP|intro _| apply seq| apply loop| apply alt| apply br
end Cert.Proof.Attn

end
-- ==== Proof.Attn.Run.lean ====
/-
  The attention call's run: its body keeps the operands' buffers (`sBody`), so at every grid point the body takes
  the input blocks, the output's block and the scratch buffers and gives them back, the input blocks unchanged.
  The pipeline's launch theorem, with the output window forgotten, then gives the frame and that every
  semaphore ends at zero.
-/
module

public import proofs.«01_k».proof.Proof.Attn.S08
public import proofs.«01_k».proof.Proof.Gen.Kernel.Frame
public import proofs.«01_k».proof.Proof.Gen.Kernel.Launch
public import proofs.«01_k».proof.Proof.Gen.Kernel.Points

@[expose] public section

set_option maxRecDepth 4000

noncomputable section

namespace Cert.Proof.Attn

open Cert.Kernel

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [BitOps F]

section Held

variable (c : Dev nD)

/-- A buffer that is only read, at the contents `X`. -/
def inBuf {sp : Space} {S : Shape} {e : EltTy} (M : Memref sig .tc sp S e) (X : S.Idx → Elt F e) : sProp (Res F) :=
  owns (c : Thread nD τ) M fullShare X

/-- A buffer at some contents. -/
def outBuf {sp : Space} {S : Shape} {e : EltTy} (M : Memref sig .tc sp S e) : sProp (Res F) :=
  iprop(∃ X : S.Idx → Elt F e, owns (c : Thread nD τ) M fullShare X)

theorem rd_inBuf {sp : Space} {S : Shape} {e : EltTy} {M : Memref sig .tc sp S e} (h : M.IsWhole) (X : S.Idx → Elt F e) :
    Rd c (inBuf c M X) M := by
  constructor
  unfold inBuf owns
  rw [h.set_eq_univ]
  iintro ⟨%f, %hf, H⟩
  iexists fullShare, f
  isplitl [H]; · iexact H
  iintro H
  iexists f
  isplitr; · ipureintro; exact hf
  iexact H

theorem wr_outBuf {sp : Space} {S : Shape} {e : EltTy} {M : Memref sig .tc sp S e} (h : M.IsWhole) :
    Wr (F := F) c (outBuf c M) M := by
  constructor
  unfold outBuf owns
  rw [h.set_eq_univ]
  iintro ⟨%X, %f, %hf, H⟩
  iexists f
  isplitl [H]; · iexact H
  iintro %f' H
  iexists M.view.read (Elt F) f', f'
  isplitr; · ipureintro; rfl
  iexact H

variable {c}

theorem Rd.left {I J : sProp (Res F)} {sp : Space} {S : Shape} {e : EltTy} {M : Memref sig .tc sp S e} (h : Rd c I M) :
    Rd c iprop(I ∗ J) M := by
  constructor
  iintro ⟨HI, HJ⟩
  ihave HI := h.get $$ HI
  icases HI with ⟨%q, %f, H, Hk⟩
  iexists q, f
  isplitl [H]; · iexact H
  iintro H
  isplitl [H Hk]
  · iapply Hk; iexact H
  · iexact HJ

theorem Rd.right {I J : sProp (Res F)} {sp : Space} {S : Shape} {e : EltTy} {M : Memref sig .tc sp S e} (h : Rd c J M) :
    Rd c iprop(I ∗ J) M := by
  constructor
  iintro ⟨HI, HJ⟩
  ihave HJ := h.get $$ HJ
  icases HJ with ⟨%q, %f, H, Hk⟩
  iexists q, f
  isplitl [H]; · iexact H
  iintro H
  isplitl [HI]; · iexact HI
  iapply Hk; iexact H

theorem Wr.left {I J : sProp (Res F)} {sp : Space} {S : Shape} {e : EltTy} {M : Memref sig .tc sp S e} (h : Wr c I M) :
    Wr c iprop(I ∗ J) M := by
  constructor
  iintro ⟨HI, HJ⟩
  ihave HI := h.get $$ HI
  icases HI with ⟨%f, H, Hk⟩
  iexists f
  isplitl [H]; · iexact H
  iintro %f' H
  isplitl [H Hk]
  · iapply Hk; iexact H
  · iexact HJ

theorem Wr.right {I J : sProp (Res F)} {sp : Space} {S : Shape} {e : EltTy} {M : Memref sig .tc sp S e} (h : Wr c J M) :
    Wr c iprop(I ∗ J) M := by
  constructor
  iintro ⟨HI, HJ⟩
  ihave HJ := h.get $$ HJ
  icases HJ with ⟨%f, H, Hk⟩
  iexists f
  isplitl [H]; · iexact H
  iintro %f' H
  isplitl [HI]; · iexact HI
  iapply Hk; iexact H

variable (c)

/-- The seventeen operands' buffers: nine at fixed contents, eight at some contents. -/
def held (a2 : Memref sig .tc .vmem S4x1x128x2048 .bf16) (a3 : Memref sig .tc .vmem S4x512x256 .bf16) (a4 : Memref sig .tc .vmem S4x8x256 .f32) (a5 : Memref sig .tc .vmem S4x512x256 .bf16) (a6 : Memref sig .tc .vmem S4x8x256 .f32) (a7 : Memref sig .tc .vmem S4x2048x64 .bf16) (a8 : Memref sig .tc .vmem S4x2048x128 .bf16) (a9 : Memref sig .tc .vmem S4x144x2048 .bf16) (a10 : Memref sig .tc .vmem S8x64x128 .bf16) (a11 : Memref sig .tc .vmem S4x256x512 .bf16) (a12 : Memref sig .tc .vmem S2x4x8x32x8x256 .i32) (a13 : Memref sig .tc .vmem S4x8x8x256 .i32) (a14 : Memref sig .tc .vmem S4x8x8x256 .i32) (a15 : Memref sig .tc .vmem S4x8x256 .i32) (a16 : Memref sig .tc .vmem S4x8x256 .i32) (a17 : Memref sig .tc .vmem S4x1x2048 .f32) (a18 : Memref sig .tc .vmem S4x144x2048 .f32)
    (X2 : S4x1x128x2048.Idx → Elt F .bf16) (X3 : S4x512x256.Idx → Elt F .bf16) (X4 : S4x8x256.Idx → Elt F .f32) (X5 : S4x512x256.Idx → Elt F .bf16) (X6 : S4x8x256.Idx → Elt F .f32) (X7 : S4x2048x64.Idx → Elt F .bf16) (X8 : S4x2048x128.Idx → Elt F .bf16) (X9 : S4x144x2048.Idx → Elt F .bf16) (X10 : S8x64x128.Idx → Elt F .bf16) : sProp (Res F) :=
  iprop(inBuf c a2 X2 ∗ inBuf c a3 X3 ∗ inBuf c a4 X4 ∗ inBuf c a5 X5 ∗ inBuf c a6 X6 ∗ inBuf c a7 X7 ∗ inBuf c a8 X8 ∗ inBuf c a9 X9 ∗ inBuf c a10 X10 ∗ outBuf c a11 ∗ outBuf c a12 ∗ outBuf c a13 ∗ outBuf c a14 ∗ outBuf c a15 ∗ outBuf c a16 ∗ outBuf c a17 ∗ outBuf c a18)

/-- The operands with what `held` says of them. -/
def mkBufs [Facts] (a2 : Memref sig .tc .vmem S4x1x128x2048 .bf16) (a3 : Memref sig .tc .vmem S4x512x256 .bf16) (a4 : Memref sig .tc .vmem S4x8x256 .f32) (a5 : Memref sig .tc .vmem S4x512x256 .bf16) (a6 : Memref sig .tc .vmem S4x8x256 .f32) (a7 : Memref sig .tc .vmem S4x2048x64 .bf16) (a8 : Memref sig .tc .vmem S4x2048x128 .bf16) (a9 : Memref sig .tc .vmem S4x144x2048 .bf16) (a10 : Memref sig .tc .vmem S8x64x128 .bf16) (a11 : Memref sig .tc .vmem S4x256x512 .bf16) (a12 : Memref sig .tc .vmem S2x4x8x32x8x256 .i32) (a13 : Memref sig .tc .vmem S4x8x8x256 .i32) (a14 : Memref sig .tc .vmem S4x8x8x256 .i32) (a15 : Memref sig .tc .vmem S4x8x256 .i32) (a16 : Memref sig .tc .vmem S4x8x256 .i32) (a17 : Memref sig .tc .vmem S4x1x2048 .f32) (a18 : Memref sig .tc .vmem S4x144x2048 .f32)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole)
    (X2 : S4x1x128x2048.Idx → Elt F .bf16) (X3 : S4x512x256.Idx → Elt F .bf16) (X4 : S4x8x256.Idx → Elt F .f32) (X5 : S4x512x256.Idx → Elt F .bf16) (X6 : S4x8x256.Idx → Elt F .f32) (X7 : S4x2048x64.Idx → Elt F .bf16) (X8 : S4x2048x128.Idx → Elt F .bf16) (X9 : S4x144x2048.Idx → Elt F .bf16) (X10 : S8x64x128.Idx → Elt F .bf16) :
    Bufs c (held (F := F) c a2 a3 a4 a5 a6 a7 a8 a9 a10 a11 a12 a13 a14 a15 a16 a17 a18 X2 X3 X4 X5 X6 X7 X8 X9 X10) where
  a2 := a2
  h2 := h2
  r2 := (rd_inBuf c h2 X2).left
  a3 := a3
  h3 := h3
  r3 := ((rd_inBuf c h3 X3).left).right
  a4 := a4
  h4 := h4
  r4 := ((rd_inBuf c h4 X4).left).right.right
  a5 := a5
  h5 := h5
  r5 := ((rd_inBuf c h5 X5).left).right.right.right
  a6 := a6
  h6 := h6
  r6 := ((rd_inBuf c h6 X6).left).right.right.right.right
  a7 := a7
  h7 := h7
  r7 := ((rd_inBuf c h7 X7).left).right.right.right.right.right
  a8 := a8
  h8 := h8
  r8 := ((rd_inBuf c h8 X8).left).right.right.right.right.right.right
  a9 := a9
  h9 := h9
  r9 := ((rd_inBuf c h9 X9).left).right.right.right.right.right.right.right
  a10 := a10
  h10 := h10
  r10 := ((rd_inBuf c h10 X10).left).right.right.right.right.right.right.right.right
  a11 := a11
  h11 := h11
  r11 := (((wr_outBuf c h11).left).right.right.right.right.right.right.right.right.right).rd
  w11 := ((wr_outBuf c h11).left).right.right.right.right.right.right.right.right.right
  a12 := a12
  h12 := h12
  r12 := (((wr_outBuf c h12).left).right.right.right.right.right.right.right.right.right.right).rd
  w12 := ((wr_outBuf c h12).left).right.right.right.right.right.right.right.right.right.right
  a13 := a13
  h13 := h13
  r13 := (((wr_outBuf c h13).left).right.right.right.right.right.right.right.right.right.right.right).rd
  w13 := ((wr_outBuf c h13).left).right.right.right.right.right.right.right.right.right.right.right
  a14 := a14
  h14 := h14
  r14 := (((wr_outBuf c h14).left).right.right.right.right.right.right.right.right.right.right.right.right).rd
  w14 := ((wr_outBuf c h14).left).right.right.right.right.right.right.right.right.right.right.right.right
  a15 := a15
  h15 := h15
  r15 := (((wr_outBuf c h15).left).right.right.right.right.right.right.right.right.right.right.right.right.right).rd
  w15 := ((wr_outBuf c h15).left).right.right.right.right.right.right.right.right.right.right.right.right.right
  a16 := a16
  h16 := h16
  r16 := (((wr_outBuf c h16).left).right.right.right.right.right.right.right.right.right.right.right.right.right.right).rd
  w16 := ((wr_outBuf c h16).left).right.right.right.right.right.right.right.right.right.right.right.right.right.right
  a17 := a17
  h17 := h17
  r17 := (((wr_outBuf c h17).left).right.right.right.right.right.right.right.right.right.right.right.right.right.right.right).rd
  w17 := ((wr_outBuf c h17).left).right.right.right.right.right.right.right.right.right.right.right.right.right.right.right
  a18 := a18
  h18 := h18
  r18 := ((wr_outBuf c h18).right.right.right.right.right.right.right.right.right.right.right.right.right.right.right.right).rd
  w18 := (wr_outBuf c h18).right.right.right.right.right.right.right.right.right.right.right.right.right.right.right.right

end Held

open Cert.Kernel.Gen

variable (m : (ℓ : Loc nD τ sig) → Buf (Elt F) ℓ) (ρ : Dev nD → PrngReg)

section Run

/-- The proof data: the arrays as they are at entry, an input window's block left in place. -/
abbrev dats : (p : Fin 1) → (c : Dev nD) → Dat τ (Elt F) Unit ℕ (UR sig nD τ) ℕ (cfgs p) c := fun _ c =>
  { A := fun w => V m c (Pipeline.arrRef spec0 w)
    after := fun w t => match w with
      | 0 => iblk m c 0 t
      | 1 => iblk m c 1 t
      | 2 => iblk m c 2 t
      | 3 => iblk m c 3 t
      | 4 => iblk m c 4 t
      | 5 => iblk m c 5 t
      | 6 => iblk m c 6 t
      | 7 => iblk m c 7 t
      | 8 => iblk m c 8 t
      | 9 => fun _ => Classical.arbitrary _
    Φ := fun _ => ΦA spec0 c
    q := fun w => shareOf spec0 w
    owed := fun _ => 0 }

/-- The output window is forgotten. -/
def fgt (w : Fin 10) : Bool := decide (w = 9)

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = true := rfl

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d

/-- The buffers the body uses at a point. -/
abbrev heldAt (c : Dev nD) (t : Fin cfg0.N) : sProp (Res F) :=
  held (F := F) c (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6)
    (iblk m c 0 t) (iblk m c 1 t) (iblk m c 2 t) (iblk m c 3 t) (iblk m c 4 t) (iblk m c 5 t) (iblk m c 6 t) (iblk m c 7 t) (iblk m c 8 t)

theorem body_run (c : Dev nD) (t : Fin cfg0.N) :
    heldAt m c t ⊢ wp frame (wpE defs₀ Variants.none c none) Set.univ (bodyAt0 t) fun _ => heldAt m c t :=
  (sBody (D := defs₀) (c := c) (I := heldAt m c t) (i := grid0.coords t)
    (mkBufs c (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6)
      (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (Memref.isWhole_whole _) (Memref.isWhole_whole _) (Memref.isWhole_whole _) (Memref.isWhole_whole _) (Memref.isWhole_whole _) (Memref.isWhole_whole _) (Memref.isWhole_whole _)
      (iblk m c 0 t) (iblk m c 1 t) (iblk m c 2 t) (iblk m c 3 t) (iblk m c 4 t) (iblk m c 5 t) (iblk m c 6 t) (iblk m c 7 t) (iblk m c 8 t))).run

theorem hbody (c : Dev nD) : BodyObligation (dats m 0 c) defs₀ Variants.none () Set.univ fgt := by
  intro t
  rw [bigSep_W0, bigSep_W0]
  show iprop(ΦA spec0 c ∗ _ ∗ _) ⊢ wp frame _ _ (bodyAt0 t) fun _ => iprop(ΦA spec0 c ∗ _ ∗ _)
  unfold ΦA
  rw [scopedRest0_eq]
  refine (?_ : _ ⊢ iprop(heldAt m c t ∗ ((∃ r, prngReg c r) ∗ (dats m 0 c).owesAt () t.castSucc))).trans
    ((sep_mono (body_run m c t) .rfl).trans ((wp_frame_r _ _ _).trans (wp_mono _ _ _ fun _ => ?_)))
  · simp only [fgt_0, fgt_1, fgt_2, fgt_3, fgt_4, fgt_5, fgt_6, fgt_7, fgt_8, fgt_9, before_0, before_1, before_2, before_3, before_4, before_5, before_6, before_7, before_8]
    unfold heldAt held inBuf outBuf
    simp only [owns_whole]
    iintro ⟨⟨⟨S0, S1, S2, S3, S4, S5, S6⟩, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iframe
  · simp only [fgt_0, fgt_1, fgt_2, fgt_3, fgt_4, fgt_5, fgt_6, fgt_7, fgt_8, fgt_9]
    unfold heldAt held inBuf outBuf
    simp only [owns_whole]
    iintro ⟨⟨H0, H1, H2, H3, H4, H5, H6, H7, H8, H9, S0, S1, S2, S3, S4, S5, S6⟩, HP, HO⟩
    iframe
    iexact HO

theorem run : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  Pipeline.θ_run_frame_forget_shared cfgs (dats m) 0 launch₀0 defs₀ Variants.none fgt m ρ main (fun c => (hbody m c).loose)
    (fun _ _ _ => rfl) (fun _ _ => rfl) (V m) (hmain m Variants.none) (fun _ _ => rfl) (fun _ _ => rfl) _ fun r h =>
      ⟨fun c => ⟨h.1.arr_in c 0 rfl, h.1.arr_in c 3 rfl, h.1.arr_in c 4 rfl, h.1.arr_in c 5 rfl, h.1.arr_in c 6 rfl,
        h.1.arr_in c 7 rfl, h.1.arr_in c 8 rfl⟩, h.2⟩

end Run
end Cert.Proof.Attn

end
-- ==== Proof.Val.Spec.lean ====
/- The function of one row that a feed-forward call computes, on extended reals: what both programs are read to. -/
module

public import Idealize.ShloMosaic.Lib.Pointwise

@[expose] public section

noncomputable section

namespace Cert.Val

open Idealize.ShloMosaic
open scoped BigOperators

/-- A row scaled by the reciprocal root of its mean square, then channel by channel by `g`. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- A row times a matrix, at one column. -/
def lin {K N : Nat} (h : Fin K → EReal) (w : Fin K → Fin N → EReal) (q : Fin N) : EReal := ∑ k, h k * w k q

/-- The gated hidden row: silu of the gate product times the up product. -/
def glu (h : Fin 1024 → EReal) (wg wu : Fin 1024 → Fin 2816 → EReal) (q : Fin 2816) : EReal :=
  lin h wg q * Ideal.logistic (lin h wg q) * lin h wu q

/-- A row plus half its feed-forward. -/
def ffnRow (x g : Fin 1024 → EReal) (wg wu : Fin 1024 → Fin 2816 → EReal) (wd : Fin 2816 → Fin 1024 → EReal)
    (j : Fin 1024) : EReal :=
  x j + Ideal.ofBits .f32 0x3F000000#32 * lin (glu (rms x g) wg wu) wd j

end Cert.Val

end
-- ==== Proof.Val.FfnBlock.lean ====
module

public import proofs.«01_k».proof.Proof.Val.Spec
public import proofs.«01_k».proof.Proof.Gen.FfnIdeal.Frame
public import Idealize.ShloMosaic.Lib.Pipeline.Value

@[expose] public section

noncomputable section

namespace Cert.Val.FfnBlock

open Cert.FfnIdeal Cert.FfnIdeal.Gen Idealize.ShloMosaic Idealize.ShloMosaic.TcCoe Idealize.SL.Sem

/-- Eleven column tiles side by side. -/
def cat (f : Fin 11 → FVec Ideal S1024x256 .bf16) : FVec Ideal S1024x2816 .bf16 :=
  concatenate S1024x2816 1 (List.ofFn fun n : Fin 11 => (⟨S1024x256, f n⟩ : (s : Shape) × (s.Idx → Elt Ideal .bf16)))
    concatenates_S1024x256_S1024x256_S1024x256_S1024x256_S1024x256_S1024x256_S1024x256_S1024x256_S1024x256_S1024x256_S1024x256_S1024x2816_d1

/-- A column of the tiles side by side is a column of the tile it falls in. -/
theorem cat_apply (f : Fin 11 → FVec Ideal S1024x256 .bf16) (r : Fin 1024) (k : Fin 2816) :
    cat f (ix2 r k) = f ⟨k.val / 256, by omega⟩ (ix2 r ⟨k.val % 256, by omega⟩) := by
  unfold cat
  refine concatenate_ofFn_apply (t := S1024x2816) (s₁ := S1024x256) 1 f _ rfl 256 rfl (ix2 r k : S1024x2816.Idx) ⟨k.val / 256, by omega⟩ rfl (ix2 r ⟨k.val % 256, by omega⟩ : S1024x256.Idx) rfl ?_
  intro b hb
  match b with
  | ⟨0, _⟩ => rfl
  | ⟨1, _⟩ => exact absurd rfl hb

theorem pay2_eq (v1 : FVec Ideal S1024x1024 .f32) (v16 : FVec Ideal S1024x1024 .bf16)
    (v26 v36 v46 v56 v66 v76 v86 v96 v106 : FVec Ideal S1024x256 .bf16) (v115 : FVec Ideal S1024x256 .f32)
    (v117 v120 : Vec Ideal S1024x256 .bf16) (v128 : Vec Ideal S2816x1024 .bf16) :
    k0_pay2 v1 v16 v26 v36 v46 v56 v66 v76 v86 v96 v106 v115 v117 v120 v128
      = addf v1 (mulf (broadcast S1024x1024 (Scalar.ofBits .f32 0x3F000000#32))
          (matmul dot_S1024x2816_S2816x1024_S1024x1024_1_0_0_1_n_n none
            (cat ![v26, v36, v46, v56, v66, v76, v86, v96, v106, truncf .bf16 v115 bitsLt_bf16_f32, k0_pay7 v16 v117 v120])
            (shapeCast S2816x1024 v128 shapeCasts_S2816x1024_S2816x1024 : FVec Ideal S2816x1024 .bf16) (constant S1024x1024 .f32 0x00000000#32))) := rfl

/-- The block's last value at an index: the row plus half the product of its hidden row. -/
theorem pay2_apply (v1 : FVec Ideal S1024x1024 .f32) (v16 : FVec Ideal S1024x1024 .bf16)
    (v26 v36 v46 v56 v66 v76 v86 v96 v106 : FVec Ideal S1024x256 .bf16) (v115 : FVec Ideal S1024x256 .f32)
    (v117 v120 : Vec Ideal S1024x256 .bf16) (v128 : Vec Ideal S2816x1024 .bf16) (r j : Fin 1024) :
    k0_pay2 v1 v16 v26 v36 v46 v56 v66 v76 v86 v96 v106 v115 v117 v120 v128 (ix2 r j)
      = v1 (ix2 r j) + Ideal.ofBits .f32 0x3F000000#32
        * lin (fun q => cat ![v26, v36, v46, v56, v66, v76, v86, v96, v106, truncf .bf16 v115 bitsLt_bf16_f32, k0_pay7 v16 v117 v120] (ix2 r q))
            (fun q j => v128 (ix2 q j)) j := by
  rw [pay2_eq]
  pointwise [lin]

/-- One column tile of the hidden rows. -/
def tile (h : FVec Ideal S1024x1024 .bf16) (a b : Vec Ideal S1024x256 .bf16) (r : Fin 1024) (j : Fin 256) : EReal :=
  lin (fun k => h (ix2 r k)) (fun k q => a (ix2 k q)) j * Ideal.logistic (lin (fun k => h (ix2 r k)) (fun k q => a (ix2 k q)) j)
    * lin (fun k => h (ix2 r k)) (fun k q => b (ix2 k q)) j

theorem pay4_apply (x : Vec Ideal S1024x1024 .f32) (g : Vec Ideal S1x1024 .f32) (r k : Fin 1024) :
    k0_pay4 x g (ix2 r k) = rms (fun k => x (ix2 r k)) (fun k => g (ix2 0 k)) k := by
  pointwise [k0_pay4, k0_pay3, rms]

theorem pay5_apply (x : Vec Ideal S1024x1024 .f32) (g : Vec Ideal S1x1024 .f32) (a b : Vec Ideal S1024x256 .bf16) (r : Fin 1024) (j : Fin 256) :
    k0_pay5 x g a b (ix2 r j) = tile (k0_pay4 x g) a b r j := by
  pointwise [k0_pay5, tile, lin]

theorem pay6_apply (x : Vec Ideal S1024x1024 .f32) (g : Vec Ideal S1x1024 .f32) (a b : Vec Ideal S1024x256 .bf16) (r : Fin 1024) (j : Fin 256) :
    k0_pay6 x g a b (ix2 r j) = tile (k0_pay4 x g) a b r j := by
  pointwise [k0_pay6, tile, lin]

theorem pay7_apply (h : FVec Ideal S1024x1024 .bf16) (a b : Vec Ideal S1024x256 .bf16) (r : Fin 1024) (j : Fin 256) :
    k0_pay7 h a b (ix2 r j) = tile h a b r j := by
  pointwise [k0_pay7, tile, lin]

theorem pay8_apply (h : FVec Ideal S1024x1024 .bf16) (a b : Vec Ideal S1024x256 .bf16) (r : Fin 1024) (j : Fin 256) :
    k0_pay8 h a b (ix2 r j) = tile h a b r j := by
  pointwise [k0_pay8, tile, lin]

theorem pay9_apply (h : FVec Ideal S1024x1024 .bf16) (a b : Vec Ideal S1024x256 .bf16) (r : Fin 1024) (j : Fin 256) :
    k0_pay9 h a b (ix2 r j) = tile h a b r j := by
  pointwise [k0_pay9, tile, lin]

theorem pay12_apply (h : FVec Ideal S1024x1024 .bf16) (a b : Vec Ideal S1024x256 .bf16) (r : Fin 1024) (j : Fin 256) :
    k0_pay12 h a b (ix2 r j) = tile h a b r j := by
  pointwise [k0_pay12, tile, lin]

theorem pay13_apply (h : FVec Ideal S1024x1024 .bf16) (a b : Vec Ideal S1024x256 .bf16) (r : Fin 1024) (j : Fin 256) :
    k0_pay13 h a b (ix2 r j) = tile h a b r j := by
  pointwise [k0_pay13, tile, lin]

theorem pay14_apply (h : FVec Ideal S1024x1024 .bf16) (a b : Vec Ideal S1024x256 .bf16) (r : Fin 1024) (j : Fin 256) :
    k0_pay14 h a b (ix2 r j) = tile h a b r j := by
  pointwise [k0_pay14, tile, lin]

theorem pay11_apply (h : FVec Ideal S1024x1024 .bf16) (a b : Vec Ideal S1024x256 .bf16) (r : Fin 1024) (j : Fin 256) :
    k0_pay11 (k0_pay10 h a b) (ix2 r j) = tile h a b r j := by
  pointwise [k0_pay10, k0_pay11, tile, lin]

theorem pay1_apply (h : FVec Ideal S1024x1024 .bf16) (a b : Vec Ideal S1024x256 .bf16) (r : Fin 1024) (j : Fin 256) :
    (truncf .bf16 (k0_pay1 h (k0_pay15 h a) (k0_pay16 b) (constant S1024x256 .f32 0x00000000#32)) bitsLt_bf16_f32 : FVec Ideal S1024x256 .bf16) (ix2 r j)
      = tile h a b r j := by
  pointwise [k0_pay1, k0_pay15, k0_pay16, tile, lin]

/-- A tile of the hidden row's columns, of the weights' tile read as columns of the weights. -/
theorem tile_of (x : Vec Ideal S1024x1024 .f32) (g : Vec Ideal S1x1024 .f32) (wg wu : Vec Ideal S1024x2816 .bf16)
    (a b : Vec Ideal S1024x256 .bf16) (r : Fin 1024) (q : Fin 256) (k : Fin 2816)
    (ha : ∀ i : Fin 1024, a (ix2 i q) = wg (ix2 i k)) (hb : ∀ i : Fin 1024, b (ix2 i q) = wu (ix2 i k)) :
    tile (k0_pay4 x g) a b r q
      = glu (rms (fun k => x (ix2 r k)) (fun k => g (ix2 0 k))) (fun k q => wg (ix2 k q)) (fun k q => wu (ix2 k q)) k := by
  unfold tile glu lin
  simp only [pay4_apply, ha, hb]

/-- A tile of the weights' columns from `o` on gives the hidden row's columns from `o` on. -/
theorem tile_ld (x : Vec Ideal S1024x1024 .f32) (g : Vec Ideal S1x1024 .f32) (wg wu : Vec Ideal S1024x2816 .bf16) (o : Nat)
    (inb : ∀ a, (![0, o] : Fin 2 → Nat) a + S1024x256.size a ≤ S1024x2816.size a) (r : Fin 1024) (q : Fin 256) (k : Fin 2816)
    (hk : k.val = o + q.val) :
    tile (k0_pay4 x g) (View.ld wg (Rect.unit (s := S1024x2816) ![0, o] S1024x256.size inb)) (View.ld wu (Rect.unit (s := S1024x2816) ![0, o] S1024x256.size inb)) r q
      = glu (rms (fun k => x (ix2 r k)) (fun k => g (ix2 0 k))) (fun k q => wg (ix2 k q)) (fun k q => wu (ix2 k q)) k := by
  have hld (w : Vec Ideal S1024x2816 .bf16) (i : Fin 1024) :
      View.ld w (Rect.unit (s := S1024x2816) ![0, o] S1024x256.size inb) (ix2 i q) = w (ix2 i k) := by
    pointwise
    congr 1
    ext a; fin_cases a <;> simp [hk]
  exact tile_of x g wg wu _ _ r q k (hld wg) (hld wu)

theorem hz : (![0, 0] : Fin 2 → Nat) = fun _ => 0 := funext fun a => by fin_cases a <;> rfl

/-- What the body leaves in the result's block, at an index: the function of the block's row. -/
theorem out_apply (x0 : Vec Ideal S1024x1024 .f32) (x1 : Vec Ideal S1x1024 .f32) (x2 x3 : Vec Ideal S1024x2816 .bf16)
    (x4 : Vec Ideal S2816x1024 .bf16) (x5 : Vec Ideal S1x1024 .f32) (r j : Fin 1024) :
    out0_6 x0 x1 x2 x3 x4 x5 (ix2 r j)
      = ffnRow (fun k => x0 (ix2 r k)) (fun k => x1 (ix2 0 k)) (fun k q => x2 (ix2 k q)) (fun k q => x3 (ix2 k q))
          (fun q j => x4 (ix2 q j)) j := by
  unfold out0_6 k0_pay17
  rw [View.canon_unit_zero hz]
  have e0 : View.ld x0 r0_0 = x0 := View.ld_unit_zero hz _ x0
  have e1 : View.ld x1 r0_1 = x1 := View.ld_unit_zero hz _ x1
  have e4 : View.ld x4 r0_13 = x4 := View.ld_unit_zero hz _ x4
  rw [e0, e1, e4]
  rw [pay2_apply]
  unfold ffnRow
  refine congrArg₂ (fun a b : EReal => a + b) ?_ (congrArg (fun b : EReal => Ideal.ofBits .f32 0x3F000000#32 * b)
    (congrArg (fun h => lin h (fun q j => x4 (ix2 q j)) j) (funext fun k => ?_)))
  · pointwise [k0_pay3]
  · rw [cat_apply]
    obtain ⟨n, hn⟩ : ∃ n : Fin 11, n = ⟨k.val / 256, by omega⟩ := ⟨_, rfl⟩
    have hv : n.val = k.val / 256 := congrArg Fin.val hn
    rw [← hn]
    fin_cases n
    · exact (pay5_apply _ _ _ _ _ _).trans (tile_ld _ _ _ _ _ _ _ _ _ (by simp at hv ⊢; omega))
    · exact (pay6_apply _ _ _ _ _ _).trans (tile_ld _ _ _ _ _ _ _ _ _ (by simp at hv ⊢; omega))
    · exact (pay7_apply _ _ _ _ _).trans (tile_ld _ _ _ _ _ _ _ _ _ (by simp at hv ⊢; omega))
    · exact (pay8_apply _ _ _ _ _).trans (tile_ld _ _ _ _ _ _ _ _ _ (by simp at hv ⊢; omega))
    · exact (pay9_apply _ _ _ _ _).trans (tile_ld _ _ _ _ _ _ _ _ _ (by simp at hv ⊢; omega))
    · exact (pay11_apply _ _ _ _ _).trans (tile_ld _ _ _ _ _ _ _ _ _ (by simp at hv ⊢; omega))
    · exact (pay12_apply _ _ _ _ _).trans (tile_ld _ _ _ _ _ _ _ _ _ (by simp at hv ⊢; omega))
    · exact (pay13_apply _ _ _ _ _).trans (tile_ld _ _ _ _ _ _ _ _ _ (by simp at hv ⊢; omega))
    · exact (pay14_apply _ _ _ _ _).trans (tile_ld _ _ _ _ _ _ _ _ _ (by simp at hv ⊢; omega))
    · exact (pay1_apply _ _ _ _ _).trans (tile_ld _ _ _ _ _ _ _ _ _ (by simp at hv ⊢; omega))
    · exact (pay7_apply _ _ _ _ _).trans (tile_ld _ _ _ _ _ _ _ _ _ (by simp at hv ⊢; omega))

end Cert.Val.FfnBlock

end
-- ==== Proof.Val.FfnKernel.lean ====
module

public import proofs.«01_k».proof.Proof.Val.FfnBlock
public import proofs.«01_k».proof.Proof.Gen.FfnIdeal.Run
public import Idealize.ShloMosaic.Lib.Pipeline.ValueKit

@[expose] public section

noncomputable section

namespace Cert.Val.FfnKernel

open Cert.FfnIdeal Cert.FfnIdeal.Gen Idealize.ShloMosaic Idealize.ShloMosaic.TcCoe Idealize.SL.Sem Idealize.ShloMosaic.StableHlo
open Idealize.ShloMosaic.Pipeline (Dat)

/-- The call's result over the rows laid flat. -/
def flat (x : FVec Ideal S65536x1024 .f32) (g : FVec Ideal S1x1024 .f32) (wg wu : FVec Ideal S1024x2816 .bf16)
    (wd : FVec Ideal S2816x1024 .bf16) : FVec Ideal S65536x1024 .f32 := fun i =>
  ffnRow (fun k => x (ix2 (i 0) k)) (fun k => g (ix2 0 k)) (fun k q => wg (ix2 k q)) (fun k q => wu (ix2 k q))
    (fun q j => wd (ix2 q j)) (i 1)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx6 : ∀ t : Fin cfg0.N, win0_6.index t = ![t.val, 0] := (by decide +kernel : ∀ t : Fin grid0.N, _)

theorem reg_eq (c : Dev nD) : Value.reg_main_v6 m c
    = flat (V m c main_v0) (V m c main_v1) (V m c main_v2) (V m c main_v3) (V m c main_v4) := by
  refine (dats m 0 c).arrAt_eq_of_covers 6 _ (by decide +kernel) fun t hf y => ?_
  blk_simp
  rw [after0_6]
  obtain ⟨r, j, rfl⟩ : ∃ (r : Fin 1024) (j : Fin 1024), y = ix2 r j := ⟨_, _, ValueIdx.eq_ix2 y⟩
  rw [FfnBlock.out_apply]
  generalize hI : (win0_6.blk t).view.emb (ix2 r j) = I
  have hI0 : (I 0 : Nat) = t.val * 1024 + r.val := by rw [← hI]; blk_simp [idx6]
  have hI1 : (I 1 : Nat) = j.val := by rw [← hI]; blk_simp [idx6]
  have h0 (k : Fin 1024) : iblk m c 0 t (ix2 r k) = V m c main_v0 (ix2 (I 0) k) := by
    blk_simp [iblk]; congr 1; blk_ext [idx0, hI0]
  have h1 (k : Fin 1024) : iblk m c 1 t (ix2 0 k) = V m c main_v1 (ix2 0 k) := by
    blk_simp [iblk]; congr 1; blk_ext [idx1]
  have h2 (k : Fin 1024) (q : Fin 2816) : iblk m c 2 t (ix2 k q) = V m c main_v2 (ix2 k q) := by
    blk_simp [iblk]; congr 1; blk_ext [idx2]
  have h3 (k : Fin 1024) (q : Fin 2816) : iblk m c 3 t (ix2 k q) = V m c main_v3 (ix2 k q) := by
    blk_simp [iblk]; congr 1; blk_ext [idx3]
  have h4 (k : Fin 2816) (q : Fin 1024) : iblk m c 4 t (ix2 k q) = V m c main_v4 (ix2 k q) := by
    blk_simp [iblk]; congr 1; blk_ext [idx4]
  simp only [h0, h1, h2, h3, h4]
  unfold flat
  exact congrArg _ (Fin.ext hI1.symm)

/-- The rows laid flat. -/
theorem V_v0 (c : Dev nD) : V m c main_v0
    = shapeCast _ (m ((c.tc : Thread nD τ).loc main_arg0)) shapeCasts_S32x2048x1024_S65536x1024 := by
  simp only [V, V0, hostOps0, List.flatten_cons, List.flatten_nil, List.append_nil, List.cons_append, List.nil_append]
  after_results <;> rfl
/-- The norm's weights as one row. -/
theorem V_v1 (c : Dev nD) : V m c main_v1
    = shapeCast _ (m ((c.tc : Thread nD τ).loc main_arg1)) shapeCasts_S1024_S1x1024 := by
  simp only [V, V0, hostOps0, List.flatten_cons, List.flatten_nil, List.append_nil, List.cons_append, List.nil_append]
  after_results <;> rfl
/-- A conversion changes nothing here. -/
theorem V_v2 (c : Dev nD) : (V m c main_v2 : S1024x2816.Idx → EReal) = m ((c.tc : Thread nD τ).loc main_arg2) := by
  simp only [V, V0, hostOps0, List.flatten_cons, List.flatten_nil, List.append_nil, List.cons_append, List.nil_append]
  after_results <;> rfl
theorem V_v3 (c : Dev nD) : (V m c main_v3 : S1024x2816.Idx → EReal) = m ((c.tc : Thread nD τ).loc main_arg3) := by
  simp only [V, V0, hostOps0, List.flatten_cons, List.flatten_nil, List.append_nil, List.cons_append, List.nil_append]
  after_results <;> rfl
theorem V_v4 (c : Dev nD) : (V m c main_v4 : S2816x1024.Idx → EReal) = m ((c.tc : Thread nD τ).loc main_arg4) := by
  simp only [V, V0, hostOps0, List.flatten_cons, List.flatten_nil, List.append_nil, List.cons_append, List.nil_append]
  after_results <;> rfl

/-- Rows laid flat and back: the function of the rows. -/
theorem flat_cast (x : FVec Ideal S32x2048x1024 .f32) (g : FVec Ideal S1024 .f32) (wg wu : FVec Ideal S1024x2816 .bf16)
    (wd : FVec Ideal S2816x1024 .bf16) (b : Fin 32) (t : Fin 2048) (j : Fin 1024) :
    (shapeCast _ (flat (shapeCast _ x shapeCasts_S32x2048x1024_S65536x1024) (shapeCast _ g shapeCasts_S1024_S1x1024) wg wu wd)
        shapeCasts_S65536x1024_S32x2048x1024 : FVec Ideal S32x2048x1024 .f32) (ix3 b t j)
      = ffnRow (fun k => x (ix3 b t k)) (fun k => g (ix1 k)) (fun k q => wg (ix2 k q)) (fun k q => wu (ix2 k q))
          (fun q j => wd (ix2 q j)) j := by
  have e (v : FVec Ideal S65536x1024 .f32) : (shapeCast _ v shapeCasts_S65536x1024_S32x2048x1024 : FVec Ideal S32x2048x1024 .f32) (ix3 b t j)
      = v (ix2 ⟨b.val * 2048 + t.val, by omega⟩ j) := by pointwise
  rw [e]
  unfold flat
  have e0 (r : Fin 65536) (hr : r.val = b.val * 2048 + t.val) (k : Fin 1024) : (shapeCast _ x shapeCasts_S32x2048x1024_S65536x1024 : FVec Ideal S65536x1024 .f32)
      (ix2 r k) = x (ix3 b t k) := by
    pointwise
    refine congrArg x ?_
    congr 1 <;> apply Fin.ext <;> simp <;> omega
  have e1 (k : Fin 1024) : (shapeCast _ g shapeCasts_S1024_S1x1024 : FVec Ideal S1x1024 .f32) (ix2 0 k) = g (ix1 k) := by pointwise
  simp only [e1, e0 ((ix2 (⟨b.val * 2048 + t.val, by omega⟩ : Fin 65536) j : S65536x1024.Idx) 0) rfl]
  rfl

end Cert.Val.FfnKernel

end
-- ==== Proof.Val.FfnRef.lean ====
module

public import proofs.«01_k».proof.Proof.Val.Spec
public import proofs.«01_k».proof.Proof.Gen.FfnRefIdeal.Run

@[expose] public section

noncomputable section

namespace Cert.Val.FfnRef

open Cert.FfnRefIdeal Idealize.ShloMosaic Idealize.ShloMosaic.TcCoe Idealize.SL.Sem

/-- What the reference's result holds at an index, of the argument arrays. -/
def val (x : FVec Ideal S32x2048x1024 .f32) (g : FVec Ideal S1024 .f32) (wg wu : FVec Ideal S1024x2816 .f32)
    (wd : FVec Ideal S2816x1024 .f32) : FVec Ideal S32x2048x1024 .f32 := fun i =>
  ffnRow (fun k => x (ix3 (i 0) (i 1) k)) (fun k => g (ix1 k)) (fun k q => wg (ix2 k q)) (fun k q => wu (ix2 k q))
    (fun q j => wd (ix2 q j)) (i 2)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  generalize m ((c.tc : Thread nD τ).loc main_arg0) = x
  generalize m ((c.tc : Thread nD τ).loc main_arg1) = g
  generalize m ((c.tc : Thread nD τ).loc main_arg2) = wg
  generalize m ((c.tc : Thread nD τ).loc main_arg3) = wu
  generalize m ((c.tc : Thread nD τ).loc main_arg4) = wd
  funext i
  obtain ⟨b, t, j, rfl⟩ : ∃ (b : Fin 32) (t : Fin 2048) (j : Fin 1024), i = ix3 b t j := ⟨_, _, _, ValueIdx.eq_ix3 i⟩
  pointwise [val, ffnRow, lin, glu, rms, Ideal.logistic]

end Cert.Val.FfnRef

end
-- ==== Proof.Val.FfnClaim.lean ====
/- The feed-forward call's five claims. -/
module

public import proofs.«01_k».proof.Defs
public import proofs.«01_k».proof.Proof.Gen.Ffn.Frame
public import proofs.«01_k».proof.Proof.Val.FfnKernel
public import proofs.«01_k».proof.Proof.Val.FfnRef
public import Idealize.ShloMosaic.Lib.Quiescent

@[expose] public section

noncomputable section

namespace Cert.Val.FfnClaim

open Idealize.ShloMosaic Idealize.ShloMosaic.TcCoe Idealize.SL.Sem

theorem frame_p : Cert.quiescent_Ffn := fun m ρ _ => Cert.Ffn.Gen.frame m ρ
theorem frame_pi : Cert.quiescent_FfnIdeal := fun m ρ _ => Cert.FfnIdeal.Gen.frame m ρ
/-- The reference is host operations alone: its arguments end as launched and it declares no semaphore. -/
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- Of the same arguments the reference's value is the call's result. -/
theorem value_eq (m : (ℓ : Loc Cert.FfnIdeal.nD Cert.FfnIdeal.τ Cert.FfnIdeal.sig) → Buf (Elt Ideal) ℓ) (c : Dev Cert.FfnIdeal.nD) :
    FfnRef.val (m ((c.tc : Thread Cert.FfnIdeal.nD Cert.FfnIdeal.τ).loc Cert.FfnIdeal.main_arg0))
        (m ((c.tc : Thread Cert.FfnIdeal.nD Cert.FfnIdeal.τ).loc Cert.FfnIdeal.main_arg1))
        (m ((c.tc : Thread Cert.FfnIdeal.nD Cert.FfnIdeal.τ).loc Cert.FfnIdeal.main_arg2))
        (m ((c.tc : Thread Cert.FfnIdeal.nD Cert.FfnIdeal.τ).loc Cert.FfnIdeal.main_arg3))
        (m ((c.tc : Thread Cert.FfnIdeal.nD Cert.FfnIdeal.τ).loc Cert.FfnIdeal.main_arg4))
      = shapeCast _ (Cert.FfnIdeal.Value.reg_main_v6 m c) Cert.FfnIdeal.Facts₀.shapeCasts_S65536x1024_S32x2048x1024 := by
  rw [FfnKernel.reg_eq, FfnKernel.V_v0, FfnKernel.V_v1, FfnKernel.V_v2, FfnKernel.V_v3, FfnKernel.V_v4]
  funext i
  obtain ⟨b, t, j, rfl⟩ : ∃ (b : Fin 32) (t : Fin 2048) (j : Fin 1024), i = ix3 b t j := ⟨_, _, _, ValueIdx.eq_ix3 i⟩
  exact (FfnKernel.flat_cast _ _ _ _ _ b t j).symm

theorem algebraic : Cert.algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨(h c).1.trans ?_, (h c).2⟩) (FfnRef.run m' ρ')
  rw [(hagree c).1, (hagree c).2.1, (hagree c).2.2.1, (hagree c).2.2.2.1, (hagree c).2.2.2.2]
  exact value_eq m c

end Cert.Val.FfnClaim

end
-- ==== Proof.Val.Window.lean ====
/- A sum over a trailing window of rows, as the host's window sum states it, read at an index. -/
module

public import Idealize.ShloMosaic.Lib.Pointwise

@[expose] public section

noncomputable section

namespace Cert.Val

open Idealize.ShloMosaic
open scoped BigOperators

/-- The sum of the window of `w` rows that ends at row `t`; rows before the first count nothing. -/
def trail (w : Nat) (P : Fin 2048 → EReal) (t : Fin 2048) : EReal :=
  ∑ d : Fin w, if h : w - 1 ≤ t.val + d.val ∧ t.val + d.val - (w - 1) < 2048 then P ⟨t.val + d.val - (w - 1), h.2⟩ else 0

theorem foldl_sum {β : Type} (g : β → EReal) : ∀ (l : List β) (v : EReal), l.foldl (fun r n => r + g n) v = v + (l.map g).sum
  | [], v => by simp
  | b :: l, v => by rw [List.foldl_cons, foldl_sum g l, List.map_cons, List.sum_cons, add_assoc]

/-- The indices of a window of `w` rows and one column, one block: its rows. -/
def rows (w : Nat) : Fin w ≃ (⟨3, ![1, w, 1]⟩ : Shape).Idx where
  toFun d := ix3 (0 : Fin 1) d (0 : Fin 1)
  invFun y := y 1
  left_inv _ := rfl
  right_inv y := by
    funext a
    match a with
    | ⟨0, _⟩ => exact (Subsingleton.elim (α := Fin 1) _ _)
    | ⟨1, _⟩ => rfl
    | ⟨2, _⟩ => exact (Subsingleton.elim (α := Fin 1) _ _)

theorem window_apply (w : Nat) (x : FVec Ideal ⟨3, ![32, 2048, 128]⟩ .f32)
    (h : (⟨3, ![32, 2048, 128]⟩ : Shape).ReduceWindows (![1, w, 1] : Fin 3 → Nat) ![1, 1, 1] ![0, w - 1, 0] ![0, 0, 0] ⟨3, ![32, 2048, 128]⟩)
    (b : Fin 32) (t : Fin 2048) (c : Fin 128) :
    Ideal.hostReduceWindowAdd (![1, w, 1] : Fin 3 → Nat) ![1, 1, 1] ![0, w - 1, 0] ![0, 0, 0] h x 0 (ix3 b t c)
      = trail w (fun t => x (ix3 b t c)) t := by
  unfold Ideal.hostReduceWindowAdd Host.reduceWindow
  dsimp only
  rw [foldl_sum, zero_add, ← Fin.sum_univ_def]
  unfold trail
  refine Fintype.sum_equiv ((⟨3, ![1, w, 1]⟩ : Shape).rowMajor.symm.trans (rows w).symm) _ _ fun n => ?_
  obtain ⟨y, rfl⟩ : ∃ y, n = (⟨3, ![1, w, 1]⟩ : Shape).rowMajor y := ⟨_, ((⟨3, ![1, w, 1]⟩ : Shape).rowMajor.apply_symm_apply n).symm⟩
  obtain ⟨d, rfl⟩ : ∃ d, y = rows w d := ⟨_, ((rows w).apply_symm_apply y).symm⟩
  simp only [Equiv.symm_apply_apply, Equiv.trans_apply]
  have e (a : Fin 3) : (rows w d a).val = (![0, d.val, 0] : Fin 3 → Nat) a := by fin_cases a <;> rfl
  by_cases hd : w - 1 ≤ t.val + d.val ∧ t.val + d.val - (w - 1) < 2048
  · rw [dif_pos hd, dif_pos]
    · congr 1
      funext a
      refine Fin.ext ?_
      match a with
      | ⟨0, _⟩ => show b.val * 1 + (rows w d 0).val - 0 = b.val; rw [e]; simp
      | ⟨1, _⟩ => show t.val * 1 + (rows w d 1).val - (w - 1) = t.val + d.val - (w - 1); rw [e]; simp
      | ⟨2, _⟩ => show c.val * 1 + (rows w d 2).val - 0 = c.val; rw [e]; simp
    · intro a
      match a with
      | ⟨0, _⟩ => show 0 ≤ b.val * 1 + (rows w d 0).val ∧ b.val * 1 + (rows w d 0).val - 0 < 32; rw [e]; simp
      | ⟨1, _⟩ => show w - 1 ≤ t.val * 1 + (rows w d 1).val ∧ t.val * 1 + (rows w d 1).val - (w - 1) < 2048; rw [e]; simpa using hd
      | ⟨2, _⟩ => show 0 ≤ c.val * 1 + (rows w d 2).val ∧ c.val * 1 + (rows w d 2).val - 0 < 128; rw [e]; simp
  · rw [dif_neg hd, dif_neg]
    intro hin
    have := hin 1
    refine hd ?_
    change w - 1 ≤ t.val * 1 + (rows w d 1).val ∧ t.val * 1 + (rows w d 1).val - (w - 1) < 2048 at this
    rw [e] at this
    simpa using this

end Cert.Val

end
-- ==== Proof.Val.MixSpec.lean ====
/- The function of one row that a mixing call computes, on extended reals: what both programs are read to. -/
module

public import proofs.«01_k».proof.Proof.Val.Spec
public import proofs.«01_k».proof.Proof.Val.Window

@[expose] public section

noncomputable section

namespace Cert.Val

open Idealize.ShloMosaic
open scoped BigOperators

/-- The trailing mean of `w` rows, of as many rows as there are, less the row itself; `n` is the number of rows up to
    this one and `W` the window's width, as extended reals. -/
def centred (w : Nat) (W n : EReal) (P : Fin 2048 → EReal) (t : Fin 2048) : EReal :=
  Ideal.div (trail w P t) (min n W) - P t

/-- The column of the pooled array that channel `c` of group `g` is. -/
def col (g : Fin 4) (c : Fin 128) : Fin 512 := ⟨g.val * 128 + c.val, by omega⟩

/-- The pooled row's channels, group by group, each group with its own window. -/
def pools (n : EReal) (p : Fin 2048 → Fin 512 → EReal) (t : Fin 2048) : Fin 4 → Fin 128 → EReal :=
  ![fun c => centred 2 (Ideal.ofBits .f32 0x40000000#32) n (fun t => p t (col 0 c)) t,
    fun c => centred 4 (Ideal.ofBits .f32 0x40800000#32) n (fun t => p t (col 1 c)) t,
    fun c => centred 8 (Ideal.ofBits .f32 0x41000000#32) n (fun t => p t (col 2 c)) t,
    fun c => centred 16 (Ideal.ofBits .f32 0x41800000#32) n (fun t => p t (col 3 c)) t]

/-- Each group's channels times the group's matrix, the groups side by side, each column scaled. -/
def mixed (pl : Fin 4 → Fin 128 → EReal) (pw : Fin 4 → Fin 128 → Fin 128 → EReal) (ps : Fin 512 → EReal) (q : Fin 512) : EReal :=
  lin (pl ⟨q.val / 128, by omega⟩) (pw ⟨q.val / 128, by omega⟩) ⟨q.val % 128, by omega⟩ * ps q

/-- A row plus the gated sum of its two branches through the output matrix. -/
def mergeRow (x : Fin 1024 → EReal) (at' : Fin 512 → EReal) (mx : Fin 512 → EReal) (ga gb : Fin 1024 → EReal)
    (wa wp : Fin 512 → Fin 1024 → EReal) (wo : Fin 1024 → Fin 1024 → EReal) (j : Fin 1024) : EReal :=
  x j + lin (fun k => ga k * lin at' wa k + gb k * lin mx wp k) wo j

/-- The number of rows up to row `t`. -/
def count (t : Nat) : EReal := (((t : ℤ) + 1 : ℤ) : ℝ)

theorem count_of (b : BitVec 32) (t : Nat) (h : b.toInt = (t : ℤ) + 1) : (FloatOps.sitofp (F := Ideal) .f32 b : EReal) = count t := by
  show (((b.toInt : ℤ) : ℝ) : EReal) = _
  rw [h]; rfl

theorem one_count (t : Nat) (h : t < 2048) : (1 : EReal) + FloatOps.sitofp (F := Ideal) .f32 (BitVec.ofNat 32 t) = count t := by
  show (1 : EReal) + ((((BitVec.ofNat 32 t).toInt : ℤ) : ℝ) : EReal) = _
  have e : (BitVec.ofNat 32 t).toInt = (t : ℤ) := by
    rw [BitVec.toInt_eq_toNat_cond, BitVec.toNat_ofNat, Nat.mod_eq_of_lt (by omega), if_pos (by omega)]
  rw [e]
  unfold count
  rw [add_comm]
  push_cast
  rfl

theorem trail_eq (w : Nat) (P : Fin 2048 → EReal) (t : Fin 2048) :
    trail w P t = ∑ d : Fin w, if h : d.val ≤ t.val then P ⟨t.val - d.val, by omega⟩ else 0 := by
  unfold trail
  refine Fintype.sum_equiv Fin.revPerm _ _ fun d => ?_
  have hr : (Fin.revPerm d).val = w - (d.val + 1) := by simp [Fin.val_rev]
  have hw : d.val < w := d.isLt
  by_cases h : w - 1 ≤ t.val + d.val
  · rw [dif_pos ⟨h, by omega⟩, dif_pos (by omega)]
    congr 1
    exact Fin.ext (by simp only [hr]; omega)
  · rw [dif_neg (fun h' => h h'.1), dif_neg (by omega)]

end Cert.Val

end
-- ==== Proof.Val.Rolls.lean ====
/- Window sums by doubling over the rows of a block and the rows before it, against the trailing sums they stand for. -/
module

public import proofs.«01_k».proof.Proof.Val.MixSpec

@[expose] public section

noncomputable section

namespace Cert.Val

open Idealize.ShloMosaic
open scoped BigOperators

/-- The sum of the `k` rows of `e` that end at `r`. -/
def upto (k : Nat) (e : Fin 528 → EReal) (r : Fin 528) : EReal := ∑ d : Fin k, e ⟨r.val - d.val, by omega⟩

theorem upto_one (e : Fin 528 → EReal) (r : Fin 528) : upto 1 e r = e r := by
  unfold upto
  rw [Fin.sum_univ_one]
  rfl

/-- A sum of `k` rows plus the one `k` rows before is a sum of twice as many. -/
theorem upto_double (k : Nat) (S e : Fin 528 → EReal) (hS : ∀ r : Fin 528, k ≤ r.val + 1 → S r = upto k e r)
    (r r' : Fin 528) (hr : k + k ≤ r.val + 1) (h : r'.val = r.val - k) : S r + S r' = upto (k + k) e r := by
  rw [hS r (by omega), hS r' (by omega)]
  unfold upto
  rw [Fin.sum_univ_add]
  refine congrArg (fun s : EReal => _ + s) (Finset.sum_congr rfl fun d _ => ?_)
  refine congrArg e (Fin.ext ?_)
  simp only [Fin.val_natAdd]
  omega

/-- Over a block of 512 rows after the 16 before it, a sum of up to 16 rows is the trailing sum over all rows. -/
theorem upto_trail (w : Nat) (hw : w ≤ 16) (tile : Nat) (ht : tile < 4) (e : Fin 528 → EReal) (P : Fin 2048 → EReal)
    (h0 : tile = 0 → ∀ q : Fin 528, q.val < 16 → e q = 0)
    (h1 : ∀ q : Fin 528, ∀ s : Fin 2048, (tile ≠ 0 ∨ 16 ≤ q.val) → s.val + 16 = tile * 512 + q.val → e q = P s)
    (r : Fin 512) (t : Fin 2048) (htr : t.val = tile * 512 + r.val) (q : Fin 528) (hq : q.val = 16 + r.val) :
    upto w e q = trail w P t := by
  rw [trail_eq]
  unfold upto
  refine Finset.sum_congr rfl fun d _ => ?_
  have hd : d.val < w := d.isLt
  by_cases h : d.val ≤ t.val
  · rw [dif_pos h]
    refine h1 _ _ ?_ ?_
    · show _ ∨ 16 ≤ q.val - d.val
      omega
    · show t.val - d.val + 16 = tile * 512 + (q.val - d.val)
      omega
  · rw [dif_neg h]
    refine h0 (by omega) _ ?_
    show q.val - d.val < 16
    omega

end Cert.Val

end
-- ==== Proof.Val.MergePool.lean ====
module

public import proofs.«01_k».proof.Proof.Val.Rolls
public import proofs.«01_k».proof.Proof.Gen.MergeIdeal.Frame
public import Idealize.ShloMosaic.Lib.Pipeline.Value

@[expose] public section

noncomputable section

namespace Cert.Val.MergePool

open Cert.MergeIdeal Cert.MergeIdeal.Gen Idealize.ShloMosaic Idealize.ShloMosaic.TcCoe Idealize.SL.Sem

/-- The block's place among the four of its batch entry, as the body computes it from the grid's coordinate. -/
def place (arg0 : BitVec 32) : BitVec 32 :=
  Scalar.select (Scalar.andi (Scalar.xori (Scalar.cmpi .slt (Scalar.remsi arg0 (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi arg0 (Scalar.select (Scalar.cmpi .eq 4#32 0#32) 1#32 4#32)) 0#32))
    (Scalar.addi (Scalar.remsi arg0 (Scalar.select (Scalar.cmpi .eq 4#32 0#32) 1#32 4#32)) (Scalar.select (Scalar.cmpi .eq 4#32 0#32) 1#32 4#32))
    (Scalar.remsi arg0 (Scalar.select (Scalar.cmpi .eq 4#32 0#32) 1#32 4#32))

theorem place_eq : ∀ a : Fin 128, place (BitVec.ofNat 32 a.val) = BitVec.ofNat 32 (a.val % 4) := by decide +kernel

theorem place_at (i : grid0.Coords) : place (BitVec.ofNat 32 (i 0).val) = BitVec.ofNat 32 ((i 0).val % 4) :=
  place_eq ⟨(i 0).val, (i 0).isLt⟩

/-- The block's rows after the sixteen before it, which count nothing where the block is the first of its batch entry. -/
def ext (i : grid0.Coords) (cur : Vec Ideal S512x512 .f32) (halo : Vec Ideal S16x512 .f32) : FVec Ideal S528x512 .f32 :=
  concatenate S528x512 0 [⟨S16x512, (Scalar.select (Scalar.cmpi .eq (place (BitVec.ofNat 32 (i 0).val)) 0#32)
      (broadcast S16x512 (Scalar.ofBits .f32 0x00000000#32) : FVec Ideal S16x512 .f32)
      (shapeCast S16x512 halo shapeCasts_S16x512_S16x512) : FVec Ideal S16x512 .f32)⟩, ⟨S512x512, k0_pay2 cur⟩] concatenates_S16x512_S512x512_S528x512_d0

theorem pay4_eq (i : grid0.Coords) (cur : Vec Ideal S512x512 .f32) (halo : Vec Ideal S16x512 .f32) :
    k0_pay4 i cur halo = addf (ext i cur halo) (dynamicRotate 0 1#32 none (ext i cur halo) rotates_S528x512_d0) := rfl

theorem ext_low (i : grid0.Coords) (cur : Vec Ideal S512x512 .f32) (halo : Vec Ideal S16x512 .f32)
    (q : Fin 528) (hq : q.val < 16) (k : Fin 512) : ext i cur halo (ix2 q k)
      = (Scalar.select (Scalar.cmpi .eq (place (BitVec.ofNat 32 (i 0).val)) 0#32)
      (broadcast S16x512 (Scalar.ofBits .f32 0x00000000#32) : FVec Ideal S16x512 .f32)
      (shapeCast S16x512 halo shapeCasts_S16x512_S16x512) : FVec Ideal S16x512 .f32) (ix2 ⟨q.val, hq⟩ k) := by
  unfold ext
  generalize (Scalar.select _ _ _ : FVec Ideal S16x512 .f32) = v
  generalize k0_pay2 cur = w
  pointwise
  exact dif_pos hq

/-- The first block of a batch entry has nothing before it. -/
theorem ext_zero (i : grid0.Coords) (cur : Vec Ideal S512x512 .f32) (halo : Vec Ideal S16x512 .f32) (h : (i 0).val % 4 = 0)
    (q : Fin 528) (hq : q.val < 16) (k : Fin 512) : ext i cur halo (ix2 q k) = 0 := by
  have e : Scalar.cmpi .eq (BitVec.ofNat 32 ((i 0).val % 4)) 0#32 = 1#1 := by rw [h]; decide
  rw [ext_low i cur halo q hq k, place_at, e]
  pointwise

/-- Any other block has the sixteen rows before it. -/
theorem ext_halo (i : grid0.Coords) (cur : Vec Ideal S512x512 .f32) (halo : Vec Ideal S16x512 .f32) (h : (i 0).val % 4 ≠ 0)
    (q : Fin 528) (hq : q.val < 16) (k : Fin 512) : ext i cur halo (ix2 q k) = halo (ix2 ⟨q.val, hq⟩ k) := by
  have e : Scalar.cmpi .eq (BitVec.ofNat 32 ((i 0).val % 4)) 0#32 = 0#1 := by
    have : ∀ a : Fin 4, a.val ≠ 0 → Scalar.cmpi .eq (BitVec.ofNat 32 a.val) 0#32 = 0#1 := by decide
    exact this ⟨(i 0).val % 4, by omega⟩ h
  rw [ext_low i cur halo q hq k, place_at, e]
  pointwise

theorem ext_cur (i : grid0.Coords) (cur : Vec Ideal S512x512 .f32) (halo : Vec Ideal S16x512 .f32)
    (q : Fin 528) (hq : 16 ≤ q.val) (k : Fin 512) : ext i cur halo (ix2 q k) = cur (ix2 ⟨q.val - 16, by omega⟩ k) := by
  unfold ext
  generalize (Scalar.select _ _ _ : FVec Ideal S16x512 .f32) = v
  pointwise [k0_pay2]
  exact dif_neg (by omega)

theorem roll (s : Nat) (hs : s ≤ 8) (x : FVec Ideal S528x512 .f32) (q : Fin 528) (hq : s ≤ q.val) (k : Fin 512) :
    (dynamicRotate 0 (BitVec.ofNat 32 s) none x rotates_S528x512_d0 : FVec Ideal S528x512 .f32) (ix2 q k) = x (ix2 ⟨q.val - s, by omega⟩ k) := by
  pointwise
  have e : (BitVec.ofNat 32 s).toNat = s := by rw [BitVec.toNat_ofNat, Nat.mod_eq_of_lt (by omega)]
  refine congrArg x ?_
  congr 1
  refine Fin.ext ?_
  simp only [e]
  omega

/-- The number of rows up to a row of the block. -/
theorem pay3_apply (i : grid0.Coords) (r : Fin 512) : (k0_pay3 (F := Ideal) i) (ix2 r 0) = count ((i 0).val % 4 * 512 + r.val) := by
  have e : k0_pay3 (F := Ideal) i = sitofp .f32 (addi (broadcast S512x1 (Scalar.addi (Scalar.muli (place (BitVec.ofNat 32 (i 0).val)) 512#32) 1#32)) (iota .tc S512x1 32 [0] iota_S512x1_d0_w32)) := rfl
  rw [e, place_at]
  have h4 : (i 0).val % 4 < 4 := by omega
  generalize (i 0).val % 4 = a at h4
  pointwise
  refine count_of _ _ ?_
  have eb : IntOp.addi (Scalar.addi (Scalar.muli (BitVec.ofNat 32 a) 512#32) 1#32) (BitVec.ofNat 32 r.val) = BitVec.ofNat 32 (a * 512 + 1 + r.val) := by
    rw [BitVec.ofNat_add, BitVec.ofNat_add, BitVec.ofNat_mul]
    rfl
  rw [eb, BitVec.toInt_eq_toNat_cond, BitVec.toNat_ofNat, Nat.mod_eq_of_lt (by omega), if_pos (by omega)]
  push_cast
  ring

/-- Sums of two, four, eight and sixteen rows, by doubling. -/
def sum2 (i : grid0.Coords) (cur : Vec Ideal S512x512 .f32) (halo : Vec Ideal S16x512 .f32) : FVec Ideal S528x512 .f32 := k0_pay4 i cur halo
def dbl (s : Nat) (x : FVec Ideal S528x512 .f32) : FVec Ideal S528x512 .f32 := addf x (dynamicRotate 0 (BitVec.ofNat 32 s) none x rotates_S528x512_d0)

theorem dbl_apply (s : Nat) (hs : s ≤ 8) (x : FVec Ideal S528x512 .f32) (e : FVec Ideal S528x512 .f32) (k : Fin 512)
    (h : ∀ q : Fin 528, s ≤ q.val + 1 → x (ix2 q k) = upto s (fun q => e (ix2 q k)) q) (q : Fin 528) (hq : s + s ≤ q.val + 1) (hp : 0 < s) :
    dbl s x (ix2 q k) = upto (s + s) (fun q => e (ix2 q k)) q := by
  have er := roll s hs x q (by omega) k
  have ea : dbl s x (ix2 q k) = x (ix2 q k) + x (ix2 ⟨q.val - s, by omega⟩ k) := by rw [← er]; rfl
  rw [ea]
  exact upto_double s (fun q => x (ix2 q k)) (fun q => e (ix2 q k)) h q _ hq rfl

theorem s2 (i : grid0.Coords) (cur : Vec Ideal S512x512 .f32) (halo : Vec Ideal S16x512 .f32) (k : Fin 512) (q : Fin 528) (hq : 2 ≤ q.val + 1) :
    k0_pay4 i cur halo (ix2 q k) = upto 2 (fun q => ext i cur halo (ix2 q k)) q :=
  dbl_apply 1 (by omega) (ext i cur halo) (ext i cur halo) k (fun q _ => (upto_one (fun q => ext i cur halo (ix2 q k)) q).symm) q hq (by omega)

theorem s4 (i : grid0.Coords) (cur : Vec Ideal S512x512 .f32) (halo : Vec Ideal S16x512 .f32) (k : Fin 512) (q : Fin 528) (hq : 4 ≤ q.val + 1) :
    dbl 2 (k0_pay4 i cur halo) (ix2 q k) = upto 4 (fun q => ext i cur halo (ix2 q k)) q :=
  dbl_apply 2 (by omega) _ (ext i cur halo) k (s2 i cur halo k) q hq (by omega)

theorem s8 (i : grid0.Coords) (cur : Vec Ideal S512x512 .f32) (halo : Vec Ideal S16x512 .f32) (k : Fin 512) (q : Fin 528) (hq : 8 ≤ q.val + 1) :
    dbl 4 (dbl 2 (k0_pay4 i cur halo)) (ix2 q k) = upto 8 (fun q => ext i cur halo (ix2 q k)) q :=
  dbl_apply 4 (by omega) _ (ext i cur halo) k (s4 i cur halo k) q hq (by omega)

theorem s16 (i : grid0.Coords) (cur : Vec Ideal S512x512 .f32) (halo : Vec Ideal S16x512 .f32) (k : Fin 512) (q : Fin 528) (hq : 16 ≤ q.val + 1) :
    dbl 8 (dbl 4 (dbl 2 (k0_pay4 i cur halo))) (ix2 q k) = upto 16 (fun q => ext i cur halo (ix2 q k)) q :=
  dbl_apply 8 (by omega) _ (ext i cur halo) k (s8 i cur halo k) q hq (by omega)

/-- A block's rows are rows of its batch entry's pooled array, and so are the sixteen before it unless it is the first. -/
structure Rows (i : grid0.Coords) (cur : Vec Ideal S512x512 .f32) (halo : Vec Ideal S16x512 .f32) (P : Fin 2048 → Fin 512 → EReal) : Prop where
  here : ∀ (r : Fin 512) (k : Fin 512) (s : Fin 2048), s.val = (i 0).val % 4 * 512 + r.val → cur (ix2 r k) = P s k
  before : (i 0).val % 4 ≠ 0 → ∀ (r : Fin 16) (k : Fin 512) (s : Fin 2048), s.val + 16 = (i 0).val % 4 * 512 + r.val → halo (ix2 r k) = P s k

theorem upto_ext (w : Nat) (hw : w ≤ 16) (i : grid0.Coords) (cur : Vec Ideal S512x512 .f32) (halo : Vec Ideal S16x512 .f32)
    (P : Fin 2048 → Fin 512 → EReal) (hP : Rows i cur halo P) (k : Fin 512) (r : Fin 512) (t : Fin 2048)
    (ht : t.val = (i 0).val % 4 * 512 + r.val) (q : Fin 528) (hq : q.val = 16 + r.val) :
    upto w (fun q => ext i cur halo (ix2 q k)) q = trail w (fun s => P s k) t := by
  refine upto_trail w hw ((i 0).val % 4) (by omega) _ _ (fun h q hq => ext_zero i cur halo h q hq k) ?_ r t ht q hq
  intro q s h hs
  by_cases h16 : 16 ≤ q.val
  · exact (ext_cur i cur halo q h16 k).trans (hP.here _ k s (by show s.val = _ + (q.val - 16); omega))
  · have h0 : (i 0).val % 4 ≠ 0 := h.resolve_right h16
    exact (ext_halo i cur halo h0 q (by omega) k).trans (hP.before h0 _ k s hs)

/-- The four groups' columns side by side. -/
def cat4 (f : Fin 4 → FVec Ideal S512x128 .f32) : FVec Ideal S512x512 .f32 :=
  concatenate S512x512 1 (List.ofFn fun n : Fin 4 => (⟨S512x128, f n⟩ : (s : Shape) × (s.Idx → Elt Ideal .f32)))
    concatenates_S512x128_S512x128_S512x128_S512x128_S512x512_d1

theorem cat4_apply (f : Fin 4 → FVec Ideal S512x128 .f32) (r : Fin 512) (k : Fin 512) :
    cat4 f (ix2 r k) = f ⟨k.val / 128, by omega⟩ (ix2 r ⟨k.val % 128, by omega⟩) := by
  unfold cat4
  refine concatenate_ofFn_apply (t := S512x512) (s₁ := S512x128) 1 f _ rfl 128 rfl (ix2 r k : S512x512.Idx) ⟨k.val / 128, by omega⟩ rfl (ix2 r ⟨k.val % 128, by omega⟩ : S512x128.Idx) rfl ?_
  intro b hb
  match b with
  | ⟨0, _⟩ => rfl
  | ⟨1, _⟩ => exact absurd rfl hb

/-- Group 0's columns of the block: the mean of the rows' sums less the rows, times the group's matrix. -/
def grp0 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 0] x slices_S528x512_o16_0_S512x128)
        (broadcastTo S512x128 (minimumf v23 (broadcast S512x1 (Scalar.ofBits .f32 0x40000000#32 : Ideal .f32))) broadcasts_S512x1_S512x128))
      (extractStridedSlice S512x128 ![0, 0] v11 slices_S512x512_o0_0_S512x128)) bitsLt_bf16_f32 : FVec Ideal S512x128 .bf16)
    (shapeCast S128x128 a shapeCasts_S1x128x128_S128x128 : FVec Ideal S128x128 .bf16) (constant S512x128 .f32 0x00000000#32)

theorem grp0_apply (v11 : FVec Ideal S512x512 .f32) (v23 : FVec Ideal S512x1 .f32) (x : FVec Ideal S528x512 .f32) (a : Vec Ideal S1x128x128 .bf16)
    (r : Fin 512) (d : Fin 128) : grp0 v11 v23 x a (ix2 r d)
      = lin (fun c : Fin 128 => Ideal.div (x (ix2 ⟨16 + r.val, by omega⟩ (col 0 c))) (min (v23 (ix2 r 0)) (Ideal.ofBits .f32 0x40000000#32))
          - v11 (ix2 r (col 0 c))) (fun c d => a (ix3 0 c d)) d := by
  pointwise [grp0, lin]
  rfl

/-- Group 1's columns of the block: the mean of the rows' sums less the rows, times the group's matrix. -/
def grp1 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 128] x slices_S528x512_o16_128_S512x128)
        (broadcastTo S512x128 (minimumf v23 (broadcast S512x1 (Scalar.ofBits .f32 0x40800000#32 : Ideal .f32))) broadcasts_S512x1_S512x128))
      (extractStridedSlice S512x128 ![0, 128] v11 slices_S512x512_o0_128_S512x128)) bitsLt_bf16_f32 : FVec Ideal S512x128 .bf16)
    (shapeCast S128x128 a shapeCasts_S1x128x128_S128x128 : FVec Ideal S128x128 .bf16) (constant S512x128 .f32 0x00000000#32)

theorem grp1_apply (v11 : FVec Ideal S512x512 .f32) (v23 : FVec Ideal S512x1 .f32) (x : FVec Ideal S528x512 .f32) (a : Vec Ideal S1x128x128 .bf16)
    (r : Fin 512) (d : Fin 128) : grp1 v11 v23 x a (ix2 r d)
      = lin (fun c : Fin 128 => Ideal.div (x (ix2 ⟨16 + r.val, by omega⟩ (col 1 c))) (min (v23 (ix2 r 0)) (Ideal.ofBits .f32 0x40800000#32))
          - v11 (ix2 r (col 1 c))) (fun c d => a (ix3 0 c d)) d := by
  pointwise [grp1, lin]
  rfl

/-- Group 2's columns of the block: the mean of the rows' sums less the rows, times the group's matrix. -/
def grp2 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 256] x slices_S528x512_o16_256_S512x128)
        (broadcastTo S512x128 (minimumf v23 (broadcast S512x1 (Scalar.ofBits .f32 0x41000000#32 : Ideal .f32))) broadcasts_S512x1_S512x128))
      (extractStridedSlice S512x128 ![0, 256] v11 slices_S512x512_o0_256_S512x128)) bitsLt_bf16_f32 : FVec Ideal S512x128 .bf16)
    (shapeCast S128x128 a shapeCasts_S1x128x128_S128x128 : FVec Ideal S128x128 .bf16) (constant S512x128 .f32 0x00000000#32)

theorem grp2_apply (v11 : FVec Ideal S512x512 .f32) (v23 : FVec Ideal S512x1 .f32) (x : FVec Ideal S528x512 .f32) (a : Vec Ideal S1x128x128 .bf16)
    (r : Fin 512) (d : Fin 128) : grp2 v11 v23 x a (ix2 r d)
      = lin (fun c : Fin 128 => Ideal.div (x (ix2 ⟨16 + r.val, by omega⟩ (col 2 c))) (min (v23 (ix2 r 0)) (Ideal.ofBits .f32 0x41000000#32))
          - v11 (ix2 r (col 2 c))) (fun c d => a (ix3 0 c d)) d := by
  pointwise [grp2, lin]
  rfl

/-- Group 3's columns of the block: the mean of the rows' sums less the rows, times the group's matrix. -/
def grp3 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 384] x slices_S528x512_o16_384_S512x128)
        (broadcastTo S512x128 (minimumf v23 (broadcast S512x1 (Scalar.ofBits .f32 0x41800000#32 : Ideal .f32))) broadcasts_S512x1_S512x128))
      (extractStridedSlice S512x128 ![0, 384] v11 slices_S512x512_o0_384_S512x128)) bitsLt_bf16_f32 : FVec Ideal S512x128 .bf16)
    (shapeCast S128x128 a shapeCasts_S1x128x128_S128x128 : FVec Ideal S128x128 .bf16) (constant S512x128 .f32 0x00000000#32)

theorem grp3_apply (v11 : FVec Ideal S512x512 .f32) (v23 : FVec Ideal S512x1 .f32) (x : FVec Ideal S528x512 .f32) (a : Vec Ideal S1x128x128 .bf16)
    (r : Fin 512) (d : Fin 128) : grp3 v11 v23 x a (ix2 r d)
      = lin (fun c : Fin 128 => Ideal.div (x (ix2 ⟨16 + r.val, by omega⟩ (col 3 c))) (min (v23 (ix2 r 0)) (Ideal.ofBits .f32 0x41800000#32))
          - v11 (ix2 r (col 3 c))) (fun c d => a (ix3 0 c d)) d := by
  pointwise [grp3, lin]
  rfl

theorem pay7_eq (i : grid0.Coords) (cur : Vec Ideal S512x512 .f32) (halo : Vec Ideal S16x512 .f32) (a0 a1 a2 a3 : Vec Ideal S1x128x128 .bf16) :
    k0_pay7 (k0_pay2 cur) (k0_pay3 (F := Ideal) i) (k0_pay4 i cur halo) (k0_pay5 i cur halo a0) (k0_pay6 i cur halo) a1 a2 a3
      = cat4 ![grp0 (k0_pay2 cur) (k0_pay3 (F := Ideal) i) (k0_pay4 i cur halo) a0,
          grp1 (k0_pay2 cur) (k0_pay3 (F := Ideal) i) (dbl 2 (k0_pay4 i cur halo)) a1,
          grp2 (k0_pay2 cur) (k0_pay3 (F := Ideal) i) (dbl 4 (dbl 2 (k0_pay4 i cur halo))) a2,
          grp3 (k0_pay2 cur) (k0_pay3 (F := Ideal) i) (dbl 8 (dbl 4 (dbl 2 (k0_pay4 i cur halo)))) a3] := rfl

theorem pay2_eq (cur : Vec Ideal S512x512 .f32) (r k : Fin 512) : k0_pay2 cur (ix2 r k) = cur (ix2 r k) := by pointwise [k0_pay2]

/-- The block's mixed columns, unscaled, at an index. -/
theorem pay7_apply (i : grid0.Coords) (cur : Vec Ideal S512x512 .f32) (halo : Vec Ideal S16x512 .f32) (a0 a1 a2 a3 : Vec Ideal S1x128x128 .bf16)
    (P : Fin 2048 → Fin 512 → EReal) (hP : Rows i cur halo P) (pw : Fin 4 → Fin 128 → Fin 128 → EReal)
    (h0 : ∀ c d, a0 (ix3 0 c d) = pw 0 c d) (h1 : ∀ c d, a1 (ix3 0 c d) = pw 1 c d) (h2 : ∀ c d, a2 (ix3 0 c d) = pw 2 c d) (h3 : ∀ c d, a3 (ix3 0 c d) = pw 3 c d)
    (r : Fin 512) (t : Fin 2048) (ht : t.val = (i 0).val % 4 * 512 + r.val) (q : Fin 512) :
    k0_pay7 (k0_pay2 cur) (k0_pay3 (F := Ideal) i) (k0_pay4 i cur halo) (k0_pay5 i cur halo a0) (k0_pay6 i cur halo) a1 a2 a3 (ix2 r q)
      = lin (pools (count t.val) P t ⟨q.val / 128, by omega⟩) (pw ⟨q.val / 128, by omega⟩) ⟨q.val % 128, by omega⟩ := by
  rw [pay7_eq, cat4_apply]
  generalize (⟨q.val / 128, by omega⟩ : Fin 4) = g
  generalize (⟨q.val % 128, by omega⟩ : Fin 128) = d
  have en : k0_pay3 (F := Ideal) i (ix2 r 0) = count t.val := by rw [pay3_apply, ht]
  have ex (c : Fin 512) : k0_pay2 cur (ix2 r c) = P t c := (pay2_eq cur r c).trans (hP.here r c t ht)
  fin_cases g
  · refine (grp0_apply _ _ _ _ r d).trans ?_
    simp only [lin, en, ex, h0]
    refine Finset.sum_congr rfl fun c _ => ?_
    refine congrArg (fun s : EReal => (Ideal.div s _ - _) * _) ?_
    exact (s2 i cur halo _ _ (by show 2 ≤ 16 + r.val + 1; omega)).trans (upto_ext 2 (by omega) i cur halo P hP _ r t ht _ rfl)
  · refine (grp1_apply _ _ _ _ r d).trans ?_
    simp only [lin, en, ex, h1]
    refine Finset.sum_congr rfl fun c _ => ?_
    refine congrArg (fun s : EReal => (Ideal.div s _ - _) * _) ?_
    exact (s4 i cur halo _ _ (by show 4 ≤ 16 + r.val + 1; omega)).trans (upto_ext 4 (by omega) i cur halo P hP _ r t ht _ rfl)
  · refine (grp2_apply _ _ _ _ r d).trans ?_
    simp only [lin, en, ex, h2]
    refine Finset.sum_congr rfl fun c _ => ?_
    refine congrArg (fun s : EReal => (Ideal.div s _ - _) * _) ?_
    exact (s8 i cur halo _ _ (by show 8 ≤ 16 + r.val + 1; omega)).trans (upto_ext 8 (by omega) i cur halo P hP _ r t ht _ rfl)
  · refine (grp3_apply _ _ _ _ r d).trans ?_
    simp only [lin, en, ex, h3]
    refine Finset.sum_congr rfl fun c _ => ?_
    refine congrArg (fun s : EReal => (Ideal.div s _ - _) * _) ?_
    exact (s16 i cur halo _ _ (by show 16 ≤ 16 + r.val + 1; omega)).trans (upto_ext 16 (by omega) i cur halo P hP _ r t ht _ rfl)

end Cert.Val.MergePool

end
-- ==== Proof.Val.MergeBlock.lean ====
module

public import proofs.«01_k».proof.Proof.Val.MergePool

@[expose] public section

noncomputable section

namespace Cert.Val.MergeBlock

open Cert.MergeIdeal Cert.MergeIdeal.Gen Idealize.ShloMosaic Idealize.ShloMosaic.TcCoe Idealize.SL.Sem
open Cert.Val.MergePool (Rows)

/-- Eleven column tiles side by side. -/
def cat (f : Fin 11 → FVec Ideal S512x256 .bf16) : FVec Ideal S512x2816 .bf16 :=
  concatenate S512x2816 1 (List.ofFn fun n : Fin 11 => (⟨S512x256, f n⟩ : (s : Shape) × (s.Idx → Elt Ideal .bf16)))
    concatenates_S512x256_S512x256_S512x256_S512x256_S512x256_S512x256_S512x256_S512x256_S512x256_S512x256_S512x256_S512x2816_d1

/-- A column of the tiles side by side is a column of the tile it falls in. -/
theorem cat_apply (f : Fin 11 → FVec Ideal S512x256 .bf16) (r : Fin 512) (k : Fin 2816) :
    cat f (ix2 r k) = f ⟨k.val / 256, by omega⟩ (ix2 r ⟨k.val % 256, by omega⟩) := by
  unfold cat
  refine concatenate_ofFn_apply (t := S512x2816) (s₁ := S512x256) 1 f _ rfl 256 rfl (ix2 r k : S512x2816.Idx) ⟨k.val / 256, by omega⟩ rfl (ix2 r ⟨k.val % 256, by omega⟩ : S512x256.Idx) rfl ?_
  intro b hb
  match b with
  | ⟨0, _⟩ => rfl
  | ⟨1, _⟩ => exact absurd rfl hb

/-- The rows plus half the product of their hidden rows. -/
def step (v105 : FVec Ideal S512x1024 .f32) (v130 v140 v150 v160 v170 v180 v190 v200 v210 v220 v230 : FVec Ideal S512x256 .bf16) (v232 : Vec Ideal S2816x1024 .bf16) : FVec Ideal S512x1024 .f32 :=
  addf v105 (mulf (broadcast S512x1024 (Scalar.ofBits .f32 0x3F000000#32)) (matmul dot_S512x2816_S2816x1024_S512x1024_1_0_0_1_n_n none (cat ![v130, v140, v150, v160, v170, v180, v190, v200, v210, v220, v230]) (shapeCast S2816x1024 v232 shapeCasts_S2816x1024_S2816x1024 : FVec Ideal S2816x1024 .bf16) (constant S512x1024 .f32 0x00000000#32)))

theorem step_apply (v105 : FVec Ideal S512x1024 .f32) (v130 v140 v150 v160 v170 v180 v190 v200 v210 v220 v230 : FVec Ideal S512x256 .bf16) (v232 : Vec Ideal S2816x1024 .bf16) (r : Fin 512) (j : Fin 1024) :
    step v105 v130 v140 v150 v160 v170 v180 v190 v200 v210 v220 v230 v232 (ix2 r j) = (fun j => v105 (ix2 r j) + Ideal.ofBits .f32 0x3F000000#32 * lin (fun q => cat ![v130, v140, v150, v160, v170, v180, v190, v200, v210, v220, v230] (ix2 r q)) (fun q j => v232 (ix2 q j)) j) j := by
  unfold step
  generalize cat ![v130, v140, v150, v160, v170, v180, v190, v200, v210, v220, v230] = h
  pointwise [lin]

/-- Rows scaled by the reciprocal root of their mean square and by the norm's weights. -/
def norm (z : FVec Ideal S512x1024 .f32) (w : Vec Ideal S1x1024 .f32) : FVec Ideal S512x1024 .f32 :=
  mulf (mulf z (broadcastTo S512x1024 (rsqrt (addf (divf (shapeCast S512x1 (multiReduction .add [1] S512 (mulf z z) 0x00000000#32 reduces_S512x1024_S512 (.inl rfl) rfl : FVec Ideal S512 .f32) shapeCasts_S512_S512x1)
      (broadcast S512x1 (Scalar.ofBits .f32 0x44800000#32 : Ideal .f32))) (broadcast S512x1 (Scalar.ofBits .f32 0x358637BD#32 : Ideal .f32)))) broadcasts_S512x1_S512x1024))
    (broadcastTo S512x1024 (shapeCast S1x1024 w shapeCasts_S1x1024_S1x1024 : FVec Ideal S1x1024 .f32) broadcasts_S1x1024_S512x1024)

theorem norm_apply (z : FVec Ideal S512x1024 .f32) (w : Vec Ideal S1x1024 .f32) (r : Fin 512) (j : Fin 1024) :
    norm z w (ix2 r j) = rms (fun j => z (ix2 r j)) (fun k => w (ix2 0 k)) j := by
  pointwise [norm, rms]

theorem last_eq (v105 : FVec Ideal S512x1024 .f32) (v130 v140 v150 v160 v170 v180 v190 v200 v210 v220 v230 : FVec Ideal S512x256 .bf16) (v232 : Vec Ideal S2816x1024 .bf16) (v238 : Vec Ideal S1x1024 .f32) :
    k0_pay1 v105 v130 v140 v150 v160 v170 v180 v190 v200 v210 v220 v230 v232 v238 = norm (step v105 v130 v140 v150 v160 v170 v180 v190 v200 v210 v220 v230 v232) v238 := rfl

/-- One column tile of the hidden rows. -/
def tile (h : FVec Ideal S512x1024 .bf16) (a b : Vec Ideal S1024x256 .bf16) (r : Fin 512) (j : Fin 256) : EReal :=
  lin (fun k => h (ix2 r k)) (fun k q => a (ix2 k q)) j * Ideal.logistic (lin (fun k => h (ix2 r k)) (fun k q => a (ix2 k q)) j)
    * lin (fun k => h (ix2 r k)) (fun k q => b (ix2 k q)) j

theorem pay13_apply (y : FVec Ideal S512x1024 .f32) (g : FVec Ideal S1x1024 .f32) (s : FVec Ideal S512x1024 .f32) (a b : Vec Ideal S1024x256 .bf16) (r : Fin 512) (j : Fin 256) :
    k0_pay13 y g s a b (ix2 r j) = tile (k0_pay12 y g s) a b r j := by
  pointwise [k0_pay13, k0_pay12, tile, lin]

theorem pay14_apply (y : FVec Ideal S512x1024 .f32) (g : FVec Ideal S1x1024 .f32) (s : FVec Ideal S512x1024 .f32) (a b : Vec Ideal S1024x256 .bf16) (r : Fin 512) (j : Fin 256) :
    k0_pay14 y g s a b (ix2 r j) = tile (k0_pay12 y g s) a b r j := by
  pointwise [k0_pay14, k0_pay12, tile, lin]

theorem pay15_apply (y : FVec Ideal S512x1024 .f32) (g : FVec Ideal S1x1024 .f32) (s : FVec Ideal S512x1024 .f32) (a b : Vec Ideal S1024x256 .bf16) (r : Fin 512) (j : Fin 256) :
    k0_pay15 y g s a b (ix2 r j) = tile (k0_pay12 y g s) a b r j := by
  pointwise [k0_pay15, k0_pay12, tile, lin]

theorem pay17_apply (y : FVec Ideal S512x1024 .f32) (g : FVec Ideal S1x1024 .f32) (s : FVec Ideal S512x1024 .f32) (a b : Vec Ideal S1024x256 .bf16) (r : Fin 512) (j : Fin 256) :
    k0_pay17 (k0_pay12 y g s) (k0_pay16 y g s a) b (ix2 r j) = tile (k0_pay12 y g s) a b r j := by
  pointwise [k0_pay17, k0_pay16, k0_pay12, tile, lin]

theorem pay22_apply (h : FVec Ideal S512x1024 .bf16) (a b : Vec Ideal S1024x256 .bf16) (r : Fin 512) (j : Fin 256) :
    k0_pay22 h (k0_pay21 a) b (ix2 r j) = tile h a b r j := by
  pointwise [k0_pay22, k0_pay21, tile, lin]

theorem pay18_apply (h : FVec Ideal S512x1024 .bf16) (a b : Vec Ideal S1024x256 .bf16) (r : Fin 512) (j : Fin 256) :
    k0_pay18 h a b (ix2 r j) = tile h a b r j := by
  pointwise [k0_pay18, tile, lin]

theorem pay19_apply (h : FVec Ideal S512x1024 .bf16) (a b : Vec Ideal S1024x256 .bf16) (r : Fin 512) (j : Fin 256) :
    k0_pay19 h a b (ix2 r j) = tile h a b r j := by
  pointwise [k0_pay19, tile, lin]

theorem pay20_apply (h : FVec Ideal S512x1024 .bf16) (a b : Vec Ideal S1024x256 .bf16) (r : Fin 512) (j : Fin 256) :
    k0_pay20 h a b (ix2 r j) = tile h a b r j := by
  pointwise [k0_pay20, tile, lin]

theorem pay23_apply (h : FVec Ideal S512x1024 .bf16) (a b : Vec Ideal S1024x256 .bf16) (r : Fin 512) (j : Fin 256) :
    k0_pay23 h a b (ix2 r j) = tile h a b r j := by
  pointwise [k0_pay23, tile, lin]

theorem pay24_apply (h : FVec Ideal S512x1024 .bf16) (a b : Vec Ideal S1024x256 .bf16) (r : Fin 512) (j : Fin 256) :
    k0_pay24 h a b (ix2 r j) = tile h a b r j := by
  pointwise [k0_pay24, tile, lin]

theorem pay25_apply (h : FVec Ideal S512x1024 .bf16) (a b : Vec Ideal S1024x256 .bf16) (r : Fin 512) (j : Fin 256) :
    k0_pay25 h a b (ix2 r j) = tile h a b r j := by
  pointwise [k0_pay25, tile, lin]

/-- A tile of the hidden rows, of the rows the feed-forward half starts from. -/
theorem tile_of (h : FVec Ideal S512x1024 .bf16) (y : Fin 1024 → EReal) (g : Fin 1024 → EReal) (wg wu : Vec Ideal S1024x2816 .bf16)
    (a b : Vec Ideal S1024x256 .bf16) (r : Fin 512) (q : Fin 256) (k : Fin 2816) (hh : ∀ i : Fin 1024, h (ix2 r i) = rms y g i)
    (ha : ∀ i : Fin 1024, a (ix2 i q) = wg (ix2 i k)) (hb : ∀ i : Fin 1024, b (ix2 i q) = wu (ix2 i k)) :
    tile h a b r q = glu (rms y g) (fun k q => wg (ix2 k q)) (fun k q => wu (ix2 k q)) k := by
  unfold tile glu lin
  simp only [hh, ha, hb]

/-- A tile of the weights' columns from `o` on gives the hidden rows' columns from `o` on. -/
theorem tile_ld (h : FVec Ideal S512x1024 .bf16) (y : Fin 1024 → EReal) (g : Fin 1024 → EReal) (wg wu : Vec Ideal S1024x2816 .bf16) (o : Nat)
    (inb : ∀ a, (![0, o] : Fin 2 → Nat) a + S1024x256.size a ≤ S1024x2816.size a) (r : Fin 512) (hh : ∀ i : Fin 1024, h (ix2 r i) = rms y g i)
    (q : Fin 256) (k : Fin 2816) (hk : k.val = o + q.val) :
    tile h (View.ld wg (Rect.unit (s := S1024x2816) ![0, o] S1024x256.size inb)) (View.ld wu (Rect.unit (s := S1024x2816) ![0, o] S1024x256.size inb)) r q
      = glu (rms y g) (fun k q => wg (ix2 k q)) (fun k q => wu (ix2 k q)) k := by
  have hld (w : Vec Ideal S1024x2816 .bf16) (i : Fin 1024) :
      View.ld w (Rect.unit (s := S1024x2816) ![0, o] S1024x256.size inb) (ix2 i q) = w (ix2 i k) := by
    pointwise
    congr 1
    ext a; fin_cases a <;> simp [hk]
  exact tile_of h y g wg wu _ _ r q k hh (hld wg) (hld wu)

theorem hz : (![0, 0] : Fin 2 → Nat) = fun _ => 0 := funext fun a => by fin_cases a <;> rfl

/-- The merged rows added to the rows they started from. -/
theorem pay9_apply (v76 : FVec Ideal S512x512 .f32) (x8 : Vec Ideal S1x512 .f32) (x4 : Vec Ideal S512x1024 .bf16) (x1 : Vec Ideal S512x512 .bf16)
    (x6 : Vec Ideal S512x1024 .bf16) (x5 : Vec Ideal S512x1024 .bf16) (x9 : Vec Ideal S512x1024 .bf16) (x0 : Vec Ideal S512x1024 .f32) (x10 : Vec Ideal S1024x1024 .bf16)
    (r : Fin 512) (j : Fin 1024) :
    k0_pay9 v76 (k0_pay8 x8) x4 x1 x6 x5 x9 x0 x10 (ix2 r j)
      = mergeRow (fun k => x0 (ix2 r k)) (fun k => x1 (ix2 r k)) (fun q => v76 (ix2 r q) * x8 (ix2 0 q)) (fun k => x4 (ix2 r k)) (fun k => x5 (ix2 r k))
          (fun k q => x6 (ix2 k q)) (fun k q => x9 (ix2 k q)) (fun k q => x10 (ix2 k q)) j := by
  pointwise [k0_pay9, k0_pay8, mergeRow, lin]

/-- The normed rows the feed-forward half multiplies. -/
theorem pay12_apply (v76 : FVec Ideal S512x512 .f32) (v78 : FVec Ideal S1x512 .f32) (x4 : Vec Ideal S512x1024 .bf16) (x1 : Vec Ideal S512x512 .bf16)
    (x6 : Vec Ideal S512x1024 .bf16) (x5 : Vec Ideal S512x1024 .bf16) (x9 : Vec Ideal S512x1024 .bf16) (x0 : Vec Ideal S512x1024 .f32) (x10 : Vec Ideal S1024x1024 .bf16)
    (g : Vec Ideal S1x1024 .f32) (r : Fin 512) (j : Fin 1024) :
    k0_pay12 (k0_pay9 v76 v78 x4 x1 x6 x5 x9 x0 x10) (k0_pay10 g) (k0_pay11 v76 v78 x4 x1 x6 x5 x9 x0 x10) (ix2 r j)
      = rms (fun k => k0_pay9 v76 v78 x4 x1 x6 x5 x9 x0 x10 (ix2 r k)) (fun k => g (ix2 0 k)) j := by
  unfold k0_pay11
  generalize k0_pay9 v76 v78 x4 x1 x6 x5 x9 x0 x10 = y
  pointwise [k0_pay12, k0_pay10, rms]

/-- What the body leaves in the result's block, at an index: the function of the block's row. -/
theorem out_apply (i : grid0.Coords) (x0 : Vec Ideal S512x1024 .f32) (x1 : Vec Ideal S512x512 .bf16) (x2 : Vec Ideal S512x512 .f32) (x3 : Vec Ideal S16x512 .f32) (x4 : Vec Ideal S512x1024 .bf16) (x5 : Vec Ideal S512x1024 .bf16) (x6 : Vec Ideal S512x1024 .bf16) (x7 : Vec Ideal S4x128x128 .bf16) (x8 : Vec Ideal S1x512 .f32) (x9 : Vec Ideal S512x1024 .bf16) (x10 : Vec Ideal S1024x1024 .bf16) (x11 : Vec Ideal S1x1024 .f32) (x12 : Vec Ideal S1024x2816 .bf16) (x13 : Vec Ideal S1024x2816 .bf16) (x14 : Vec Ideal S2816x1024 .bf16) (x15 : Vec Ideal S1x1024 .f32) (P : Fin 2048 → Fin 512 → EReal) (hP : Rows i x2 x3 P)
    (r : Fin 512) (t : Fin 2048) (ht : t.val = (i 0).val % 4 * 512 + r.val) (j : Fin 1024) :
    out0_16 i x0 x1 x2 x3 x4 x5 x6 x7 x8 x9 x10 x11 x12 x13 x14 x15 (ix2 r j)
      = rms (ffnRow (mergeRow (fun k => x0 (ix2 r k)) (fun k => x1 (ix2 r k))
          (mixed (pools (count t.val) P t) (fun g c d => x7 (ix3 g c d)) (fun q => x8 (ix2 0 q))) (fun k => x4 (ix2 r k)) (fun k => x5 (ix2 r k))
          (fun k q => x6 (ix2 k q)) (fun k q => x9 (ix2 k q)) (fun k q => x10 (ix2 k q)))
        (fun k => x11 (ix2 0 k)) (fun k q => x12 (ix2 k q)) (fun k q => x13 (ix2 k q)) (fun q j => x14 (ix2 q j))) (fun k => x15 (ix2 0 k)) j := by
  unfold out0_16
  rw [View.canon_unit_zero hz]
  unfold k0_pay31 k0_pay30 k0_pay29 k0_pay28 k0_pay27 k0_pay26
  have e0 : View.ld x0 r0_7 = x0 := View.ld_unit_zero hz _ x0
  have e1 : View.ld x1 r0_0 = x1 := View.ld_unit_zero hz _ x1
  have e2 : View.ld x2 r0_0 = x2 := View.ld_unit_zero hz _ x2
  have e3 : View.ld x3 r0_1 = x3 := View.ld_unit_zero hz _ x3
  have e4 : View.ld x4 r0_7 = x4 := View.ld_unit_zero hz _ x4
  have e5 : View.ld x5 r0_7 = x5 := View.ld_unit_zero hz _ x5
  have e6 : View.ld x6 r0_7 = x6 := View.ld_unit_zero hz _ x6
  have e8 : View.ld x8 r0_6 = x8 := View.ld_unit_zero hz _ x8
  have e9 : View.ld x9 r0_7 = x9 := View.ld_unit_zero hz _ x9
  have e10 : View.ld x10 r0_8 = x10 := View.ld_unit_zero hz _ x10
  have e11 : View.ld x11 r0_9 = x11 := View.ld_unit_zero hz _ x11
  have e14 : View.ld x14 r0_21 = x14 := View.ld_unit_zero hz _ x14
  have e15 : View.ld x15 r0_9 = x15 := View.ld_unit_zero hz _ x15
  rw [e0, e1, e2, e3, e4, e5, e6, e8, e9, e10, e11, e14, e15]
  have hw0 (c d : Fin 128) : View.ld x7 r0_2 (ix3 0 c d) = x7 (ix3 0 c d) := by pointwise
  have hw1 (c d : Fin 128) : View.ld x7 r0_3 (ix3 0 c d) = x7 (ix3 1 c d) := by pointwise
  have hw2 (c d : Fin 128) : View.ld x7 r0_4 (ix3 0 c d) = x7 (ix3 2 c d) := by pointwise
  have hw3 (c d : Fin 128) : View.ld x7 r0_5 (ix3 0 c d) = x7 (ix3 3 c d) := by pointwise
  have hmix := MergePool.pay7_apply i x2 x3 _ _ _ _ P hP (fun g c d => x7 (ix3 g c d)) hw0 hw1 hw2 hw3 r t ht
  revert hmix
  generalize k0_pay7 (k0_pay2 x2) (k0_pay3 (F := Ideal) i) (k0_pay4 i x2 x3) (k0_pay5 i x2 x3 (View.ld x7 r0_2)) (k0_pay6 i x2 x3) (View.ld x7 r0_3) (View.ld x7 r0_4) (View.ld x7 r0_5) = v76
  intro hmix
  have hy := fun k : Fin 1024 => (pay9_apply v76 x8 x4 x1 x6 x5 x9 x0 x10 r k)
  have hx : (fun q => v76 (ix2 r q) * x8 (ix2 0 q)) = mixed (pools (count t.val) P t) (fun g c d => x7 (ix3 g c d)) (fun q => x8 (ix2 0 q)) :=
    funext fun q => congrArg (fun s : EReal => s * x8 (ix2 0 q)) (hmix q)
  rw [hx] at hy
  have hh := fun k : Fin 1024 => (pay12_apply v76 (k0_pay8 x8) x4 x1 x6 x5 x9 x0 x10 x11 r k).trans (congrArg (fun f => rms f (fun k => x11 (ix2 0 k)) k) (funext hy))
  clear hmix hx
  generalize k0_pay9 v76 (k0_pay8 x8) x4 x1 x6 x5 x9 x0 x10 = y at hy hh ⊢
  generalize k0_pay11 v76 (k0_pay8 x8) x4 x1 x6 x5 x9 x0 x10 = s at hh ⊢
  generalize k0_pay10 x11 = g at hh ⊢
  rw [last_eq]
  refine (norm_apply _ _ r j).trans (congrArg (fun f => rms f (fun k => x15 (ix2 0 k)) j) (funext fun j => ?_))
  refine (step_apply _ _ _ _ _ _ _ _ _ _ _ _ _ r j).trans ?_
  unfold ffnRow
  refine congrArg₂ (fun a b : EReal => a + b) (hy j) (congrArg (fun b : EReal => Ideal.ofBits .f32 0x3F000000#32 * b)
    (congrArg (fun h => lin h (fun q j => x14 (ix2 q j)) j) (funext fun k => ?_)))
  rw [cat_apply]
  obtain ⟨n, hn⟩ : ∃ n : Fin 11, n = ⟨k.val / 256, by omega⟩ := ⟨_, rfl⟩
  have hv : n.val = k.val / 256 := congrArg Fin.val hn
  rw [← hn]
  fin_cases n
  · exact (pay13_apply _ _ _ _ _ _ _).trans (tile_ld _ _ _ _ _ _ _ _ hh _ _ (by simp at hv ⊢; omega))
  · exact (pay14_apply _ _ _ _ _ _ _).trans (tile_ld _ _ _ _ _ _ _ _ hh _ _ (by simp at hv ⊢; omega))
  · exact (pay15_apply _ _ _ _ _ _ _).trans (tile_ld _ _ _ _ _ _ _ _ hh _ _ (by simp at hv ⊢; omega))
  · exact (pay17_apply _ _ _ _ _ _ _).trans (tile_ld _ _ _ _ _ _ _ _ hh _ _ (by simp at hv ⊢; omega))
  · exact (pay18_apply _ _ _ _ _).trans (tile_ld _ _ _ _ _ _ _ _ hh _ _ (by simp at hv ⊢; omega))
  · exact (pay19_apply _ _ _ _ _).trans (tile_ld _ _ _ _ _ _ _ _ hh _ _ (by simp at hv ⊢; omega))
  · exact (pay20_apply _ _ _ _ _).trans (tile_ld _ _ _ _ _ _ _ _ hh _ _ (by simp at hv ⊢; omega))
  · exact (pay22_apply _ _ _ _ _).trans (tile_ld _ _ _ _ _ _ _ _ hh _ _ (by simp at hv ⊢; omega))
  · exact (pay23_apply _ _ _ _ _).trans (tile_ld _ _ _ _ _ _ _ _ hh _ _ (by simp at hv ⊢; omega))
  · exact (pay24_apply _ _ _ _ _).trans (tile_ld _ _ _ _ _ _ _ _ hh _ _ (by simp at hv ⊢; omega))
  · exact (pay25_apply _ _ _ _ _).trans (tile_ld _ _ _ _ _ _ _ _ hh _ _ (by simp at hv ⊢; omega))

end Cert.Val.MergeBlock

end
-- ==== Proof.Val.MergeRun.lean ====
module

public import proofs.«01_k».proof.Proof.Val.MergeBlock
public import Idealize.ShloMosaic.Lib.StableHlo.Run
public import Idealize.ShloMosaic.Lib.Pipeline.FrameSuffix

@[expose] public section

noncomputable section

namespace Cert.Val.MergeRun

open Cert.MergeIdeal Cert.MergeIdeal.Gen Idealize.ShloMosaic Idealize.ShloMosaic.TcCoe Idealize.SL.Sem Idealize.ShloMosaic.StableHlo

variable (m : (ℓ : Loc nD τ sig) → Buf (Elt Ideal) ℓ)

/-- The buffers' contents when the kernel is done. -/
abbrev exitV (c : Dev nD) : Valuation τ sig (Elt Ideal) :=
  Pipeline.withArrays spec0 c (Gen.V0 m c) fun w => (Gen.dats m 0 c).arrAt w cfg0.N

/-- What the kernel leaves in its result array. -/
def reg (c : Dev nD) : Buf (Elt Ideal) ((c.tc : Thread nD τ).loc main_v15) := (Gen.dats m 0 c).arrAt 16 cfg0.N

/-- Two of the kernel's inputs are windows of one array, which is never written: the result array is read back as it was left. -/
theorem exit_reg (c : Dev nD) : exitV m c (Proc.devRef .tc main_v15) = reg m c :=
  (Gen.dats m 0 c).withArrays_arrAt sharedIn0 (Gen.V0 m c) (Gen.A_eq m c) 16

theorem tail_res (V0 : Valuation τ sig (Elt Ideal)) :
    after (List.flatten [Gen.hostOps1]) V0 (Proc.devRef .tc main_v16) = shapeCast _ (V0 (Proc.devRef .tc main_v15)) shapeCasts_S65536x1024_S32x2048x1024 := by
  simp only [Gen.hostOps1, List.flatten_cons, List.flatten_nil, List.append_nil, List.cons_append, List.nil_append]
  after_results <;> rfl

theorem fin_res (c : Dev nD) :
    Pipeline.afterTail₀ cfgs (Gen.dats m) 0 (Gen.V0 m) [Gen.hostOps1] c main_v16 = shapeCast _ (reg m c) shapeCasts_S65536x1024_S32x2048x1024 :=
  (tail_res (exitV m c)).trans (by rw [exit_reg])

/-- Every weakly fair execution ends with the result at what the kernel left, its rows regrouped, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v16) = shapeCast _ (reg m c) shapeCasts_S65536x1024_S32x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).2 main_v16 (Pipeline.mem_restRefs_of main_v16 (by decide) (by decide))).trans (fin_res m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c),
      ((h c).2 main_arg11 (Pipeline.mem_restRefs_of main_arg11 (by decide) (by decide))).trans (Gen.W_main_arg11 m (Gen.dats m) c),
      ((h c).2 main_arg12 (Pipeline.mem_restRefs_of main_arg12 (by decide) (by decide))).trans (Gen.W_main_arg12 m (Gen.dats m) c),
      ((h c).2 main_arg13 (Pipeline.mem_restRefs_of main_arg13 (by decide) (by decide))).trans (Gen.W_main_arg13 m (Gen.dats m) c),
      ((h c).2 main_arg14 (Pipeline.mem_restRefs_of main_arg14 (by decide) (by decide))).trans (Gen.W_main_arg14 m (Gen.dats m) c)⟩) (Gen.run_main m ρ)

end Cert.Val.MergeRun

end
-- ==== Proof.Val.MergeKernel.lean ====
module

public import proofs.«01_k».proof.Proof.Val.MergeRun
public import Idealize.ShloMosaic.Lib.Pipeline.ValueKit

@[expose] public section

noncomputable section

namespace Cert.Val.MergeKernel

open Cert.MergeIdeal Cert.MergeIdeal.Gen Idealize.ShloMosaic Idealize.ShloMosaic.TcCoe Idealize.SL.Sem Idealize.ShloMosaic.StableHlo
open Idealize.ShloMosaic.Pipeline (Dat)

/-- The call's result over the rows laid flat. -/
def flat (x : FVec Ideal S65536x1024 .f32) (at' : FVec Ideal S65536x512 .bf16) (p : FVec Ideal S65536x512 .f32) (ga : FVec Ideal S65536x1024 .bf16) (gb : FVec Ideal S65536x1024 .bf16) (wa : FVec Ideal S512x1024 .bf16) (pw : FVec Ideal S4x128x128 .bf16) (ps : FVec Ideal S1x512 .f32) (wp : FVec Ideal S512x1024 .bf16) (wo : FVec Ideal S1024x1024 .bf16) (g2 : FVec Ideal S1x1024 .f32) (wg : FVec Ideal S1024x2816 .bf16) (wu : FVec Ideal S1024x2816 .bf16) (wd : FVec Ideal S2816x1024 .bf16) (gf : FVec Ideal S1x1024 .f32) : FVec Ideal S65536x1024 .f32 := fun i =>
  rms (ffnRow (mergeRow (fun k => x (ix2 (i 0) k)) (fun k => at' (ix2 (i 0) k))
      (mixed (pools (count ((i 0).val % 2048)) (fun s k => p (ix2 ⟨(i 0).val / 2048 * 2048 + s.val, by have := (i 0).isLt; change (i 0).val < 65536 at this; omega⟩ k)) ⟨(i 0).val % 2048, by omega⟩)
        (fun g c d => pw (ix3 g c d)) (fun q => ps (ix2 0 q)))
      (fun k => ga (ix2 (i 0) k)) (fun k => gb (ix2 (i 0) k)) (fun k q => wa (ix2 k q)) (fun k q => wp (ix2 k q)) (fun k q => wo (ix2 k q)))
    (fun k => g2 (ix2 0 k)) (fun k q => wg (ix2 k q)) (fun k q => wu (ix2 k q)) (fun q j => wd (ix2 q j))) (fun k => gf (ix2 0 k)) (i 1)

variable (m : (ℓ : Loc nD τ sig) → Buf (Elt Ideal) ℓ)

theorem at0 : ∀ t : Fin cfg0.N, (grid0.coords t 0).val = t.val := (by decide +kernel : ∀ t : Fin grid0.N, _)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val * 32 - 1, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![t.val, 0] := (by decide +kernel : ∀ t : Fin grid0.N, _)

set_option maxHeartbeats 1000000 in
theorem reg_eq (c : Dev nD) : MergeRun.reg m c
    = flat (V m c main_v0) (V m c main_v1) (V m c main_v2) (V m c main_v3) (V m c main_v4) (V m c main_v5) (V m c main_v6) (V m c main_v7) (V m c main_v8) (V m c main_v9) (V m c main_v10) (V m c main_v11) (V m c main_v12) (V m c main_v13) (V m c main_v14) := by
  refine (dats m 0 c).arrAt_eq_of_covers 16 _ (by decide +kernel) fun t hf y => ?_
  blk_simp
  rw [after0_16]
  obtain ⟨r, j, rfl⟩ : ∃ (r : Fin 512) (j : Fin 1024), y = ix2 r j := ⟨_, _, ValueIdx.eq_ix2 y⟩
  have hN : t.val < 128 := t.isLt
  generalize hI : (win0_16.blk t).view.emb (ix2 r j) = I
  have hI0 : (I 0 : Nat) = t.val * 512 + r.val := by rw [← hI]; blk_simp [idx16]
  have hI1 : (I 1 : Nat) = j.val := by rw [← hI]; blk_simp [idx16]
  have hP : MergePool.Rows (grid0.coords t) (iblk m c 2 t) (iblk m c 3 t) (fun s k => V m c main_v2 (ix2 ⟨(I 0).val / 2048 * 2048 + s.val, by omega⟩ k)) := by
    constructor
    · intro r' k s hs
      rw [at0] at hs
      blk_simp [iblk]; congr 1; blk_ext [idx2, hI0, hs] <;> omega
    · intro h0 r' k s hs
      rw [at0] at hs h0
      blk_simp [iblk]; congr 1; blk_ext [idx3, hI0, hs] <;> omega
  rw [MergeBlock.out_apply _ _ _ _ _ _ _ _ _ _ _ _ _ _ _ _ _ _ hP r ⟨(I 0).val % 2048, by omega⟩ (by rw [at0]; show (I 0).val % 2048 = _; omega)]
  clear hP
  have h0 (k : Fin 1024) : iblk m c 0 t (ix2 r k) = V m c main_v0 (ix2 (I 0) k) := by
    blk_simp [iblk]; congr 1; blk_ext [idx0, hI0]
  have h1 (k : Fin 512) : iblk m c 1 t (ix2 r k) = V m c main_v1 (ix2 (I 0) k) := by
    blk_simp [iblk]; congr 1; blk_ext [idx1, hI0]
  have h4 (k : Fin 1024) : iblk m c 4 t (ix2 r k) = V m c main_v3 (ix2 (I 0) k) := by
    blk_simp [iblk]; congr 1; blk_ext [idx4, hI0]
  have h5 (k : Fin 1024) : iblk m c 5 t (ix2 r k) = V m c main_v4 (ix2 (I 0) k) := by
    blk_simp [iblk]; congr 1; blk_ext [idx5, hI0]
  have h6 (k : Fin 512) (q : Fin 1024) : iblk m c 6 t (ix2 k q) = V m c main_v5 (ix2 k q) := by
    blk_simp [iblk]; congr 1; blk_ext [idx6]
  have h7 (g : Fin 4) (k q : Fin 128) : iblk m c 7 t (ix3 g k q) = V m c main_v6 (ix3 g k q) := by
    blk_simp [iblk]; congr 1; blk_ext [idx7]
  have h8 (k : Fin 512) : iblk m c 8 t (ix2 0 k) = V m c main_v7 (ix2 0 k) := by
    blk_simp [iblk]; congr 1; blk_ext [idx8]
  have h9 (k : Fin 512) (q : Fin 1024) : iblk m c 9 t (ix2 k q) = V m c main_v8 (ix2 k q) := by
    blk_simp [iblk]; congr 1; blk_ext [idx9]
  have h10 (k : Fin 1024) (q : Fin 1024) : iblk m c 10 t (ix2 k q) = V m c main_v9 (ix2 k q) := by
    blk_simp [iblk]; congr 1; blk_ext [idx10]
  have h11 (k : Fin 1024) : iblk m c 11 t (ix2 0 k) = V m c main_v10 (ix2 0 k) := by
    blk_simp [iblk]; congr 1; blk_ext [idx11]
  have h12 (k : Fin 1024) (q : Fin 2816) : iblk m c 12 t (ix2 k q) = V m c main_v11 (ix2 k q) := by
    blk_simp [iblk]; congr 1; blk_ext [idx12]
  have h13 (k : Fin 1024) (q : Fin 2816) : iblk m c 13 t (ix2 k q) = V m c main_v12 (ix2 k q) := by
    blk_simp [iblk]; congr 1; blk_ext [idx13]
  have h14 (k : Fin 2816) (q : Fin 1024) : iblk m c 14 t (ix2 k q) = V m c main_v13 (ix2 k q) := by
    blk_simp [iblk]; congr 1; blk_ext [idx14]
  have h15 (k : Fin 1024) : iblk m c 15 t (ix2 0 k) = V m c main_v14 (ix2 0 k) := by
    blk_simp [iblk]; congr 1; blk_ext [idx15]
  simp only [h0, h1, h4, h5, h6, h7, h8, h9, h10, h11, h12, h13, h14, h15]
  unfold flat
  exact congrArg _ (Fin.ext hI1.symm)

theorem V_v0 (c : Dev nD) : V m c main_v0 = shapeCast _ (m ((c.tc : Thread nD τ).loc main_arg0)) shapeCasts_S32x2048x1024_S65536x1024 := by
  simp only [V, V0, hostOps0, List.flatten_cons, List.flatten_nil, List.append_nil, List.cons_append, List.nil_append]
  after_results <;> rfl
theorem V_v1 (c : Dev nD) : V m c main_v1 = shapeCast _ (m ((c.tc : Thread nD τ).loc main_arg1)) shapeCasts_S32x2048x512_S65536x512 := by
  simp only [V, V0, hostOps0, List.flatten_cons, List.flatten_nil, List.append_nil, List.cons_append, List.nil_append]
  after_results <;> rfl
theorem V_v2 (c : Dev nD) : V m c main_v2 = shapeCast _ (m ((c.tc : Thread nD τ).loc main_arg2)) shapeCasts_S32x2048x512_S65536x512 := by
  simp only [V, V0, hostOps0, List.flatten_cons, List.flatten_nil, List.append_nil, List.cons_append, List.nil_append]
  after_results <;> rfl
theorem V_v3 (c : Dev nD) : V m c main_v3 = shapeCast _ (m ((c.tc : Thread nD τ).loc main_arg3)) shapeCasts_S32x2048x1024_S65536x1024 := by
  simp only [V, V0, hostOps0, List.flatten_cons, List.flatten_nil, List.append_nil, List.cons_append, List.nil_append]
  after_results <;> rfl
theorem V_v4 (c : Dev nD) : V m c main_v4 = shapeCast _ (m ((c.tc : Thread nD τ).loc main_arg4)) shapeCasts_S32x2048x1024_S65536x1024 := by
  simp only [V, V0, hostOps0, List.flatten_cons, List.flatten_nil, List.append_nil, List.cons_append, List.nil_append]
  after_results <;> rfl
theorem V_v5 (c : Dev nD) : (V m c main_v5 : S512x1024.Idx → EReal) = m ((c.tc : Thread nD τ).loc main_arg7) := by
  simp only [V, V0, hostOps0, List.flatten_cons, List.flatten_nil, List.append_nil, List.cons_append, List.nil_append]
  after_results <;> rfl
theorem V_v6 (c : Dev nD) : (V m c main_v6 : S4x128x128.Idx → EReal) = m ((c.tc : Thread nD τ).loc main_arg5) := by
  simp only [V, V0, hostOps0, List.flatten_cons, List.flatten_nil, List.append_nil, List.cons_append, List.nil_append]
  after_results <;> rfl
theorem V_v7 (c : Dev nD) : V m c main_v7 = shapeCast _ (m ((c.tc : Thread nD τ).loc main_arg6)) shapeCasts_S512_S1x512 := by
  simp only [V, V0, hostOps0, List.flatten_cons, List.flatten_nil, List.append_nil, List.cons_append, List.nil_append]
  after_results <;> rfl
theorem V_v8 (c : Dev nD) : (V m c main_v8 : S512x1024.Idx → EReal) = m ((c.tc : Thread nD τ).loc main_arg8) := by
  simp only [V, V0, hostOps0, List.flatten_cons, List.flatten_nil, List.append_nil, List.cons_append, List.nil_append]
  after_results <;> rfl
theorem V_v9 (c : Dev nD) : (V m c main_v9 : S1024x1024.Idx → EReal) = m ((c.tc : Thread nD τ).loc main_arg9) := by
  simp only [V, V0, hostOps0, List.flatten_cons, List.flatten_nil, List.append_nil, List.cons_append, List.nil_append]
  after_results <;> rfl
theorem V_v10 (c : Dev nD) : V m c main_v10 = shapeCast _ (m ((c.tc : Thread nD τ).loc main_arg10)) shapeCasts_S1024_S1x1024 := by
  simp only [V, V0, hostOps0, List.flatten_cons, List.flatten_nil, List.append_nil, List.cons_append, List.nil_append]
  after_results <;> rfl
theorem V_v11 (c : Dev nD) : (V m c main_v11 : S1024x2816.Idx → EReal) = m ((c.tc : Thread nD τ).loc main_arg11) := by
  simp only [V, V0, hostOps0, List.flatten_cons, List.flatten_nil, List.append_nil, List.cons_append, List.nil_append]
  after_results <;> rfl
theorem V_v12 (c : Dev nD) : (V m c main_v12 : S1024x2816.Idx → EReal) = m ((c.tc : Thread nD τ).loc main_arg12) := by
  simp only [V, V0, hostOps0, List.flatten_cons, List.flatten_nil, List.append_nil, List.cons_append, List.nil_append]
  after_results <;> rfl
theorem V_v13 (c : Dev nD) : (V m c main_v13 : S2816x1024.Idx → EReal) = m ((c.tc : Thread nD τ).loc main_arg13) := by
  simp only [V, V0, hostOps0, List.flatten_cons, List.flatten_nil, List.append_nil, List.cons_append, List.nil_append]
  after_results <;> rfl
theorem V_v14 (c : Dev nD) : V m c main_v14 = shapeCast _ (m ((c.tc : Thread nD τ).loc main_arg14)) shapeCasts_S1024_S1x1024 := by
  simp only [V, V0, hostOps0, List.flatten_cons, List.flatten_nil, List.append_nil, List.cons_append, List.nil_append]
  after_results <;> rfl

/-- Rows laid flat and back: the function of the rows. -/
theorem flat_cast (x : FVec Ideal S32x2048x1024 .f32) (at' : FVec Ideal S32x2048x512 .bf16) (p : FVec Ideal S32x2048x512 .f32) (ga : FVec Ideal S32x2048x1024 .bf16) (gb : FVec Ideal S32x2048x1024 .bf16) (wa : FVec Ideal S512x1024 .bf16) (pw : FVec Ideal S4x128x128 .bf16) (ps : FVec Ideal S512 .f32) (wp : FVec Ideal S512x1024 .bf16) (wo : FVec Ideal S1024x1024 .bf16) (g2 : FVec Ideal S1024 .f32) (wg : FVec Ideal S1024x2816 .bf16) (wu : FVec Ideal S1024x2816 .bf16) (wd : FVec Ideal S2816x1024 .bf16) (gf : FVec Ideal S1024 .f32) (b : Fin 32) (t : Fin 2048) (j : Fin 1024) :
    (shapeCast _ (flat (shapeCast _ x shapeCasts_S32x2048x1024_S65536x1024) (shapeCast _ at' shapeCasts_S32x2048x512_S65536x512) (shapeCast _ p shapeCasts_S32x2048x512_S65536x512) (shapeCast _ ga shapeCasts_S32x2048x1024_S65536x1024) (shapeCast _ gb shapeCasts_S32x2048x1024_S65536x1024) wa pw (shapeCast _ ps shapeCasts_S512_S1x512) wp wo (shapeCast _ g2 shapeCasts_S1024_S1x1024) wg wu wd (shapeCast _ gf shapeCasts_S1024_S1x1024))
        shapeCasts_S65536x1024_S32x2048x1024 : FVec Ideal S32x2048x1024 .f32) (ix3 b t j)
      = rms (ffnRow (mergeRow (fun k => x (ix3 b t k)) (fun k => at' (ix3 b t k))
      (mixed (pools (count t.val) (fun t k => p (ix3 b t k)) t) (fun g c d => pw (ix3 g c d)) (fun q => ps (ix1 q)))
      (fun k => ga (ix3 b t k)) (fun k => gb (ix3 b t k)) (fun k q => wa (ix2 k q)) (fun k q => wp (ix2 k q)) (fun k q => wo (ix2 k q)))
    (fun k => g2 (ix1 k)) (fun k q => wg (ix2 k q)) (fun k q => wu (ix2 k q)) (fun q j => wd (ix2 q j))) (fun k => gf (ix1 k)) j := by
  have e (v : FVec Ideal S65536x1024 .f32) : (shapeCast _ v shapeCasts_S65536x1024_S32x2048x1024 : FVec Ideal S32x2048x1024 .f32) (ix3 b t j)
      = v (ix2 ⟨b.val * 2048 + t.val, by omega⟩ j) := by pointwise
  have wide (x : FVec Ideal S32x2048x1024 .f32) (r : Fin 65536) (s : Fin 2048) (hr : r.val = b.val * 2048 + s.val) (k : Fin 1024) :
      (shapeCast _ x shapeCasts_S32x2048x1024_S65536x1024 : FVec Ideal S65536x1024 .f32) (ix2 r k) = x (ix3 b s k) := by
    pointwise
    refine congrArg x ?_
    congr 1 <;> apply Fin.ext <;> simp <;> omega
  have half (x : FVec Ideal S32x2048x512 .f32) (r : Fin 65536) (s : Fin 2048) (hr : r.val = b.val * 2048 + s.val) (k : Fin 512) :
      (shapeCast _ x shapeCasts_S32x2048x512_S65536x512 : FVec Ideal S65536x512 .f32) (ix2 r k) = x (ix3 b s k) := by
    pointwise
    refine congrArg x ?_
    congr 1 <;> apply Fin.ext <;> simp <;> omega
  have e1 (g : FVec Ideal S1024 .f32) (k : Fin 1024) : (shapeCast _ g shapeCasts_S1024_S1x1024 : FVec Ideal S1x1024 .f32) (ix2 0 k) = g (ix1 k) := by pointwise
  have e2 (g : FVec Ideal S512 .f32) (k : Fin 512) : (shapeCast _ g shapeCasts_S512_S1x512 : FVec Ideal S1x512 .f32) (ix2 0 k) = g (ix1 k) := by pointwise
  rw [e]
  unfold flat
  have hc0 : ((ix2 (⟨b.val * 2048 + t.val, by omega⟩ : Fin 65536) j : S65536x1024.Idx) 0) = (⟨b.val * 2048 + t.val, by omega⟩ : Fin 65536) := rfl
  have hc1 : ((ix2 (⟨b.val * 2048 + t.val, by omega⟩ : Fin 65536) j : S65536x1024.Idx) 1) = j := rfl
  simp only [hc0, hc1]
  have hm : (⟨(b.val * 2048 + t.val) % 2048, by omega⟩ : Fin 2048) = t := Fin.ext (by show (b.val * 2048 + t.val) % 2048 = t.val; omega)
  have hn : (b.val * 2048 + t.val) % 2048 = t.val := by omega
  have hx := fun k => wide x ⟨b.val * 2048 + t.val, by omega⟩ t rfl k
  have hat := fun k => half at' ⟨b.val * 2048 + t.val, by omega⟩ t rfl k
  have hga := fun k => wide ga ⟨b.val * 2048 + t.val, by omega⟩ t rfl k
  have hgb := fun k => wide gb ⟨b.val * 2048 + t.val, by omega⟩ t rfl k
  have hp := fun (s : Fin 2048) k => half p ⟨(b.val * 2048 + t.val) / 2048 * 2048 + s.val, by omega⟩ s (by show (b.val * 2048 + t.val) / 2048 * 2048 + s.val = _; omega) k
  have e3 := e1 g2
  have e4 := e2 ps
  have e5 := e1 gf
  generalize (shapeCast _ x shapeCasts_S32x2048x1024_S65536x1024 : FVec Ideal S65536x1024 .f32) = fx at hx ⊢
  generalize (shapeCast _ at' shapeCasts_S32x2048x512_S65536x512 : FVec Ideal S65536x512 .bf16) = fat at hat ⊢
  generalize (shapeCast _ p shapeCasts_S32x2048x512_S65536x512 : FVec Ideal S65536x512 .f32) = fp at hp ⊢
  simp only [hx, hga, hgb, hat, hp, e3, e4, e5, hm, hn]

end Cert.Val.MergeKernel

end
-- ==== Proof.Val.MergeRef.lean ====
module

public import proofs.«01_k».proof.Proof.Val.MixSpec
public import proofs.«01_k».proof.Proof.Gen.MergeRefIdeal.Run
public import Idealize.ShloMosaic.Lib.Pipeline.Value

@[expose] public section

noncomputable section

namespace Cert.Val.MergeRef

open Cert.MergeRefIdeal Cert.MergeRefIdeal.Gen Idealize.ShloMosaic Idealize.ShloMosaic.TcCoe Idealize.SL.Sem Idealize.ShloMosaic.StableHlo

/-- The host's window sum is the sum over the window. -/
theorem window (w : Nat) (x : FVec Ideal S32x2048x128 .f32) (v : FVec Ideal S_ .f32)
    (h : S32x2048x128.ReduceWindows (![1, w, 1] : Fin 3 → Nat) ![1, 1, 1] ![0, w - 1, 0] ![0, 0, 0] S32x2048x128)
    (hS : 0 < S_.numel) (hv : ∀ i, v i = 0) (b : Fin 32) (t : Fin 2048) (c : Fin 128) :
    Host.reduceWindowAdd (![1, w, 1] : Fin 3 → Nat) ![1, 1, 1] ![0, w - 1, 0] ![0, 0, 0] x v h hS (ix3 b t c)
      = trail w (fun t => x (ix3 b t c)) t := by
  unfold Host.reduceWindowAdd
  rw [hv]
  exact window_apply w x h b t c

theorem counts (V0 : Valuation τ sig (Elt Ideal)) (t : Fin 2048) : (Value.res_main_v3 V0 : FVec Ideal S2048 .f32) (ix1 t) = count t.val := by
  pointwise [Value.res_main_v3]
  exact one_count t.val t.isLt

/-- The pooled array's channels, group by group. -/
theorem groups (V0 : Valuation τ sig (Elt Ideal)) (b : Fin 32) (t : Fin 2048) (g : Fin 4) (c : Fin 128) :
    (Value.res_main_v0 V0 : FVec Ideal S32x2048x4x128 .f32) (ix4 b t g c)
      = (V0 (Proc.devRef .tc main_arg2) : FVec Ideal S32x2048x512 .f32) (ix3 b t (col g c)) := by
  unfold Value.res_main_v0
  generalize V0 (Proc.devRef .tc main_arg2) = x
  pointwise
  refine congrArg x ?_
  unfold col
  congr 1 <;> apply Fin.ext <;> simp <;> omega

/-- Group 0's channels: the trailing mean of 2 rows less the row. -/
theorem group0 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 2, 1] ![1, 1, 1] ![0, 1, 0] ![0, 0, 0] (shapeCast _ (extractStridedSlice S32x2048x1x128 ![0, 0, 0, 0] v0 slices_S32x2048x4x128_S32x2048x1x128_0_0_0_0) shapeCasts_S32x2048x1x128_S32x2048x128) (broadcastInDim S_ ![] bcast_S_S_ (constant S_ .f32 0x00000000#32)) reduceWindows_S32x2048x128_S32x2048x128_w1s1p0_0_w2s1p1_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x40000000#32)))))) (shapeCast _ (extractStridedSlice S32x2048x1x128 ![0, 0, 0, 0] v0 slices_S32x2048x4x128_S32x2048x1x128_0_0_0_0) shapeCasts_S32x2048x1x128_S32x2048x128)) : FVec Ideal S32x2048x1x128 .f32) (ix4 b t 0 c)
      = centred 2 (Ideal.ofBits .f32 0x40000000#32) (v3 (ix1 t)) (fun t => v0 (ix4 b t 0 c)) t := by
  pointwise [centred]
  refine congrArg (fun s => Ideal.div s _ - _) ((window 2 _ _ reduceWindows_S32x2048x128_S32x2048x128_w1s1p0_0_w2s1p1_0_w1s1p0_0 h_S_ (fun i => by pointwise) b t c).trans ?_)
  refine congrArg (fun P => trail 2 P t) (funext fun t => ?_)
  pointwise

/-- Group 1's channels: the trailing mean of 4 rows less the row. -/
theorem group1 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 4, 1] ![1, 1, 1] ![0, 3, 0] ![0, 0, 0] (shapeCast _ (extractStridedSlice S32x2048x1x128 ![0, 0, 1, 0] v0 slices_S32x2048x4x128_S32x2048x1x128_0_0_1_0) shapeCasts_S32x2048x1x128_S32x2048x128) (broadcastInDim S_ ![] bcast_S_S_ (constant S_ .f32 0x00000000#32)) reduceWindows_S32x2048x128_S32x2048x128_w1s1p0_0_w4s1p3_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x40800000#32)))))) (shapeCast _ (extractStridedSlice S32x2048x1x128 ![0, 0, 1, 0] v0 slices_S32x2048x4x128_S32x2048x1x128_0_0_1_0) shapeCasts_S32x2048x1x128_S32x2048x128)) : FVec Ideal S32x2048x1x128 .f32) (ix4 b t 0 c)
      = centred 4 (Ideal.ofBits .f32 0x40800000#32) (v3 (ix1 t)) (fun t => v0 (ix4 b t 1 c)) t := by
  pointwise [centred]
  refine congrArg (fun s => Ideal.div s _ - _) ((window 4 _ _ reduceWindows_S32x2048x128_S32x2048x128_w1s1p0_0_w4s1p3_0_w1s1p0_0 h_S_ (fun i => by pointwise) b t c).trans ?_)
  refine congrArg (fun P => trail 4 P t) (funext fun t => ?_)
  pointwise

/-- Group 2's channels: the trailing mean of 8 rows less the row. -/
theorem group2 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 8, 1] ![1, 1, 1] ![0, 7, 0] ![0, 0, 0] (shapeCast _ (extractStridedSlice S32x2048x1x128 ![0, 0, 2, 0] v0 slices_S32x2048x4x128_S32x2048x1x128_0_0_2_0) shapeCasts_S32x2048x1x128_S32x2048x128) (broadcastInDim S_ ![] bcast_S_S_ (constant S_ .f32 0x00000000#32)) reduceWindows_S32x2048x128_S32x2048x128_w1s1p0_0_w8s1p7_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x41000000#32)))))) (shapeCast _ (extractStridedSlice S32x2048x1x128 ![0, 0, 2, 0] v0 slices_S32x2048x4x128_S32x2048x1x128_0_0_2_0) shapeCasts_S32x2048x1x128_S32x2048x128)) : FVec Ideal S32x2048x1x128 .f32) (ix4 b t 0 c)
      = centred 8 (Ideal.ofBits .f32 0x41000000#32) (v3 (ix1 t)) (fun t => v0 (ix4 b t 2 c)) t := by
  pointwise [centred]
  refine congrArg (fun s => Ideal.div s _ - _) ((window 8 _ _ reduceWindows_S32x2048x128_S32x2048x128_w1s1p0_0_w8s1p7_0_w1s1p0_0 h_S_ (fun i => by pointwise) b t c).trans ?_)
  refine congrArg (fun P => trail 8 P t) (funext fun t => ?_)
  pointwise

/-- Group 3's channels: the trailing mean of 16 rows less the row. -/
theorem group3 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 16, 1] ![1, 1, 1] ![0, 15, 0] ![0, 0, 0] (shapeCast _ (extractStridedSlice S32x2048x1x128 ![0, 0, 3, 0] v0 slices_S32x2048x4x128_S32x2048x1x128_0_0_3_0) shapeCasts_S32x2048x1x128_S32x2048x128) (broadcastInDim S_ ![] bcast_S_S_ (constant S_ .f32 0x00000000#32)) reduceWindows_S32x2048x128_S32x2048x128_w1s1p0_0_w16s1p15_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x41800000#32)))))) (shapeCast _ (extractStridedSlice S32x2048x1x128 ![0, 0, 3, 0] v0 slices_S32x2048x4x128_S32x2048x1x128_0_0_3_0) shapeCasts_S32x2048x1x128_S32x2048x128)) : FVec Ideal S32x2048x1x128 .f32) (ix4 b t 0 c)
      = centred 16 (Ideal.ofBits .f32 0x41800000#32) (v3 (ix1 t)) (fun t => v0 (ix4 b t 3 c)) t := by
  pointwise [centred]
  refine congrArg (fun s => Ideal.div s _ - _) ((window 16 _ _ reduceWindows_S32x2048x128_S32x2048x128_w1s1p0_0_w16s1p15_0_w1s1p0_0 h_S_ (fun i => by pointwise) b t c).trans ?_)
  refine congrArg (fun P => trail 16 P t) (funext fun t => ?_)
  pointwise

/-- The four groups side by side. -/
def stack (f : Fin 4 → FVec Ideal S32x2048x1x128 .f32) : FVec Ideal S32x2048x4x128 .f32 :=
  concatenate S32x2048x4x128 2 (List.ofFn fun n : Fin 4 => (⟨S32x2048x1x128, f n⟩ : (s : Shape) × (s.Idx → Elt Ideal .f32)))
    concatenates_S32x2048x1x128_S32x2048x1x128_S32x2048x1x128_S32x2048x1x128_S32x2048x4x128_d2

theorem stack_apply (f : Fin 4 → FVec Ideal S32x2048x1x128 .f32) (b : Fin 32) (t : Fin 2048) (g : Fin 4) (c : Fin 128) :
    stack f (ix4 b t g c) = f g (ix4 b t 0 c) := by
  unfold stack
  refine concatenate_ofFn_apply (t := S32x2048x4x128) (s₁ := S32x2048x1x128) 2 f _ rfl 1 rfl (ix4 b t g c : S32x2048x4x128.Idx) g (by simp) (ix4 b t 0 c : S32x2048x1x128.Idx) (Nat.mod_one _).symm ?_
  intro a ha
  match a with
  | ⟨0, _⟩ => rfl
  | ⟨1, _⟩ => rfl
  | ⟨2, _⟩ => exact absurd rfl ha
  | ⟨3, _⟩ => rfl

/-- The groups' arrays, as the reference computes them. -/
def pieces (V0 : Valuation τ sig (Elt Ideal)) : Fin 4 → FVec Ideal S32x2048x1x128 .f32 :=
  ![broadcastInDim S32x2048x1x128 ![0, 1, 3] bcast_S32x2048x128_S32x2048x1x128_0_1_3 (subf (Host.divf (Host.reduceWindowAdd ![1, 2, 1] ![1, 1, 1] ![0, 1, 0] ![0, 0, 0] (shapeCast _ (extractStridedSlice S32x2048x1x128 ![0, 0, 0, 0] (Value.res_main_v0 V0) slices_S32x2048x4x128_S32x2048x1x128_0_0_0_0) shapeCasts_S32x2048x1x128_S32x2048x128) (broadcastInDim S_ ![] bcast_S_S_ (constant S_ .f32 0x00000000#32)) reduceWindows_S32x2048x128_S32x2048x128_w1s1p0_0_w2s1p1_0_w1s1p0_0 h_S_) (broadcastInDim S32x2048x128 ![0, 1, 2] bcast_S1x2048x1_S32x2048x128_0_1_2 (broadcastInDim S1x2048x1 ![1] bcast_S2048_S1x2048x1_1 (minimumf (Value.res_main_v3 V0) (broadcastInDim S2048 ![] bcast_S_S2048 (constant S_ .f32 0x40000000#32)))))) (shapeCast _ (extractStridedSlice S32x2048x1x128 ![0, 0, 0, 0] (Value.res_main_v0 V0) slices_S32x2048x4x128_S32x2048x1x128_0_0_0_0) shapeCasts_S32x2048x1x128_S32x2048x128)), broadcastInDim S32x2048x1x128 ![0, 1, 3] bcast_S32x2048x128_S32x2048x1x128_0_1_3 (subf (Host.divf (Host.reduceWindowAdd ![1, 4, 1] ![1, 1, 1] ![0, 3, 0] ![0, 0, 0] (shapeCast _ (extractStridedSlice S32x2048x1x128 ![0, 0, 1, 0] (Value.res_main_v0 V0) slices_S32x2048x4x128_S32x2048x1x128_0_0_1_0) shapeCasts_S32x2048x1x128_S32x2048x128) (broadcastInDim S_ ![] bcast_S_S_ (constant S_ .f32 0x00000000#32)) reduceWindows_S32x2048x128_S32x2048x128_w1s1p0_0_w4s1p3_0_w1s1p0_0 h_S_) (broadcastInDim S32x2048x128 ![0, 1, 2] bcast_S1x2048x1_S32x2048x128_0_1_2 (broadcastInDim S1x2048x1 ![1] bcast_S2048_S1x2048x1_1 (minimumf (Value.res_main_v3 V0) (broadcastInDim S2048 ![] bcast_S_S2048 (constant S_ .f32 0x40800000#32)))))) (shapeCast _ (extractStridedSlice S32x2048x1x128 ![0, 0, 1, 0] (Value.res_main_v0 V0) slices_S32x2048x4x128_S32x2048x1x128_0_0_1_0) shapeCasts_S32x2048x1x128_S32x2048x128)), broadcastInDim S32x2048x1x128 ![0, 1, 3] bcast_S32x2048x128_S32x2048x1x128_0_1_3 (subf (Host.divf (Host.reduceWindowAdd ![1, 8, 1] ![1, 1, 1] ![0, 7, 0] ![0, 0, 0] (shapeCast _ (extractStridedSlice S32x2048x1x128 ![0, 0, 2, 0] (Value.res_main_v0 V0) slices_S32x2048x4x128_S32x2048x1x128_0_0_2_0) shapeCasts_S32x2048x1x128_S32x2048x128) (broadcastInDim S_ ![] bcast_S_S_ (constant S_ .f32 0x00000000#32)) reduceWindows_S32x2048x128_S32x2048x128_w1s1p0_0_w8s1p7_0_w1s1p0_0 h_S_) (broadcastInDim S32x2048x128 ![0, 1, 2] bcast_S1x2048x1_S32x2048x128_0_1_2 (broadcastInDim S1x2048x1 ![1] bcast_S2048_S1x2048x1_1 (minimumf (Value.res_main_v3 V0) (broadcastInDim S2048 ![] bcast_S_S2048 (constant S_ .f32 0x41000000#32)))))) (shapeCast _ (extractStridedSlice S32x2048x1x128 ![0, 0, 2, 0] (Value.res_main_v0 V0) slices_S32x2048x4x128_S32x2048x1x128_0_0_2_0) shapeCasts_S32x2048x1x128_S32x2048x128)), broadcastInDim S32x2048x1x128 ![0, 1, 3] bcast_S32x2048x128_S32x2048x1x128_0_1_3 (subf (Host.divf (Host.reduceWindowAdd ![1, 16, 1] ![1, 1, 1] ![0, 15, 0] ![0, 0, 0] (shapeCast _ (extractStridedSlice S32x2048x1x128 ![0, 0, 3, 0] (Value.res_main_v0 V0) slices_S32x2048x4x128_S32x2048x1x128_0_0_3_0) shapeCasts_S32x2048x1x128_S32x2048x128) (broadcastInDim S_ ![] bcast_S_S_ (constant S_ .f32 0x00000000#32)) reduceWindows_S32x2048x128_S32x2048x128_w1s1p0_0_w16s1p15_0_w1s1p0_0 h_S_) (broadcastInDim S32x2048x128 ![0, 1, 2] bcast_S1x2048x1_S32x2048x128_0_1_2 (broadcastInDim S1x2048x1 ![1] bcast_S2048_S1x2048x1_1 (minimumf (Value.res_main_v3 V0) (broadcastInDim S2048 ![] bcast_S_S2048 (constant S_ .f32 0x41800000#32)))))) (shapeCast _ (extractStridedSlice S32x2048x1x128 ![0, 0, 3, 0] (Value.res_main_v0 V0) slices_S32x2048x4x128_S32x2048x1x128_0_0_3_0) shapeCasts_S32x2048x1x128_S32x2048x128))]

theorem dot_eq (V0 : Valuation τ sig (Elt Ideal)) : (Value.res_main_v57 V0 : FVec Ideal S4x128x32x2048 .f32)
    = (Host.dotGeneral (φ₁ := .f32) (φ₂ := .f32) dot_S4x128x128_S32x2048x4x128_S4x128x32x2048_1_3_2_01_0_2 none (V0 (Proc.devRef .tc main_arg5) : FVec Ideal S4x128x128 .f32)
        (stack (pieces V0)) : FVec Ideal S4x128x32x2048 .f32) := rfl

/-- A group's channels times its matrix. -/
theorem dot_apply (V0 : Valuation τ sig (Elt Ideal)) (g : Fin 4) (d : Fin 128) (b : Fin 32) (t : Fin 2048) :
    (Value.res_main_v57 V0 : FVec Ideal S4x128x32x2048 .f32) (ix4 g d b t)
      = lin (pools (count t.val) (fun t k => (V0 (Proc.devRef .tc main_arg2) : FVec Ideal S32x2048x512 .f32) (ix3 b t k)) t g)
          (fun c d => (V0 (Proc.devRef .tc main_arg5) : FVec Ideal S4x128x128 .f32) (ix3 g c d)) d := by
  have e (w : FVec Ideal S4x128x128 .f32) (y : FVec Ideal S32x2048x4x128 .f32) :
      (Host.dotGeneral dot_S4x128x128_S32x2048x4x128_S4x128x32x2048_1_3_2_01_0_2 none w y : FVec Ideal S4x128x32x2048 .f32) (ix4 g d b t)
        = ∑ c : Fin 128, w (ix3 g c d) * y (ix4 b t g c) := by pointwise
  refine (congrFun (dot_eq V0) _).trans ((e _ _).trans ?_)
  unfold lin
  refine Finset.sum_congr rfl fun c _ => ?_
  rw [stack_apply, mul_comm]
  refine congrArg (fun s : EReal => s * _) ?_
  unfold pools pieces
  fin_cases g
  · refine (group0 _ _ b t c).trans ?_
    rw [counts]
    simp only [groups]
    rfl
  · refine (group1 _ _ b t c).trans ?_
    rw [counts]
    simp only [groups]
    rfl
  · refine (group2 _ _ b t c).trans ?_
    rw [counts]
    simp only [groups]
    rfl
  · refine (group3 _ _ b t c).trans ?_
    rw [counts]
    simp only [groups]
    rfl

/-- What the result holds of one row, of the argument arrays. -/
def row (x : FVec Ideal S32x2048x1024 .f32) (at' : FVec Ideal S32x2048x512 .bf16) (p : FVec Ideal S32x2048x512 .f32) (ga : FVec Ideal S32x2048x1024 .bf16) (gb : FVec Ideal S32x2048x1024 .bf16) (pw : FVec Ideal S4x128x128 .f32) (ps : FVec Ideal S512 .f32) (wa : FVec Ideal S512x1024 .f32) (wp : FVec Ideal S512x1024 .f32) (wo : FVec Ideal S1024x1024 .f32) (g2 : FVec Ideal S1024 .f32) (wg : FVec Ideal S1024x2816 .f32) (wu : FVec Ideal S1024x2816 .f32) (wd : FVec Ideal S2816x1024 .f32) (gf : FVec Ideal S1024 .f32) (b : Fin 32) (t : Fin 2048) : Fin 1024 → EReal :=
  rms (ffnRow (mergeRow (fun k => x (ix3 b t k)) (fun k => at' (ix3 b t k))
    (mixed (pools (count t.val) (fun t k => p (ix3 b t k)) t) (fun g c d => pw (ix3 g c d)) (fun q => ps (ix1 q)))
    (fun k => ga (ix3 b t k)) (fun k => gb (ix3 b t k)) (fun k q => wa (ix2 k q)) (fun k q => wp (ix2 k q)) (fun k q => wo (ix2 k q)))
    (fun k => g2 (ix1 k)) (fun k q => wg (ix2 k q)) (fun k q => wu (ix2 k q)) (fun q j => wd (ix2 q j))) (fun k => gf (ix1 k))

/-- What the reference's result holds. -/
def val (x : FVec Ideal S32x2048x1024 .f32) (at' : FVec Ideal S32x2048x512 .bf16) (p : FVec Ideal S32x2048x512 .f32) (ga : FVec Ideal S32x2048x1024 .bf16) (gb : FVec Ideal S32x2048x1024 .bf16) (pw : FVec Ideal S4x128x128 .f32) (ps : FVec Ideal S512 .f32) (wa : FVec Ideal S512x1024 .f32) (wp : FVec Ideal S512x1024 .f32) (wo : FVec Ideal S1024x1024 .f32) (g2 : FVec Ideal S1024 .f32) (wg : FVec Ideal S1024x2816 .f32) (wu : FVec Ideal S1024x2816 .f32) (wd : FVec Ideal S2816x1024 .f32) (gf : FVec Ideal S1024 .f32) : FVec Ideal S32x2048x1024 .f32 := fun i =>
  row x at' p ga gb pw ps wa wp wo g2 wg wu wd gf (i 0) (i 1) (i 2)

theorem mix_apply (V0 : Valuation τ sig (Elt Ideal)) (b : Fin 32) (t : Fin 2048) (q : Fin 512) :
    (shapeCast _ (transpose S32x2048x4x128 [2, 3, 0, 1] (Value.res_main_v57 V0 : FVec Ideal S4x128x32x2048 .f32) transposes_S4x128x32x2048_S32x2048x4x128_2_3_0_1) shapeCasts_S32x2048x4x128_S32x2048x512 : FVec Ideal S32x2048x512 .f32) (ix3 b t q)
      = (Value.res_main_v57 V0 : FVec Ideal S4x128x32x2048 .f32) (ix4 ⟨q.val / 128, by omega⟩ ⟨q.val % 128, by omega⟩ b t) := by
  generalize (Value.res_main_v57 V0 : FVec Ideal S4x128x32x2048 .f32) = y
  pointwise

theorem x1_apply (V0 : Valuation τ sig (Elt Ideal)) (b : Fin 32) (t : Fin 2048) (j : Fin 1024) :
    (Value.res_main_v72 V0 : FVec Ideal S32x2048x1024 .f32) (ix3 b t j) = (mergeRow (fun k => (V0 (Proc.devRef .tc main_arg0) : FVec Ideal S32x2048x1024 .f32) (ix3 b t k)) (fun k => (V0 (Proc.devRef .tc main_arg1) : FVec Ideal S32x2048x512 .bf16) (ix3 b t k))
    (mixed (pools (count t.val) (fun t k => (V0 (Proc.devRef .tc main_arg2) : FVec Ideal S32x2048x512 .f32) (ix3 b t k)) t) (fun g c d => (V0 (Proc.devRef .tc main_arg5) : FVec Ideal S4x128x128 .f32) (ix3 g c d)) (fun q => (V0 (Proc.devRef .tc main_arg6) : FVec Ideal S512 .f32) (ix1 q)))
    (fun k => (V0 (Proc.devRef .tc main_arg3) : FVec Ideal S32x2048x1024 .bf16) (ix3 b t k)) (fun k => (V0 (Proc.devRef .tc main_arg4) : FVec Ideal S32x2048x1024 .bf16) (ix3 b t k)) (fun k q => (V0 (Proc.devRef .tc main_arg7) : FVec Ideal S512x1024 .f32) (ix2 k q)) (fun k q => (V0 (Proc.devRef .tc main_arg8) : FVec Ideal S512x1024 .f32) (ix2 k q)) (fun k q => (V0 (Proc.devRef .tc main_arg9) : FVec Ideal S1024x1024 .f32) (ix2 k q))) j := by
  have e (q : Fin 512) := (mix_apply V0 b t q).trans (dot_apply V0 _ _ b t)
  unfold Value.res_main_v72 mergeRow mixed
  generalize (shapeCast _ (transpose S32x2048x4x128 [2, 3, 0, 1] (Value.res_main_v57 V0 : FVec Ideal S4x128x32x2048 .f32) transposes_S4x128x32x2048_S32x2048x4x128_2_3_0_1) shapeCasts_S32x2048x4x128_S32x2048x512 : FVec Ideal S32x2048x512 .f32) = y at e ⊢
  simp only [← e]
  pointwise [lin]

/-- The row after its feed-forward half. -/
theorem y_apply (V0 : Valuation τ sig (Elt Ideal)) (b : Fin 32) (t : Fin 2048) (j : Fin 1024) :
    (Value.res_main_v93 V0 : FVec Ideal S32x2048x1024 .f32) (ix3 b t j) = ffnRow (mergeRow (fun k => (V0 (Proc.devRef .tc main_arg0) : FVec Ideal S32x2048x1024 .f32) (ix3 b t k)) (fun k => (V0 (Proc.devRef .tc main_arg1) : FVec Ideal S32x2048x512 .bf16) (ix3 b t k))
    (mixed (pools (count t.val) (fun t k => (V0 (Proc.devRef .tc main_arg2) : FVec Ideal S32x2048x512 .f32) (ix3 b t k)) t) (fun g c d => (V0 (Proc.devRef .tc main_arg5) : FVec Ideal S4x128x128 .f32) (ix3 g c d)) (fun q => (V0 (Proc.devRef .tc main_arg6) : FVec Ideal S512 .f32) (ix1 q)))
    (fun k => (V0 (Proc.devRef .tc main_arg3) : FVec Ideal S32x2048x1024 .bf16) (ix3 b t k)) (fun k => (V0 (Proc.devRef .tc main_arg4) : FVec Ideal S32x2048x1024 .bf16) (ix3 b t k)) (fun k q => (V0 (Proc.devRef .tc main_arg7) : FVec Ideal S512x1024 .f32) (ix2 k q)) (fun k q => (V0 (Proc.devRef .tc main_arg8) : FVec Ideal S512x1024 .f32) (ix2 k q)) (fun k q => (V0 (Proc.devRef .tc main_arg9) : FVec Ideal S1024x1024 .f32) (ix2 k q)))
    (fun k => (V0 (Proc.devRef .tc main_arg10) : FVec Ideal S1024 .f32) (ix1 k)) (fun k q => (V0 (Proc.devRef .tc main_arg11) : FVec Ideal S1024x2816 .f32) (ix2 k q)) (fun k q => (V0 (Proc.devRef .tc main_arg12) : FVec Ideal S1024x2816 .f32) (ix2 k q)) (fun q j => (V0 (Proc.devRef .tc main_arg13) : FVec Ideal S2816x1024 .f32) (ix2 q j)) j := by
  have e := funext fun j : Fin 1024 => x1_apply V0 b t j
  unfold ffnRow Value.res_main_v93 Value.res_main_v86 Value.res_main_v85
  generalize (Value.res_main_v72 V0 : FVec Ideal S32x2048x1024 .f32) = y at e ⊢
  rw [← e]
  pointwise [lin, glu, rms, Ideal.logistic]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106) = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ⟨(h c).1.trans ?_, (h c).2⟩) (Value.run (F := Ideal) m ρ)
  funext i
  obtain ⟨b, t, j, rfl⟩ : ∃ (b : Fin 32) (t : Fin 2048) (j : Fin 1024), i = ix3 b t j := ⟨_, _, _, ValueIdx.eq_ix3 i⟩
  have e (j : Fin 1024) := y_apply (launchContents m c) b t j
  unfold val row rms
  generalize (Value.res_main_v93 (launchContents m c) : FVec Ideal S32x2048x1024 .f32) = y at e ⊢
  refine Eq.trans ?_ (congrArg₂ (fun f : Fin 1024 → EReal => fun g : EReal => f j * Ideal.rsqrt (Ideal.div (∑ i, f i * f i) (Ideal.ofBits .f32 0x44800000#32) + Ideal.ofBits .f32 0x358637BD#32) * g) (funext e) rfl)
  pointwise

end Cert.Val.MergeRef

end
-- ==== Proof.Val.MergeClaim.lean ====
/- The last mixing call's five claims. -/
module

public import proofs.«01_k».proof.Defs
public import proofs.«01_k».proof.Proof.Gen.Merge.Frame
public import proofs.«01_k».proof.Proof.Val.MergeKernel
public import proofs.«01_k».proof.Proof.Val.MergeRef
public import Idealize.ShloMosaic.Lib.Quiescent

@[expose] public section

noncomputable section

namespace Cert.Val.MergeClaim

open Idealize.ShloMosaic Idealize.ShloMosaic.TcCoe Idealize.SL.Sem

theorem frame_p : Cert.quiescent_Merge := fun m ρ _ => Cert.Merge.Gen.frame m ρ
theorem frame_pi : Cert.quiescent_MergeIdeal := fun m ρ _ => Cert.MergeIdeal.Gen.frame m ρ
/-- The reference is host operations alone: its arguments end as launched and it declares no semaphore. -/
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- Of the same arguments the reference's value is the call's result. -/
theorem value_eq (m : (ℓ : Loc Cert.MergeIdeal.nD Cert.MergeIdeal.τ Cert.MergeIdeal.sig) → Buf (Elt Ideal) ℓ) (c : Dev Cert.MergeIdeal.nD) :
    MergeRef.val (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14))
      = shapeCast _ (MergeRun.reg m c) Cert.MergeIdeal.Facts₀.shapeCasts_S65536x1024_S32x2048x1024 := by
  rw [MergeKernel.reg_eq, MergeKernel.V_v0, MergeKernel.V_v1, MergeKernel.V_v2, MergeKernel.V_v3, MergeKernel.V_v4, MergeKernel.V_v5, MergeKernel.V_v6, MergeKernel.V_v7, MergeKernel.V_v8, MergeKernel.V_v9, MergeKernel.V_v10, MergeKernel.V_v11, MergeKernel.V_v12, MergeKernel.V_v13, MergeKernel.V_v14]
  funext i
  obtain ⟨b, t, j, rfl⟩ : ∃ (b : Fin 32) (t : Fin 2048) (j : Fin 1024), i = ix3 b t j := ⟨_, _, _, ValueIdx.eq_ix3 i⟩
  exact (MergeKernel.flat_cast _ _ _ _ _ _ _ _ _ _ _ _ _ _ _ b t j).symm

theorem algebraic : Cert.algebraic_MergeIdeal_MergeRefIdeal := by
  intro m ρ m' ρ' _ hagree
  refine ⟨_, MergeRun.run m ρ, ?_⟩
  refine (θ_run Cert.MergeRefIdeal.defs _ _).mono (fun _ h c => ⟨(h c).1.trans ?_, (h c).2⟩) (MergeRef.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact value_eq m c

end Cert.Val.MergeClaim

end
-- ==== Proof.Val.Merge1Pool.lean ====
module

public import proofs.«01_k».proof.Proof.Val.Rolls
public import proofs.«01_k».proof.Proof.Gen.Merge1Ideal.Frame
public import Idealize.ShloMosaic.Lib.Pipeline.Value

@[expose] public section

noncomputable section

namespace Cert.Val.Merge1Pool

open Cert.Merge1Ideal Cert.Merge1Ideal.Gen Idealize.ShloMosaic Idealize.ShloMosaic.TcCoe Idealize.SL.Sem

/-- The block's place among the four of its batch entry, as the body computes it from the grid's coordinate. -/
def place (arg0 : BitVec 32) : BitVec 32 :=
  Scalar.select (Scalar.andi (Scalar.xori (Scalar.cmpi .slt (Scalar.remsi arg0 (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi arg0 (Scalar.select (Scalar.cmpi .eq 4#32 0#32) 1#32 4#32)) 0#32))
    (Scalar.addi (Scalar.remsi arg0 (Scalar.select (Scalar.cmpi .eq 4#32 0#32) 1#32 4#32)) (Scalar.select (Scalar.cmpi .eq 4#32 0#32) 1#32 4#32))
    (Scalar.remsi arg0 (Scalar.select (Scalar.cmpi .eq 4#32 0#32) 1#32 4#32))

theorem place_eq : ∀ a : Fin 128, place (BitVec.ofNat 32 a.val) = BitVec.ofNat 32 (a.val % 4) := by decide +kernel

theorem place_at (i : grid0.Coords) : place (BitVec.ofNat 32 (i 0).val) = BitVec.ofNat 32 ((i 0).val % 4) :=
  place_eq ⟨(i 0).val, (i 0).isLt⟩

/-- The block's rows after the sixteen before it, which count nothing where the block is the first of its batch entry. -/
def ext (i : grid0.Coords) (cur : Vec Ideal S512x512 .f32) (halo : Vec Ideal S16x512 .f32) : FVec Ideal S528x512 .f32 :=
  concatenate S528x512 0 [⟨S16x512, (Scalar.select (Scalar.cmpi .eq (place (BitVec.ofNat 32 (i 0).val)) 0#32)
      (broadcast S16x512 (Scalar.ofBits .f32 0x00000000#32) : FVec Ideal S16x512 .f32)
      (shapeCast S16x512 halo shapeCasts_S16x512_S16x512) : FVec Ideal S16x512 .f32)⟩, ⟨S512x512, k0_pay2 cur⟩] concatenates_S16x512_S512x512_S528x512_d0

theorem pay4_eq (i : grid0.Coords) (cur : Vec Ideal S512x512 .f32) (halo : Vec Ideal S16x512 .f32) :
    k0_pay4 i cur halo = addf (ext i cur halo) (dynamicRotate 0 1#32 none (ext i cur halo) rotates_S528x512_d0) := rfl

theorem ext_low (i : grid0.Coords) (cur : Vec Ideal S512x512 .f32) (halo : Vec Ideal S16x512 .f32)
    (q : Fin 528) (hq : q.val < 16) (k : Fin 512) : ext i cur halo (ix2 q k)
      = (Scalar.select (Scalar.cmpi .eq (place (BitVec.ofNat 32 (i 0).val)) 0#32)
      (broadcast S16x512 (Scalar.ofBits .f32 0x00000000#32) : FVec Ideal S16x512 .f32)
      (shapeCast S16x512 halo shapeCasts_S16x512_S16x512) : FVec Ideal S16x512 .f32) (ix2 ⟨q.val, hq⟩ k) := by
  unfold ext
  generalize (Scalar.select _ _ _ : FVec Ideal S16x512 .f32) = v
  generalize k0_pay2 cur = w
  pointwise
  exact dif_pos hq

/-- The first block of a batch entry has nothing before it. -/
theorem ext_zero (i : grid0.Coords) (cur : Vec Ideal S512x512 .f32) (halo : Vec Ideal S16x512 .f32) (h : (i 0).val % 4 = 0)
    (q : Fin 528) (hq : q.val < 16) (k : Fin 512) : ext i cur halo (ix2 q k) = 0 := by
  have e : Scalar.cmpi .eq (BitVec.ofNat 32 ((i 0).val % 4)) 0#32 = 1#1 := by rw [h]; decide
  rw [ext_low i cur halo q hq k, place_at, e]
  pointwise

/-- Any other block has the sixteen rows before it. -/
theorem ext_halo (i : grid0.Coords) (cur : Vec Ideal S512x512 .f32) (halo : Vec Ideal S16x512 .f32) (h : (i 0).val % 4 ≠ 0)
    (q : Fin 528) (hq : q.val < 16) (k : Fin 512) : ext i cur halo (ix2 q k) = halo (ix2 ⟨q.val, hq⟩ k) := by
  have e : Scalar.cmpi .eq (BitVec.ofNat 32 ((i 0).val % 4)) 0#32 = 0#1 := by
    have : ∀ a : Fin 4, a.val ≠ 0 → Scalar.cmpi .eq (BitVec.ofNat 32 a.val) 0#32 = 0#1 := by decide
    exact this ⟨(i 0).val % 4, by omega⟩ h
  rw [ext_low i cur halo q hq k, place_at, e]
  pointwise

theorem ext_cur (i : grid0.Coords) (cur : Vec Ideal S512x512 .f32) (halo : Vec Ideal S16x512 .f32)
    (q : Fin 528) (hq : 16 ≤ q.val) (k : Fin 512) : ext i cur halo (ix2 q k) = cur (ix2 ⟨q.val - 16, by omega⟩ k) := by
  unfold ext
  generalize (Scalar.select _ _ _ : FVec Ideal S16x512 .f32) = v
  pointwise [k0_pay2]
  exact dif_neg (by omega)

theorem roll (s : Nat) (hs : s ≤ 8) (x : FVec Ideal S528x512 .f32) (q : Fin 528) (hq : s ≤ q.val) (k : Fin 512) :
    (dynamicRotate 0 (BitVec.ofNat 32 s) none x rotates_S528x512_d0 : FVec Ideal S528x512 .f32) (ix2 q k) = x (ix2 ⟨q.val - s, by omega⟩ k) := by
  pointwise
  have e : (BitVec.ofNat 32 s).toNat = s := by rw [BitVec.toNat_ofNat, Nat.mod_eq_of_lt (by omega)]
  refine congrArg x ?_
  congr 1
  refine Fin.ext ?_
  simp only [e]
  omega

/-- The number of rows up to a row of the block. -/
theorem pay3_apply (i : grid0.Coords) (r : Fin 512) : (k0_pay3 (F := Ideal) i) (ix2 r 0) = count ((i 0).val % 4 * 512 + r.val) := by
  have e : k0_pay3 (F := Ideal) i = sitofp .f32 (addi (broadcast S512x1 (Scalar.addi (Scalar.muli (place (BitVec.ofNat 32 (i 0).val)) 512#32) 1#32)) (iota .tc S512x1 32 [0] iota_S512x1_d0_w32)) := rfl
  rw [e, place_at]
  have h4 : (i 0).val % 4 < 4 := by omega
  generalize (i 0).val % 4 = a at h4
  pointwise
  refine count_of _ _ ?_
  have eb : IntOp.addi (Scalar.addi (Scalar.muli (BitVec.ofNat 32 a) 512#32) 1#32) (BitVec.ofNat 32 r.val) = BitVec.ofNat 32 (a * 512 + 1 + r.val) := by
    rw [BitVec.ofNat_add, BitVec.ofNat_add, BitVec.ofNat_mul]
    rfl
  rw [eb, BitVec.toInt_eq_toNat_cond, BitVec.toNat_ofNat, Nat.mod_eq_of_lt (by omega), if_pos (by omega)]
  push_cast
  ring

/-- Sums of two, four, eight and sixteen rows, by doubling. -/
def sum2 (i : grid0.Coords) (cur : Vec Ideal S512x512 .f32) (halo : Vec Ideal S16x512 .f32) : FVec Ideal S528x512 .f32 := k0_pay4 i cur halo
def dbl (s : Nat) (x : FVec Ideal S528x512 .f32) : FVec Ideal S528x512 .f32 := addf x (dynamicRotate 0 (BitVec.ofNat 32 s) none x rotates_S528x512_d0)

theorem dbl_apply (s : Nat) (hs : s ≤ 8) (x : FVec Ideal S528x512 .f32) (e : FVec Ideal S528x512 .f32) (k : Fin 512)
    (h : ∀ q : Fin 528, s ≤ q.val + 1 → x (ix2 q k) = upto s (fun q => e (ix2 q k)) q) (q : Fin 528) (hq : s + s ≤ q.val + 1) (hp : 0 < s) :
    dbl s x (ix2 q k) = upto (s + s) (fun q => e (ix2 q k)) q := by
  have er := roll s hs x q (by omega) k
  have ea : dbl s x (ix2 q k) = x (ix2 q k) + x (ix2 ⟨q.val - s, by omega⟩ k) := by rw [← er]; rfl
  rw [ea]
  exact upto_double s (fun q => x (ix2 q k)) (fun q => e (ix2 q k)) h q _ hq rfl

theorem s2 (i : grid0.Coords) (cur : Vec Ideal S512x512 .f32) (halo : Vec Ideal S16x512 .f32) (k : Fin 512) (q : Fin 528) (hq : 2 ≤ q.val + 1) :
    k0_pay4 i cur halo (ix2 q k) = upto 2 (fun q => ext i cur halo (ix2 q k)) q :=
  dbl_apply 1 (by omega) (ext i cur halo) (ext i cur halo) k (fun q _ => (upto_one (fun q => ext i cur halo (ix2 q k)) q).symm) q hq (by omega)

theorem s4 (i : grid0.Coords) (cur : Vec Ideal S512x512 .f32) (halo : Vec Ideal S16x512 .f32) (k : Fin 512) (q : Fin 528) (hq : 4 ≤ q.val + 1) :
    dbl 2 (k0_pay4 i cur halo) (ix2 q k) = upto 4 (fun q => ext i cur halo (ix2 q k)) q :=
  dbl_apply 2 (by omega) _ (ext i cur halo) k (s2 i cur halo k) q hq (by omega)

theorem s8 (i : grid0.Coords) (cur : Vec Ideal S512x512 .f32) (halo : Vec Ideal S16x512 .f32) (k : Fin 512) (q : Fin 528) (hq : 8 ≤ q.val + 1) :
    dbl 4 (dbl 2 (k0_pay4 i cur halo)) (ix2 q k) = upto 8 (fun q => ext i cur halo (ix2 q k)) q :=
  dbl_apply 4 (by omega) _ (ext i cur halo) k (s4 i cur halo k) q hq (by omega)

theorem s16 (i : grid0.Coords) (cur : Vec Ideal S512x512 .f32) (halo : Vec Ideal S16x512 .f32) (k : Fin 512) (q : Fin 528) (hq : 16 ≤ q.val + 1) :
    dbl 8 (dbl 4 (dbl 2 (k0_pay4 i cur halo))) (ix2 q k) = upto 16 (fun q => ext i cur halo (ix2 q k)) q :=
  dbl_apply 8 (by omega) _ (ext i cur halo) k (s8 i cur halo k) q hq (by omega)

/-- A block's rows are rows of its batch entry's pooled array, and so are the sixteen before it unless it is the first. -/
structure Rows (i : grid0.Coords) (cur : Vec Ideal S512x512 .f32) (halo : Vec Ideal S16x512 .f32) (P : Fin 2048 → Fin 512 → EReal) : Prop where
  here : ∀ (r : Fin 512) (k : Fin 512) (s : Fin 2048), s.val = (i 0).val % 4 * 512 + r.val → cur (ix2 r k) = P s k
  before : (i 0).val % 4 ≠ 0 → ∀ (r : Fin 16) (k : Fin 512) (s : Fin 2048), s.val + 16 = (i 0).val % 4 * 512 + r.val → halo (ix2 r k) = P s k

theorem upto_ext (w : Nat) (hw : w ≤ 16) (i : grid0.Coords) (cur : Vec Ideal S512x512 .f32) (halo : Vec Ideal S16x512 .f32)
    (P : Fin 2048 → Fin 512 → EReal) (hP : Rows i cur halo P) (k : Fin 512) (r : Fin 512) (t : Fin 2048)
    (ht : t.val = (i 0).val % 4 * 512 + r.val) (q : Fin 528) (hq : q.val = 16 + r.val) :
    upto w (fun q => ext i cur halo (ix2 q k)) q = trail w (fun s => P s k) t := by
  refine upto_trail w hw ((i 0).val % 4) (by omega) _ _ (fun h q hq => ext_zero i cur halo h q hq k) ?_ r t ht q hq
  intro q s h hs
  by_cases h16 : 16 ≤ q.val
  · exact (ext_cur i cur halo q h16 k).trans (hP.here _ k s (by show s.val = _ + (q.val - 16); omega))
  · have h0 : (i 0).val % 4 ≠ 0 := h.resolve_right h16
    exact (ext_halo i cur halo h0 q (by omega) k).trans (hP.before h0 _ k s hs)

/-- The four groups' columns side by side. -/
def cat4 (f : Fin 4 → FVec Ideal S512x128 .f32) : FVec Ideal S512x512 .f32 :=
  concatenate S512x512 1 (List.ofFn fun n : Fin 4 => (⟨S512x128, f n⟩ : (s : Shape) × (s.Idx → Elt Ideal .f32)))
    concatenates_S512x128_S512x128_S512x128_S512x128_S512x512_d1

theorem cat4_apply (f : Fin 4 → FVec Ideal S512x128 .f32) (r : Fin 512) (k : Fin 512) :
    cat4 f (ix2 r k) = f ⟨k.val / 128, by omega⟩ (ix2 r ⟨k.val % 128, by omega⟩) := by
  unfold cat4
  refine concatenate_ofFn_apply (t := S512x512) (s₁ := S512x128) 1 f _ rfl 128 rfl (ix2 r k : S512x512.Idx) ⟨k.val / 128, by omega⟩ rfl (ix2 r ⟨k.val % 128, by omega⟩ : S512x128.Idx) rfl ?_
  intro b hb
  match b with
  | ⟨0, _⟩ => rfl
  | ⟨1, _⟩ => exact absurd rfl hb

/-- Group 0's columns of the block: the mean of the rows' sums less the rows, times the group's matrix. -/
def grp0 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 0] x slices_S528x512_o16_0_S512x128)
        (broadcastTo S512x128 (minimumf v23 (broadcast S512x1 (Scalar.ofBits .f32 0x40000000#32 : Ideal .f32))) broadcasts_S512x1_S512x128))
      (extractStridedSlice S512x128 ![0, 0] v11 slices_S512x512_o0_0_S512x128)) bitsLt_bf16_f32 : FVec Ideal S512x128 .bf16)
    (shapeCast S128x128 a shapeCasts_S1x128x128_S128x128 : FVec Ideal S128x128 .bf16) (constant S512x128 .f32 0x00000000#32)

theorem grp0_apply (v11 : FVec Ideal S512x512 .f32) (v23 : FVec Ideal S512x1 .f32) (x : FVec Ideal S528x512 .f32) (a : Vec Ideal S1x128x128 .bf16)
    (r : Fin 512) (d : Fin 128) : grp0 v11 v23 x a (ix2 r d)
      = lin (fun c : Fin 128 => Ideal.div (x (ix2 ⟨16 + r.val, by omega⟩ (col 0 c))) (min (v23 (ix2 r 0)) (Ideal.ofBits .f32 0x40000000#32))
          - v11 (ix2 r (col 0 c))) (fun c d => a (ix3 0 c d)) d := by
  pointwise [grp0, lin]
  rfl

/-- Group 1's columns of the block: the mean of the rows' sums less the rows, times the group's matrix. -/
def grp1 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 128] x slices_S528x512_o16_128_S512x128)
        (broadcastTo S512x128 (minimumf v23 (broadcast S512x1 (Scalar.ofBits .f32 0x40800000#32 : Ideal .f32))) broadcasts_S512x1_S512x128))
      (extractStridedSlice S512x128 ![0, 128] v11 slices_S512x512_o0_128_S512x128)) bitsLt_bf16_f32 : FVec Ideal S512x128 .bf16)
    (shapeCast S128x128 a shapeCasts_S1x128x128_S128x128 : FVec Ideal S128x128 .bf16) (constant S512x128 .f32 0x00000000#32)

theorem grp1_apply (v11 : FVec Ideal S512x512 .f32) (v23 : FVec Ideal S512x1 .f32) (x : FVec Ideal S528x512 .f32) (a : Vec Ideal S1x128x128 .bf16)
    (r : Fin 512) (d : Fin 128) : grp1 v11 v23 x a (ix2 r d)
      = lin (fun c : Fin 128 => Ideal.div (x (ix2 ⟨16 + r.val, by omega⟩ (col 1 c))) (min (v23 (ix2 r 0)) (Ideal.ofBits .f32 0x40800000#32))
          - v11 (ix2 r (col 1 c))) (fun c d => a (ix3 0 c d)) d := by
  pointwise [grp1, lin]
  rfl

/-- Group 2's columns of the block: the mean of the rows' sums less the rows, times the group's matrix. -/
def grp2 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 256] x slices_S528x512_o16_256_S512x128)
        (broadcastTo S512x128 (minimumf v23 (broadcast S512x1 (Scalar.ofBits .f32 0x41000000#32 : Ideal .f32))) broadcasts_S512x1_S512x128))
      (extractStridedSlice S512x128 ![0, 256] v11 slices_S512x512_o0_256_S512x128)) bitsLt_bf16_f32 : FVec Ideal S512x128 .bf16)
    (shapeCast S128x128 a shapeCasts_S1x128x128_S128x128 : FVec Ideal S128x128 .bf16) (constant S512x128 .f32 0x00000000#32)

theorem grp2_apply (v11 : FVec Ideal S512x512 .f32) (v23 : FVec Ideal S512x1 .f32) (x : FVec Ideal S528x512 .f32) (a : Vec Ideal S1x128x128 .bf16)
    (r : Fin 512) (d : Fin 128) : grp2 v11 v23 x a (ix2 r d)
      = lin (fun c : Fin 128 => Ideal.div (x (ix2 ⟨16 + r.val, by omega⟩ (col 2 c))) (min (v23 (ix2 r 0)) (Ideal.ofBits .f32 0x41000000#32))
          - v11 (ix2 r (col 2 c))) (fun c d => a (ix3 0 c d)) d := by
  pointwise [grp2, lin]
  rfl

/-- Group 3's columns of the block: the mean of the rows' sums less the rows, times the group's matrix. -/
def grp3 (v11 : FVec Ideal S512x512 .f32) (v23 : FVec Ideal S512x1 .f32) (x : FVec Ideal S528x512 .f32) (a : Vec Ideal S1x128x128 .bf16) : FVec Ideal S512x128 .f32 :=
  matmul dot_S512x128_S128x128_S512x128_1_0_0_1_n_n none
    (truncf .bf16 (subf (divf (extractStridedSlice S512x128 ![16, 384] x slices_S528x512_o16_384_S512x128)
        (broadcastTo S512x128 (minimumf v23 (broadcast S512x1 (Scalar.ofBits .f32 0x41800000#32 : Ideal .f32))) broadcasts_S512x1_S512x128))
      (extractStridedSlice S512x128 ![0, 384] v11 slices_S512x512_o0_384_S512x128)) bitsLt_bf16_f32 : FVec Ideal S512x128 .bf16)
    (shapeCast S128x128 a shapeCasts_S1x128x128_S128x128 : FVec Ideal S128x128 .bf16) (constant S512x128 .f32 0x00000000#32)

theorem grp3_apply (v11 : FVec Ideal S512x512 .f32) (v23 : FVec Ideal S512x1 .f32) (x : FVec Ideal S528x512 .f32) (a : Vec Ideal S1x128x128 .bf16)
    (r : Fin 512) (d : Fin 128) : grp3 v11 v23 x a (ix2 r d)
      = lin (fun c : Fin 128 => Ideal.div (x (ix2 ⟨16 + r.val, by omega⟩ (col 3 c))) (min (v23 (ix2 r 0)) (Ideal.ofBits .f32 0x41800000#32))
          - v11 (ix2 r (col 3 c))) (fun c d => a (ix3 0 c d)) d := by
  pointwise [grp3, lin]
  rfl

theorem pay7_eq (i : grid0.Coords) (cur : Vec Ideal S512x512 .f32) (halo : Vec Ideal S16x512 .f32) (a0 a1 a2 a3 : Vec Ideal S1x128x128 .bf16) :
    k0_pay7 (k0_pay2 cur) (k0_pay3 (F := Ideal) i) (k0_pay4 i cur halo) (k0_pay5 i cur halo a0) (k0_pay6 i cur halo) a1 a2 a3
      = cat4 ![grp0 (k0_pay2 cur) (k0_pay3 (F := Ideal) i) (k0_pay4 i cur halo) a0,
          grp1 (k0_pay2 cur) (k0_pay3 (F := Ideal) i) (dbl 2 (k0_pay4 i cur halo)) a1,
          grp2 (k0_pay2 cur) (k0_pay3 (F := Ideal) i) (dbl 4 (dbl 2 (k0_pay4 i cur halo))) a2,
          grp3 (k0_pay2 cur) (k0_pay3 (F := Ideal) i) (dbl 8 (dbl 4 (dbl 2 (k0_pay4 i cur halo)))) a3] := rfl

theorem pay2_eq (cur : Vec Ideal S512x512 .f32) (r k : Fin 512) : k0_pay2 cur (ix2 r k) = cur (ix2 r k) := by pointwise [k0_pay2]

/-- The block's mixed columns, unscaled, at an index. -/
theorem pay7_apply (i : grid0.Coords) (cur : Vec Ideal S512x512 .f32) (halo : Vec Ideal S16x512 .f32) (a0 a1 a2 a3 : Vec Ideal S1x128x128 .bf16)
    (P : Fin 2048 → Fin 512 → EReal) (hP : Rows i cur halo P) (pw : Fin 4 → Fin 128 → Fin 128 → EReal)
    (h0 : ∀ c d, a0 (ix3 0 c d) = pw 0 c d) (h1 : ∀ c d, a1 (ix3 0 c d) = pw 1 c d) (h2 : ∀ c d, a2 (ix3 0 c d) = pw 2 c d) (h3 : ∀ c d, a3 (ix3 0 c d) = pw 3 c d)
    (r : Fin 512) (t : Fin 2048) (ht : t.val = (i 0).val % 4 * 512 + r.val) (q : Fin 512) :
    k0_pay7 (k0_pay2 cur) (k0_pay3 (F := Ideal) i) (k0_pay4 i cur halo) (k0_pay5 i cur halo a0) (k0_pay6 i cur halo) a1 a2 a3 (ix2 r q)
      = lin (pools (count t.val) P t ⟨q.val / 128, by omega⟩) (pw ⟨q.val / 128, by omega⟩) ⟨q.val % 128, by omega⟩ := by
  rw [pay7_eq, cat4_apply]
  generalize (⟨q.val / 128, by omega⟩ : Fin 4) = g
  generalize (⟨q.val % 128, by omega⟩ : Fin 128) = d
  have en : k0_pay3 (F := Ideal) i (ix2 r 0) = count t.val := by rw [pay3_apply, ht]
  have ex (c : Fin 512) : k0_pay2 cur (ix2 r c) = P t c := (pay2_eq cur r c).trans (hP.here r c t ht)
  fin_cases g
  · refine (grp0_apply _ _ _ _ r d).trans ?_
    simp only [lin, en, ex, h0]
    refine Finset.sum_congr rfl fun c _ => ?_
    refine congrArg (fun s : EReal => (Ideal.div s _ - _) * _) ?_
    exact (s2 i cur halo _ _ (by show 2 ≤ 16 + r.val + 1; omega)).trans (upto_ext 2 (by omega) i cur halo P hP _ r t ht _ rfl)
  · refine (grp1_apply _ _ _ _ r d).trans ?_
    simp only [lin, en, ex, h1]
    refine Finset.sum_congr rfl fun c _ => ?_
    refine congrArg (fun s : EReal => (Ideal.div s _ - _) * _) ?_
    exact (s4 i cur halo _ _ (by show 4 ≤ 16 + r.val + 1; omega)).trans (upto_ext 4 (by omega) i cur halo P hP _ r t ht _ rfl)
  · refine (grp2_apply _ _ _ _ r d).trans ?_
    simp only [lin, en, ex, h2]
    refine Finset.sum_congr rfl fun c _ => ?_
    refine congrArg (fun s : EReal => (Ideal.div s _ - _) * _) ?_
    exact (s8 i cur halo _ _ (by show 8 ≤ 16 + r.val + 1; omega)).trans (upto_ext 8 (by omega) i cur halo P hP _ r t ht _ rfl)
  · refine (grp3_apply _ _ _ _ r d).trans ?_
    simp only [lin, en, ex, h3]
    refine Finset.sum_congr rfl fun c _ => ?_
    refine congrArg (fun s : EReal => (Ideal.div s _ - _) * _) ?_
    exact (s16 i cur halo _ _ (by show 16 ≤ 16 + r.val + 1; omega)).trans (upto_ext 16 (by omega) i cur halo P hP _ r t ht _ rfl)

end Cert.Val.Merge1Pool

end
-- ==== Proof.Val.Merge1Block.lean ====
module

public import proofs.«01_k».proof.Proof.Val.Merge1Pool

@[expose] public section

noncomputable section

namespace Cert.Val.Merge1Block

open Cert.Merge1Ideal Cert.Merge1Ideal.Gen Idealize.ShloMosaic Idealize.ShloMosaic.TcCoe Idealize.SL.Sem
open Cert.Val.Merge1Pool (Rows)

/-- Eleven column tiles side by side. -/
def cat (f : Fin 11 → FVec Ideal S512x256 .bf16) : FVec Ideal S512x2816 .bf16 :=
  concatenate S512x2816 1 (List.ofFn fun n : Fin 11 => (⟨S512x256, f n⟩ : (s : Shape) × (s.Idx → Elt Ideal .bf16)))
    concatenates_S512x256_S512x256_S512x256_S512x256_S512x256_S512x256_S512x256_S512x256_S512x256_S512x256_S512x256_S512x2816_d1

/-- A column of the tiles side by side is a column of the tile it falls in. -/
theorem cat_apply (f : Fin 11 → FVec Ideal S512x256 .bf16) (r : Fin 512) (k : Fin 2816) :
    cat f (ix2 r k) = f ⟨k.val / 256, by omega⟩ (ix2 r ⟨k.val % 256, by omega⟩) := by
  unfold cat
  refine concatenate_ofFn_apply (t := S512x2816) (s₁ := S512x256) 1 f _ rfl 256 rfl (ix2 r k : S512x2816.Idx) ⟨k.val / 256, by omega⟩ rfl (ix2 r ⟨k.val % 256, by omega⟩ : S512x256.Idx) rfl ?_
  intro b hb
  match b with
  | ⟨0, _⟩ => rfl
  | ⟨1, _⟩ => exact absurd rfl hb

/-- The rows plus half the product of their hidden rows. -/
def step (v105 : FVec Ideal S512x1024 .f32) (v130 v140 v150 v160 v170 v180 v190 v200 v210 v220 v230 : FVec Ideal S512x256 .bf16) (v232 : Vec Ideal S2816x1024 .bf16) : FVec Ideal S512x1024 .f32 :=
  addf v105 (mulf (broadcast S512x1024 (Scalar.ofBits .f32 0x3F000000#32)) (matmul dot_S512x2816_S2816x1024_S512x1024_1_0_0_1_n_n none (cat ![v130, v140, v150, v160, v170, v180, v190, v200, v210, v220, v230]) (shapeCast S2816x1024 v232 shapeCasts_S2816x1024_S2816x1024 : FVec Ideal S2816x1024 .bf16) (constant S512x1024 .f32 0x00000000#32)))

theorem step_apply (v105 : FVec Ideal S512x1024 .f32) (v130 v140 v150 v160 v170 v180 v190 v200 v210 v220 v230 : FVec Ideal S512x256 .bf16) (v232 : Vec Ideal S2816x1024 .bf16) (r : Fin 512) (j : Fin 1024) :
    step v105 v130 v140 v150 v160 v170 v180 v190 v200 v210 v220 v230 v232 (ix2 r j) = (fun j => v105 (ix2 r j) + Ideal.ofBits .f32 0x3F000000#32 * lin (fun q => cat ![v130, v140, v150, v160, v170, v180, v190, v200, v210, v220, v230] (ix2 r q)) (fun q j => v232 (ix2 q j)) j) j := by
  unfold step
  generalize cat ![v130, v140, v150, v160, v170, v180, v190, v200, v210, v220, v230] = h
  pointwise [lin]

theorem last_eq (v105 : FVec Ideal S512x1024 .f32) (v130 v140 v150 v160 v170 v180 v190 v200 v210 v220 v230 : FVec Ideal S512x256 .bf16) (v232 : Vec Ideal S2816x1024 .bf16) :
    k0_pay1 v105 v130 v140 v150 v160 v170 v180 v190 v200 v210 v220 v230 v232 = step v105 v130 v140 v150 v160 v170 v180 v190 v200 v210 v220 v230 v232 := rfl

/-- One column tile of the hidden rows. -/
def tile (h : FVec Ideal S512x1024 .bf16) (a b : Vec Ideal S1024x256 .bf16) (r : Fin 512) (j : Fin 256) : EReal :=
  lin (fun k => h (ix2 r k)) (fun k q => a (ix2 k q)) j * Ideal.logistic (lin (fun k => h (ix2 r k)) (fun k q => a (ix2 k q)) j)
    * lin (fun k => h (ix2 r k)) (fun k q => b (ix2 k q)) j

theorem pay13_apply (y : FVec Ideal S512x1024 .f32) (g : FVec Ideal S1x1024 .f32) (s : FVec Ideal S512x1024 .f32) (a b : Vec Ideal S1024x256 .bf16) (r : Fin 512) (j : Fin 256) :
    k0_pay13 y g s a b (ix2 r j) = tile (k0_pay12 y g s) a b r j := by
  pointwise [k0_pay13, k0_pay12, tile, lin]

theorem pay14_apply (y : FVec Ideal S512x1024 .f32) (g : FVec Ideal S1x1024 .f32) (s : FVec Ideal S512x1024 .f32) (a b : Vec Ideal S1024x256 .bf16) (r : Fin 512) (j : Fin 256) :
    k0_pay14 y g s a b (ix2 r j) = tile (k0_pay12 y g s) a b r j := by
  pointwise [k0_pay14, k0_pay12, tile, lin]

theorem pay15_apply (y : FVec Ideal S512x1024 .f32) (g : FVec Ideal S1x1024 .f32) (s : FVec Ideal S512x1024 .f32) (a b : Vec Ideal S1024x256 .bf16) (r : Fin 512) (j : Fin 256) :
    k0_pay15 y g s a b (ix2 r j) = tile (k0_pay12 y g s) a b r j := by
  pointwise [k0_pay15, k0_pay12, tile, lin]

theorem pay17_apply (y : FVec Ideal S512x1024 .f32) (g : FVec Ideal S1x1024 .f32) (s : FVec Ideal S512x1024 .f32) (a b : Vec Ideal S1024x256 .bf16) (r : Fin 512) (j : Fin 256) :
    k0_pay17 (k0_pay12 y g s) (k0_pay16 y g s a) b (ix2 r j) = tile (k0_pay12 y g s) a b r j := by
  pointwise [k0_pay17, k0_pay16, k0_pay12, tile, lin]

theorem pay22_apply (h : FVec Ideal S512x1024 .bf16) (a b : Vec Ideal S1024x256 .bf16) (r : Fin 512) (j : Fin 256) :
    k0_pay22 h (k0_pay21 a) b (ix2 r j) = tile h a b r j := by
  pointwise [k0_pay22, k0_pay21, tile, lin]

theorem pay18_apply (h : FVec Ideal S512x1024 .bf16) (a b : Vec Ideal S1024x256 .bf16) (r : Fin 512) (j : Fin 256) :
    k0_pay18 h a b (ix2 r j) = tile h a b r j := by
  pointwise [k0_pay18, tile, lin]

theorem pay19_apply (h : FVec Ideal S512x1024 .bf16) (a b : Vec Ideal S1024x256 .bf16) (r : Fin 512) (j : Fin 256) :
    k0_pay19 h a b (ix2 r j) = tile h a b r j := by
  pointwise [k0_pay19, tile, lin]

theorem pay20_apply (h : FVec Ideal S512x1024 .bf16) (a b : Vec Ideal S1024x256 .bf16) (r : Fin 512) (j : Fin 256) :
    k0_pay20 h a b (ix2 r j) = tile h a b r j := by
  pointwise [k0_pay20, tile, lin]

theorem pay23_apply (h : FVec Ideal S512x1024 .bf16) (a b : Vec Ideal S1024x256 .bf16) (r : Fin 512) (j : Fin 256) :
    k0_pay23 h a b (ix2 r j) = tile h a b r j := by
  pointwise [k0_pay23, tile, lin]

theorem pay24_apply (h : FVec Ideal S512x1024 .bf16) (a b : Vec Ideal S1024x256 .bf16) (r : Fin 512) (j : Fin 256) :
    k0_pay24 h a b (ix2 r j) = tile h a b r j := by
  pointwise [k0_pay24, tile, lin]

theorem pay25_apply (h : FVec Ideal S512x1024 .bf16) (a b : Vec Ideal S1024x256 .bf16) (r : Fin 512) (j : Fin 256) :
    k0_pay25 h a b (ix2 r j) = tile h a b r j := by
  pointwise [k0_pay25, tile, lin]

/-- A tile of the hidden rows, of the rows the feed-forward half starts from. -/
theorem tile_of (h : FVec Ideal S512x1024 .bf16) (y : Fin 1024 → EReal) (g : Fin 1024 → EReal) (wg wu : Vec Ideal S1024x2816 .bf16)
    (a b : Vec Ideal S1024x256 .bf16) (r : Fin 512) (q : Fin 256) (k : Fin 2816) (hh : ∀ i : Fin 1024, h (ix2 r i) = rms y g i)
    (ha : ∀ i : Fin 1024, a (ix2 i q) = wg (ix2 i k)) (hb : ∀ i : Fin 1024, b (ix2 i q) = wu (ix2 i k)) :
    tile h a b r q = glu (rms y g) (fun k q => wg (ix2 k q)) (fun k q => wu (ix2 k q)) k := by
  unfold tile glu lin
  simp only [hh, ha, hb]

/-- A tile of the weights' columns from `o` on gives the hidden rows' columns from `o` on. -/
theorem tile_ld (h : FVec Ideal S512x1024 .bf16) (y : Fin 1024 → EReal) (g : Fin 1024 → EReal) (wg wu : Vec Ideal S1024x2816 .bf16) (o : Nat)
    (inb : ∀ a, (![0, o] : Fin 2 → Nat) a + S1024x256.size a ≤ S1024x2816.size a) (r : Fin 512) (hh : ∀ i : Fin 1024, h (ix2 r i) = rms y g i)
    (q : Fin 256) (k : Fin 2816) (hk : k.val = o + q.val) :
    tile h (View.ld wg (Rect.unit (s := S1024x2816) ![0, o] S1024x256.size inb)) (View.ld wu (Rect.unit (s := S1024x2816) ![0, o] S1024x256.size inb)) r q
      = glu (rms y g) (fun k q => wg (ix2 k q)) (fun k q => wu (ix2 k q)) k := by
  have hld (w : Vec Ideal S1024x2816 .bf16) (i : Fin 1024) :
      View.ld w (Rect.unit (s := S1024x2816) ![0, o] S1024x256.size inb) (ix2 i q) = w (ix2 i k) := by
    pointwise
    congr 1
    ext a; fin_cases a <;> simp [hk]
  exact tile_of h y g wg wu _ _ r q k hh (hld wg) (hld wu)

theorem hz : (![0, 0] : Fin 2 → Nat) = fun _ => 0 := funext fun a => by fin_cases a <;> rfl

/-- The merged rows added to the rows they started from. -/
theorem pay9_apply (v76 : FVec Ideal S512x512 .f32) (x8 : Vec Ideal S1x512 .f32) (x4 : Vec Ideal S512x1024 .bf16) (x1 : Vec Ideal S512x512 .bf16)
    (x6 : Vec Ideal S512x1024 .bf16) (x5 : Vec Ideal S512x1024 .bf16) (x9 : Vec Ideal S512x1024 .bf16) (x0 : Vec Ideal S512x1024 .f32) (x10 : Vec Ideal S1024x1024 .bf16)
    (r : Fin 512) (j : Fin 1024) :
    k0_pay9 v76 (k0_pay8 x8) x4 x1 x6 x5 x9 x0 x10 (ix2 r j)
      = mergeRow (fun k => x0 (ix2 r k)) (fun k => x1 (ix2 r k)) (fun q => v76 (ix2 r q) * x8 (ix2 0 q)) (fun k => x4 (ix2 r k)) (fun k => x5 (ix2 r k))
          (fun k q => x6 (ix2 k q)) (fun k q => x9 (ix2 k q)) (fun k q => x10 (ix2 k q)) j := by
  pointwise [k0_pay9, k0_pay8, mergeRow, lin]

/-- The normed rows the feed-forward half multiplies. -/
theorem pay12_apply (v76 : FVec Ideal S512x512 .f32) (v78 : FVec Ideal S1x512 .f32) (x4 : Vec Ideal S512x1024 .bf16) (x1 : Vec Ideal S512x512 .bf16)
    (x6 : Vec Ideal S512x1024 .bf16) (x5 : Vec Ideal S512x1024 .bf16) (x9 : Vec Ideal S512x1024 .bf16) (x0 : Vec Ideal S512x1024 .f32) (x10 : Vec Ideal S1024x1024 .bf16)
    (g : Vec Ideal S1x1024 .f32) (r : Fin 512) (j : Fin 1024) :
    k0_pay12 (k0_pay9 v76 v78 x4 x1 x6 x5 x9 x0 x10) (k0_pay10 g) (k0_pay11 v76 v78 x4 x1 x6 x5 x9 x0 x10) (ix2 r j)
      = rms (fun k => k0_pay9 v76 v78 x4 x1 x6 x5 x9 x0 x10 (ix2 r k)) (fun k => g (ix2 0 k)) j := by
  unfold k0_pay11
  generalize k0_pay9 v76 v78 x4 x1 x6 x5 x9 x0 x10 = y
  pointwise [k0_pay12, k0_pay10, rms]

/-- What the body leaves in the result's block, at an index: the function of the block's row. -/
theorem out_apply (i : grid0.Coords) (x0 : Vec Ideal S512x1024 .f32) (x1 : Vec Ideal S512x512 .bf16) (x2 : Vec Ideal S512x512 .f32) (x3 : Vec Ideal S16x512 .f32) (x4 : Vec Ideal S512x1024 .bf16) (x5 : Vec Ideal S512x1024 .bf16) (x6 : Vec Ideal S512x1024 .bf16) (x7 : Vec Ideal S4x128x128 .bf16) (x8 : Vec Ideal S1x512 .f32) (x9 : Vec Ideal S512x1024 .bf16) (x10 : Vec Ideal S1024x1024 .bf16) (x11 : Vec Ideal S1x1024 .f32) (x12 : Vec Ideal S1024x2816 .bf16) (x13 : Vec Ideal S1024x2816 .bf16) (x14 : Vec Ideal S2816x1024 .bf16) (x15 : Vec Ideal S1x1024 .f32) (P : Fin 2048 → Fin 512 → EReal) (hP : Rows i x2 x3 P)
    (r : Fin 512) (t : Fin 2048) (ht : t.val = (i 0).val % 4 * 512 + r.val) (j : Fin 1024) :
    out0_16 i x0 x1 x2 x3 x4 x5 x6 x7 x8 x9 x10 x11 x12 x13 x14 x15 (ix2 r j)
      = ffnRow (mergeRow (fun k => x0 (ix2 r k)) (fun k => x1 (ix2 r k))
          (mixed (pools (count t.val) P t) (fun g c d => x7 (ix3 g c d)) (fun q => x8 (ix2 0 q))) (fun k => x4 (ix2 r k)) (fun k => x5 (ix2 r k))
          (fun k q => x6 (ix2 k q)) (fun k q => x9 (ix2 k q)) (fun k q => x10 (ix2 k q)))
        (fun k => x11 (ix2 0 k)) (fun k q => x12 (ix2 k q)) (fun k q => x13 (ix2 k q)) (fun q j => x14 (ix2 q j)) j := by
  unfold out0_16
  rw [View.canon_unit_zero hz]
  unfold k0_pay31 k0_pay30 k0_pay29 k0_pay28 k0_pay27 k0_pay26
  have e0 : View.ld x0 r0_7 = x0 := View.ld_unit_zero hz _ x0
  have e1 : View.ld x1 r0_0 = x1 := View.ld_unit_zero hz _ x1
  have e2 : View.ld x2 r0_0 = x2 := View.ld_unit_zero hz _ x2
  have e3 : View.ld x3 r0_1 = x3 := View.ld_unit_zero hz _ x3
  have e4 : View.ld x4 r0_7 = x4 := View.ld_unit_zero hz _ x4
  have e5 : View.ld x5 r0_7 = x5 := View.ld_unit_zero hz _ x5
  have e6 : View.ld x6 r0_7 = x6 := View.ld_unit_zero hz _ x6
  have e8 : View.ld x8 r0_6 = x8 := View.ld_unit_zero hz _ x8
  have e9 : View.ld x9 r0_7 = x9 := View.ld_unit_zero hz _ x9
  have e10 : View.ld x10 r0_8 = x10 := View.ld_unit_zero hz _ x10
  have e11 : View.ld x11 r0_9 = x11 := View.ld_unit_zero hz _ x11
  have e14 : View.ld x14 r0_21 = x14 := View.ld_unit_zero hz _ x14
  rw [e0, e1, e2, e3, e4, e5, e6, e8, e9, e10, e11, e14]
  have hw0 (c d : Fin 128) : View.ld x7 r0_2 (ix3 0 c d) = x7 (ix3 0 c d) := by pointwise
  have hw1 (c d : Fin 128) : View.ld x7 r0_3 (ix3 0 c d) = x7 (ix3 1 c d) := by pointwise
  have hw2 (c d : Fin 128) : View.ld x7 r0_4 (ix3 0 c d) = x7 (ix3 2 c d) := by pointwise
  have hw3 (c d : Fin 128) : View.ld x7 r0_5 (ix3 0 c d) = x7 (ix3 3 c d) := by pointwise
  have hmix := Merge1Pool.pay7_apply i x2 x3 _ _ _ _ P hP (fun g c d => x7 (ix3 g c d)) hw0 hw1 hw2 hw3 r t ht
  revert hmix
  generalize k0_pay7 (k0_pay2 x2) (k0_pay3 (F := Ideal) i) (k0_pay4 i x2 x3) (k0_pay5 i x2 x3 (View.ld x7 r0_2)) (k0_pay6 i x2 x3) (View.ld x7 r0_3) (View.ld x7 r0_4) (View.ld x7 r0_5) = v76
  intro hmix
  have hy := fun k : Fin 1024 => (pay9_apply v76 x8 x4 x1 x6 x5 x9 x0 x10 r k)
  have hx : (fun q => v76 (ix2 r q) * x8 (ix2 0 q)) = mixed (pools (count t.val) P t) (fun g c d => x7 (ix3 g c d)) (fun q => x8 (ix2 0 q)) :=
    funext fun q => congrArg (fun s : EReal => s * x8 (ix2 0 q)) (hmix q)
  rw [hx] at hy
  have hh := fun k : Fin 1024 => (pay12_apply v76 (k0_pay8 x8) x4 x1 x6 x5 x9 x0 x10 x11 r k).trans (congrArg (fun f => rms f (fun k => x11 (ix2 0 k)) k) (funext hy))
  clear hmix hx
  generalize k0_pay9 v76 (k0_pay8 x8) x4 x1 x6 x5 x9 x0 x10 = y at hy hh ⊢
  generalize k0_pay11 v76 (k0_pay8 x8) x4 x1 x6 x5 x9 x0 x10 = s at hh ⊢
  generalize k0_pay10 x11 = g at hh ⊢
  rw [last_eq]
  refine (step_apply _ _ _ _ _ _ _ _ _ _ _ _ _ r j).trans ?_
  unfold ffnRow
  refine congrArg₂ (fun a b : EReal => a + b) (hy j) (congrArg (fun b : EReal => Ideal.ofBits .f32 0x3F000000#32 * b)
    (congrArg (fun h => lin h (fun q j => x14 (ix2 q j)) j) (funext fun k => ?_)))
  rw [cat_apply]
  obtain ⟨n, hn⟩ : ∃ n : Fin 11, n = ⟨k.val / 256, by omega⟩ := ⟨_, rfl⟩
  have hv : n.val = k.val / 256 := congrArg Fin.val hn
  rw [← hn]
  fin_cases n
  · exact (pay13_apply _ _ _ _ _ _ _).trans (tile_ld _ _ _ _ _ _ _ _ hh _ _ (by simp at hv ⊢; omega))
  · exact (pay14_apply _ _ _ _ _ _ _).trans (tile_ld _ _ _ _ _ _ _ _ hh _ _ (by simp at hv ⊢; omega))
  · exact (pay15_apply _ _ _ _ _ _ _).trans (tile_ld _ _ _ _ _ _ _ _ hh _ _ (by simp at hv ⊢; omega))
  · exact (pay17_apply _ _ _ _ _ _ _).trans (tile_ld _ _ _ _ _ _ _ _ hh _ _ (by simp at hv ⊢; omega))
  · exact (pay18_apply _ _ _ _ _).trans (tile_ld _ _ _ _ _ _ _ _ hh _ _ (by simp at hv ⊢; omega))
  · exact (pay19_apply _ _ _ _ _).trans (tile_ld _ _ _ _ _ _ _ _ hh _ _ (by simp at hv ⊢; omega))
  · exact (pay20_apply _ _ _ _ _).trans (tile_ld _ _ _ _ _ _ _ _ hh _ _ (by simp at hv ⊢; omega))
  · exact (pay22_apply _ _ _ _ _).trans (tile_ld _ _ _ _ _ _ _ _ hh _ _ (by simp at hv ⊢; omega))
  · exact (pay23_apply _ _ _ _ _).trans (tile_ld _ _ _ _ _ _ _ _ hh _ _ (by simp at hv ⊢; omega))
  · exact (pay24_apply _ _ _ _ _).trans (tile_ld _ _ _ _ _ _ _ _ hh _ _ (by simp at hv ⊢; omega))
  · exact (pay25_apply _ _ _ _ _).trans (tile_ld _ _ _ _ _ _ _ _ hh _ _ (by simp at hv ⊢; omega))

end Cert.Val.Merge1Block

end
-- ==== Proof.Val.Merge1Run.lean ====
module

public import proofs.«01_k».proof.Proof.Val.Merge1Block
public import Idealize.ShloMosaic.Lib.StableHlo.Run
public import Idealize.ShloMosaic.Lib.Pipeline.FrameSuffix

@[expose] public section

noncomputable section

namespace Cert.Val.Merge1Run

open Cert.Merge1Ideal Cert.Merge1Ideal.Gen Idealize.ShloMosaic Idealize.ShloMosaic.TcCoe Idealize.SL.Sem Idealize.ShloMosaic.StableHlo

variable (m : (ℓ : Loc nD τ sig) → Buf (Elt Ideal) ℓ)

/-- The buffers' contents when the kernel is done. -/
abbrev exitV (c : Dev nD) : Valuation τ sig (Elt Ideal) :=
  Pipeline.withArrays spec0 c (Gen.V0 m c) fun w => (Gen.dats m 0 c).arrAt w cfg0.N

/-- What the kernel leaves in its result array. -/
def reg (c : Dev nD) : Buf (Elt Ideal) ((c.tc : Thread nD τ).loc main_v15) := (Gen.dats m 0 c).arrAt 16 cfg0.N

/-- Two of the kernel's inputs are windows of one array, which is never written: the result array is read back as it was left. -/
theorem exit_reg (c : Dev nD) : exitV m c (Proc.devRef .tc main_v15) = reg m c :=
  (Gen.dats m 0 c).withArrays_arrAt sharedIn0 (Gen.V0 m c) (Gen.A_eq m c) 16

theorem tail_res (V0 : Valuation τ sig (Elt Ideal)) :
    after (List.flatten [Gen.hostOps1]) V0 (Proc.devRef .tc main_v16) = shapeCast _ (V0 (Proc.devRef .tc main_v15)) shapeCasts_S65536x1024_S32x2048x1024 := by
  simp only [Gen.hostOps1, List.flatten_cons, List.flatten_nil, List.append_nil, List.cons_append, List.nil_append]
  after_results <;> rfl

theorem fin_res (c : Dev nD) :
    Pipeline.afterTail₀ cfgs (Gen.dats m) 0 (Gen.V0 m) [Gen.hostOps1] c main_v16 = shapeCast _ (reg m c) shapeCasts_S65536x1024_S32x2048x1024 :=
  (tail_res (exitV m c)).trans (by rw [exit_reg])

/-- Every weakly fair execution ends with the result at what the kernel left, its rows regrouped, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v16) = shapeCast _ (reg m c) shapeCasts_S65536x1024_S32x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v16 (Pipeline.mem_restRefs_of main_v16 (by decide) (by decide))).trans (fin_res m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c),
      ((h c).2 main_arg11 (Pipeline.mem_restRefs_of main_arg11 (by decide) (by decide))).trans (Gen.W_main_arg11 m (Gen.dats m) c),
      ((h c).2 main_arg12 (Pipeline.mem_restRefs_of main_arg12 (by decide) (by decide))).trans (Gen.W_main_arg12 m (Gen.dats m) c),
      ((h c).2 main_arg13 (Pipeline.mem_restRefs_of main_arg13 (by decide) (by decide))).trans (Gen.W_main_arg13 m (Gen.dats m) c)⟩) (Gen.run_main m ρ)

end Cert.Val.Merge1Run

end
-- ==== Proof.Val.Merge1Kernel.lean ====
module

public import proofs.«01_k».proof.Proof.Val.Merge1Run
public import Idealize.ShloMosaic.Lib.Pipeline.ValueKit

@[expose] public section

noncomputable section

namespace Cert.Val.Merge1Kernel

open Cert.Merge1Ideal Cert.Merge1Ideal.Gen Idealize.ShloMosaic Idealize.ShloMosaic.TcCoe Idealize.SL.Sem Idealize.ShloMosaic.StableHlo
open Idealize.ShloMosaic.Pipeline (Dat)

/-- The call's result over the rows laid flat. -/
def flat (x : FVec Ideal S65536x1024 .f32) (at' : FVec Ideal S65536x512 .bf16) (p : FVec Ideal S65536x512 .f32) (ga : FVec Ideal S65536x1024 .bf16) (gb : FVec Ideal S65536x1024 .bf16) (wa : FVec Ideal S512x1024 .bf16) (pw : FVec Ideal S4x128x128 .bf16) (ps : FVec Ideal S1x512 .f32) (wp : FVec Ideal S512x1024 .bf16) (wo : FVec Ideal S1024x1024 .bf16) (g2 : FVec Ideal S1x1024 .f32) (wg : FVec Ideal S1024x2816 .bf16) (wu : FVec Ideal S1024x2816 .bf16) (wd : FVec Ideal S2816x1024 .bf16) : FVec Ideal S65536x1024 .f32 := fun i =>
  ffnRow (mergeRow (fun k => x (ix2 (i 0) k)) (fun k => at' (ix2 (i 0) k))
      (mixed (pools (count ((i 0).val % 2048)) (fun s k => p (ix2 ⟨(i 0).val / 2048 * 2048 + s.val, by have := (i 0).isLt; change (i 0).val < 65536 at this; omega⟩ k)) ⟨(i 0).val % 2048, by omega⟩)
        (fun g c d => pw (ix3 g c d)) (fun q => ps (ix2 0 q)))
      (fun k => ga (ix2 (i 0) k)) (fun k => gb (ix2 (i 0) k)) (fun k q => wa (ix2 k q)) (fun k q => wp (ix2 k q)) (fun k q => wo (ix2 k q)))
    (fun k => g2 (ix2 0 k)) (fun k q => wg (ix2 k q)) (fun k q => wu (ix2 k q)) (fun q j => wd (ix2 q j)) (i 1)

variable (m : (ℓ : Loc nD τ sig) → Buf (Elt Ideal) ℓ)

theorem at0 : ∀ t : Fin cfg0.N, (grid0.coords t 0).val = t.val := (by decide +kernel : ∀ t : Fin grid0.N, _)
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val * 32 - 1, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![t.val, 0] := (by decide +kernel : ∀ t : Fin grid0.N, _)

set_option maxHeartbeats 1000000 in
theorem reg_eq (c : Dev nD) : Merge1Run.reg m c
    = flat (V m c main_v0) (V m c main_v1) (V m c main_v2) (V m c main_v3) (V m c main_v4) (V m c main_v5) (V m c main_v6) (V m c main_v7) (V m c main_v8) (V m c main_v9) (V m c main_v10) (V m c main_v11) (V m c main_v12) (V m c main_v13) := by
  refine (dats m 0 c).arrAt_eq_of_covers 16 _ (by decide +kernel) fun t hf y => ?_
  blk_simp
  rw [after0_16]
  obtain ⟨r, j, rfl⟩ : ∃ (r : Fin 512) (j : Fin 1024), y = ix2 r j := ⟨_, _, ValueIdx.eq_ix2 y⟩
  have hN : t.val < 128 := t.isLt
  generalize hI : (win0_16.blk t).view.emb (ix2 r j) = I
  have hI0 : (I 0 : Nat) = t.val * 512 + r.val := by rw [← hI]; blk_simp [idx16]
  have hI1 : (I 1 : Nat) = j.val := by rw [← hI]; blk_simp [idx16]
  have hP : Merge1Pool.Rows (grid0.coords t) (iblk m c 2 t) (iblk m c 3 t) (fun s k => V m c main_v2 (ix2 ⟨(I 0).val / 2048 * 2048 + s.val, by omega⟩ k)) := by
    constructor
    · intro r' k s hs
      rw [at0] at hs
      blk_simp [iblk]; congr 1; blk_ext [idx2, hI0, hs] <;> omega
    · intro h0 r' k s hs
      rw [at0] at hs h0
      blk_simp [iblk]; congr 1; blk_ext [idx3, hI0, hs] <;> omega
  rw [Merge1Block.out_apply _ _ _ _ _ _ _ _ _ _ _ _ _ _ _ _ _ _ hP r ⟨(I 0).val % 2048, by omega⟩ (by rw [at0]; show (I 0).val % 2048 = _; omega)]
  clear hP
  have h0 (k : Fin 1024) : iblk m c 0 t (ix2 r k) = V m c main_v0 (ix2 (I 0) k) := by
    blk_simp [iblk]; congr 1; blk_ext [idx0, hI0]
  have h1 (k : Fin 512) : iblk m c 1 t (ix2 r k) = V m c main_v1 (ix2 (I 0) k) := by
    blk_simp [iblk]; congr 1; blk_ext [idx1, hI0]
  have h4 (k : Fin 1024) : iblk m c 4 t (ix2 r k) = V m c main_v3 (ix2 (I 0) k) := by
    blk_simp [iblk]; congr 1; blk_ext [idx4, hI0]
  have h5 (k : Fin 1024) : iblk m c 5 t (ix2 r k) = V m c main_v4 (ix2 (I 0) k) := by
    blk_simp [iblk]; congr 1; blk_ext [idx5, hI0]
  have h6 (k : Fin 512) (q : Fin 1024) : iblk m c 6 t (ix2 k q) = V m c main_v5 (ix2 k q) := by
    blk_simp [iblk]; congr 1; blk_ext [idx6]
  have h7 (g : Fin 4) (k q : Fin 128) : iblk m c 7 t (ix3 g k q) = V m c main_v6 (ix3 g k q) := by
    blk_simp [iblk]; congr 1; blk_ext [idx7]
  have h8 (k : Fin 512) : iblk m c 8 t (ix2 0 k) = V m c main_v7 (ix2 0 k) := by
    blk_simp [iblk]; congr 1; blk_ext [idx8]
  have h9 (k : Fin 512) (q : Fin 1024) : iblk m c 9 t (ix2 k q) = V m c main_v8 (ix2 k q) := by
    blk_simp [iblk]; congr 1; blk_ext [idx9]
  have h10 (k : Fin 1024) (q : Fin 1024) : iblk m c 10 t (ix2 k q) = V m c main_v9 (ix2 k q) := by
    blk_simp [iblk]; congr 1; blk_ext [idx10]
  have h11 (k : Fin 1024) : iblk m c 11 t (ix2 0 k) = V m c main_v10 (ix2 0 k) := by
    blk_simp [iblk]; congr 1; blk_ext [idx11]
  have h12 (k : Fin 1024) (q : Fin 2816) : iblk m c 12 t (ix2 k q) = V m c main_v11 (ix2 k q) := by
    blk_simp [iblk]; congr 1; blk_ext [idx12]
  have h13 (k : Fin 1024) (q : Fin 2816) : iblk m c 13 t (ix2 k q) = V m c main_v12 (ix2 k q) := by
    blk_simp [iblk]; congr 1; blk_ext [idx13]
  have h14 (k : Fin 2816) (q : Fin 1024) : iblk m c 14 t (ix2 k q) = V m c main_v13 (ix2 k q) := by
    blk_simp [iblk]; congr 1; blk_ext [idx14]
  simp only [h0, h1, h4, h5, h6, h7, h8, h9, h10, h11, h12, h13, h14]
  unfold flat
  exact congrArg _ (Fin.ext hI1.symm)

theorem V_v0 (c : Dev nD) : V m c main_v0 = shapeCast _ (m ((c.tc : Thread nD τ).loc main_arg0)) shapeCasts_S32x2048x1024_S65536x1024 := by
  simp only [V, V0, hostOps0, List.flatten_cons, List.flatten_nil, List.append_nil, List.cons_append, List.nil_append]
  after_results <;> rfl
theorem V_v1 (c : Dev nD) : V m c main_v1 = shapeCast _ (m ((c.tc : Thread nD τ).loc main_arg1)) shapeCasts_S32x2048x512_S65536x512 := by
  simp only [V, V0, hostOps0, List.flatten_cons, List.flatten_nil, List.append_nil, List.cons_append, List.nil_append]
  after_results <;> rfl
theorem V_v2 (c : Dev nD) : V m c main_v2 = shapeCast _ (m ((c.tc : Thread nD τ).loc main_arg2)) shapeCasts_S32x2048x512_S65536x512 := by
  simp only [V, V0, hostOps0, List.flatten_cons, List.flatten_nil, List.append_nil, List.cons_append, List.nil_append]
  after_results <;> rfl
theorem V_v3 (c : Dev nD) : V m c main_v3 = shapeCast _ (m ((c.tc : Thread nD τ).loc main_arg3)) shapeCasts_S32x2048x1024_S65536x1024 := by
  simp only [V, V0, hostOps0, List.flatten_cons, List.flatten_nil, List.append_nil, List.cons_append, List.nil_append]
  after_results <;> rfl
theorem V_v4 (c : Dev nD) : V m c main_v4 = shapeCast _ (m ((c.tc : Thread nD τ).loc main_arg4)) shapeCasts_S32x2048x1024_S65536x1024 := by
  simp only [V, V0, hostOps0, List.flatten_cons, List.flatten_nil, List.append_nil, List.cons_append, List.nil_append]
  after_results <;> rfl
theorem V_v5 (c : Dev nD) : (V m c main_v5 : S512x1024.Idx → EReal) = m ((c.tc : Thread nD τ).loc main_arg7) := by
  simp only [V, V0, hostOps0, List.flatten_cons, List.flatten_nil, List.append_nil, List.cons_append, List.nil_append]
  after_results <;> rfl
theorem V_v6 (c : Dev nD) : (V m c main_v6 : S4x128x128.Idx → EReal) = m ((c.tc : Thread nD τ).loc main_arg5) := by
  simp only [V, V0, hostOps0, List.flatten_cons, List.flatten_nil, List.append_nil, List.cons_append, List.nil_append]
  after_results <;> rfl
theorem V_v7 (c : Dev nD) : V m c main_v7 = shapeCast _ (m ((c.tc : Thread nD τ).loc main_arg6)) shapeCasts_S512_S1x512 := by
  simp only [V, V0, hostOps0, List.flatten_cons, List.flatten_nil, List.append_nil, List.cons_append, List.nil_append]
  after_results <;> rfl
theorem V_v8 (c : Dev nD) : (V m c main_v8 : S512x1024.Idx → EReal) = m ((c.tc : Thread nD τ).loc main_arg8) := by
  simp only [V, V0, hostOps0, List.flatten_cons, List.flatten_nil, List.append_nil, List.cons_append, List.nil_append]
  after_results <;> rfl
theorem V_v9 (c : Dev nD) : (V m c main_v9 : S1024x1024.Idx → EReal) = m ((c.tc : Thread nD τ).loc main_arg9) := by
  simp only [V, V0, hostOps0, List.flatten_cons, List.flatten_nil, List.append_nil, List.cons_append, List.nil_append]
  after_results <;> rfl
theorem V_v10 (c : Dev nD) : V m c main_v10 = shapeCast _ (m ((c.tc : Thread nD τ).loc main_arg10)) shapeCasts_S1024_S1x1024 := by
  simp only [V, V0, hostOps0, List.flatten_cons, List.flatten_nil, List.append_nil, List.cons_append, List.nil_append]
  after_results <;> rfl
theorem V_v11 (c : Dev nD) : (V m c main_v11 : S1024x2816.Idx → EReal) = m ((c.tc : Thread nD τ).loc main_arg11) := by
  simp only [V, V0, hostOps0, List.flatten_cons, List.flatten_nil, List.append_nil, List.cons_append, List.nil_append]
  after_results <;> rfl
theorem V_v12 (c : Dev nD) : (V m c main_v12 : S1024x2816.Idx → EReal) = m ((c.tc : Thread nD τ).loc main_arg12) := by
  simp only [V, V0, hostOps0, List.flatten_cons, List.flatten_nil, List.append_nil, List.cons_append, List.nil_append]
  after_results <;> rfl
theorem V_v13 (c : Dev nD) : (V m c main_v13 : S2816x1024.Idx → EReal) = m ((c.tc : Thread nD τ).loc main_arg13) := by
  simp only [V, V0, hostOps0, List.flatten_cons, List.flatten_nil, List.append_nil, List.cons_append, List.nil_append]
  after_results <;> rfl

/-- Rows laid flat and back: the function of the rows. -/
theorem flat_cast (x : FVec Ideal S32x2048x1024 .f32) (at' : FVec Ideal S32x2048x512 .bf16) (p : FVec Ideal S32x2048x512 .f32) (ga : FVec Ideal S32x2048x1024 .bf16) (gb : FVec Ideal S32x2048x1024 .bf16) (wa : FVec Ideal S512x1024 .bf16) (pw : FVec Ideal S4x128x128 .bf16) (ps : FVec Ideal S512 .f32) (wp : FVec Ideal S512x1024 .bf16) (wo : FVec Ideal S1024x1024 .bf16) (g2 : FVec Ideal S1024 .f32) (wg : FVec Ideal S1024x2816 .bf16) (wu : FVec Ideal S1024x2816 .bf16) (wd : FVec Ideal S2816x1024 .bf16) (b : Fin 32) (t : Fin 2048) (j : Fin 1024) :
    (shapeCast _ (flat (shapeCast _ x shapeCasts_S32x2048x1024_S65536x1024) (shapeCast _ at' shapeCasts_S32x2048x512_S65536x512) (shapeCast _ p shapeCasts_S32x2048x512_S65536x512) (shapeCast _ ga shapeCasts_S32x2048x1024_S65536x1024) (shapeCast _ gb shapeCasts_S32x2048x1024_S65536x1024) wa pw (shapeCast _ ps shapeCasts_S512_S1x512) wp wo (shapeCast _ g2 shapeCasts_S1024_S1x1024) wg wu wd)
        shapeCasts_S65536x1024_S32x2048x1024 : FVec Ideal S32x2048x1024 .f32) (ix3 b t j)
      = ffnRow (mergeRow (fun k => x (ix3 b t k)) (fun k => at' (ix3 b t k))
      (mixed (pools (count t.val) (fun t k => p (ix3 b t k)) t) (fun g c d => pw (ix3 g c d)) (fun q => ps (ix1 q)))
      (fun k => ga (ix3 b t k)) (fun k => gb (ix3 b t k)) (fun k q => wa (ix2 k q)) (fun k q => wp (ix2 k q)) (fun k q => wo (ix2 k q)))
    (fun k => g2 (ix1 k)) (fun k q => wg (ix2 k q)) (fun k q => wu (ix2 k q)) (fun q j => wd (ix2 q j)) j := by
  have e (v : FVec Ideal S65536x1024 .f32) : (shapeCast _ v shapeCasts_S65536x1024_S32x2048x1024 : FVec Ideal S32x2048x1024 .f32) (ix3 b t j)
      = v (ix2 ⟨b.val * 2048 + t.val, by omega⟩ j) := by pointwise
  have wide (x : FVec Ideal S32x2048x1024 .f32) (r : Fin 65536) (s : Fin 2048) (hr : r.val = b.val * 2048 + s.val) (k : Fin 1024) :
      (shapeCast _ x shapeCasts_S32x2048x1024_S65536x1024 : FVec Ideal S65536x1024 .f32) (ix2 r k) = x (ix3 b s k) := by
    pointwise
    refine congrArg x ?_
    congr 1 <;> apply Fin.ext <;> simp <;> omega
  have half (x : FVec Ideal S32x2048x512 .f32) (r : Fin 65536) (s : Fin 2048) (hr : r.val = b.val * 2048 + s.val) (k : Fin 512) :
      (shapeCast _ x shapeCasts_S32x2048x512_S65536x512 : FVec Ideal S65536x512 .f32) (ix2 r k) = x (ix3 b s k) := by
    pointwise
    refine congrArg x ?_
    congr 1 <;> apply Fin.ext <;> simp <;> omega
  have e1 (g : FVec Ideal S1024 .f32) (k : Fin 1024) : (shapeCast _ g shapeCasts_S1024_S1x1024 : FVec Ideal S1x1024 .f32) (ix2 0 k) = g (ix1 k) := by pointwise
  have e2 (g : FVec Ideal S512 .f32) (k : Fin 512) : (shapeCast _ g shapeCasts_S512_S1x512 : FVec Ideal S1x512 .f32) (ix2 0 k) = g (ix1 k) := by pointwise
  rw [e]
  unfold flat
  have hc0 : ((ix2 (⟨b.val * 2048 + t.val, by omega⟩ : Fin 65536) j : S65536x1024.Idx) 0) = (⟨b.val * 2048 + t.val, by omega⟩ : Fin 65536) := rfl
  have hc1 : ((ix2 (⟨b.val * 2048 + t.val, by omega⟩ : Fin 65536) j : S65536x1024.Idx) 1) = j := rfl
  simp only [hc0, hc1]
  have hm : (⟨(b.val * 2048 + t.val) % 2048, by omega⟩ : Fin 2048) = t := Fin.ext (by show (b.val * 2048 + t.val) % 2048 = t.val; omega)
  have hn : (b.val * 2048 + t.val) % 2048 = t.val := by omega
  have hx := fun k => wide x ⟨b.val * 2048 + t.val, by omega⟩ t rfl k
  have hat := fun k => half at' ⟨b.val * 2048 + t.val, by omega⟩ t rfl k
  have hga := fun k => wide ga ⟨b.val * 2048 + t.val, by omega⟩ t rfl k
  have hgb := fun k => wide gb ⟨b.val * 2048 + t.val, by omega⟩ t rfl k
  have hp := fun (s : Fin 2048) k => half p ⟨(b.val * 2048 + t.val) / 2048 * 2048 + s.val, by omega⟩ s (by show (b.val * 2048 + t.val) / 2048 * 2048 + s.val = _; omega) k
  have e3 := e1 g2
  have e4 := e2 ps

  generalize (shapeCast _ x shapeCasts_S32x2048x1024_S65536x1024 : FVec Ideal S65536x1024 .f32) = fx at hx ⊢
  generalize (shapeCast _ at' shapeCasts_S32x2048x512_S65536x512 : FVec Ideal S65536x512 .bf16) = fat at hat ⊢
  generalize (shapeCast _ p shapeCasts_S32x2048x512_S65536x512 : FVec Ideal S65536x512 .f32) = fp at hp ⊢
  simp only [hx, hga, hgb, hat, hp, e3, e4, hm, hn]

end Cert.Val.Merge1Kernel

end
-- ==== Proof.Val.Merge1Ref.lean ====
module

public import proofs.«01_k».proof.Proof.Val.MixSpec
public import proofs.«01_k».proof.Proof.Gen.Merge1RefIdeal.Run
public import Idealize.ShloMosaic.Lib.Pipeline.Value

@[expose] public section

noncomputable section

namespace Cert.Val.Merge1Ref

open Cert.Merge1RefIdeal Cert.Merge1RefIdeal.Gen Idealize.ShloMosaic Idealize.ShloMosaic.TcCoe Idealize.SL.Sem Idealize.ShloMosaic.StableHlo

/-- The pooling input, its channels in groups. -/
def term_v0 {F : FTy → Type} [FloatOps F] (V0 : Valuation τ sig (Elt F)) : (Proc.devRef .tc main_v0 : DevRef τ sig).ty.Contents (Elt F) :=
  shapeCast _ (V0 (Proc.devRef .tc main_arg2)) shapeCasts_S32x2048x512_S32x2048x4x128

/-- The number of a token, counting from one. -/
def term_v3 {F : FTy → Type} [FloatOps F] (V0 : Valuation τ sig (Elt F)) : (Proc.devRef .tc main_v3 : DevRef τ sig).ty.Contents (Elt F) :=
  addf (broadcastInDim S2048 ![] bcast_S_S2048 (constant S_ .f32 0x3F800000#32)) (sitofp .f32 (iotaInDim S2048 32 0))

/-- Each group's pooled channels times its matrix. -/
def term_v57 {F : FTy → Type} [FloatOps F] (V0 : Valuation τ sig (Elt F)) : (Proc.devRef .tc main_v57 : DevRef τ sig).ty.Contents (Elt F) :=
  Host.dotGeneral dot_S4x128x128_S32x2048x4x128_S4x128x32x2048_1_3_2_01_0_2 none (V0 (Proc.devRef .tc main_arg5)) ((concatenate S32x2048x4x128 2 [⟨S32x2048x1x128, ((broadcastInDim S32x2048x1x128 ![0, 1, 3] bcast_S32x2048x128_S32x2048x1x128_0_1_3 (subf (Host.divf (Host.reduceWindowAdd ![1, 2, 1] ![1, 1, 1] ![0, 1, 0] ![0, 0, 0] (shapeCast _ (extractStridedSlice S32x2048x1x128 ![0, 0, 0, 0] (term_v0 V0) slices_S32x2048x4x128_S32x2048x1x128_0_0_0_0) shapeCasts_S32x2048x1x128_S32x2048x128) (broadcastInDim S_ ![] bcast_S_S_ (constant S_ .f32 0x00000000#32)) reduceWindows_S32x2048x128_S32x2048x128_w1s1p0_0_w2s1p1_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x40000000#32)))))) (shapeCast _ (extractStridedSlice S32x2048x1x128 ![0, 0, 0, 0] (term_v0 V0) slices_S32x2048x4x128_S32x2048x1x128_0_0_0_0) shapeCasts_S32x2048x1x128_S32x2048x128))) : (⟨S32x2048x1x128, .f32⟩ : BufTy).Contents (Elt F))⟩, ⟨S32x2048x1x128, ((broadcastInDim S32x2048x1x128 ![0, 1, 3] bcast_S32x2048x128_S32x2048x1x128_0_1_3 (subf (Host.divf (Host.reduceWindowAdd ![1, 4, 1] ![1, 1, 1] ![0, 3, 0] ![0, 0, 0] (shapeCast _ (extractStridedSlice S32x2048x1x128 ![0, 0, 1, 0] (term_v0 V0) slices_S32x2048x4x128_S32x2048x1x128_0_0_1_0) shapeCasts_S32x2048x1x128_S32x2048x128) (broadcastInDim S_ ![] bcast_S_S_ (constant S_ .f32 0x00000000#32)) reduceWindows_S32x2048x128_S32x2048x128_w1s1p0_0_w4s1p3_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x40800000#32)))))) (shapeCast _ (extractStridedSlice S32x2048x1x128 ![0, 0, 1, 0] (term_v0 V0) slices_S32x2048x4x128_S32x2048x1x128_0_0_1_0) shapeCasts_S32x2048x1x128_S32x2048x128))) : (⟨S32x2048x1x128, .f32⟩ : BufTy).Contents (Elt F))⟩, ⟨S32x2048x1x128, ((broadcastInDim S32x2048x1x128 ![0, 1, 3] bcast_S32x2048x128_S32x2048x1x128_0_1_3 (subf (Host.divf (Host.reduceWindowAdd ![1, 8, 1] ![1, 1, 1] ![0, 7, 0] ![0, 0, 0] (shapeCast _ (extractStridedSlice S32x2048x1x128 ![0, 0, 2, 0] (term_v0 V0) slices_S32x2048x4x128_S32x2048x1x128_0_0_2_0) shapeCasts_S32x2048x1x128_S32x2048x128) (broadcastInDim S_ ![] bcast_S_S_ (constant S_ .f32 0x00000000#32)) reduceWindows_S32x2048x128_S32x2048x128_w1s1p0_0_w8s1p7_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x41000000#32)))))) (shapeCast _ (extractStridedSlice S32x2048x1x128 ![0, 0, 2, 0] (term_v0 V0) slices_S32x2048x4x128_S32x2048x1x128_0_0_2_0) shapeCasts_S32x2048x1x128_S32x2048x128))) : (⟨S32x2048x1x128, .f32⟩ : BufTy).Contents (Elt F))⟩, ⟨S32x2048x1x128, ((broadcastInDim S32x2048x1x128 ![0, 1, 3] bcast_S32x2048x128_S32x2048x1x128_0_1_3 (subf (Host.divf (Host.reduceWindowAdd ![1, 16, 1] ![1, 1, 1] ![0, 15, 0] ![0, 0, 0] (shapeCast _ (extractStridedSlice S32x2048x1x128 ![0, 0, 3, 0] (term_v0 V0) slices_S32x2048x4x128_S32x2048x1x128_0_0_3_0) shapeCasts_S32x2048x1x128_S32x2048x128) (broadcastInDim S_ ![] bcast_S_S_ (constant S_ .f32 0x00000000#32)) reduceWindows_S32x2048x128_S32x2048x128_w1s1p0_0_w16s1p15_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x41800000#32)))))) (shapeCast _ (extractStridedSlice S32x2048x1x128 ![0, 0, 3, 0] (term_v0 V0) slices_S32x2048x4x128_S32x2048x1x128_0_0_3_0) shapeCasts_S32x2048x1x128_S32x2048x128))) : (⟨S32x2048x1x128, .f32⟩ : BufTy).Contents (Elt F))⟩] concatenates_S32x2048x1x128_S32x2048x1x128_S32x2048x1x128_S32x2048x1x128_S32x2048x4x128_d2 : (⟨S32x2048x4x128, .f32⟩ : BufTy).Contents (Elt F)))

/-- The rows after the merge. -/
def term_v72 {F : FTy → Type} [FloatOps F] (V0 : Valuation τ sig (Elt F)) : (Proc.devRef .tc main_v72 : DevRef τ sig).ty.Contents (Elt F) :=
  addf (V0 (Proc.devRef .tc main_arg0)) (Host.dotGeneral dot_S32x2048x1024_S1024x1024_S32x2048x1024_2_0_01_1_n_n none (addf (mulf (extf .f32 (V0 (Proc.devRef .tc main_arg3)) bitsLt_bf16_f32) (Host.dotGeneral dot_S32x2048x512_S512x1024_S32x2048x1024_2_0_01_1_n_n none (extf .f32 (V0 (Proc.devRef .tc main_arg1)) bitsLt_bf16_f32) (V0 (Proc.devRef .tc main_arg7)))) (mulf (extf .f32 (V0 (Proc.devRef .tc main_arg4)) bitsLt_bf16_f32) (Host.dotGeneral dot_S32x2048x512_S512x1024_S32x2048x1024_2_0_01_1_n_n none (mulf (shapeCast _ (transpose S32x2048x4x128 [2, 3, 0, 1] (term_v57 V0) transposes_S4x128x32x2048_S32x2048x4x128_2_3_0_1) shapeCasts_S32x2048x4x128_S32x2048x512) (broadcastInDim S32x2048x512 ![0, 1, 2] bcast_S1x1x512_S32x2048x512_0_1_2 (broadcastInDim S1x1x512 ![2] bcast_S512_S1x1x512_2 (V0 (Proc.devRef .tc main_arg6))))) (V0 (Proc.devRef .tc main_arg8))))) (V0 (Proc.devRef .tc main_arg9)))

/-- Their norm. -/
def term_v85 {F : FTy → Type} [FloatOps F] (V0 : Valuation τ sig (Elt F)) : (Proc.devRef .tc main_v85 : DevRef τ sig).ty.Contents (Elt F) :=
  mulf (mulf (term_v72 V0) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (term_v72 V0) (term_v72 V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (V0 (Proc.devRef .tc main_arg10))))

/-- The gate product. -/
def term_v86 {F : FTy → Type} [FloatOps F] (V0 : Valuation τ sig (Elt F)) : (Proc.devRef .tc main_v86 : DevRef τ sig).ty.Contents (Elt F) :=
  Host.dotGeneral dot_S32x2048x1024_S1024x2816_S32x2048x2816_2_0_01_1_n_n none (term_v85 V0) (V0 (Proc.devRef .tc main_arg11))

/-- The rows after the feed-forward half. -/
def term_v93 {F : FTy → Type} [FloatOps F] (V0 : Valuation τ sig (Elt F)) : (Proc.devRef .tc main_v93 : DevRef τ sig).ty.Contents (Elt F) :=
  addf (term_v72 V0) (mulf (broadcastInDim S32x2048x1024 ![] bcast_S_S32x2048x1024 (constant S_ .f32 0x3F000000#32)) (Host.dotGeneral dot_S32x2048x2816_S2816x1024_S32x2048x1024_2_0_01_1_n_n none (mulf (mulf (term_v86 V0) (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf (term_v86 V0)))))) (Host.dotGeneral dot_S32x2048x1024_S1024x2816_S32x2048x2816_2_0_01_1_n_n none (term_v85 V0) (V0 (Proc.devRef .tc main_arg12)))) (V0 (Proc.devRef .tc main_arg13))))

/-- The reference's result is the last of these terms. -/
theorem term_eq (m : (ℓ : Loc nD τ sig) → Buf (Elt Ideal) ℓ) (c : Dev nD) : Value.res_main_v93 m c = term_v93 (launchContents m c) := rfl

/-- The host's window sum is the sum over the window. -/
theorem window (w : Nat) (x : FVec Ideal S32x2048x128 .f32) (v : FVec Ideal S_ .f32)
    (h : S32x2048x128.ReduceWindows (![1, w, 1] : Fin 3 → Nat) ![1, 1, 1] ![0, w - 1, 0] ![0, 0, 0] S32x2048x128)
    (hS : 0 < S_.numel) (hv : ∀ i, v i = 0) (b : Fin 32) (t : Fin 2048) (c : Fin 128) :
    Host.reduceWindowAdd (![1, w, 1] : Fin 3 → Nat) ![1, 1, 1] ![0, w - 1, 0] ![0, 0, 0] x v h hS (ix3 b t c)
      = trail w (fun t => x (ix3 b t c)) t := by
  unfold Host.reduceWindowAdd
  rw [hv]
  exact window_apply w x h b t c

theorem counts (V0 : Valuation τ sig (Elt Ideal)) (t : Fin 2048) : (term_v3 V0 : FVec Ideal S2048 .f32) (ix1 t) = count t.val := by
  pointwise [term_v3]
  exact one_count t.val t.isLt

/-- The pooled array's channels, group by group. -/
theorem groups (V0 : Valuation τ sig (Elt Ideal)) (b : Fin 32) (t : Fin 2048) (g : Fin 4) (c : Fin 128) :
    (term_v0 V0 : FVec Ideal S32x2048x4x128 .f32) (ix4 b t g c)
      = (V0 (Proc.devRef .tc main_arg2) : FVec Ideal S32x2048x512 .f32) (ix3 b t (col g c)) := by
  unfold term_v0
  generalize V0 (Proc.devRef .tc main_arg2) = x
  pointwise
  refine congrArg x ?_
  unfold col
  congr 1 <;> apply Fin.ext <;> simp <;> omega

/-- Group 0's channels: the trailing mean of 2 rows less the row. -/
theorem group0 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 2, 1] ![1, 1, 1] ![0, 1, 0] ![0, 0, 0] (shapeCast _ (extractStridedSlice S32x2048x1x128 ![0, 0, 0, 0] v0 slices_S32x2048x4x128_S32x2048x1x128_0_0_0_0) shapeCasts_S32x2048x1x128_S32x2048x128) (broadcastInDim S_ ![] bcast_S_S_ (constant S_ .f32 0x00000000#32)) reduceWindows_S32x2048x128_S32x2048x128_w1s1p0_0_w2s1p1_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x40000000#32)))))) (shapeCast _ (extractStridedSlice S32x2048x1x128 ![0, 0, 0, 0] v0 slices_S32x2048x4x128_S32x2048x1x128_0_0_0_0) shapeCasts_S32x2048x1x128_S32x2048x128)) : FVec Ideal S32x2048x1x128 .f32) (ix4 b t 0 c)
      = centred 2 (Ideal.ofBits .f32 0x40000000#32) (v3 (ix1 t)) (fun t => v0 (ix4 b t 0 c)) t := by
  pointwise [centred]
  refine congrArg (fun s => Ideal.div s _ - _) ((window 2 _ _ reduceWindows_S32x2048x128_S32x2048x128_w1s1p0_0_w2s1p1_0_w1s1p0_0 h_S_ (fun i => by pointwise) b t c).trans ?_)
  refine congrArg (fun P => trail 2 P t) (funext fun t => ?_)
  pointwise

/-- Group 1's channels: the trailing mean of 4 rows less the row. -/
theorem group1 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 4, 1] ![1, 1, 1] ![0, 3, 0] ![0, 0, 0] (shapeCast _ (extractStridedSlice S32x2048x1x128 ![0, 0, 1, 0] v0 slices_S32x2048x4x128_S32x2048x1x128_0_0_1_0) shapeCasts_S32x2048x1x128_S32x2048x128) (broadcastInDim S_ ![] bcast_S_S_ (constant S_ .f32 0x00000000#32)) reduceWindows_S32x2048x128_S32x2048x128_w1s1p0_0_w4s1p3_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x40800000#32)))))) (shapeCast _ (extractStridedSlice S32x2048x1x128 ![0, 0, 1, 0] v0 slices_S32x2048x4x128_S32x2048x1x128_0_0_1_0) shapeCasts_S32x2048x1x128_S32x2048x128)) : FVec Ideal S32x2048x1x128 .f32) (ix4 b t 0 c)
      = centred 4 (Ideal.ofBits .f32 0x40800000#32) (v3 (ix1 t)) (fun t => v0 (ix4 b t 1 c)) t := by
  pointwise [centred]
  refine congrArg (fun s => Ideal.div s _ - _) ((window 4 _ _ reduceWindows_S32x2048x128_S32x2048x128_w1s1p0_0_w4s1p3_0_w1s1p0_0 h_S_ (fun i => by pointwise) b t c).trans ?_)
  refine congrArg (fun P => trail 4 P t) (funext fun t => ?_)
  pointwise

/-- Group 2's channels: the trailing mean of 8 rows less the row. -/
theorem group2 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 8, 1] ![1, 1, 1] ![0, 7, 0] ![0, 0, 0] (shapeCast _ (extractStridedSlice S32x2048x1x128 ![0, 0, 2, 0] v0 slices_S32x2048x4x128_S32x2048x1x128_0_0_2_0) shapeCasts_S32x2048x1x128_S32x2048x128) (broadcastInDim S_ ![] bcast_S_S_ (constant S_ .f32 0x00000000#32)) reduceWindows_S32x2048x128_S32x2048x128_w1s1p0_0_w8s1p7_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x41000000#32)))))) (shapeCast _ (extractStridedSlice S32x2048x1x128 ![0, 0, 2, 0] v0 slices_S32x2048x4x128_S32x2048x1x128_0_0_2_0) shapeCasts_S32x2048x1x128_S32x2048x128)) : FVec Ideal S32x2048x1x128 .f32) (ix4 b t 0 c)
      = centred 8 (Ideal.ofBits .f32 0x41000000#32) (v3 (ix1 t)) (fun t => v0 (ix4 b t 2 c)) t := by
  pointwise [centred]
  refine congrArg (fun s => Ideal.div s _ - _) ((window 8 _ _ reduceWindows_S32x2048x128_S32x2048x128_w1s1p0_0_w8s1p7_0_w1s1p0_0 h_S_ (fun i => by pointwise) b t c).trans ?_)
  refine congrArg (fun P => trail 8 P t) (funext fun t => ?_)
  pointwise

/-- Group 3's channels: the trailing mean of 16 rows less the row. -/
theorem group3 (v0 : FVec Ideal S32x2048x4x128 .f32) (v3 : FVec Ideal S2048 .f32) (b : Fin 32) (t : Fin 2048) (c : Fin 128) :
    (broadcastInDim S32x2048x1x128 ![0, 1, 3] bcast_S32x2048x128_S32x2048x1x128_0_1_3 (subf (Host.divf (Host.reduceWindowAdd ![1, 16, 1] ![1, 1, 1] ![0, 15, 0] ![0, 0, 0] (shapeCast _ (extractStridedSlice S32x2048x1x128 ![0, 0, 3, 0] v0 slices_S32x2048x4x128_S32x2048x1x128_0_0_3_0) shapeCasts_S32x2048x1x128_S32x2048x128) (broadcastInDim S_ ![] bcast_S_S_ (constant S_ .f32 0x00000000#32)) reduceWindows_S32x2048x128_S32x2048x128_w1s1p0_0_w16s1p15_0_w1s1p0_0 h_S_) (broadcastInDim S32x2048x128 ![0, 1, 2] bcast_S1x2048x1_S32x2048x128_0_1_2 (broadcastInDim S1x2048x1 ![1] bcast_S2048_S1x2048x1_1 (minimumf v3 (broadcastInDim S2048 ![] bcast_S_S2048 (constant S_ .f32 0x41800000#32)))))) (shapeCast _ (extractStridedSlice S32x2048x1x128 ![0, 0, 3, 0] v0 slices_S32x2048x4x128_S32x2048x1x128_0_0_3_0) shapeCasts_S32x2048x1x128_S32x2048x128)) : FVec Ideal S32x2048x1x128 .f32) (ix4 b t 0 c)
      = centred 16 (Ideal.ofBits .f32 0x41800000#32) (v3 (ix1 t)) (fun t => v0 (ix4 b t 3 c)) t := by
  pointwise [centred]
  refine congrArg (fun s => Ideal.div s _ - _) ((window 16 _ _ reduceWindows_S32x2048x128_S32x2048x128_w1s1p0_0_w16s1p15_0_w1s1p0_0 h_S_ (fun i => by pointwise) b t c).trans ?_)
  refine congrArg (fun P => trail 16 P t) (funext fun t => ?_)
  pointwise

/-- The four groups side by side. -/
def stack (f : Fin 4 → FVec Ideal S32x2048x1x128 .f32) : FVec Ideal S32x2048x4x128 .f32 :=
  concatenate S32x2048x4x128 2 (List.ofFn fun n : Fin 4 => (⟨S32x2048x1x128, f n⟩ : (s : Shape) × (s.Idx → Elt Ideal .f32)))
    concatenates_S32x2048x1x128_S32x2048x1x128_S32x2048x1x128_S32x2048x1x128_S32x2048x4x128_d2

theorem stack_apply (f : Fin 4 → FVec Ideal S32x2048x1x128 .f32) (b : Fin 32) (t : Fin 2048) (g : Fin 4) (c : Fin 128) :
    stack f (ix4 b t g c) = f g (ix4 b t 0 c) := by
  unfold stack
  refine concatenate_ofFn_apply (t := S32x2048x4x128) (s₁ := S32x2048x1x128) 2 f _ rfl 1 rfl (ix4 b t g c : S32x2048x4x128.Idx) g (by simp) (ix4 b t 0 c : S32x2048x1x128.Idx) (Nat.mod_one _).symm ?_
  intro a ha
  match a with
  | ⟨0, _⟩ => rfl
  | ⟨1, _⟩ => rfl
  | ⟨2, _⟩ => exact absurd rfl ha
  | ⟨3, _⟩ => rfl

/-- The groups' arrays, as the reference computes them. -/
def pieces (V0 : Valuation τ sig (Elt Ideal)) : Fin 4 → FVec Ideal S32x2048x1x128 .f32 :=
  ![broadcastInDim S32x2048x1x128 ![0, 1, 3] bcast_S32x2048x128_S32x2048x1x128_0_1_3 (subf (Host.divf (Host.reduceWindowAdd ![1, 2, 1] ![1, 1, 1] ![0, 1, 0] ![0, 0, 0] (shapeCast _ (extractStridedSlice S32x2048x1x128 ![0, 0, 0, 0] (term_v0 V0) slices_S32x2048x4x128_S32x2048x1x128_0_0_0_0) shapeCasts_S32x2048x1x128_S32x2048x128) (broadcastInDim S_ ![] bcast_S_S_ (constant S_ .f32 0x00000000#32)) reduceWindows_S32x2048x128_S32x2048x128_w1s1p0_0_w2s1p1_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x40000000#32)))))) (shapeCast _ (extractStridedSlice S32x2048x1x128 ![0, 0, 0, 0] (term_v0 V0) slices_S32x2048x4x128_S32x2048x1x128_0_0_0_0) shapeCasts_S32x2048x1x128_S32x2048x128)), broadcastInDim S32x2048x1x128 ![0, 1, 3] bcast_S32x2048x128_S32x2048x1x128_0_1_3 (subf (Host.divf (Host.reduceWindowAdd ![1, 4, 1] ![1, 1, 1] ![0, 3, 0] ![0, 0, 0] (shapeCast _ (extractStridedSlice S32x2048x1x128 ![0, 0, 1, 0] (term_v0 V0) slices_S32x2048x4x128_S32x2048x1x128_0_0_1_0) shapeCasts_S32x2048x1x128_S32x2048x128) (broadcastInDim S_ ![] bcast_S_S_ (constant S_ .f32 0x00000000#32)) reduceWindows_S32x2048x128_S32x2048x128_w1s1p0_0_w4s1p3_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x40800000#32)))))) (shapeCast _ (extractStridedSlice S32x2048x1x128 ![0, 0, 1, 0] (term_v0 V0) slices_S32x2048x4x128_S32x2048x1x128_0_0_1_0) shapeCasts_S32x2048x1x128_S32x2048x128)), broadcastInDim S32x2048x1x128 ![0, 1, 3] bcast_S32x2048x128_S32x2048x1x128_0_1_3 (subf (Host.divf (Host.reduceWindowAdd ![1, 8, 1] ![1, 1, 1] ![0, 7, 0] ![0, 0, 0] (shapeCast _ (extractStridedSlice S32x2048x1x128 ![0, 0, 2, 0] (term_v0 V0) slices_S32x2048x4x128_S32x2048x1x128_0_0_2_0) shapeCasts_S32x2048x1x128_S32x2048x128) (broadcastInDim S_ ![] bcast_S_S_ (constant S_ .f32 0x00000000#32)) reduceWindows_S32x2048x128_S32x2048x128_w1s1p0_0_w8s1p7_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x41000000#32)))))) (shapeCast _ (extractStridedSlice S32x2048x1x128 ![0, 0, 2, 0] (term_v0 V0) slices_S32x2048x4x128_S32x2048x1x128_0_0_2_0) shapeCasts_S32x2048x1x128_S32x2048x128)), broadcastInDim S32x2048x1x128 ![0, 1, 3] bcast_S32x2048x128_S32x2048x1x128_0_1_3 (subf (Host.divf (Host.reduceWindowAdd ![1, 16, 1] ![1, 1, 1] ![0, 15, 0] ![0, 0, 0] (shapeCast _ (extractStridedSlice S32x2048x1x128 ![0, 0, 3, 0] (term_v0 V0) slices_S32x2048x4x128_S32x2048x1x128_0_0_3_0) shapeCasts_S32x2048x1x128_S32x2048x128) (broadcastInDim S_ ![] bcast_S_S_ (constant S_ .f32 0x00000000#32)) reduceWindows_S32x2048x128_S32x2048x128_w1s1p0_0_w16s1p15_0_w1s1p0_0 h_S_) (broadcastInDim S32x2048x128 ![0, 1, 2] bcast_S1x2048x1_S32x2048x128_0_1_2 (broadcastInDim S1x2048x1 ![1] bcast_S2048_S1x2048x1_1 (minimumf (term_v3 V0) (broadcastInDim S2048 ![] bcast_S_S2048 (constant S_ .f32 0x41800000#32)))))) (shapeCast _ (extractStridedSlice S32x2048x1x128 ![0, 0, 3, 0] (term_v0 V0) slices_S32x2048x4x128_S32x2048x1x128_0_0_3_0) shapeCasts_S32x2048x1x128_S32x2048x128))]

theorem dot_eq (V0 : Valuation τ sig (Elt Ideal)) : (term_v57 V0 : FVec Ideal S4x128x32x2048 .f32)
    = (Host.dotGeneral (φ₁ := .f32) (φ₂ := .f32) dot_S4x128x128_S32x2048x4x128_S4x128x32x2048_1_3_2_01_0_2 none (V0 (Proc.devRef .tc main_arg5) : FVec Ideal S4x128x128 .f32)
        (stack (pieces V0)) : FVec Ideal S4x128x32x2048 .f32) := rfl

/-- A group's channels times its matrix. -/
theorem dot_apply (V0 : Valuation τ sig (Elt Ideal)) (g : Fin 4) (d : Fin 128) (b : Fin 32) (t : Fin 2048) :
    (term_v57 V0 : FVec Ideal S4x128x32x2048 .f32) (ix4 g d b t)
      = lin (pools (count t.val) (fun t k => (V0 (Proc.devRef .tc main_arg2) : FVec Ideal S32x2048x512 .f32) (ix3 b t k)) t g)
          (fun c d => (V0 (Proc.devRef .tc main_arg5) : FVec Ideal S4x128x128 .f32) (ix3 g c d)) d := by
  have e (w : FVec Ideal S4x128x128 .f32) (y : FVec Ideal S32x2048x4x128 .f32) :
      (Host.dotGeneral dot_S4x128x128_S32x2048x4x128_S4x128x32x2048_1_3_2_01_0_2 none w y : FVec Ideal S4x128x32x2048 .f32) (ix4 g d b t)
        = ∑ c : Fin 128, w (ix3 g c d) * y (ix4 b t g c) := by pointwise
  refine (congrFun (dot_eq V0) _).trans ((e _ _).trans ?_)
  unfold lin
  refine Finset.sum_congr rfl fun c _ => ?_
  rw [stack_apply, mul_comm]
  refine congrArg (fun s : EReal => s * _) ?_
  unfold pools pieces
  fin_cases g
  · refine (group0 _ _ b t c).trans ?_
    rw [counts]
    simp only [groups]
    rfl
  · refine (group1 _ _ b t c).trans ?_
    rw [counts]
    simp only [groups]
    rfl
  · refine (group2 _ _ b t c).trans ?_
    rw [counts]
    simp only [groups]
    rfl
  · refine (group3 _ _ b t c).trans ?_
    rw [counts]
    simp only [groups]
    rfl

/-- What the result holds of one row, of the argument arrays. -/
def row (x : FVec Ideal S32x2048x1024 .f32) (at' : FVec Ideal S32x2048x512 .bf16) (p : FVec Ideal S32x2048x512 .f32) (ga : FVec Ideal S32x2048x1024 .bf16) (gb : FVec Ideal S32x2048x1024 .bf16) (pw : FVec Ideal S4x128x128 .f32) (ps : FVec Ideal S512 .f32) (wa : FVec Ideal S512x1024 .f32) (wp : FVec Ideal S512x1024 .f32) (wo : FVec Ideal S1024x1024 .f32) (g2 : FVec Ideal S1024 .f32) (wg : FVec Ideal S1024x2816 .f32) (wu : FVec Ideal S1024x2816 .f32) (wd : FVec Ideal S2816x1024 .f32) (b : Fin 32) (t : Fin 2048) : Fin 1024 → EReal :=
  ffnRow (mergeRow (fun k => x (ix3 b t k)) (fun k => at' (ix3 b t k))
    (mixed (pools (count t.val) (fun t k => p (ix3 b t k)) t) (fun g c d => pw (ix3 g c d)) (fun q => ps (ix1 q)))
    (fun k => ga (ix3 b t k)) (fun k => gb (ix3 b t k)) (fun k q => wa (ix2 k q)) (fun k q => wp (ix2 k q)) (fun k q => wo (ix2 k q)))
    (fun k => g2 (ix1 k)) (fun k q => wg (ix2 k q)) (fun k q => wu (ix2 k q)) (fun q j => wd (ix2 q j))

/-- What the reference's result holds. -/
def val (x : FVec Ideal S32x2048x1024 .f32) (at' : FVec Ideal S32x2048x512 .bf16) (p : FVec Ideal S32x2048x512 .f32) (ga : FVec Ideal S32x2048x1024 .bf16) (gb : FVec Ideal S32x2048x1024 .bf16) (pw : FVec Ideal S4x128x128 .f32) (ps : FVec Ideal S512 .f32) (wa : FVec Ideal S512x1024 .f32) (wp : FVec Ideal S512x1024 .f32) (wo : FVec Ideal S1024x1024 .f32) (g2 : FVec Ideal S1024 .f32) (wg : FVec Ideal S1024x2816 .f32) (wu : FVec Ideal S1024x2816 .f32) (wd : FVec Ideal S2816x1024 .f32) : FVec Ideal S32x2048x1024 .f32 := fun i =>
  row x at' p ga gb pw ps wa wp wo g2 wg wu wd (i 0) (i 1) (i 2)

theorem mix_apply (V0 : Valuation τ sig (Elt Ideal)) (b : Fin 32) (t : Fin 2048) (q : Fin 512) :
    (shapeCast _ (transpose S32x2048x4x128 [2, 3, 0, 1] (term_v57 V0 : FVec Ideal S4x128x32x2048 .f32) transposes_S4x128x32x2048_S32x2048x4x128_2_3_0_1) shapeCasts_S32x2048x4x128_S32x2048x512 : FVec Ideal S32x2048x512 .f32) (ix3 b t q)
      = (term_v57 V0 : FVec Ideal S4x128x32x2048 .f32) (ix4 ⟨q.val / 128, by omega⟩ ⟨q.val % 128, by omega⟩ b t) := by
  generalize (term_v57 V0 : FVec Ideal S4x128x32x2048 .f32) = y
  pointwise

theorem x1_apply (V0 : Valuation τ sig (Elt Ideal)) (b : Fin 32) (t : Fin 2048) (j : Fin 1024) :
    (term_v72 V0 : FVec Ideal S32x2048x1024 .f32) (ix3 b t j) = (mergeRow (fun k => (V0 (Proc.devRef .tc main_arg0) : FVec Ideal S32x2048x1024 .f32) (ix3 b t k)) (fun k => (V0 (Proc.devRef .tc main_arg1) : FVec Ideal S32x2048x512 .bf16) (ix3 b t k))
    (mixed (pools (count t.val) (fun t k => (V0 (Proc.devRef .tc main_arg2) : FVec Ideal S32x2048x512 .f32) (ix3 b t k)) t) (fun g c d => (V0 (Proc.devRef .tc main_arg5) : FVec Ideal S4x128x128 .f32) (ix3 g c d)) (fun q => (V0 (Proc.devRef .tc main_arg6) : FVec Ideal S512 .f32) (ix1 q)))
    (fun k => (V0 (Proc.devRef .tc main_arg3) : FVec Ideal S32x2048x1024 .bf16) (ix3 b t k)) (fun k => (V0 (Proc.devRef .tc main_arg4) : FVec Ideal S32x2048x1024 .bf16) (ix3 b t k)) (fun k q => (V0 (Proc.devRef .tc main_arg7) : FVec Ideal S512x1024 .f32) (ix2 k q)) (fun k q => (V0 (Proc.devRef .tc main_arg8) : FVec Ideal S512x1024 .f32) (ix2 k q)) (fun k q => (V0 (Proc.devRef .tc main_arg9) : FVec Ideal S1024x1024 .f32) (ix2 k q))) j := by
  have e (q : Fin 512) := (mix_apply V0 b t q).trans (dot_apply V0 _ _ b t)
  unfold term_v72 mergeRow mixed
  generalize (shapeCast _ (transpose S32x2048x4x128 [2, 3, 0, 1] (term_v57 V0 : FVec Ideal S4x128x32x2048 .f32) transposes_S4x128x32x2048_S32x2048x4x128_2_3_0_1) shapeCasts_S32x2048x4x128_S32x2048x512 : FVec Ideal S32x2048x512 .f32) = y at e ⊢
  simp only [← e]
  pointwise [lin]

/-- The row after its feed-forward half. -/
theorem y_apply (V0 : Valuation τ sig (Elt Ideal)) (b : Fin 32) (t : Fin 2048) (j : Fin 1024) :
    (term_v93 V0 : FVec Ideal S32x2048x1024 .f32) (ix3 b t j) = ffnRow (mergeRow (fun k => (V0 (Proc.devRef .tc main_arg0) : FVec Ideal S32x2048x1024 .f32) (ix3 b t k)) (fun k => (V0 (Proc.devRef .tc main_arg1) : FVec Ideal S32x2048x512 .bf16) (ix3 b t k))
    (mixed (pools (count t.val) (fun t k => (V0 (Proc.devRef .tc main_arg2) : FVec Ideal S32x2048x512 .f32) (ix3 b t k)) t) (fun g c d => (V0 (Proc.devRef .tc main_arg5) : FVec Ideal S4x128x128 .f32) (ix3 g c d)) (fun q => (V0 (Proc.devRef .tc main_arg6) : FVec Ideal S512 .f32) (ix1 q)))
    (fun k => (V0 (Proc.devRef .tc main_arg3) : FVec Ideal S32x2048x1024 .bf16) (ix3 b t k)) (fun k => (V0 (Proc.devRef .tc main_arg4) : FVec Ideal S32x2048x1024 .bf16) (ix3 b t k)) (fun k q => (V0 (Proc.devRef .tc main_arg7) : FVec Ideal S512x1024 .f32) (ix2 k q)) (fun k q => (V0 (Proc.devRef .tc main_arg8) : FVec Ideal S512x1024 .f32) (ix2 k q)) (fun k q => (V0 (Proc.devRef .tc main_arg9) : FVec Ideal S1024x1024 .f32) (ix2 k q)))
    (fun k => (V0 (Proc.devRef .tc main_arg10) : FVec Ideal S1024 .f32) (ix1 k)) (fun k q => (V0 (Proc.devRef .tc main_arg11) : FVec Ideal S1024x2816 .f32) (ix2 k q)) (fun k q => (V0 (Proc.devRef .tc main_arg12) : FVec Ideal S1024x2816 .f32) (ix2 k q)) (fun q j => (V0 (Proc.devRef .tc main_arg13) : FVec Ideal S2816x1024 .f32) (ix2 q j)) j := by
  have e := funext fun j : Fin 1024 => x1_apply V0 b t j
  unfold ffnRow term_v93 term_v86 term_v85
  generalize (term_v72 V0 : FVec Ideal S32x2048x1024 .f32) = y at e ⊢
  rw [← e]
  pointwise [lin, glu, rms, Ideal.logistic]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ⟨(h c).1.trans ?_, (h c).2⟩) (Value.run (F := Ideal) m ρ)
  funext i
  obtain ⟨b, t, j, rfl⟩ : ∃ (b : Fin 32) (t : Fin 2048) (j : Fin 1024), i = ix3 b t j := ⟨_, _, _, ValueIdx.eq_ix3 i⟩
  refine Eq.trans ?_ (y_apply (launchContents m c) b t j)
  exact congrFun (term_eq m c) _

end Cert.Val.Merge1Ref

end
-- ==== Proof.Val.Merge1Claim.lean ====
/- The first mixing call's five claims. -/
module

public import proofs.«01_k».proof.Defs
public import proofs.«01_k».proof.Proof.Gen.Merge1.Frame
public import proofs.«01_k».proof.Proof.Val.Merge1Kernel
public import proofs.«01_k».proof.Proof.Val.Merge1Ref
public import Idealize.ShloMosaic.Lib.Quiescent

@[expose] public section

noncomputable section

namespace Cert.Val.Merge1Claim

open Idealize.ShloMosaic Idealize.ShloMosaic.TcCoe Idealize.SL.Sem

theorem frame_p : Cert.quiescent_Merge1 := fun m ρ _ => Cert.Merge1.Gen.frame m ρ
theorem frame_pi : Cert.quiescent_Merge1Ideal := fun m ρ _ => Cert.Merge1Ideal.Gen.frame m ρ
/-- The reference is host operations alone: its arguments end as launched and it declares no semaphore. -/
theorem frame_ri : Cert.quiescent_Merge1RefIdeal := fun m ρ _ =>
  (θ_run Cert.Merge1RefIdeal.defs _ _).mono (fun r h => ⟨fun c => (h c).2,
      Idealize.ShloMosaic.sem_eq_zero_of_no_sems (by decide) r.2⟩)
    (Cert.Merge1RefIdeal.Value.run (F := Ideal) m ρ)

/-- Of the same arguments the reference's value is the call's result. -/
theorem value_eq (m : (ℓ : Loc Cert.Merge1Ideal.nD Cert.Merge1Ideal.τ Cert.Merge1Ideal.sig) → Buf (Elt Ideal) ℓ) (c : Dev Cert.Merge1Ideal.nD) :
    Merge1Ref.val (m ((c.tc : Thread Cert.Merge1Ideal.nD Cert.Merge1Ideal.τ).loc Cert.Merge1Ideal.main_arg0)) (m ((c.tc : Thread Cert.Merge1Ideal.nD Cert.Merge1Ideal.τ).loc Cert.Merge1Ideal.main_arg1)) (m ((c.tc : Thread Cert.Merge1Ideal.nD Cert.Merge1Ideal.τ).loc Cert.Merge1Ideal.main_arg2)) (m ((c.tc : Thread Cert.Merge1Ideal.nD Cert.Merge1Ideal.τ).loc Cert.Merge1Ideal.main_arg3)) (m ((c.tc : Thread Cert.Merge1Ideal.nD Cert.Merge1Ideal.τ).loc Cert.Merge1Ideal.main_arg4)) (m ((c.tc : Thread Cert.Merge1Ideal.nD Cert.Merge1Ideal.τ).loc Cert.Merge1Ideal.main_arg5)) (m ((c.tc : Thread Cert.Merge1Ideal.nD Cert.Merge1Ideal.τ).loc Cert.Merge1Ideal.main_arg6)) (m ((c.tc : Thread Cert.Merge1Ideal.nD Cert.Merge1Ideal.τ).loc Cert.Merge1Ideal.main_arg7)) (m ((c.tc : Thread Cert.Merge1Ideal.nD Cert.Merge1Ideal.τ).loc Cert.Merge1Ideal.main_arg8)) (m ((c.tc : Thread Cert.Merge1Ideal.nD Cert.Merge1Ideal.τ).loc Cert.Merge1Ideal.main_arg9)) (m ((c.tc : Thread Cert.Merge1Ideal.nD Cert.Merge1Ideal.τ).loc Cert.Merge1Ideal.main_arg10)) (m ((c.tc : Thread Cert.Merge1Ideal.nD Cert.Merge1Ideal.τ).loc Cert.Merge1Ideal.main_arg11)) (m ((c.tc : Thread Cert.Merge1Ideal.nD Cert.Merge1Ideal.τ).loc Cert.Merge1Ideal.main_arg12)) (m ((c.tc : Thread Cert.Merge1Ideal.nD Cert.Merge1Ideal.τ).loc Cert.Merge1Ideal.main_arg13))
      = shapeCast _ (Merge1Run.reg m c) Cert.Merge1Ideal.Facts₀.shapeCasts_S65536x1024_S32x2048x1024 := by
  rw [Merge1Kernel.reg_eq, Merge1Kernel.V_v0, Merge1Kernel.V_v1, Merge1Kernel.V_v2, Merge1Kernel.V_v3, Merge1Kernel.V_v4, Merge1Kernel.V_v5, Merge1Kernel.V_v6, Merge1Kernel.V_v7, Merge1Kernel.V_v8, Merge1Kernel.V_v9, Merge1Kernel.V_v10, Merge1Kernel.V_v11, Merge1Kernel.V_v12, Merge1Kernel.V_v13]
  funext i
  obtain ⟨b, t, j, rfl⟩ : ∃ (b : Fin 32) (t : Fin 2048) (j : Fin 1024), i = ix3 b t j := ⟨_, _, _, ValueIdx.eq_ix3 i⟩
  exact (Merge1Kernel.flat_cast _ _ _ _ _ _ _ _ _ _ _ _ _ _ b t j).symm

theorem algebraic : Cert.algebraic_Merge1Ideal_Merge1RefIdeal := by
  intro m ρ m' ρ' _ hagree
  refine ⟨_, Merge1Run.run m ρ, ?_⟩
  refine (θ_run Cert.Merge1RefIdeal.defs _ _).mono (fun _ h c => ⟨(h c).1.trans ?_, (h c).2⟩) (Merge1Ref.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact value_eq m c

end Cert.Val.Merge1Claim

end
-- ==== Proof.Val.ProjSpec.lean ====
/- The function of one row that the projection call computes, on extended reals: what both programs are read to. -/
module

public import proofs.«01_k».proof.Proof.Val.Spec

@[expose] public section

noncomputable section

namespace Cert.Val.Proj

open Idealize.ShloMosaic
open scoped BigOperators

/-- One column of the projection of a row: the normalised row times that column of the weights. -/
def col (x g w : Fin 1024 → EReal) : EReal := ∑ k, rms x g k * w k

/-- A latent row scaled by the reciprocal root of its mean square, then channel by channel by `g`. -/
def rmsKv (z g : Fin 128 → EReal) (c : Fin 128) : EReal :=
  z c * Ideal.rsqrt (Ideal.div (∑ i, z i * z i) (Ideal.ofBits .f32 0x43000000#32) + Ideal.ofBits .f32 0x358637BD#32) * g c

/-- The normalised latent of a row. -/
def latent (x g : Fin 1024 → EReal) (w : Fin 1024 → Fin 3784 → EReal) (gk : Fin 128 → EReal) (c : Fin 128) : EReal :=
  rmsKv (fun c => col x g fun k => w k ⟨512 + c.val, by omega⟩) gk c

/-- The row's queries of head `h` taken to the latent's channel `c`, scaled. -/
def query (x g : Fin 1024 → EReal) (w : Fin 1024 → Fin 3784 → EReal) (u : Fin 64 → EReal) (h : Fin 8) : EReal :=
  (∑ d : Fin 64, u d * col x g fun k => w k ⟨h.val * 64 + d.val, by omega⟩) * Ideal.ofBits .f32 0x3E38AA3B#32

/-- The latent's channels, then a one, then zeros. -/
def latentT (x g : Fin 1024 → EReal) (w : Fin 1024 → Fin 3784 → EReal) (gk : Fin 128 → EReal) (q : Fin 144) : EReal :=
  if h : q.val < 128 then latent x g w gk ⟨q.val, h⟩ else if q.val = 128 then 1 else 0

/-- The scaled latent queries: by tile of 256 rows, then channel, then head and row of the tile. -/
def qlt (x : Fin 32 → Fin 2048 → Fin 1024 → EReal) (g : Fin 1024 → EReal) (w : Fin 1024 → Fin 3784 → EReal) (gk : Fin 128 → EReal) (u : Fin 128 → Fin 8 → Fin 64 → EReal) (b : Fin 32) (s : Fin 8) (c : Fin 128) (n : Fin 2048) : EReal :=
  query (x b ⟨s.val * 256 + n.val % 256, by omega⟩) g w (u c ⟨n.val / 256, by omega⟩) ⟨n.val / 256, by omega⟩

/-- The normalised latent. -/
def ckv (x : Fin 32 → Fin 2048 → Fin 1024 → EReal) (g : Fin 1024 → EReal) (w : Fin 1024 → Fin 3784 → EReal) (gk : Fin 128 → EReal) (u : Fin 128 → Fin 8 → Fin 64 → EReal) (n : Fin 65536) (c : Fin 128) : EReal :=
  latent (x ⟨(n).val / 2048, by have := (n).isLt; omega⟩ ⟨(n).val % 2048, by omega⟩) g w gk c

/-- The normalised latent, transposed, over a row of ones and rows of zeros. -/
def ckvt (x : Fin 32 → Fin 2048 → Fin 1024 → EReal) (g : Fin 1024 → EReal) (w : Fin 1024 → Fin 3784 → EReal) (gk : Fin 128 → EReal) (u : Fin 128 → Fin 8 → Fin 64 → EReal) (b : Fin 32) (q : Fin 144) (t : Fin 2048) : EReal :=
  latentT (x b t) g w gk q

/-- The index queries, transposed. -/
def qit (x : Fin 32 → Fin 2048 → Fin 1024 → EReal) (g : Fin 1024 → EReal) (w : Fin 1024 → Fin 3784 → EReal) (gk : Fin 128 → EReal) (u : Fin 128 → Fin 8 → Fin 64 → EReal) (b : Fin 32) (q : Fin 512) (t : Fin 2048) : EReal :=
  col (x b t) g (fun k => w k ⟨640 + q.val, by omega⟩)

/-- The index keys. -/
def ki (x : Fin 32 → Fin 2048 → Fin 1024 → EReal) (g : Fin 1024 → EReal) (w : Fin 1024 → Fin 3784 → EReal) (gk : Fin 128 → EReal) (u : Fin 128 → Fin 8 → Fin 64 → EReal) (n : Fin 65536) (q : Fin 64) : EReal :=
  col (x ⟨(n).val / 2048, by have := (n).isLt; omega⟩ ⟨(n).val % 2048, by omega⟩) g (fun k => w k ⟨1152 + q.val, by omega⟩)

/-- The index heads' scaled weights, transposed. -/
def wit (x : Fin 32 → Fin 2048 → Fin 1024 → EReal) (g : Fin 1024 → EReal) (w : Fin 1024 → Fin 3784 → EReal) (gk : Fin 128 → EReal) (u : Fin 128 → Fin 8 → Fin 64 → EReal) (b : Fin 32) (q : Fin 8) (t : Fin 2048) : EReal :=
  col (x b t) g (fun k => w k ⟨1216 + q.val, by omega⟩) * Ideal.ofBits .f32 0x3D3504F3#32

/-- The pooled mixer's input. -/
def pool (x : Fin 32 → Fin 2048 → Fin 1024 → EReal) (g : Fin 1024 → EReal) (w : Fin 1024 → Fin 3784 → EReal) (gk : Fin 128 → EReal) (u : Fin 128 → Fin 8 → Fin 64 → EReal) (n : Fin 65536) (q : Fin 512) : EReal :=
  col (x ⟨(n).val / 2048, by have := (n).isLt; omega⟩ ⟨(n).val % 2048, by omega⟩) g (fun k => w k ⟨1224 + q.val, by omega⟩)

/-- The first gate. -/
def sga (x : Fin 32 → Fin 2048 → Fin 1024 → EReal) (g : Fin 1024 → EReal) (w : Fin 1024 → Fin 3784 → EReal) (gk : Fin 128 → EReal) (u : Fin 128 → Fin 8 → Fin 64 → EReal) (n : Fin 65536) (q : Fin 1024) : EReal :=
  Ideal.logistic (col (x ⟨(n).val / 2048, by have := (n).isLt; omega⟩ ⟨(n).val % 2048, by omega⟩) g (fun k => w k ⟨1736 + q.val, by omega⟩))

/-- The second gate. -/
def sgb (x : Fin 32 → Fin 2048 → Fin 1024 → EReal) (g : Fin 1024 → EReal) (w : Fin 1024 → Fin 3784 → EReal) (gk : Fin 128 → EReal) (u : Fin 128 → Fin 8 → Fin 64 → EReal) (n : Fin 65536) (q : Fin 1024) : EReal :=
  Ideal.logistic (col (x ⟨(n).val / 2048, by have := (n).isLt; omega⟩ ⟨(n).val % 2048, by omega⟩) g (fun k => w k ⟨2760 + q.val, by omega⟩))

end Cert.Val.Proj

end
-- ==== Proof.Val.ProjBlock.lean ====
module

public import proofs.«01_k».proof.Proof.Val.ProjSpec
public import proofs.«01_k».proof.Proof.Gen.ProjIdeal.Frame
public import Idealize.ShloMosaic.Lib.Pipeline.Value
public import Idealize.ShloMosaic.Lib.Pipeline.ValueKit

@[expose] public section

noncomputable section

namespace Cert.Val.ProjBlock

open scoped BigOperators
open Cert.ProjIdeal Cert.ProjIdeal.Gen Idealize.ShloMosaic Idealize.ShloMosaic.TcCoe Idealize.SL.Sem

/-- One stored piece of the queries: one head's product with the transposed queries, scaled, at one tile's rows. -/
def piece (q : FVec Ideal S512x1024 .bf16) (w : Vec Ideal S1x128x64 .bf16) (a b : Nat)
    (h1 : S512x1024.Slices ![a, 0] S64x1024) (h2 : S128x1024.Slices ![0, b] S128x256) : FVec Ideal S1x1x128x256 .bf16 :=
  shapeCast S1x1x128x256 (extractStridedSlice S128x256 ![0, b] (truncf .bf16 (mulf
    (matmul dot_S128x64_S64x1024_S128x1024_1_0_0_1_n_n none (shapeCast S128x64 w shapeCasts_S1x128x64_S128x64 : FVec Ideal S128x64 .bf16)
      (extractStridedSlice S64x1024 ![a, 0] q h1) (constant S128x1024 .f32 0x00000000#32))
    (broadcast S128x1024 (Scalar.ofBits .f32 0x3E38AA3B#32))) bitsLt_bf16_f32) h2) shapeCasts_S128x256_S1x1x128x256

theorem piece_apply (q : FVec Ideal S512x1024 .bf16) (w : Vec Ideal S1x128x64 .bf16) (a b : Nat)
    (h1 : S512x1024.Slices ![a, 0] S64x1024) (h2 : S128x1024.Slices ![0, b] S128x256) (ha : a + 64 ≤ 512) (hb : b + 256 ≤ 1024)
    (y z : Fin 1) (c : Fin 128) (n : Fin 256) :
    piece q w a b h1 h2 (ix4 y z c n)
      = (∑ d : Fin 64, w (ix3 0 c d) * q (ix2 ⟨a + d.val, by omega⟩ ⟨b + n.val, by omega⟩)) * Ideal.ofBits .f32 0x3E38AA3B#32 := by
  pointwise [piece]

/-- The scaled latent queries of a block at an index, of its transposed queries. -/
def qv (q : FVec Ideal S512x1024 .bf16) (u : Vec Ideal S8x128x64 .bf16) (s : Fin 4) (c : Fin 128) (n : Fin 2048) : EReal :=
  (∑ d : Fin 64, u (ix3 ⟨n.val / 256, by omega⟩ c d) * q (ix2 ⟨n.val / 256 * 64 + d.val, by omega⟩ ⟨s.val * 256 + n.val % 256, by omega⟩))
    * Ideal.ofBits .f32 0x3E38AA3B#32

theorem ld_head (u : Vec Ideal S8x128x64 .bf16) (e : Fin 8) (inb) (c : Fin 128) (d : Fin 64) :
    View.ld u (Rect.unit (s := S8x128x64) ![e.val, 0, 0] S1x128x64.size inb) (ix3 0 c d) = u (ix3 e c d) :=
  View.ld_unit_apply_of _ _ _ _ _ _ fun a => by fin_cases a <;> simp

/-- A stored piece holds the block's queries where it is stored. -/
theorem piece_at (q : FVec Ideal S512x1024 .bf16) (u : Vec Ideal S8x128x64 .bf16) (e : Fin 8) (j : Fin 4) (inb) (a b f : Nat)
    (h1 : S512x1024.Slices ![a, 0] S64x1024) (h2 : S128x1024.Slices ![0, b] S128x256) (ha : a = 64 * e.val) (hb : b = 256 * j.val)
    (hf : f = 256 * e.val) (z : Fin 1) (s : Fin 4) (c : Fin 128) (n : Fin 2048) :
    View.TileAt (S := S1x4x128x2048) (Val := Elt Ideal) (e := .bf16) (ix4 z s c n) ![0, j.val, 0, f] S1x1x128x256.size
      (piece q (View.ld u (Rect.unit (s := S8x128x64) ![e.val, 0, 0] S1x128x64.size inb)) a b h1 h2) (qv q u s c n) := by
  intro x hx
  obtain ⟨y, y', c', n', rfl⟩ : ∃ (y : Fin 1) (y' : Fin 1) (c' : Fin 128) (n' : Fin 256), x = ix4 y y' c' n' := ⟨_, _, _, _, ValueIdx.eq_ix4 x⟩
  have e1 : s.val = j.val + y'.val := hx 1
  have e2 : c.val = 0 + c'.val := hx 2
  have e3 : n.val = f + n'.val := hx 3
  have hc : c' = c := Fin.ext (by omega)
  subst hc
  have he : (⟨n.val / 256, by omega⟩ : Fin 8) = e := Fin.ext (by show n.val / 256 = e.val; omega)
  rw [piece_apply _ _ _ _ _ _ (by omega) (by omega)]
  unfold qv
  rw [he]
  refine congrArg (fun t : EReal => t * Ideal.ofBits .f32 0x3E38AA3B#32) (Finset.sum_congr rfl fun d _ =>
    congrArg₂ (fun a b : EReal => a * b) (ld_head u e inb c' d) (congrArg q ?_))
  congr 1 <;> apply Fin.ext <;> simp <;> omega

set_option maxHeartbeats 4000000 in
/-- What the body leaves in the queries' block, at an index. -/
theorem out6_qv (x0 : Vec Ideal S1024x1024 .f32) (x1 : Vec Ideal S1x1024 .f32) (x2 : Vec Ideal S1024x2816 .bf16) (x3 : Vec Ideal S1040x1024 .bf16) (x4 : Vec Ideal S1x128 .f32) (x5 : Vec Ideal S8x128x64 .bf16) (z : Fin 1) (s : Fin 4) (c : Fin 128) (n : Fin 2048) :
    out0_6 x0 x1 x2 x3 x4 x5 (ix4 z s c n) = qv (k0_pay64 x0 x1 x2 x3 x4 x5) x5 s c n := by
  refine View.canon_eq_of_allAt _ _ _ (cover0_6 _ _ _ _ _ _ _ _ _ _ _ _ _ _ _ _ _ _ _ _ _ _ _ _ _ _ _ _ _ _ _ _ _) ?_
  have P := @piece_at (k0_pay64 x0 x1 x2 x3 x4 x5) x5
  refine View.allAt_cons_unit _ _ _ _ _ (P 7 3 inb_S8x128x64_S1x128x64_7_0_0 448 768 1792 slices_S512x1024_o448_0_S64x1024 slices_S128x1024_o0_768_S128x256 rfl rfl rfl z s c n) ?_
  refine View.allAt_cons_unit _ _ _ _ _ (P 7 2 inb_S8x128x64_S1x128x64_7_0_0 448 512 1792 slices_S512x1024_o448_0_S64x1024 slices_S128x1024_o0_512_S128x256 rfl rfl rfl z s c n) ?_
  refine View.allAt_cons_unit _ _ _ _ _ (P 7 1 inb_S8x128x64_S1x128x64_7_0_0 448 256 1792 slices_S512x1024_o448_0_S64x1024 slices_S128x1024_o0_256_S128x256 rfl rfl rfl z s c n) ?_
  refine View.allAt_cons_unit _ _ _ _ _ (P 7 0 inb_S8x128x64_S1x128x64_7_0_0 448 0 1792 slices_S512x1024_o448_0_S64x1024 slices_S128x1024_o0_0_S128x256 rfl rfl rfl z s c n) ?_
  refine View.allAt_cons_unit _ _ _ _ _ (P 6 3 inb_S8x128x64_S1x128x64_6_0_0 384 768 1536 slices_S512x1024_o384_0_S64x1024 slices_S128x1024_o0_768_S128x256 rfl rfl rfl z s c n) ?_
  refine View.allAt_cons_unit _ _ _ _ _ (P 6 2 inb_S8x128x64_S1x128x64_6_0_0 384 512 1536 slices_S512x1024_o384_0_S64x1024 slices_S128x1024_o0_512_S128x256 rfl rfl rfl z s c n) ?_
  refine View.allAt_cons_unit _ _ _ _ _ (P 6 1 inb_S8x128x64_S1x128x64_6_0_0 384 256 1536 slices_S512x1024_o384_0_S64x1024 slices_S128x1024_o0_256_S128x256 rfl rfl rfl z s c n) ?_
  refine View.allAt_cons_unit _ _ _ _ _ (P 6 0 inb_S8x128x64_S1x128x64_6_0_0 384 0 1536 slices_S512x1024_o384_0_S64x1024 slices_S128x1024_o0_0_S128x256 rfl rfl rfl z s c n) ?_
  refine View.allAt_cons_unit _ _ _ _ _ (P 5 3 inb_S8x128x64_S1x128x64_5_0_0 320 768 1280 slices_S512x1024_o320_0_S64x1024 slices_S128x1024_o0_768_S128x256 rfl rfl rfl z s c n) ?_
  refine View.allAt_cons_unit _ _ _ _ _ (P 5 2 inb_S8x128x64_S1x128x64_5_0_0 320 512 1280 slices_S512x1024_o320_0_S64x1024 slices_S128x1024_o0_512_S128x256 rfl rfl rfl z s c n) ?_
  refine View.allAt_cons_unit _ _ _ _ _ (P 5 1 inb_S8x128x64_S1x128x64_5_0_0 320 256 1280 slices_S512x1024_o320_0_S64x1024 slices_S128x1024_o0_256_S128x256 rfl rfl rfl z s c n) ?_
  refine View.allAt_cons_unit _ _ _ _ _ (P 5 0 inb_S8x128x64_S1x128x64_5_0_0 320 0 1280 slices_S512x1024_o320_0_S64x1024 slices_S128x1024_o0_0_S128x256 rfl rfl rfl z s c n) ?_
  refine View.allAt_cons_unit _ _ _ _ _ (P 4 3 inb_S8x128x64_S1x128x64_4_0_0 256 768 1024 slices_S512x1024_o256_0_S64x1024 slices_S128x1024_o0_768_S128x256 rfl rfl rfl z s c n) ?_
  refine View.allAt_cons_unit _ _ _ _ _ (P 4 2 inb_S8x128x64_S1x128x64_4_0_0 256 512 1024 slices_S512x1024_o256_0_S64x1024 slices_S128x1024_o0_512_S128x256 rfl rfl rfl z s c n) ?_
  refine View.allAt_cons_unit _ _ _ _ _ (P 4 1 inb_S8x128x64_S1x128x64_4_0_0 256 256 1024 slices_S512x1024_o256_0_S64x1024 slices_S128x1024_o0_256_S128x256 rfl rfl rfl z s c n) ?_
  refine View.allAt_cons_unit _ _ _ _ _ (P 4 0 inb_S8x128x64_S1x128x64_4_0_0 256 0 1024 slices_S512x1024_o256_0_S64x1024 slices_S128x1024_o0_0_S128x256 rfl rfl rfl z s c n) ?_
  refine View.allAt_cons_unit _ _ _ _ _ (P 3 3 inb_S8x128x64_S1x128x64_3_0_0 192 768 768 slices_S512x1024_o192_0_S64x1024 slices_S128x1024_o0_768_S128x256 rfl rfl rfl z s c n) ?_
  refine View.allAt_cons_unit _ _ _ _ _ (P 3 2 inb_S8x128x64_S1x128x64_3_0_0 192 512 768 slices_S512x1024_o192_0_S64x1024 slices_S128x1024_o0_512_S128x256 rfl rfl rfl z s c n) ?_
  refine View.allAt_cons_unit _ _ _ _ _ (P 3 1 inb_S8x128x64_S1x128x64_3_0_0 192 256 768 slices_S512x1024_o192_0_S64x1024 slices_S128x1024_o0_256_S128x256 rfl rfl rfl z s c n) ?_
  refine View.allAt_cons_unit _ _ _ _ _ (P 3 0 inb_S8x128x64_S1x128x64_3_0_0 192 0 768 slices_S512x1024_o192_0_S64x1024 slices_S128x1024_o0_0_S128x256 rfl rfl rfl z s c n) ?_
  refine View.allAt_cons_unit _ _ _ _ _ (P 2 3 inb_S8x128x64_S1x128x64_2_0_0 128 768 512 slices_S512x1024_o128_0_S64x1024 slices_S128x1024_o0_768_S128x256 rfl rfl rfl z s c n) ?_
  refine View.allAt_cons_unit _ _ _ _ _ (P 2 2 inb_S8x128x64_S1x128x64_2_0_0 128 512 512 slices_S512x1024_o128_0_S64x1024 slices_S128x1024_o0_512_S128x256 rfl rfl rfl z s c n) ?_
  refine View.allAt_cons_unit _ _ _ _ _ (P 2 1 inb_S8x128x64_S1x128x64_2_0_0 128 256 512 slices_S512x1024_o128_0_S64x1024 slices_S128x1024_o0_256_S128x256 rfl rfl rfl z s c n) ?_
  refine View.allAt_cons_unit _ _ _ _ _ (P 2 0 inb_S8x128x64_S1x128x64_2_0_0 128 0 512 slices_S512x1024_o128_0_S64x1024 slices_S128x1024_o0_0_S128x256 rfl rfl rfl z s c n) ?_
  refine View.allAt_cons_unit _ _ _ _ _ (P 1 3 inb_S8x128x64_S1x128x64_1_0_0 64 768 256 slices_S512x1024_o64_0_S64x1024 slices_S128x1024_o0_768_S128x256 rfl rfl rfl z s c n) ?_
  refine View.allAt_cons_unit _ _ _ _ _ (P 1 2 inb_S8x128x64_S1x128x64_1_0_0 64 512 256 slices_S512x1024_o64_0_S64x1024 slices_S128x1024_o0_512_S128x256 rfl rfl rfl z s c n) ?_
  refine View.allAt_cons_unit _ _ _ _ _ (P 1 1 inb_S8x128x64_S1x128x64_1_0_0 64 256 256 slices_S512x1024_o64_0_S64x1024 slices_S128x1024_o0_256_S128x256 rfl rfl rfl z s c n) ?_
  refine View.allAt_cons_unit _ _ _ _ _ (P 1 0 inb_S8x128x64_S1x128x64_1_0_0 64 0 256 slices_S512x1024_o64_0_S64x1024 slices_S128x1024_o0_0_S128x256 rfl rfl rfl z s c n) ?_
  refine View.allAt_cons_unit _ _ _ _ _ (P 0 3 inb_S8x128x64_S1x128x64_0_0_0 0 768 0 slices_S512x1024_o0_0_S64x1024 slices_S128x1024_o0_768_S128x256 rfl rfl rfl z s c n) ?_
  refine View.allAt_cons_unit _ _ _ _ _ (P 0 2 inb_S8x128x64_S1x128x64_0_0_0 0 512 0 slices_S512x1024_o0_0_S64x1024 slices_S128x1024_o0_512_S128x256 rfl rfl rfl z s c n) ?_
  refine View.allAt_cons_unit _ _ _ _ _ (P 0 1 inb_S8x128x64_S1x128x64_0_0_0 0 256 0 slices_S512x1024_o0_0_S64x1024 slices_S128x1024_o0_256_S128x256 rfl rfl rfl z s c n) ?_
  refine View.allAt_cons_unit _ _ _ _ _ (P 0 0 inb_S8x128x64_S1x128x64_0_0_0 0 0 0 slices_S512x1024_o0_0_S64x1024 slices_S128x1024_o0_0_S128x256 rfl rfl rfl z s c n) ?_
  exact View.allAt_nil _ _

theorem pay2_apply (x : Vec Ideal S1024x1024 .f32) (g : Vec Ideal S1x1024 .f32) (r k : Fin 1024) :
    k0_pay2 x g (ix2 r k) = rms (fun k => x (ix2 r k)) (fun k => g (ix2 0 k)) k := by
  pointwise [k0_pay2, k0_pay1, rms]

theorem pay3_apply (x : Vec Ideal S1024x1024 .f32) (g : Vec Ideal S1x1024 .f32) (r k : Fin 1024) :
    k0_pay3 x g (ix2 k r) = rms (fun k => x (ix2 r k)) (fun k => g (ix2 0 k)) k := by
  pointwise [k0_pay3, k0_pay1, rms]

theorem pay4_apply (x : Vec Ideal S1024x1024 .f32) (g : Vec Ideal S1x1024 .f32) (v : Vec Ideal S1024x128 .bf16) (gk : Vec Ideal S1x128 .f32)
    (r : Fin 1024) (c : Fin 128) : k0_pay4 x g v gk (ix2 r c)
      = Proj.rmsKv (fun c => ∑ k, k0_pay2 x g (ix2 r k) * v (ix2 k c)) (fun c => gk (ix2 0 c)) c := by
  pointwise [k0_pay4, Proj.rmsKv]

/-- The row number compared with zero, as a number. -/
theorem mark (j : Fin 16) : (FloatOps.sitofp (F := Ideal) .f32 (BitVec.setWidth 32 (IntOp.cmpi .eq (BitVec.ofNat 32 j.val) 0#32)) : EReal)
    = if j.val = 0 then 1 else 0 := by
  have h : (BitVec.setWidth 32 (IntOp.cmpi .eq (BitVec.ofNat 32 j.val) 0#32)).toInt = if j.val = 0 then 1 else 0 := by
    revert j; decide
  change (((BitVec.setWidth 32 (IntOp.cmpi .eq (BitVec.ofNat 32 j.val) 0#32)).toInt : ℝ) : EReal) = _
  rw [h]
  split <;> simp

theorem pay7_apply (v : FVec Ideal S1024x128 .f32) (z : Fin 1) (q : Fin 144) (r : Fin 1024) :
    k0_pay7 v (iota .tc S16x1024 32 [0] iota_S16x1024_d0_w32) k0_pay6 (ix3 z q r)
      = if h : q.val < 128 then v (ix2 r ⟨q.val, h⟩) else if q.val = 128 then 1 else 0 := by
  pointwise [k0_pay7, k0_pay6]
  refine dite_congr rfl (fun _ => rfl) fun h => (mark ⟨q.val - 128, by omega⟩).trans ?_
  exact if_congr (by show q.val - 128 = 0 ↔ _; omega) rfl rfl

theorem pay8_apply (h : FVec Ideal S1024x1024 .bf16) (v : Vec Ideal S1024x512 .bf16) (r : Fin 1024) (q : Fin 512) :
    k0_pay8 h v (ix2 r q) = ∑ k, h (ix2 r k) * v (ix2 k q) := by
  pointwise [k0_pay8]

theorem pay9_apply (h : FVec Ideal S1024x1024 .bf16) (v : Vec Ideal S1024x1024 .bf16) (r q : Fin 1024) :
    k0_pay9 h v (ix2 r q) = Ideal.logistic (∑ k, h (ix2 r k) * v (ix2 k q)) := by
  pointwise [k0_pay9]

theorem pay10_apply (h : FVec Ideal S1024x1024 .bf16) (v : Vec Ideal S1024x1024 .bf16) (r q : Fin 1024) :
    k0_pay10 h v (ix2 r q) = Ideal.logistic (∑ k, h (ix2 r k) * v (ix2 k q)) := by
  pointwise [k0_pay10]

theorem pay11_apply (h : FVec Ideal S1024x1024 .bf16) (v : Vec Ideal S1024x128 .bf16) (r : Fin 1024) (q : Fin 64) :
    k0_pay11 h v (ix2 r q) = ∑ k, h (ix2 r k) * v (ix2 k ⟨q.val, by omega⟩) := by
  pointwise [k0_pay11]

theorem pay12_apply (h : FVec Ideal S1024x1024 .bf16) (v : Vec Ideal S512x1024 .bf16) (q : Fin 512) (r : Fin 1024) :
    k0_pay12 h v (ix2 q r) = ∑ k, v (ix2 q k) * h (ix2 k r) := by
  pointwise [k0_pay12]

theorem pay60_apply (h : FVec Ideal S1024x1024 .bf16) (v : Vec Ideal S512x1024 .bf16) (z : Fin 1) (q : Fin 512) (r : Fin 1024) :
    k0_pay60 h v (ix3 z q r) = ∑ k, v (ix2 q k) * h (ix2 k r) := by
  pointwise [k0_pay60]

theorem pay61_apply (h : FVec Ideal S1024x1024 .bf16) (v : Vec Ideal S16x1024 .bf16) (z : Fin 1) (q : Fin 8) (r : Fin 1024) :
    k0_pay61 h v (ix3 z q r) = (∑ k, v (ix2 ⟨q.val, by omega⟩ k) * h (ix2 k r)) * Ideal.ofBits .f32 0x3D3504F3#32 := by
  pointwise [k0_pay61]

theorem hz : (![0, 0] : Fin 2 → Nat) = fun _ => 0 := funext fun a => by fin_cases a <;> rfl
theorem hz3 : (![0, 0, 0] : Fin 3 → Nat) = fun _ => 0 := funext fun a => by fin_cases a <;> rfl

/-- A product with the normalised rows, of a tile of the weights' columns from `o` on: a column of the projection. -/
theorem cols {N : Nat} (x : Vec Ideal S1024x1024 .f32) (g : Vec Ideal S1x1024 .f32) (w : Vec Ideal S1024x2816 .bf16) (o : Nat) (inb) (r : Fin 1024)
    (q : Fin N) (p : Fin 2816) (hp : p.val = o + q.val) :
    (∑ k, k0_pay2 (View.ld x r0_0) (View.ld g r0_1) (ix2 r k) * View.ld w (Rect.unit (s := S1024x2816) ![0, o] ![1024, N] inb) (ix2 k q : (⟨2, ![1024, N]⟩ : Shape).Idx))
      = Proj.col (fun k => x (ix2 r k)) (fun k => g (ix2 0 k)) (fun k => w (ix2 k p)) := by
  have e0 : View.ld x r0_0 = x := View.ld_unit_zero hz _ x
  have e1 : View.ld g r0_1 = g := View.ld_unit_zero hz _ g
  rw [e0, e1]
  refine Finset.sum_congr rfl fun k _ => congrArg₂ (fun a b : EReal => a * b) (pay2_apply x g r k) ?_
  exact View.ld_unit_apply_of _ _ _ _ _ _ fun a => by fin_cases a <;> simp [hp]

/-- The same of a tile of the transposed weights' rows from `o` on. -/
theorem rows {N : Nat} (x : Vec Ideal S1024x1024 .f32) (g : Vec Ideal S1x1024 .f32) (w : Vec Ideal S1040x1024 .bf16) (o : Nat) (inb) (r : Fin 1024)
    (q : Fin N) (p : Fin 1040) (hp : p.val = o + q.val) :
    (∑ k, View.ld w (Rect.unit (s := S1040x1024) ![o, 0] ![N, 1024] inb) (ix2 q k : (⟨2, ![N, 1024]⟩ : Shape).Idx) * k0_pay3 (View.ld x r0_0) (View.ld g r0_1) (ix2 k r))
      = Proj.col (fun k => x (ix2 r k)) (fun k => g (ix2 0 k)) (fun k => w (ix2 p k)) := by
  have e0 : View.ld x r0_0 = x := View.ld_unit_zero hz _ x
  have e1 : View.ld g r0_1 = g := View.ld_unit_zero hz _ g
  rw [e0, e1]
  refine Finset.sum_congr rfl fun k _ => (mul_comm _ _).trans (congrArg₂ (fun a b : EReal => a * b) (pay3_apply x g r k) ?_)
  exact View.ld_unit_apply_of _ _ _ _ _ _ fun a => by fin_cases a <;> simp [hp]

section

variable (x0 : Vec Ideal S1024x1024 .f32) (x1 : Vec Ideal S1x1024 .f32) (x2 : Vec Ideal S1024x2816 .bf16) (x3 : Vec Ideal S1040x1024 .bf16) (x4 : Vec Ideal S1x128 .f32) (x5 : Vec Ideal S8x128x64 .bf16)

theorem out12_apply (r : Fin 1024) (q : Fin 512) :
    out0_12 x0 x1 x2 x3 x4 x5 (ix2 r q) = Proj.col (fun k => x0 (ix2 r k)) (fun k => x1 (ix2 0 k)) (fun k => x2 (ix2 k ⟨128 + q.val, by omega⟩)) := by
  unfold out0_12 k0_pay62
  rw [View.canon_unit_zero hz, pay8_apply]
  exact cols x0 x1 x2 128 _ r q _ rfl

theorem out13_apply (r q : Fin 1024) :
    out0_13 x0 x1 x2 x3 x4 x5 (ix2 r q) = Ideal.logistic (Proj.col (fun k => x0 (ix2 r k)) (fun k => x1 (ix2 0 k)) (fun k => x2 (ix2 k ⟨640 + q.val, by omega⟩))) := by
  unfold out0_13 k0_pay62
  rw [View.canon_unit_zero hz, pay9_apply]
  exact congrArg _ (cols x0 x1 x2 640 _ r q _ rfl)

theorem out14_apply (r q : Fin 1024) :
    out0_14 x0 x1 x2 x3 x4 x5 (ix2 r q) = Ideal.logistic (Proj.col (fun k => x0 (ix2 r k)) (fun k => x1 (ix2 0 k)) (fun k => x2 (ix2 k ⟨1664 + q.val, by omega⟩))) := by
  unfold out0_14 k0_pay62
  rw [View.canon_unit_zero hz, pay10_apply]
  exact congrArg _ (cols x0 x1 x2 1664 _ r q _ rfl)

theorem out10_apply (r : Fin 1024) (q : Fin 64) :
    out0_10 x0 x1 x2 x3 x4 x5 (ix2 r q) = Proj.col (fun k => x0 (ix2 r k)) (fun k => x1 (ix2 0 k)) (fun k => x2 (ix2 k ⟨2688 + q.val, by omega⟩)) := by
  unfold out0_10 k0_pay62
  rw [View.canon_unit_zero hz, pay11_apply]
  exact cols x0 x1 x2 2688 _ r (⟨q.val, by omega⟩ : Fin 128) _ rfl

theorem out9_apply (z : Fin 1) (q : Fin 512) (r : Fin 1024) :
    out0_9 x0 x1 x2 x3 x4 x5 (ix3 z q r) = Proj.col (fun k => x0 (ix2 r k)) (fun k => x1 (ix2 0 k)) (fun k => x3 (ix2 ⟨512 + q.val, by omega⟩ k)) := by
  unfold out0_9 k0_pay63
  rw [View.canon_unit_zero hz3, pay60_apply]
  exact rows x0 x1 x3 512 _ r q _ rfl

theorem out11_apply (z : Fin 1) (q : Fin 8) (r : Fin 1024) :
    out0_11 x0 x1 x2 x3 x4 x5 (ix3 z q r) = Proj.col (fun k => x0 (ix2 r k)) (fun k => x1 (ix2 0 k)) (fun k => x3 (ix2 ⟨1024 + q.val, by omega⟩ k)) * Ideal.ofBits .f32 0x3D3504F3#32 := by
  unfold out0_11 k0_pay63
  rw [View.canon_unit_zero hz3, pay61_apply]
  exact congrArg (fun t : EReal => t * Ideal.ofBits .f32 0x3D3504F3#32) (rows x0 x1 x3 1024 _ r (⟨q.val, by omega⟩ : Fin 16) _ rfl)

theorem lat_apply (r : Fin 1024) (c : Fin 128) :
    k0_pay4 (View.ld x0 r0_0) (View.ld x1 r0_1) (View.ld x2 r0_2) (View.ld x4 r0_3) (ix2 r c) = Proj.rmsKv (fun c => Proj.col (fun k => x0 (ix2 r k)) (fun k => x1 (ix2 0 k)) (fun k => x2 (ix2 k ⟨c.val, by omega⟩))) (fun c => x4 (ix2 0 c)) c := by
  have e4 : View.ld x4 r0_3 = x4 := View.ld_unit_zero hz _ x4
  rw [e4, pay4_apply]
  exact congrArg (fun f => Proj.rmsKv f (fun c => x4 (ix2 0 c)) c) (funext fun c => cols x0 x1 x2 0 _ r c _ (by simp))
theorem out7_apply (r : Fin 1024) (c : Fin 128) :
    out0_7 x0 x1 x2 x3 x4 x5 (ix2 r c) = Proj.rmsKv (fun c => Proj.col (fun k => x0 (ix2 r k)) (fun k => x1 (ix2 0 k)) (fun k => x2 (ix2 k ⟨c.val, by omega⟩))) (fun c => x4 (ix2 0 c)) c := by
  unfold out0_7
  rw [View.canon_unit_zero hz]
  exact (by pointwise [k0_pay5] : _ = _).trans (lat_apply x0 x1 x2 x4 r c)

theorem out8_apply (z : Fin 1) (q : Fin 144) (r : Fin 1024) :
    out0_8 x0 x1 x2 x3 x4 x5 (ix3 z q r) = if h : q.val < 128 then Proj.rmsKv (fun c => Proj.col (fun k => x0 (ix2 r k)) (fun k => x1 (ix2 0 k)) (fun k => x2 (ix2 k ⟨c.val, by omega⟩))) (fun c => x4 (ix2 0 c)) ⟨q.val, h⟩ else if q.val = 128 then 1 else 0 := by
  unfold out0_8
  rw [View.canon_unit_zero hz3, pay7_apply]
  exact dite_congr rfl (fun h => lat_apply x0 x1 x2 x4 r ⟨q.val, h⟩) fun _ => rfl

theorem out6_apply (z : Fin 1) (s : Fin 4) (c : Fin 128) (n : Fin 2048) :
    out0_6 x0 x1 x2 x3 x4 x5 (ix4 z s c n) = (∑ d : Fin 64, x5 (ix3 ⟨n.val / 256, by omega⟩ c d)
      * Proj.col (fun k => x0 (ix2 ⟨s.val * 256 + n.val % 256, by omega⟩ k)) (fun k => x1 (ix2 0 k)) (fun k => x3 (ix2 ⟨n.val / 256 * 64 + d.val, by omega⟩ k)))
    * Ideal.ofBits .f32 0x3E38AA3B#32 := by
  rw [out6_qv]
  refine congrArg (fun t : EReal => t * Ideal.ofBits .f32 0x3E38AA3B#32) (Finset.sum_congr rfl fun d _ => congrArg (fun t : EReal => x5 (ix3 ⟨n.val / 256, by omega⟩ c d) * t) ?_)
  unfold k0_pay64 k0_pay63
  rw [pay12_apply]
  exact rows x0 x1 x3 0 _ _ (⟨n.val / 256 * 64 + d.val, by omega⟩ : Fin 512) _ (by simp)

end

end Cert.Val.ProjBlock

end
-- ==== Proof.Val.ProjRef.lean ====
module

public import proofs.«01_k».proof.Proof.Val.ProjSpec
public import proofs.«01_k».proof.Proof.Gen.ProjRefIdeal.Run

@[expose] public section

noncomputable section

namespace Cert.Val.ProjRef

open Cert.ProjRefIdeal Idealize.ShloMosaic Idealize.ShloMosaic.TcCoe Idealize.SL.Sem

/-! What the reference's results hold, of the argument arrays. -/

section

variable (x : FVec Ideal S32x2048x1024 .f32) (g : FVec Ideal S1024 .f32) (w : FVec Ideal S1024x3784 .f32) (gk : FVec Ideal S128 .f32)
  (u : FVec Ideal S128x8x64 .f32)

def qlt : FVec Ideal S32x8x128x2048 .bf16 := fun i =>
  Proj.qlt (fun b t k => x (ix3 b t k)) (fun k => g (ix1 k)) (fun k q => w (ix2 k q)) (fun c => gk (ix1 c)) (fun c h d => u (ix3 c h d)) (i 0) (i 1) (i 2) (i 3)
def ckv : FVec Ideal S65536x128 .bf16 := fun i =>
  Proj.ckv (fun b t k => x (ix3 b t k)) (fun k => g (ix1 k)) (fun k q => w (ix2 k q)) (fun c => gk (ix1 c)) (fun c h d => u (ix3 c h d)) (i 0) (i 1)
def ckvt : FVec Ideal S32x144x2048 .bf16 := fun i =>
  Proj.ckvt (fun b t k => x (ix3 b t k)) (fun k => g (ix1 k)) (fun k q => w (ix2 k q)) (fun c => gk (ix1 c)) (fun c h d => u (ix3 c h d)) (i 0) (i 1) (i 2)
def qit : FVec Ideal S32x512x2048 .bf16 := fun i =>
  Proj.qit (fun b t k => x (ix3 b t k)) (fun k => g (ix1 k)) (fun k q => w (ix2 k q)) (fun c => gk (ix1 c)) (fun c h d => u (ix3 c h d)) (i 0) (i 1) (i 2)
def ki : FVec Ideal S65536x64 .bf16 := fun i =>
  Proj.ki (fun b t k => x (ix3 b t k)) (fun k => g (ix1 k)) (fun k q => w (ix2 k q)) (fun c => gk (ix1 c)) (fun c h d => u (ix3 c h d)) (i 0) (i 1)
def wit : FVec Ideal S32x8x2048 .f32 := fun i =>
  Proj.wit (fun b t k => x (ix3 b t k)) (fun k => g (ix1 k)) (fun k q => w (ix2 k q)) (fun c => gk (ix1 c)) (fun c h d => u (ix3 c h d)) (i 0) (i 1) (i 2)
def pool : FVec Ideal S65536x512 .f32 := fun i =>
  Proj.pool (fun b t k => x (ix3 b t k)) (fun k => g (ix1 k)) (fun k q => w (ix2 k q)) (fun c => gk (ix1 c)) (fun c h d => u (ix3 c h d)) (i 0) (i 1)
def sga : FVec Ideal S65536x1024 .bf16 := fun i =>
  Proj.sga (fun b t k => x (ix3 b t k)) (fun k => g (ix1 k)) (fun k q => w (ix2 k q)) (fun c => gk (ix1 c)) (fun c h d => u (ix3 c h d)) (i 0) (i 1)
def sgb : FVec Ideal S65536x1024 .bf16 := fun i =>
  Proj.sgb (fun b t k => x (ix3 b t k)) (fun k => g (ix1 k)) (fun k q => w (ix2 k q)) (fun c => gk (ix1 c)) (fun c h d => u (ix3 c h d)) (i 0) (i 1)

end

set_option maxHeartbeats 2000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = qlt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v49) = ckv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v50) = ckvt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v52) = qit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v54) = ki (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v57) = wit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v58) = pool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v66) = sga (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v74) = sgb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
  all_goals
    clear h
    try unfold Value.res_main_v50
    generalize m ((c.tc : Thread nD τ).loc main_arg0) = x
    generalize m ((c.tc : Thread nD τ).loc main_arg1) = g
    generalize m ((c.tc : Thread nD τ).loc main_arg2) = w
    generalize m ((c.tc : Thread nD τ).loc main_arg3) = gk
    generalize m ((c.tc : Thread nD τ).loc main_arg4) = u
    funext i
  · obtain ⟨b, s, c, n, rfl⟩ : ∃ (b : Fin 32) (s : Fin 8) (c : Fin 128) (n : Fin 2048), i = ix4 b s c n := ⟨_, _, _, _, ValueIdx.eq_ix4 i⟩
    pointwise [qlt, Proj.qlt, Proj.query, Proj.latent, Proj.latentT, Proj.rmsKv, Proj.col, rms, Ideal.logistic]
  · obtain ⟨n, c, rfl⟩ : ∃ (n : Fin 65536) (c : Fin 128), i = ix2 n c := ⟨_, _, ValueIdx.eq_ix2 i⟩
    pointwise [ckv, Proj.ckv, Proj.query, Proj.latent, Proj.latentT, Proj.rmsKv, Proj.col, rms, Ideal.logistic]
  · obtain ⟨b, q, t, rfl⟩ : ∃ (b : Fin 32) (q : Fin 144) (t : Fin 2048), i = ix3 b q t := ⟨_, _, _, ValueIdx.eq_ix3 i⟩
    pointwise [ckvt, Proj.ckvt, Proj.query, Proj.latent, Proj.latentT, Proj.rmsKv, Proj.col, rms, Ideal.logistic]
    exact dite_congr rfl (fun _ => rfl) fun h => by
      split
      · exact (if_pos (by omega)).symm
      · exact (if_neg (by omega)).symm
  · obtain ⟨b, q, t, rfl⟩ : ∃ (b : Fin 32) (q : Fin 512) (t : Fin 2048), i = ix3 b q t := ⟨_, _, _, ValueIdx.eq_ix3 i⟩
    pointwise [qit, Proj.qit, Proj.query, Proj.latent, Proj.latentT, Proj.rmsKv, Proj.col, rms, Ideal.logistic]
  · obtain ⟨n, q, rfl⟩ : ∃ (n : Fin 65536) (q : Fin 64), i = ix2 n q := ⟨_, _, ValueIdx.eq_ix2 i⟩
    pointwise [ki, Proj.ki, Proj.query, Proj.latent, Proj.latentT, Proj.rmsKv, Proj.col, rms, Ideal.logistic]
  · obtain ⟨b, q, t, rfl⟩ : ∃ (b : Fin 32) (q : Fin 8) (t : Fin 2048), i = ix3 b q t := ⟨_, _, _, ValueIdx.eq_ix3 i⟩
    pointwise [wit, Proj.wit, Proj.query, Proj.latent, Proj.latentT, Proj.rmsKv, Proj.col, rms, Ideal.logistic]
  · obtain ⟨n, q, rfl⟩ : ∃ (n : Fin 65536) (q : Fin 512), i = ix2 n q := ⟨_, _, ValueIdx.eq_ix2 i⟩
    pointwise [pool, Proj.pool, Proj.query, Proj.latent, Proj.latentT, Proj.rmsKv, Proj.col, rms, Ideal.logistic]
  · obtain ⟨n, q, rfl⟩ : ∃ (n : Fin 65536) (q : Fin 1024), i = ix2 n q := ⟨_, _, ValueIdx.eq_ix2 i⟩
    pointwise [sga, Proj.sga, Proj.query, Proj.latent, Proj.latentT, Proj.rmsKv, Proj.col, rms, Ideal.logistic]
  · obtain ⟨n, q, rfl⟩ : ∃ (n : Fin 65536) (q : Fin 1024), i = ix2 n q := ⟨_, _, ValueIdx.eq_ix2 i⟩
    pointwise [sgb, Proj.sgb, Proj.query, Proj.latent, Proj.latentT, Proj.rmsKv, Proj.col, rms, Ideal.logistic]

end Cert.Val.ProjRef

end
-- ==== Proof.Val.ProjKernel.lean ====
module

public import proofs.«01_k».proof.Proof.Val.ProjBlock
public import proofs.«01_k».proof.Proof.Val.ProjRef
public import Idealize.ShloMosaic.Lib.StableHlo.Run

@[expose] public section

noncomputable section

namespace Cert.Val.ProjKernel

open Cert.ProjIdeal Cert.ProjIdeal.Gen Idealize.ShloMosaic Idealize.ShloMosaic.TcCoe Idealize.SL.Sem Idealize.ShloMosaic.StableHlo
open Idealize.ShloMosaic.Pipeline (Dat)

/-- The weights' columns regrouped, with columns of zeros at the end. -/
def wn (w : FVec Ideal S1024x3784 .f32) : FVec Ideal S1024x2816 .f32 :=
  concatenate S1024x2816 1 [⟨S1024x128, extractStridedSlice S1024x128 ![0, 512] w slices_S1024x3784_S1024x128_0_512⟩,
    ⟨S1024x512, extractStridedSlice S1024x512 ![0, 1224] w slices_S1024x3784_S1024x512_0_1224⟩,
    ⟨S1024x1024, extractStridedSlice S1024x1024 ![0, 1736] w slices_S1024x3784_S1024x1024_0_1736⟩,
    ⟨S1024x1024, extractStridedSlice S1024x1024 ![0, 2760] w slices_S1024x3784_S1024x1024_0_2760⟩,
    ⟨S1024x64, extractStridedSlice S1024x64 ![0, 1152] w slices_S1024x3784_S1024x64_0_1152⟩,
    ⟨S1024x64, broadcastInDim S1024x64 ![] bcast_S_S1024x64 (constant S_ .f32 0x00000000#32 : FVec Ideal S_ .f32)⟩]
    concatenates_S1024x128_S1024x512_S1024x1024_S1024x1024_S1024x64_S1024x64_S1024x2816_d1

/-- Other columns of the weights regrouped, with columns of zeros at the end. -/
def wt (w : FVec Ideal S1024x3784 .f32) : FVec Ideal S1024x1040 .f32 :=
  concatenate S1024x1040 1 [⟨S1024x512, extractStridedSlice S1024x512 ![0, 0] w slices_S1024x3784_S1024x512_0_0⟩,
    ⟨S1024x512, extractStridedSlice S1024x512 ![0, 640] w slices_S1024x3784_S1024x512_0_640⟩,
    ⟨S1024x8, extractStridedSlice S1024x8 ![0, 1216] w slices_S1024x3784_S1024x8_0_1216⟩,
    ⟨S1024x8, broadcastInDim S1024x8 ![] bcast_S_S1024x8 (constant S_ .f32 0x00000000#32 : FVec Ideal S_ .f32)⟩]
    concatenates_S1024x512_S1024x512_S1024x8_S1024x8_S1024x1040_d1

theorem wn_ckv (w : FVec Ideal S1024x3784 .f32) (k : Fin 1024) (q : Fin 128) :
    wn w (ix2 k ⟨q.val, by omega⟩) = w (ix2 k ⟨512 + q.val, by omega⟩) := by
  pointwise [wn]
  repeat' split
  all_goals first
    | (exfalso; omega)
    | exact congrArg w (congrArg (ix2 k) (Fin.ext (by simp only; omega)))

theorem wn_pool (w : FVec Ideal S1024x3784 .f32) (k : Fin 1024) (q : Fin 512) :
    wn w (ix2 k ⟨128 + q.val, by omega⟩) = w (ix2 k ⟨1224 + q.val, by omega⟩) := by
  pointwise [wn]
  repeat' split
  all_goals first
    | (exfalso; omega)
    | exact congrArg w (congrArg (ix2 k) (Fin.ext (by simp only; omega)))

theorem wn_ga (w : FVec Ideal S1024x3784 .f32) (k : Fin 1024) (q : Fin 1024) :
    wn w (ix2 k ⟨640 + q.val, by omega⟩) = w (ix2 k ⟨1736 + q.val, by omega⟩) := by
  pointwise [wn]
  repeat' split
  all_goals first
    | (exfalso; omega)
    | exact congrArg w (congrArg (ix2 k) (Fin.ext (by simp only; omega)))

theorem wn_gb (w : FVec Ideal S1024x3784 .f32) (k : Fin 1024) (q : Fin 1024) :
    wn w (ix2 k ⟨1664 + q.val, by omega⟩) = w (ix2 k ⟨2760 + q.val, by omega⟩) := by
  pointwise [wn]
  repeat' split
  all_goals first
    | (exfalso; omega)
    | exact congrArg w (congrArg (ix2 k) (Fin.ext (by simp only; omega)))

theorem wn_ki (w : FVec Ideal S1024x3784 .f32) (k : Fin 1024) (q : Fin 64) :
    wn w (ix2 k ⟨2688 + q.val, by omega⟩) = w (ix2 k ⟨1152 + q.val, by omega⟩) := by
  pointwise [wn]
  repeat' split
  all_goals first
    | (exfalso; omega)
    | exact congrArg w (congrArg (ix2 k) (Fin.ext (by simp only; omega)))

theorem wt_q (w : FVec Ideal S1024x3784 .f32) (k : Fin 1024) (q : Fin 512) :
    wt w (ix2 k ⟨q.val, by omega⟩) = w (ix2 k ⟨q.val, by omega⟩) := by
  pointwise [wt]
  repeat' split
  all_goals first
    | (exfalso; omega)
    | exact congrArg w (congrArg (ix2 k) (Fin.ext (by simp only; omega)))

theorem wt_qi (w : FVec Ideal S1024x3784 .f32) (k : Fin 1024) (q : Fin 512) :
    wt w (ix2 k ⟨512 + q.val, by omega⟩) = w (ix2 k ⟨640 + q.val, by omega⟩) := by
  pointwise [wt]
  repeat' split
  all_goals first
    | (exfalso; omega)
    | exact congrArg w (congrArg (ix2 k) (Fin.ext (by simp only; omega)))

theorem wt_wi (w : FVec Ideal S1024x3784 .f32) (k : Fin 1024) (q : Fin 8) :
    wt w (ix2 k ⟨1024 + q.val, by omega⟩) = w (ix2 k ⟨1216 + q.val, by omega⟩) := by
  pointwise [wt]
  repeat' split
  all_goals first
    | (exfalso; omega)
    | exact congrArg w (congrArg (ix2 k) (Fin.ext (by simp only; omega)))

variable (m : (ℓ : Loc nD τ sig) → Buf (Elt Ideal) ℓ)

/-! The argument arrays. -/

abbrev a0 (c : Dev nD) : FVec Ideal S32x2048x1024 .f32 := m ((c.tc : Thread nD τ).loc main_arg0)
abbrev a1 (c : Dev nD) : FVec Ideal S1024 .f32 := m ((c.tc : Thread nD τ).loc main_arg1)
abbrev a2 (c : Dev nD) : FVec Ideal S1024x3784 .f32 := m ((c.tc : Thread nD τ).loc main_arg2)
abbrev a3 (c : Dev nD) : FVec Ideal S128 .f32 := m ((c.tc : Thread nD τ).loc main_arg3)
abbrev a4 (c : Dev nD) : FVec Ideal S128x8x64 .f32 := m ((c.tc : Thread nD τ).loc main_arg4)

theorem V_v17 (c : Dev nD) : V m c main_v17 = shapeCast _ (a0 m c) shapeCasts_S32x2048x1024_S65536x1024 := by
  simp only [V, hostOps0, List.flatten_cons, List.flatten_nil, List.append_nil, List.cons_append, List.nil_append]
  after_results <;> rfl
theorem V_v18 (c : Dev nD) : V m c main_v18 = shapeCast _ (a1 m c) shapeCasts_S1024_S1x1024 := by
  simp only [V, hostOps0, List.flatten_cons, List.flatten_nil, List.append_nil, List.cons_append, List.nil_append]
  after_results <;> rfl
theorem V_v19 (c : Dev nD) : V m c main_v19 = shapeCast _ (a3 m c) shapeCasts_S128_S1x128 := by
  simp only [V, hostOps0, List.flatten_cons, List.flatten_nil, List.append_nil, List.cons_append, List.nil_append]
  after_results <;> rfl
theorem V_v16 (c : Dev nD) : (V m c main_v16 : S8x128x64.Idx → EReal) = transpose S8x128x64 [1, 0, 2] (a4 m c) transposes_S128x8x64_S8x128x64_1_0_2 := by
  simp only [V, hostOps0, List.flatten_cons, List.flatten_nil, List.append_nil, List.cons_append, List.nil_append]
  after_results <;> rfl
theorem V_v13 (c : Dev nD) : (V m c main_v13 : S1024x2816.Idx → EReal) = wn (a2 m c) := by
  simp only [V, hostOps0, List.flatten_cons, List.flatten_nil, List.append_nil, List.cons_append, List.nil_append]
  after_results <;> rfl
theorem V_v14 (c : Dev nD) : (V m c main_v14 : S1040x1024.Idx → EReal) = transpose S1040x1024 [1, 0] (wt (a2 m c)) transposes_S1024x1040_S1040x1024_1_0 := by
  simp only [V, hostOps0, List.flatten_cons, List.flatten_nil, List.append_nil, List.cons_append, List.nil_append]
  after_results <;> rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val / 2, t.val % 2, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val / 2, 0, t.val % 2] := (by decide +kernel : ∀ t : Fin grid0.N, _)
theorem idx9 : ∀ t : Fin cfg0.N, win0_9.index t = ![t.val / 2, 0, t.val % 2] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val / 2, 0, t.val % 2] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)

/-! The blocks the kernel reads, of the argument arrays. -/

theorem flat_at (x : FVec Ideal S32x2048x1024 .f32) (n : Fin 65536) (k : Fin 1024) (b : Fin 32) (s : Fin 2048) (h : n.val = b.val * 2048 + s.val) :
    (shapeCast S65536x1024 x shapeCasts_S32x2048x1024_S65536x1024 : FVec Ideal S65536x1024 .f32) (ix2 n k) = x (ix3 b s k) := by
  pointwise
  exact congrArg x (congrArg₂ (fun b s => ix3 b s k) (Fin.ext (by simp only; omega)) (Fin.ext (by simp only; omega)))

theorem x_at (c : Dev nD) (t : Fin cfg0.N) (r k : Fin 1024) (b : Fin 32) (s : Fin 2048) (h : b.val * 2048 + s.val = t.val * 1024 + r.val) :
    iblk m c 0 t (ix2 r k) = (a0 m c) (ix3 b s k) := by
  have hN : t.val < 64 := t.isLt
  have e : iblk m c 0 t (ix2 r k) = V m c main_v17 (ix2 ⟨t.val * 1024 + r.val, by omega⟩ k) := by
    blk_simp [iblk]; congr 1; blk_ext [idx0]
  rw [e, V_v17]
  exact flat_at _ _ _ _ _ (by simp only; omega)

theorem g_at (c : Dev nD) (t : Fin cfg0.N) (k : Fin 1024) : iblk m c 1 t (ix2 0 k) = (a1 m c) (ix1 k) := by
  have e : iblk m c 1 t (ix2 0 k) = V m c main_v18 (ix2 0 k) := by
    blk_simp [iblk]; congr 1; blk_ext [idx1]
  rw [e, V_v18]
  pointwise

theorem wn_at (c : Dev nD) (t : Fin cfg0.N) (k : Fin 1024) (p : Fin 2816) : iblk m c 2 t (ix2 k p) = wn (a2 m c) (ix2 k p) := by
  rw [← V_v13]
  blk_simp [iblk]; congr 1; blk_ext [idx2]

theorem wt_at (c : Dev nD) (t : Fin cfg0.N) (k : Fin 1024) (p : Fin 1040) : iblk m c 3 t (ix2 p k) = wt (a2 m c) (ix2 k p) := by
  have e : iblk m c 3 t (ix2 p k) = V m c main_v14 (ix2 p k) := by
    blk_simp [iblk]; congr 1; blk_ext [idx3]
  refine e.trans ((congrFun (V_v14 m c) _).trans ?_)
  generalize wt (a2 m c) = w
  pointwise

theorem gk_at (c : Dev nD) (t : Fin cfg0.N) (k : Fin 128) : iblk m c 4 t (ix2 0 k) = (a3 m c) (ix1 k) := by
  have e : iblk m c 4 t (ix2 0 k) = V m c main_v19 (ix2 0 k) := by
    blk_simp [iblk]; congr 1; blk_ext [idx4]
  rw [e, V_v19]
  pointwise

theorem u_at (c : Dev nD) (t : Fin cfg0.N) (h : Fin 8) (k : Fin 128) (d : Fin 64) : iblk m c 5 t (ix3 h k d) = (a4 m c) (ix3 k h d) := by
  have e : iblk m c 5 t (ix3 h k d) = V m c main_v16 (ix3 h k d) := by
    blk_simp [iblk]; congr 1; blk_ext [idx5]
  refine e.trans ((congrFun (V_v16 m c) _).trans ?_)
  pointwise

theorem ones_congr {f f' : Fin 128 → EReal} (hf : ∀ j, f j = f' j) (q : Fin 144) (n : Nat) (hn : n = q.val) :
    (if h : q.val < 128 then f ⟨q.val, h⟩ else if q.val = 128 then 1 else 0) = if h : n < 128 then f' ⟨n, h⟩ else if n = 128 then 1 else 0 := by
  subst hn
  rw [funext hf]

theorem col_congr {x x' g g' w w' : Fin 1024 → EReal} (hx : ∀ k, x k = x' k) (hg : ∀ k, g k = g' k) (hw : ∀ k, w k = w' k) :
    Proj.col x g w = Proj.col x' g' w' := by
  rw [funext hx, funext hg, funext hw]

theorem res12 (c : Dev nD) : (dats m 0 c).arrAt 12 cfg0.N = ProjRef.pool (a0 m c) (a1 m c) (a2 m c) (a3 m c) (a4 m c) := by
  refine (dats m 0 c).arrAt_eq_of_covers 12 _ (by decide +kernel) fun t hf y => ?_
  blk_simp
  rw [after0_12]
  obtain ⟨r, q, rfl⟩ : ∃ (r : Fin 1024) (q : Fin 512), y = ix2 r q := ⟨_, _, ValueIdx.eq_ix2 y⟩
  have hN : t.val < 64 := t.isLt
  generalize hI : (win0_12.blk t).view.emb (ix2 r q) = I
  have hI0 : (I 0 : Nat) = t.val * 1024 + r.val := by rw [← hI]; blk_simp [idx12]
  have hI1 : (I 1 : Nat) = q.val := by rw [← hI]; blk_simp [idx12]
  refine (ProjBlock.out12_apply _ _ _ _ _ _ r q).trans ?_
  exact (col_congr (x' := fun k => (a0 m c) (ix3 ⟨(I 0).val / 2048, by omega⟩ ⟨(I 0).val % 2048, by omega⟩ k)) (g' := fun k => (a1 m c) (ix1 k))
    (w' := fun k => (a2 m c) (ix2 k ⟨1224 + (I 1).val, by omega⟩))
    (fun k => x_at m c t r k _ _ (by simp only; omega)) (fun k => g_at m c t k) fun k => (wn_at m c t k _).trans ((wn_pool _ k q).trans
      (congrArg (a2 m c) (congrArg (ix2 k) (Fin.ext (by simp only; omega))))))

theorem res13 (c : Dev nD) : (dats m 0 c).arrAt 13 cfg0.N = ProjRef.sga (a0 m c) (a1 m c) (a2 m c) (a3 m c) (a4 m c) := by
  refine (dats m 0 c).arrAt_eq_of_covers 13 _ (by decide +kernel) fun t hf y => ?_
  blk_simp
  rw [after0_13]
  obtain ⟨r, q, rfl⟩ : ∃ (r : Fin 1024) (q : Fin 1024), y = ix2 r q := ⟨_, _, ValueIdx.eq_ix2 y⟩
  have hN : t.val < 64 := t.isLt
  generalize hI : (win0_13.blk t).view.emb (ix2 r q) = I
  have hI0 : (I 0 : Nat) = t.val * 1024 + r.val := by rw [← hI]; blk_simp [idx13]
  have hI1 : (I 1 : Nat) = q.val := by rw [← hI]; blk_simp [idx13]
  refine (ProjBlock.out13_apply _ _ _ _ _ _ r q).trans ?_
  exact congrArg Ideal.logistic (col_congr (x' := fun k => (a0 m c) (ix3 ⟨(I 0).val / 2048, by omega⟩ ⟨(I 0).val % 2048, by omega⟩ k)) (g' := fun k => (a1 m c) (ix1 k))
    (w' := fun k => (a2 m c) (ix2 k ⟨1736 + (I 1).val, by omega⟩))
    (fun k => x_at m c t r k _ _ (by simp only; omega)) (fun k => g_at m c t k) fun k => (wn_at m c t k _).trans ((wn_ga _ k q).trans
      (congrArg (a2 m c) (congrArg (ix2 k) (Fin.ext (by simp only; omega))))))

theorem res14 (c : Dev nD) : (dats m 0 c).arrAt 14 cfg0.N = ProjRef.sgb (a0 m c) (a1 m c) (a2 m c) (a3 m c) (a4 m c) := by
  refine (dats m 0 c).arrAt_eq_of_covers 14 _ (by decide +kernel) fun t hf y => ?_
  blk_simp
  rw [after0_14]
  obtain ⟨r, q, rfl⟩ : ∃ (r : Fin 1024) (q : Fin 1024), y = ix2 r q := ⟨_, _, ValueIdx.eq_ix2 y⟩
  have hN : t.val < 64 := t.isLt
  generalize hI : (win0_14.blk t).view.emb (ix2 r q) = I
  have hI0 : (I 0 : Nat) = t.val * 1024 + r.val := by rw [← hI]; blk_simp [idx14]
  have hI1 : (I 1 : Nat) = q.val := by rw [← hI]; blk_simp [idx14]
  refine (ProjBlock.out14_apply _ _ _ _ _ _ r q).trans ?_
  exact congrArg Ideal.logistic (col_congr (x' := fun k => (a0 m c) (ix3 ⟨(I 0).val / 2048, by omega⟩ ⟨(I 0).val % 2048, by omega⟩ k)) (g' := fun k => (a1 m c) (ix1 k))
    (w' := fun k => (a2 m c) (ix2 k ⟨2760 + (I 1).val, by omega⟩))
    (fun k => x_at m c t r k _ _ (by simp only; omega)) (fun k => g_at m c t k) fun k => (wn_at m c t k _).trans ((wn_gb _ k q).trans
      (congrArg (a2 m c) (congrArg (ix2 k) (Fin.ext (by simp only; omega))))))

theorem res10 (c : Dev nD) : (dats m 0 c).arrAt 10 cfg0.N = ProjRef.ki (a0 m c) (a1 m c) (a2 m c) (a3 m c) (a4 m c) := by
  refine (dats m 0 c).arrAt_eq_of_covers 10 _ (by decide +kernel) fun t hf y => ?_
  blk_simp
  rw [after0_10]
  obtain ⟨r, q, rfl⟩ : ∃ (r : Fin 1024) (q : Fin 64), y = ix2 r q := ⟨_, _, ValueIdx.eq_ix2 y⟩
  have hN : t.val < 64 := t.isLt
  generalize hI : (win0_10.blk t).view.emb (ix2 r q) = I
  have hI0 : (I 0 : Nat) = t.val * 1024 + r.val := by rw [← hI]; blk_simp [idx10]
  have hI1 : (I 1 : Nat) = q.val := by rw [← hI]; blk_simp [idx10]
  refine (ProjBlock.out10_apply _ _ _ _ _ _ r q).trans ?_
  exact (col_congr (x' := fun k => (a0 m c) (ix3 ⟨(I 0).val / 2048, by omega⟩ ⟨(I 0).val % 2048, by omega⟩ k)) (g' := fun k => (a1 m c) (ix1 k))
    (w' := fun k => (a2 m c) (ix2 k ⟨1152 + (I 1).val, by omega⟩))
    (fun k => x_at m c t r k _ _ (by simp only; omega)) (fun k => g_at m c t k) fun k => (wn_at m c t k _).trans ((wn_ki _ k q).trans
      (congrArg (a2 m c) (congrArg (ix2 k) (Fin.ext (by simp only; omega))))))

theorem res9 (c : Dev nD) : (dats m 0 c).arrAt 9 cfg0.N = ProjRef.qit (a0 m c) (a1 m c) (a2 m c) (a3 m c) (a4 m c) := by
  refine (dats m 0 c).arrAt_eq_of_covers 9 _ (by decide +kernel) fun t hf y => ?_
  blk_simp
  rw [after0_9]
  obtain ⟨z, q, r, rfl⟩ : ∃ (z : Fin 1) (q : Fin 512) (r : Fin 1024), y = ix3 z q r := ⟨_, _, _, ValueIdx.eq_ix3 y⟩
  have hN : t.val < 64 := t.isLt
  generalize hI : (win0_9.blk t).view.emb (ix3 z q r) = I
  have hI0 : (I 0 : Nat) = t.val / 2 := by rw [← hI]; blk_simp [idx9]
  have hI1 : (I 1 : Nat) = q.val := by rw [← hI]; blk_simp [idx9]
  have hI2 : (I 2 : Nat) = t.val % 2 * 1024 + r.val := by rw [← hI]; blk_simp [idx9]
  refine (ProjBlock.out9_apply _ _ _ _ _ _ z q r).trans ?_
  exact (col_congr (x' := fun k => (a0 m c) (ix3 ⟨(I 0).val, by omega⟩ ⟨(I 2).val, by omega⟩ k)) (g' := fun k => (a1 m c) (ix1 k))
    (w' := fun k => (a2 m c) (ix2 k ⟨640 + (I 1).val, by omega⟩))
    (fun k => x_at m c t r k _ _ (by simp only; omega)) (fun k => g_at m c t k) fun k => (wt_at m c t k _).trans ((wt_qi _ k q).trans
      (congrArg (a2 m c) (congrArg (ix2 k) (Fin.ext (by simp only; omega))))))

theorem res11 (c : Dev nD) : (dats m 0 c).arrAt 11 cfg0.N = ProjRef.wit (a0 m c) (a1 m c) (a2 m c) (a3 m c) (a4 m c) := by
  refine (dats m 0 c).arrAt_eq_of_covers 11 _ (by decide +kernel) fun t hf y => ?_
  blk_simp
  rw [after0_11]
  obtain ⟨z, q, r, rfl⟩ : ∃ (z : Fin 1) (q : Fin 8) (r : Fin 1024), y = ix3 z q r := ⟨_, _, _, ValueIdx.eq_ix3 y⟩
  have hN : t.val < 64 := t.isLt
  generalize hI : (win0_11.blk t).view.emb (ix3 z q r) = I
  have hI0 : (I 0 : Nat) = t.val / 2 := by rw [← hI]; blk_simp [idx11]
  have hI1 : (I 1 : Nat) = q.val := by rw [← hI]; blk_simp [idx11]
  have hI2 : (I 2 : Nat) = t.val % 2 * 1024 + r.val := by rw [← hI]; blk_simp [idx11]
  refine (ProjBlock.out11_apply _ _ _ _ _ _ z q r).trans ?_
  exact congrArg (fun t : EReal => t * Ideal.ofBits .f32 0x3D3504F3#32) (col_congr (x' := fun k => (a0 m c) (ix3 ⟨(I 0).val, by omega⟩ ⟨(I 2).val, by omega⟩ k)) (g' := fun k => (a1 m c) (ix1 k))
    (w' := fun k => (a2 m c) (ix2 k ⟨1216 + (I 1).val, by omega⟩))
    (fun k => x_at m c t r k _ _ (by simp only; omega)) (fun k => g_at m c t k) fun k => (wt_at m c t k _).trans ((wt_wi _ k q).trans
      (congrArg (a2 m c) (congrArg (ix2 k) (Fin.ext (by simp only; omega))))))

theorem res7 (c : Dev nD) : (dats m 0 c).arrAt 7 cfg0.N = ProjRef.ckv (a0 m c) (a1 m c) (a2 m c) (a3 m c) (a4 m c) := by
  refine (dats m 0 c).arrAt_eq_of_covers 7 _ (by decide +kernel) fun t hf y => ?_
  blk_simp
  rw [after0_7]
  obtain ⟨r, q, rfl⟩ : ∃ (r : Fin 1024) (q : Fin 128), y = ix2 r q := ⟨_, _, ValueIdx.eq_ix2 y⟩
  have hN : t.val < 64 := t.isLt
  generalize hI : (win0_7.blk t).view.emb (ix2 r q) = I
  have hI0 : (I 0 : Nat) = t.val * 1024 + r.val := by rw [← hI]; blk_simp [idx7]
  have hI1 : (I 1 : Nat) = q.val := by rw [← hI]; blk_simp [idx7]
  refine (ProjBlock.out7_apply _ _ _ _ _ _ r q).trans ?_
  exact congr (congrArg₂ Proj.rmsKv (funext fun j => col_congr (x' := fun k => (a0 m c) (ix3 ⟨(I 0).val / 2048, by omega⟩ ⟨(I 0).val % 2048, by omega⟩ k)) (g' := fun k => (a1 m c) (ix1 k))
      (w' := fun k => (a2 m c) (ix2 k ⟨512 + j.val, by omega⟩))
      (fun k => x_at m c t r k _ _ (by simp only; omega)) (fun k => g_at m c t k) fun k => (wn_at m c t k _).trans (wn_ckv _ k j))
    (funext fun j => gk_at m c t j)) (Fin.ext hI1.symm)

theorem res8 (c : Dev nD) : (dats m 0 c).arrAt 8 cfg0.N = ProjRef.ckvt (a0 m c) (a1 m c) (a2 m c) (a3 m c) (a4 m c) := by
  refine (dats m 0 c).arrAt_eq_of_covers 8 _ (by decide +kernel) fun t hf y => ?_
  blk_simp
  rw [after0_8]
  obtain ⟨z, q, r, rfl⟩ : ∃ (z : Fin 1) (q : Fin 144) (r : Fin 1024), y = ix3 z q r := ⟨_, _, _, ValueIdx.eq_ix3 y⟩
  have hN : t.val < 64 := t.isLt
  generalize hI : (win0_8.blk t).view.emb (ix3 z q r) = I
  have hI0 : (I 0 : Nat) = t.val / 2 := by rw [← hI]; blk_simp [idx8]
  have hI1 : (I 1 : Nat) = q.val := by rw [← hI]; blk_simp [idx8]
  have hI2 : (I 2 : Nat) = t.val % 2 * 1024 + r.val := by rw [← hI]; blk_simp [idx8]
  refine (ProjBlock.out8_apply _ _ _ _ _ _ z q r).trans ?_
  exact ones_congr (fun p => congrFun (congrArg₂ Proj.rmsKv (funext fun j => col_congr (x' := fun k => (a0 m c) (ix3 ⟨(I 0).val, by omega⟩ ⟨(I 2).val, by omega⟩ k)) (g' := fun k => (a1 m c) (ix1 k))
      (w' := fun k => (a2 m c) (ix2 k ⟨512 + j.val, by omega⟩))
      (fun k => x_at m c t r k _ _ (by simp only; omega)) (fun k => g_at m c t k) fun k => (wn_at m c t k _).trans (wn_ckv _ k j))
    (funext fun j => gk_at m c t j)) p) q (I 1).val hI1

theorem res6 (c : Dev nD) : (dats m 0 c).arrAt 6 cfg0.N = ProjRef.qlt (a0 m c) (a1 m c) (a2 m c) (a3 m c) (a4 m c) := by
  refine (dats m 0 c).arrAt_eq_of_covers 6 _ (by decide +kernel) fun t hf y => ?_
  blk_simp
  rw [after0_6]
  obtain ⟨z, s, p, n, rfl⟩ : ∃ (z : Fin 1) (s : Fin 4) (p : Fin 128) (n : Fin 2048), y = ix4 z s p n := ⟨_, _, _, _, ValueIdx.eq_ix4 y⟩
  have hN : t.val < 64 := t.isLt
  generalize hI : (win0_6.blk t).view.emb (ix4 z s p n) = I
  have hI0 : (I 0 : Nat) = t.val / 2 := by rw [← hI]; blk_simp [idx6]
  have hI1 : (I 1 : Nat) = t.val % 2 * 4 + s.val := by rw [← hI]; blk_simp [idx6]
  have hI2 : (I 2 : Nat) = p.val := by rw [← hI]; blk_simp [idx6]
  have hI3 : (I 3 : Nat) = n.val := by rw [← hI]; blk_simp [idx6]
  refine (ProjBlock.out6_apply _ _ _ _ _ _ z s p n).trans ?_
  exact congrArg (fun t : EReal => t * Ideal.ofBits .f32 0x3E38AA3B#32) (Finset.sum_congr rfl fun d _ => congrArg₂ (fun a b : EReal => a * b)
    ((u_at m c t _ _ d).trans (congrArg₂ (fun a b => (a4 m c) (ix3 a b d)) (Fin.ext hI2.symm)
      (Fin.ext (congrArg (· / 256) hI3.symm) : (⟨n.val / 256, by omega⟩ : Fin 8) = ⟨(I 3).val / 256, by omega⟩)))
    (col_congr (x' := fun k => (a0 m c) (ix3 ⟨(I 0).val, by omega⟩ ⟨(I 1).val * 256 + (I 3).val % 256, by omega⟩ k)) (g' := fun k => (a1 m c) (ix1 k))
      (w' := fun k => (a2 m c) (ix2 k ⟨(I 3).val / 256 * 64 + d.val, by omega⟩))
      (fun k => x_at m c t _ k _ _ (by simp only; omega)) (fun k => g_at m c t k) fun k => (wt_at m c t k _).trans
        ((wt_q _ k ⟨n.val / 256 * 64 + d.val, by omega⟩).trans (congrArg (a2 m c) (congrArg (ix2 k) (Fin.ext (by simp only; omega)))))))

end Cert.Val.ProjKernel

end
-- ==== Proof.Val.ProjClaim.lean ====
/- The projection call's five claims. -/
module

public import proofs.«01_k».proof.Defs
public import proofs.«01_k».proof.Proof.Gen.Proj.Frame
public import proofs.«01_k».proof.Proof.Gen.ProjIdeal.Frame
public import proofs.«01_k».proof.Proof.Val.ProjKernel
public import Idealize.ShloMosaic.Lib.Quiescent

@[expose] public section

noncomputable section

namespace Cert.Val.ProjClaim

open Idealize.ShloMosaic Idealize.ShloMosaic.TcCoe Idealize.SL.Sem
open Cert.ProjIdeal (nD τ sig main_arg0 main_arg1 main_arg2 main_arg3 main_arg4 main_v20_0 main_v20_1 main_v20_2 main_v20_3 main_v20_4 main_v20_5 main_v20_6 main_v20_7 main_v20_8)
open Cert.ProjIdeal.Gen (dats run_main unchanged)

theorem frame_p : Cert.quiescent_Proj := fun m ρ _ => Cert.Proj.Gen.frame m ρ
theorem frame_pi : Cert.quiescent_ProjIdeal := fun m ρ _ => Cert.ProjIdeal.Gen.frame m ρ
/-- The reference is host operations alone: its arguments end as launched and it declares no semaphore. -/
theorem frame_ri : Cert.quiescent_ProjRefIdeal := fun m ρ _ =>
  (θ_run Cert.ProjRefIdeal.defs _ _).mono (fun r h => ⟨fun c => (h c).2.2.2.2.2.2.2.2.2,
      Idealize.ShloMosaic.sem_eq_zero_of_no_sems (by decide) r.2⟩)
    (Cert.ProjRefIdeal.Value.run (F := Ideal) m ρ)

variable (m : (ℓ : Loc nD τ sig) → Buf (Elt Ideal) ℓ)

/-- The value of result 1. -/
def w0 (c : Dev nD) : Buf (Elt Ideal) ((c.tc : Thread nD τ).loc main_v20_0) := ProjRef.qlt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 2. -/
def w1 (c : Dev nD) : Buf (Elt Ideal) ((c.tc : Thread nD τ).loc main_v20_1) := ProjRef.ckv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 3. -/
def w2 (c : Dev nD) : Buf (Elt Ideal) ((c.tc : Thread nD τ).loc main_v20_2) := ProjRef.ckvt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 4. -/
def w3 (c : Dev nD) : Buf (Elt Ideal) ((c.tc : Thread nD τ).loc main_v20_3) := ProjRef.qit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 5. -/
def w4 (c : Dev nD) : Buf (Elt Ideal) ((c.tc : Thread nD τ).loc main_v20_4) := ProjRef.ki (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 6. -/
def w5 (c : Dev nD) : Buf (Elt Ideal) ((c.tc : Thread nD τ).loc main_v20_5) := ProjRef.wit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 7. -/
def w6 (c : Dev nD) : Buf (Elt Ideal) ((c.tc : Thread nD τ).loc main_v20_6) := ProjRef.pool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 8. -/
def w7 (c : Dev nD) : Buf (Elt Ideal) ((c.tc : Thread nD τ).loc main_v20_7) := ProjRef.sga (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
/-- The value of result 9. -/
def w8 (c : Dev nD) : Buf (Elt Ideal) ((c.tc : Thread nD τ).loc main_v20_8) := ProjRef.sgb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- Every weakly fair execution of the kernel ends with the nine values and the arguments unchanged. -/
theorem run (ρ : Dev nD → PrngReg) :
    θ_run (Cert.ProjIdeal.defs (F := Ideal)) (onTc (τ := τ) (Cert.ProjIdeal.main (F := Ideal))) ⟨m, fun _ => 0, ρ⟩ fun r => ∀ c : Dev nD,
      r.2.mem ((c.tc : Thread nD τ).loc main_v20_0) = w0 m c
      ∧ r.2.mem ((c.tc : Thread nD τ).loc main_v20_1) = w1 m c
      ∧ r.2.mem ((c.tc : Thread nD τ).loc main_v20_2) = w2 m c
      ∧ r.2.mem ((c.tc : Thread nD τ).loc main_v20_3) = w3 m c
      ∧ r.2.mem ((c.tc : Thread nD τ).loc main_v20_4) = w4 m c
      ∧ r.2.mem ((c.tc : Thread nD τ).loc main_v20_5) = w5 m c
      ∧ r.2.mem ((c.tc : Thread nD τ).loc main_v20_6) = w6 m c
      ∧ r.2.mem ((c.tc : Thread nD τ).loc main_v20_7) = w7 m c
      ∧ r.2.mem ((c.tc : Thread nD τ).loc main_v20_8) = w8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run Cert.ProjIdeal.defs _ _).mono (fun r h c => ?_) (θ_run_and (run_main m ρ) (unchanged m ρ))
  have a := (h.1 c).1
  have h6 := (a 6).trans (ProjKernel.res6 m c)
  have h7 := (a 7).trans (ProjKernel.res7 m c)
  have h8 := (a 8).trans (ProjKernel.res8 m c)
  have h9 := (a 9).trans (ProjKernel.res9 m c)
  have h10 := (a 10).trans (ProjKernel.res10 m c)
  have h11 := (a 11).trans (ProjKernel.res11 m c)
  have h12 := (a 12).trans (ProjKernel.res12 m c)
  have h13 := (a 13).trans (ProjKernel.res13 m c)
  have h14 := (a 14).trans (ProjKernel.res14 m c)
  exact ⟨h6, h7, h8, h9, h10, h11, h12, h13, h14, h.2 c⟩

/-- Each of the nine results is the reference's, of the same arguments. -/
theorem algebraic : Cert.algebraic_ProjIdeal_ProjRefIdeal := by
  intro m ρ m' ρ' _ hagree
  refine ⟨w0 m, w1 m, w2 m, w3 m, w4 m, w5 m, w6 m, w7 m, w8 m, run m ρ, ?_⟩
  refine (θ_run Cert.ProjRefIdeal.defs _ _).mono (fun r h c => ?_) (ProjRef.run m' ρ')
  have h := h c
  rw [(hagree c).1, (hagree c).2.1, (hagree c).2.2.1, (hagree c).2.2.2.1, (hagree c).2.2.2.2] at h ⊢
  exact h

end Cert.Val.ProjClaim

end
-- ==== Proof.lean ====
module

public import proofs.«01_k».proof.Defs
public import proofs.«01_k».proof.Proof.Attn.Run
public import proofs.«01_k».proof.Proof.Val.FfnClaim
public import proofs.«01_k».proof.Proof.Val.MergeClaim
public import proofs.«01_k».proof.Proof.Val.Merge1Claim
public import proofs.«01_k».proof.Proof.Val.ProjClaim

@[expose] public section

theorem Cert.Proof.claim : Cert.Claim :=
  ⟨Cert.Kernel.Gen.facts, Cert.Ffn.Gen.facts, Cert.FfnIdeal.Gen.facts, Cert.FfnRefIdeal.Gen.facts,
    Cert.Merge.Gen.facts, Cert.MergeIdeal.Gen.facts, Cert.MergeRefIdeal.Gen.facts,
    Cert.Merge1.Gen.facts, Cert.Merge1Ideal.Gen.facts, Cert.Merge1RefIdeal.Gen.facts,
    Cert.Proj.Gen.facts, Cert.ProjIdeal.Gen.facts, Cert.ProjRefIdeal.Gen.facts,
    fun m g _ => Cert.Proof.Attn.run m g,
    Cert.Val.FfnClaim.frame_p, Cert.Val.FfnClaim.frame_pi, Cert.Val.FfnClaim.frame_ri,
    Cert.Val.MergeClaim.frame_p, Cert.Val.MergeClaim.frame_pi, Cert.Val.MergeClaim.frame_ri,
    Cert.Val.Merge1Claim.frame_p, Cert.Val.Merge1Claim.frame_pi, Cert.Val.Merge1Claim.frame_ri,
    Cert.Val.ProjClaim.frame_p, Cert.Val.ProjClaim.frame_pi, Cert.Val.ProjClaim.frame_ri,
    trivial, Cert.Val.FfnClaim.algebraic, trivial, Cert.Val.MergeClaim.algebraic,
    trivial, Cert.Val.Merge1Claim.algebraic, trivial, Cert.Val.ProjClaim.algebraic⟩
